-- ==== Defs.lean ====
def Pre_ConvK (m : (ℓ : Loc Cert.ConvK.nD Cert.ConvK.τ Cert.ConvK.sig) → Buf (Elt Bits) ℓ) : Prop :=
  True

def Pre_ConvKIdeal (m : (ℓ : Loc Cert.ConvKIdeal.nD Cert.ConvKIdeal.τ Cert.ConvKIdeal.sig) → Buf (Elt Ideal) ℓ) : Prop :=
  True

def Pre_ConvRIdeal (m : (ℓ : Loc Cert.ConvRIdeal.nD Cert.ConvRIdeal.τ Cert.ConvRIdeal.sig) → Buf (Elt Ideal) ℓ) : Prop :=
  True

def Pre_GateK (m : (ℓ : Loc Cert.GateK.nD Cert.GateK.τ Cert.GateK.sig) → Buf (Elt Bits) ℓ) : Prop :=
  True

def Pre_GateKIdeal (m : (ℓ : Loc Cert.GateKIdeal.nD Cert.GateKIdeal.τ Cert.GateKIdeal.sig) → Buf (Elt Ideal) ℓ) : Prop :=
  True

def Pre_GateRIdeal (m : (ℓ : Loc Cert.GateRIdeal.nD Cert.GateRIdeal.τ Cert.GateRIdeal.sig) → Buf (Elt Ideal) ℓ) : Prop :=
  True

def Pre_FfnK (m : (ℓ : Loc Cert.FfnK.nD Cert.FfnK.τ Cert.FfnK.sig) → Buf (Elt Bits) ℓ) : Prop :=
  True

def Pre_FfnKIdeal (m : (ℓ : Loc Cert.FfnKIdeal.nD Cert.FfnKIdeal.τ Cert.FfnKIdeal.sig) → Buf (Elt Ideal) ℓ) : Prop :=
  True

def Pre_FfnRIdeal (m : (ℓ : Loc Cert.FfnRIdeal.nD Cert.FfnRIdeal.τ Cert.FfnRIdeal.sig) → Buf (Elt Ideal) ℓ) : Prop :=
  True

def Pre_InDwK (m : (ℓ : Loc Cert.InDwK.nD Cert.InDwK.τ Cert.InDwK.sig) → Buf (Elt Bits) ℓ) : Prop :=
  True

def Pre_InDwKIdeal (m : (ℓ : Loc Cert.InDwKIdeal.nD Cert.InDwKIdeal.τ Cert.InDwKIdeal.sig) → Buf (Elt Ideal) ℓ) : Prop :=
  True

def Pre_InDwRIdeal (m : (ℓ : Loc Cert.InDwRIdeal.nD Cert.InDwRIdeal.τ Cert.InDwRIdeal.sig) → Buf (Elt Ideal) ℓ) : Prop :=
  True

def Pre_FinDwK (m : (ℓ : Loc Cert.FinDwK.nD Cert.FinDwK.τ Cert.FinDwK.sig) → Buf (Elt Bits) ℓ) : Prop :=
  True

def Pre_FinDwKIdeal (m : (ℓ : Loc Cert.FinDwKIdeal.nD Cert.FinDwKIdeal.τ Cert.FinDwKIdeal.sig) → Buf (Elt Ideal) ℓ) : Prop :=
  True

def Pre_FinDwRIdeal (m : (ℓ : Loc Cert.FinDwRIdeal.nD Cert.FinDwRIdeal.τ Cert.FinDwRIdeal.sig) → Buf (Elt Ideal) ℓ) : Prop :=
  True

def Pre_FinDxK (m : (ℓ : Loc Cert.FinDxK.nD Cert.FinDxK.τ Cert.FinDxK.sig) → Buf (Elt Bits) ℓ) : Prop :=
  True

def Pre_FinDxKIdeal (m : (ℓ : Loc Cert.FinDxKIdeal.nD Cert.FinDxKIdeal.τ Cert.FinDxKIdeal.sig) → Buf (Elt Ideal) ℓ) : Prop :=
  True

def Pre_FinDxRIdeal (m : (ℓ : Loc Cert.FinDxRIdeal.nD Cert.FinDxRIdeal.τ Cert.FinDxRIdeal.sig) → Buf (Elt Ideal) ℓ) : Prop :=
  True

def Pre_FoutDwK (m : (ℓ : Loc Cert.FoutDwK.nD Cert.FoutDwK.τ Cert.FoutDwK.sig) → Buf (Elt Bits) ℓ) : Prop :=
  True

def Pre_FoutDwKIdeal (m : (ℓ : Loc Cert.FoutDwKIdeal.nD Cert.FoutDwKIdeal.τ Cert.FoutDwKIdeal.sig) → Buf (Elt Ideal) ℓ) : Prop :=
  True

def Pre_FoutDwRIdeal (m : (ℓ : Loc Cert.FoutDwRIdeal.nD Cert.FoutDwRIdeal.τ Cert.FoutDwRIdeal.sig) → Buf (Elt Ideal) ℓ) : Prop :=
  True

def Pre_MixDwK (m : (ℓ : Loc Cert.MixDwK.nD Cert.MixDwK.τ Cert.MixDwK.sig) → Buf (Elt Bits) ℓ) : Prop :=
  True

def Pre_MixDwKIdeal (m : (ℓ : Loc Cert.MixDwKIdeal.nD Cert.MixDwKIdeal.τ Cert.MixDwKIdeal.sig) → Buf (Elt Ideal) ℓ) : Prop :=
  True

def Pre_MixDwRIdeal (m : (ℓ : Loc Cert.MixDwRIdeal.nD Cert.MixDwRIdeal.τ Cert.MixDwRIdeal.sig) → Buf (Elt Ideal) ℓ) : Prop :=
  True

def Pre_AttnDwK (m : (ℓ : Loc Cert.AttnDwK.nD Cert.AttnDwK.τ Cert.AttnDwK.sig) → Buf (Elt Bits) ℓ) : Prop :=
  True

def Pre_AttnDwKIdeal (m : (ℓ : Loc Cert.AttnDwKIdeal.nD Cert.AttnDwKIdeal.τ Cert.AttnDwKIdeal.sig) → Buf (Elt Ideal) ℓ) : Prop :=
  True

def Pre_AttnDwRIdeal (m : (ℓ : Loc Cert.AttnDwRIdeal.nD Cert.AttnDwRIdeal.τ Cert.AttnDwRIdeal.sig) → Buf (Elt Ideal) ℓ) : Prop :=
  True

def Pre_ConvDwK (m : (ℓ : Loc Cert.ConvDwK.nD Cert.ConvDwK.τ Cert.ConvDwK.sig) → Buf (Elt Bits) ℓ) : Prop :=
  True

def Pre_ConvDwKIdeal (m : (ℓ : Loc Cert.ConvDwKIdeal.nD Cert.ConvDwKIdeal.τ Cert.ConvDwKIdeal.sig) → Buf (Elt Ideal) ℓ) : Prop :=
  True

def Pre_ConvDwRIdeal (m : (ℓ : Loc Cert.ConvDwRIdeal.nD Cert.ConvDwRIdeal.τ Cert.ConvDwRIdeal.sig) → Buf (Elt Ideal) ℓ) : Prop :=
  True

def Pre_AttnDxK (m : (ℓ : Loc Cert.AttnDxK.nD Cert.AttnDxK.τ Cert.AttnDxK.sig) → Buf (Elt Bits) ℓ) : Prop :=
  True

def Pre_AttnDxKIdeal (m : (ℓ : Loc Cert.AttnDxKIdeal.nD Cert.AttnDxKIdeal.τ Cert.AttnDxKIdeal.sig) → Buf (Elt Ideal) ℓ) : Prop :=
  True

def Pre_AttnDxRIdeal (m : (ℓ : Loc Cert.AttnDxRIdeal.nD Cert.AttnDxRIdeal.τ Cert.AttnDxRIdeal.sig) → Buf (Elt Ideal) ℓ) : Prop :=
  True

def Pre_ConvDxK (m : (ℓ : Loc Cert.ConvDxK.nD Cert.ConvDxK.τ Cert.ConvDxK.sig) → Buf (Elt Bits) ℓ) : Prop :=
  True

def Pre_ConvDxKIdeal (m : (ℓ : Loc Cert.ConvDxKIdeal.nD Cert.ConvDxKIdeal.τ Cert.ConvDxKIdeal.sig) → Buf (Elt Ideal) ℓ) : Prop :=
  True

def Pre_ConvDxRIdeal (m : (ℓ : Loc Cert.ConvDxRIdeal.nD Cert.ConvDxRIdeal.τ Cert.ConvDxRIdeal.sig) → Buf (Elt Ideal) ℓ) : Prop :=
  True

def Pre_FinK (m : (ℓ : Loc Cert.FinK.nD Cert.FinK.τ Cert.FinK.sig) → Buf (Elt Bits) ℓ) : Prop :=
  True

def Pre_FinKIdeal (m : (ℓ : Loc Cert.FinKIdeal.nD Cert.FinKIdeal.τ Cert.FinKIdeal.sig) → Buf (Elt Ideal) ℓ) : Prop :=
  True

def Pre_FinRIdeal (m : (ℓ : Loc Cert.FinRIdeal.nD Cert.FinRIdeal.τ Cert.FinRIdeal.sig) → Buf (Elt Ideal) ℓ) : Prop :=
  True

def Pre_FoutK (m : (ℓ : Loc Cert.FoutK.nD Cert.FoutK.τ Cert.FoutK.sig) → Buf (Elt Bits) ℓ) : Prop :=
  True

def Pre_FoutKIdeal (m : (ℓ : Loc Cert.FoutKIdeal.nD Cert.FoutKIdeal.τ Cert.FoutKIdeal.sig) → Buf (Elt Ideal) ℓ) : Prop :=
  True

def Pre_FoutRIdeal (m : (ℓ : Loc Cert.FoutRIdeal.nD Cert.FoutRIdeal.τ Cert.FoutRIdeal.sig) → Buf (Elt Ideal) ℓ) : Prop :=
  True

def Pre_ConvOutK (m : (ℓ : Loc Cert.ConvOutK.nD Cert.ConvOutK.τ Cert.ConvOutK.sig) → Buf (Elt Bits) ℓ) : Prop :=
  True

def Pre_ConvOutKIdeal (m : (ℓ : Loc Cert.ConvOutKIdeal.nD Cert.ConvOutKIdeal.τ Cert.ConvOutKIdeal.sig) → Buf (Elt Ideal) ℓ) : Prop :=
  True

def Pre_ConvOutRIdeal (m : (ℓ : Loc Cert.ConvOutRIdeal.nD Cert.ConvOutRIdeal.τ Cert.ConvOutRIdeal.sig) → Buf (Elt Ideal) ℓ) : Prop :=
  True

def Pre_MixOutK (m : (ℓ : Loc Cert.MixOutK.nD Cert.MixOutK.τ Cert.MixOutK.sig) → Buf (Elt Bits) ℓ) : Prop :=
  True

def Pre_MixOutKIdeal (m : (ℓ : Loc Cert.MixOutKIdeal.nD Cert.MixOutKIdeal.τ Cert.MixOutKIdeal.sig) → Buf (Elt Ideal) ℓ) : Prop :=
  True

def Pre_MixOutRIdeal (m : (ℓ : Loc Cert.MixOutRIdeal.nD Cert.MixOutRIdeal.τ Cert.MixOutRIdeal.sig) → Buf (Elt Ideal) ℓ) : Prop :=
  True

def Pre_AGateK (m : (ℓ : Loc Cert.AGateK.nD Cert.AGateK.τ Cert.AGateK.sig) → Buf (Elt Bits) ℓ) : Prop :=
  True

def Pre_AGateKIdeal (m : (ℓ : Loc Cert.AGateKIdeal.nD Cert.AGateKIdeal.τ Cert.AGateKIdeal.sig) → Buf (Elt Ideal) ℓ) : Prop :=
  True

def Pre_AGateRIdeal (m : (ℓ : Loc Cert.AGateRIdeal.nD Cert.AGateRIdeal.τ Cert.AGateRIdeal.sig) → Buf (Elt Ideal) ℓ) : Prop :=
  True

def Pre_PreDxK (m : (ℓ : Loc Cert.PreDxK.nD Cert.PreDxK.τ Cert.PreDxK.sig) → Buf (Elt Bits) ℓ) : Prop :=
  True

def Pre_PreDxKIdeal (m : (ℓ : Loc Cert.PreDxKIdeal.nD Cert.PreDxKIdeal.τ Cert.PreDxKIdeal.sig) → Buf (Elt Ideal) ℓ) : Prop :=
  True

def Pre_PreDxRIdeal (m : (ℓ : Loc Cert.PreDxRIdeal.nD Cert.PreDxRIdeal.τ Cert.PreDxRIdeal.sig) → Buf (Elt Ideal) ℓ) : Prop :=
  True

def Pre_CNormDxK (m : (ℓ : Loc Cert.CNormDxK.nD Cert.CNormDxK.τ Cert.CNormDxK.sig) → Buf (Elt Bits) ℓ) : Prop :=
  True

def Pre_CNormDxKIdeal (m : (ℓ : Loc Cert.CNormDxKIdeal.nD Cert.CNormDxKIdeal.τ Cert.CNormDxKIdeal.sig) → Buf (Elt Ideal) ℓ) : Prop :=
  True

def Pre_CNormDxRIdeal (m : (ℓ : Loc Cert.CNormDxRIdeal.nD Cert.CNormDxRIdeal.τ Cert.CNormDxRIdeal.sig) → Buf (Elt Ideal) ℓ) : Prop :=
  True

def Pre_PostDxK (m : (ℓ : Loc Cert.PostDxK.nD Cert.PostDxK.τ Cert.PostDxK.sig) → Buf (Elt Bits) ℓ) : Prop :=
  True

def Pre_PostDxKIdeal (m : (ℓ : Loc Cert.PostDxKIdeal.nD Cert.PostDxKIdeal.τ Cert.PostDxKIdeal.sig) → Buf (Elt Ideal) ℓ) : Prop :=
  True

def Pre_PostDxRIdeal (m : (ℓ : Loc Cert.PostDxRIdeal.nD Cert.PostDxRIdeal.τ Cert.PostDxRIdeal.sig) → Buf (Elt Ideal) ℓ) : Prop :=
  True

def Pre_PreK (m : (ℓ : Loc Cert.PreK.nD Cert.PreK.τ Cert.PreK.sig) → Buf (Elt Bits) ℓ) : Prop :=
  True

def Pre_PreKIdeal (m : (ℓ : Loc Cert.PreKIdeal.nD Cert.PreKIdeal.τ Cert.PreKIdeal.sig) → Buf (Elt Ideal) ℓ) : Prop :=
  True

def Pre_PreRIdeal (m : (ℓ : Loc Cert.PreRIdeal.nD Cert.PreRIdeal.τ Cert.PreRIdeal.sig) → Buf (Elt Ideal) ℓ) : Prop :=
  True

def Pre_CNormK (m : (ℓ : Loc Cert.CNormK.nD Cert.CNormK.τ Cert.CNormK.sig) → Buf (Elt Bits) ℓ) : Prop :=
  True

def Pre_CNormKIdeal (m : (ℓ : Loc Cert.CNormKIdeal.nD Cert.CNormKIdeal.τ Cert.CNormKIdeal.sig) → Buf (Elt Ideal) ℓ) : Prop :=
  True

def Pre_CNormRIdeal (m : (ℓ : Loc Cert.CNormRIdeal.nD Cert.CNormRIdeal.τ Cert.CNormRIdeal.sig) → Buf (Elt Ideal) ℓ) : Prop :=
  True

def Pre_PostK (m : (ℓ : Loc Cert.PostK.nD Cert.PostK.τ Cert.PostK.sig) → Buf (Elt Bits) ℓ) : Prop :=
  True

def Pre_PostKIdeal (m : (ℓ : Loc Cert.PostKIdeal.nD Cert.PostKIdeal.τ Cert.PostKIdeal.sig) → Buf (Elt Ideal) ℓ) : Prop :=
  True

def Pre_PostRIdeal (m : (ℓ : Loc Cert.PostRIdeal.nD Cert.PostRIdeal.τ Cert.PostRIdeal.sig) → Buf (Elt Ideal) ℓ) : Prop :=
  True

def Pre_OptSqK [hPre_pre30 : Cert.Pre_pre30.Facts] (m : (ℓ : Loc Cert.OptSqK.nD Cert.OptSqK.τ Cert.OptSqK.sig) → Buf (Elt Bits) ℓ) : Prop :=
  ∀ c : Dev Cert.OptSqK.nD,
    (Cert.Pre_pre30.fn (F := Bits) (m ((c.tc : Thread Cert.OptSqK.nD Cert.OptSqK.τ).loc Cert.OptSqK.main_arg0)) (m ((c.tc : Thread Cert.OptSqK.nD Cert.OptSqK.τ).loc Cert.OptSqK.main_arg1)) (m ((c.tc : Thread Cert.OptSqK.nD Cert.OptSqK.τ).loc Cert.OptSqK.main_arg2)) (m ((c.tc : Thread Cert.OptSqK.nD Cert.OptSqK.τ).loc Cert.OptSqK.main_arg3)) (m ((c.tc : Thread Cert.OptSqK.nD Cert.OptSqK.τ).loc Cert.OptSqK.main_arg4)) (m ((c.tc : Thread Cert.OptSqK.nD Cert.OptSqK.τ).loc Cert.OptSqK.main_arg5))).1 = (fun _ => 1#1)
    ∧ (Cert.Pre_pre30.fn (F := Bits) (m ((c.tc : Thread Cert.OptSqK.nD Cert.OptSqK.τ).loc Cert.OptSqK.main_arg0)) (m ((c.tc : Thread Cert.OptSqK.nD Cert.OptSqK.τ).loc Cert.OptSqK.main_arg1)) (m ((c.tc : Thread Cert.OptSqK.nD Cert.OptSqK.τ).loc Cert.OptSqK.main_arg2)) (m ((c.tc : Thread Cert.OptSqK.nD Cert.OptSqK.τ).loc Cert.OptSqK.main_arg3)) (m ((c.tc : Thread Cert.OptSqK.nD Cert.OptSqK.τ).loc Cert.OptSqK.main_arg4)) (m ((c.tc : Thread Cert.OptSqK.nD Cert.OptSqK.τ).loc Cert.OptSqK.main_arg5))).2 = (fun _ => 1#1)

def Pre_OptSqKIdeal [hPre_pre30 : Cert.Pre_pre30.Facts] (m : (ℓ : Loc Cert.OptSqKIdeal.nD Cert.OptSqKIdeal.τ Cert.OptSqKIdeal.sig) → Buf (Elt Ideal) ℓ) : Prop :=
  ∀ c : Dev Cert.OptSqKIdeal.nD,
    (Cert.Pre_pre30.fn (F := Ideal) (m ((c.tc : Thread Cert.OptSqKIdeal.nD Cert.OptSqKIdeal.τ).loc Cert.OptSqKIdeal.main_arg0)) (m ((c.tc : Thread Cert.OptSqKIdeal.nD Cert.OptSqKIdeal.τ).loc Cert.OptSqKIdeal.main_arg1)) (m ((c.tc : Thread Cert.OptSqKIdeal.nD Cert.OptSqKIdeal.τ).loc Cert.OptSqKIdeal.main_arg2)) (m ((c.tc : Thread Cert.OptSqKIdeal.nD Cert.OptSqKIdeal.τ).loc Cert.OptSqKIdeal.main_arg3)) (m ((c.tc : Thread Cert.OptSqKIdeal.nD Cert.OptSqKIdeal.τ).loc Cert.OptSqKIdeal.main_arg4)) (m ((c.tc : Thread Cert.OptSqKIdeal.nD Cert.OptSqKIdeal.τ).loc Cert.OptSqKIdeal.main_arg5))).1 = (fun _ => 1#1)
    ∧ (Cert.Pre_pre30.fn (F := Ideal) (m ((c.tc : Thread Cert.OptSqKIdeal.nD Cert.OptSqKIdeal.τ).loc Cert.OptSqKIdeal.main_arg0)) (m ((c.tc : Thread Cert.OptSqKIdeal.nD Cert.OptSqKIdeal.τ).loc Cert.OptSqKIdeal.main_arg1)) (m ((c.tc : Thread Cert.OptSqKIdeal.nD Cert.OptSqKIdeal.τ).loc Cert.OptSqKIdeal.main_arg2)) (m ((c.tc : Thread Cert.OptSqKIdeal.nD Cert.OptSqKIdeal.τ).loc Cert.OptSqKIdeal.main_arg3)) (m ((c.tc : Thread Cert.OptSqKIdeal.nD Cert.OptSqKIdeal.τ).loc Cert.OptSqKIdeal.main_arg4)) (m ((c.tc : Thread Cert.OptSqKIdeal.nD Cert.OptSqKIdeal.τ).loc Cert.OptSqKIdeal.main_arg5))).2 = (fun _ => 1#1)

def Pre_OptSqRIdeal (m : (ℓ : Loc Cert.OptSqRIdeal.nD Cert.OptSqRIdeal.τ Cert.OptSqRIdeal.sig) → Buf (Elt Ideal) ℓ) : Prop :=
  True

def Pre_OptSqRIdeal_pre30 [hPre_pre30 : Cert.Pre_pre30.Facts] (m : (ℓ : Loc Cert.OptSqRIdeal.nD Cert.OptSqRIdeal.τ Cert.OptSqRIdeal.sig) → Buf (Elt Ideal) ℓ) : Prop :=
  ∀ c : Dev Cert.OptSqRIdeal.nD,
    (Cert.Pre_pre30.fn (F := Ideal) (m ((c.tc : Thread Cert.OptSqRIdeal.nD Cert.OptSqRIdeal.τ).loc Cert.OptSqRIdeal.main_arg0)) (m ((c.tc : Thread Cert.OptSqRIdeal.nD Cert.OptSqRIdeal.τ).loc Cert.OptSqRIdeal.main_arg1)) (m ((c.tc : Thread Cert.OptSqRIdeal.nD Cert.OptSqRIdeal.τ).loc Cert.OptSqRIdeal.main_arg2)) (m ((c.tc : Thread Cert.OptSqRIdeal.nD Cert.OptSqRIdeal.τ).loc Cert.OptSqRIdeal.main_arg3)) (m ((c.tc : Thread Cert.OptSqRIdeal.nD Cert.OptSqRIdeal.τ).loc Cert.OptSqRIdeal.main_arg4)) (m ((c.tc : Thread Cert.OptSqRIdeal.nD Cert.OptSqRIdeal.τ).loc Cert.OptSqRIdeal.main_arg5))).1 = (fun _ => 1#1)
    ∧ (Cert.Pre_pre30.fn (F := Ideal) (m ((c.tc : Thread Cert.OptSqRIdeal.nD Cert.OptSqRIdeal.τ).loc Cert.OptSqRIdeal.main_arg0)) (m ((c.tc : Thread Cert.OptSqRIdeal.nD Cert.OptSqRIdeal.τ).loc Cert.OptSqRIdeal.main_arg1)) (m ((c.tc : Thread Cert.OptSqRIdeal.nD Cert.OptSqRIdeal.τ).loc Cert.OptSqRIdeal.main_arg2)) (m ((c.tc : Thread Cert.OptSqRIdeal.nD Cert.OptSqRIdeal.τ).loc Cert.OptSqRIdeal.main_arg3)) (m ((c.tc : Thread Cert.OptSqRIdeal.nD Cert.OptSqRIdeal.τ).loc Cert.OptSqRIdeal.main_arg4)) (m ((c.tc : Thread Cert.OptSqRIdeal.nD Cert.OptSqRIdeal.τ).loc Cert.OptSqRIdeal.main_arg5))).2 = (fun _ => 1#1)

def Pre_OptFoutK [hPre_pre31 : Cert.Pre_pre31.Facts] (m : (ℓ : Loc Cert.OptFoutK.nD Cert.OptFoutK.τ Cert.OptFoutK.sig) → Buf (Elt Bits) ℓ) : Prop :=
  ∀ c : Dev Cert.OptFoutK.nD,
    (Cert.Pre_pre31.fn (F := Bits) (m ((c.tc : Thread Cert.OptFoutK.nD Cert.OptFoutK.τ).loc Cert.OptFoutK.main_arg0)) (m ((c.tc : Thread Cert.OptFoutK.nD Cert.OptFoutK.τ).loc Cert.OptFoutK.main_arg1)) (m ((c.tc : Thread Cert.OptFoutK.nD Cert.OptFoutK.τ).loc Cert.OptFoutK.main_arg2)) (m ((c.tc : Thread Cert.OptFoutK.nD Cert.OptFoutK.τ).loc Cert.OptFoutK.main_arg3)) (m ((c.tc : Thread Cert.OptFoutK.nD Cert.OptFoutK.τ).loc Cert.OptFoutK.main_arg4)) (m ((c.tc : Thread Cert.OptFoutK.nD Cert.OptFoutK.τ).loc Cert.OptFoutK.main_arg5))).1 = (fun _ => 1#1)
    ∧ (Cert.Pre_pre31.fn (F := Bits) (m ((c.tc : Thread Cert.OptFoutK.nD Cert.OptFoutK.τ).loc Cert.OptFoutK.main_arg0)) (m ((c.tc : Thread Cert.OptFoutK.nD Cert.OptFoutK.τ).loc Cert.OptFoutK.main_arg1)) (m ((c.tc : Thread Cert.OptFoutK.nD Cert.OptFoutK.τ).loc Cert.OptFoutK.main_arg2)) (m ((c.tc : Thread Cert.OptFoutK.nD Cert.OptFoutK.τ).loc Cert.OptFoutK.main_arg3)) (m ((c.tc : Thread Cert.OptFoutK.nD Cert.OptFoutK.τ).loc Cert.OptFoutK.main_arg4)) (m ((c.tc : Thread Cert.OptFoutK.nD Cert.OptFoutK.τ).loc Cert.OptFoutK.main_arg5))).2 = (fun _ => 1#1)

def Pre_OptFoutKIdeal [hPre_pre31 : Cert.Pre_pre31.Facts] (m : (ℓ : Loc Cert.OptFoutKIdeal.nD Cert.OptFoutKIdeal.τ Cert.OptFoutKIdeal.sig) → Buf (Elt Ideal) ℓ) : Prop :=
  ∀ c : Dev Cert.OptFoutKIdeal.nD,
    (Cert.Pre_pre31.fn (F := Ideal) (m ((c.tc : Thread Cert.OptFoutKIdeal.nD Cert.OptFoutKIdeal.τ).loc Cert.OptFoutKIdeal.main_arg0)) (m ((c.tc : Thread Cert.OptFoutKIdeal.nD Cert.OptFoutKIdeal.τ).loc Cert.OptFoutKIdeal.main_arg1)) (m ((c.tc : Thread Cert.OptFoutKIdeal.nD Cert.OptFoutKIdeal.τ).loc Cert.OptFoutKIdeal.main_arg2)) (m ((c.tc : Thread Cert.OptFoutKIdeal.nD Cert.OptFoutKIdeal.τ).loc Cert.OptFoutKIdeal.main_arg3)) (m ((c.tc : Thread Cert.OptFoutKIdeal.nD Cert.OptFoutKIdeal.τ).loc Cert.OptFoutKIdeal.main_arg4)) (m ((c.tc : Thread Cert.OptFoutKIdeal.nD Cert.OptFoutKIdeal.τ).loc Cert.OptFoutKIdeal.main_arg5))).1 = (fun _ => 1#1)
    ∧ (Cert.Pre_pre31.fn (F := Ideal) (m ((c.tc : Thread Cert.OptFoutKIdeal.nD Cert.OptFoutKIdeal.τ).loc Cert.OptFoutKIdeal.main_arg0)) (m ((c.tc : Thread Cert.OptFoutKIdeal.nD Cert.OptFoutKIdeal.τ).loc Cert.OptFoutKIdeal.main_arg1)) (m ((c.tc : Thread Cert.OptFoutKIdeal.nD Cert.OptFoutKIdeal.τ).loc Cert.OptFoutKIdeal.main_arg2)) (m ((c.tc : Thread Cert.OptFoutKIdeal.nD Cert.OptFoutKIdeal.τ).loc Cert.OptFoutKIdeal.main_arg3)) (m ((c.tc : Thread Cert.OptFoutKIdeal.nD Cert.OptFoutKIdeal.τ).loc Cert.OptFoutKIdeal.main_arg4)) (m ((c.tc : Thread Cert.OptFoutKIdeal.nD Cert.OptFoutKIdeal.τ).loc Cert.OptFoutKIdeal.main_arg5))).2 = (fun _ => 1#1)

def Pre_OptFoutRIdeal (m : (ℓ : Loc Cert.OptFoutRIdeal.nD Cert.OptFoutRIdeal.τ Cert.OptFoutRIdeal.sig) → Buf (Elt Ideal) ℓ) : Prop :=
  True

def Pre_OptFoutRIdeal_pre31 [hPre_pre31 : Cert.Pre_pre31.Facts] (m : (ℓ : Loc Cert.OptFoutRIdeal.nD Cert.OptFoutRIdeal.τ Cert.OptFoutRIdeal.sig) → Buf (Elt Ideal) ℓ) : Prop :=
  ∀ c : Dev Cert.OptFoutRIdeal.nD,
    (Cert.Pre_pre31.fn (F := Ideal) (m ((c.tc : Thread Cert.OptFoutRIdeal.nD Cert.OptFoutRIdeal.τ).loc Cert.OptFoutRIdeal.main_arg0)) (m ((c.tc : Thread Cert.OptFoutRIdeal.nD Cert.OptFoutRIdeal.τ).loc Cert.OptFoutRIdeal.main_arg1)) (m ((c.tc : Thread Cert.OptFoutRIdeal.nD Cert.OptFoutRIdeal.τ).loc Cert.OptFoutRIdeal.main_arg2)) (m ((c.tc : Thread Cert.OptFoutRIdeal.nD Cert.OptFoutRIdeal.τ).loc Cert.OptFoutRIdeal.main_arg3)) (m ((c.tc : Thread Cert.OptFoutRIdeal.nD Cert.OptFoutRIdeal.τ).loc Cert.OptFoutRIdeal.main_arg4)) (m ((c.tc : Thread Cert.OptFoutRIdeal.nD Cert.OptFoutRIdeal.τ).loc Cert.OptFoutRIdeal.main_arg5))).1 = (fun _ => 1#1)
    ∧ (Cert.Pre_pre31.fn (F := Ideal) (m ((c.tc : Thread Cert.OptFoutRIdeal.nD Cert.OptFoutRIdeal.τ).loc Cert.OptFoutRIdeal.main_arg0)) (m ((c.tc : Thread Cert.OptFoutRIdeal.nD Cert.OptFoutRIdeal.τ).loc Cert.OptFoutRIdeal.main_arg1)) (m ((c.tc : Thread Cert.OptFoutRIdeal.nD Cert.OptFoutRIdeal.τ).loc Cert.OptFoutRIdeal.main_arg2)) (m ((c.tc : Thread Cert.OptFoutRIdeal.nD Cert.OptFoutRIdeal.τ).loc Cert.OptFoutRIdeal.main_arg3)) (m ((c.tc : Thread Cert.OptFoutRIdeal.nD Cert.OptFoutRIdeal.τ).loc Cert.OptFoutRIdeal.main_arg4)) (m ((c.tc : Thread Cert.OptFoutRIdeal.nD Cert.OptFoutRIdeal.τ).loc Cert.OptFoutRIdeal.main_arg5))).2 = (fun _ => 1#1)

def Pre_OptFinK [hPre_pre32 : Cert.Pre_pre32.Facts] (m : (ℓ : Loc Cert.OptFinK.nD Cert.OptFinK.τ Cert.OptFinK.sig) → Buf (Elt Bits) ℓ) : Prop :=
  ∀ c : Dev Cert.OptFinK.nD,
    (Cert.Pre_pre32.fn (F := Bits) (m ((c.tc : Thread Cert.OptFinK.nD Cert.OptFinK.τ).loc Cert.OptFinK.main_arg0)) (m ((c.tc : Thread Cert.OptFinK.nD Cert.OptFinK.τ).loc Cert.OptFinK.main_arg1)) (m ((c.tc : Thread Cert.OptFinK.nD Cert.OptFinK.τ).loc Cert.OptFinK.main_arg2)) (m ((c.tc : Thread Cert.OptFinK.nD Cert.OptFinK.τ).loc Cert.OptFinK.main_arg3)) (m ((c.tc : Thread Cert.OptFinK.nD Cert.OptFinK.τ).loc Cert.OptFinK.main_arg4)) (m ((c.tc : Thread Cert.OptFinK.nD Cert.OptFinK.τ).loc Cert.OptFinK.main_arg5))).1 = (fun _ => 1#1)
    ∧ (Cert.Pre_pre32.fn (F := Bits) (m ((c.tc : Thread Cert.OptFinK.nD Cert.OptFinK.τ).loc Cert.OptFinK.main_arg0)) (m ((c.tc : Thread Cert.OptFinK.nD Cert.OptFinK.τ).loc Cert.OptFinK.main_arg1)) (m ((c.tc : Thread Cert.OptFinK.nD Cert.OptFinK.τ).loc Cert.OptFinK.main_arg2)) (m ((c.tc : Thread Cert.OptFinK.nD Cert.OptFinK.τ).loc Cert.OptFinK.main_arg3)) (m ((c.tc : Thread Cert.OptFinK.nD Cert.OptFinK.τ).loc Cert.OptFinK.main_arg4)) (m ((c.tc : Thread Cert.OptFinK.nD Cert.OptFinK.τ).loc Cert.OptFinK.main_arg5))).2 = (fun _ => 1#1)

def Pre_OptFinKIdeal [hPre_pre32 : Cert.Pre_pre32.Facts] (m : (ℓ : Loc Cert.OptFinKIdeal.nD Cert.OptFinKIdeal.τ Cert.OptFinKIdeal.sig) → Buf (Elt Ideal) ℓ) : Prop :=
  ∀ c : Dev Cert.OptFinKIdeal.nD,
    (Cert.Pre_pre32.fn (F := Ideal) (m ((c.tc : Thread Cert.OptFinKIdeal.nD Cert.OptFinKIdeal.τ).loc Cert.OptFinKIdeal.main_arg0)) (m ((c.tc : Thread Cert.OptFinKIdeal.nD Cert.OptFinKIdeal.τ).loc Cert.OptFinKIdeal.main_arg1)) (m ((c.tc : Thread Cert.OptFinKIdeal.nD Cert.OptFinKIdeal.τ).loc Cert.OptFinKIdeal.main_arg2)) (m ((c.tc : Thread Cert.OptFinKIdeal.nD Cert.OptFinKIdeal.τ).loc Cert.OptFinKIdeal.main_arg3)) (m ((c.tc : Thread Cert.OptFinKIdeal.nD Cert.OptFinKIdeal.τ).loc Cert.OptFinKIdeal.main_arg4)) (m ((c.tc : Thread Cert.OptFinKIdeal.nD Cert.OptFinKIdeal.τ).loc Cert.OptFinKIdeal.main_arg5))).1 = (fun _ => 1#1)
    ∧ (Cert.Pre_pre32.fn (F := Ideal) (m ((c.tc : Thread Cert.OptFinKIdeal.nD Cert.OptFinKIdeal.τ).loc Cert.OptFinKIdeal.main_arg0)) (m ((c.tc : Thread Cert.OptFinKIdeal.nD Cert.OptFinKIdeal.τ).loc Cert.OptFinKIdeal.main_arg1)) (m ((c.tc : Thread Cert.OptFinKIdeal.nD Cert.OptFinKIdeal.τ).loc Cert.OptFinKIdeal.main_arg2)) (m ((c.tc : Thread Cert.OptFinKIdeal.nD Cert.OptFinKIdeal.τ).loc Cert.OptFinKIdeal.main_arg3)) (m ((c.tc : Thread Cert.OptFinKIdeal.nD Cert.OptFinKIdeal.τ).loc Cert.OptFinKIdeal.main_arg4)) (m ((c.tc : Thread Cert.OptFinKIdeal.nD Cert.OptFinKIdeal.τ).loc Cert.OptFinKIdeal.main_arg5))).2 = (fun _ => 1#1)

def Pre_OptFinRIdeal (m : (ℓ : Loc Cert.OptFinRIdeal.nD Cert.OptFinRIdeal.τ Cert.OptFinRIdeal.sig) → Buf (Elt Ideal) ℓ) : Prop :=
  True

def Pre_OptFinRIdeal_pre32 [hPre_pre32 : Cert.Pre_pre32.Facts] (m : (ℓ : Loc Cert.OptFinRIdeal.nD Cert.OptFinRIdeal.τ Cert.OptFinRIdeal.sig) → Buf (Elt Ideal) ℓ) : Prop :=
  ∀ c : Dev Cert.OptFinRIdeal.nD,
    (Cert.Pre_pre32.fn (F := Ideal) (m ((c.tc : Thread Cert.OptFinRIdeal.nD Cert.OptFinRIdeal.τ).loc Cert.OptFinRIdeal.main_arg0)) (m ((c.tc : Thread Cert.OptFinRIdeal.nD Cert.OptFinRIdeal.τ).loc Cert.OptFinRIdeal.main_arg1)) (m ((c.tc : Thread Cert.OptFinRIdeal.nD Cert.OptFinRIdeal.τ).loc Cert.OptFinRIdeal.main_arg2)) (m ((c.tc : Thread Cert.OptFinRIdeal.nD Cert.OptFinRIdeal.τ).loc Cert.OptFinRIdeal.main_arg3)) (m ((c.tc : Thread Cert.OptFinRIdeal.nD Cert.OptFinRIdeal.τ).loc Cert.OptFinRIdeal.main_arg4)) (m ((c.tc : Thread Cert.OptFinRIdeal.nD Cert.OptFinRIdeal.τ).loc Cert.OptFinRIdeal.main_arg5))).1 = (fun _ => 1#1)
    ∧ (Cert.Pre_pre32.fn (F := Ideal) (m ((c.tc : Thread Cert.OptFinRIdeal.nD Cert.OptFinRIdeal.τ).loc Cert.OptFinRIdeal.main_arg0)) (m ((c.tc : Thread Cert.OptFinRIdeal.nD Cert.OptFinRIdeal.τ).loc Cert.OptFinRIdeal.main_arg1)) (m ((c.tc : Thread Cert.OptFinRIdeal.nD Cert.OptFinRIdeal.τ).loc Cert.OptFinRIdeal.main_arg2)) (m ((c.tc : Thread Cert.OptFinRIdeal.nD Cert.OptFinRIdeal.τ).loc Cert.OptFinRIdeal.main_arg3)) (m ((c.tc : Thread Cert.OptFinRIdeal.nD Cert.OptFinRIdeal.τ).loc Cert.OptFinRIdeal.main_arg4)) (m ((c.tc : Thread Cert.OptFinRIdeal.nD Cert.OptFinRIdeal.τ).loc Cert.OptFinRIdeal.main_arg5))).2 = (fun _ => 1#1)

def Pre_OptInK [hPre_pre33 : Cert.Pre_pre33.Facts] (m : (ℓ : Loc Cert.OptInK.nD Cert.OptInK.τ Cert.OptInK.sig) → Buf (Elt Bits) ℓ) : Prop :=
  ∀ c : Dev Cert.OptInK.nD,
    (Cert.Pre_pre33.fn (F := Bits) (m ((c.tc : Thread Cert.OptInK.nD Cert.OptInK.τ).loc Cert.OptInK.main_arg0)) (m ((c.tc : Thread Cert.OptInK.nD Cert.OptInK.τ).loc Cert.OptInK.main_arg1)) (m ((c.tc : Thread Cert.OptInK.nD Cert.OptInK.τ).loc Cert.OptInK.main_arg2)) (m ((c.tc : Thread Cert.OptInK.nD Cert.OptInK.τ).loc Cert.OptInK.main_arg3)) (m ((c.tc : Thread Cert.OptInK.nD Cert.OptInK.τ).loc Cert.OptInK.main_arg4)) (m ((c.tc : Thread Cert.OptInK.nD Cert.OptInK.τ).loc Cert.OptInK.main_arg5)) (m ((c.tc : Thread Cert.OptInK.nD Cert.OptInK.τ).loc Cert.OptInK.main_arg6))).1 = (fun _ => 1#1)
    ∧ (Cert.Pre_pre33.fn (F := Bits) (m ((c.tc : Thread Cert.OptInK.nD Cert.OptInK.τ).loc Cert.OptInK.main_arg0)) (m ((c.tc : Thread Cert.OptInK.nD Cert.OptInK.τ).loc Cert.OptInK.main_arg1)) (m ((c.tc : Thread Cert.OptInK.nD Cert.OptInK.τ).loc Cert.OptInK.main_arg2)) (m ((c.tc : Thread Cert.OptInK.nD Cert.OptInK.τ).loc Cert.OptInK.main_arg3)) (m ((c.tc : Thread Cert.OptInK.nD Cert.OptInK.τ).loc Cert.OptInK.main_arg4)) (m ((c.tc : Thread Cert.OptInK.nD Cert.OptInK.τ).loc Cert.OptInK.main_arg5)) (m ((c.tc : Thread Cert.OptInK.nD Cert.OptInK.τ).loc Cert.OptInK.main_arg6))).2 = (fun _ => 1#1)

def Pre_OptInKIdeal [hPre_pre33 : Cert.Pre_pre33.Facts] (m : (ℓ : Loc Cert.OptInKIdeal.nD Cert.OptInKIdeal.τ Cert.OptInKIdeal.sig) → Buf (Elt Ideal) ℓ) : Prop :=
  ∀ c : Dev Cert.OptInKIdeal.nD,
    (Cert.Pre_pre33.fn (F := Ideal) (m ((c.tc : Thread Cert.OptInKIdeal.nD Cert.OptInKIdeal.τ).loc Cert.OptInKIdeal.main_arg0)) (m ((c.tc : Thread Cert.OptInKIdeal.nD Cert.OptInKIdeal.τ).loc Cert.OptInKIdeal.main_arg1)) (m ((c.tc : Thread Cert.OptInKIdeal.nD Cert.OptInKIdeal.τ).loc Cert.OptInKIdeal.main_arg2)) (m ((c.tc : Thread Cert.OptInKIdeal.nD Cert.OptInKIdeal.τ).loc Cert.OptInKIdeal.main_arg3)) (m ((c.tc : Thread Cert.OptInKIdeal.nD Cert.OptInKIdeal.τ).loc Cert.OptInKIdeal.main_arg4)) (m ((c.tc : Thread Cert.OptInKIdeal.nD Cert.OptInKIdeal.τ).loc Cert.OptInKIdeal.main_arg5)) (m ((c.tc : Thread Cert.OptInKIdeal.nD Cert.OptInKIdeal.τ).loc Cert.OptInKIdeal.main_arg6))).1 = (fun _ => 1#1)
    ∧ (Cert.Pre_pre33.fn (F := Ideal) (m ((c.tc : Thread Cert.OptInKIdeal.nD Cert.OptInKIdeal.τ).loc Cert.OptInKIdeal.main_arg0)) (m ((c.tc : Thread Cert.OptInKIdeal.nD Cert.OptInKIdeal.τ).loc Cert.OptInKIdeal.main_arg1)) (m ((c.tc : Thread Cert.OptInKIdeal.nD Cert.OptInKIdeal.τ).loc Cert.OptInKIdeal.main_arg2)) (m ((c.tc : Thread Cert.OptInKIdeal.nD Cert.OptInKIdeal.τ).loc Cert.OptInKIdeal.main_arg3)) (m ((c.tc : Thread Cert.OptInKIdeal.nD Cert.OptInKIdeal.τ).loc Cert.OptInKIdeal.main_arg4)) (m ((c.tc : Thread Cert.OptInKIdeal.nD Cert.OptInKIdeal.τ).loc Cert.OptInKIdeal.main_arg5)) (m ((c.tc : Thread Cert.OptInKIdeal.nD Cert.OptInKIdeal.τ).loc Cert.OptInKIdeal.main_arg6))).2 = (fun _ => 1#1)

def Pre_OptInRIdeal (m : (ℓ : Loc Cert.OptInRIdeal.nD Cert.OptInRIdeal.τ Cert.OptInRIdeal.sig) → Buf (Elt Ideal) ℓ) : Prop :=
  True

def Pre_OptInRIdeal_pre33 [hPre_pre33 : Cert.Pre_pre33.Facts] (m : (ℓ : Loc Cert.OptInRIdeal.nD Cert.OptInRIdeal.τ Cert.OptInRIdeal.sig) → Buf (Elt Ideal) ℓ) : Prop :=
  ∀ c : Dev Cert.OptInRIdeal.nD,
    (Cert.Pre_pre33.fn (F := Ideal) (m ((c.tc : Thread Cert.OptInRIdeal.nD Cert.OptInRIdeal.τ).loc Cert.OptInRIdeal.main_arg0)) (m ((c.tc : Thread Cert.OptInRIdeal.nD Cert.OptInRIdeal.τ).loc Cert.OptInRIdeal.main_arg1)) (m ((c.tc : Thread Cert.OptInRIdeal.nD Cert.OptInRIdeal.τ).loc Cert.OptInRIdeal.main_arg2)) (m ((c.tc : Thread Cert.OptInRIdeal.nD Cert.OptInRIdeal.τ).loc Cert.OptInRIdeal.main_arg3)) (m ((c.tc : Thread Cert.OptInRIdeal.nD Cert.OptInRIdeal.τ).loc Cert.OptInRIdeal.main_arg4)) (m ((c.tc : Thread Cert.OptInRIdeal.nD Cert.OptInRIdeal.τ).loc Cert.OptInRIdeal.main_arg5)) (m ((c.tc : Thread Cert.OptInRIdeal.nD Cert.OptInRIdeal.τ).loc Cert.OptInRIdeal.main_arg6))).1 = (fun _ => 1#1)
    ∧ (Cert.Pre_pre33.fn (F := Ideal) (m ((c.tc : Thread Cert.OptInRIdeal.nD Cert.OptInRIdeal.τ).loc Cert.OptInRIdeal.main_arg0)) (m ((c.tc : Thread Cert.OptInRIdeal.nD Cert.OptInRIdeal.τ).loc Cert.OptInRIdeal.main_arg1)) (m ((c.tc : Thread Cert.OptInRIdeal.nD Cert.OptInRIdeal.τ).loc Cert.OptInRIdeal.main_arg2)) (m ((c.tc : Thread Cert.OptInRIdeal.nD Cert.OptInRIdeal.τ).loc Cert.OptInRIdeal.main_arg3)) (m ((c.tc : Thread Cert.OptInRIdeal.nD Cert.OptInRIdeal.τ).loc Cert.OptInRIdeal.main_arg4)) (m ((c.tc : Thread Cert.OptInRIdeal.nD Cert.OptInRIdeal.τ).loc Cert.OptInRIdeal.main_arg5)) (m ((c.tc : Thread Cert.OptInRIdeal.nD Cert.OptInRIdeal.τ).loc Cert.OptInRIdeal.main_arg6))).2 = (fun _ => 1#1)

def quiescent_ConvK [hConvK : Cert.ConvK.Facts] : Prop :=
  ∀ (m : (ℓ : Loc Cert.ConvK.nD Cert.ConvK.τ Cert.ConvK.sig) → Buf (Elt Bits) ℓ) (g : Dev Cert.ConvK.nD → PrngReg), Pre_ConvK m →
    θ_run (Cert.ConvK.defs (F := Bits)) (onTc (τ := Cert.ConvK.τ) (Cert.ConvK.main (F := Bits))) ⟨m, fun _ => 0, g⟩ (fun r => (∀ c : Dev Cert.ConvK.nD,
      r.2.mem ((c.tc : Thread Cert.ConvK.nD Cert.ConvK.τ).loc Cert.ConvK.main_arg0) = m ((c.tc : Thread Cert.ConvK.nD Cert.ConvK.τ).loc Cert.ConvK.main_arg0)
      ∧ r.2.mem ((c.tc : Thread Cert.ConvK.nD Cert.ConvK.τ).loc Cert.ConvK.main_arg1) = m ((c.tc : Thread Cert.ConvK.nD Cert.ConvK.τ).loc Cert.ConvK.main_arg1)
      ∧ r.2.mem ((c.tc : Thread Cert.ConvK.nD Cert.ConvK.τ).loc Cert.ConvK.main_arg2) = m ((c.tc : Thread Cert.ConvK.nD Cert.ConvK.τ).loc Cert.ConvK.main_arg2))
      ∧ r.2.sem = fun _ => 0)

def quiescent_ConvKIdeal [hConvKIdeal : Cert.ConvKIdeal.Facts] : Prop :=
  ∀ (m : (ℓ : Loc Cert.ConvKIdeal.nD Cert.ConvKIdeal.τ Cert.ConvKIdeal.sig) → Buf (Elt Ideal) ℓ) (g : Dev Cert.ConvKIdeal.nD → PrngReg), Pre_ConvKIdeal m →
    θ_run (Cert.ConvKIdeal.defs (F := Ideal)) (onTc (τ := Cert.ConvKIdeal.τ) (Cert.ConvKIdeal.main (F := Ideal))) ⟨m, fun _ => 0, g⟩ (fun r => (∀ c : Dev Cert.ConvKIdeal.nD,
      r.2.mem ((c.tc : Thread Cert.ConvKIdeal.nD Cert.ConvKIdeal.τ).loc Cert.ConvKIdeal.main_arg0) = m ((c.tc : Thread Cert.ConvKIdeal.nD Cert.ConvKIdeal.τ).loc Cert.ConvKIdeal.main_arg0)
      ∧ r.2.mem ((c.tc : Thread Cert.ConvKIdeal.nD Cert.ConvKIdeal.τ).loc Cert.ConvKIdeal.main_arg1) = m ((c.tc : Thread Cert.ConvKIdeal.nD Cert.ConvKIdeal.τ).loc Cert.ConvKIdeal.main_arg1)
      ∧ r.2.mem ((c.tc : Thread Cert.ConvKIdeal.nD Cert.ConvKIdeal.τ).loc Cert.ConvKIdeal.main_arg2) = m ((c.tc : Thread Cert.ConvKIdeal.nD Cert.ConvKIdeal.τ).loc Cert.ConvKIdeal.main_arg2))
      ∧ r.2.sem = fun _ => 0)

def quiescent_ConvRIdeal [hConvRIdeal : Cert.ConvRIdeal.Facts] : Prop :=
  ∀ (m : (ℓ : Loc Cert.ConvRIdeal.nD Cert.ConvRIdeal.τ Cert.ConvRIdeal.sig) → Buf (Elt Ideal) ℓ) (g : Dev Cert.ConvRIdeal.nD → PrngReg), Pre_ConvRIdeal m →
    θ_run (Cert.ConvRIdeal.defs (F := Ideal)) (onTc (τ := Cert.ConvRIdeal.τ) (Cert.ConvRIdeal.main (F := Ideal))) ⟨m, fun _ => 0, g⟩ (fun r => (∀ c : Dev Cert.ConvRIdeal.nD,
      r.2.mem ((c.tc : Thread Cert.ConvRIdeal.nD Cert.ConvRIdeal.τ).loc Cert.ConvRIdeal.main_arg0) = m ((c.tc : Thread Cert.ConvRIdeal.nD Cert.ConvRIdeal.τ).loc Cert.ConvRIdeal.main_arg0)
      ∧ r.2.mem ((c.tc : Thread Cert.ConvRIdeal.nD Cert.ConvRIdeal.τ).loc Cert.ConvRIdeal.main_arg1) = m ((c.tc : Thread Cert.ConvRIdeal.nD Cert.ConvRIdeal.τ).loc Cert.ConvRIdeal.main_arg1)
      ∧ r.2.mem ((c.tc : Thread Cert.ConvRIdeal.nD Cert.ConvRIdeal.τ).loc Cert.ConvRIdeal.main_arg2) = m ((c.tc : Thread Cert.ConvRIdeal.nD Cert.ConvRIdeal.τ).loc Cert.ConvRIdeal.main_arg2))
      ∧ r.2.sem = fun _ => 0)

def quiescent_GateK [hGateK : Cert.GateK.Facts] : Prop :=
  ∀ (m : (ℓ : Loc Cert.GateK.nD Cert.GateK.τ Cert.GateK.sig) → Buf (Elt Bits) ℓ) (g : Dev Cert.GateK.nD → PrngReg), Pre_GateK m →
    θ_run (Cert.GateK.defs (F := Bits)) (onTc (τ := Cert.GateK.τ) (Cert.GateK.main (F := Bits))) ⟨m, fun _ => 0, g⟩ (fun r => (∀ c : Dev Cert.GateK.nD,
      r.2.mem ((c.tc : Thread Cert.GateK.nD Cert.GateK.τ).loc Cert.GateK.main_arg0) = m ((c.tc : Thread Cert.GateK.nD Cert.GateK.τ).loc Cert.GateK.main_arg0)
      ∧ r.2.mem ((c.tc : Thread Cert.GateK.nD Cert.GateK.τ).loc Cert.GateK.main_arg1) = m ((c.tc : Thread Cert.GateK.nD Cert.GateK.τ).loc Cert.GateK.main_arg1)
      ∧ r.2.mem ((c.tc : Thread Cert.GateK.nD Cert.GateK.τ).loc Cert.GateK.main_arg2) = m ((c.tc : Thread Cert.GateK.nD Cert.GateK.τ).loc Cert.GateK.main_arg2)
      ∧ r.2.mem ((c.tc : Thread Cert.GateK.nD Cert.GateK.τ).loc Cert.GateK.main_arg3) = m ((c.tc : Thread Cert.GateK.nD Cert.GateK.τ).loc Cert.GateK.main_arg3)
      ∧ r.2.mem ((c.tc : Thread Cert.GateK.nD Cert.GateK.τ).loc Cert.GateK.main_arg4) = m ((c.tc : Thread Cert.GateK.nD Cert.GateK.τ).loc Cert.GateK.main_arg4)
      ∧ r.2.mem ((c.tc : Thread Cert.GateK.nD Cert.GateK.τ).loc Cert.GateK.main_arg5) = m ((c.tc : Thread Cert.GateK.nD Cert.GateK.τ).loc Cert.GateK.main_arg5))
      ∧ r.2.sem = fun _ => 0)

def quiescent_GateKIdeal [hGateKIdeal : Cert.GateKIdeal.Facts] : Prop :=
  ∀ (m : (ℓ : Loc Cert.GateKIdeal.nD Cert.GateKIdeal.τ Cert.GateKIdeal.sig) → Buf (Elt Ideal) ℓ) (g : Dev Cert.GateKIdeal.nD → PrngReg), Pre_GateKIdeal m →
    θ_run (Cert.GateKIdeal.defs (F := Ideal)) (onTc (τ := Cert.GateKIdeal.τ) (Cert.GateKIdeal.main (F := Ideal))) ⟨m, fun _ => 0, g⟩ (fun r => (∀ c : Dev Cert.GateKIdeal.nD,
      r.2.mem ((c.tc : Thread Cert.GateKIdeal.nD Cert.GateKIdeal.τ).loc Cert.GateKIdeal.main_arg0) = m ((c.tc : Thread Cert.GateKIdeal.nD Cert.GateKIdeal.τ).loc Cert.GateKIdeal.main_arg0)
      ∧ r.2.mem ((c.tc : Thread Cert.GateKIdeal.nD Cert.GateKIdeal.τ).loc Cert.GateKIdeal.main_arg1) = m ((c.tc : Thread Cert.GateKIdeal.nD Cert.GateKIdeal.τ).loc Cert.GateKIdeal.main_arg1)
      ∧ r.2.mem ((c.tc : Thread Cert.GateKIdeal.nD Cert.GateKIdeal.τ).loc Cert.GateKIdeal.main_arg2) = m ((c.tc : Thread Cert.GateKIdeal.nD Cert.GateKIdeal.τ).loc Cert.GateKIdeal.main_arg2)
      ∧ r.2.mem ((c.tc : Thread Cert.GateKIdeal.nD Cert.GateKIdeal.τ).loc Cert.GateKIdeal.main_arg3) = m ((c.tc : Thread Cert.GateKIdeal.nD Cert.GateKIdeal.τ).loc Cert.GateKIdeal.main_arg3)
      ∧ r.2.mem ((c.tc : Thread Cert.GateKIdeal.nD Cert.GateKIdeal.τ).loc Cert.GateKIdeal.main_arg4) = m ((c.tc : Thread Cert.GateKIdeal.nD Cert.GateKIdeal.τ).loc Cert.GateKIdeal.main_arg4)
      ∧ r.2.mem ((c.tc : Thread Cert.GateKIdeal.nD Cert.GateKIdeal.τ).loc Cert.GateKIdeal.main_arg5) = m ((c.tc : Thread Cert.GateKIdeal.nD Cert.GateKIdeal.τ).loc Cert.GateKIdeal.main_arg5))
      ∧ r.2.sem = fun _ => 0)

def quiescent_GateRIdeal [hGateRIdeal : Cert.GateRIdeal.Facts] : Prop :=
  ∀ (m : (ℓ : Loc Cert.GateRIdeal.nD Cert.GateRIdeal.τ Cert.GateRIdeal.sig) → Buf (Elt Ideal) ℓ) (g : Dev Cert.GateRIdeal.nD → PrngReg), Pre_GateRIdeal m →
    θ_run (Cert.GateRIdeal.defs (F := Ideal)) (onTc (τ := Cert.GateRIdeal.τ) (Cert.GateRIdeal.main (F := Ideal))) ⟨m, fun _ => 0, g⟩ (fun r => (∀ c : Dev Cert.GateRIdeal.nD,
      r.2.mem ((c.tc : Thread Cert.GateRIdeal.nD Cert.GateRIdeal.τ).loc Cert.GateRIdeal.main_arg0) = m ((c.tc : Thread Cert.GateRIdeal.nD Cert.GateRIdeal.τ).loc Cert.GateRIdeal.main_arg0)
      ∧ r.2.mem ((c.tc : Thread Cert.GateRIdeal.nD Cert.GateRIdeal.τ).loc Cert.GateRIdeal.main_arg1) = m ((c.tc : Thread Cert.GateRIdeal.nD Cert.GateRIdeal.τ).loc Cert.GateRIdeal.main_arg1)
      ∧ r.2.mem ((c.tc : Thread Cert.GateRIdeal.nD Cert.GateRIdeal.τ).loc Cert.GateRIdeal.main_arg2) = m ((c.tc : Thread Cert.GateRIdeal.nD Cert.GateRIdeal.τ).loc Cert.GateRIdeal.main_arg2)
      ∧ r.2.mem ((c.tc : Thread Cert.GateRIdeal.nD Cert.GateRIdeal.τ).loc Cert.GateRIdeal.main_arg3) = m ((c.tc : Thread Cert.GateRIdeal.nD Cert.GateRIdeal.τ).loc Cert.GateRIdeal.main_arg3)
      ∧ r.2.mem ((c.tc : Thread Cert.GateRIdeal.nD Cert.GateRIdeal.τ).loc Cert.GateRIdeal.main_arg4) = m ((c.tc : Thread Cert.GateRIdeal.nD Cert.GateRIdeal.τ).loc Cert.GateRIdeal.main_arg4)
      ∧ r.2.mem ((c.tc : Thread Cert.GateRIdeal.nD Cert.GateRIdeal.τ).loc Cert.GateRIdeal.main_arg5) = m ((c.tc : Thread Cert.GateRIdeal.nD Cert.GateRIdeal.τ).loc Cert.GateRIdeal.main_arg5))
      ∧ r.2.sem = fun _ => 0)

def quiescent_FfnK [hFfnK : Cert.FfnK.Facts] : Prop :=
  ∀ (m : (ℓ : Loc Cert.FfnK.nD Cert.FfnK.τ Cert.FfnK.sig) → Buf (Elt Bits) ℓ) (g : Dev Cert.FfnK.nD → PrngReg), Pre_FfnK m →
    θ_run (Cert.FfnK.defs (F := Bits)) (onTc (τ := Cert.FfnK.τ) (Cert.FfnK.main (F := Bits))) ⟨m, fun _ => 0, g⟩ (fun r => (∀ c : Dev Cert.FfnK.nD,
      r.2.mem ((c.tc : Thread Cert.FfnK.nD Cert.FfnK.τ).loc Cert.FfnK.main_arg0) = m ((c.tc : Thread Cert.FfnK.nD Cert.FfnK.τ).loc Cert.FfnK.main_arg0)
      ∧ r.2.mem ((c.tc : Thread Cert.FfnK.nD Cert.FfnK.τ).loc Cert.FfnK.main_arg1) = m ((c.tc : Thread Cert.FfnK.nD Cert.FfnK.τ).loc Cert.FfnK.main_arg1)
      ∧ r.2.mem ((c.tc : Thread Cert.FfnK.nD Cert.FfnK.τ).loc Cert.FfnK.main_arg2) = m ((c.tc : Thread Cert.FfnK.nD Cert.FfnK.τ).loc Cert.FfnK.main_arg2)
      ∧ r.2.mem ((c.tc : Thread Cert.FfnK.nD Cert.FfnK.τ).loc Cert.FfnK.main_arg3) = m ((c.tc : Thread Cert.FfnK.nD Cert.FfnK.τ).loc Cert.FfnK.main_arg3))
      ∧ r.2.sem = fun _ => 0)

def quiescent_FfnKIdeal [hFfnKIdeal : Cert.FfnKIdeal.Facts] : Prop :=
  ∀ (m : (ℓ : Loc Cert.FfnKIdeal.nD Cert.FfnKIdeal.τ Cert.FfnKIdeal.sig) → Buf (Elt Ideal) ℓ) (g : Dev Cert.FfnKIdeal.nD → PrngReg), Pre_FfnKIdeal m →
    θ_run (Cert.FfnKIdeal.defs (F := Ideal)) (onTc (τ := Cert.FfnKIdeal.τ) (Cert.FfnKIdeal.main (F := Ideal))) ⟨m, fun _ => 0, g⟩ (fun r => (∀ c : Dev Cert.FfnKIdeal.nD,
      r.2.mem ((c.tc : Thread Cert.FfnKIdeal.nD Cert.FfnKIdeal.τ).loc Cert.FfnKIdeal.main_arg0) = m ((c.tc : Thread Cert.FfnKIdeal.nD Cert.FfnKIdeal.τ).loc Cert.FfnKIdeal.main_arg0)
      ∧ r.2.mem ((c.tc : Thread Cert.FfnKIdeal.nD Cert.FfnKIdeal.τ).loc Cert.FfnKIdeal.main_arg1) = m ((c.tc : Thread Cert.FfnKIdeal.nD Cert.FfnKIdeal.τ).loc Cert.FfnKIdeal.main_arg1)
      ∧ r.2.mem ((c.tc : Thread Cert.FfnKIdeal.nD Cert.FfnKIdeal.τ).loc Cert.FfnKIdeal.main_arg2) = m ((c.tc : Thread Cert.FfnKIdeal.nD Cert.FfnKIdeal.τ).loc Cert.FfnKIdeal.main_arg2)
      ∧ r.2.mem ((c.tc : Thread Cert.FfnKIdeal.nD Cert.FfnKIdeal.τ).loc Cert.FfnKIdeal.main_arg3) = m ((c.tc : Thread Cert.FfnKIdeal.nD Cert.FfnKIdeal.τ).loc Cert.FfnKIdeal.main_arg3))
      ∧ r.2.sem = fun _ => 0)

def quiescent_FfnRIdeal [hFfnRIdeal : Cert.FfnRIdeal.Facts] : Prop :=
  ∀ (m : (ℓ : Loc Cert.FfnRIdeal.nD Cert.FfnRIdeal.τ Cert.FfnRIdeal.sig) → Buf (Elt Ideal) ℓ) (g : Dev Cert.FfnRIdeal.nD → PrngReg), Pre_FfnRIdeal m →
    θ_run (Cert.FfnRIdeal.defs (F := Ideal)) (onTc (τ := Cert.FfnRIdeal.τ) (Cert.FfnRIdeal.main (F := Ideal))) ⟨m, fun _ => 0, g⟩ (fun r => (∀ c : Dev Cert.FfnRIdeal.nD,
      r.2.mem ((c.tc : Thread Cert.FfnRIdeal.nD Cert.FfnRIdeal.τ).loc Cert.FfnRIdeal.main_arg0) = m ((c.tc : Thread Cert.FfnRIdeal.nD Cert.FfnRIdeal.τ).loc Cert.FfnRIdeal.main_arg0)
      ∧ r.2.mem ((c.tc : Thread Cert.FfnRIdeal.nD Cert.FfnRIdeal.τ).loc Cert.FfnRIdeal.main_arg1) = m ((c.tc : Thread Cert.FfnRIdeal.nD Cert.FfnRIdeal.τ).loc Cert.FfnRIdeal.main_arg1)
      ∧ r.2.mem ((c.tc : Thread Cert.FfnRIdeal.nD Cert.FfnRIdeal.τ).loc Cert.FfnRIdeal.main_arg2) = m ((c.tc : Thread Cert.FfnRIdeal.nD Cert.FfnRIdeal.τ).loc Cert.FfnRIdeal.main_arg2)
      ∧ r.2.mem ((c.tc : Thread Cert.FfnRIdeal.nD Cert.FfnRIdeal.τ).loc Cert.FfnRIdeal.main_arg3) = m ((c.tc : Thread Cert.FfnRIdeal.nD Cert.FfnRIdeal.τ).loc Cert.FfnRIdeal.main_arg3))
      ∧ r.2.sem = fun _ => 0)

def quiescent_InDwK [hInDwK : Cert.InDwK.Facts] : Prop :=
  ∀ (m : (ℓ : Loc Cert.InDwK.nD Cert.InDwK.τ Cert.InDwK.sig) → Buf (Elt Bits) ℓ) (g : Dev Cert.InDwK.nD → PrngReg), Pre_InDwK m →
    θ_run (Cert.InDwK.defs (F := Bits)) (onTc (τ := Cert.InDwK.τ) (Cert.InDwK.main (F := Bits))) ⟨m, fun _ => 0, g⟩ (fun r => (∀ c : Dev Cert.InDwK.nD,
      r.2.mem ((c.tc : Thread Cert.InDwK.nD Cert.InDwK.τ).loc Cert.InDwK.main_arg0) = m ((c.tc : Thread Cert.InDwK.nD Cert.InDwK.τ).loc Cert.InDwK.main_arg0)
      ∧ r.2.mem ((c.tc : Thread Cert.InDwK.nD Cert.InDwK.τ).loc Cert.InDwK.main_arg1) = m ((c.tc : Thread Cert.InDwK.nD Cert.InDwK.τ).loc Cert.InDwK.main_arg1))
      ∧ r.2.sem = fun _ => 0)

def quiescent_InDwKIdeal [hInDwKIdeal : Cert.InDwKIdeal.Facts] : Prop :=
  ∀ (m : (ℓ : Loc Cert.InDwKIdeal.nD Cert.InDwKIdeal.τ Cert.InDwKIdeal.sig) → Buf (Elt Ideal) ℓ) (g : Dev Cert.InDwKIdeal.nD → PrngReg), Pre_InDwKIdeal m →
    θ_run (Cert.InDwKIdeal.defs (F := Ideal)) (onTc (τ := Cert.InDwKIdeal.τ) (Cert.InDwKIdeal.main (F := Ideal))) ⟨m, fun _ => 0, g⟩ (fun r => (∀ c : Dev Cert.InDwKIdeal.nD,
      r.2.mem ((c.tc : Thread Cert.InDwKIdeal.nD Cert.InDwKIdeal.τ).loc Cert.InDwKIdeal.main_arg0) = m ((c.tc : Thread Cert.InDwKIdeal.nD Cert.InDwKIdeal.τ).loc Cert.InDwKIdeal.main_arg0)
      ∧ r.2.mem ((c.tc : Thread Cert.InDwKIdeal.nD Cert.InDwKIdeal.τ).loc Cert.InDwKIdeal.main_arg1) = m ((c.tc : Thread Cert.InDwKIdeal.nD Cert.InDwKIdeal.τ).loc Cert.InDwKIdeal.main_arg1))
      ∧ r.2.sem = fun _ => 0)

def quiescent_InDwRIdeal [hInDwRIdeal : Cert.InDwRIdeal.Facts] : Prop :=
  ∀ (m : (ℓ : Loc Cert.InDwRIdeal.nD Cert.InDwRIdeal.τ Cert.InDwRIdeal.sig) → Buf (Elt Ideal) ℓ) (g : Dev Cert.InDwRIdeal.nD → PrngReg), Pre_InDwRIdeal m →
    θ_run (Cert.InDwRIdeal.defs (F := Ideal)) (onTc (τ := Cert.InDwRIdeal.τ) (Cert.InDwRIdeal.main (F := Ideal))) ⟨m, fun _ => 0, g⟩ (fun r => (∀ c : Dev Cert.InDwRIdeal.nD,
      r.2.mem ((c.tc : Thread Cert.InDwRIdeal.nD Cert.InDwRIdeal.τ).loc Cert.InDwRIdeal.main_arg0) = m ((c.tc : Thread Cert.InDwRIdeal.nD Cert.InDwRIdeal.τ).loc Cert.InDwRIdeal.main_arg0)
      ∧ r.2.mem ((c.tc : Thread Cert.InDwRIdeal.nD Cert.InDwRIdeal.τ).loc Cert.InDwRIdeal.main_arg1) = m ((c.tc : Thread Cert.InDwRIdeal.nD Cert.InDwRIdeal.τ).loc Cert.InDwRIdeal.main_arg1))
      ∧ r.2.sem = fun _ => 0)

def quiescent_FinDwK [hFinDwK : Cert.FinDwK.Facts] : Prop :=
  ∀ (m : (ℓ : Loc Cert.FinDwK.nD Cert.FinDwK.τ Cert.FinDwK.sig) → Buf (Elt Bits) ℓ) (g : Dev Cert.FinDwK.nD → PrngReg), Pre_FinDwK m →
    θ_run (Cert.FinDwK.defs (F := Bits)) (onTc (τ := Cert.FinDwK.τ) (Cert.FinDwK.main (F := Bits))) ⟨m, fun _ => 0, g⟩ (fun r => (∀ c : Dev Cert.FinDwK.nD,
      r.2.mem ((c.tc : Thread Cert.FinDwK.nD Cert.FinDwK.τ).loc Cert.FinDwK.main_arg0) = m ((c.tc : Thread Cert.FinDwK.nD Cert.FinDwK.τ).loc Cert.FinDwK.main_arg0)
      ∧ r.2.mem ((c.tc : Thread Cert.FinDwK.nD Cert.FinDwK.τ).loc Cert.FinDwK.main_arg1) = m ((c.tc : Thread Cert.FinDwK.nD Cert.FinDwK.τ).loc Cert.FinDwK.main_arg1))
      ∧ r.2.sem = fun _ => 0)

def quiescent_FinDwKIdeal [hFinDwKIdeal : Cert.FinDwKIdeal.Facts] : Prop :=
  ∀ (m : (ℓ : Loc Cert.FinDwKIdeal.nD Cert.FinDwKIdeal.τ Cert.FinDwKIdeal.sig) → Buf (Elt Ideal) ℓ) (g : Dev Cert.FinDwKIdeal.nD → PrngReg), Pre_FinDwKIdeal m →
    θ_run (Cert.FinDwKIdeal.defs (F := Ideal)) (onTc (τ := Cert.FinDwKIdeal.τ) (Cert.FinDwKIdeal.main (F := Ideal))) ⟨m, fun _ => 0, g⟩ (fun r => (∀ c : Dev Cert.FinDwKIdeal.nD,
      r.2.mem ((c.tc : Thread Cert.FinDwKIdeal.nD Cert.FinDwKIdeal.τ).loc Cert.FinDwKIdeal.main_arg0) = m ((c.tc : Thread Cert.FinDwKIdeal.nD Cert.FinDwKIdeal.τ).loc Cert.FinDwKIdeal.main_arg0)
      ∧ r.2.mem ((c.tc : Thread Cert.FinDwKIdeal.nD Cert.FinDwKIdeal.τ).loc Cert.FinDwKIdeal.main_arg1) = m ((c.tc : Thread Cert.FinDwKIdeal.nD Cert.FinDwKIdeal.τ).loc Cert.FinDwKIdeal.main_arg1))
      ∧ r.2.sem = fun _ => 0)

def quiescent_FinDwRIdeal [hFinDwRIdeal : Cert.FinDwRIdeal.Facts] : Prop :=
  ∀ (m : (ℓ : Loc Cert.FinDwRIdeal.nD Cert.FinDwRIdeal.τ Cert.FinDwRIdeal.sig) → Buf (Elt Ideal) ℓ) (g : Dev Cert.FinDwRIdeal.nD → PrngReg), Pre_FinDwRIdeal m →
    θ_run (Cert.FinDwRIdeal.defs (F := Ideal)) (onTc (τ := Cert.FinDwRIdeal.τ) (Cert.FinDwRIdeal.main (F := Ideal))) ⟨m, fun _ => 0, g⟩ (fun r => (∀ c : Dev Cert.FinDwRIdeal.nD,
      r.2.mem ((c.tc : Thread Cert.FinDwRIdeal.nD Cert.FinDwRIdeal.τ).loc Cert.FinDwRIdeal.main_arg0) = m ((c.tc : Thread Cert.FinDwRIdeal.nD Cert.FinDwRIdeal.τ).loc Cert.FinDwRIdeal.main_arg0)
      ∧ r.2.mem ((c.tc : Thread Cert.FinDwRIdeal.nD Cert.FinDwRIdeal.τ).loc Cert.FinDwRIdeal.main_arg1) = m ((c.tc : Thread Cert.FinDwRIdeal.nD Cert.FinDwRIdeal.τ).loc Cert.FinDwRIdeal.main_arg1))
      ∧ r.2.sem = fun _ => 0)

def quiescent_FinDxK [hFinDxK : Cert.FinDxK.Facts] : Prop :=
  ∀ (m : (ℓ : Loc Cert.FinDxK.nD Cert.FinDxK.τ Cert.FinDxK.sig) → Buf (Elt Bits) ℓ) (g : Dev Cert.FinDxK.nD → PrngReg), Pre_FinDxK m →
    θ_run (Cert.FinDxK.defs (F := Bits)) (onTc (τ := Cert.FinDxK.τ) (Cert.FinDxK.main (F := Bits))) ⟨m, fun _ => 0, g⟩ (fun r => (∀ c : Dev Cert.FinDxK.nD,
      r.2.mem ((c.tc : Thread Cert.FinDxK.nD Cert.FinDxK.τ).loc Cert.FinDxK.main_arg0) = m ((c.tc : Thread Cert.FinDxK.nD Cert.FinDxK.τ).loc Cert.FinDxK.main_arg0)
      ∧ r.2.mem ((c.tc : Thread Cert.FinDxK.nD Cert.FinDxK.τ).loc Cert.FinDxK.main_arg1) = m ((c.tc : Thread Cert.FinDxK.nD Cert.FinDxK.τ).loc Cert.FinDxK.main_arg1))
      ∧ r.2.sem = fun _ => 0)

def quiescent_FinDxKIdeal [hFinDxKIdeal : Cert.FinDxKIdeal.Facts] : Prop :=
  ∀ (m : (ℓ : Loc Cert.FinDxKIdeal.nD Cert.FinDxKIdeal.τ Cert.FinDxKIdeal.sig) → Buf (Elt Ideal) ℓ) (g : Dev Cert.FinDxKIdeal.nD → PrngReg), Pre_FinDxKIdeal m →
    θ_run (Cert.FinDxKIdeal.defs (F := Ideal)) (onTc (τ := Cert.FinDxKIdeal.τ) (Cert.FinDxKIdeal.main (F := Ideal))) ⟨m, fun _ => 0, g⟩ (fun r => (∀ c : Dev Cert.FinDxKIdeal.nD,
      r.2.mem ((c.tc : Thread Cert.FinDxKIdeal.nD Cert.FinDxKIdeal.τ).loc Cert.FinDxKIdeal.main_arg0) = m ((c.tc : Thread Cert.FinDxKIdeal.nD Cert.FinDxKIdeal.τ).loc Cert.FinDxKIdeal.main_arg0)
      ∧ r.2.mem ((c.tc : Thread Cert.FinDxKIdeal.nD Cert.FinDxKIdeal.τ).loc Cert.FinDxKIdeal.main_arg1) = m ((c.tc : Thread Cert.FinDxKIdeal.nD Cert.FinDxKIdeal.τ).loc Cert.FinDxKIdeal.main_arg1))
      ∧ r.2.sem = fun _ => 0)

def quiescent_FinDxRIdeal [hFinDxRIdeal : Cert.FinDxRIdeal.Facts] : Prop :=
  ∀ (m : (ℓ : Loc Cert.FinDxRIdeal.nD Cert.FinDxRIdeal.τ Cert.FinDxRIdeal.sig) → Buf (Elt Ideal) ℓ) (g : Dev Cert.FinDxRIdeal.nD → PrngReg), Pre_FinDxRIdeal m →
    θ_run (Cert.FinDxRIdeal.defs (F := Ideal)) (onTc (τ := Cert.FinDxRIdeal.τ) (Cert.FinDxRIdeal.main (F := Ideal))) ⟨m, fun _ => 0, g⟩ (fun r => (∀ c : Dev Cert.FinDxRIdeal.nD,
      r.2.mem ((c.tc : Thread Cert.FinDxRIdeal.nD Cert.FinDxRIdeal.τ).loc Cert.FinDxRIdeal.main_arg0) = m ((c.tc : Thread Cert.FinDxRIdeal.nD Cert.FinDxRIdeal.τ).loc Cert.FinDxRIdeal.main_arg0)
      ∧ r.2.mem ((c.tc : Thread Cert.FinDxRIdeal.nD Cert.FinDxRIdeal.τ).loc Cert.FinDxRIdeal.main_arg1) = m ((c.tc : Thread Cert.FinDxRIdeal.nD Cert.FinDxRIdeal.τ).loc Cert.FinDxRIdeal.main_arg1))
      ∧ r.2.sem = fun _ => 0)

def quiescent_FoutDwK [hFoutDwK : Cert.FoutDwK.Facts] : Prop :=
  ∀ (m : (ℓ : Loc Cert.FoutDwK.nD Cert.FoutDwK.τ Cert.FoutDwK.sig) → Buf (Elt Bits) ℓ) (g : Dev Cert.FoutDwK.nD → PrngReg), Pre_FoutDwK m →
    θ_run (Cert.FoutDwK.defs (F := Bits)) (onTc (τ := Cert.FoutDwK.τ) (Cert.FoutDwK.main (F := Bits))) ⟨m, fun _ => 0, g⟩ (fun r => (∀ c : Dev Cert.FoutDwK.nD,
      r.2.mem ((c.tc : Thread Cert.FoutDwK.nD Cert.FoutDwK.τ).loc Cert.FoutDwK.main_arg0) = m ((c.tc : Thread Cert.FoutDwK.nD Cert.FoutDwK.τ).loc Cert.FoutDwK.main_arg0)
      ∧ r.2.mem ((c.tc : Thread Cert.FoutDwK.nD Cert.FoutDwK.τ).loc Cert.FoutDwK.main_arg1) = m ((c.tc : Thread Cert.FoutDwK.nD Cert.FoutDwK.τ).loc Cert.FoutDwK.main_arg1))
      ∧ r.2.sem = fun _ => 0)

def quiescent_FoutDwKIdeal [hFoutDwKIdeal : Cert.FoutDwKIdeal.Facts] : Prop :=
  ∀ (m : (ℓ : Loc Cert.FoutDwKIdeal.nD Cert.FoutDwKIdeal.τ Cert.FoutDwKIdeal.sig) → Buf (Elt Ideal) ℓ) (g : Dev Cert.FoutDwKIdeal.nD → PrngReg), Pre_FoutDwKIdeal m →
    θ_run (Cert.FoutDwKIdeal.defs (F := Ideal)) (onTc (τ := Cert.FoutDwKIdeal.τ) (Cert.FoutDwKIdeal.main (F := Ideal))) ⟨m, fun _ => 0, g⟩ (fun r => (∀ c : Dev Cert.FoutDwKIdeal.nD,
      r.2.mem ((c.tc : Thread Cert.FoutDwKIdeal.nD Cert.FoutDwKIdeal.τ).loc Cert.FoutDwKIdeal.main_arg0) = m ((c.tc : Thread Cert.FoutDwKIdeal.nD Cert.FoutDwKIdeal.τ).loc Cert.FoutDwKIdeal.main_arg0)
      ∧ r.2.mem ((c.tc : Thread Cert.FoutDwKIdeal.nD Cert.FoutDwKIdeal.τ).loc Cert.FoutDwKIdeal.main_arg1) = m ((c.tc : Thread Cert.FoutDwKIdeal.nD Cert.FoutDwKIdeal.τ).loc Cert.FoutDwKIdeal.main_arg1))
      ∧ r.2.sem = fun _ => 0)

def quiescent_FoutDwRIdeal [hFoutDwRIdeal : Cert.FoutDwRIdeal.Facts] : Prop :=
  ∀ (m : (ℓ : Loc Cert.FoutDwRIdeal.nD Cert.FoutDwRIdeal.τ Cert.FoutDwRIdeal.sig) → Buf (Elt Ideal) ℓ) (g : Dev Cert.FoutDwRIdeal.nD → PrngReg), Pre_FoutDwRIdeal m →
    θ_run (Cert.FoutDwRIdeal.defs (F := Ideal)) (onTc (τ := Cert.FoutDwRIdeal.τ) (Cert.FoutDwRIdeal.main (F := Ideal))) ⟨m, fun _ => 0, g⟩ (fun r => (∀ c : Dev Cert.FoutDwRIdeal.nD,
      r.2.mem ((c.tc : Thread Cert.FoutDwRIdeal.nD Cert.FoutDwRIdeal.τ).loc Cert.FoutDwRIdeal.main_arg0) = m ((c.tc : Thread Cert.FoutDwRIdeal.nD Cert.FoutDwRIdeal.τ).loc Cert.FoutDwRIdeal.main_arg0)
      ∧ r.2.mem ((c.tc : Thread Cert.FoutDwRIdeal.nD Cert.FoutDwRIdeal.τ).loc Cert.FoutDwRIdeal.main_arg1) = m ((c.tc : Thread Cert.FoutDwRIdeal.nD Cert.FoutDwRIdeal.τ).loc Cert.FoutDwRIdeal.main_arg1))
      ∧ r.2.sem = fun _ => 0)

def quiescent_MixDwK [hMixDwK : Cert.MixDwK.Facts] : Prop :=
  ∀ (m : (ℓ : Loc Cert.MixDwK.nD Cert.MixDwK.τ Cert.MixDwK.sig) → Buf (Elt Bits) ℓ) (g : Dev Cert.MixDwK.nD → PrngReg), Pre_MixDwK m →
    θ_run (Cert.MixDwK.defs (F := Bits)) (onTc (τ := Cert.MixDwK.τ) (Cert.MixDwK.main (F := Bits))) ⟨m, fun _ => 0, g⟩ (fun r => (∀ c : Dev Cert.MixDwK.nD,
      r.2.mem ((c.tc : Thread Cert.MixDwK.nD Cert.MixDwK.τ).loc Cert.MixDwK.main_arg0) = m ((c.tc : Thread Cert.MixDwK.nD Cert.MixDwK.τ).loc Cert.MixDwK.main_arg0)
      ∧ r.2.mem ((c.tc : Thread Cert.MixDwK.nD Cert.MixDwK.τ).loc Cert.MixDwK.main_arg1) = m ((c.tc : Thread Cert.MixDwK.nD Cert.MixDwK.τ).loc Cert.MixDwK.main_arg1))
      ∧ r.2.sem = fun _ => 0)

def quiescent_MixDwKIdeal [hMixDwKIdeal : Cert.MixDwKIdeal.Facts] : Prop :=
  ∀ (m : (ℓ : Loc Cert.MixDwKIdeal.nD Cert.MixDwKIdeal.τ Cert.MixDwKIdeal.sig) → Buf (Elt Ideal) ℓ) (g : Dev Cert.MixDwKIdeal.nD → PrngReg), Pre_MixDwKIdeal m →
    θ_run (Cert.MixDwKIdeal.defs (F := Ideal)) (onTc (τ := Cert.MixDwKIdeal.τ) (Cert.MixDwKIdeal.main (F := Ideal))) ⟨m, fun _ => 0, g⟩ (fun r => (∀ c : Dev Cert.MixDwKIdeal.nD,
      r.2.mem ((c.tc : Thread Cert.MixDwKIdeal.nD Cert.MixDwKIdeal.τ).loc Cert.MixDwKIdeal.main_arg0) = m ((c.tc : Thread Cert.MixDwKIdeal.nD Cert.MixDwKIdeal.τ).loc Cert.MixDwKIdeal.main_arg0)
      ∧ r.2.mem ((c.tc : Thread Cert.MixDwKIdeal.nD Cert.MixDwKIdeal.τ).loc Cert.MixDwKIdeal.main_arg1) = m ((c.tc : Thread Cert.MixDwKIdeal.nD Cert.MixDwKIdeal.τ).loc Cert.MixDwKIdeal.main_arg1))
      ∧ r.2.sem = fun _ => 0)

def quiescent_MixDwRIdeal [hMixDwRIdeal : Cert.MixDwRIdeal.Facts] : Prop :=
  ∀ (m : (ℓ : Loc Cert.MixDwRIdeal.nD Cert.MixDwRIdeal.τ Cert.MixDwRIdeal.sig) → Buf (Elt Ideal) ℓ) (g : Dev Cert.MixDwRIdeal.nD → PrngReg), Pre_MixDwRIdeal m →
    θ_run (Cert.MixDwRIdeal.defs (F := Ideal)) (onTc (τ := Cert.MixDwRIdeal.τ) (Cert.MixDwRIdeal.main (F := Ideal))) ⟨m, fun _ => 0, g⟩ (fun r => (∀ c : Dev Cert.MixDwRIdeal.nD,
      r.2.mem ((c.tc : Thread Cert.MixDwRIdeal.nD Cert.MixDwRIdeal.τ).loc Cert.MixDwRIdeal.main_arg0) = m ((c.tc : Thread Cert.MixDwRIdeal.nD Cert.MixDwRIdeal.τ).loc Cert.MixDwRIdeal.main_arg0)
      ∧ r.2.mem ((c.tc : Thread Cert.MixDwRIdeal.nD Cert.MixDwRIdeal.τ).loc Cert.MixDwRIdeal.main_arg1) = m ((c.tc : Thread Cert.MixDwRIdeal.nD Cert.MixDwRIdeal.τ).loc Cert.MixDwRIdeal.main_arg1))
      ∧ r.2.sem = fun _ => 0)

def quiescent_AttnDwK [hAttnDwK : Cert.AttnDwK.Facts] : Prop :=
  ∀ (m : (ℓ : Loc Cert.AttnDwK.nD Cert.AttnDwK.τ Cert.AttnDwK.sig) → Buf (Elt Bits) ℓ) (g : Dev Cert.AttnDwK.nD → PrngReg), Pre_AttnDwK m →
    θ_run (Cert.AttnDwK.defs (F := Bits)) (onTc (τ := Cert.AttnDwK.τ) (Cert.AttnDwK.main (F := Bits))) ⟨m, fun _ => 0, g⟩ (fun r => (∀ c : Dev Cert.AttnDwK.nD,
      r.2.mem ((c.tc : Thread Cert.AttnDwK.nD Cert.AttnDwK.τ).loc Cert.AttnDwK.main_arg0) = m ((c.tc : Thread Cert.AttnDwK.nD Cert.AttnDwK.τ).loc Cert.AttnDwK.main_arg0)
      ∧ r.2.mem ((c.tc : Thread Cert.AttnDwK.nD Cert.AttnDwK.τ).loc Cert.AttnDwK.main_arg1) = m ((c.tc : Thread Cert.AttnDwK.nD Cert.AttnDwK.τ).loc Cert.AttnDwK.main_arg1))
      ∧ r.2.sem = fun _ => 0)

def quiescent_AttnDwKIdeal [hAttnDwKIdeal : Cert.AttnDwKIdeal.Facts] : Prop :=
  ∀ (m : (ℓ : Loc Cert.AttnDwKIdeal.nD Cert.AttnDwKIdeal.τ Cert.AttnDwKIdeal.sig) → Buf (Elt Ideal) ℓ) (g : Dev Cert.AttnDwKIdeal.nD → PrngReg), Pre_AttnDwKIdeal m →
    θ_run (Cert.AttnDwKIdeal.defs (F := Ideal)) (onTc (τ := Cert.AttnDwKIdeal.τ) (Cert.AttnDwKIdeal.main (F := Ideal))) ⟨m, fun _ => 0, g⟩ (fun r => (∀ c : Dev Cert.AttnDwKIdeal.nD,
      r.2.mem ((c.tc : Thread Cert.AttnDwKIdeal.nD Cert.AttnDwKIdeal.τ).loc Cert.AttnDwKIdeal.main_arg0) = m ((c.tc : Thread Cert.AttnDwKIdeal.nD Cert.AttnDwKIdeal.τ).loc Cert.AttnDwKIdeal.main_arg0)
      ∧ r.2.mem ((c.tc : Thread Cert.AttnDwKIdeal.nD Cert.AttnDwKIdeal.τ).loc Cert.AttnDwKIdeal.main_arg1) = m ((c.tc : Thread Cert.AttnDwKIdeal.nD Cert.AttnDwKIdeal.τ).loc Cert.AttnDwKIdeal.main_arg1))
      ∧ r.2.sem = fun _ => 0)

def quiescent_AttnDwRIdeal [hAttnDwRIdeal : Cert.AttnDwRIdeal.Facts] : Prop :=
  ∀ (m : (ℓ : Loc Cert.AttnDwRIdeal.nD Cert.AttnDwRIdeal.τ Cert.AttnDwRIdeal.sig) → Buf (Elt Ideal) ℓ) (g : Dev Cert.AttnDwRIdeal.nD → PrngReg), Pre_AttnDwRIdeal m →
    θ_run (Cert.AttnDwRIdeal.defs (F := Ideal)) (onTc (τ := Cert.AttnDwRIdeal.τ) (Cert.AttnDwRIdeal.main (F := Ideal))) ⟨m, fun _ => 0, g⟩ (fun r => (∀ c : Dev Cert.AttnDwRIdeal.nD,
      r.2.mem ((c.tc : Thread Cert.AttnDwRIdeal.nD Cert.AttnDwRIdeal.τ).loc Cert.AttnDwRIdeal.main_arg0) = m ((c.tc : Thread Cert.AttnDwRIdeal.nD Cert.AttnDwRIdeal.τ).loc Cert.AttnDwRIdeal.main_arg0)
      ∧ r.2.mem ((c.tc : Thread Cert.AttnDwRIdeal.nD Cert.AttnDwRIdeal.τ).loc Cert.AttnDwRIdeal.main_arg1) = m ((c.tc : Thread Cert.AttnDwRIdeal.nD Cert.AttnDwRIdeal.τ).loc Cert.AttnDwRIdeal.main_arg1))
      ∧ r.2.sem = fun _ => 0)

def quiescent_ConvDwK [hConvDwK : Cert.ConvDwK.Facts] : Prop :=
  ∀ (m : (ℓ : Loc Cert.ConvDwK.nD Cert.ConvDwK.τ Cert.ConvDwK.sig) → Buf (Elt Bits) ℓ) (g : Dev Cert.ConvDwK.nD → PrngReg), Pre_ConvDwK m →
    θ_run (Cert.ConvDwK.defs (F := Bits)) (onTc (τ := Cert.ConvDwK.τ) (Cert.ConvDwK.main (F := Bits))) ⟨m, fun _ => 0, g⟩ (fun r => (∀ c : Dev Cert.ConvDwK.nD,
      r.2.mem ((c.tc : Thread Cert.ConvDwK.nD Cert.ConvDwK.τ).loc Cert.ConvDwK.main_arg0) = m ((c.tc : Thread Cert.ConvDwK.nD Cert.ConvDwK.τ).loc Cert.ConvDwK.main_arg0)
      ∧ r.2.mem ((c.tc : Thread Cert.ConvDwK.nD Cert.ConvDwK.τ).loc Cert.ConvDwK.main_arg1) = m ((c.tc : Thread Cert.ConvDwK.nD Cert.ConvDwK.τ).loc Cert.ConvDwK.main_arg1))
      ∧ r.2.sem = fun _ => 0)

def quiescent_ConvDwKIdeal [hConvDwKIdeal : Cert.ConvDwKIdeal.Facts] : Prop :=
  ∀ (m : (ℓ : Loc Cert.ConvDwKIdeal.nD Cert.ConvDwKIdeal.τ Cert.ConvDwKIdeal.sig) → Buf (Elt Ideal) ℓ) (g : Dev Cert.ConvDwKIdeal.nD → PrngReg), Pre_ConvDwKIdeal m →
    θ_run (Cert.ConvDwKIdeal.defs (F := Ideal)) (onTc (τ := Cert.ConvDwKIdeal.τ) (Cert.ConvDwKIdeal.main (F := Ideal))) ⟨m, fun _ => 0, g⟩ (fun r => (∀ c : Dev Cert.ConvDwKIdeal.nD,
      r.2.mem ((c.tc : Thread Cert.ConvDwKIdeal.nD Cert.ConvDwKIdeal.τ).loc Cert.ConvDwKIdeal.main_arg0) = m ((c.tc : Thread Cert.ConvDwKIdeal.nD Cert.ConvDwKIdeal.τ).loc Cert.ConvDwKIdeal.main_arg0)
      ∧ r.2.mem ((c.tc : Thread Cert.ConvDwKIdeal.nD Cert.ConvDwKIdeal.τ).loc Cert.ConvDwKIdeal.main_arg1) = m ((c.tc : Thread Cert.ConvDwKIdeal.nD Cert.ConvDwKIdeal.τ).loc Cert.ConvDwKIdeal.main_arg1))
      ∧ r.2.sem = fun _ => 0)

def quiescent_ConvDwRIdeal [hConvDwRIdeal : Cert.ConvDwRIdeal.Facts] : Prop :=
  ∀ (m : (ℓ : Loc Cert.ConvDwRIdeal.nD Cert.ConvDwRIdeal.τ Cert.ConvDwRIdeal.sig) → Buf (Elt Ideal) ℓ) (g : Dev Cert.ConvDwRIdeal.nD → PrngReg), Pre_ConvDwRIdeal m →
    θ_run (Cert.ConvDwRIdeal.defs (F := Ideal)) (onTc (τ := Cert.ConvDwRIdeal.τ) (Cert.ConvDwRIdeal.main (F := Ideal))) ⟨m, fun _ => 0, g⟩ (fun r => (∀ c : Dev Cert.ConvDwRIdeal.nD,
      r.2.mem ((c.tc : Thread Cert.ConvDwRIdeal.nD Cert.ConvDwRIdeal.τ).loc Cert.ConvDwRIdeal.main_arg0) = m ((c.tc : Thread Cert.ConvDwRIdeal.nD Cert.ConvDwRIdeal.τ).loc Cert.ConvDwRIdeal.main_arg0)
      ∧ r.2.mem ((c.tc : Thread Cert.ConvDwRIdeal.nD Cert.ConvDwRIdeal.τ).loc Cert.ConvDwRIdeal.main_arg1) = m ((c.tc : Thread Cert.ConvDwRIdeal.nD Cert.ConvDwRIdeal.τ).loc Cert.ConvDwRIdeal.main_arg1))
      ∧ r.2.sem = fun _ => 0)

def quiescent_AttnDxK [hAttnDxK : Cert.AttnDxK.Facts] : Prop :=
  ∀ (m : (ℓ : Loc Cert.AttnDxK.nD Cert.AttnDxK.τ Cert.AttnDxK.sig) → Buf (Elt Bits) ℓ) (g : Dev Cert.AttnDxK.nD → PrngReg), Pre_AttnDxK m →
    θ_run (Cert.AttnDxK.defs (F := Bits)) (onTc (τ := Cert.AttnDxK.τ) (Cert.AttnDxK.main (F := Bits))) ⟨m, fun _ => 0, g⟩ (fun r => (∀ c : Dev Cert.AttnDxK.nD,
      r.2.mem ((c.tc : Thread Cert.AttnDxK.nD Cert.AttnDxK.τ).loc Cert.AttnDxK.main_arg0) = m ((c.tc : Thread Cert.AttnDxK.nD Cert.AttnDxK.τ).loc Cert.AttnDxK.main_arg0)
      ∧ r.2.mem ((c.tc : Thread Cert.AttnDxK.nD Cert.AttnDxK.τ).loc Cert.AttnDxK.main_arg1) = m ((c.tc : Thread Cert.AttnDxK.nD Cert.AttnDxK.τ).loc Cert.AttnDxK.main_arg1))
      ∧ r.2.sem = fun _ => 0)

def quiescent_AttnDxKIdeal [hAttnDxKIdeal : Cert.AttnDxKIdeal.Facts] : Prop :=
  ∀ (m : (ℓ : Loc Cert.AttnDxKIdeal.nD Cert.AttnDxKIdeal.τ Cert.AttnDxKIdeal.sig) → Buf (Elt Ideal) ℓ) (g : Dev Cert.AttnDxKIdeal.nD → PrngReg), Pre_AttnDxKIdeal m →
    θ_run (Cert.AttnDxKIdeal.defs (F := Ideal)) (onTc (τ := Cert.AttnDxKIdeal.τ) (Cert.AttnDxKIdeal.main (F := Ideal))) ⟨m, fun _ => 0, g⟩ (fun r => (∀ c : Dev Cert.AttnDxKIdeal.nD,
      r.2.mem ((c.tc : Thread Cert.AttnDxKIdeal.nD Cert.AttnDxKIdeal.τ).loc Cert.AttnDxKIdeal.main_arg0) = m ((c.tc : Thread Cert.AttnDxKIdeal.nD Cert.AttnDxKIdeal.τ).loc Cert.AttnDxKIdeal.main_arg0)
      ∧ r.2.mem ((c.tc : Thread Cert.AttnDxKIdeal.nD Cert.AttnDxKIdeal.τ).loc Cert.AttnDxKIdeal.main_arg1) = m ((c.tc : Thread Cert.AttnDxKIdeal.nD Cert.AttnDxKIdeal.τ).loc Cert.AttnDxKIdeal.main_arg1))
      ∧ r.2.sem = fun _ => 0)

def quiescent_AttnDxRIdeal [hAttnDxRIdeal : Cert.AttnDxRIdeal.Facts] : Prop :=
  ∀ (m : (ℓ : Loc Cert.AttnDxRIdeal.nD Cert.AttnDxRIdeal.τ Cert.AttnDxRIdeal.sig) → Buf (Elt Ideal) ℓ) (g : Dev Cert.AttnDxRIdeal.nD → PrngReg), Pre_AttnDxRIdeal m →
    θ_run (Cert.AttnDxRIdeal.defs (F := Ideal)) (onTc (τ := Cert.AttnDxRIdeal.τ) (Cert.AttnDxRIdeal.main (F := Ideal))) ⟨m, fun _ => 0, g⟩ (fun r => (∀ c : Dev Cert.AttnDxRIdeal.nD,
      r.2.mem ((c.tc : Thread Cert.AttnDxRIdeal.nD Cert.AttnDxRIdeal.τ).loc Cert.AttnDxRIdeal.main_arg0) = m ((c.tc : Thread Cert.AttnDxRIdeal.nD Cert.AttnDxRIdeal.τ).loc Cert.AttnDxRIdeal.main_arg0)
      ∧ r.2.mem ((c.tc : Thread Cert.AttnDxRIdeal.nD Cert.AttnDxRIdeal.τ).loc Cert.AttnDxRIdeal.main_arg1) = m ((c.tc : Thread Cert.AttnDxRIdeal.nD Cert.AttnDxRIdeal.τ).loc Cert.AttnDxRIdeal.main_arg1))
      ∧ r.2.sem = fun _ => 0)

def quiescent_ConvDxK [hConvDxK : Cert.ConvDxK.Facts] : Prop :=
  ∀ (m : (ℓ : Loc Cert.ConvDxK.nD Cert.ConvDxK.τ Cert.ConvDxK.sig) → Buf (Elt Bits) ℓ) (g : Dev Cert.ConvDxK.nD → PrngReg), Pre_ConvDxK m →
    θ_run (Cert.ConvDxK.defs (F := Bits)) (onTc (τ := Cert.ConvDxK.τ) (Cert.ConvDxK.main (F := Bits))) ⟨m, fun _ => 0, g⟩ (fun r => (∀ c : Dev Cert.ConvDxK.nD,
      r.2.mem ((c.tc : Thread Cert.ConvDxK.nD Cert.ConvDxK.τ).loc Cert.ConvDxK.main_arg0) = m ((c.tc : Thread Cert.ConvDxK.nD Cert.ConvDxK.τ).loc Cert.ConvDxK.main_arg0)
      ∧ r.2.mem ((c.tc : Thread Cert.ConvDxK.nD Cert.ConvDxK.τ).loc Cert.ConvDxK.main_arg1) = m ((c.tc : Thread Cert.ConvDxK.nD Cert.ConvDxK.τ).loc Cert.ConvDxK.main_arg1))
      ∧ r.2.sem = fun _ => 0)

def quiescent_ConvDxKIdeal [hConvDxKIdeal : Cert.ConvDxKIdeal.Facts] : Prop :=
  ∀ (m : (ℓ : Loc Cert.ConvDxKIdeal.nD Cert.ConvDxKIdeal.τ Cert.ConvDxKIdeal.sig) → Buf (Elt Ideal) ℓ) (g : Dev Cert.ConvDxKIdeal.nD → PrngReg), Pre_ConvDxKIdeal m →
    θ_run (Cert.ConvDxKIdeal.defs (F := Ideal)) (onTc (τ := Cert.ConvDxKIdeal.τ) (Cert.ConvDxKIdeal.main (F := Ideal))) ⟨m, fun _ => 0, g⟩ (fun r => (∀ c : Dev Cert.ConvDxKIdeal.nD,
      r.2.mem ((c.tc : Thread Cert.ConvDxKIdeal.nD Cert.ConvDxKIdeal.τ).loc Cert.ConvDxKIdeal.main_arg0) = m ((c.tc : Thread Cert.ConvDxKIdeal.nD Cert.ConvDxKIdeal.τ).loc Cert.ConvDxKIdeal.main_arg0)
      ∧ r.2.mem ((c.tc : Thread Cert.ConvDxKIdeal.nD Cert.ConvDxKIdeal.τ).loc Cert.ConvDxKIdeal.main_arg1) = m ((c.tc : Thread Cert.ConvDxKIdeal.nD Cert.ConvDxKIdeal.τ).loc Cert.ConvDxKIdeal.main_arg1))
      ∧ r.2.sem = fun _ => 0)

def quiescent_ConvDxRIdeal [hConvDxRIdeal : Cert.ConvDxRIdeal.Facts] : Prop :=
  ∀ (m : (ℓ : Loc Cert.ConvDxRIdeal.nD Cert.ConvDxRIdeal.τ Cert.ConvDxRIdeal.sig) → Buf (Elt Ideal) ℓ) (g : Dev Cert.ConvDxRIdeal.nD → PrngReg), Pre_ConvDxRIdeal m →
    θ_run (Cert.ConvDxRIdeal.defs (F := Ideal)) (onTc (τ := Cert.ConvDxRIdeal.τ) (Cert.ConvDxRIdeal.main (F := Ideal))) ⟨m, fun _ => 0, g⟩ (fun r => (∀ c : Dev Cert.ConvDxRIdeal.nD,
      r.2.mem ((c.tc : Thread Cert.ConvDxRIdeal.nD Cert.ConvDxRIdeal.τ).loc Cert.ConvDxRIdeal.main_arg0) = m ((c.tc : Thread Cert.ConvDxRIdeal.nD Cert.ConvDxRIdeal.τ).loc Cert.ConvDxRIdeal.main_arg0)
      ∧ r.2.mem ((c.tc : Thread Cert.ConvDxRIdeal.nD Cert.ConvDxRIdeal.τ).loc Cert.ConvDxRIdeal.main_arg1) = m ((c.tc : Thread Cert.ConvDxRIdeal.nD Cert.ConvDxRIdeal.τ).loc Cert.ConvDxRIdeal.main_arg1))
      ∧ r.2.sem = fun _ => 0)

def quiescent_FinK [hFinK : Cert.FinK.Facts] : Prop :=
  ∀ (m : (ℓ : Loc Cert.FinK.nD Cert.FinK.τ Cert.FinK.sig) → Buf (Elt Bits) ℓ) (g : Dev Cert.FinK.nD → PrngReg), Pre_FinK m →
    θ_run (Cert.FinK.defs (F := Bits)) (onTc (τ := Cert.FinK.τ) (Cert.FinK.main (F := Bits))) ⟨m, fun _ => 0, g⟩ (fun r => (∀ c : Dev Cert.FinK.nD,
      r.2.mem ((c.tc : Thread Cert.FinK.nD Cert.FinK.τ).loc Cert.FinK.main_arg0) = m ((c.tc : Thread Cert.FinK.nD Cert.FinK.τ).loc Cert.FinK.main_arg0)
      ∧ r.2.mem ((c.tc : Thread Cert.FinK.nD Cert.FinK.τ).loc Cert.FinK.main_arg1) = m ((c.tc : Thread Cert.FinK.nD Cert.FinK.τ).loc Cert.FinK.main_arg1))
      ∧ r.2.sem = fun _ => 0)

def quiescent_FinKIdeal [hFinKIdeal : Cert.FinKIdeal.Facts] : Prop :=
  ∀ (m : (ℓ : Loc Cert.FinKIdeal.nD Cert.FinKIdeal.τ Cert.FinKIdeal.sig) → Buf (Elt Ideal) ℓ) (g : Dev Cert.FinKIdeal.nD → PrngReg), Pre_FinKIdeal m →
    θ_run (Cert.FinKIdeal.defs (F := Ideal)) (onTc (τ := Cert.FinKIdeal.τ) (Cert.FinKIdeal.main (F := Ideal))) ⟨m, fun _ => 0, g⟩ (fun r => (∀ c : Dev Cert.FinKIdeal.nD,
      r.2.mem ((c.tc : Thread Cert.FinKIdeal.nD Cert.FinKIdeal.τ).loc Cert.FinKIdeal.main_arg0) = m ((c.tc : Thread Cert.FinKIdeal.nD Cert.FinKIdeal.τ).loc Cert.FinKIdeal.main_arg0)
      ∧ r.2.mem ((c.tc : Thread Cert.FinKIdeal.nD Cert.FinKIdeal.τ).loc Cert.FinKIdeal.main_arg1) = m ((c.tc : Thread Cert.FinKIdeal.nD Cert.FinKIdeal.τ).loc Cert.FinKIdeal.main_arg1))
      ∧ r.2.sem = fun _ => 0)

def quiescent_FinRIdeal [hFinRIdeal : Cert.FinRIdeal.Facts] : Prop :=
  ∀ (m : (ℓ : Loc Cert.FinRIdeal.nD Cert.FinRIdeal.τ Cert.FinRIdeal.sig) → Buf (Elt Ideal) ℓ) (g : Dev Cert.FinRIdeal.nD → PrngReg), Pre_FinRIdeal m →
    θ_run (Cert.FinRIdeal.defs (F := Ideal)) (onTc (τ := Cert.FinRIdeal.τ) (Cert.FinRIdeal.main (F := Ideal))) ⟨m, fun _ => 0, g⟩ (fun r => (∀ c : Dev Cert.FinRIdeal.nD,
      r.2.mem ((c.tc : Thread Cert.FinRIdeal.nD Cert.FinRIdeal.τ).loc Cert.FinRIdeal.main_arg0) = m ((c.tc : Thread Cert.FinRIdeal.nD Cert.FinRIdeal.τ).loc Cert.FinRIdeal.main_arg0)
      ∧ r.2.mem ((c.tc : Thread Cert.FinRIdeal.nD Cert.FinRIdeal.τ).loc Cert.FinRIdeal.main_arg1) = m ((c.tc : Thread Cert.FinRIdeal.nD Cert.FinRIdeal.τ).loc Cert.FinRIdeal.main_arg1))
      ∧ r.2.sem = fun _ => 0)

def quiescent_FoutK [hFoutK : Cert.FoutK.Facts] : Prop :=
  ∀ (m : (ℓ : Loc Cert.FoutK.nD Cert.FoutK.τ Cert.FoutK.sig) → Buf (Elt Bits) ℓ) (g : Dev Cert.FoutK.nD → PrngReg), Pre_FoutK m →
    θ_run (Cert.FoutK.defs (F := Bits)) (onTc (τ := Cert.FoutK.τ) (Cert.FoutK.main (F := Bits))) ⟨m, fun _ => 0, g⟩ (fun r => (∀ c : Dev Cert.FoutK.nD,
      r.2.mem ((c.tc : Thread Cert.FoutK.nD Cert.FoutK.τ).loc Cert.FoutK.main_arg0) = m ((c.tc : Thread Cert.FoutK.nD Cert.FoutK.τ).loc Cert.FoutK.main_arg0)
      ∧ r.2.mem ((c.tc : Thread Cert.FoutK.nD Cert.FoutK.τ).loc Cert.FoutK.main_arg1) = m ((c.tc : Thread Cert.FoutK.nD Cert.FoutK.τ).loc Cert.FoutK.main_arg1))
      ∧ r.2.sem = fun _ => 0)

def quiescent_FoutKIdeal [hFoutKIdeal : Cert.FoutKIdeal.Facts] : Prop :=
  ∀ (m : (ℓ : Loc Cert.FoutKIdeal.nD Cert.FoutKIdeal.τ Cert.FoutKIdeal.sig) → Buf (Elt Ideal) ℓ) (g : Dev Cert.FoutKIdeal.nD → PrngReg), Pre_FoutKIdeal m →
    θ_run (Cert.FoutKIdeal.defs (F := Ideal)) (onTc (τ := Cert.FoutKIdeal.τ) (Cert.FoutKIdeal.main (F := Ideal))) ⟨m, fun _ => 0, g⟩ (fun r => (∀ c : Dev Cert.FoutKIdeal.nD,
      r.2.mem ((c.tc : Thread Cert.FoutKIdeal.nD Cert.FoutKIdeal.τ).loc Cert.FoutKIdeal.main_arg0) = m ((c.tc : Thread Cert.FoutKIdeal.nD Cert.FoutKIdeal.τ).loc Cert.FoutKIdeal.main_arg0)
      ∧ r.2.mem ((c.tc : Thread Cert.FoutKIdeal.nD Cert.FoutKIdeal.τ).loc Cert.FoutKIdeal.main_arg1) = m ((c.tc : Thread Cert.FoutKIdeal.nD Cert.FoutKIdeal.τ).loc Cert.FoutKIdeal.main_arg1))
      ∧ r.2.sem = fun _ => 0)

def quiescent_FoutRIdeal [hFoutRIdeal : Cert.FoutRIdeal.Facts] : Prop :=
  ∀ (m : (ℓ : Loc Cert.FoutRIdeal.nD Cert.FoutRIdeal.τ Cert.FoutRIdeal.sig) → Buf (Elt Ideal) ℓ) (g : Dev Cert.FoutRIdeal.nD → PrngReg), Pre_FoutRIdeal m →
    θ_run (Cert.FoutRIdeal.defs (F := Ideal)) (onTc (τ := Cert.FoutRIdeal.τ) (Cert.FoutRIdeal.main (F := Ideal))) ⟨m, fun _ => 0, g⟩ (fun r => (∀ c : Dev Cert.FoutRIdeal.nD,
      r.2.mem ((c.tc : Thread Cert.FoutRIdeal.nD Cert.FoutRIdeal.τ).loc Cert.FoutRIdeal.main_arg0) = m ((c.tc : Thread Cert.FoutRIdeal.nD Cert.FoutRIdeal.τ).loc Cert.FoutRIdeal.main_arg0)
      ∧ r.2.mem ((c.tc : Thread Cert.FoutRIdeal.nD Cert.FoutRIdeal.τ).loc Cert.FoutRIdeal.main_arg1) = m ((c.tc : Thread Cert.FoutRIdeal.nD Cert.FoutRIdeal.τ).loc Cert.FoutRIdeal.main_arg1))
      ∧ r.2.sem = fun _ => 0)

def quiescent_ConvOutK [hConvOutK : Cert.ConvOutK.Facts] : Prop :=
  ∀ (m : (ℓ : Loc Cert.ConvOutK.nD Cert.ConvOutK.τ Cert.ConvOutK.sig) → Buf (Elt Bits) ℓ) (g : Dev Cert.ConvOutK.nD → PrngReg), Pre_ConvOutK m →
    θ_run (Cert.ConvOutK.defs (F := Bits)) (onTc (τ := Cert.ConvOutK.τ) (Cert.ConvOutK.main (F := Bits))) ⟨m, fun _ => 0, g⟩ (fun r => (∀ c : Dev Cert.ConvOutK.nD,
      r.2.mem ((c.tc : Thread Cert.ConvOutK.nD Cert.ConvOutK.τ).loc Cert.ConvOutK.main_arg0) = m ((c.tc : Thread Cert.ConvOutK.nD Cert.ConvOutK.τ).loc Cert.ConvOutK.main_arg0)
      ∧ r.2.mem ((c.tc : Thread Cert.ConvOutK.nD Cert.ConvOutK.τ).loc Cert.ConvOutK.main_arg1) = m ((c.tc : Thread Cert.ConvOutK.nD Cert.ConvOutK.τ).loc Cert.ConvOutK.main_arg1))
      ∧ r.2.sem = fun _ => 0)

def quiescent_ConvOutKIdeal [hConvOutKIdeal : Cert.ConvOutKIdeal.Facts] : Prop :=
  ∀ (m : (ℓ : Loc Cert.ConvOutKIdeal.nD Cert.ConvOutKIdeal.τ Cert.ConvOutKIdeal.sig) → Buf (Elt Ideal) ℓ) (g : Dev Cert.ConvOutKIdeal.nD → PrngReg), Pre_ConvOutKIdeal m →
    θ_run (Cert.ConvOutKIdeal.defs (F := Ideal)) (onTc (τ := Cert.ConvOutKIdeal.τ) (Cert.ConvOutKIdeal.main (F := Ideal))) ⟨m, fun _ => 0, g⟩ (fun r => (∀ c : Dev Cert.ConvOutKIdeal.nD,
      r.2.mem ((c.tc : Thread Cert.ConvOutKIdeal.nD Cert.ConvOutKIdeal.τ).loc Cert.ConvOutKIdeal.main_arg0) = m ((c.tc : Thread Cert.ConvOutKIdeal.nD Cert.ConvOutKIdeal.τ).loc Cert.ConvOutKIdeal.main_arg0)
      ∧ r.2.mem ((c.tc : Thread Cert.ConvOutKIdeal.nD Cert.ConvOutKIdeal.τ).loc Cert.ConvOutKIdeal.main_arg1) = m ((c.tc : Thread Cert.ConvOutKIdeal.nD Cert.ConvOutKIdeal.τ).loc Cert.ConvOutKIdeal.main_arg1))
      ∧ r.2.sem = fun _ => 0)

def quiescent_ConvOutRIdeal [hConvOutRIdeal : Cert.ConvOutRIdeal.Facts] : Prop :=
  ∀ (m : (ℓ : Loc Cert.ConvOutRIdeal.nD Cert.ConvOutRIdeal.τ Cert.ConvOutRIdeal.sig) → Buf (Elt Ideal) ℓ) (g : Dev Cert.ConvOutRIdeal.nD → PrngReg), Pre_ConvOutRIdeal m →
    θ_run (Cert.ConvOutRIdeal.defs (F := Ideal)) (onTc (τ := Cert.ConvOutRIdeal.τ) (Cert.ConvOutRIdeal.main (F := Ideal))) ⟨m, fun _ => 0, g⟩ (fun r => (∀ c : Dev Cert.ConvOutRIdeal.nD,
      r.2.mem ((c.tc : Thread Cert.ConvOutRIdeal.nD Cert.ConvOutRIdeal.τ).loc Cert.ConvOutRIdeal.main_arg0) = m ((c.tc : Thread Cert.ConvOutRIdeal.nD Cert.ConvOutRIdeal.τ).loc Cert.ConvOutRIdeal.main_arg0)
      ∧ r.2.mem ((c.tc : Thread Cert.ConvOutRIdeal.nD Cert.ConvOutRIdeal.τ).loc Cert.ConvOutRIdeal.main_arg1) = m ((c.tc : Thread Cert.ConvOutRIdeal.nD Cert.ConvOutRIdeal.τ).loc Cert.ConvOutRIdeal.main_arg1))
      ∧ r.2.sem = fun _ => 0)

def quiescent_MixOutK [hMixOutK : Cert.MixOutK.Facts] : Prop :=
  ∀ (m : (ℓ : Loc Cert.MixOutK.nD Cert.MixOutK.τ Cert.MixOutK.sig) → Buf (Elt Bits) ℓ) (g : Dev Cert.MixOutK.nD → PrngReg), Pre_MixOutK m →
    θ_run (Cert.MixOutK.defs (F := Bits)) (onTc (τ := Cert.MixOutK.τ) (Cert.MixOutK.main (F := Bits))) ⟨m, fun _ => 0, g⟩ (fun r => (∀ c : Dev Cert.MixOutK.nD,
      r.2.mem ((c.tc : Thread Cert.MixOutK.nD Cert.MixOutK.τ).loc Cert.MixOutK.main_arg0) = m ((c.tc : Thread Cert.MixOutK.nD Cert.MixOutK.τ).loc Cert.MixOutK.main_arg0)
      ∧ r.2.mem ((c.tc : Thread Cert.MixOutK.nD Cert.MixOutK.τ).loc Cert.MixOutK.main_arg1) = m ((c.tc : Thread Cert.MixOutK.nD Cert.MixOutK.τ).loc Cert.MixOutK.main_arg1))
      ∧ r.2.sem = fun _ => 0)

def quiescent_MixOutKIdeal [hMixOutKIdeal : Cert.MixOutKIdeal.Facts] : Prop :=
  ∀ (m : (ℓ : Loc Cert.MixOutKIdeal.nD Cert.MixOutKIdeal.τ Cert.MixOutKIdeal.sig) → Buf (Elt Ideal) ℓ) (g : Dev Cert.MixOutKIdeal.nD → PrngReg), Pre_MixOutKIdeal m →
    θ_run (Cert.MixOutKIdeal.defs (F := Ideal)) (onTc (τ := Cert.MixOutKIdeal.τ) (Cert.MixOutKIdeal.main (F := Ideal))) ⟨m, fun _ => 0, g⟩ (fun r => (∀ c : Dev Cert.MixOutKIdeal.nD,
      r.2.mem ((c.tc : Thread Cert.MixOutKIdeal.nD Cert.MixOutKIdeal.τ).loc Cert.MixOutKIdeal.main_arg0) = m ((c.tc : Thread Cert.MixOutKIdeal.nD Cert.MixOutKIdeal.τ).loc Cert.MixOutKIdeal.main_arg0)
      ∧ r.2.mem ((c.tc : Thread Cert.MixOutKIdeal.nD Cert.MixOutKIdeal.τ).loc Cert.MixOutKIdeal.main_arg1) = m ((c.tc : Thread Cert.MixOutKIdeal.nD Cert.MixOutKIdeal.τ).loc Cert.MixOutKIdeal.main_arg1))
      ∧ r.2.sem = fun _ => 0)

def quiescent_MixOutRIdeal [hMixOutRIdeal : Cert.MixOutRIdeal.Facts] : Prop :=
  ∀ (m : (ℓ : Loc Cert.MixOutRIdeal.nD Cert.MixOutRIdeal.τ Cert.MixOutRIdeal.sig) → Buf (Elt Ideal) ℓ) (g : Dev Cert.MixOutRIdeal.nD → PrngReg), Pre_MixOutRIdeal m →
    θ_run (Cert.MixOutRIdeal.defs (F := Ideal)) (onTc (τ := Cert.MixOutRIdeal.τ) (Cert.MixOutRIdeal.main (F := Ideal))) ⟨m, fun _ => 0, g⟩ (fun r => (∀ c : Dev Cert.MixOutRIdeal.nD,
      r.2.mem ((c.tc : Thread Cert.MixOutRIdeal.nD Cert.MixOutRIdeal.τ).loc Cert.MixOutRIdeal.main_arg0) = m ((c.tc : Thread Cert.MixOutRIdeal.nD Cert.MixOutRIdeal.τ).loc Cert.MixOutRIdeal.main_arg0)
      ∧ r.2.mem ((c.tc : Thread Cert.MixOutRIdeal.nD Cert.MixOutRIdeal.τ).loc Cert.MixOutRIdeal.main_arg1) = m ((c.tc : Thread Cert.MixOutRIdeal.nD Cert.MixOutRIdeal.τ).loc Cert.MixOutRIdeal.main_arg1))
      ∧ r.2.sem = fun _ => 0)

def quiescent_AGateK [hAGateK : Cert.AGateK.Facts] : Prop :=
  ∀ (m : (ℓ : Loc Cert.AGateK.nD Cert.AGateK.τ Cert.AGateK.sig) → Buf (Elt Bits) ℓ) (g : Dev Cert.AGateK.nD → PrngReg), Pre_AGateK m →
    θ_run (Cert.AGateK.defs (F := Bits)) (onTc (τ := Cert.AGateK.τ) (Cert.AGateK.main (F := Bits))) ⟨m, fun _ => 0, g⟩ (fun r => (∀ c : Dev Cert.AGateK.nD,
      r.2.mem ((c.tc : Thread Cert.AGateK.nD Cert.AGateK.τ).loc Cert.AGateK.main_arg0) = m ((c.tc : Thread Cert.AGateK.nD Cert.AGateK.τ).loc Cert.AGateK.main_arg0)
      ∧ r.2.mem ((c.tc : Thread Cert.AGateK.nD Cert.AGateK.τ).loc Cert.AGateK.main_arg1) = m ((c.tc : Thread Cert.AGateK.nD Cert.AGateK.τ).loc Cert.AGateK.main_arg1)
      ∧ r.2.mem ((c.tc : Thread Cert.AGateK.nD Cert.AGateK.τ).loc Cert.AGateK.main_arg2) = m ((c.tc : Thread Cert.AGateK.nD Cert.AGateK.τ).loc Cert.AGateK.main_arg2)
      ∧ r.2.mem ((c.tc : Thread Cert.AGateK.nD Cert.AGateK.τ).loc Cert.AGateK.main_arg3) = m ((c.tc : Thread Cert.AGateK.nD Cert.AGateK.τ).loc Cert.AGateK.main_arg3)
      ∧ r.2.mem ((c.tc : Thread Cert.AGateK.nD Cert.AGateK.τ).loc Cert.AGateK.main_arg4) = m ((c.tc : Thread Cert.AGateK.nD Cert.AGateK.τ).loc Cert.AGateK.main_arg4))
      ∧ r.2.sem = fun _ => 0)

def quiescent_AGateKIdeal [hAGateKIdeal : Cert.AGateKIdeal.Facts] : Prop :=
  ∀ (m : (ℓ : Loc Cert.AGateKIdeal.nD Cert.AGateKIdeal.τ Cert.AGateKIdeal.sig) → Buf (Elt Ideal) ℓ) (g : Dev Cert.AGateKIdeal.nD → PrngReg), Pre_AGateKIdeal m →
    θ_run (Cert.AGateKIdeal.defs (F := Ideal)) (onTc (τ := Cert.AGateKIdeal.τ) (Cert.AGateKIdeal.main (F := Ideal))) ⟨m, fun _ => 0, g⟩ (fun r => (∀ c : Dev Cert.AGateKIdeal.nD,
      r.2.mem ((c.tc : Thread Cert.AGateKIdeal.nD Cert.AGateKIdeal.τ).loc Cert.AGateKIdeal.main_arg0) = m ((c.tc : Thread Cert.AGateKIdeal.nD Cert.AGateKIdeal.τ).loc Cert.AGateKIdeal.main_arg0)
      ∧ r.2.mem ((c.tc : Thread Cert.AGateKIdeal.nD Cert.AGateKIdeal.τ).loc Cert.AGateKIdeal.main_arg1) = m ((c.tc : Thread Cert.AGateKIdeal.nD Cert.AGateKIdeal.τ).loc Cert.AGateKIdeal.main_arg1)
      ∧ r.2.mem ((c.tc : Thread Cert.AGateKIdeal.nD Cert.AGateKIdeal.τ).loc Cert.AGateKIdeal.main_arg2) = m ((c.tc : Thread Cert.AGateKIdeal.nD Cert.AGateKIdeal.τ).loc Cert.AGateKIdeal.main_arg2)
      ∧ r.2.mem ((c.tc : Thread Cert.AGateKIdeal.nD Cert.AGateKIdeal.τ).loc Cert.AGateKIdeal.main_arg3) = m ((c.tc : Thread Cert.AGateKIdeal.nD Cert.AGateKIdeal.τ).loc Cert.AGateKIdeal.main_arg3)
      ∧ r.2.mem ((c.tc : Thread Cert.AGateKIdeal.nD Cert.AGateKIdeal.τ).loc Cert.AGateKIdeal.main_arg4) = m ((c.tc : Thread Cert.AGateKIdeal.nD Cert.AGateKIdeal.τ).loc Cert.AGateKIdeal.main_arg4))
      ∧ r.2.sem = fun _ => 0)

def quiescent_AGateRIdeal [hAGateRIdeal : Cert.AGateRIdeal.Facts] : Prop :=
  ∀ (m : (ℓ : Loc Cert.AGateRIdeal.nD Cert.AGateRIdeal.τ Cert.AGateRIdeal.sig) → Buf (Elt Ideal) ℓ) (g : Dev Cert.AGateRIdeal.nD → PrngReg), Pre_AGateRIdeal m →
    θ_run (Cert.AGateRIdeal.defs (F := Ideal)) (onTc (τ := Cert.AGateRIdeal.τ) (Cert.AGateRIdeal.main (F := Ideal))) ⟨m, fun _ => 0, g⟩ (fun r => (∀ c : Dev Cert.AGateRIdeal.nD,
      r.2.mem ((c.tc : Thread Cert.AGateRIdeal.nD Cert.AGateRIdeal.τ).loc Cert.AGateRIdeal.main_arg0) = m ((c.tc : Thread Cert.AGateRIdeal.nD Cert.AGateRIdeal.τ).loc Cert.AGateRIdeal.main_arg0)
      ∧ r.2.mem ((c.tc : Thread Cert.AGateRIdeal.nD Cert.AGateRIdeal.τ).loc Cert.AGateRIdeal.main_arg1) = m ((c.tc : Thread Cert.AGateRIdeal.nD Cert.AGateRIdeal.τ).loc Cert.AGateRIdeal.main_arg1)
      ∧ r.2.mem ((c.tc : Thread Cert.AGateRIdeal.nD Cert.AGateRIdeal.τ).loc Cert.AGateRIdeal.main_arg2) = m ((c.tc : Thread Cert.AGateRIdeal.nD Cert.AGateRIdeal.τ).loc Cert.AGateRIdeal.main_arg2)
      ∧ r.2.mem ((c.tc : Thread Cert.AGateRIdeal.nD Cert.AGateRIdeal.τ).loc Cert.AGateRIdeal.main_arg3) = m ((c.tc : Thread Cert.AGateRIdeal.nD Cert.AGateRIdeal.τ).loc Cert.AGateRIdeal.main_arg3)
      ∧ r.2.mem ((c.tc : Thread Cert.AGateRIdeal.nD Cert.AGateRIdeal.τ).loc Cert.AGateRIdeal.main_arg4) = m ((c.tc : Thread Cert.AGateRIdeal.nD Cert.AGateRIdeal.τ).loc Cert.AGateRIdeal.main_arg4))
      ∧ r.2.sem = fun _ => 0)

def quiescent_PreDxK [hPreDxK : Cert.PreDxK.Facts] : Prop :=
  ∀ (m : (ℓ : Loc Cert.PreDxK.nD Cert.PreDxK.τ Cert.PreDxK.sig) → Buf (Elt Bits) ℓ) (g : Dev Cert.PreDxK.nD → PrngReg), Pre_PreDxK m →
    θ_run (Cert.PreDxK.defs (F := Bits)) (onTc (τ := Cert.PreDxK.τ) (Cert.PreDxK.main (F := Bits))) ⟨m, fun _ => 0, g⟩ (fun r => (∀ c : Dev Cert.PreDxK.nD,
      r.2.mem ((c.tc : Thread Cert.PreDxK.nD Cert.PreDxK.τ).loc Cert.PreDxK.main_arg0) = m ((c.tc : Thread Cert.PreDxK.nD Cert.PreDxK.τ).loc Cert.PreDxK.main_arg0)
      ∧ r.2.mem ((c.tc : Thread Cert.PreDxK.nD Cert.PreDxK.τ).loc Cert.PreDxK.main_arg1) = m ((c.tc : Thread Cert.PreDxK.nD Cert.PreDxK.τ).loc Cert.PreDxK.main_arg1)
      ∧ r.2.mem ((c.tc : Thread Cert.PreDxK.nD Cert.PreDxK.τ).loc Cert.PreDxK.main_arg2) = m ((c.tc : Thread Cert.PreDxK.nD Cert.PreDxK.τ).loc Cert.PreDxK.main_arg2)
      ∧ r.2.mem ((c.tc : Thread Cert.PreDxK.nD Cert.PreDxK.τ).loc Cert.PreDxK.main_arg3) = m ((c.tc : Thread Cert.PreDxK.nD Cert.PreDxK.τ).loc Cert.PreDxK.main_arg3))
      ∧ r.2.sem = fun _ => 0)

def quiescent_PreDxKIdeal [hPreDxKIdeal : Cert.PreDxKIdeal.Facts] : Prop :=
  ∀ (m : (ℓ : Loc Cert.PreDxKIdeal.nD Cert.PreDxKIdeal.τ Cert.PreDxKIdeal.sig) → Buf (Elt Ideal) ℓ) (g : Dev Cert.PreDxKIdeal.nD → PrngReg), Pre_PreDxKIdeal m →
    θ_run (Cert.PreDxKIdeal.defs (F := Ideal)) (onTc (τ := Cert.PreDxKIdeal.τ) (Cert.PreDxKIdeal.main (F := Ideal))) ⟨m, fun _ => 0, g⟩ (fun r => (∀ c : Dev Cert.PreDxKIdeal.nD,
      r.2.mem ((c.tc : Thread Cert.PreDxKIdeal.nD Cert.PreDxKIdeal.τ).loc Cert.PreDxKIdeal.main_arg0) = m ((c.tc : Thread Cert.PreDxKIdeal.nD Cert.PreDxKIdeal.τ).loc Cert.PreDxKIdeal.main_arg0)
      ∧ r.2.mem ((c.tc : Thread Cert.PreDxKIdeal.nD Cert.PreDxKIdeal.τ).loc Cert.PreDxKIdeal.main_arg1) = m ((c.tc : Thread Cert.PreDxKIdeal.nD Cert.PreDxKIdeal.τ).loc Cert.PreDxKIdeal.main_arg1)
      ∧ r.2.mem ((c.tc : Thread Cert.PreDxKIdeal.nD Cert.PreDxKIdeal.τ).loc Cert.PreDxKIdeal.main_arg2) = m ((c.tc : Thread Cert.PreDxKIdeal.nD Cert.PreDxKIdeal.τ).loc Cert.PreDxKIdeal.main_arg2)
      ∧ r.2.mem ((c.tc : Thread Cert.PreDxKIdeal.nD Cert.PreDxKIdeal.τ).loc Cert.PreDxKIdeal.main_arg3) = m ((c.tc : Thread Cert.PreDxKIdeal.nD Cert.PreDxKIdeal.τ).loc Cert.PreDxKIdeal.main_arg3))
      ∧ r.2.sem = fun _ => 0)

def quiescent_PreDxRIdeal [hPreDxRIdeal : Cert.PreDxRIdeal.Facts] : Prop :=
  ∀ (m : (ℓ : Loc Cert.PreDxRIdeal.nD Cert.PreDxRIdeal.τ Cert.PreDxRIdeal.sig) → Buf (Elt Ideal) ℓ) (g : Dev Cert.PreDxRIdeal.nD → PrngReg), Pre_PreDxRIdeal m →
    θ_run (Cert.PreDxRIdeal.defs (F := Ideal)) (onTc (τ := Cert.PreDxRIdeal.τ) (Cert.PreDxRIdeal.main (F := Ideal))) ⟨m, fun _ => 0, g⟩ (fun r => (∀ c : Dev Cert.PreDxRIdeal.nD,
      r.2.mem ((c.tc : Thread Cert.PreDxRIdeal.nD Cert.PreDxRIdeal.τ).loc Cert.PreDxRIdeal.main_arg0) = m ((c.tc : Thread Cert.PreDxRIdeal.nD Cert.PreDxRIdeal.τ).loc Cert.PreDxRIdeal.main_arg0)
      ∧ r.2.mem ((c.tc : Thread Cert.PreDxRIdeal.nD Cert.PreDxRIdeal.τ).loc Cert.PreDxRIdeal.main_arg1) = m ((c.tc : Thread Cert.PreDxRIdeal.nD Cert.PreDxRIdeal.τ).loc Cert.PreDxRIdeal.main_arg1)
      ∧ r.2.mem ((c.tc : Thread Cert.PreDxRIdeal.nD Cert.PreDxRIdeal.τ).loc Cert.PreDxRIdeal.main_arg2) = m ((c.tc : Thread Cert.PreDxRIdeal.nD Cert.PreDxRIdeal.τ).loc Cert.PreDxRIdeal.main_arg2)
      ∧ r.2.mem ((c.tc : Thread Cert.PreDxRIdeal.nD Cert.PreDxRIdeal.τ).loc Cert.PreDxRIdeal.main_arg3) = m ((c.tc : Thread Cert.PreDxRIdeal.nD Cert.PreDxRIdeal.τ).loc Cert.PreDxRIdeal.main_arg3))
      ∧ r.2.sem = fun _ => 0)

def quiescent_CNormDxK [hCNormDxK : Cert.CNormDxK.Facts] : Prop :=
  ∀ (m : (ℓ : Loc Cert.CNormDxK.nD Cert.CNormDxK.τ Cert.CNormDxK.sig) → Buf (Elt Bits) ℓ) (g : Dev Cert.CNormDxK.nD → PrngReg), Pre_CNormDxK m →
    θ_run (Cert.CNormDxK.defs (F := Bits)) (onTc (τ := Cert.CNormDxK.τ) (Cert.CNormDxK.main (F := Bits))) ⟨m, fun _ => 0, g⟩ (fun r => (∀ c : Dev Cert.CNormDxK.nD,
      r.2.mem ((c.tc : Thread Cert.CNormDxK.nD Cert.CNormDxK.τ).loc Cert.CNormDxK.main_arg0) = m ((c.tc : Thread Cert.CNormDxK.nD Cert.CNormDxK.τ).loc Cert.CNormDxK.main_arg0)
      ∧ r.2.mem ((c.tc : Thread Cert.CNormDxK.nD Cert.CNormDxK.τ).loc Cert.CNormDxK.main_arg1) = m ((c.tc : Thread Cert.CNormDxK.nD Cert.CNormDxK.τ).loc Cert.CNormDxK.main_arg1)
      ∧ r.2.mem ((c.tc : Thread Cert.CNormDxK.nD Cert.CNormDxK.τ).loc Cert.CNormDxK.main_arg2) = m ((c.tc : Thread Cert.CNormDxK.nD Cert.CNormDxK.τ).loc Cert.CNormDxK.main_arg2)
      ∧ r.2.mem ((c.tc : Thread Cert.CNormDxK.nD Cert.CNormDxK.τ).loc Cert.CNormDxK.main_arg3) = m ((c.tc : Thread Cert.CNormDxK.nD Cert.CNormDxK.τ).loc Cert.CNormDxK.main_arg3))
      ∧ r.2.sem = fun _ => 0)

def quiescent_CNormDxKIdeal [hCNormDxKIdeal : Cert.CNormDxKIdeal.Facts] : Prop :=
  ∀ (m : (ℓ : Loc Cert.CNormDxKIdeal.nD Cert.CNormDxKIdeal.τ Cert.CNormDxKIdeal.sig) → Buf (Elt Ideal) ℓ) (g : Dev Cert.CNormDxKIdeal.nD → PrngReg), Pre_CNormDxKIdeal m →
    θ_run (Cert.CNormDxKIdeal.defs (F := Ideal)) (onTc (τ := Cert.CNormDxKIdeal.τ) (Cert.CNormDxKIdeal.main (F := Ideal))) ⟨m, fun _ => 0, g⟩ (fun r => (∀ c : Dev Cert.CNormDxKIdeal.nD,
      r.2.mem ((c.tc : Thread Cert.CNormDxKIdeal.nD Cert.CNormDxKIdeal.τ).loc Cert.CNormDxKIdeal.main_arg0) = m ((c.tc : Thread Cert.CNormDxKIdeal.nD Cert.CNormDxKIdeal.τ).loc Cert.CNormDxKIdeal.main_arg0)
      ∧ r.2.mem ((c.tc : Thread Cert.CNormDxKIdeal.nD Cert.CNormDxKIdeal.τ).loc Cert.CNormDxKIdeal.main_arg1) = m ((c.tc : Thread Cert.CNormDxKIdeal.nD Cert.CNormDxKIdeal.τ).loc Cert.CNormDxKIdeal.main_arg1)
      ∧ r.2.mem ((c.tc : Thread Cert.CNormDxKIdeal.nD Cert.CNormDxKIdeal.τ).loc Cert.CNormDxKIdeal.main_arg2) = m ((c.tc : Thread Cert.CNormDxKIdeal.nD Cert.CNormDxKIdeal.τ).loc Cert.CNormDxKIdeal.main_arg2)
      ∧ r.2.mem ((c.tc : Thread Cert.CNormDxKIdeal.nD Cert.CNormDxKIdeal.τ).loc Cert.CNormDxKIdeal.main_arg3) = m ((c.tc : Thread Cert.CNormDxKIdeal.nD Cert.CNormDxKIdeal.τ).loc Cert.CNormDxKIdeal.main_arg3))
      ∧ r.2.sem = fun _ => 0)

def quiescent_CNormDxRIdeal [hCNormDxRIdeal : Cert.CNormDxRIdeal.Facts] : Prop :=
  ∀ (m : (ℓ : Loc Cert.CNormDxRIdeal.nD Cert.CNormDxRIdeal.τ Cert.CNormDxRIdeal.sig) → Buf (Elt Ideal) ℓ) (g : Dev Cert.CNormDxRIdeal.nD → PrngReg), Pre_CNormDxRIdeal m →
    θ_run (Cert.CNormDxRIdeal.defs (F := Ideal)) (onTc (τ := Cert.CNormDxRIdeal.τ) (Cert.CNormDxRIdeal.main (F := Ideal))) ⟨m, fun _ => 0, g⟩ (fun r => (∀ c : Dev Cert.CNormDxRIdeal.nD,
      r.2.mem ((c.tc : Thread Cert.CNormDxRIdeal.nD Cert.CNormDxRIdeal.τ).loc Cert.CNormDxRIdeal.main_arg0) = m ((c.tc : Thread Cert.CNormDxRIdeal.nD Cert.CNormDxRIdeal.τ).loc Cert.CNormDxRIdeal.main_arg0)
      ∧ r.2.mem ((c.tc : Thread Cert.CNormDxRIdeal.nD Cert.CNormDxRIdeal.τ).loc Cert.CNormDxRIdeal.main_arg1) = m ((c.tc : Thread Cert.CNormDxRIdeal.nD Cert.CNormDxRIdeal.τ).loc Cert.CNormDxRIdeal.main_arg1)
      ∧ r.2.mem ((c.tc : Thread Cert.CNormDxRIdeal.nD Cert.CNormDxRIdeal.τ).loc Cert.CNormDxRIdeal.main_arg2) = m ((c.tc : Thread Cert.CNormDxRIdeal.nD Cert.CNormDxRIdeal.τ).loc Cert.CNormDxRIdeal.main_arg2)
      ∧ r.2.mem ((c.tc : Thread Cert.CNormDxRIdeal.nD Cert.CNormDxRIdeal.τ).loc Cert.CNormDxRIdeal.main_arg3) = m ((c.tc : Thread Cert.CNormDxRIdeal.nD Cert.CNormDxRIdeal.τ).loc Cert.CNormDxRIdeal.main_arg3))
      ∧ r.2.sem = fun _ => 0)

def quiescent_PostDxK [hPostDxK : Cert.PostDxK.Facts] : Prop :=
  ∀ (m : (ℓ : Loc Cert.PostDxK.nD Cert.PostDxK.τ Cert.PostDxK.sig) → Buf (Elt Bits) ℓ) (g : Dev Cert.PostDxK.nD → PrngReg), Pre_PostDxK m →
    θ_run (Cert.PostDxK.defs (F := Bits)) (onTc (τ := Cert.PostDxK.τ) (Cert.PostDxK.main (F := Bits))) ⟨m, fun _ => 0, g⟩ (fun r => (∀ c : Dev Cert.PostDxK.nD,
      r.2.mem ((c.tc : Thread Cert.PostDxK.nD Cert.PostDxK.τ).loc Cert.PostDxK.main_arg0) = m ((c.tc : Thread Cert.PostDxK.nD Cert.PostDxK.τ).loc Cert.PostDxK.main_arg0)
      ∧ r.2.mem ((c.tc : Thread Cert.PostDxK.nD Cert.PostDxK.τ).loc Cert.PostDxK.main_arg1) = m ((c.tc : Thread Cert.PostDxK.nD Cert.PostDxK.τ).loc Cert.PostDxK.main_arg1)
      ∧ r.2.mem ((c.tc : Thread Cert.PostDxK.nD Cert.PostDxK.τ).loc Cert.PostDxK.main_arg2) = m ((c.tc : Thread Cert.PostDxK.nD Cert.PostDxK.τ).loc Cert.PostDxK.main_arg2)
      ∧ r.2.mem ((c.tc : Thread Cert.PostDxK.nD Cert.PostDxK.τ).loc Cert.PostDxK.main_arg3) = m ((c.tc : Thread Cert.PostDxK.nD Cert.PostDxK.τ).loc Cert.PostDxK.main_arg3)
      ∧ r.2.mem ((c.tc : Thread Cert.PostDxK.nD Cert.PostDxK.τ).loc Cert.PostDxK.main_arg4) = m ((c.tc : Thread Cert.PostDxK.nD Cert.PostDxK.τ).loc Cert.PostDxK.main_arg4)
      ∧ r.2.mem ((c.tc : Thread Cert.PostDxK.nD Cert.PostDxK.τ).loc Cert.PostDxK.main_arg5) = m ((c.tc : Thread Cert.PostDxK.nD Cert.PostDxK.τ).loc Cert.PostDxK.main_arg5))
      ∧ r.2.sem = fun _ => 0)

def quiescent_PostDxKIdeal [hPostDxKIdeal : Cert.PostDxKIdeal.Facts] : Prop :=
  ∀ (m : (ℓ : Loc Cert.PostDxKIdeal.nD Cert.PostDxKIdeal.τ Cert.PostDxKIdeal.sig) → Buf (Elt Ideal) ℓ) (g : Dev Cert.PostDxKIdeal.nD → PrngReg), Pre_PostDxKIdeal m →
    θ_run (Cert.PostDxKIdeal.defs (F := Ideal)) (onTc (τ := Cert.PostDxKIdeal.τ) (Cert.PostDxKIdeal.main (F := Ideal))) ⟨m, fun _ => 0, g⟩ (fun r => (∀ c : Dev Cert.PostDxKIdeal.nD,
      r.2.mem ((c.tc : Thread Cert.PostDxKIdeal.nD Cert.PostDxKIdeal.τ).loc Cert.PostDxKIdeal.main_arg0) = m ((c.tc : Thread Cert.PostDxKIdeal.nD Cert.PostDxKIdeal.τ).loc Cert.PostDxKIdeal.main_arg0)
      ∧ r.2.mem ((c.tc : Thread Cert.PostDxKIdeal.nD Cert.PostDxKIdeal.τ).loc Cert.PostDxKIdeal.main_arg1) = m ((c.tc : Thread Cert.PostDxKIdeal.nD Cert.PostDxKIdeal.τ).loc Cert.PostDxKIdeal.main_arg1)
      ∧ r.2.mem ((c.tc : Thread Cert.PostDxKIdeal.nD Cert.PostDxKIdeal.τ).loc Cert.PostDxKIdeal.main_arg2) = m ((c.tc : Thread Cert.PostDxKIdeal.nD Cert.PostDxKIdeal.τ).loc Cert.PostDxKIdeal.main_arg2)
      ∧ r.2.mem ((c.tc : Thread Cert.PostDxKIdeal.nD Cert.PostDxKIdeal.τ).loc Cert.PostDxKIdeal.main_arg3) = m ((c.tc : Thread Cert.PostDxKIdeal.nD Cert.PostDxKIdeal.τ).loc Cert.PostDxKIdeal.main_arg3)
      ∧ r.2.mem ((c.tc : Thread Cert.PostDxKIdeal.nD Cert.PostDxKIdeal.τ).loc Cert.PostDxKIdeal.main_arg4) = m ((c.tc : Thread Cert.PostDxKIdeal.nD Cert.PostDxKIdeal.τ).loc Cert.PostDxKIdeal.main_arg4)
      ∧ r.2.mem ((c.tc : Thread Cert.PostDxKIdeal.nD Cert.PostDxKIdeal.τ).loc Cert.PostDxKIdeal.main_arg5) = m ((c.tc : Thread Cert.PostDxKIdeal.nD Cert.PostDxKIdeal.τ).loc Cert.PostDxKIdeal.main_arg5))
      ∧ r.2.sem = fun _ => 0)

def quiescent_PostDxRIdeal [hPostDxRIdeal : Cert.PostDxRIdeal.Facts] : Prop :=
  ∀ (m : (ℓ : Loc Cert.PostDxRIdeal.nD Cert.PostDxRIdeal.τ Cert.PostDxRIdeal.sig) → Buf (Elt Ideal) ℓ) (g : Dev Cert.PostDxRIdeal.nD → PrngReg), Pre_PostDxRIdeal m →
    θ_run (Cert.PostDxRIdeal.defs (F := Ideal)) (onTc (τ := Cert.PostDxRIdeal.τ) (Cert.PostDxRIdeal.main (F := Ideal))) ⟨m, fun _ => 0, g⟩ (fun r => (∀ c : Dev Cert.PostDxRIdeal.nD,
      r.2.mem ((c.tc : Thread Cert.PostDxRIdeal.nD Cert.PostDxRIdeal.τ).loc Cert.PostDxRIdeal.main_arg0) = m ((c.tc : Thread Cert.PostDxRIdeal.nD Cert.PostDxRIdeal.τ).loc Cert.PostDxRIdeal.main_arg0)
      ∧ r.2.mem ((c.tc : Thread Cert.PostDxRIdeal.nD Cert.PostDxRIdeal.τ).loc Cert.PostDxRIdeal.main_arg1) = m ((c.tc : Thread Cert.PostDxRIdeal.nD Cert.PostDxRIdeal.τ).loc Cert.PostDxRIdeal.main_arg1)
      ∧ r.2.mem ((c.tc : Thread Cert.PostDxRIdeal.nD Cert.PostDxRIdeal.τ).loc Cert.PostDxRIdeal.main_arg2) = m ((c.tc : Thread Cert.PostDxRIdeal.nD Cert.PostDxRIdeal.τ).loc Cert.PostDxRIdeal.main_arg2)
      ∧ r.2.mem ((c.tc : Thread Cert.PostDxRIdeal.nD Cert.PostDxRIdeal.τ).loc Cert.PostDxRIdeal.main_arg3) = m ((c.tc : Thread Cert.PostDxRIdeal.nD Cert.PostDxRIdeal.τ).loc Cert.PostDxRIdeal.main_arg3)
      ∧ r.2.mem ((c.tc : Thread Cert.PostDxRIdeal.nD Cert.PostDxRIdeal.τ).loc Cert.PostDxRIdeal.main_arg4) = m ((c.tc : Thread Cert.PostDxRIdeal.nD Cert.PostDxRIdeal.τ).loc Cert.PostDxRIdeal.main_arg4)
      ∧ r.2.mem ((c.tc : Thread Cert.PostDxRIdeal.nD Cert.PostDxRIdeal.τ).loc Cert.PostDxRIdeal.main_arg5) = m ((c.tc : Thread Cert.PostDxRIdeal.nD Cert.PostDxRIdeal.τ).loc Cert.PostDxRIdeal.main_arg5))
      ∧ r.2.sem = fun _ => 0)

def quiescent_PreK [hPreK : Cert.PreK.Facts] : Prop :=
  ∀ (m : (ℓ : Loc Cert.PreK.nD Cert.PreK.τ Cert.PreK.sig) → Buf (Elt Bits) ℓ) (g : Dev Cert.PreK.nD → PrngReg), Pre_PreK m →
    θ_run (Cert.PreK.defs (F := Bits)) (onTc (τ := Cert.PreK.τ) (Cert.PreK.main (F := Bits))) ⟨m, fun _ => 0, g⟩ (fun r => (∀ c : Dev Cert.PreK.nD,
      r.2.mem ((c.tc : Thread Cert.PreK.nD Cert.PreK.τ).loc Cert.PreK.main_arg0) = m ((c.tc : Thread Cert.PreK.nD Cert.PreK.τ).loc Cert.PreK.main_arg0)
      ∧ r.2.mem ((c.tc : Thread Cert.PreK.nD Cert.PreK.τ).loc Cert.PreK.main_arg1) = m ((c.tc : Thread Cert.PreK.nD Cert.PreK.τ).loc Cert.PreK.main_arg1))
      ∧ r.2.sem = fun _ => 0)

def quiescent_PreKIdeal [hPreKIdeal : Cert.PreKIdeal.Facts] : Prop :=
  ∀ (m : (ℓ : Loc Cert.PreKIdeal.nD Cert.PreKIdeal.τ Cert.PreKIdeal.sig) → Buf (Elt Ideal) ℓ) (g : Dev Cert.PreKIdeal.nD → PrngReg), Pre_PreKIdeal m →
    θ_run (Cert.PreKIdeal.defs (F := Ideal)) (onTc (τ := Cert.PreKIdeal.τ) (Cert.PreKIdeal.main (F := Ideal))) ⟨m, fun _ => 0, g⟩ (fun r => (∀ c : Dev Cert.PreKIdeal.nD,
      r.2.mem ((c.tc : Thread Cert.PreKIdeal.nD Cert.PreKIdeal.τ).loc Cert.PreKIdeal.main_arg0) = m ((c.tc : Thread Cert.PreKIdeal.nD Cert.PreKIdeal.τ).loc Cert.PreKIdeal.main_arg0)
      ∧ r.2.mem ((c.tc : Thread Cert.PreKIdeal.nD Cert.PreKIdeal.τ).loc Cert.PreKIdeal.main_arg1) = m ((c.tc : Thread Cert.PreKIdeal.nD Cert.PreKIdeal.τ).loc Cert.PreKIdeal.main_arg1))
      ∧ r.2.sem = fun _ => 0)

def quiescent_PreRIdeal [hPreRIdeal : Cert.PreRIdeal.Facts] : Prop :=
  ∀ (m : (ℓ : Loc Cert.PreRIdeal.nD Cert.PreRIdeal.τ Cert.PreRIdeal.sig) → Buf (Elt Ideal) ℓ) (g : Dev Cert.PreRIdeal.nD → PrngReg), Pre_PreRIdeal m →
    θ_run (Cert.PreRIdeal.defs (F := Ideal)) (onTc (τ := Cert.PreRIdeal.τ) (Cert.PreRIdeal.main (F := Ideal))) ⟨m, fun _ => 0, g⟩ (fun r => (∀ c : Dev Cert.PreRIdeal.nD,
      r.2.mem ((c.tc : Thread Cert.PreRIdeal.nD Cert.PreRIdeal.τ).loc Cert.PreRIdeal.main_arg0) = m ((c.tc : Thread Cert.PreRIdeal.nD Cert.PreRIdeal.τ).loc Cert.PreRIdeal.main_arg0)
      ∧ r.2.mem ((c.tc : Thread Cert.PreRIdeal.nD Cert.PreRIdeal.τ).loc Cert.PreRIdeal.main_arg1) = m ((c.tc : Thread Cert.PreRIdeal.nD Cert.PreRIdeal.τ).loc Cert.PreRIdeal.main_arg1))
      ∧ r.2.sem = fun _ => 0)

def quiescent_CNormK [hCNormK : Cert.CNormK.Facts] : Prop :=
  ∀ (m : (ℓ : Loc Cert.CNormK.nD Cert.CNormK.τ Cert.CNormK.sig) → Buf (Elt Bits) ℓ) (g : Dev Cert.CNormK.nD → PrngReg), Pre_CNormK m →
    θ_run (Cert.CNormK.defs (F := Bits)) (onTc (τ := Cert.CNormK.τ) (Cert.CNormK.main (F := Bits))) ⟨m, fun _ => 0, g⟩ (fun r => (∀ c : Dev Cert.CNormK.nD,
      r.2.mem ((c.tc : Thread Cert.CNormK.nD Cert.CNormK.τ).loc Cert.CNormK.main_arg0) = m ((c.tc : Thread Cert.CNormK.nD Cert.CNormK.τ).loc Cert.CNormK.main_arg0)
      ∧ r.2.mem ((c.tc : Thread Cert.CNormK.nD Cert.CNormK.τ).loc Cert.CNormK.main_arg1) = m ((c.tc : Thread Cert.CNormK.nD Cert.CNormK.τ).loc Cert.CNormK.main_arg1)
      ∧ r.2.mem ((c.tc : Thread Cert.CNormK.nD Cert.CNormK.τ).loc Cert.CNormK.main_arg2) = m ((c.tc : Thread Cert.CNormK.nD Cert.CNormK.τ).loc Cert.CNormK.main_arg2))
      ∧ r.2.sem = fun _ => 0)

def quiescent_CNormKIdeal [hCNormKIdeal : Cert.CNormKIdeal.Facts] : Prop :=
  ∀ (m : (ℓ : Loc Cert.CNormKIdeal.nD Cert.CNormKIdeal.τ Cert.CNormKIdeal.sig) → Buf (Elt Ideal) ℓ) (g : Dev Cert.CNormKIdeal.nD → PrngReg), Pre_CNormKIdeal m →
    θ_run (Cert.CNormKIdeal.defs (F := Ideal)) (onTc (τ := Cert.CNormKIdeal.τ) (Cert.CNormKIdeal.main (F := Ideal))) ⟨m, fun _ => 0, g⟩ (fun r => (∀ c : Dev Cert.CNormKIdeal.nD,
      r.2.mem ((c.tc : Thread Cert.CNormKIdeal.nD Cert.CNormKIdeal.τ).loc Cert.CNormKIdeal.main_arg0) = m ((c.tc : Thread Cert.CNormKIdeal.nD Cert.CNormKIdeal.τ).loc Cert.CNormKIdeal.main_arg0)
      ∧ r.2.mem ((c.tc : Thread Cert.CNormKIdeal.nD Cert.CNormKIdeal.τ).loc Cert.CNormKIdeal.main_arg1) = m ((c.tc : Thread Cert.CNormKIdeal.nD Cert.CNormKIdeal.τ).loc Cert.CNormKIdeal.main_arg1)
      ∧ r.2.mem ((c.tc : Thread Cert.CNormKIdeal.nD Cert.CNormKIdeal.τ).loc Cert.CNormKIdeal.main_arg2) = m ((c.tc : Thread Cert.CNormKIdeal.nD Cert.CNormKIdeal.τ).loc Cert.CNormKIdeal.main_arg2))
      ∧ r.2.sem = fun _ => 0)

def quiescent_CNormRIdeal [hCNormRIdeal : Cert.CNormRIdeal.Facts] : Prop :=
  ∀ (m : (ℓ : Loc Cert.CNormRIdeal.nD Cert.CNormRIdeal.τ Cert.CNormRIdeal.sig) → Buf (Elt Ideal) ℓ) (g : Dev Cert.CNormRIdeal.nD → PrngReg), Pre_CNormRIdeal m →
    θ_run (Cert.CNormRIdeal.defs (F := Ideal)) (onTc (τ := Cert.CNormRIdeal.τ) (Cert.CNormRIdeal.main (F := Ideal))) ⟨m, fun _ => 0, g⟩ (fun r => (∀ c : Dev Cert.CNormRIdeal.nD,
      r.2.mem ((c.tc : Thread Cert.CNormRIdeal.nD Cert.CNormRIdeal.τ).loc Cert.CNormRIdeal.main_arg0) = m ((c.tc : Thread Cert.CNormRIdeal.nD Cert.CNormRIdeal.τ).loc Cert.CNormRIdeal.main_arg0)
      ∧ r.2.mem ((c.tc : Thread Cert.CNormRIdeal.nD Cert.CNormRIdeal.τ).loc Cert.CNormRIdeal.main_arg1) = m ((c.tc : Thread Cert.CNormRIdeal.nD Cert.CNormRIdeal.τ).loc Cert.CNormRIdeal.main_arg1)
      ∧ r.2.mem ((c.tc : Thread Cert.CNormRIdeal.nD Cert.CNormRIdeal.τ).loc Cert.CNormRIdeal.main_arg2) = m ((c.tc : Thread Cert.CNormRIdeal.nD Cert.CNormRIdeal.τ).loc Cert.CNormRIdeal.main_arg2))
      ∧ r.2.sem = fun _ => 0)

def quiescent_PostK [hPostK : Cert.PostK.Facts] : Prop :=
  ∀ (m : (ℓ : Loc Cert.PostK.nD Cert.PostK.τ Cert.PostK.sig) → Buf (Elt Bits) ℓ) (g : Dev Cert.PostK.nD → PrngReg), Pre_PostK m →
    θ_run (Cert.PostK.defs (F := Bits)) (onTc (τ := Cert.PostK.τ) (Cert.PostK.main (F := Bits))) ⟨m, fun _ => 0, g⟩ (fun r => (∀ c : Dev Cert.PostK.nD,
      r.2.mem ((c.tc : Thread Cert.PostK.nD Cert.PostK.τ).loc Cert.PostK.main_arg0) = m ((c.tc : Thread Cert.PostK.nD Cert.PostK.τ).loc Cert.PostK.main_arg0)
      ∧ r.2.mem ((c.tc : Thread Cert.PostK.nD Cert.PostK.τ).loc Cert.PostK.main_arg1) = m ((c.tc : Thread Cert.PostK.nD Cert.PostK.τ).loc Cert.PostK.main_arg1)
      ∧ r.2.mem ((c.tc : Thread Cert.PostK.nD Cert.PostK.τ).loc Cert.PostK.main_arg2) = m ((c.tc : Thread Cert.PostK.nD Cert.PostK.τ).loc Cert.PostK.main_arg2)
      ∧ r.2.mem ((c.tc : Thread Cert.PostK.nD Cert.PostK.τ).loc Cert.PostK.main_arg3) = m ((c.tc : Thread Cert.PostK.nD Cert.PostK.τ).loc Cert.PostK.main_arg3))
      ∧ r.2.sem = fun _ => 0)

def quiescent_PostKIdeal [hPostKIdeal : Cert.PostKIdeal.Facts] : Prop :=
  ∀ (m : (ℓ : Loc Cert.PostKIdeal.nD Cert.PostKIdeal.τ Cert.PostKIdeal.sig) → Buf (Elt Ideal) ℓ) (g : Dev Cert.PostKIdeal.nD → PrngReg), Pre_PostKIdeal m →
    θ_run (Cert.PostKIdeal.defs (F := Ideal)) (onTc (τ := Cert.PostKIdeal.τ) (Cert.PostKIdeal.main (F := Ideal))) ⟨m, fun _ => 0, g⟩ (fun r => (∀ c : Dev Cert.PostKIdeal.nD,
      r.2.mem ((c.tc : Thread Cert.PostKIdeal.nD Cert.PostKIdeal.τ).loc Cert.PostKIdeal.main_arg0) = m ((c.tc : Thread Cert.PostKIdeal.nD Cert.PostKIdeal.τ).loc Cert.PostKIdeal.main_arg0)
      ∧ r.2.mem ((c.tc : Thread Cert.PostKIdeal.nD Cert.PostKIdeal.τ).loc Cert.PostKIdeal.main_arg1) = m ((c.tc : Thread Cert.PostKIdeal.nD Cert.PostKIdeal.τ).loc Cert.PostKIdeal.main_arg1)
      ∧ r.2.mem ((c.tc : Thread Cert.PostKIdeal.nD Cert.PostKIdeal.τ).loc Cert.PostKIdeal.main_arg2) = m ((c.tc : Thread Cert.PostKIdeal.nD Cert.PostKIdeal.τ).loc Cert.PostKIdeal.main_arg2)
      ∧ r.2.mem ((c.tc : Thread Cert.PostKIdeal.nD Cert.PostKIdeal.τ).loc Cert.PostKIdeal.main_arg3) = m ((c.tc : Thread Cert.PostKIdeal.nD Cert.PostKIdeal.τ).loc Cert.PostKIdeal.main_arg3))
      ∧ r.2.sem = fun _ => 0)

def quiescent_PostRIdeal [hPostRIdeal : Cert.PostRIdeal.Facts] : Prop :=
  ∀ (m : (ℓ : Loc Cert.PostRIdeal.nD Cert.PostRIdeal.τ Cert.PostRIdeal.sig) → Buf (Elt Ideal) ℓ) (g : Dev Cert.PostRIdeal.nD → PrngReg), Pre_PostRIdeal m →
    θ_run (Cert.PostRIdeal.defs (F := Ideal)) (onTc (τ := Cert.PostRIdeal.τ) (Cert.PostRIdeal.main (F := Ideal))) ⟨m, fun _ => 0, g⟩ (fun r => (∀ c : Dev Cert.PostRIdeal.nD,
      r.2.mem ((c.tc : Thread Cert.PostRIdeal.nD Cert.PostRIdeal.τ).loc Cert.PostRIdeal.main_arg0) = m ((c.tc : Thread Cert.PostRIdeal.nD Cert.PostRIdeal.τ).loc Cert.PostRIdeal.main_arg0)
      ∧ r.2.mem ((c.tc : Thread Cert.PostRIdeal.nD Cert.PostRIdeal.τ).loc Cert.PostRIdeal.main_arg1) = m ((c.tc : Thread Cert.PostRIdeal.nD Cert.PostRIdeal.τ).loc Cert.PostRIdeal.main_arg1)
      ∧ r.2.mem ((c.tc : Thread Cert.PostRIdeal.nD Cert.PostRIdeal.τ).loc Cert.PostRIdeal.main_arg2) = m ((c.tc : Thread Cert.PostRIdeal.nD Cert.PostRIdeal.τ).loc Cert.PostRIdeal.main_arg2)
      ∧ r.2.mem ((c.tc : Thread Cert.PostRIdeal.nD Cert.PostRIdeal.τ).loc Cert.PostRIdeal.main_arg3) = m ((c.tc : Thread Cert.PostRIdeal.nD Cert.PostRIdeal.τ).loc Cert.PostRIdeal.main_arg3))
      ∧ r.2.sem = fun _ => 0)

def quiescent_OptSqK [hOptSqK : Cert.OptSqK.Facts] [hPre_pre30 : Cert.Pre_pre30.Facts] : Prop :=
  ∀ (m : (ℓ : Loc Cert.OptSqK.nD Cert.OptSqK.τ Cert.OptSqK.sig) → Buf (Elt Bits) ℓ) (g : Dev Cert.OptSqK.nD → PrngReg), Pre_OptSqK m →
    θ_run (Cert.OptSqK.defs (F := Bits)) (onTc (τ := Cert.OptSqK.τ) (Cert.OptSqK.main (F := Bits))) ⟨m, fun _ => 0, g⟩ (fun r => (∀ c : Dev Cert.OptSqK.nD,
      r.2.mem ((c.tc : Thread Cert.OptSqK.nD Cert.OptSqK.τ).loc Cert.OptSqK.main_arg0) = m ((c.tc : Thread Cert.OptSqK.nD Cert.OptSqK.τ).loc Cert.OptSqK.main_arg0)
      ∧ r.2.mem ((c.tc : Thread Cert.OptSqK.nD Cert.OptSqK.τ).loc Cert.OptSqK.main_arg1) = m ((c.tc : Thread Cert.OptSqK.nD Cert.OptSqK.τ).loc Cert.OptSqK.main_arg1)
      ∧ r.2.mem ((c.tc : Thread Cert.OptSqK.nD Cert.OptSqK.τ).loc Cert.OptSqK.main_arg2) = m ((c.tc : Thread Cert.OptSqK.nD Cert.OptSqK.τ).loc Cert.OptSqK.main_arg2)
      ∧ r.2.mem ((c.tc : Thread Cert.OptSqK.nD Cert.OptSqK.τ).loc Cert.OptSqK.main_arg3) = m ((c.tc : Thread Cert.OptSqK.nD Cert.OptSqK.τ).loc Cert.OptSqK.main_arg3)
      ∧ r.2.mem ((c.tc : Thread Cert.OptSqK.nD Cert.OptSqK.τ).loc Cert.OptSqK.main_arg4) = m ((c.tc : Thread Cert.OptSqK.nD Cert.OptSqK.τ).loc Cert.OptSqK.main_arg4)
      ∧ r.2.mem ((c.tc : Thread Cert.OptSqK.nD Cert.OptSqK.τ).loc Cert.OptSqK.main_arg5) = m ((c.tc : Thread Cert.OptSqK.nD Cert.OptSqK.τ).loc Cert.OptSqK.main_arg5))
      ∧ r.2.sem = fun _ => 0)

def quiescent_OptSqKIdeal [hOptSqKIdeal : Cert.OptSqKIdeal.Facts] [hPre_pre30 : Cert.Pre_pre30.Facts] : Prop :=
  ∀ (m : (ℓ : Loc Cert.OptSqKIdeal.nD Cert.OptSqKIdeal.τ Cert.OptSqKIdeal.sig) → Buf (Elt Ideal) ℓ) (g : Dev Cert.OptSqKIdeal.nD → PrngReg), Pre_OptSqKIdeal m →
    θ_run (Cert.OptSqKIdeal.defs (F := Ideal)) (onTc (τ := Cert.OptSqKIdeal.τ) (Cert.OptSqKIdeal.main (F := Ideal))) ⟨m, fun _ => 0, g⟩ (fun r => (∀ c : Dev Cert.OptSqKIdeal.nD,
      r.2.mem ((c.tc : Thread Cert.OptSqKIdeal.nD Cert.OptSqKIdeal.τ).loc Cert.OptSqKIdeal.main_arg0) = m ((c.tc : Thread Cert.OptSqKIdeal.nD Cert.OptSqKIdeal.τ).loc Cert.OptSqKIdeal.main_arg0)
      ∧ r.2.mem ((c.tc : Thread Cert.OptSqKIdeal.nD Cert.OptSqKIdeal.τ).loc Cert.OptSqKIdeal.main_arg1) = m ((c.tc : Thread Cert.OptSqKIdeal.nD Cert.OptSqKIdeal.τ).loc Cert.OptSqKIdeal.main_arg1)
      ∧ r.2.mem ((c.tc : Thread Cert.OptSqKIdeal.nD Cert.OptSqKIdeal.τ).loc Cert.OptSqKIdeal.main_arg2) = m ((c.tc : Thread Cert.OptSqKIdeal.nD Cert.OptSqKIdeal.τ).loc Cert.OptSqKIdeal.main_arg2)
      ∧ r.2.mem ((c.tc : Thread Cert.OptSqKIdeal.nD Cert.OptSqKIdeal.τ).loc Cert.OptSqKIdeal.main_arg3) = m ((c.tc : Thread Cert.OptSqKIdeal.nD Cert.OptSqKIdeal.τ).loc Cert.OptSqKIdeal.main_arg3)
      ∧ r.2.mem ((c.tc : Thread Cert.OptSqKIdeal.nD Cert.OptSqKIdeal.τ).loc Cert.OptSqKIdeal.main_arg4) = m ((c.tc : Thread Cert.OptSqKIdeal.nD Cert.OptSqKIdeal.τ).loc Cert.OptSqKIdeal.main_arg4)
      ∧ r.2.mem ((c.tc : Thread Cert.OptSqKIdeal.nD Cert.OptSqKIdeal.τ).loc Cert.OptSqKIdeal.main_arg5) = m ((c.tc : Thread Cert.OptSqKIdeal.nD Cert.OptSqKIdeal.τ).loc Cert.OptSqKIdeal.main_arg5))
      ∧ r.2.sem = fun _ => 0)

def quiescent_OptSqRIdeal [hOptSqRIdeal : Cert.OptSqRIdeal.Facts] : Prop :=
  ∀ (m : (ℓ : Loc Cert.OptSqRIdeal.nD Cert.OptSqRIdeal.τ Cert.OptSqRIdeal.sig) → Buf (Elt Ideal) ℓ) (g : Dev Cert.OptSqRIdeal.nD → PrngReg), Pre_OptSqRIdeal m →
    θ_run (Cert.OptSqRIdeal.defs (F := Ideal)) (onTc (τ := Cert.OptSqRIdeal.τ) (Cert.OptSqRIdeal.main (F := Ideal))) ⟨m, fun _ => 0, g⟩ (fun r => (∀ c : Dev Cert.OptSqRIdeal.nD,
      r.2.mem ((c.tc : Thread Cert.OptSqRIdeal.nD Cert.OptSqRIdeal.τ).loc Cert.OptSqRIdeal.main_arg0) = m ((c.tc : Thread Cert.OptSqRIdeal.nD Cert.OptSqRIdeal.τ).loc Cert.OptSqRIdeal.main_arg0)
      ∧ r.2.mem ((c.tc : Thread Cert.OptSqRIdeal.nD Cert.OptSqRIdeal.τ).loc Cert.OptSqRIdeal.main_arg1) = m ((c.tc : Thread Cert.OptSqRIdeal.nD Cert.OptSqRIdeal.τ).loc Cert.OptSqRIdeal.main_arg1)
      ∧ r.2.mem ((c.tc : Thread Cert.OptSqRIdeal.nD Cert.OptSqRIdeal.τ).loc Cert.OptSqRIdeal.main_arg2) = m ((c.tc : Thread Cert.OptSqRIdeal.nD Cert.OptSqRIdeal.τ).loc Cert.OptSqRIdeal.main_arg2)
      ∧ r.2.mem ((c.tc : Thread Cert.OptSqRIdeal.nD Cert.OptSqRIdeal.τ).loc Cert.OptSqRIdeal.main_arg3) = m ((c.tc : Thread Cert.OptSqRIdeal.nD Cert.OptSqRIdeal.τ).loc Cert.OptSqRIdeal.main_arg3)
      ∧ r.2.mem ((c.tc : Thread Cert.OptSqRIdeal.nD Cert.OptSqRIdeal.τ).loc Cert.OptSqRIdeal.main_arg4) = m ((c.tc : Thread Cert.OptSqRIdeal.nD Cert.OptSqRIdeal.τ).loc Cert.OptSqRIdeal.main_arg4)
      ∧ r.2.mem ((c.tc : Thread Cert.OptSqRIdeal.nD Cert.OptSqRIdeal.τ).loc Cert.OptSqRIdeal.main_arg5) = m ((c.tc : Thread Cert.OptSqRIdeal.nD Cert.OptSqRIdeal.τ).loc Cert.OptSqRIdeal.main_arg5))
      ∧ r.2.sem = fun _ => 0)

def quiescent_OptSqRIdeal_pre_pre30 [hOptSqRIdeal : Cert.OptSqRIdeal.Facts] [hPre_pre30 : Cert.Pre_pre30.Facts] : Prop :=
  ∀ (m : (ℓ : Loc Cert.OptSqRIdeal.nD Cert.OptSqRIdeal.τ Cert.OptSqRIdeal.sig) → Buf (Elt Ideal) ℓ) (g : Dev Cert.OptSqRIdeal.nD → PrngReg), Pre_OptSqRIdeal_pre30 m →
    θ_run (Cert.OptSqRIdeal.defs (F := Ideal)) (onTc (τ := Cert.OptSqRIdeal.τ) (Cert.OptSqRIdeal.main (F := Ideal))) ⟨m, fun _ => 0, g⟩ (fun r => (∀ c : Dev Cert.OptSqRIdeal.nD,
      r.2.mem ((c.tc : Thread Cert.OptSqRIdeal.nD Cert.OptSqRIdeal.τ).loc Cert.OptSqRIdeal.main_arg0) = m ((c.tc : Thread Cert.OptSqRIdeal.nD Cert.OptSqRIdeal.τ).loc Cert.OptSqRIdeal.main_arg0)
      ∧ r.2.mem ((c.tc : Thread Cert.OptSqRIdeal.nD Cert.OptSqRIdeal.τ).loc Cert.OptSqRIdeal.main_arg1) = m ((c.tc : Thread Cert.OptSqRIdeal.nD Cert.OptSqRIdeal.τ).loc Cert.OptSqRIdeal.main_arg1)
      ∧ r.2.mem ((c.tc : Thread Cert.OptSqRIdeal.nD Cert.OptSqRIdeal.τ).loc Cert.OptSqRIdeal.main_arg2) = m ((c.tc : Thread Cert.OptSqRIdeal.nD Cert.OptSqRIdeal.τ).loc Cert.OptSqRIdeal.main_arg2)
      ∧ r.2.mem ((c.tc : Thread Cert.OptSqRIdeal.nD Cert.OptSqRIdeal.τ).loc Cert.OptSqRIdeal.main_arg3) = m ((c.tc : Thread Cert.OptSqRIdeal.nD Cert.OptSqRIdeal.τ).loc Cert.OptSqRIdeal.main_arg3)
      ∧ r.2.mem ((c.tc : Thread Cert.OptSqRIdeal.nD Cert.OptSqRIdeal.τ).loc Cert.OptSqRIdeal.main_arg4) = m ((c.tc : Thread Cert.OptSqRIdeal.nD Cert.OptSqRIdeal.τ).loc Cert.OptSqRIdeal.main_arg4)
      ∧ r.2.mem ((c.tc : Thread Cert.OptSqRIdeal.nD Cert.OptSqRIdeal.τ).loc Cert.OptSqRIdeal.main_arg5) = m ((c.tc : Thread Cert.OptSqRIdeal.nD Cert.OptSqRIdeal.τ).loc Cert.OptSqRIdeal.main_arg5))
      ∧ r.2.sem = fun _ => 0)

def quiescent_OptFoutK [hOptFoutK : Cert.OptFoutK.Facts] [hPre_pre31 : Cert.Pre_pre31.Facts] : Prop :=
  ∀ (m : (ℓ : Loc Cert.OptFoutK.nD Cert.OptFoutK.τ Cert.OptFoutK.sig) → Buf (Elt Bits) ℓ) (g : Dev Cert.OptFoutK.nD → PrngReg), Pre_OptFoutK m →
    θ_run (Cert.OptFoutK.defs (F := Bits)) (onTc (τ := Cert.OptFoutK.τ) (Cert.OptFoutK.main (F := Bits))) ⟨m, fun _ => 0, g⟩ (fun r => (∀ c : Dev Cert.OptFoutK.nD,
      r.2.mem ((c.tc : Thread Cert.OptFoutK.nD Cert.OptFoutK.τ).loc Cert.OptFoutK.main_arg0) = m ((c.tc : Thread Cert.OptFoutK.nD Cert.OptFoutK.τ).loc Cert.OptFoutK.main_arg0)
      ∧ r.2.mem ((c.tc : Thread Cert.OptFoutK.nD Cert.OptFoutK.τ).loc Cert.OptFoutK.main_arg1) = m ((c.tc : Thread Cert.OptFoutK.nD Cert.OptFoutK.τ).loc Cert.OptFoutK.main_arg1)
      ∧ r.2.mem ((c.tc : Thread Cert.OptFoutK.nD Cert.OptFoutK.τ).loc Cert.OptFoutK.main_arg2) = m ((c.tc : Thread Cert.OptFoutK.nD Cert.OptFoutK.τ).loc Cert.OptFoutK.main_arg2)
      ∧ r.2.mem ((c.tc : Thread Cert.OptFoutK.nD Cert.OptFoutK.τ).loc Cert.OptFoutK.main_arg3) = m ((c.tc : Thread Cert.OptFoutK.nD Cert.OptFoutK.τ).loc Cert.OptFoutK.main_arg3)
      ∧ r.2.mem ((c.tc : Thread Cert.OptFoutK.nD Cert.OptFoutK.τ).loc Cert.OptFoutK.main_arg4) = m ((c.tc : Thread Cert.OptFoutK.nD Cert.OptFoutK.τ).loc Cert.OptFoutK.main_arg4)
      ∧ r.2.mem ((c.tc : Thread Cert.OptFoutK.nD Cert.OptFoutK.τ).loc Cert.OptFoutK.main_arg5) = m ((c.tc : Thread Cert.OptFoutK.nD Cert.OptFoutK.τ).loc Cert.OptFoutK.main_arg5))
      ∧ r.2.sem = fun _ => 0)

def quiescent_OptFoutKIdeal [hOptFoutKIdeal : Cert.OptFoutKIdeal.Facts] [hPre_pre31 : Cert.Pre_pre31.Facts] : Prop :=
  ∀ (m : (ℓ : Loc Cert.OptFoutKIdeal.nD Cert.OptFoutKIdeal.τ Cert.OptFoutKIdeal.sig) → Buf (Elt Ideal) ℓ) (g : Dev Cert.OptFoutKIdeal.nD → PrngReg), Pre_OptFoutKIdeal m →
    θ_run (Cert.OptFoutKIdeal.defs (F := Ideal)) (onTc (τ := Cert.OptFoutKIdeal.τ) (Cert.OptFoutKIdeal.main (F := Ideal))) ⟨m, fun _ => 0, g⟩ (fun r => (∀ c : Dev Cert.OptFoutKIdeal.nD,
      r.2.mem ((c.tc : Thread Cert.OptFoutKIdeal.nD Cert.OptFoutKIdeal.τ).loc Cert.OptFoutKIdeal.main_arg0) = m ((c.tc : Thread Cert.OptFoutKIdeal.nD Cert.OptFoutKIdeal.τ).loc Cert.OptFoutKIdeal.main_arg0)
      ∧ r.2.mem ((c.tc : Thread Cert.OptFoutKIdeal.nD Cert.OptFoutKIdeal.τ).loc Cert.OptFoutKIdeal.main_arg1) = m ((c.tc : Thread Cert.OptFoutKIdeal.nD Cert.OptFoutKIdeal.τ).loc Cert.OptFoutKIdeal.main_arg1)
      ∧ r.2.mem ((c.tc : Thread Cert.OptFoutKIdeal.nD Cert.OptFoutKIdeal.τ).loc Cert.OptFoutKIdeal.main_arg2) = m ((c.tc : Thread Cert.OptFoutKIdeal.nD Cert.OptFoutKIdeal.τ).loc Cert.OptFoutKIdeal.main_arg2)
      ∧ r.2.mem ((c.tc : Thread Cert.OptFoutKIdeal.nD Cert.OptFoutKIdeal.τ).loc Cert.OptFoutKIdeal.main_arg3) = m ((c.tc : Thread Cert.OptFoutKIdeal.nD Cert.OptFoutKIdeal.τ).loc Cert.OptFoutKIdeal.main_arg3)
      ∧ r.2.mem ((c.tc : Thread Cert.OptFoutKIdeal.nD Cert.OptFoutKIdeal.τ).loc Cert.OptFoutKIdeal.main_arg4) = m ((c.tc : Thread Cert.OptFoutKIdeal.nD Cert.OptFoutKIdeal.τ).loc Cert.OptFoutKIdeal.main_arg4)
      ∧ r.2.mem ((c.tc : Thread Cert.OptFoutKIdeal.nD Cert.OptFoutKIdeal.τ).loc Cert.OptFoutKIdeal.main_arg5) = m ((c.tc : Thread Cert.OptFoutKIdeal.nD Cert.OptFoutKIdeal.τ).loc Cert.OptFoutKIdeal.main_arg5))
      ∧ r.2.sem = fun _ => 0)

def quiescent_OptFoutRIdeal [hOptFoutRIdeal : Cert.OptFoutRIdeal.Facts] : Prop :=
  ∀ (m : (ℓ : Loc Cert.OptFoutRIdeal.nD Cert.OptFoutRIdeal.τ Cert.OptFoutRIdeal.sig) → Buf (Elt Ideal) ℓ) (g : Dev Cert.OptFoutRIdeal.nD → PrngReg), Pre_OptFoutRIdeal m →
    θ_run (Cert.OptFoutRIdeal.defs (F := Ideal)) (onTc (τ := Cert.OptFoutRIdeal.τ) (Cert.OptFoutRIdeal.main (F := Ideal))) ⟨m, fun _ => 0, g⟩ (fun r => (∀ c : Dev Cert.OptFoutRIdeal.nD,
      r.2.mem ((c.tc : Thread Cert.OptFoutRIdeal.nD Cert.OptFoutRIdeal.τ).loc Cert.OptFoutRIdeal.main_arg0) = m ((c.tc : Thread Cert.OptFoutRIdeal.nD Cert.OptFoutRIdeal.τ).loc Cert.OptFoutRIdeal.main_arg0)
      ∧ r.2.mem ((c.tc : Thread Cert.OptFoutRIdeal.nD Cert.OptFoutRIdeal.τ).loc Cert.OptFoutRIdeal.main_arg1) = m ((c.tc : Thread Cert.OptFoutRIdeal.nD Cert.OptFoutRIdeal.τ).loc Cert.OptFoutRIdeal.main_arg1)
      ∧ r.2.mem ((c.tc : Thread Cert.OptFoutRIdeal.nD Cert.OptFoutRIdeal.τ).loc Cert.OptFoutRIdeal.main_arg2) = m ((c.tc : Thread Cert.OptFoutRIdeal.nD Cert.OptFoutRIdeal.τ).loc Cert.OptFoutRIdeal.main_arg2)
      ∧ r.2.mem ((c.tc : Thread Cert.OptFoutRIdeal.nD Cert.OptFoutRIdeal.τ).loc Cert.OptFoutRIdeal.main_arg3) = m ((c.tc : Thread Cert.OptFoutRIdeal.nD Cert.OptFoutRIdeal.τ).loc Cert.OptFoutRIdeal.main_arg3)
      ∧ r.2.mem ((c.tc : Thread Cert.OptFoutRIdeal.nD Cert.OptFoutRIdeal.τ).loc Cert.OptFoutRIdeal.main_arg4) = m ((c.tc : Thread Cert.OptFoutRIdeal.nD Cert.OptFoutRIdeal.τ).loc Cert.OptFoutRIdeal.main_arg4)
      ∧ r.2.mem ((c.tc : Thread Cert.OptFoutRIdeal.nD Cert.OptFoutRIdeal.τ).loc Cert.OptFoutRIdeal.main_arg5) = m ((c.tc : Thread Cert.OptFoutRIdeal.nD Cert.OptFoutRIdeal.τ).loc Cert.OptFoutRIdeal.main_arg5))
      ∧ r.2.sem = fun _ => 0)

def quiescent_OptFoutRIdeal_pre_pre31 [hOptFoutRIdeal : Cert.OptFoutRIdeal.Facts] [hPre_pre31 : Cert.Pre_pre31.Facts] : Prop :=
  ∀ (m : (ℓ : Loc Cert.OptFoutRIdeal.nD Cert.OptFoutRIdeal.τ Cert.OptFoutRIdeal.sig) → Buf (Elt Ideal) ℓ) (g : Dev Cert.OptFoutRIdeal.nD → PrngReg), Pre_OptFoutRIdeal_pre31 m →
    θ_run (Cert.OptFoutRIdeal.defs (F := Ideal)) (onTc (τ := Cert.OptFoutRIdeal.τ) (Cert.OptFoutRIdeal.main (F := Ideal))) ⟨m, fun _ => 0, g⟩ (fun r => (∀ c : Dev Cert.OptFoutRIdeal.nD,
      r.2.mem ((c.tc : Thread Cert.OptFoutRIdeal.nD Cert.OptFoutRIdeal.τ).loc Cert.OptFoutRIdeal.main_arg0) = m ((c.tc : Thread Cert.OptFoutRIdeal.nD Cert.OptFoutRIdeal.τ).loc Cert.OptFoutRIdeal.main_arg0)
      ∧ r.2.mem ((c.tc : Thread Cert.OptFoutRIdeal.nD Cert.OptFoutRIdeal.τ).loc Cert.OptFoutRIdeal.main_arg1) = m ((c.tc : Thread Cert.OptFoutRIdeal.nD Cert.OptFoutRIdeal.τ).loc Cert.OptFoutRIdeal.main_arg1)
      ∧ r.2.mem ((c.tc : Thread Cert.OptFoutRIdeal.nD Cert.OptFoutRIdeal.τ).loc Cert.OptFoutRIdeal.main_arg2) = m ((c.tc : Thread Cert.OptFoutRIdeal.nD Cert.OptFoutRIdeal.τ).loc Cert.OptFoutRIdeal.main_arg2)
      ∧ r.2.mem ((c.tc : Thread Cert.OptFoutRIdeal.nD Cert.OptFoutRIdeal.τ).loc Cert.OptFoutRIdeal.main_arg3) = m ((c.tc : Thread Cert.OptFoutRIdeal.nD Cert.OptFoutRIdeal.τ).loc Cert.OptFoutRIdeal.main_arg3)
      ∧ r.2.mem ((c.tc : Thread Cert.OptFoutRIdeal.nD Cert.OptFoutRIdeal.τ).loc Cert.OptFoutRIdeal.main_arg4) = m ((c.tc : Thread Cert.OptFoutRIdeal.nD Cert.OptFoutRIdeal.τ).loc Cert.OptFoutRIdeal.main_arg4)
      ∧ r.2.mem ((c.tc : Thread Cert.OptFoutRIdeal.nD Cert.OptFoutRIdeal.τ).loc Cert.OptFoutRIdeal.main_arg5) = m ((c.tc : Thread Cert.OptFoutRIdeal.nD Cert.OptFoutRIdeal.τ).loc Cert.OptFoutRIdeal.main_arg5))
      ∧ r.2.sem = fun _ => 0)

def quiescent_OptFinK [hOptFinK : Cert.OptFinK.Facts] [hPre_pre32 : Cert.Pre_pre32.Facts] : Prop :=
  ∀ (m : (ℓ : Loc Cert.OptFinK.nD Cert.OptFinK.τ Cert.OptFinK.sig) → Buf (Elt Bits) ℓ) (g : Dev Cert.OptFinK.nD → PrngReg), Pre_OptFinK m →
    θ_run (Cert.OptFinK.defs (F := Bits)) (onTc (τ := Cert.OptFinK.τ) (Cert.OptFinK.main (F := Bits))) ⟨m, fun _ => 0, g⟩ (fun r => (∀ c : Dev Cert.OptFinK.nD,
      r.2.mem ((c.tc : Thread Cert.OptFinK.nD Cert.OptFinK.τ).loc Cert.OptFinK.main_arg0) = m ((c.tc : Thread Cert.OptFinK.nD Cert.OptFinK.τ).loc Cert.OptFinK.main_arg0)
      ∧ r.2.mem ((c.tc : Thread Cert.OptFinK.nD Cert.OptFinK.τ).loc Cert.OptFinK.main_arg1) = m ((c.tc : Thread Cert.OptFinK.nD Cert.OptFinK.τ).loc Cert.OptFinK.main_arg1)
      ∧ r.2.mem ((c.tc : Thread Cert.OptFinK.nD Cert.OptFinK.τ).loc Cert.OptFinK.main_arg2) = m ((c.tc : Thread Cert.OptFinK.nD Cert.OptFinK.τ).loc Cert.OptFinK.main_arg2)
      ∧ r.2.mem ((c.tc : Thread Cert.OptFinK.nD Cert.OptFinK.τ).loc Cert.OptFinK.main_arg3) = m ((c.tc : Thread Cert.OptFinK.nD Cert.OptFinK.τ).loc Cert.OptFinK.main_arg3)
      ∧ r.2.mem ((c.tc : Thread Cert.OptFinK.nD Cert.OptFinK.τ).loc Cert.OptFinK.main_arg4) = m ((c.tc : Thread Cert.OptFinK.nD Cert.OptFinK.τ).loc Cert.OptFinK.main_arg4)
      ∧ r.2.mem ((c.tc : Thread Cert.OptFinK.nD Cert.OptFinK.τ).loc Cert.OptFinK.main_arg5) = m ((c.tc : Thread Cert.OptFinK.nD Cert.OptFinK.τ).loc Cert.OptFinK.main_arg5))
      ∧ r.2.sem = fun _ => 0)

def quiescent_OptFinKIdeal [hOptFinKIdeal : Cert.OptFinKIdeal.Facts] [hPre_pre32 : Cert.Pre_pre32.Facts] : Prop :=
  ∀ (m : (ℓ : Loc Cert.OptFinKIdeal.nD Cert.OptFinKIdeal.τ Cert.OptFinKIdeal.sig) → Buf (Elt Ideal) ℓ) (g : Dev Cert.OptFinKIdeal.nD → PrngReg), Pre_OptFinKIdeal m →
    θ_run (Cert.OptFinKIdeal.defs (F := Ideal)) (onTc (τ := Cert.OptFinKIdeal.τ) (Cert.OptFinKIdeal.main (F := Ideal))) ⟨m, fun _ => 0, g⟩ (fun r => (∀ c : Dev Cert.OptFinKIdeal.nD,
      r.2.mem ((c.tc : Thread Cert.OptFinKIdeal.nD Cert.OptFinKIdeal.τ).loc Cert.OptFinKIdeal.main_arg0) = m ((c.tc : Thread Cert.OptFinKIdeal.nD Cert.OptFinKIdeal.τ).loc Cert.OptFinKIdeal.main_arg0)
      ∧ r.2.mem ((c.tc : Thread Cert.OptFinKIdeal.nD Cert.OptFinKIdeal.τ).loc Cert.OptFinKIdeal.main_arg1) = m ((c.tc : Thread Cert.OptFinKIdeal.nD Cert.OptFinKIdeal.τ).loc Cert.OptFinKIdeal.main_arg1)
      ∧ r.2.mem ((c.tc : Thread Cert.OptFinKIdeal.nD Cert.OptFinKIdeal.τ).loc Cert.OptFinKIdeal.main_arg2) = m ((c.tc : Thread Cert.OptFinKIdeal.nD Cert.OptFinKIdeal.τ).loc Cert.OptFinKIdeal.main_arg2)
      ∧ r.2.mem ((c.tc : Thread Cert.OptFinKIdeal.nD Cert.OptFinKIdeal.τ).loc Cert.OptFinKIdeal.main_arg3) = m ((c.tc : Thread Cert.OptFinKIdeal.nD Cert.OptFinKIdeal.τ).loc Cert.OptFinKIdeal.main_arg3)
      ∧ r.2.mem ((c.tc : Thread Cert.OptFinKIdeal.nD Cert.OptFinKIdeal.τ).loc Cert.OptFinKIdeal.main_arg4) = m ((c.tc : Thread Cert.OptFinKIdeal.nD Cert.OptFinKIdeal.τ).loc Cert.OptFinKIdeal.main_arg4)
      ∧ r.2.mem ((c.tc : Thread Cert.OptFinKIdeal.nD Cert.OptFinKIdeal.τ).loc Cert.OptFinKIdeal.main_arg5) = m ((c.tc : Thread Cert.OptFinKIdeal.nD Cert.OptFinKIdeal.τ).loc Cert.OptFinKIdeal.main_arg5))
      ∧ r.2.sem = fun _ => 0)

def quiescent_OptFinRIdeal [hOptFinRIdeal : Cert.OptFinRIdeal.Facts] : Prop :=
  ∀ (m : (ℓ : Loc Cert.OptFinRIdeal.nD Cert.OptFinRIdeal.τ Cert.OptFinRIdeal.sig) → Buf (Elt Ideal) ℓ) (g : Dev Cert.OptFinRIdeal.nD → PrngReg), Pre_OptFinRIdeal m →
    θ_run (Cert.OptFinRIdeal.defs (F := Ideal)) (onTc (τ := Cert.OptFinRIdeal.τ) (Cert.OptFinRIdeal.main (F := Ideal))) ⟨m, fun _ => 0, g⟩ (fun r => (∀ c : Dev Cert.OptFinRIdeal.nD,
      r.2.mem ((c.tc : Thread Cert.OptFinRIdeal.nD Cert.OptFinRIdeal.τ).loc Cert.OptFinRIdeal.main_arg0) = m ((c.tc : Thread Cert.OptFinRIdeal.nD Cert.OptFinRIdeal.τ).loc Cert.OptFinRIdeal.main_arg0)
      ∧ r.2.mem ((c.tc : Thread Cert.OptFinRIdeal.nD Cert.OptFinRIdeal.τ).loc Cert.OptFinRIdeal.main_arg1) = m ((c.tc : Thread Cert.OptFinRIdeal.nD Cert.OptFinRIdeal.τ).loc Cert.OptFinRIdeal.main_arg1)
      ∧ r.2.mem ((c.tc : Thread Cert.OptFinRIdeal.nD Cert.OptFinRIdeal.τ).loc Cert.OptFinRIdeal.main_arg2) = m ((c.tc : Thread Cert.OptFinRIdeal.nD Cert.OptFinRIdeal.τ).loc Cert.OptFinRIdeal.main_arg2)
      ∧ r.2.mem ((c.tc : Thread Cert.OptFinRIdeal.nD Cert.OptFinRIdeal.τ).loc Cert.OptFinRIdeal.main_arg3) = m ((c.tc : Thread Cert.OptFinRIdeal.nD Cert.OptFinRIdeal.τ).loc Cert.OptFinRIdeal.main_arg3)
      ∧ r.2.mem ((c.tc : Thread Cert.OptFinRIdeal.nD Cert.OptFinRIdeal.τ).loc Cert.OptFinRIdeal.main_arg4) = m ((c.tc : Thread Cert.OptFinRIdeal.nD Cert.OptFinRIdeal.τ).loc Cert.OptFinRIdeal.main_arg4)
      ∧ r.2.mem ((c.tc : Thread Cert.OptFinRIdeal.nD Cert.OptFinRIdeal.τ).loc Cert.OptFinRIdeal.main_arg5) = m ((c.tc : Thread Cert.OptFinRIdeal.nD Cert.OptFinRIdeal.τ).loc Cert.OptFinRIdeal.main_arg5))
      ∧ r.2.sem = fun _ => 0)

def quiescent_OptFinRIdeal_pre_pre32 [hOptFinRIdeal : Cert.OptFinRIdeal.Facts] [hPre_pre32 : Cert.Pre_pre32.Facts] : Prop :=
  ∀ (m : (ℓ : Loc Cert.OptFinRIdeal.nD Cert.OptFinRIdeal.τ Cert.OptFinRIdeal.sig) → Buf (Elt Ideal) ℓ) (g : Dev Cert.OptFinRIdeal.nD → PrngReg), Pre_OptFinRIdeal_pre32 m →
    θ_run (Cert.OptFinRIdeal.defs (F := Ideal)) (onTc (τ := Cert.OptFinRIdeal.τ) (Cert.OptFinRIdeal.main (F := Ideal))) ⟨m, fun _ => 0, g⟩ (fun r => (∀ c : Dev Cert.OptFinRIdeal.nD,
      r.2.mem ((c.tc : Thread Cert.OptFinRIdeal.nD Cert.OptFinRIdeal.τ).loc Cert.OptFinRIdeal.main_arg0) = m ((c.tc : Thread Cert.OptFinRIdeal.nD Cert.OptFinRIdeal.τ).loc Cert.OptFinRIdeal.main_arg0)
      ∧ r.2.mem ((c.tc : Thread Cert.OptFinRIdeal.nD Cert.OptFinRIdeal.τ).loc Cert.OptFinRIdeal.main_arg1) = m ((c.tc : Thread Cert.OptFinRIdeal.nD Cert.OptFinRIdeal.τ).loc Cert.OptFinRIdeal.main_arg1)
      ∧ r.2.mem ((c.tc : Thread Cert.OptFinRIdeal.nD Cert.OptFinRIdeal.τ).loc Cert.OptFinRIdeal.main_arg2) = m ((c.tc : Thread Cert.OptFinRIdeal.nD Cert.OptFinRIdeal.τ).loc Cert.OptFinRIdeal.main_arg2)
      ∧ r.2.mem ((c.tc : Thread Cert.OptFinRIdeal.nD Cert.OptFinRIdeal.τ).loc Cert.OptFinRIdeal.main_arg3) = m ((c.tc : Thread Cert.OptFinRIdeal.nD Cert.OptFinRIdeal.τ).loc Cert.OptFinRIdeal.main_arg3)
      ∧ r.2.mem ((c.tc : Thread Cert.OptFinRIdeal.nD Cert.OptFinRIdeal.τ).loc Cert.OptFinRIdeal.main_arg4) = m ((c.tc : Thread Cert.OptFinRIdeal.nD Cert.OptFinRIdeal.τ).loc Cert.OptFinRIdeal.main_arg4)
      ∧ r.2.mem ((c.tc : Thread Cert.OptFinRIdeal.nD Cert.OptFinRIdeal.τ).loc Cert.OptFinRIdeal.main_arg5) = m ((c.tc : Thread Cert.OptFinRIdeal.nD Cert.OptFinRIdeal.τ).loc Cert.OptFinRIdeal.main_arg5))
      ∧ r.2.sem = fun _ => 0)

def quiescent_OptInK [hOptInK : Cert.OptInK.Facts] [hPre_pre33 : Cert.Pre_pre33.Facts] : Prop :=
  ∀ (m : (ℓ : Loc Cert.OptInK.nD Cert.OptInK.τ Cert.OptInK.sig) → Buf (Elt Bits) ℓ) (g : Dev Cert.OptInK.nD → PrngReg), Pre_OptInK m →
    θ_run (Cert.OptInK.defs (F := Bits)) (onTc (τ := Cert.OptInK.τ) (Cert.OptInK.main (F := Bits))) ⟨m, fun _ => 0, g⟩ (fun r => (∀ c : Dev Cert.OptInK.nD,
      r.2.mem ((c.tc : Thread Cert.OptInK.nD Cert.OptInK.τ).loc Cert.OptInK.main_arg0) = m ((c.tc : Thread Cert.OptInK.nD Cert.OptInK.τ).loc Cert.OptInK.main_arg0)
      ∧ r.2.mem ((c.tc : Thread Cert.OptInK.nD Cert.OptInK.τ).loc Cert.OptInK.main_arg1) = m ((c.tc : Thread Cert.OptInK.nD Cert.OptInK.τ).loc Cert.OptInK.main_arg1)
      ∧ r.2.mem ((c.tc : Thread Cert.OptInK.nD Cert.OptInK.τ).loc Cert.OptInK.main_arg2) = m ((c.tc : Thread Cert.OptInK.nD Cert.OptInK.τ).loc Cert.OptInK.main_arg2)
      ∧ r.2.mem ((c.tc : Thread Cert.OptInK.nD Cert.OptInK.τ).loc Cert.OptInK.main_arg3) = m ((c.tc : Thread Cert.OptInK.nD Cert.OptInK.τ).loc Cert.OptInK.main_arg3)
      ∧ r.2.mem ((c.tc : Thread Cert.OptInK.nD Cert.OptInK.τ).loc Cert.OptInK.main_arg4) = m ((c.tc : Thread Cert.OptInK.nD Cert.OptInK.τ).loc Cert.OptInK.main_arg4)
      ∧ r.2.mem ((c.tc : Thread Cert.OptInK.nD Cert.OptInK.τ).loc Cert.OptInK.main_arg5) = m ((c.tc : Thread Cert.OptInK.nD Cert.OptInK.τ).loc Cert.OptInK.main_arg5)
      ∧ r.2.mem ((c.tc : Thread Cert.OptInK.nD Cert.OptInK.τ).loc Cert.OptInK.main_arg6) = m ((c.tc : Thread Cert.OptInK.nD Cert.OptInK.τ).loc Cert.OptInK.main_arg6))
      ∧ r.2.sem = fun _ => 0)

def quiescent_OptInKIdeal [hOptInKIdeal : Cert.OptInKIdeal.Facts] [hPre_pre33 : Cert.Pre_pre33.Facts] : Prop :=
  ∀ (m : (ℓ : Loc Cert.OptInKIdeal.nD Cert.OptInKIdeal.τ Cert.OptInKIdeal.sig) → Buf (Elt Ideal) ℓ) (g : Dev Cert.OptInKIdeal.nD → PrngReg), Pre_OptInKIdeal m →
    θ_run (Cert.OptInKIdeal.defs (F := Ideal)) (onTc (τ := Cert.OptInKIdeal.τ) (Cert.OptInKIdeal.main (F := Ideal))) ⟨m, fun _ => 0, g⟩ (fun r => (∀ c : Dev Cert.OptInKIdeal.nD,
      r.2.mem ((c.tc : Thread Cert.OptInKIdeal.nD Cert.OptInKIdeal.τ).loc Cert.OptInKIdeal.main_arg0) = m ((c.tc : Thread Cert.OptInKIdeal.nD Cert.OptInKIdeal.τ).loc Cert.OptInKIdeal.main_arg0)
      ∧ r.2.mem ((c.tc : Thread Cert.OptInKIdeal.nD Cert.OptInKIdeal.τ).loc Cert.OptInKIdeal.main_arg1) = m ((c.tc : Thread Cert.OptInKIdeal.nD Cert.OptInKIdeal.τ).loc Cert.OptInKIdeal.main_arg1)
      ∧ r.2.mem ((c.tc : Thread Cert.OptInKIdeal.nD Cert.OptInKIdeal.τ).loc Cert.OptInKIdeal.main_arg2) = m ((c.tc : Thread Cert.OptInKIdeal.nD Cert.OptInKIdeal.τ).loc Cert.OptInKIdeal.main_arg2)
      ∧ r.2.mem ((c.tc : Thread Cert.OptInKIdeal.nD Cert.OptInKIdeal.τ).loc Cert.OptInKIdeal.main_arg3) = m ((c.tc : Thread Cert.OptInKIdeal.nD Cert.OptInKIdeal.τ).loc Cert.OptInKIdeal.main_arg3)
      ∧ r.2.mem ((c.tc : Thread Cert.OptInKIdeal.nD Cert.OptInKIdeal.τ).loc Cert.OptInKIdeal.main_arg4) = m ((c.tc : Thread Cert.OptInKIdeal.nD Cert.OptInKIdeal.τ).loc Cert.OptInKIdeal.main_arg4)
      ∧ r.2.mem ((c.tc : Thread Cert.OptInKIdeal.nD Cert.OptInKIdeal.τ).loc Cert.OptInKIdeal.main_arg5) = m ((c.tc : Thread Cert.OptInKIdeal.nD Cert.OptInKIdeal.τ).loc Cert.OptInKIdeal.main_arg5)
      ∧ r.2.mem ((c.tc : Thread Cert.OptInKIdeal.nD Cert.OptInKIdeal.τ).loc Cert.OptInKIdeal.main_arg6) = m ((c.tc : Thread Cert.OptInKIdeal.nD Cert.OptInKIdeal.τ).loc Cert.OptInKIdeal.main_arg6))
      ∧ r.2.sem = fun _ => 0)

def quiescent_OptInRIdeal [hOptInRIdeal : Cert.OptInRIdeal.Facts] : Prop :=
  ∀ (m : (ℓ : Loc Cert.OptInRIdeal.nD Cert.OptInRIdeal.τ Cert.OptInRIdeal.sig) → Buf (Elt Ideal) ℓ) (g : Dev Cert.OptInRIdeal.nD → PrngReg), Pre_OptInRIdeal m →
    θ_run (Cert.OptInRIdeal.defs (F := Ideal)) (onTc (τ := Cert.OptInRIdeal.τ) (Cert.OptInRIdeal.main (F := Ideal))) ⟨m, fun _ => 0, g⟩ (fun r => (∀ c : Dev Cert.OptInRIdeal.nD,
      r.2.mem ((c.tc : Thread Cert.OptInRIdeal.nD Cert.OptInRIdeal.τ).loc Cert.OptInRIdeal.main_arg0) = m ((c.tc : Thread Cert.OptInRIdeal.nD Cert.OptInRIdeal.τ).loc Cert.OptInRIdeal.main_arg0)
      ∧ r.2.mem ((c.tc : Thread Cert.OptInRIdeal.nD Cert.OptInRIdeal.τ).loc Cert.OptInRIdeal.main_arg1) = m ((c.tc : Thread Cert.OptInRIdeal.nD Cert.OptInRIdeal.τ).loc Cert.OptInRIdeal.main_arg1)
      ∧ r.2.mem ((c.tc : Thread Cert.OptInRIdeal.nD Cert.OptInRIdeal.τ).loc Cert.OptInRIdeal.main_arg2) = m ((c.tc : Thread Cert.OptInRIdeal.nD Cert.OptInRIdeal.τ).loc Cert.OptInRIdeal.main_arg2)
      ∧ r.2.mem ((c.tc : Thread Cert.OptInRIdeal.nD Cert.OptInRIdeal.τ).loc Cert.OptInRIdeal.main_arg3) = m ((c.tc : Thread Cert.OptInRIdeal.nD Cert.OptInRIdeal.τ).loc Cert.OptInRIdeal.main_arg3)
      ∧ r.2.mem ((c.tc : Thread Cert.OptInRIdeal.nD Cert.OptInRIdeal.τ).loc Cert.OptInRIdeal.main_arg4) = m ((c.tc : Thread Cert.OptInRIdeal.nD Cert.OptInRIdeal.τ).loc Cert.OptInRIdeal.main_arg4)
      ∧ r.2.mem ((c.tc : Thread Cert.OptInRIdeal.nD Cert.OptInRIdeal.τ).loc Cert.OptInRIdeal.main_arg5) = m ((c.tc : Thread Cert.OptInRIdeal.nD Cert.OptInRIdeal.τ).loc Cert.OptInRIdeal.main_arg5)
      ∧ r.2.mem ((c.tc : Thread Cert.OptInRIdeal.nD Cert.OptInRIdeal.τ).loc Cert.OptInRIdeal.main_arg6) = m ((c.tc : Thread Cert.OptInRIdeal.nD Cert.OptInRIdeal.τ).loc Cert.OptInRIdeal.main_arg6))
      ∧ r.2.sem = fun _ => 0)

def quiescent_OptInRIdeal_pre_pre33 [hOptInRIdeal : Cert.OptInRIdeal.Facts] [hPre_pre33 : Cert.Pre_pre33.Facts] : Prop :=
  ∀ (m : (ℓ : Loc Cert.OptInRIdeal.nD Cert.OptInRIdeal.τ Cert.OptInRIdeal.sig) → Buf (Elt Ideal) ℓ) (g : Dev Cert.OptInRIdeal.nD → PrngReg), Pre_OptInRIdeal_pre33 m →
    θ_run (Cert.OptInRIdeal.defs (F := Ideal)) (onTc (τ := Cert.OptInRIdeal.τ) (Cert.OptInRIdeal.main (F := Ideal))) ⟨m, fun _ => 0, g⟩ (fun r => (∀ c : Dev Cert.OptInRIdeal.nD,
      r.2.mem ((c.tc : Thread Cert.OptInRIdeal.nD Cert.OptInRIdeal.τ).loc Cert.OptInRIdeal.main_arg0) = m ((c.tc : Thread Cert.OptInRIdeal.nD Cert.OptInRIdeal.τ).loc Cert.OptInRIdeal.main_arg0)
      ∧ r.2.mem ((c.tc : Thread Cert.OptInRIdeal.nD Cert.OptInRIdeal.τ).loc Cert.OptInRIdeal.main_arg1) = m ((c.tc : Thread Cert.OptInRIdeal.nD Cert.OptInRIdeal.τ).loc Cert.OptInRIdeal.main_arg1)
      ∧ r.2.mem ((c.tc : Thread Cert.OptInRIdeal.nD Cert.OptInRIdeal.τ).loc Cert.OptInRIdeal.main_arg2) = m ((c.tc : Thread Cert.OptInRIdeal.nD Cert.OptInRIdeal.τ).loc Cert.OptInRIdeal.main_arg2)
      ∧ r.2.mem ((c.tc : Thread Cert.OptInRIdeal.nD Cert.OptInRIdeal.τ).loc Cert.OptInRIdeal.main_arg3) = m ((c.tc : Thread Cert.OptInRIdeal.nD Cert.OptInRIdeal.τ).loc Cert.OptInRIdeal.main_arg3)
      ∧ r.2.mem ((c.tc : Thread Cert.OptInRIdeal.nD Cert.OptInRIdeal.τ).loc Cert.OptInRIdeal.main_arg4) = m ((c.tc : Thread Cert.OptInRIdeal.nD Cert.OptInRIdeal.τ).loc Cert.OptInRIdeal.main_arg4)
      ∧ r.2.mem ((c.tc : Thread Cert.OptInRIdeal.nD Cert.OptInRIdeal.τ).loc Cert.OptInRIdeal.main_arg5) = m ((c.tc : Thread Cert.OptInRIdeal.nD Cert.OptInRIdeal.τ).loc Cert.OptInRIdeal.main_arg5)
      ∧ r.2.mem ((c.tc : Thread Cert.OptInRIdeal.nD Cert.OptInRIdeal.τ).loc Cert.OptInRIdeal.main_arg6) = m ((c.tc : Thread Cert.OptInRIdeal.nD Cert.OptInRIdeal.τ).loc Cert.OptInRIdeal.main_arg6))
      ∧ r.2.sem = fun _ => 0)

def preserves_ConvK_ConvKIdeal : Prop :=
  True

def algebraic_ConvKIdeal_ConvRIdeal [hConvKIdeal : Cert.ConvKIdeal.Facts] [hConvRIdeal : Cert.ConvRIdeal.Facts] : Prop :=
  ∀ (m : (ℓ : Loc Cert.ConvKIdeal.nD Cert.ConvKIdeal.τ Cert.ConvKIdeal.sig) → Buf (Elt Ideal) ℓ) (g : Dev Cert.ConvKIdeal.nD → PrngReg)
    (m' : (ℓ : Loc Cert.ConvRIdeal.nD Cert.ConvRIdeal.τ Cert.ConvRIdeal.sig) → Buf (Elt Ideal) ℓ) (g' : Dev Cert.ConvRIdeal.nD → PrngReg), Pre_ConvKIdeal m →
    (∀ c : Dev Cert.ConvKIdeal.nD,
      m' ((c.tc : Thread Cert.ConvRIdeal.nD Cert.ConvRIdeal.τ).loc Cert.ConvRIdeal.main_arg0) = m ((c.tc : Thread Cert.ConvKIdeal.nD Cert.ConvKIdeal.τ).loc Cert.ConvKIdeal.main_arg0)
      ∧ m' ((c.tc : Thread Cert.ConvRIdeal.nD Cert.ConvRIdeal.τ).loc Cert.ConvRIdeal.main_arg1) = m ((c.tc : Thread Cert.ConvKIdeal.nD Cert.ConvKIdeal.τ).loc Cert.ConvKIdeal.main_arg1)
      ∧ m' ((c.tc : Thread Cert.ConvRIdeal.nD Cert.ConvRIdeal.τ).loc Cert.ConvRIdeal.main_arg2) = m ((c.tc : Thread Cert.ConvKIdeal.nD Cert.ConvKIdeal.τ).loc Cert.ConvKIdeal.main_arg2)) →
    ∃ (v0 : (c : Dev Cert.ConvKIdeal.nD) → Buf (Elt Ideal) ((c.tc : Thread Cert.ConvKIdeal.nD Cert.ConvKIdeal.τ).loc Cert.ConvKIdeal.main_v2_0)) (v1 : (c : Dev Cert.ConvKIdeal.nD) → Buf (Elt Ideal) ((c.tc : Thread Cert.ConvKIdeal.nD Cert.ConvKIdeal.τ).loc Cert.ConvKIdeal.main_v2_1)) (v2 : (c : Dev Cert.ConvKIdeal.nD) → Buf (Elt Ideal) ((c.tc : Thread Cert.ConvKIdeal.nD Cert.ConvKIdeal.τ).loc Cert.ConvKIdeal.main_v2_2)) (v3 : (c : Dev Cert.ConvKIdeal.nD) → Buf (Elt Ideal) ((c.tc : Thread Cert.ConvKIdeal.nD Cert.ConvKIdeal.τ).loc Cert.ConvKIdeal.main_v2_3)),
      θ_run (Cert.ConvKIdeal.defs (F := Ideal)) (onTc (τ := Cert.ConvKIdeal.τ) (Cert.ConvKIdeal.main (F := Ideal))) ⟨m, fun _ => 0, g⟩ (fun r => ∀ c : Dev Cert.ConvKIdeal.nD,
          r.2.mem ((c.tc : Thread Cert.ConvKIdeal.nD Cert.ConvKIdeal.τ).loc Cert.ConvKIdeal.main_v2_0) = v0 c
          ∧ r.2.mem ((c.tc : Thread Cert.ConvKIdeal.nD Cert.ConvKIdeal.τ).loc Cert.ConvKIdeal.main_v2_1) = v1 c
          ∧ r.2.mem ((c.tc : Thread Cert.ConvKIdeal.nD Cert.ConvKIdeal.τ).loc Cert.ConvKIdeal.main_v2_2) = v2 c
          ∧ r.2.mem ((c.tc : Thread Cert.ConvKIdeal.nD Cert.ConvKIdeal.τ).loc Cert.ConvKIdeal.main_v2_3) = v3 c
          ∧ r.2.mem ((c.tc : Thread Cert.ConvKIdeal.nD Cert.ConvKIdeal.τ).loc Cert.ConvKIdeal.main_arg0) = m ((c.tc : Thread Cert.ConvKIdeal.nD Cert.ConvKIdeal.τ).loc Cert.ConvKIdeal.main_arg0)
          ∧ r.2.mem ((c.tc : Thread Cert.ConvKIdeal.nD Cert.ConvKIdeal.τ).loc Cert.ConvKIdeal.main_arg1) = m ((c.tc : Thread Cert.ConvKIdeal.nD Cert.ConvKIdeal.τ).loc Cert.ConvKIdeal.main_arg1)
          ∧ r.2.mem ((c.tc : Thread Cert.ConvKIdeal.nD Cert.ConvKIdeal.τ).loc Cert.ConvKIdeal.main_arg2) = m ((c.tc : Thread Cert.ConvKIdeal.nD Cert.ConvKIdeal.τ).loc Cert.ConvKIdeal.main_arg2))
      ∧ θ_run (Cert.ConvRIdeal.defs (F := Ideal)) (onTc (τ := Cert.ConvRIdeal.τ) (Cert.ConvRIdeal.main (F := Ideal))) ⟨m', fun _ => 0, g'⟩ (fun r => ∀ c : Dev Cert.ConvRIdeal.nD,
          r.2.mem ((c.tc : Thread Cert.ConvRIdeal.nD Cert.ConvRIdeal.τ).loc Cert.ConvRIdeal.main_v586) = v0 c
          ∧ r.2.mem ((c.tc : Thread Cert.ConvRIdeal.nD Cert.ConvRIdeal.τ).loc Cert.ConvRIdeal.main_v588) = v1 c
          ∧ r.2.mem ((c.tc : Thread Cert.ConvRIdeal.nD Cert.ConvRIdeal.τ).loc Cert.ConvRIdeal.main_v589) = v2 c
          ∧ r.2.mem ((c.tc : Thread Cert.ConvRIdeal.nD Cert.ConvRIdeal.τ).loc Cert.ConvRIdeal.main_v567) = v3 c
          ∧ r.2.mem ((c.tc : Thread Cert.ConvRIdeal.nD Cert.ConvRIdeal.τ).loc Cert.ConvRIdeal.main_arg0) = m' ((c.tc : Thread Cert.ConvRIdeal.nD Cert.ConvRIdeal.τ).loc Cert.ConvRIdeal.main_arg0)
          ∧ r.2.mem ((c.tc : Thread Cert.ConvRIdeal.nD Cert.ConvRIdeal.τ).loc Cert.ConvRIdeal.main_arg1) = m' ((c.tc : Thread Cert.ConvRIdeal.nD Cert.ConvRIdeal.τ).loc Cert.ConvRIdeal.main_arg1)
          ∧ r.2.mem ((c.tc : Thread Cert.ConvRIdeal.nD Cert.ConvRIdeal.τ).loc Cert.ConvRIdeal.main_arg2) = m' ((c.tc : Thread Cert.ConvRIdeal.nD Cert.ConvRIdeal.τ).loc Cert.ConvRIdeal.main_arg2))

def preserves_GateK_GateKIdeal : Prop :=
  True

def algebraic_GateKIdeal_GateRIdeal [hGateKIdeal : Cert.GateKIdeal.Facts] [hGateRIdeal : Cert.GateRIdeal.Facts] : Prop :=
  ∀ (m : (ℓ : Loc Cert.GateKIdeal.nD Cert.GateKIdeal.τ Cert.GateKIdeal.sig) → Buf (Elt Ideal) ℓ) (g : Dev Cert.GateKIdeal.nD → PrngReg)
    (m' : (ℓ : Loc Cert.GateRIdeal.nD Cert.GateRIdeal.τ Cert.GateRIdeal.sig) → Buf (Elt Ideal) ℓ) (g' : Dev Cert.GateRIdeal.nD → PrngReg), Pre_GateKIdeal m →
    (∀ c : Dev Cert.GateKIdeal.nD,
      m' ((c.tc : Thread Cert.GateRIdeal.nD Cert.GateRIdeal.τ).loc Cert.GateRIdeal.main_arg0) = m ((c.tc : Thread Cert.GateKIdeal.nD Cert.GateKIdeal.τ).loc Cert.GateKIdeal.main_arg0)
      ∧ m' ((c.tc : Thread Cert.GateRIdeal.nD Cert.GateRIdeal.τ).loc Cert.GateRIdeal.main_arg1) = m ((c.tc : Thread Cert.GateKIdeal.nD Cert.GateKIdeal.τ).loc Cert.GateKIdeal.main_arg1)
      ∧ m' ((c.tc : Thread Cert.GateRIdeal.nD Cert.GateRIdeal.τ).loc Cert.GateRIdeal.main_arg2) = m ((c.tc : Thread Cert.GateKIdeal.nD Cert.GateKIdeal.τ).loc Cert.GateKIdeal.main_arg2)
      ∧ m' ((c.tc : Thread Cert.GateRIdeal.nD Cert.GateRIdeal.τ).loc Cert.GateRIdeal.main_arg3) = m ((c.tc : Thread Cert.GateKIdeal.nD Cert.GateKIdeal.τ).loc Cert.GateKIdeal.main_arg3)
      ∧ m' ((c.tc : Thread Cert.GateRIdeal.nD Cert.GateRIdeal.τ).loc Cert.GateRIdeal.main_arg4) = m ((c.tc : Thread Cert.GateKIdeal.nD Cert.GateKIdeal.τ).loc Cert.GateKIdeal.main_arg4)
      ∧ m' ((c.tc : Thread Cert.GateRIdeal.nD Cert.GateRIdeal.τ).loc Cert.GateRIdeal.main_arg5) = m ((c.tc : Thread Cert.GateKIdeal.nD Cert.GateKIdeal.τ).loc Cert.GateKIdeal.main_arg5)) →
    ∃ (v0 : (c : Dev Cert.GateKIdeal.nD) → Buf (Elt Ideal) ((c.tc : Thread Cert.GateKIdeal.nD Cert.GateKIdeal.τ).loc Cert.GateKIdeal.main_v0_0)) (v1 : (c : Dev Cert.GateKIdeal.nD) → Buf (Elt Ideal) ((c.tc : Thread Cert.GateKIdeal.nD Cert.GateKIdeal.τ).loc Cert.GateKIdeal.main_v0_1)) (v2 : (c : Dev Cert.GateKIdeal.nD) → Buf (Elt Ideal) ((c.tc : Thread Cert.GateKIdeal.nD Cert.GateKIdeal.τ).loc Cert.GateKIdeal.main_v0_2)) (v3 : (c : Dev Cert.GateKIdeal.nD) → Buf (Elt Ideal) ((c.tc : Thread Cert.GateKIdeal.nD Cert.GateKIdeal.τ).loc Cert.GateKIdeal.main_v0_3)) (v4 : (c : Dev Cert.GateKIdeal.nD) → Buf (Elt Ideal) ((c.tc : Thread Cert.GateKIdeal.nD Cert.GateKIdeal.τ).loc Cert.GateKIdeal.main_v0_4)) (v5 : (c : Dev Cert.GateKIdeal.nD) → Buf (Elt Ideal) ((c.tc : Thread Cert.GateKIdeal.nD Cert.GateKIdeal.τ).loc Cert.GateKIdeal.main_v0_5)),
      θ_run (Cert.GateKIdeal.defs (F := Ideal)) (onTc (τ := Cert.GateKIdeal.τ) (Cert.GateKIdeal.main (F := Ideal))) ⟨m, fun _ => 0, g⟩ (fun r => ∀ c : Dev Cert.GateKIdeal.nD,
          r.2.mem ((c.tc : Thread Cert.GateKIdeal.nD Cert.GateKIdeal.τ).loc Cert.GateKIdeal.main_v0_0) = v0 c
          ∧ r.2.mem ((c.tc : Thread Cert.GateKIdeal.nD Cert.GateKIdeal.τ).loc Cert.GateKIdeal.main_v0_1) = v1 c
          ∧ r.2.mem ((c.tc : Thread Cert.GateKIdeal.nD Cert.GateKIdeal.τ).loc Cert.GateKIdeal.main_v0_2) = v2 c
          ∧ r.2.mem ((c.tc : Thread Cert.GateKIdeal.nD Cert.GateKIdeal.τ).loc Cert.GateKIdeal.main_v0_3) = v3 c
          ∧ r.2.mem ((c.tc : Thread Cert.GateKIdeal.nD Cert.GateKIdeal.τ).loc Cert.GateKIdeal.main_v0_4) = v4 c
          ∧ r.2.mem ((c.tc : Thread Cert.GateKIdeal.nD Cert.GateKIdeal.τ).loc Cert.GateKIdeal.main_v0_5) = v5 c
          ∧ r.2.mem ((c.tc : Thread Cert.GateKIdeal.nD Cert.GateKIdeal.τ).loc Cert.GateKIdeal.main_arg0) = m ((c.tc : Thread Cert.GateKIdeal.nD Cert.GateKIdeal.τ).loc Cert.GateKIdeal.main_arg0)
          ∧ r.2.mem ((c.tc : Thread Cert.GateKIdeal.nD Cert.GateKIdeal.τ).loc Cert.GateKIdeal.main_arg1) = m ((c.tc : Thread Cert.GateKIdeal.nD Cert.GateKIdeal.τ).loc Cert.GateKIdeal.main_arg1)
          ∧ r.2.mem ((c.tc : Thread Cert.GateKIdeal.nD Cert.GateKIdeal.τ).loc Cert.GateKIdeal.main_arg2) = m ((c.tc : Thread Cert.GateKIdeal.nD Cert.GateKIdeal.τ).loc Cert.GateKIdeal.main_arg2)
          ∧ r.2.mem ((c.tc : Thread Cert.GateKIdeal.nD Cert.GateKIdeal.τ).loc Cert.GateKIdeal.main_arg3) = m ((c.tc : Thread Cert.GateKIdeal.nD Cert.GateKIdeal.τ).loc Cert.GateKIdeal.main_arg3)
          ∧ r.2.mem ((c.tc : Thread Cert.GateKIdeal.nD Cert.GateKIdeal.τ).loc Cert.GateKIdeal.main_arg4) = m ((c.tc : Thread Cert.GateKIdeal.nD Cert.GateKIdeal.τ).loc Cert.GateKIdeal.main_arg4)
          ∧ r.2.mem ((c.tc : Thread Cert.GateKIdeal.nD Cert.GateKIdeal.τ).loc Cert.GateKIdeal.main_arg5) = m ((c.tc : Thread Cert.GateKIdeal.nD Cert.GateKIdeal.τ).loc Cert.GateKIdeal.main_arg5))
      ∧ θ_run (Cert.GateRIdeal.defs (F := Ideal)) (onTc (τ := Cert.GateRIdeal.τ) (Cert.GateRIdeal.main (F := Ideal))) ⟨m', fun _ => 0, g'⟩ (fun r => ∀ c : Dev Cert.GateRIdeal.nD,
          r.2.mem ((c.tc : Thread Cert.GateRIdeal.nD Cert.GateRIdeal.τ).loc Cert.GateRIdeal.main_v30) = v0 c
          ∧ r.2.mem ((c.tc : Thread Cert.GateRIdeal.nD Cert.GateRIdeal.τ).loc Cert.GateRIdeal.main_v32) = v1 c
          ∧ r.2.mem ((c.tc : Thread Cert.GateRIdeal.nD Cert.GateRIdeal.τ).loc Cert.GateRIdeal.main_v33) = v2 c
          ∧ r.2.mem ((c.tc : Thread Cert.GateRIdeal.nD Cert.GateRIdeal.τ).loc Cert.GateRIdeal.main_v34) = v3 c
          ∧ r.2.mem ((c.tc : Thread Cert.GateRIdeal.nD Cert.GateRIdeal.τ).loc Cert.GateRIdeal.main_v35) = v4 c
          ∧ r.2.mem ((c.tc : Thread Cert.GateRIdeal.nD Cert.GateRIdeal.τ).loc Cert.GateRIdeal.main_v36) = v5 c
          ∧ r.2.mem ((c.tc : Thread Cert.GateRIdeal.nD Cert.GateRIdeal.τ).loc Cert.GateRIdeal.main_arg0) = m' ((c.tc : Thread Cert.GateRIdeal.nD Cert.GateRIdeal.τ).loc Cert.GateRIdeal.main_arg0)
          ∧ r.2.mem ((c.tc : Thread Cert.GateRIdeal.nD Cert.GateRIdeal.τ).loc Cert.GateRIdeal.main_arg1) = m' ((c.tc : Thread Cert.GateRIdeal.nD Cert.GateRIdeal.τ).loc Cert.GateRIdeal.main_arg1)
          ∧ r.2.mem ((c.tc : Thread Cert.GateRIdeal.nD Cert.GateRIdeal.τ).loc Cert.GateRIdeal.main_arg2) = m' ((c.tc : Thread Cert.GateRIdeal.nD Cert.GateRIdeal.τ).loc Cert.GateRIdeal.main_arg2)
          ∧ r.2.mem ((c.tc : Thread Cert.GateRIdeal.nD Cert.GateRIdeal.τ).loc Cert.GateRIdeal.main_arg3) = m' ((c.tc : Thread Cert.GateRIdeal.nD Cert.GateRIdeal.τ).loc Cert.GateRIdeal.main_arg3)
          ∧ r.2.mem ((c.tc : Thread Cert.GateRIdeal.nD Cert.GateRIdeal.τ).loc Cert.GateRIdeal.main_arg4) = m' ((c.tc : Thread Cert.GateRIdeal.nD Cert.GateRIdeal.τ).loc Cert.GateRIdeal.main_arg4)
          ∧ r.2.mem ((c.tc : Thread Cert.GateRIdeal.nD Cert.GateRIdeal.τ).loc Cert.GateRIdeal.main_arg5) = m' ((c.tc : Thread Cert.GateRIdeal.nD Cert.GateRIdeal.τ).loc Cert.GateRIdeal.main_arg5))

def preserves_FfnK_FfnKIdeal : Prop :=
  True

def algebraic_FfnKIdeal_FfnRIdeal [hFfnKIdeal : Cert.FfnKIdeal.Facts] [hFfnRIdeal : Cert.FfnRIdeal.Facts] : Prop :=
  ∀ (m : (ℓ : Loc Cert.FfnKIdeal.nD Cert.FfnKIdeal.τ Cert.FfnKIdeal.sig) → Buf (Elt Ideal) ℓ) (g : Dev Cert.FfnKIdeal.nD → PrngReg)
    (m' : (ℓ : Loc Cert.FfnRIdeal.nD Cert.FfnRIdeal.τ Cert.FfnRIdeal.sig) → Buf (Elt Ideal) ℓ) (g' : Dev Cert.FfnRIdeal.nD → PrngReg), Pre_FfnKIdeal m →
    (∀ c : Dev Cert.FfnKIdeal.nD,
      m' ((c.tc : Thread Cert.FfnRIdeal.nD Cert.FfnRIdeal.τ).loc Cert.FfnRIdeal.main_arg0) = m ((c.tc : Thread Cert.FfnKIdeal.nD Cert.FfnKIdeal.τ).loc Cert.FfnKIdeal.main_arg0)
      ∧ m' ((c.tc : Thread Cert.FfnRIdeal.nD Cert.FfnRIdeal.τ).loc Cert.FfnRIdeal.main_arg1) = m ((c.tc : Thread Cert.FfnKIdeal.nD Cert.FfnKIdeal.τ).loc Cert.FfnKIdeal.main_arg1)
      ∧ m' ((c.tc : Thread Cert.FfnRIdeal.nD Cert.FfnRIdeal.τ).loc Cert.FfnRIdeal.main_arg2) = m ((c.tc : Thread Cert.FfnKIdeal.nD Cert.FfnKIdeal.τ).loc Cert.FfnKIdeal.main_arg2)
      ∧ m' ((c.tc : Thread Cert.FfnRIdeal.nD Cert.FfnRIdeal.τ).loc Cert.FfnRIdeal.main_arg3) = m ((c.tc : Thread Cert.FfnKIdeal.nD Cert.FfnKIdeal.τ).loc Cert.FfnKIdeal.main_arg3)) →
    ∃ (v0 : (c : Dev Cert.FfnKIdeal.nD) → Buf (Elt Ideal) ((c.tc : Thread Cert.FfnKIdeal.nD Cert.FfnKIdeal.τ).loc Cert.FfnKIdeal.main_v0)),
      θ_run (Cert.FfnKIdeal.defs (F := Ideal)) (onTc (τ := Cert.FfnKIdeal.τ) (Cert.FfnKIdeal.main (F := Ideal))) ⟨m, fun _ => 0, g⟩ (fun r => ∀ c : Dev Cert.FfnKIdeal.nD,
          r.2.mem ((c.tc : Thread Cert.FfnKIdeal.nD Cert.FfnKIdeal.τ).loc Cert.FfnKIdeal.main_v0) = v0 c
          ∧ r.2.mem ((c.tc : Thread Cert.FfnKIdeal.nD Cert.FfnKIdeal.τ).loc Cert.FfnKIdeal.main_arg0) = m ((c.tc : Thread Cert.FfnKIdeal.nD Cert.FfnKIdeal.τ).loc Cert.FfnKIdeal.main_arg0)
          ∧ r.2.mem ((c.tc : Thread Cert.FfnKIdeal.nD Cert.FfnKIdeal.τ).loc Cert.FfnKIdeal.main_arg1) = m ((c.tc : Thread Cert.FfnKIdeal.nD Cert.FfnKIdeal.τ).loc Cert.FfnKIdeal.main_arg1)
          ∧ r.2.mem ((c.tc : Thread Cert.FfnKIdeal.nD Cert.FfnKIdeal.τ).loc Cert.FfnKIdeal.main_arg2) = m ((c.tc : Thread Cert.FfnKIdeal.nD Cert.FfnKIdeal.τ).loc Cert.FfnKIdeal.main_arg2)
          ∧ r.2.mem ((c.tc : Thread Cert.FfnKIdeal.nD Cert.FfnKIdeal.τ).loc Cert.FfnKIdeal.main_arg3) = m ((c.tc : Thread Cert.FfnKIdeal.nD Cert.FfnKIdeal.τ).loc Cert.FfnKIdeal.main_arg3))
      ∧ θ_run (Cert.FfnRIdeal.defs (F := Ideal)) (onTc (τ := Cert.FfnRIdeal.τ) (Cert.FfnRIdeal.main (F := Ideal))) ⟨m', fun _ => 0, g'⟩ (fun r => ∀ c : Dev Cert.FfnRIdeal.nD,
          r.2.mem ((c.tc : Thread Cert.FfnRIdeal.nD Cert.FfnRIdeal.τ).loc Cert.FfnRIdeal.main_v23) = v0 c
          ∧ r.2.mem ((c.tc : Thread Cert.FfnRIdeal.nD Cert.FfnRIdeal.τ).loc Cert.FfnRIdeal.main_arg0) = m' ((c.tc : Thread Cert.FfnRIdeal.nD Cert.FfnRIdeal.τ).loc Cert.FfnRIdeal.main_arg0)
          ∧ r.2.mem ((c.tc : Thread Cert.FfnRIdeal.nD Cert.FfnRIdeal.τ).loc Cert.FfnRIdeal.main_arg1) = m' ((c.tc : Thread Cert.FfnRIdeal.nD Cert.FfnRIdeal.τ).loc Cert.FfnRIdeal.main_arg1)
          ∧ r.2.mem ((c.tc : Thread Cert.FfnRIdeal.nD Cert.FfnRIdeal.τ).loc Cert.FfnRIdeal.main_arg2) = m' ((c.tc : Thread Cert.FfnRIdeal.nD Cert.FfnRIdeal.τ).loc Cert.FfnRIdeal.main_arg2)
          ∧ r.2.mem ((c.tc : Thread Cert.FfnRIdeal.nD Cert.FfnRIdeal.τ).loc Cert.FfnRIdeal.main_arg3) = m' ((c.tc : Thread Cert.FfnRIdeal.nD Cert.FfnRIdeal.τ).loc Cert.FfnRIdeal.main_arg3))

def preserves_InDwK_InDwKIdeal : Prop :=
  True

def algebraic_InDwKIdeal_InDwRIdeal [hInDwKIdeal : Cert.InDwKIdeal.Facts] [hInDwRIdeal : Cert.InDwRIdeal.Facts] : Prop :=
  ∀ (m : (ℓ : Loc Cert.InDwKIdeal.nD Cert.InDwKIdeal.τ Cert.InDwKIdeal.sig) → Buf (Elt Ideal) ℓ) (g : Dev Cert.InDwKIdeal.nD → PrngReg)
    (m' : (ℓ : Loc Cert.InDwRIdeal.nD Cert.InDwRIdeal.τ Cert.InDwRIdeal.sig) → Buf (Elt Ideal) ℓ) (g' : Dev Cert.InDwRIdeal.nD → PrngReg), Pre_InDwKIdeal m →
    (∀ c : Dev Cert.InDwKIdeal.nD,
      m' ((c.tc : Thread Cert.InDwRIdeal.nD Cert.InDwRIdeal.τ).loc Cert.InDwRIdeal.main_arg0) = m ((c.tc : Thread Cert.InDwKIdeal.nD Cert.InDwKIdeal.τ).loc Cert.InDwKIdeal.main_arg0)
      ∧ m' ((c.tc : Thread Cert.InDwRIdeal.nD Cert.InDwRIdeal.τ).loc Cert.InDwRIdeal.main_arg1) = m ((c.tc : Thread Cert.InDwKIdeal.nD Cert.InDwKIdeal.τ).loc Cert.InDwKIdeal.main_arg1)) →
    ∃ (v0 : (c : Dev Cert.InDwKIdeal.nD) → Buf (Elt Ideal) ((c.tc : Thread Cert.InDwKIdeal.nD Cert.InDwKIdeal.τ).loc Cert.InDwKIdeal.main_v0_0)) (v1 : (c : Dev Cert.InDwKIdeal.nD) → Buf (Elt Ideal) ((c.tc : Thread Cert.InDwKIdeal.nD Cert.InDwKIdeal.τ).loc Cert.InDwKIdeal.main_v0_1)),
      θ_run (Cert.InDwKIdeal.defs (F := Ideal)) (onTc (τ := Cert.InDwKIdeal.τ) (Cert.InDwKIdeal.main (F := Ideal))) ⟨m, fun _ => 0, g⟩ (fun r => ∀ c : Dev Cert.InDwKIdeal.nD,
          r.2.mem ((c.tc : Thread Cert.InDwKIdeal.nD Cert.InDwKIdeal.τ).loc Cert.InDwKIdeal.main_v0_0) = v0 c
          ∧ r.2.mem ((c.tc : Thread Cert.InDwKIdeal.nD Cert.InDwKIdeal.τ).loc Cert.InDwKIdeal.main_v0_1) = v1 c
          ∧ r.2.mem ((c.tc : Thread Cert.InDwKIdeal.nD Cert.InDwKIdeal.τ).loc Cert.InDwKIdeal.main_arg0) = m ((c.tc : Thread Cert.InDwKIdeal.nD Cert.InDwKIdeal.τ).loc Cert.InDwKIdeal.main_arg0)
          ∧ r.2.mem ((c.tc : Thread Cert.InDwKIdeal.nD Cert.InDwKIdeal.τ).loc Cert.InDwKIdeal.main_arg1) = m ((c.tc : Thread Cert.InDwKIdeal.nD Cert.InDwKIdeal.τ).loc Cert.InDwKIdeal.main_arg1))
      ∧ θ_run (Cert.InDwRIdeal.defs (F := Ideal)) (onTc (τ := Cert.InDwRIdeal.τ) (Cert.InDwRIdeal.main (F := Ideal))) ⟨m', fun _ => 0, g'⟩ (fun r => ∀ c : Dev Cert.InDwRIdeal.nD,
          r.2.mem ((c.tc : Thread Cert.InDwRIdeal.nD Cert.InDwRIdeal.τ).loc Cert.InDwRIdeal.main_v7) = v0 c
          ∧ r.2.mem ((c.tc : Thread Cert.InDwRIdeal.nD Cert.InDwRIdeal.τ).loc Cert.InDwRIdeal.main_v8) = v1 c
          ∧ r.2.mem ((c.tc : Thread Cert.InDwRIdeal.nD Cert.InDwRIdeal.τ).loc Cert.InDwRIdeal.main_arg0) = m' ((c.tc : Thread Cert.InDwRIdeal.nD Cert.InDwRIdeal.τ).loc Cert.InDwRIdeal.main_arg0)
          ∧ r.2.mem ((c.tc : Thread Cert.InDwRIdeal.nD Cert.InDwRIdeal.τ).loc Cert.InDwRIdeal.main_arg1) = m' ((c.tc : Thread Cert.InDwRIdeal.nD Cert.InDwRIdeal.τ).loc Cert.InDwRIdeal.main_arg1))

def preserves_FinDwK_FinDwKIdeal : Prop :=
  True

def algebraic_FinDwKIdeal_FinDwRIdeal [hFinDwKIdeal : Cert.FinDwKIdeal.Facts] [hFinDwRIdeal : Cert.FinDwRIdeal.Facts] : Prop :=
  ∀ (m : (ℓ : Loc Cert.FinDwKIdeal.nD Cert.FinDwKIdeal.τ Cert.FinDwKIdeal.sig) → Buf (Elt Ideal) ℓ) (g : Dev Cert.FinDwKIdeal.nD → PrngReg)
    (m' : (ℓ : Loc Cert.FinDwRIdeal.nD Cert.FinDwRIdeal.τ Cert.FinDwRIdeal.sig) → Buf (Elt Ideal) ℓ) (g' : Dev Cert.FinDwRIdeal.nD → PrngReg), Pre_FinDwKIdeal m →
    (∀ c : Dev Cert.FinDwKIdeal.nD,
      m' ((c.tc : Thread Cert.FinDwRIdeal.nD Cert.FinDwRIdeal.τ).loc Cert.FinDwRIdeal.main_arg0) = m ((c.tc : Thread Cert.FinDwKIdeal.nD Cert.FinDwKIdeal.τ).loc Cert.FinDwKIdeal.main_arg0)
      ∧ m' ((c.tc : Thread Cert.FinDwRIdeal.nD Cert.FinDwRIdeal.τ).loc Cert.FinDwRIdeal.main_arg1) = m ((c.tc : Thread Cert.FinDwKIdeal.nD Cert.FinDwKIdeal.τ).loc Cert.FinDwKIdeal.main_arg1)) →
    ∃ (v0 : (c : Dev Cert.FinDwKIdeal.nD) → Buf (Elt Ideal) ((c.tc : Thread Cert.FinDwKIdeal.nD Cert.FinDwKIdeal.τ).loc Cert.FinDwKIdeal.main_v0_0)) (v1 : (c : Dev Cert.FinDwKIdeal.nD) → Buf (Elt Ideal) ((c.tc : Thread Cert.FinDwKIdeal.nD Cert.FinDwKIdeal.τ).loc Cert.FinDwKIdeal.main_v0_1)),
      θ_run (Cert.FinDwKIdeal.defs (F := Ideal)) (onTc (τ := Cert.FinDwKIdeal.τ) (Cert.FinDwKIdeal.main (F := Ideal))) ⟨m, fun _ => 0, g⟩ (fun r => ∀ c : Dev Cert.FinDwKIdeal.nD,
          r.2.mem ((c.tc : Thread Cert.FinDwKIdeal.nD Cert.FinDwKIdeal.τ).loc Cert.FinDwKIdeal.main_v0_0) = v0 c
          ∧ r.2.mem ((c.tc : Thread Cert.FinDwKIdeal.nD Cert.FinDwKIdeal.τ).loc Cert.FinDwKIdeal.main_v0_1) = v1 c
          ∧ r.2.mem ((c.tc : Thread Cert.FinDwKIdeal.nD Cert.FinDwKIdeal.τ).loc Cert.FinDwKIdeal.main_arg0) = m ((c.tc : Thread Cert.FinDwKIdeal.nD Cert.FinDwKIdeal.τ).loc Cert.FinDwKIdeal.main_arg0)
          ∧ r.2.mem ((c.tc : Thread Cert.FinDwKIdeal.nD Cert.FinDwKIdeal.τ).loc Cert.FinDwKIdeal.main_arg1) = m ((c.tc : Thread Cert.FinDwKIdeal.nD Cert.FinDwKIdeal.τ).loc Cert.FinDwKIdeal.main_arg1))
      ∧ θ_run (Cert.FinDwRIdeal.defs (F := Ideal)) (onTc (τ := Cert.FinDwRIdeal.τ) (Cert.FinDwRIdeal.main (F := Ideal))) ⟨m', fun _ => 0, g'⟩ (fun r => ∀ c : Dev Cert.FinDwRIdeal.nD,
          r.2.mem ((c.tc : Thread Cert.FinDwRIdeal.nD Cert.FinDwRIdeal.τ).loc Cert.FinDwRIdeal.main_v17) = v0 c
          ∧ r.2.mem ((c.tc : Thread Cert.FinDwRIdeal.nD Cert.FinDwRIdeal.τ).loc Cert.FinDwRIdeal.main_v18) = v1 c
          ∧ r.2.mem ((c.tc : Thread Cert.FinDwRIdeal.nD Cert.FinDwRIdeal.τ).loc Cert.FinDwRIdeal.main_arg0) = m' ((c.tc : Thread Cert.FinDwRIdeal.nD Cert.FinDwRIdeal.τ).loc Cert.FinDwRIdeal.main_arg0)
          ∧ r.2.mem ((c.tc : Thread Cert.FinDwRIdeal.nD Cert.FinDwRIdeal.τ).loc Cert.FinDwRIdeal.main_arg1) = m' ((c.tc : Thread Cert.FinDwRIdeal.nD Cert.FinDwRIdeal.τ).loc Cert.FinDwRIdeal.main_arg1))

def preserves_FinDxK_FinDxKIdeal : Prop :=
  True

def algebraic_FinDxKIdeal_FinDxRIdeal [hFinDxKIdeal : Cert.FinDxKIdeal.Facts] [hFinDxRIdeal : Cert.FinDxRIdeal.Facts] : Prop :=
  ∀ (m : (ℓ : Loc Cert.FinDxKIdeal.nD Cert.FinDxKIdeal.τ Cert.FinDxKIdeal.sig) → Buf (Elt Ideal) ℓ) (g : Dev Cert.FinDxKIdeal.nD → PrngReg)
    (m' : (ℓ : Loc Cert.FinDxRIdeal.nD Cert.FinDxRIdeal.τ Cert.FinDxRIdeal.sig) → Buf (Elt Ideal) ℓ) (g' : Dev Cert.FinDxRIdeal.nD → PrngReg), Pre_FinDxKIdeal m →
    (∀ c : Dev Cert.FinDxKIdeal.nD,
      m' ((c.tc : Thread Cert.FinDxRIdeal.nD Cert.FinDxRIdeal.τ).loc Cert.FinDxRIdeal.main_arg0) = m ((c.tc : Thread Cert.FinDxKIdeal.nD Cert.FinDxKIdeal.τ).loc Cert.FinDxKIdeal.main_arg0)
      ∧ m' ((c.tc : Thread Cert.FinDxRIdeal.nD Cert.FinDxRIdeal.τ).loc Cert.FinDxRIdeal.main_arg1) = m ((c.tc : Thread Cert.FinDxKIdeal.nD Cert.FinDxKIdeal.τ).loc Cert.FinDxKIdeal.main_arg1)) →
    ∃ (v0 : (c : Dev Cert.FinDxKIdeal.nD) → Buf (Elt Ideal) ((c.tc : Thread Cert.FinDxKIdeal.nD Cert.FinDxKIdeal.τ).loc Cert.FinDxKIdeal.main_v0)),
      θ_run (Cert.FinDxKIdeal.defs (F := Ideal)) (onTc (τ := Cert.FinDxKIdeal.τ) (Cert.FinDxKIdeal.main (F := Ideal))) ⟨m, fun _ => 0, g⟩ (fun r => ∀ c : Dev Cert.FinDxKIdeal.nD,
          r.2.mem ((c.tc : Thread Cert.FinDxKIdeal.nD Cert.FinDxKIdeal.τ).loc Cert.FinDxKIdeal.main_v0) = v0 c
          ∧ r.2.mem ((c.tc : Thread Cert.FinDxKIdeal.nD Cert.FinDxKIdeal.τ).loc Cert.FinDxKIdeal.main_arg0) = m ((c.tc : Thread Cert.FinDxKIdeal.nD Cert.FinDxKIdeal.τ).loc Cert.FinDxKIdeal.main_arg0)
          ∧ r.2.mem ((c.tc : Thread Cert.FinDxKIdeal.nD Cert.FinDxKIdeal.τ).loc Cert.FinDxKIdeal.main_arg1) = m ((c.tc : Thread Cert.FinDxKIdeal.nD Cert.FinDxKIdeal.τ).loc Cert.FinDxKIdeal.main_arg1))
      ∧ θ_run (Cert.FinDxRIdeal.defs (F := Ideal)) (onTc (τ := Cert.FinDxRIdeal.τ) (Cert.FinDxRIdeal.main (F := Ideal))) ⟨m', fun _ => 0, g'⟩ (fun r => ∀ c : Dev Cert.FinDxRIdeal.nD,
          r.2.mem ((c.tc : Thread Cert.FinDxRIdeal.nD Cert.FinDxRIdeal.τ).loc Cert.FinDxRIdeal.main_v16) = v0 c
          ∧ r.2.mem ((c.tc : Thread Cert.FinDxRIdeal.nD Cert.FinDxRIdeal.τ).loc Cert.FinDxRIdeal.main_arg0) = m' ((c.tc : Thread Cert.FinDxRIdeal.nD Cert.FinDxRIdeal.τ).loc Cert.FinDxRIdeal.main_arg0)
          ∧ r.2.mem ((c.tc : Thread Cert.FinDxRIdeal.nD Cert.FinDxRIdeal.τ).loc Cert.FinDxRIdeal.main_arg1) = m' ((c.tc : Thread Cert.FinDxRIdeal.nD Cert.FinDxRIdeal.τ).loc Cert.FinDxRIdeal.main_arg1))

def preserves_FoutDwK_FoutDwKIdeal : Prop :=
  True

def algebraic_FoutDwKIdeal_FoutDwRIdeal [hFoutDwKIdeal : Cert.FoutDwKIdeal.Facts] [hFoutDwRIdeal : Cert.FoutDwRIdeal.Facts] : Prop :=
  ∀ (m : (ℓ : Loc Cert.FoutDwKIdeal.nD Cert.FoutDwKIdeal.τ Cert.FoutDwKIdeal.sig) → Buf (Elt Ideal) ℓ) (g : Dev Cert.FoutDwKIdeal.nD → PrngReg)
    (m' : (ℓ : Loc Cert.FoutDwRIdeal.nD Cert.FoutDwRIdeal.τ Cert.FoutDwRIdeal.sig) → Buf (Elt Ideal) ℓ) (g' : Dev Cert.FoutDwRIdeal.nD → PrngReg), Pre_FoutDwKIdeal m →
    (∀ c : Dev Cert.FoutDwKIdeal.nD,
      m' ((c.tc : Thread Cert.FoutDwRIdeal.nD Cert.FoutDwRIdeal.τ).loc Cert.FoutDwRIdeal.main_arg0) = m ((c.tc : Thread Cert.FoutDwKIdeal.nD Cert.FoutDwKIdeal.τ).loc Cert.FoutDwKIdeal.main_arg0)
      ∧ m' ((c.tc : Thread Cert.FoutDwRIdeal.nD Cert.FoutDwRIdeal.τ).loc Cert.FoutDwRIdeal.main_arg1) = m ((c.tc : Thread Cert.FoutDwKIdeal.nD Cert.FoutDwKIdeal.τ).loc Cert.FoutDwKIdeal.main_arg1)) →
    ∃ (v0 : (c : Dev Cert.FoutDwKIdeal.nD) → Buf (Elt Ideal) ((c.tc : Thread Cert.FoutDwKIdeal.nD Cert.FoutDwKIdeal.τ).loc Cert.FoutDwKIdeal.main_v0_0)) (v1 : (c : Dev Cert.FoutDwKIdeal.nD) → Buf (Elt Ideal) ((c.tc : Thread Cert.FoutDwKIdeal.nD Cert.FoutDwKIdeal.τ).loc Cert.FoutDwKIdeal.main_v0_1)),
      θ_run (Cert.FoutDwKIdeal.defs (F := Ideal)) (onTc (τ := Cert.FoutDwKIdeal.τ) (Cert.FoutDwKIdeal.main (F := Ideal))) ⟨m, fun _ => 0, g⟩ (fun r => ∀ c : Dev Cert.FoutDwKIdeal.nD,
          r.2.mem ((c.tc : Thread Cert.FoutDwKIdeal.nD Cert.FoutDwKIdeal.τ).loc Cert.FoutDwKIdeal.main_v0_0) = v0 c
          ∧ r.2.mem ((c.tc : Thread Cert.FoutDwKIdeal.nD Cert.FoutDwKIdeal.τ).loc Cert.FoutDwKIdeal.main_v0_1) = v1 c
          ∧ r.2.mem ((c.tc : Thread Cert.FoutDwKIdeal.nD Cert.FoutDwKIdeal.τ).loc Cert.FoutDwKIdeal.main_arg0) = m ((c.tc : Thread Cert.FoutDwKIdeal.nD Cert.FoutDwKIdeal.τ).loc Cert.FoutDwKIdeal.main_arg0)
          ∧ r.2.mem ((c.tc : Thread Cert.FoutDwKIdeal.nD Cert.FoutDwKIdeal.τ).loc Cert.FoutDwKIdeal.main_arg1) = m ((c.tc : Thread Cert.FoutDwKIdeal.nD Cert.FoutDwKIdeal.τ).loc Cert.FoutDwKIdeal.main_arg1))
      ∧ θ_run (Cert.FoutDwRIdeal.defs (F := Ideal)) (onTc (τ := Cert.FoutDwRIdeal.τ) (Cert.FoutDwRIdeal.main (F := Ideal))) ⟨m', fun _ => 0, g'⟩ (fun r => ∀ c : Dev Cert.FoutDwRIdeal.nD,
          r.2.mem ((c.tc : Thread Cert.FoutDwRIdeal.nD Cert.FoutDwRIdeal.τ).loc Cert.FoutDwRIdeal.main_v8) = v0 c
          ∧ r.2.mem ((c.tc : Thread Cert.FoutDwRIdeal.nD Cert.FoutDwRIdeal.τ).loc Cert.FoutDwRIdeal.main_v9) = v1 c
          ∧ r.2.mem ((c.tc : Thread Cert.FoutDwRIdeal.nD Cert.FoutDwRIdeal.τ).loc Cert.FoutDwRIdeal.main_arg0) = m' ((c.tc : Thread Cert.FoutDwRIdeal.nD Cert.FoutDwRIdeal.τ).loc Cert.FoutDwRIdeal.main_arg0)
          ∧ r.2.mem ((c.tc : Thread Cert.FoutDwRIdeal.nD Cert.FoutDwRIdeal.τ).loc Cert.FoutDwRIdeal.main_arg1) = m' ((c.tc : Thread Cert.FoutDwRIdeal.nD Cert.FoutDwRIdeal.τ).loc Cert.FoutDwRIdeal.main_arg1))

def preserves_MixDwK_MixDwKIdeal : Prop :=
  True

def algebraic_MixDwKIdeal_MixDwRIdeal [hMixDwKIdeal : Cert.MixDwKIdeal.Facts] [hMixDwRIdeal : Cert.MixDwRIdeal.Facts] : Prop :=
  ∀ (m : (ℓ : Loc Cert.MixDwKIdeal.nD Cert.MixDwKIdeal.τ Cert.MixDwKIdeal.sig) → Buf (Elt Ideal) ℓ) (g : Dev Cert.MixDwKIdeal.nD → PrngReg)
    (m' : (ℓ : Loc Cert.MixDwRIdeal.nD Cert.MixDwRIdeal.τ Cert.MixDwRIdeal.sig) → Buf (Elt Ideal) ℓ) (g' : Dev Cert.MixDwRIdeal.nD → PrngReg), Pre_MixDwKIdeal m →
    (∀ c : Dev Cert.MixDwKIdeal.nD,
      m' ((c.tc : Thread Cert.MixDwRIdeal.nD Cert.MixDwRIdeal.τ).loc Cert.MixDwRIdeal.main_arg0) = m ((c.tc : Thread Cert.MixDwKIdeal.nD Cert.MixDwKIdeal.τ).loc Cert.MixDwKIdeal.main_arg0)
      ∧ m' ((c.tc : Thread Cert.MixDwRIdeal.nD Cert.MixDwRIdeal.τ).loc Cert.MixDwRIdeal.main_arg1) = m ((c.tc : Thread Cert.MixDwKIdeal.nD Cert.MixDwKIdeal.τ).loc Cert.MixDwKIdeal.main_arg1)) →
    ∃ (v0 : (c : Dev Cert.MixDwKIdeal.nD) → Buf (Elt Ideal) ((c.tc : Thread Cert.MixDwKIdeal.nD Cert.MixDwKIdeal.τ).loc Cert.MixDwKIdeal.main_v0_0)) (v1 : (c : Dev Cert.MixDwKIdeal.nD) → Buf (Elt Ideal) ((c.tc : Thread Cert.MixDwKIdeal.nD Cert.MixDwKIdeal.τ).loc Cert.MixDwKIdeal.main_v0_1)),
      θ_run (Cert.MixDwKIdeal.defs (F := Ideal)) (onTc (τ := Cert.MixDwKIdeal.τ) (Cert.MixDwKIdeal.main (F := Ideal))) ⟨m, fun _ => 0, g⟩ (fun r => ∀ c : Dev Cert.MixDwKIdeal.nD,
          r.2.mem ((c.tc : Thread Cert.MixDwKIdeal.nD Cert.MixDwKIdeal.τ).loc Cert.MixDwKIdeal.main_v0_0) = v0 c
          ∧ r.2.mem ((c.tc : Thread Cert.MixDwKIdeal.nD Cert.MixDwKIdeal.τ).loc Cert.MixDwKIdeal.main_v0_1) = v1 c
          ∧ r.2.mem ((c.tc : Thread Cert.MixDwKIdeal.nD Cert.MixDwKIdeal.τ).loc Cert.MixDwKIdeal.main_arg0) = m ((c.tc : Thread Cert.MixDwKIdeal.nD Cert.MixDwKIdeal.τ).loc Cert.MixDwKIdeal.main_arg0)
          ∧ r.2.mem ((c.tc : Thread Cert.MixDwKIdeal.nD Cert.MixDwKIdeal.τ).loc Cert.MixDwKIdeal.main_arg1) = m ((c.tc : Thread Cert.MixDwKIdeal.nD Cert.MixDwKIdeal.τ).loc Cert.MixDwKIdeal.main_arg1))
      ∧ θ_run (Cert.MixDwRIdeal.defs (F := Ideal)) (onTc (τ := Cert.MixDwRIdeal.τ) (Cert.MixDwRIdeal.main (F := Ideal))) ⟨m', fun _ => 0, g'⟩ (fun r => ∀ c : Dev Cert.MixDwRIdeal.nD,
          r.2.mem ((c.tc : Thread Cert.MixDwRIdeal.nD Cert.MixDwRIdeal.τ).loc Cert.MixDwRIdeal.main_v5) = v0 c
          ∧ r.2.mem ((c.tc : Thread Cert.MixDwRIdeal.nD Cert.MixDwRIdeal.τ).loc Cert.MixDwRIdeal.main_v6) = v1 c
          ∧ r.2.mem ((c.tc : Thread Cert.MixDwRIdeal.nD Cert.MixDwRIdeal.τ).loc Cert.MixDwRIdeal.main_arg0) = m' ((c.tc : Thread Cert.MixDwRIdeal.nD Cert.MixDwRIdeal.τ).loc Cert.MixDwRIdeal.main_arg0)
          ∧ r.2.mem ((c.tc : Thread Cert.MixDwRIdeal.nD Cert.MixDwRIdeal.τ).loc Cert.MixDwRIdeal.main_arg1) = m' ((c.tc : Thread Cert.MixDwRIdeal.nD Cert.MixDwRIdeal.τ).loc Cert.MixDwRIdeal.main_arg1))

def preserves_AttnDwK_AttnDwKIdeal : Prop :=
  True

def algebraic_AttnDwKIdeal_AttnDwRIdeal [hAttnDwKIdeal : Cert.AttnDwKIdeal.Facts] [hAttnDwRIdeal : Cert.AttnDwRIdeal.Facts] : Prop :=
  ∀ (m : (ℓ : Loc Cert.AttnDwKIdeal.nD Cert.AttnDwKIdeal.τ Cert.AttnDwKIdeal.sig) → Buf (Elt Ideal) ℓ) (g : Dev Cert.AttnDwKIdeal.nD → PrngReg)
    (m' : (ℓ : Loc Cert.AttnDwRIdeal.nD Cert.AttnDwRIdeal.τ Cert.AttnDwRIdeal.sig) → Buf (Elt Ideal) ℓ) (g' : Dev Cert.AttnDwRIdeal.nD → PrngReg), Pre_AttnDwKIdeal m →
    (∀ c : Dev Cert.AttnDwKIdeal.nD,
      m' ((c.tc : Thread Cert.AttnDwRIdeal.nD Cert.AttnDwRIdeal.τ).loc Cert.AttnDwRIdeal.main_arg0) = m ((c.tc : Thread Cert.AttnDwKIdeal.nD Cert.AttnDwKIdeal.τ).loc Cert.AttnDwKIdeal.main_arg0)
      ∧ m' ((c.tc : Thread Cert.AttnDwRIdeal.nD Cert.AttnDwRIdeal.τ).loc Cert.AttnDwRIdeal.main_arg1) = m ((c.tc : Thread Cert.AttnDwKIdeal.nD Cert.AttnDwKIdeal.τ).loc Cert.AttnDwKIdeal.main_arg1)) →
    ∃ (v0 : (c : Dev Cert.AttnDwKIdeal.nD) → Buf (Elt Ideal) ((c.tc : Thread Cert.AttnDwKIdeal.nD Cert.AttnDwKIdeal.τ).loc Cert.AttnDwKIdeal.main_v0_0)) (v1 : (c : Dev Cert.AttnDwKIdeal.nD) → Buf (Elt Ideal) ((c.tc : Thread Cert.AttnDwKIdeal.nD Cert.AttnDwKIdeal.τ).loc Cert.AttnDwKIdeal.main_v0_1)),
      θ_run (Cert.AttnDwKIdeal.defs (F := Ideal)) (onTc (τ := Cert.AttnDwKIdeal.τ) (Cert.AttnDwKIdeal.main (F := Ideal))) ⟨m, fun _ => 0, g⟩ (fun r => ∀ c : Dev Cert.AttnDwKIdeal.nD,
          r.2.mem ((c.tc : Thread Cert.AttnDwKIdeal.nD Cert.AttnDwKIdeal.τ).loc Cert.AttnDwKIdeal.main_v0_0) = v0 c
          ∧ r.2.mem ((c.tc : Thread Cert.AttnDwKIdeal.nD Cert.AttnDwKIdeal.τ).loc Cert.AttnDwKIdeal.main_v0_1) = v1 c
          ∧ r.2.mem ((c.tc : Thread Cert.AttnDwKIdeal.nD Cert.AttnDwKIdeal.τ).loc Cert.AttnDwKIdeal.main_arg0) = m ((c.tc : Thread Cert.AttnDwKIdeal.nD Cert.AttnDwKIdeal.τ).loc Cert.AttnDwKIdeal.main_arg0)
          ∧ r.2.mem ((c.tc : Thread Cert.AttnDwKIdeal.nD Cert.AttnDwKIdeal.τ).loc Cert.AttnDwKIdeal.main_arg1) = m ((c.tc : Thread Cert.AttnDwKIdeal.nD Cert.AttnDwKIdeal.τ).loc Cert.AttnDwKIdeal.main_arg1))
      ∧ θ_run (Cert.AttnDwRIdeal.defs (F := Ideal)) (onTc (τ := Cert.AttnDwRIdeal.τ) (Cert.AttnDwRIdeal.main (F := Ideal))) ⟨m', fun _ => 0, g'⟩ (fun r => ∀ c : Dev Cert.AttnDwRIdeal.nD,
          r.2.mem ((c.tc : Thread Cert.AttnDwRIdeal.nD Cert.AttnDwRIdeal.τ).loc Cert.AttnDwRIdeal.main_v5) = v0 c
          ∧ r.2.mem ((c.tc : Thread Cert.AttnDwRIdeal.nD Cert.AttnDwRIdeal.τ).loc Cert.AttnDwRIdeal.main_v6) = v1 c
          ∧ r.2.mem ((c.tc : Thread Cert.AttnDwRIdeal.nD Cert.AttnDwRIdeal.τ).loc Cert.AttnDwRIdeal.main_arg0) = m' ((c.tc : Thread Cert.AttnDwRIdeal.nD Cert.AttnDwRIdeal.τ).loc Cert.AttnDwRIdeal.main_arg0)
          ∧ r.2.mem ((c.tc : Thread Cert.AttnDwRIdeal.nD Cert.AttnDwRIdeal.τ).loc Cert.AttnDwRIdeal.main_arg1) = m' ((c.tc : Thread Cert.AttnDwRIdeal.nD Cert.AttnDwRIdeal.τ).loc Cert.AttnDwRIdeal.main_arg1))

def preserves_ConvDwK_ConvDwKIdeal : Prop :=
  True

def algebraic_ConvDwKIdeal_ConvDwRIdeal [hConvDwKIdeal : Cert.ConvDwKIdeal.Facts] [hConvDwRIdeal : Cert.ConvDwRIdeal.Facts] : Prop :=
  ∀ (m : (ℓ : Loc Cert.ConvDwKIdeal.nD Cert.ConvDwKIdeal.τ Cert.ConvDwKIdeal.sig) → Buf (Elt Ideal) ℓ) (g : Dev Cert.ConvDwKIdeal.nD → PrngReg)
    (m' : (ℓ : Loc Cert.ConvDwRIdeal.nD Cert.ConvDwRIdeal.τ Cert.ConvDwRIdeal.sig) → Buf (Elt Ideal) ℓ) (g' : Dev Cert.ConvDwRIdeal.nD → PrngReg), Pre_ConvDwKIdeal m →
    (∀ c : Dev Cert.ConvDwKIdeal.nD,
      m' ((c.tc : Thread Cert.ConvDwRIdeal.nD Cert.ConvDwRIdeal.τ).loc Cert.ConvDwRIdeal.main_arg0) = m ((c.tc : Thread Cert.ConvDwKIdeal.nD Cert.ConvDwKIdeal.τ).loc Cert.ConvDwKIdeal.main_arg0)
      ∧ m' ((c.tc : Thread Cert.ConvDwRIdeal.nD Cert.ConvDwRIdeal.τ).loc Cert.ConvDwRIdeal.main_arg1) = m ((c.tc : Thread Cert.ConvDwKIdeal.nD Cert.ConvDwKIdeal.τ).loc Cert.ConvDwKIdeal.main_arg1)) →
    ∃ (v0 : (c : Dev Cert.ConvDwKIdeal.nD) → Buf (Elt Ideal) ((c.tc : Thread Cert.ConvDwKIdeal.nD Cert.ConvDwKIdeal.τ).loc Cert.ConvDwKIdeal.main_v0_0)) (v1 : (c : Dev Cert.ConvDwKIdeal.nD) → Buf (Elt Ideal) ((c.tc : Thread Cert.ConvDwKIdeal.nD Cert.ConvDwKIdeal.τ).loc Cert.ConvDwKIdeal.main_v0_1)),
      θ_run (Cert.ConvDwKIdeal.defs (F := Ideal)) (onTc (τ := Cert.ConvDwKIdeal.τ) (Cert.ConvDwKIdeal.main (F := Ideal))) ⟨m, fun _ => 0, g⟩ (fun r => ∀ c : Dev Cert.ConvDwKIdeal.nD,
          r.2.mem ((c.tc : Thread Cert.ConvDwKIdeal.nD Cert.ConvDwKIdeal.τ).loc Cert.ConvDwKIdeal.main_v0_0) = v0 c
          ∧ r.2.mem ((c.tc : Thread Cert.ConvDwKIdeal.nD Cert.ConvDwKIdeal.τ).loc Cert.ConvDwKIdeal.main_v0_1) = v1 c
          ∧ r.2.mem ((c.tc : Thread Cert.ConvDwKIdeal.nD Cert.ConvDwKIdeal.τ).loc Cert.ConvDwKIdeal.main_arg0) = m ((c.tc : Thread Cert.ConvDwKIdeal.nD Cert.ConvDwKIdeal.τ).loc Cert.ConvDwKIdeal.main_arg0)
          ∧ r.2.mem ((c.tc : Thread Cert.ConvDwKIdeal.nD Cert.ConvDwKIdeal.τ).loc Cert.ConvDwKIdeal.main_arg1) = m ((c.tc : Thread Cert.ConvDwKIdeal.nD Cert.ConvDwKIdeal.τ).loc Cert.ConvDwKIdeal.main_arg1))
      ∧ θ_run (Cert.ConvDwRIdeal.defs (F := Ideal)) (onTc (τ := Cert.ConvDwRIdeal.τ) (Cert.ConvDwRIdeal.main (F := Ideal))) ⟨m', fun _ => 0, g'⟩ (fun r => ∀ c : Dev Cert.ConvDwRIdeal.nD,
          r.2.mem ((c.tc : Thread Cert.ConvDwRIdeal.nD Cert.ConvDwRIdeal.τ).loc Cert.ConvDwRIdeal.main_v5) = v0 c
          ∧ r.2.mem ((c.tc : Thread Cert.ConvDwRIdeal.nD Cert.ConvDwRIdeal.τ).loc Cert.ConvDwRIdeal.main_v6) = v1 c
          ∧ r.2.mem ((c.tc : Thread Cert.ConvDwRIdeal.nD Cert.ConvDwRIdeal.τ).loc Cert.ConvDwRIdeal.main_arg0) = m' ((c.tc : Thread Cert.ConvDwRIdeal.nD Cert.ConvDwRIdeal.τ).loc Cert.ConvDwRIdeal.main_arg0)
          ∧ r.2.mem ((c.tc : Thread Cert.ConvDwRIdeal.nD Cert.ConvDwRIdeal.τ).loc Cert.ConvDwRIdeal.main_arg1) = m' ((c.tc : Thread Cert.ConvDwRIdeal.nD Cert.ConvDwRIdeal.τ).loc Cert.ConvDwRIdeal.main_arg1))

def preserves_AttnDxK_AttnDxKIdeal : Prop :=
  True

def algebraic_AttnDxKIdeal_AttnDxRIdeal [hAttnDxKIdeal : Cert.AttnDxKIdeal.Facts] [hAttnDxRIdeal : Cert.AttnDxRIdeal.Facts] : Prop :=
  ∀ (m : (ℓ : Loc Cert.AttnDxKIdeal.nD Cert.AttnDxKIdeal.τ Cert.AttnDxKIdeal.sig) → Buf (Elt Ideal) ℓ) (g : Dev Cert.AttnDxKIdeal.nD → PrngReg)
    (m' : (ℓ : Loc Cert.AttnDxRIdeal.nD Cert.AttnDxRIdeal.τ Cert.AttnDxRIdeal.sig) → Buf (Elt Ideal) ℓ) (g' : Dev Cert.AttnDxRIdeal.nD → PrngReg), Pre_AttnDxKIdeal m →
    (∀ c : Dev Cert.AttnDxKIdeal.nD,
      m' ((c.tc : Thread Cert.AttnDxRIdeal.nD Cert.AttnDxRIdeal.τ).loc Cert.AttnDxRIdeal.main_arg0) = m ((c.tc : Thread Cert.AttnDxKIdeal.nD Cert.AttnDxKIdeal.τ).loc Cert.AttnDxKIdeal.main_arg0)
      ∧ m' ((c.tc : Thread Cert.AttnDxRIdeal.nD Cert.AttnDxRIdeal.τ).loc Cert.AttnDxRIdeal.main_arg1) = m ((c.tc : Thread Cert.AttnDxKIdeal.nD Cert.AttnDxKIdeal.τ).loc Cert.AttnDxKIdeal.main_arg1)) →
    ∃ (v0 : (c : Dev Cert.AttnDxKIdeal.nD) → Buf (Elt Ideal) ((c.tc : Thread Cert.AttnDxKIdeal.nD Cert.AttnDxKIdeal.τ).loc Cert.AttnDxKIdeal.main_v0)),
      θ_run (Cert.AttnDxKIdeal.defs (F := Ideal)) (onTc (τ := Cert.AttnDxKIdeal.τ) (Cert.AttnDxKIdeal.main (F := Ideal))) ⟨m, fun _ => 0, g⟩ (fun r => ∀ c : Dev Cert.AttnDxKIdeal.nD,
          r.2.mem ((c.tc : Thread Cert.AttnDxKIdeal.nD Cert.AttnDxKIdeal.τ).loc Cert.AttnDxKIdeal.main_v0) = v0 c
          ∧ r.2.mem ((c.tc : Thread Cert.AttnDxKIdeal.nD Cert.AttnDxKIdeal.τ).loc Cert.AttnDxKIdeal.main_arg0) = m ((c.tc : Thread Cert.AttnDxKIdeal.nD Cert.AttnDxKIdeal.τ).loc Cert.AttnDxKIdeal.main_arg0)
          ∧ r.2.mem ((c.tc : Thread Cert.AttnDxKIdeal.nD Cert.AttnDxKIdeal.τ).loc Cert.AttnDxKIdeal.main_arg1) = m ((c.tc : Thread Cert.AttnDxKIdeal.nD Cert.AttnDxKIdeal.τ).loc Cert.AttnDxKIdeal.main_arg1))
      ∧ θ_run (Cert.AttnDxRIdeal.defs (F := Ideal)) (onTc (τ := Cert.AttnDxRIdeal.τ) (Cert.AttnDxRIdeal.main (F := Ideal))) ⟨m', fun _ => 0, g'⟩ (fun r => ∀ c : Dev Cert.AttnDxRIdeal.nD,
          r.2.mem ((c.tc : Thread Cert.AttnDxRIdeal.nD Cert.AttnDxRIdeal.τ).loc Cert.AttnDxRIdeal.main_v5) = v0 c
          ∧ r.2.mem ((c.tc : Thread Cert.AttnDxRIdeal.nD Cert.AttnDxRIdeal.τ).loc Cert.AttnDxRIdeal.main_arg0) = m' ((c.tc : Thread Cert.AttnDxRIdeal.nD Cert.AttnDxRIdeal.τ).loc Cert.AttnDxRIdeal.main_arg0)
          ∧ r.2.mem ((c.tc : Thread Cert.AttnDxRIdeal.nD Cert.AttnDxRIdeal.τ).loc Cert.AttnDxRIdeal.main_arg1) = m' ((c.tc : Thread Cert.AttnDxRIdeal.nD Cert.AttnDxRIdeal.τ).loc Cert.AttnDxRIdeal.main_arg1))

def preserves_ConvDxK_ConvDxKIdeal : Prop :=
  True

def algebraic_ConvDxKIdeal_ConvDxRIdeal [hConvDxKIdeal : Cert.ConvDxKIdeal.Facts] [hConvDxRIdeal : Cert.ConvDxRIdeal.Facts] : Prop :=
  ∀ (m : (ℓ : Loc Cert.ConvDxKIdeal.nD Cert.ConvDxKIdeal.τ Cert.ConvDxKIdeal.sig) → Buf (Elt Ideal) ℓ) (g : Dev Cert.ConvDxKIdeal.nD → PrngReg)
    (m' : (ℓ : Loc Cert.ConvDxRIdeal.nD Cert.ConvDxRIdeal.τ Cert.ConvDxRIdeal.sig) → Buf (Elt Ideal) ℓ) (g' : Dev Cert.ConvDxRIdeal.nD → PrngReg), Pre_ConvDxKIdeal m →
    (∀ c : Dev Cert.ConvDxKIdeal.nD,
      m' ((c.tc : Thread Cert.ConvDxRIdeal.nD Cert.ConvDxRIdeal.τ).loc Cert.ConvDxRIdeal.main_arg0) = m ((c.tc : Thread Cert.ConvDxKIdeal.nD Cert.ConvDxKIdeal.τ).loc Cert.ConvDxKIdeal.main_arg0)
      ∧ m' ((c.tc : Thread Cert.ConvDxRIdeal.nD Cert.ConvDxRIdeal.τ).loc Cert.ConvDxRIdeal.main_arg1) = m ((c.tc : Thread Cert.ConvDxKIdeal.nD Cert.ConvDxKIdeal.τ).loc Cert.ConvDxKIdeal.main_arg1)) →
    ∃ (v0 : (c : Dev Cert.ConvDxKIdeal.nD) → Buf (Elt Ideal) ((c.tc : Thread Cert.ConvDxKIdeal.nD Cert.ConvDxKIdeal.τ).loc Cert.ConvDxKIdeal.main_v0)),
      θ_run (Cert.ConvDxKIdeal.defs (F := Ideal)) (onTc (τ := Cert.ConvDxKIdeal.τ) (Cert.ConvDxKIdeal.main (F := Ideal))) ⟨m, fun _ => 0, g⟩ (fun r => ∀ c : Dev Cert.ConvDxKIdeal.nD,
          r.2.mem ((c.tc : Thread Cert.ConvDxKIdeal.nD Cert.ConvDxKIdeal.τ).loc Cert.ConvDxKIdeal.main_v0) = v0 c
          ∧ r.2.mem ((c.tc : Thread Cert.ConvDxKIdeal.nD Cert.ConvDxKIdeal.τ).loc Cert.ConvDxKIdeal.main_arg0) = m ((c.tc : Thread Cert.ConvDxKIdeal.nD Cert.ConvDxKIdeal.τ).loc Cert.ConvDxKIdeal.main_arg0)
          ∧ r.2.mem ((c.tc : Thread Cert.ConvDxKIdeal.nD Cert.ConvDxKIdeal.τ).loc Cert.ConvDxKIdeal.main_arg1) = m ((c.tc : Thread Cert.ConvDxKIdeal.nD Cert.ConvDxKIdeal.τ).loc Cert.ConvDxKIdeal.main_arg1))
      ∧ θ_run (Cert.ConvDxRIdeal.defs (F := Ideal)) (onTc (τ := Cert.ConvDxRIdeal.τ) (Cert.ConvDxRIdeal.main (F := Ideal))) ⟨m', fun _ => 0, g'⟩ (fun r => ∀ c : Dev Cert.ConvDxRIdeal.nD,
          r.2.mem ((c.tc : Thread Cert.ConvDxRIdeal.nD Cert.ConvDxRIdeal.τ).loc Cert.ConvDxRIdeal.main_v4) = v0 c
          ∧ r.2.mem ((c.tc : Thread Cert.ConvDxRIdeal.nD Cert.ConvDxRIdeal.τ).loc Cert.ConvDxRIdeal.main_arg0) = m' ((c.tc : Thread Cert.ConvDxRIdeal.nD Cert.ConvDxRIdeal.τ).loc Cert.ConvDxRIdeal.main_arg0)
          ∧ r.2.mem ((c.tc : Thread Cert.ConvDxRIdeal.nD Cert.ConvDxRIdeal.τ).loc Cert.ConvDxRIdeal.main_arg1) = m' ((c.tc : Thread Cert.ConvDxRIdeal.nD Cert.ConvDxRIdeal.τ).loc Cert.ConvDxRIdeal.main_arg1))

def preserves_FinK_FinKIdeal : Prop :=
  True

def algebraic_FinKIdeal_FinRIdeal [hFinKIdeal : Cert.FinKIdeal.Facts] [hFinRIdeal : Cert.FinRIdeal.Facts] : Prop :=
  ∀ (m : (ℓ : Loc Cert.FinKIdeal.nD Cert.FinKIdeal.τ Cert.FinKIdeal.sig) → Buf (Elt Ideal) ℓ) (g : Dev Cert.FinKIdeal.nD → PrngReg)
    (m' : (ℓ : Loc Cert.FinRIdeal.nD Cert.FinRIdeal.τ Cert.FinRIdeal.sig) → Buf (Elt Ideal) ℓ) (g' : Dev Cert.FinRIdeal.nD → PrngReg), Pre_FinKIdeal m →
    (∀ c : Dev Cert.FinKIdeal.nD,
      m' ((c.tc : Thread Cert.FinRIdeal.nD Cert.FinRIdeal.τ).loc Cert.FinRIdeal.main_arg0) = m ((c.tc : Thread Cert.FinKIdeal.nD Cert.FinKIdeal.τ).loc Cert.FinKIdeal.main_arg0)
      ∧ m' ((c.tc : Thread Cert.FinRIdeal.nD Cert.FinRIdeal.τ).loc Cert.FinRIdeal.main_arg1) = m ((c.tc : Thread Cert.FinKIdeal.nD Cert.FinKIdeal.τ).loc Cert.FinKIdeal.main_arg1)) →
    ∃ (v0 : (c : Dev Cert.FinKIdeal.nD) → Buf (Elt Ideal) ((c.tc : Thread Cert.FinKIdeal.nD Cert.FinKIdeal.τ).loc Cert.FinKIdeal.main_v0_0)) (v1 : (c : Dev Cert.FinKIdeal.nD) → Buf (Elt Ideal) ((c.tc : Thread Cert.FinKIdeal.nD Cert.FinKIdeal.τ).loc Cert.FinKIdeal.main_v0_1)) (v2 : (c : Dev Cert.FinKIdeal.nD) → Buf (Elt Ideal) ((c.tc : Thread Cert.FinKIdeal.nD Cert.FinKIdeal.τ).loc Cert.FinKIdeal.main_v0_2)),
      θ_run (Cert.FinKIdeal.defs (F := Ideal)) (onTc (τ := Cert.FinKIdeal.τ) (Cert.FinKIdeal.main (F := Ideal))) ⟨m, fun _ => 0, g⟩ (fun r => ∀ c : Dev Cert.FinKIdeal.nD,
          r.2.mem ((c.tc : Thread Cert.FinKIdeal.nD Cert.FinKIdeal.τ).loc Cert.FinKIdeal.main_v0_0) = v0 c
          ∧ r.2.mem ((c.tc : Thread Cert.FinKIdeal.nD Cert.FinKIdeal.τ).loc Cert.FinKIdeal.main_v0_1) = v1 c
          ∧ r.2.mem ((c.tc : Thread Cert.FinKIdeal.nD Cert.FinKIdeal.τ).loc Cert.FinKIdeal.main_v0_2) = v2 c
          ∧ r.2.mem ((c.tc : Thread Cert.FinKIdeal.nD Cert.FinKIdeal.τ).loc Cert.FinKIdeal.main_arg0) = m ((c.tc : Thread Cert.FinKIdeal.nD Cert.FinKIdeal.τ).loc Cert.FinKIdeal.main_arg0)
          ∧ r.2.mem ((c.tc : Thread Cert.FinKIdeal.nD Cert.FinKIdeal.τ).loc Cert.FinKIdeal.main_arg1) = m ((c.tc : Thread Cert.FinKIdeal.nD Cert.FinKIdeal.τ).loc Cert.FinKIdeal.main_arg1))
      ∧ θ_run (Cert.FinRIdeal.defs (F := Ideal)) (onTc (τ := Cert.FinRIdeal.τ) (Cert.FinRIdeal.main (F := Ideal))) ⟨m', fun _ => 0, g'⟩ (fun r => ∀ c : Dev Cert.FinRIdeal.nD,
          r.2.mem ((c.tc : Thread Cert.FinRIdeal.nD Cert.FinRIdeal.τ).loc Cert.FinRIdeal.main_v9) = v0 c
          ∧ r.2.mem ((c.tc : Thread Cert.FinRIdeal.nD Cert.FinRIdeal.τ).loc Cert.FinRIdeal.main_v12) = v1 c
          ∧ r.2.mem ((c.tc : Thread Cert.FinRIdeal.nD Cert.FinRIdeal.τ).loc Cert.FinRIdeal.main_v17) = v2 c
          ∧ r.2.mem ((c.tc : Thread Cert.FinRIdeal.nD Cert.FinRIdeal.τ).loc Cert.FinRIdeal.main_arg0) = m' ((c.tc : Thread Cert.FinRIdeal.nD Cert.FinRIdeal.τ).loc Cert.FinRIdeal.main_arg0)
          ∧ r.2.mem ((c.tc : Thread Cert.FinRIdeal.nD Cert.FinRIdeal.τ).loc Cert.FinRIdeal.main_arg1) = m' ((c.tc : Thread Cert.FinRIdeal.nD Cert.FinRIdeal.τ).loc Cert.FinRIdeal.main_arg1))

def preserves_FoutK_FoutKIdeal : Prop :=
  True

def algebraic_FoutKIdeal_FoutRIdeal [hFoutKIdeal : Cert.FoutKIdeal.Facts] [hFoutRIdeal : Cert.FoutRIdeal.Facts] : Prop :=
  ∀ (m : (ℓ : Loc Cert.FoutKIdeal.nD Cert.FoutKIdeal.τ Cert.FoutKIdeal.sig) → Buf (Elt Ideal) ℓ) (g : Dev Cert.FoutKIdeal.nD → PrngReg)
    (m' : (ℓ : Loc Cert.FoutRIdeal.nD Cert.FoutRIdeal.τ Cert.FoutRIdeal.sig) → Buf (Elt Ideal) ℓ) (g' : Dev Cert.FoutRIdeal.nD → PrngReg), Pre_FoutKIdeal m →
    (∀ c : Dev Cert.FoutKIdeal.nD,
      m' ((c.tc : Thread Cert.FoutRIdeal.nD Cert.FoutRIdeal.τ).loc Cert.FoutRIdeal.main_arg0) = m ((c.tc : Thread Cert.FoutKIdeal.nD Cert.FoutKIdeal.τ).loc Cert.FoutKIdeal.main_arg0)
      ∧ m' ((c.tc : Thread Cert.FoutRIdeal.nD Cert.FoutRIdeal.τ).loc Cert.FoutRIdeal.main_arg1) = m ((c.tc : Thread Cert.FoutKIdeal.nD Cert.FoutKIdeal.τ).loc Cert.FoutKIdeal.main_arg1)) →
    ∃ (v0 : (c : Dev Cert.FoutKIdeal.nD) → Buf (Elt Ideal) ((c.tc : Thread Cert.FoutKIdeal.nD Cert.FoutKIdeal.τ).loc Cert.FoutKIdeal.main_v0)),
      θ_run (Cert.FoutKIdeal.defs (F := Ideal)) (onTc (τ := Cert.FoutKIdeal.τ) (Cert.FoutKIdeal.main (F := Ideal))) ⟨m, fun _ => 0, g⟩ (fun r => ∀ c : Dev Cert.FoutKIdeal.nD,
          r.2.mem ((c.tc : Thread Cert.FoutKIdeal.nD Cert.FoutKIdeal.τ).loc Cert.FoutKIdeal.main_v0) = v0 c
          ∧ r.2.mem ((c.tc : Thread Cert.FoutKIdeal.nD Cert.FoutKIdeal.τ).loc Cert.FoutKIdeal.main_arg0) = m ((c.tc : Thread Cert.FoutKIdeal.nD Cert.FoutKIdeal.τ).loc Cert.FoutKIdeal.main_arg0)
          ∧ r.2.mem ((c.tc : Thread Cert.FoutKIdeal.nD Cert.FoutKIdeal.τ).loc Cert.FoutKIdeal.main_arg1) = m ((c.tc : Thread Cert.FoutKIdeal.nD Cert.FoutKIdeal.τ).loc Cert.FoutKIdeal.main_arg1))
      ∧ θ_run (Cert.FoutRIdeal.defs (F := Ideal)) (onTc (τ := Cert.FoutRIdeal.τ) (Cert.FoutRIdeal.main (F := Ideal))) ⟨m', fun _ => 0, g'⟩ (fun r => ∀ c : Dev Cert.FoutRIdeal.nD,
          r.2.mem ((c.tc : Thread Cert.FoutRIdeal.nD Cert.FoutRIdeal.τ).loc Cert.FoutRIdeal.main_v5) = v0 c
          ∧ r.2.mem ((c.tc : Thread Cert.FoutRIdeal.nD Cert.FoutRIdeal.τ).loc Cert.FoutRIdeal.main_arg0) = m' ((c.tc : Thread Cert.FoutRIdeal.nD Cert.FoutRIdeal.τ).loc Cert.FoutRIdeal.main_arg0)
          ∧ r.2.mem ((c.tc : Thread Cert.FoutRIdeal.nD Cert.FoutRIdeal.τ).loc Cert.FoutRIdeal.main_arg1) = m' ((c.tc : Thread Cert.FoutRIdeal.nD Cert.FoutRIdeal.τ).loc Cert.FoutRIdeal.main_arg1))

def preserves_ConvOutK_ConvOutKIdeal : Prop :=
  True

def algebraic_ConvOutKIdeal_ConvOutRIdeal [hConvOutKIdeal : Cert.ConvOutKIdeal.Facts] [hConvOutRIdeal : Cert.ConvOutRIdeal.Facts] : Prop :=
  ∀ (m : (ℓ : Loc Cert.ConvOutKIdeal.nD Cert.ConvOutKIdeal.τ Cert.ConvOutKIdeal.sig) → Buf (Elt Ideal) ℓ) (g : Dev Cert.ConvOutKIdeal.nD → PrngReg)
    (m' : (ℓ : Loc Cert.ConvOutRIdeal.nD Cert.ConvOutRIdeal.τ Cert.ConvOutRIdeal.sig) → Buf (Elt Ideal) ℓ) (g' : Dev Cert.ConvOutRIdeal.nD → PrngReg), Pre_ConvOutKIdeal m →
    (∀ c : Dev Cert.ConvOutKIdeal.nD,
      m' ((c.tc : Thread Cert.ConvOutRIdeal.nD Cert.ConvOutRIdeal.τ).loc Cert.ConvOutRIdeal.main_arg0) = m ((c.tc : Thread Cert.ConvOutKIdeal.nD Cert.ConvOutKIdeal.τ).loc Cert.ConvOutKIdeal.main_arg0)
      ∧ m' ((c.tc : Thread Cert.ConvOutRIdeal.nD Cert.ConvOutRIdeal.τ).loc Cert.ConvOutRIdeal.main_arg1) = m ((c.tc : Thread Cert.ConvOutKIdeal.nD Cert.ConvOutKIdeal.τ).loc Cert.ConvOutKIdeal.main_arg1)) →
    ∃ (v0 : (c : Dev Cert.ConvOutKIdeal.nD) → Buf (Elt Ideal) ((c.tc : Thread Cert.ConvOutKIdeal.nD Cert.ConvOutKIdeal.τ).loc Cert.ConvOutKIdeal.main_v0)),
      θ_run (Cert.ConvOutKIdeal.defs (F := Ideal)) (onTc (τ := Cert.ConvOutKIdeal.τ) (Cert.ConvOutKIdeal.main (F := Ideal))) ⟨m, fun _ => 0, g⟩ (fun r => ∀ c : Dev Cert.ConvOutKIdeal.nD,
          r.2.mem ((c.tc : Thread Cert.ConvOutKIdeal.nD Cert.ConvOutKIdeal.τ).loc Cert.ConvOutKIdeal.main_v0) = v0 c
          ∧ r.2.mem ((c.tc : Thread Cert.ConvOutKIdeal.nD Cert.ConvOutKIdeal.τ).loc Cert.ConvOutKIdeal.main_arg0) = m ((c.tc : Thread Cert.ConvOutKIdeal.nD Cert.ConvOutKIdeal.τ).loc Cert.ConvOutKIdeal.main_arg0)
          ∧ r.2.mem ((c.tc : Thread Cert.ConvOutKIdeal.nD Cert.ConvOutKIdeal.τ).loc Cert.ConvOutKIdeal.main_arg1) = m ((c.tc : Thread Cert.ConvOutKIdeal.nD Cert.ConvOutKIdeal.τ).loc Cert.ConvOutKIdeal.main_arg1))
      ∧ θ_run (Cert.ConvOutRIdeal.defs (F := Ideal)) (onTc (τ := Cert.ConvOutRIdeal.τ) (Cert.ConvOutRIdeal.main (F := Ideal))) ⟨m', fun _ => 0, g'⟩ (fun r => ∀ c : Dev Cert.ConvOutRIdeal.nD,
          r.2.mem ((c.tc : Thread Cert.ConvOutRIdeal.nD Cert.ConvOutRIdeal.τ).loc Cert.ConvOutRIdeal.main_v2) = v0 c
          ∧ r.2.mem ((c.tc : Thread Cert.ConvOutRIdeal.nD Cert.ConvOutRIdeal.τ).loc Cert.ConvOutRIdeal.main_arg0) = m' ((c.tc : Thread Cert.ConvOutRIdeal.nD Cert.ConvOutRIdeal.τ).loc Cert.ConvOutRIdeal.main_arg0)
          ∧ r.2.mem ((c.tc : Thread Cert.ConvOutRIdeal.nD Cert.ConvOutRIdeal.τ).loc Cert.ConvOutRIdeal.main_arg1) = m' ((c.tc : Thread Cert.ConvOutRIdeal.nD Cert.ConvOutRIdeal.τ).loc Cert.ConvOutRIdeal.main_arg1))

def preserves_MixOutK_MixOutKIdeal : Prop :=
  True

def algebraic_MixOutKIdeal_MixOutRIdeal [hMixOutKIdeal : Cert.MixOutKIdeal.Facts] [hMixOutRIdeal : Cert.MixOutRIdeal.Facts] : Prop :=
  ∀ (m : (ℓ : Loc Cert.MixOutKIdeal.nD Cert.MixOutKIdeal.τ Cert.MixOutKIdeal.sig) → Buf (Elt Ideal) ℓ) (g : Dev Cert.MixOutKIdeal.nD → PrngReg)
    (m' : (ℓ : Loc Cert.MixOutRIdeal.nD Cert.MixOutRIdeal.τ Cert.MixOutRIdeal.sig) → Buf (Elt Ideal) ℓ) (g' : Dev Cert.MixOutRIdeal.nD → PrngReg), Pre_MixOutKIdeal m →
    (∀ c : Dev Cert.MixOutKIdeal.nD,
      m' ((c.tc : Thread Cert.MixOutRIdeal.nD Cert.MixOutRIdeal.τ).loc Cert.MixOutRIdeal.main_arg0) = m ((c.tc : Thread Cert.MixOutKIdeal.nD Cert.MixOutKIdeal.τ).loc Cert.MixOutKIdeal.main_arg0)
      ∧ m' ((c.tc : Thread Cert.MixOutRIdeal.nD Cert.MixOutRIdeal.τ).loc Cert.MixOutRIdeal.main_arg1) = m ((c.tc : Thread Cert.MixOutKIdeal.nD Cert.MixOutKIdeal.τ).loc Cert.MixOutKIdeal.main_arg1)) →
    ∃ (v0 : (c : Dev Cert.MixOutKIdeal.nD) → Buf (Elt Ideal) ((c.tc : Thread Cert.MixOutKIdeal.nD Cert.MixOutKIdeal.τ).loc Cert.MixOutKIdeal.main_v0)),
      θ_run (Cert.MixOutKIdeal.defs (F := Ideal)) (onTc (τ := Cert.MixOutKIdeal.τ) (Cert.MixOutKIdeal.main (F := Ideal))) ⟨m, fun _ => 0, g⟩ (fun r => ∀ c : Dev Cert.MixOutKIdeal.nD,
          r.2.mem ((c.tc : Thread Cert.MixOutKIdeal.nD Cert.MixOutKIdeal.τ).loc Cert.MixOutKIdeal.main_v0) = v0 c
          ∧ r.2.mem ((c.tc : Thread Cert.MixOutKIdeal.nD Cert.MixOutKIdeal.τ).loc Cert.MixOutKIdeal.main_arg0) = m ((c.tc : Thread Cert.MixOutKIdeal.nD Cert.MixOutKIdeal.τ).loc Cert.MixOutKIdeal.main_arg0)
          ∧ r.2.mem ((c.tc : Thread Cert.MixOutKIdeal.nD Cert.MixOutKIdeal.τ).loc Cert.MixOutKIdeal.main_arg1) = m ((c.tc : Thread Cert.MixOutKIdeal.nD Cert.MixOutKIdeal.τ).loc Cert.MixOutKIdeal.main_arg1))
      ∧ θ_run (Cert.MixOutRIdeal.defs (F := Ideal)) (onTc (τ := Cert.MixOutRIdeal.τ) (Cert.MixOutRIdeal.main (F := Ideal))) ⟨m', fun _ => 0, g'⟩ (fun r => ∀ c : Dev Cert.MixOutRIdeal.nD,
          r.2.mem ((c.tc : Thread Cert.MixOutRIdeal.nD Cert.MixOutRIdeal.τ).loc Cert.MixOutRIdeal.main_v2) = v0 c
          ∧ r.2.mem ((c.tc : Thread Cert.MixOutRIdeal.nD Cert.MixOutRIdeal.τ).loc Cert.MixOutRIdeal.main_arg0) = m' ((c.tc : Thread Cert.MixOutRIdeal.nD Cert.MixOutRIdeal.τ).loc Cert.MixOutRIdeal.main_arg0)
          ∧ r.2.mem ((c.tc : Thread Cert.MixOutRIdeal.nD Cert.MixOutRIdeal.τ).loc Cert.MixOutRIdeal.main_arg1) = m' ((c.tc : Thread Cert.MixOutRIdeal.nD Cert.MixOutRIdeal.τ).loc Cert.MixOutRIdeal.main_arg1))

def preserves_AGateK_AGateKIdeal : Prop :=
  True

def algebraic_AGateKIdeal_AGateRIdeal [hAGateKIdeal : Cert.AGateKIdeal.Facts] [hAGateRIdeal : Cert.AGateRIdeal.Facts] : Prop :=
  ∀ (m : (ℓ : Loc Cert.AGateKIdeal.nD Cert.AGateKIdeal.τ Cert.AGateKIdeal.sig) → Buf (Elt Ideal) ℓ) (g : Dev Cert.AGateKIdeal.nD → PrngReg)
    (m' : (ℓ : Loc Cert.AGateRIdeal.nD Cert.AGateRIdeal.τ Cert.AGateRIdeal.sig) → Buf (Elt Ideal) ℓ) (g' : Dev Cert.AGateRIdeal.nD → PrngReg), Pre_AGateKIdeal m →
    (∀ c : Dev Cert.AGateKIdeal.nD,
      m' ((c.tc : Thread Cert.AGateRIdeal.nD Cert.AGateRIdeal.τ).loc Cert.AGateRIdeal.main_arg0) = m ((c.tc : Thread Cert.AGateKIdeal.nD Cert.AGateKIdeal.τ).loc Cert.AGateKIdeal.main_arg0)
      ∧ m' ((c.tc : Thread Cert.AGateRIdeal.nD Cert.AGateRIdeal.τ).loc Cert.AGateRIdeal.main_arg1) = m ((c.tc : Thread Cert.AGateKIdeal.nD Cert.AGateKIdeal.τ).loc Cert.AGateKIdeal.main_arg1)
      ∧ m' ((c.tc : Thread Cert.AGateRIdeal.nD Cert.AGateRIdeal.τ).loc Cert.AGateRIdeal.main_arg2) = m ((c.tc : Thread Cert.AGateKIdeal.nD Cert.AGateKIdeal.τ).loc Cert.AGateKIdeal.main_arg2)
      ∧ m' ((c.tc : Thread Cert.AGateRIdeal.nD Cert.AGateRIdeal.τ).loc Cert.AGateRIdeal.main_arg3) = m ((c.tc : Thread Cert.AGateKIdeal.nD Cert.AGateKIdeal.τ).loc Cert.AGateKIdeal.main_arg3)
      ∧ m' ((c.tc : Thread Cert.AGateRIdeal.nD Cert.AGateRIdeal.τ).loc Cert.AGateRIdeal.main_arg4) = m ((c.tc : Thread Cert.AGateKIdeal.nD Cert.AGateKIdeal.τ).loc Cert.AGateKIdeal.main_arg4)) →
    ∃ (v0 : (c : Dev Cert.AGateKIdeal.nD) → Buf (Elt Ideal) ((c.tc : Thread Cert.AGateKIdeal.nD Cert.AGateKIdeal.τ).loc Cert.AGateKIdeal.main_v0_0)) (v1 : (c : Dev Cert.AGateKIdeal.nD) → Buf (Elt Ideal) ((c.tc : Thread Cert.AGateKIdeal.nD Cert.AGateKIdeal.τ).loc Cert.AGateKIdeal.main_v0_1)),
      θ_run (Cert.AGateKIdeal.defs (F := Ideal)) (onTc (τ := Cert.AGateKIdeal.τ) (Cert.AGateKIdeal.main (F := Ideal))) ⟨m, fun _ => 0, g⟩ (fun r => ∀ c : Dev Cert.AGateKIdeal.nD,
          r.2.mem ((c.tc : Thread Cert.AGateKIdeal.nD Cert.AGateKIdeal.τ).loc Cert.AGateKIdeal.main_v0_0) = v0 c
          ∧ r.2.mem ((c.tc : Thread Cert.AGateKIdeal.nD Cert.AGateKIdeal.τ).loc Cert.AGateKIdeal.main_v0_1) = v1 c
          ∧ r.2.mem ((c.tc : Thread Cert.AGateKIdeal.nD Cert.AGateKIdeal.τ).loc Cert.AGateKIdeal.main_arg0) = m ((c.tc : Thread Cert.AGateKIdeal.nD Cert.AGateKIdeal.τ).loc Cert.AGateKIdeal.main_arg0)
          ∧ r.2.mem ((c.tc : Thread Cert.AGateKIdeal.nD Cert.AGateKIdeal.τ).loc Cert.AGateKIdeal.main_arg1) = m ((c.tc : Thread Cert.AGateKIdeal.nD Cert.AGateKIdeal.τ).loc Cert.AGateKIdeal.main_arg1)
          ∧ r.2.mem ((c.tc : Thread Cert.AGateKIdeal.nD Cert.AGateKIdeal.τ).loc Cert.AGateKIdeal.main_arg2) = m ((c.tc : Thread Cert.AGateKIdeal.nD Cert.AGateKIdeal.τ).loc Cert.AGateKIdeal.main_arg2)
          ∧ r.2.mem ((c.tc : Thread Cert.AGateKIdeal.nD Cert.AGateKIdeal.τ).loc Cert.AGateKIdeal.main_arg3) = m ((c.tc : Thread Cert.AGateKIdeal.nD Cert.AGateKIdeal.τ).loc Cert.AGateKIdeal.main_arg3)
          ∧ r.2.mem ((c.tc : Thread Cert.AGateKIdeal.nD Cert.AGateKIdeal.τ).loc Cert.AGateKIdeal.main_arg4) = m ((c.tc : Thread Cert.AGateKIdeal.nD Cert.AGateKIdeal.τ).loc Cert.AGateKIdeal.main_arg4))
      ∧ θ_run (Cert.AGateRIdeal.defs (F := Ideal)) (onTc (τ := Cert.AGateRIdeal.τ) (Cert.AGateRIdeal.main (F := Ideal))) ⟨m', fun _ => 0, g'⟩ (fun r => ∀ c : Dev Cert.AGateRIdeal.nD,
          r.2.mem ((c.tc : Thread Cert.AGateRIdeal.nD Cert.AGateRIdeal.τ).loc Cert.AGateRIdeal.main_v2) = v0 c
          ∧ r.2.mem ((c.tc : Thread Cert.AGateRIdeal.nD Cert.AGateRIdeal.τ).loc Cert.AGateRIdeal.main_v17) = v1 c
          ∧ r.2.mem ((c.tc : Thread Cert.AGateRIdeal.nD Cert.AGateRIdeal.τ).loc Cert.AGateRIdeal.main_arg0) = m' ((c.tc : Thread Cert.AGateRIdeal.nD Cert.AGateRIdeal.τ).loc Cert.AGateRIdeal.main_arg0)
          ∧ r.2.mem ((c.tc : Thread Cert.AGateRIdeal.nD Cert.AGateRIdeal.τ).loc Cert.AGateRIdeal.main_arg1) = m' ((c.tc : Thread Cert.AGateRIdeal.nD Cert.AGateRIdeal.τ).loc Cert.AGateRIdeal.main_arg1)
          ∧ r.2.mem ((c.tc : Thread Cert.AGateRIdeal.nD Cert.AGateRIdeal.τ).loc Cert.AGateRIdeal.main_arg2) = m' ((c.tc : Thread Cert.AGateRIdeal.nD Cert.AGateRIdeal.τ).loc Cert.AGateRIdeal.main_arg2)
          ∧ r.2.mem ((c.tc : Thread Cert.AGateRIdeal.nD Cert.AGateRIdeal.τ).loc Cert.AGateRIdeal.main_arg3) = m' ((c.tc : Thread Cert.AGateRIdeal.nD Cert.AGateRIdeal.τ).loc Cert.AGateRIdeal.main_arg3)
          ∧ r.2.mem ((c.tc : Thread Cert.AGateRIdeal.nD Cert.AGateRIdeal.τ).loc Cert.AGateRIdeal.main_arg4) = m' ((c.tc : Thread Cert.AGateRIdeal.nD Cert.AGateRIdeal.τ).loc Cert.AGateRIdeal.main_arg4))

def preserves_PreDxK_PreDxKIdeal : Prop :=
  True

def algebraic_PreDxKIdeal_PreDxRIdeal [hPreDxKIdeal : Cert.PreDxKIdeal.Facts] [hPreDxRIdeal : Cert.PreDxRIdeal.Facts] : Prop :=
  ∀ (m : (ℓ : Loc Cert.PreDxKIdeal.nD Cert.PreDxKIdeal.τ Cert.PreDxKIdeal.sig) → Buf (Elt Ideal) ℓ) (g : Dev Cert.PreDxKIdeal.nD → PrngReg)
    (m' : (ℓ : Loc Cert.PreDxRIdeal.nD Cert.PreDxRIdeal.τ Cert.PreDxRIdeal.sig) → Buf (Elt Ideal) ℓ) (g' : Dev Cert.PreDxRIdeal.nD → PrngReg), Pre_PreDxKIdeal m →
    (∀ c : Dev Cert.PreDxKIdeal.nD,
      m' ((c.tc : Thread Cert.PreDxRIdeal.nD Cert.PreDxRIdeal.τ).loc Cert.PreDxRIdeal.main_arg0) = m ((c.tc : Thread Cert.PreDxKIdeal.nD Cert.PreDxKIdeal.τ).loc Cert.PreDxKIdeal.main_arg0)
      ∧ m' ((c.tc : Thread Cert.PreDxRIdeal.nD Cert.PreDxRIdeal.τ).loc Cert.PreDxRIdeal.main_arg1) = m ((c.tc : Thread Cert.PreDxKIdeal.nD Cert.PreDxKIdeal.τ).loc Cert.PreDxKIdeal.main_arg1)
      ∧ m' ((c.tc : Thread Cert.PreDxRIdeal.nD Cert.PreDxRIdeal.τ).loc Cert.PreDxRIdeal.main_arg2) = m ((c.tc : Thread Cert.PreDxKIdeal.nD Cert.PreDxKIdeal.τ).loc Cert.PreDxKIdeal.main_arg2)
      ∧ m' ((c.tc : Thread Cert.PreDxRIdeal.nD Cert.PreDxRIdeal.τ).loc Cert.PreDxRIdeal.main_arg3) = m ((c.tc : Thread Cert.PreDxKIdeal.nD Cert.PreDxKIdeal.τ).loc Cert.PreDxKIdeal.main_arg3)) →
    ∃ (v0 : (c : Dev Cert.PreDxKIdeal.nD) → Buf (Elt Ideal) ((c.tc : Thread Cert.PreDxKIdeal.nD Cert.PreDxKIdeal.τ).loc Cert.PreDxKIdeal.main_v0_0)) (v1 : (c : Dev Cert.PreDxKIdeal.nD) → Buf (Elt Ideal) ((c.tc : Thread Cert.PreDxKIdeal.nD Cert.PreDxKIdeal.τ).loc Cert.PreDxKIdeal.main_v0_1)),
      θ_run (Cert.PreDxKIdeal.defs (F := Ideal)) (onTc (τ := Cert.PreDxKIdeal.τ) (Cert.PreDxKIdeal.main (F := Ideal))) ⟨m, fun _ => 0, g⟩ (fun r => ∀ c : Dev Cert.PreDxKIdeal.nD,
          r.2.mem ((c.tc : Thread Cert.PreDxKIdeal.nD Cert.PreDxKIdeal.τ).loc Cert.PreDxKIdeal.main_v0_0) = v0 c
          ∧ r.2.mem ((c.tc : Thread Cert.PreDxKIdeal.nD Cert.PreDxKIdeal.τ).loc Cert.PreDxKIdeal.main_v0_1) = v1 c
          ∧ r.2.mem ((c.tc : Thread Cert.PreDxKIdeal.nD Cert.PreDxKIdeal.τ).loc Cert.PreDxKIdeal.main_arg0) = m ((c.tc : Thread Cert.PreDxKIdeal.nD Cert.PreDxKIdeal.τ).loc Cert.PreDxKIdeal.main_arg0)
          ∧ r.2.mem ((c.tc : Thread Cert.PreDxKIdeal.nD Cert.PreDxKIdeal.τ).loc Cert.PreDxKIdeal.main_arg1) = m ((c.tc : Thread Cert.PreDxKIdeal.nD Cert.PreDxKIdeal.τ).loc Cert.PreDxKIdeal.main_arg1)
          ∧ r.2.mem ((c.tc : Thread Cert.PreDxKIdeal.nD Cert.PreDxKIdeal.τ).loc Cert.PreDxKIdeal.main_arg2) = m ((c.tc : Thread Cert.PreDxKIdeal.nD Cert.PreDxKIdeal.τ).loc Cert.PreDxKIdeal.main_arg2)
          ∧ r.2.mem ((c.tc : Thread Cert.PreDxKIdeal.nD Cert.PreDxKIdeal.τ).loc Cert.PreDxKIdeal.main_arg3) = m ((c.tc : Thread Cert.PreDxKIdeal.nD Cert.PreDxKIdeal.τ).loc Cert.PreDxKIdeal.main_arg3))
      ∧ θ_run (Cert.PreDxRIdeal.defs (F := Ideal)) (onTc (τ := Cert.PreDxRIdeal.τ) (Cert.PreDxRIdeal.main (F := Ideal))) ⟨m', fun _ => 0, g'⟩ (fun r => ∀ c : Dev Cert.PreDxRIdeal.nD,
          r.2.mem ((c.tc : Thread Cert.PreDxRIdeal.nD Cert.PreDxRIdeal.τ).loc Cert.PreDxRIdeal.main_v34) = v0 c
          ∧ r.2.mem ((c.tc : Thread Cert.PreDxRIdeal.nD Cert.PreDxRIdeal.τ).loc Cert.PreDxRIdeal.main_v17) = v1 c
          ∧ r.2.mem ((c.tc : Thread Cert.PreDxRIdeal.nD Cert.PreDxRIdeal.τ).loc Cert.PreDxRIdeal.main_arg0) = m' ((c.tc : Thread Cert.PreDxRIdeal.nD Cert.PreDxRIdeal.τ).loc Cert.PreDxRIdeal.main_arg0)
          ∧ r.2.mem ((c.tc : Thread Cert.PreDxRIdeal.nD Cert.PreDxRIdeal.τ).loc Cert.PreDxRIdeal.main_arg1) = m' ((c.tc : Thread Cert.PreDxRIdeal.nD Cert.PreDxRIdeal.τ).loc Cert.PreDxRIdeal.main_arg1)
          ∧ r.2.mem ((c.tc : Thread Cert.PreDxRIdeal.nD Cert.PreDxRIdeal.τ).loc Cert.PreDxRIdeal.main_arg2) = m' ((c.tc : Thread Cert.PreDxRIdeal.nD Cert.PreDxRIdeal.τ).loc Cert.PreDxRIdeal.main_arg2)
          ∧ r.2.mem ((c.tc : Thread Cert.PreDxRIdeal.nD Cert.PreDxRIdeal.τ).loc Cert.PreDxRIdeal.main_arg3) = m' ((c.tc : Thread Cert.PreDxRIdeal.nD Cert.PreDxRIdeal.τ).loc Cert.PreDxRIdeal.main_arg3))

def preserves_CNormDxK_CNormDxKIdeal : Prop :=
  True

def algebraic_CNormDxKIdeal_CNormDxRIdeal [hCNormDxKIdeal : Cert.CNormDxKIdeal.Facts] [hCNormDxRIdeal : Cert.CNormDxRIdeal.Facts] : Prop :=
  ∀ (m : (ℓ : Loc Cert.CNormDxKIdeal.nD Cert.CNormDxKIdeal.τ Cert.CNormDxKIdeal.sig) → Buf (Elt Ideal) ℓ) (g : Dev Cert.CNormDxKIdeal.nD → PrngReg)
    (m' : (ℓ : Loc Cert.CNormDxRIdeal.nD Cert.CNormDxRIdeal.τ Cert.CNormDxRIdeal.sig) → Buf (Elt Ideal) ℓ) (g' : Dev Cert.CNormDxRIdeal.nD → PrngReg), Pre_CNormDxKIdeal m →
    (∀ c : Dev Cert.CNormDxKIdeal.nD,
      m' ((c.tc : Thread Cert.CNormDxRIdeal.nD Cert.CNormDxRIdeal.τ).loc Cert.CNormDxRIdeal.main_arg0) = m ((c.tc : Thread Cert.CNormDxKIdeal.nD Cert.CNormDxKIdeal.τ).loc Cert.CNormDxKIdeal.main_arg0)
      ∧ m' ((c.tc : Thread Cert.CNormDxRIdeal.nD Cert.CNormDxRIdeal.τ).loc Cert.CNormDxRIdeal.main_arg1) = m ((c.tc : Thread Cert.CNormDxKIdeal.nD Cert.CNormDxKIdeal.τ).loc Cert.CNormDxKIdeal.main_arg1)
      ∧ m' ((c.tc : Thread Cert.CNormDxRIdeal.nD Cert.CNormDxRIdeal.τ).loc Cert.CNormDxRIdeal.main_arg2) = m ((c.tc : Thread Cert.CNormDxKIdeal.nD Cert.CNormDxKIdeal.τ).loc Cert.CNormDxKIdeal.main_arg2)
      ∧ m' ((c.tc : Thread Cert.CNormDxRIdeal.nD Cert.CNormDxRIdeal.τ).loc Cert.CNormDxRIdeal.main_arg3) = m ((c.tc : Thread Cert.CNormDxKIdeal.nD Cert.CNormDxKIdeal.τ).loc Cert.CNormDxKIdeal.main_arg3)) →
    ∃ (v0 : (c : Dev Cert.CNormDxKIdeal.nD) → Buf (Elt Ideal) ((c.tc : Thread Cert.CNormDxKIdeal.nD Cert.CNormDxKIdeal.τ).loc Cert.CNormDxKIdeal.main_v0_0)) (v1 : (c : Dev Cert.CNormDxKIdeal.nD) → Buf (Elt Ideal) ((c.tc : Thread Cert.CNormDxKIdeal.nD Cert.CNormDxKIdeal.τ).loc Cert.CNormDxKIdeal.main_v0_1)) (v2 : (c : Dev Cert.CNormDxKIdeal.nD) → Buf (Elt Ideal) ((c.tc : Thread Cert.CNormDxKIdeal.nD Cert.CNormDxKIdeal.τ).loc Cert.CNormDxKIdeal.main_v0_2)),
      θ_run (Cert.CNormDxKIdeal.defs (F := Ideal)) (onTc (τ := Cert.CNormDxKIdeal.τ) (Cert.CNormDxKIdeal.main (F := Ideal))) ⟨m, fun _ => 0, g⟩ (fun r => ∀ c : Dev Cert.CNormDxKIdeal.nD,
          r.2.mem ((c.tc : Thread Cert.CNormDxKIdeal.nD Cert.CNormDxKIdeal.τ).loc Cert.CNormDxKIdeal.main_v0_0) = v0 c
          ∧ r.2.mem ((c.tc : Thread Cert.CNormDxKIdeal.nD Cert.CNormDxKIdeal.τ).loc Cert.CNormDxKIdeal.main_v0_1) = v1 c
          ∧ r.2.mem ((c.tc : Thread Cert.CNormDxKIdeal.nD Cert.CNormDxKIdeal.τ).loc Cert.CNormDxKIdeal.main_v0_2) = v2 c
          ∧ r.2.mem ((c.tc : Thread Cert.CNormDxKIdeal.nD Cert.CNormDxKIdeal.τ).loc Cert.CNormDxKIdeal.main_arg0) = m ((c.tc : Thread Cert.CNormDxKIdeal.nD Cert.CNormDxKIdeal.τ).loc Cert.CNormDxKIdeal.main_arg0)
          ∧ r.2.mem ((c.tc : Thread Cert.CNormDxKIdeal.nD Cert.CNormDxKIdeal.τ).loc Cert.CNormDxKIdeal.main_arg1) = m ((c.tc : Thread Cert.CNormDxKIdeal.nD Cert.CNormDxKIdeal.τ).loc Cert.CNormDxKIdeal.main_arg1)
          ∧ r.2.mem ((c.tc : Thread Cert.CNormDxKIdeal.nD Cert.CNormDxKIdeal.τ).loc Cert.CNormDxKIdeal.main_arg2) = m ((c.tc : Thread Cert.CNormDxKIdeal.nD Cert.CNormDxKIdeal.τ).loc Cert.CNormDxKIdeal.main_arg2)
          ∧ r.2.mem ((c.tc : Thread Cert.CNormDxKIdeal.nD Cert.CNormDxKIdeal.τ).loc Cert.CNormDxKIdeal.main_arg3) = m ((c.tc : Thread Cert.CNormDxKIdeal.nD Cert.CNormDxKIdeal.τ).loc Cert.CNormDxKIdeal.main_arg3))
      ∧ θ_run (Cert.CNormDxRIdeal.defs (F := Ideal)) (onTc (τ := Cert.CNormDxRIdeal.τ) (Cert.CNormDxRIdeal.main (F := Ideal))) ⟨m', fun _ => 0, g'⟩ (fun r => ∀ c : Dev Cert.CNormDxRIdeal.nD,
          r.2.mem ((c.tc : Thread Cert.CNormDxRIdeal.nD Cert.CNormDxRIdeal.τ).loc Cert.CNormDxRIdeal.main_v53) = v0 c
          ∧ r.2.mem ((c.tc : Thread Cert.CNormDxRIdeal.nD Cert.CNormDxRIdeal.τ).loc Cert.CNormDxRIdeal.main_v29) = v1 c
          ∧ r.2.mem ((c.tc : Thread Cert.CNormDxRIdeal.nD Cert.CNormDxRIdeal.τ).loc Cert.CNormDxRIdeal.main_v26) = v2 c
          ∧ r.2.mem ((c.tc : Thread Cert.CNormDxRIdeal.nD Cert.CNormDxRIdeal.τ).loc Cert.CNormDxRIdeal.main_arg0) = m' ((c.tc : Thread Cert.CNormDxRIdeal.nD Cert.CNormDxRIdeal.τ).loc Cert.CNormDxRIdeal.main_arg0)
          ∧ r.2.mem ((c.tc : Thread Cert.CNormDxRIdeal.nD Cert.CNormDxRIdeal.τ).loc Cert.CNormDxRIdeal.main_arg1) = m' ((c.tc : Thread Cert.CNormDxRIdeal.nD Cert.CNormDxRIdeal.τ).loc Cert.CNormDxRIdeal.main_arg1)
          ∧ r.2.mem ((c.tc : Thread Cert.CNormDxRIdeal.nD Cert.CNormDxRIdeal.τ).loc Cert.CNormDxRIdeal.main_arg2) = m' ((c.tc : Thread Cert.CNormDxRIdeal.nD Cert.CNormDxRIdeal.τ).loc Cert.CNormDxRIdeal.main_arg2)
          ∧ r.2.mem ((c.tc : Thread Cert.CNormDxRIdeal.nD Cert.CNormDxRIdeal.τ).loc Cert.CNormDxRIdeal.main_arg3) = m' ((c.tc : Thread Cert.CNormDxRIdeal.nD Cert.CNormDxRIdeal.τ).loc Cert.CNormDxRIdeal.main_arg3))

def preserves_PostDxK_PostDxKIdeal : Prop :=
  True

def algebraic_PostDxKIdeal_PostDxRIdeal [hPostDxKIdeal : Cert.PostDxKIdeal.Facts] [hPostDxRIdeal : Cert.PostDxRIdeal.Facts] : Prop :=
  ∀ (m : (ℓ : Loc Cert.PostDxKIdeal.nD Cert.PostDxKIdeal.τ Cert.PostDxKIdeal.sig) → Buf (Elt Ideal) ℓ) (g : Dev Cert.PostDxKIdeal.nD → PrngReg)
    (m' : (ℓ : Loc Cert.PostDxRIdeal.nD Cert.PostDxRIdeal.τ Cert.PostDxRIdeal.sig) → Buf (Elt Ideal) ℓ) (g' : Dev Cert.PostDxRIdeal.nD → PrngReg), Pre_PostDxKIdeal m →
    (∀ c : Dev Cert.PostDxKIdeal.nD,
      m' ((c.tc : Thread Cert.PostDxRIdeal.nD Cert.PostDxRIdeal.τ).loc Cert.PostDxRIdeal.main_arg0) = m ((c.tc : Thread Cert.PostDxKIdeal.nD Cert.PostDxKIdeal.τ).loc Cert.PostDxKIdeal.main_arg0)
      ∧ m' ((c.tc : Thread Cert.PostDxRIdeal.nD Cert.PostDxRIdeal.τ).loc Cert.PostDxRIdeal.main_arg1) = m ((c.tc : Thread Cert.PostDxKIdeal.nD Cert.PostDxKIdeal.τ).loc Cert.PostDxKIdeal.main_arg1)
      ∧ m' ((c.tc : Thread Cert.PostDxRIdeal.nD Cert.PostDxRIdeal.τ).loc Cert.PostDxRIdeal.main_arg2) = m ((c.tc : Thread Cert.PostDxKIdeal.nD Cert.PostDxKIdeal.τ).loc Cert.PostDxKIdeal.main_arg2)
      ∧ m' ((c.tc : Thread Cert.PostDxRIdeal.nD Cert.PostDxRIdeal.τ).loc Cert.PostDxRIdeal.main_arg3) = m ((c.tc : Thread Cert.PostDxKIdeal.nD Cert.PostDxKIdeal.τ).loc Cert.PostDxKIdeal.main_arg3)
      ∧ m' ((c.tc : Thread Cert.PostDxRIdeal.nD Cert.PostDxRIdeal.τ).loc Cert.PostDxRIdeal.main_arg4) = m ((c.tc : Thread Cert.PostDxKIdeal.nD Cert.PostDxKIdeal.τ).loc Cert.PostDxKIdeal.main_arg4)
      ∧ m' ((c.tc : Thread Cert.PostDxRIdeal.nD Cert.PostDxRIdeal.τ).loc Cert.PostDxRIdeal.main_arg5) = m ((c.tc : Thread Cert.PostDxKIdeal.nD Cert.PostDxKIdeal.τ).loc Cert.PostDxKIdeal.main_arg5)) →
    ∃ (v0 : (c : Dev Cert.PostDxKIdeal.nD) → Buf (Elt Ideal) ((c.tc : Thread Cert.PostDxKIdeal.nD Cert.PostDxKIdeal.τ).loc Cert.PostDxKIdeal.main_v0_0)) (v1 : (c : Dev Cert.PostDxKIdeal.nD) → Buf (Elt Ideal) ((c.tc : Thread Cert.PostDxKIdeal.nD Cert.PostDxKIdeal.τ).loc Cert.PostDxKIdeal.main_v0_1)) (v2 : (c : Dev Cert.PostDxKIdeal.nD) → Buf (Elt Ideal) ((c.tc : Thread Cert.PostDxKIdeal.nD Cert.PostDxKIdeal.τ).loc Cert.PostDxKIdeal.main_v0_2)) (v3 : (c : Dev Cert.PostDxKIdeal.nD) → Buf (Elt Ideal) ((c.tc : Thread Cert.PostDxKIdeal.nD Cert.PostDxKIdeal.τ).loc Cert.PostDxKIdeal.main_v0_3)),
      θ_run (Cert.PostDxKIdeal.defs (F := Ideal)) (onTc (τ := Cert.PostDxKIdeal.τ) (Cert.PostDxKIdeal.main (F := Ideal))) ⟨m, fun _ => 0, g⟩ (fun r => ∀ c : Dev Cert.PostDxKIdeal.nD,
          r.2.mem ((c.tc : Thread Cert.PostDxKIdeal.nD Cert.PostDxKIdeal.τ).loc Cert.PostDxKIdeal.main_v0_0) = v0 c
          ∧ r.2.mem ((c.tc : Thread Cert.PostDxKIdeal.nD Cert.PostDxKIdeal.τ).loc Cert.PostDxKIdeal.main_v0_1) = v1 c
          ∧ r.2.mem ((c.tc : Thread Cert.PostDxKIdeal.nD Cert.PostDxKIdeal.τ).loc Cert.PostDxKIdeal.main_v0_2) = v2 c
          ∧ r.2.mem ((c.tc : Thread Cert.PostDxKIdeal.nD Cert.PostDxKIdeal.τ).loc Cert.PostDxKIdeal.main_v0_3) = v3 c
          ∧ r.2.mem ((c.tc : Thread Cert.PostDxKIdeal.nD Cert.PostDxKIdeal.τ).loc Cert.PostDxKIdeal.main_arg0) = m ((c.tc : Thread Cert.PostDxKIdeal.nD Cert.PostDxKIdeal.τ).loc Cert.PostDxKIdeal.main_arg0)
          ∧ r.2.mem ((c.tc : Thread Cert.PostDxKIdeal.nD Cert.PostDxKIdeal.τ).loc Cert.PostDxKIdeal.main_arg1) = m ((c.tc : Thread Cert.PostDxKIdeal.nD Cert.PostDxKIdeal.τ).loc Cert.PostDxKIdeal.main_arg1)
          ∧ r.2.mem ((c.tc : Thread Cert.PostDxKIdeal.nD Cert.PostDxKIdeal.τ).loc Cert.PostDxKIdeal.main_arg2) = m ((c.tc : Thread Cert.PostDxKIdeal.nD Cert.PostDxKIdeal.τ).loc Cert.PostDxKIdeal.main_arg2)
          ∧ r.2.mem ((c.tc : Thread Cert.PostDxKIdeal.nD Cert.PostDxKIdeal.τ).loc Cert.PostDxKIdeal.main_arg3) = m ((c.tc : Thread Cert.PostDxKIdeal.nD Cert.PostDxKIdeal.τ).loc Cert.PostDxKIdeal.main_arg3)
          ∧ r.2.mem ((c.tc : Thread Cert.PostDxKIdeal.nD Cert.PostDxKIdeal.τ).loc Cert.PostDxKIdeal.main_arg4) = m ((c.tc : Thread Cert.PostDxKIdeal.nD Cert.PostDxKIdeal.τ).loc Cert.PostDxKIdeal.main_arg4)
          ∧ r.2.mem ((c.tc : Thread Cert.PostDxKIdeal.nD Cert.PostDxKIdeal.τ).loc Cert.PostDxKIdeal.main_arg5) = m ((c.tc : Thread Cert.PostDxKIdeal.nD Cert.PostDxKIdeal.τ).loc Cert.PostDxKIdeal.main_arg5))
      ∧ θ_run (Cert.PostDxRIdeal.defs (F := Ideal)) (onTc (τ := Cert.PostDxRIdeal.τ) (Cert.PostDxRIdeal.main (F := Ideal))) ⟨m', fun _ => 0, g'⟩ (fun r => ∀ c : Dev Cert.PostDxRIdeal.nD,
          r.2.mem ((c.tc : Thread Cert.PostDxRIdeal.nD Cert.PostDxRIdeal.τ).loc Cert.PostDxRIdeal.main_v71) = v0 c
          ∧ r.2.mem ((c.tc : Thread Cert.PostDxRIdeal.nD Cert.PostDxRIdeal.τ).loc Cert.PostDxRIdeal.main_v50) = v1 c
          ∧ r.2.mem ((c.tc : Thread Cert.PostDxRIdeal.nD Cert.PostDxRIdeal.τ).loc Cert.PostDxRIdeal.main_v54) = v2 c
          ∧ r.2.mem ((c.tc : Thread Cert.PostDxRIdeal.nD Cert.PostDxRIdeal.τ).loc Cert.PostDxRIdeal.main_v33) = v3 c
          ∧ r.2.mem ((c.tc : Thread Cert.PostDxRIdeal.nD Cert.PostDxRIdeal.τ).loc Cert.PostDxRIdeal.main_arg0) = m' ((c.tc : Thread Cert.PostDxRIdeal.nD Cert.PostDxRIdeal.τ).loc Cert.PostDxRIdeal.main_arg0)
          ∧ r.2.mem ((c.tc : Thread Cert.PostDxRIdeal.nD Cert.PostDxRIdeal.τ).loc Cert.PostDxRIdeal.main_arg1) = m' ((c.tc : Thread Cert.PostDxRIdeal.nD Cert.PostDxRIdeal.τ).loc Cert.PostDxRIdeal.main_arg1)
          ∧ r.2.mem ((c.tc : Thread Cert.PostDxRIdeal.nD Cert.PostDxRIdeal.τ).loc Cert.PostDxRIdeal.main_arg2) = m' ((c.tc : Thread Cert.PostDxRIdeal.nD Cert.PostDxRIdeal.τ).loc Cert.PostDxRIdeal.main_arg2)
          ∧ r.2.mem ((c.tc : Thread Cert.PostDxRIdeal.nD Cert.PostDxRIdeal.τ).loc Cert.PostDxRIdeal.main_arg3) = m' ((c.tc : Thread Cert.PostDxRIdeal.nD Cert.PostDxRIdeal.τ).loc Cert.PostDxRIdeal.main_arg3)
          ∧ r.2.mem ((c.tc : Thread Cert.PostDxRIdeal.nD Cert.PostDxRIdeal.τ).loc Cert.PostDxRIdeal.main_arg4) = m' ((c.tc : Thread Cert.PostDxRIdeal.nD Cert.PostDxRIdeal.τ).loc Cert.PostDxRIdeal.main_arg4)
          ∧ r.2.mem ((c.tc : Thread Cert.PostDxRIdeal.nD Cert.PostDxRIdeal.τ).loc Cert.PostDxRIdeal.main_arg5) = m' ((c.tc : Thread Cert.PostDxRIdeal.nD Cert.PostDxRIdeal.τ).loc Cert.PostDxRIdeal.main_arg5))

def preserves_PreK_PreKIdeal : Prop :=
  True

def algebraic_PreKIdeal_PreRIdeal [hPreKIdeal : Cert.PreKIdeal.Facts] [hPreRIdeal : Cert.PreRIdeal.Facts] : Prop :=
  ∀ (m : (ℓ : Loc Cert.PreKIdeal.nD Cert.PreKIdeal.τ Cert.PreKIdeal.sig) → Buf (Elt Ideal) ℓ) (g : Dev Cert.PreKIdeal.nD → PrngReg)
    (m' : (ℓ : Loc Cert.PreRIdeal.nD Cert.PreRIdeal.τ Cert.PreRIdeal.sig) → Buf (Elt Ideal) ℓ) (g' : Dev Cert.PreRIdeal.nD → PrngReg), Pre_PreKIdeal m →
    (∀ c : Dev Cert.PreKIdeal.nD,
      m' ((c.tc : Thread Cert.PreRIdeal.nD Cert.PreRIdeal.τ).loc Cert.PreRIdeal.main_arg0) = m ((c.tc : Thread Cert.PreKIdeal.nD Cert.PreKIdeal.τ).loc Cert.PreKIdeal.main_arg0)
      ∧ m' ((c.tc : Thread Cert.PreRIdeal.nD Cert.PreRIdeal.τ).loc Cert.PreRIdeal.main_arg1) = m ((c.tc : Thread Cert.PreKIdeal.nD Cert.PreKIdeal.τ).loc Cert.PreKIdeal.main_arg1)) →
    ∃ (v0 : (c : Dev Cert.PreKIdeal.nD) → Buf (Elt Ideal) ((c.tc : Thread Cert.PreKIdeal.nD Cert.PreKIdeal.τ).loc Cert.PreKIdeal.main_v0)),
      θ_run (Cert.PreKIdeal.defs (F := Ideal)) (onTc (τ := Cert.PreKIdeal.τ) (Cert.PreKIdeal.main (F := Ideal))) ⟨m, fun _ => 0, g⟩ (fun r => ∀ c : Dev Cert.PreKIdeal.nD,
          r.2.mem ((c.tc : Thread Cert.PreKIdeal.nD Cert.PreKIdeal.τ).loc Cert.PreKIdeal.main_v0) = v0 c
          ∧ r.2.mem ((c.tc : Thread Cert.PreKIdeal.nD Cert.PreKIdeal.τ).loc Cert.PreKIdeal.main_arg0) = m ((c.tc : Thread Cert.PreKIdeal.nD Cert.PreKIdeal.τ).loc Cert.PreKIdeal.main_arg0)
          ∧ r.2.mem ((c.tc : Thread Cert.PreKIdeal.nD Cert.PreKIdeal.τ).loc Cert.PreKIdeal.main_arg1) = m ((c.tc : Thread Cert.PreKIdeal.nD Cert.PreKIdeal.τ).loc Cert.PreKIdeal.main_arg1))
      ∧ θ_run (Cert.PreRIdeal.defs (F := Ideal)) (onTc (τ := Cert.PreRIdeal.τ) (Cert.PreRIdeal.main (F := Ideal))) ⟨m', fun _ => 0, g'⟩ (fun r => ∀ c : Dev Cert.PreRIdeal.nD,
          r.2.mem ((c.tc : Thread Cert.PreRIdeal.nD Cert.PreRIdeal.τ).loc Cert.PreRIdeal.main_v12) = v0 c
          ∧ r.2.mem ((c.tc : Thread Cert.PreRIdeal.nD Cert.PreRIdeal.τ).loc Cert.PreRIdeal.main_arg0) = m' ((c.tc : Thread Cert.PreRIdeal.nD Cert.PreRIdeal.τ).loc Cert.PreRIdeal.main_arg0)
          ∧ r.2.mem ((c.tc : Thread Cert.PreRIdeal.nD Cert.PreRIdeal.τ).loc Cert.PreRIdeal.main_arg1) = m' ((c.tc : Thread Cert.PreRIdeal.nD Cert.PreRIdeal.τ).loc Cert.PreRIdeal.main_arg1))

def preserves_CNormK_CNormKIdeal : Prop :=
  True

def algebraic_CNormKIdeal_CNormRIdeal [hCNormKIdeal : Cert.CNormKIdeal.Facts] [hCNormRIdeal : Cert.CNormRIdeal.Facts] : Prop :=
  ∀ (m : (ℓ : Loc Cert.CNormKIdeal.nD Cert.CNormKIdeal.τ Cert.CNormKIdeal.sig) → Buf (Elt Ideal) ℓ) (g : Dev Cert.CNormKIdeal.nD → PrngReg)
    (m' : (ℓ : Loc Cert.CNormRIdeal.nD Cert.CNormRIdeal.τ Cert.CNormRIdeal.sig) → Buf (Elt Ideal) ℓ) (g' : Dev Cert.CNormRIdeal.nD → PrngReg), Pre_CNormKIdeal m →
    (∀ c : Dev Cert.CNormKIdeal.nD,
      m' ((c.tc : Thread Cert.CNormRIdeal.nD Cert.CNormRIdeal.τ).loc Cert.CNormRIdeal.main_arg0) = m ((c.tc : Thread Cert.CNormKIdeal.nD Cert.CNormKIdeal.τ).loc Cert.CNormKIdeal.main_arg0)
      ∧ m' ((c.tc : Thread Cert.CNormRIdeal.nD Cert.CNormRIdeal.τ).loc Cert.CNormRIdeal.main_arg1) = m ((c.tc : Thread Cert.CNormKIdeal.nD Cert.CNormKIdeal.τ).loc Cert.CNormKIdeal.main_arg1)
      ∧ m' ((c.tc : Thread Cert.CNormRIdeal.nD Cert.CNormRIdeal.τ).loc Cert.CNormRIdeal.main_arg2) = m ((c.tc : Thread Cert.CNormKIdeal.nD Cert.CNormKIdeal.τ).loc Cert.CNormKIdeal.main_arg2)) →
    ∃ (v0 : (c : Dev Cert.CNormKIdeal.nD) → Buf (Elt Ideal) ((c.tc : Thread Cert.CNormKIdeal.nD Cert.CNormKIdeal.τ).loc Cert.CNormKIdeal.main_v0)),
      θ_run (Cert.CNormKIdeal.defs (F := Ideal)) (onTc (τ := Cert.CNormKIdeal.τ) (Cert.CNormKIdeal.main (F := Ideal))) ⟨m, fun _ => 0, g⟩ (fun r => ∀ c : Dev Cert.CNormKIdeal.nD,
          r.2.mem ((c.tc : Thread Cert.CNormKIdeal.nD Cert.CNormKIdeal.τ).loc Cert.CNormKIdeal.main_v0) = v0 c
          ∧ r.2.mem ((c.tc : Thread Cert.CNormKIdeal.nD Cert.CNormKIdeal.τ).loc Cert.CNormKIdeal.main_arg0) = m ((c.tc : Thread Cert.CNormKIdeal.nD Cert.CNormKIdeal.τ).loc Cert.CNormKIdeal.main_arg0)
          ∧ r.2.mem ((c.tc : Thread Cert.CNormKIdeal.nD Cert.CNormKIdeal.τ).loc Cert.CNormKIdeal.main_arg1) = m ((c.tc : Thread Cert.CNormKIdeal.nD Cert.CNormKIdeal.τ).loc Cert.CNormKIdeal.main_arg1)
          ∧ r.2.mem ((c.tc : Thread Cert.CNormKIdeal.nD Cert.CNormKIdeal.τ).loc Cert.CNormKIdeal.main_arg2) = m ((c.tc : Thread Cert.CNormKIdeal.nD Cert.CNormKIdeal.τ).loc Cert.CNormKIdeal.main_arg2))
      ∧ θ_run (Cert.CNormRIdeal.defs (F := Ideal)) (onTc (τ := Cert.CNormRIdeal.τ) (Cert.CNormRIdeal.main (F := Ideal))) ⟨m', fun _ => 0, g'⟩ (fun r => ∀ c : Dev Cert.CNormRIdeal.nD,
          r.2.mem ((c.tc : Thread Cert.CNormRIdeal.nD Cert.CNormRIdeal.τ).loc Cert.CNormRIdeal.main_v21) = v0 c
          ∧ r.2.mem ((c.tc : Thread Cert.CNormRIdeal.nD Cert.CNormRIdeal.τ).loc Cert.CNormRIdeal.main_arg0) = m' ((c.tc : Thread Cert.CNormRIdeal.nD Cert.CNormRIdeal.τ).loc Cert.CNormRIdeal.main_arg0)
          ∧ r.2.mem ((c.tc : Thread Cert.CNormRIdeal.nD Cert.CNormRIdeal.τ).loc Cert.CNormRIdeal.main_arg1) = m' ((c.tc : Thread Cert.CNormRIdeal.nD Cert.CNormRIdeal.τ).loc Cert.CNormRIdeal.main_arg1)
          ∧ r.2.mem ((c.tc : Thread Cert.CNormRIdeal.nD Cert.CNormRIdeal.τ).loc Cert.CNormRIdeal.main_arg2) = m' ((c.tc : Thread Cert.CNormRIdeal.nD Cert.CNormRIdeal.τ).loc Cert.CNormRIdeal.main_arg2))

def preserves_PostK_PostKIdeal : Prop :=
  True

def algebraic_PostKIdeal_PostRIdeal [hPostKIdeal : Cert.PostKIdeal.Facts] [hPostRIdeal : Cert.PostRIdeal.Facts] : Prop :=
  ∀ (m : (ℓ : Loc Cert.PostKIdeal.nD Cert.PostKIdeal.τ Cert.PostKIdeal.sig) → Buf (Elt Ideal) ℓ) (g : Dev Cert.PostKIdeal.nD → PrngReg)
    (m' : (ℓ : Loc Cert.PostRIdeal.nD Cert.PostRIdeal.τ Cert.PostRIdeal.sig) → Buf (Elt Ideal) ℓ) (g' : Dev Cert.PostRIdeal.nD → PrngReg), Pre_PostKIdeal m →
    (∀ c : Dev Cert.PostKIdeal.nD,
      m' ((c.tc : Thread Cert.PostRIdeal.nD Cert.PostRIdeal.τ).loc Cert.PostRIdeal.main_arg0) = m ((c.tc : Thread Cert.PostKIdeal.nD Cert.PostKIdeal.τ).loc Cert.PostKIdeal.main_arg0)
      ∧ m' ((c.tc : Thread Cert.PostRIdeal.nD Cert.PostRIdeal.τ).loc Cert.PostRIdeal.main_arg1) = m ((c.tc : Thread Cert.PostKIdeal.nD Cert.PostKIdeal.τ).loc Cert.PostKIdeal.main_arg1)
      ∧ m' ((c.tc : Thread Cert.PostRIdeal.nD Cert.PostRIdeal.τ).loc Cert.PostRIdeal.main_arg2) = m ((c.tc : Thread Cert.PostKIdeal.nD Cert.PostKIdeal.τ).loc Cert.PostKIdeal.main_arg2)
      ∧ m' ((c.tc : Thread Cert.PostRIdeal.nD Cert.PostRIdeal.τ).loc Cert.PostRIdeal.main_arg3) = m ((c.tc : Thread Cert.PostKIdeal.nD Cert.PostKIdeal.τ).loc Cert.PostKIdeal.main_arg3)) →
    ∃ (v0 : (c : Dev Cert.PostKIdeal.nD) → Buf (Elt Ideal) ((c.tc : Thread Cert.PostKIdeal.nD Cert.PostKIdeal.τ).loc Cert.PostKIdeal.main_v0_0)) (v1 : (c : Dev Cert.PostKIdeal.nD) → Buf (Elt Ideal) ((c.tc : Thread Cert.PostKIdeal.nD Cert.PostKIdeal.τ).loc Cert.PostKIdeal.main_v0_1)),
      θ_run (Cert.PostKIdeal.defs (F := Ideal)) (onTc (τ := Cert.PostKIdeal.τ) (Cert.PostKIdeal.main (F := Ideal))) ⟨m, fun _ => 0, g⟩ (fun r => ∀ c : Dev Cert.PostKIdeal.nD,
          r.2.mem ((c.tc : Thread Cert.PostKIdeal.nD Cert.PostKIdeal.τ).loc Cert.PostKIdeal.main_v0_0) = v0 c
          ∧ r.2.mem ((c.tc : Thread Cert.PostKIdeal.nD Cert.PostKIdeal.τ).loc Cert.PostKIdeal.main_v0_1) = v1 c
          ∧ r.2.mem ((c.tc : Thread Cert.PostKIdeal.nD Cert.PostKIdeal.τ).loc Cert.PostKIdeal.main_arg0) = m ((c.tc : Thread Cert.PostKIdeal.nD Cert.PostKIdeal.τ).loc Cert.PostKIdeal.main_arg0)
          ∧ r.2.mem ((c.tc : Thread Cert.PostKIdeal.nD Cert.PostKIdeal.τ).loc Cert.PostKIdeal.main_arg1) = m ((c.tc : Thread Cert.PostKIdeal.nD Cert.PostKIdeal.τ).loc Cert.PostKIdeal.main_arg1)
          ∧ r.2.mem ((c.tc : Thread Cert.PostKIdeal.nD Cert.PostKIdeal.τ).loc Cert.PostKIdeal.main_arg2) = m ((c.tc : Thread Cert.PostKIdeal.nD Cert.PostKIdeal.τ).loc Cert.PostKIdeal.main_arg2)
          ∧ r.2.mem ((c.tc : Thread Cert.PostKIdeal.nD Cert.PostKIdeal.τ).loc Cert.PostKIdeal.main_arg3) = m ((c.tc : Thread Cert.PostKIdeal.nD Cert.PostKIdeal.τ).loc Cert.PostKIdeal.main_arg3))
      ∧ θ_run (Cert.PostRIdeal.defs (F := Ideal)) (onTc (τ := Cert.PostRIdeal.τ) (Cert.PostRIdeal.main (F := Ideal))) ⟨m', fun _ => 0, g'⟩ (fun r => ∀ c : Dev Cert.PostRIdeal.nD,
          r.2.mem ((c.tc : Thread Cert.PostRIdeal.nD Cert.PostRIdeal.τ).loc Cert.PostRIdeal.main_v12) = v0 c
          ∧ r.2.mem ((c.tc : Thread Cert.PostRIdeal.nD Cert.PostRIdeal.τ).loc Cert.PostRIdeal.main_v25) = v1 c
          ∧ r.2.mem ((c.tc : Thread Cert.PostRIdeal.nD Cert.PostRIdeal.τ).loc Cert.PostRIdeal.main_arg0) = m' ((c.tc : Thread Cert.PostRIdeal.nD Cert.PostRIdeal.τ).loc Cert.PostRIdeal.main_arg0)
          ∧ r.2.mem ((c.tc : Thread Cert.PostRIdeal.nD Cert.PostRIdeal.τ).loc Cert.PostRIdeal.main_arg1) = m' ((c.tc : Thread Cert.PostRIdeal.nD Cert.PostRIdeal.τ).loc Cert.PostRIdeal.main_arg1)
          ∧ r.2.mem ((c.tc : Thread Cert.PostRIdeal.nD Cert.PostRIdeal.τ).loc Cert.PostRIdeal.main_arg2) = m' ((c.tc : Thread Cert.PostRIdeal.nD Cert.PostRIdeal.τ).loc Cert.PostRIdeal.main_arg2)
          ∧ r.2.mem ((c.tc : Thread Cert.PostRIdeal.nD Cert.PostRIdeal.τ).loc Cert.PostRIdeal.main_arg3) = m' ((c.tc : Thread Cert.PostRIdeal.nD Cert.PostRIdeal.τ).loc Cert.PostRIdeal.main_arg3))

def preserves_OptSqK_OptSqKIdeal : Prop :=
  True

def algebraic_OptSqKIdeal_OptSqRIdeal [hOptSqKIdeal : Cert.OptSqKIdeal.Facts] [hOptSqRIdeal : Cert.OptSqRIdeal.Facts] [hPre_pre30 : Cert.Pre_pre30.Facts] : Prop :=
  ∀ (m : (ℓ : Loc Cert.OptSqKIdeal.nD Cert.OptSqKIdeal.τ Cert.OptSqKIdeal.sig) → Buf (Elt Ideal) ℓ) (g : Dev Cert.OptSqKIdeal.nD → PrngReg)
    (m' : (ℓ : Loc Cert.OptSqRIdeal.nD Cert.OptSqRIdeal.τ Cert.OptSqRIdeal.sig) → Buf (Elt Ideal) ℓ) (g' : Dev Cert.OptSqRIdeal.nD → PrngReg), Pre_OptSqKIdeal m →
    (∀ c : Dev Cert.OptSqKIdeal.nD,
      m' ((c.tc : Thread Cert.OptSqRIdeal.nD Cert.OptSqRIdeal.τ).loc Cert.OptSqRIdeal.main_arg0) = m ((c.tc : Thread Cert.OptSqKIdeal.nD Cert.OptSqKIdeal.τ).loc Cert.OptSqKIdeal.main_arg0)
      ∧ m' ((c.tc : Thread Cert.OptSqRIdeal.nD Cert.OptSqRIdeal.τ).loc Cert.OptSqRIdeal.main_arg1) = m ((c.tc : Thread Cert.OptSqKIdeal.nD Cert.OptSqKIdeal.τ).loc Cert.OptSqKIdeal.main_arg1)
      ∧ m' ((c.tc : Thread Cert.OptSqRIdeal.nD Cert.OptSqRIdeal.τ).loc Cert.OptSqRIdeal.main_arg2) = m ((c.tc : Thread Cert.OptSqKIdeal.nD Cert.OptSqKIdeal.τ).loc Cert.OptSqKIdeal.main_arg2)
      ∧ m' ((c.tc : Thread Cert.OptSqRIdeal.nD Cert.OptSqRIdeal.τ).loc Cert.OptSqRIdeal.main_arg3) = m ((c.tc : Thread Cert.OptSqKIdeal.nD Cert.OptSqKIdeal.τ).loc Cert.OptSqKIdeal.main_arg3)
      ∧ m' ((c.tc : Thread Cert.OptSqRIdeal.nD Cert.OptSqRIdeal.τ).loc Cert.OptSqRIdeal.main_arg4) = m ((c.tc : Thread Cert.OptSqKIdeal.nD Cert.OptSqKIdeal.τ).loc Cert.OptSqKIdeal.main_arg4)
      ∧ m' ((c.tc : Thread Cert.OptSqRIdeal.nD Cert.OptSqRIdeal.τ).loc Cert.OptSqRIdeal.main_arg5) = m ((c.tc : Thread Cert.OptSqKIdeal.nD Cert.OptSqKIdeal.τ).loc Cert.OptSqKIdeal.main_arg5)) →
    ∃ (v0 : (c : Dev Cert.OptSqKIdeal.nD) → Buf (Elt Ideal) ((c.tc : Thread Cert.OptSqKIdeal.nD Cert.OptSqKIdeal.τ).loc Cert.OptSqKIdeal.main_v0_0)) (v1 : (c : Dev Cert.OptSqKIdeal.nD) → Buf (Elt Ideal) ((c.tc : Thread Cert.OptSqKIdeal.nD Cert.OptSqKIdeal.τ).loc Cert.OptSqKIdeal.main_v0_1)) (v2 : (c : Dev Cert.OptSqKIdeal.nD) → Buf (Elt Ideal) ((c.tc : Thread Cert.OptSqKIdeal.nD Cert.OptSqKIdeal.τ).loc Cert.OptSqKIdeal.main_v0_2)) (v3 : (c : Dev Cert.OptSqKIdeal.nD) → Buf (Elt Ideal) ((c.tc : Thread Cert.OptSqKIdeal.nD Cert.OptSqKIdeal.τ).loc Cert.OptSqKIdeal.main_v0_3)),
      θ_run (Cert.OptSqKIdeal.defs (F := Ideal)) (onTc (τ := Cert.OptSqKIdeal.τ) (Cert.OptSqKIdeal.main (F := Ideal))) ⟨m, fun _ => 0, g⟩ (fun r => ∀ c : Dev Cert.OptSqKIdeal.nD,
          r.2.mem ((c.tc : Thread Cert.OptSqKIdeal.nD Cert.OptSqKIdeal.τ).loc Cert.OptSqKIdeal.main_v0_0) = v0 c
          ∧ r.2.mem ((c.tc : Thread Cert.OptSqKIdeal.nD Cert.OptSqKIdeal.τ).loc Cert.OptSqKIdeal.main_v0_1) = v1 c
          ∧ r.2.mem ((c.tc : Thread Cert.OptSqKIdeal.nD Cert.OptSqKIdeal.τ).loc Cert.OptSqKIdeal.main_v0_2) = v2 c
          ∧ r.2.mem ((c.tc : Thread Cert.OptSqKIdeal.nD Cert.OptSqKIdeal.τ).loc Cert.OptSqKIdeal.main_v0_3) = v3 c
          ∧ r.2.mem ((c.tc : Thread Cert.OptSqKIdeal.nD Cert.OptSqKIdeal.τ).loc Cert.OptSqKIdeal.main_arg0) = m ((c.tc : Thread Cert.OptSqKIdeal.nD Cert.OptSqKIdeal.τ).loc Cert.OptSqKIdeal.main_arg0)
          ∧ r.2.mem ((c.tc : Thread Cert.OptSqKIdeal.nD Cert.OptSqKIdeal.τ).loc Cert.OptSqKIdeal.main_arg1) = m ((c.tc : Thread Cert.OptSqKIdeal.nD Cert.OptSqKIdeal.τ).loc Cert.OptSqKIdeal.main_arg1)
          ∧ r.2.mem ((c.tc : Thread Cert.OptSqKIdeal.nD Cert.OptSqKIdeal.τ).loc Cert.OptSqKIdeal.main_arg2) = m ((c.tc : Thread Cert.OptSqKIdeal.nD Cert.OptSqKIdeal.τ).loc Cert.OptSqKIdeal.main_arg2)
          ∧ r.2.mem ((c.tc : Thread Cert.OptSqKIdeal.nD Cert.OptSqKIdeal.τ).loc Cert.OptSqKIdeal.main_arg3) = m ((c.tc : Thread Cert.OptSqKIdeal.nD Cert.OptSqKIdeal.τ).loc Cert.OptSqKIdeal.main_arg3)
          ∧ r.2.mem ((c.tc : Thread Cert.OptSqKIdeal.nD Cert.OptSqKIdeal.τ).loc Cert.OptSqKIdeal.main_arg4) = m ((c.tc : Thread Cert.OptSqKIdeal.nD Cert.OptSqKIdeal.τ).loc Cert.OptSqKIdeal.main_arg4)
          ∧ r.2.mem ((c.tc : Thread Cert.OptSqKIdeal.nD Cert.OptSqKIdeal.τ).loc Cert.OptSqKIdeal.main_arg5) = m ((c.tc : Thread Cert.OptSqKIdeal.nD Cert.OptSqKIdeal.τ).loc Cert.OptSqKIdeal.main_arg5))
      ∧ θ_run (Cert.OptSqRIdeal.defs (F := Ideal)) (onTc (τ := Cert.OptSqRIdeal.τ) (Cert.OptSqRIdeal.main (F := Ideal))) ⟨m', fun _ => 0, g'⟩ (fun r => ∀ c : Dev Cert.OptSqRIdeal.nD,
          r.2.mem ((c.tc : Thread Cert.OptSqRIdeal.nD Cert.OptSqRIdeal.τ).loc Cert.OptSqRIdeal.main_v9) = v0 c
          ∧ r.2.mem ((c.tc : Thread Cert.OptSqRIdeal.nD Cert.OptSqRIdeal.τ).loc Cert.OptSqRIdeal.main_v33) = v1 c
          ∧ r.2.mem ((c.tc : Thread Cert.OptSqRIdeal.nD Cert.OptSqRIdeal.τ).loc Cert.OptSqRIdeal.main_v14) = v2 c
          ∧ r.2.mem ((c.tc : Thread Cert.OptSqRIdeal.nD Cert.OptSqRIdeal.τ).loc Cert.OptSqRIdeal.main_v20) = v3 c
          ∧ r.2.mem ((c.tc : Thread Cert.OptSqRIdeal.nD Cert.OptSqRIdeal.τ).loc Cert.OptSqRIdeal.main_arg0) = m' ((c.tc : Thread Cert.OptSqRIdeal.nD Cert.OptSqRIdeal.τ).loc Cert.OptSqRIdeal.main_arg0)
          ∧ r.2.mem ((c.tc : Thread Cert.OptSqRIdeal.nD Cert.OptSqRIdeal.τ).loc Cert.OptSqRIdeal.main_arg1) = m' ((c.tc : Thread Cert.OptSqRIdeal.nD Cert.OptSqRIdeal.τ).loc Cert.OptSqRIdeal.main_arg1)
          ∧ r.2.mem ((c.tc : Thread Cert.OptSqRIdeal.nD Cert.OptSqRIdeal.τ).loc Cert.OptSqRIdeal.main_arg2) = m' ((c.tc : Thread Cert.OptSqRIdeal.nD Cert.OptSqRIdeal.τ).loc Cert.OptSqRIdeal.main_arg2)
          ∧ r.2.mem ((c.tc : Thread Cert.OptSqRIdeal.nD Cert.OptSqRIdeal.τ).loc Cert.OptSqRIdeal.main_arg3) = m' ((c.tc : Thread Cert.OptSqRIdeal.nD Cert.OptSqRIdeal.τ).loc Cert.OptSqRIdeal.main_arg3)
          ∧ r.2.mem ((c.tc : Thread Cert.OptSqRIdeal.nD Cert.OptSqRIdeal.τ).loc Cert.OptSqRIdeal.main_arg4) = m' ((c.tc : Thread Cert.OptSqRIdeal.nD Cert.OptSqRIdeal.τ).loc Cert.OptSqRIdeal.main_arg4)
          ∧ r.2.mem ((c.tc : Thread Cert.OptSqRIdeal.nD Cert.OptSqRIdeal.τ).loc Cert.OptSqRIdeal.main_arg5) = m' ((c.tc : Thread Cert.OptSqRIdeal.nD Cert.OptSqRIdeal.τ).loc Cert.OptSqRIdeal.main_arg5))

def preserves_OptFoutK_OptFoutKIdeal : Prop :=
  True

def algebraic_OptFoutKIdeal_OptFoutRIdeal [hOptFoutKIdeal : Cert.OptFoutKIdeal.Facts] [hOptFoutRIdeal : Cert.OptFoutRIdeal.Facts] [hPre_pre31 : Cert.Pre_pre31.Facts] : Prop :=
  ∀ (m : (ℓ : Loc Cert.OptFoutKIdeal.nD Cert.OptFoutKIdeal.τ Cert.OptFoutKIdeal.sig) → Buf (Elt Ideal) ℓ) (g : Dev Cert.OptFoutKIdeal.nD → PrngReg)
    (m' : (ℓ : Loc Cert.OptFoutRIdeal.nD Cert.OptFoutRIdeal.τ Cert.OptFoutRIdeal.sig) → Buf (Elt Ideal) ℓ) (g' : Dev Cert.OptFoutRIdeal.nD → PrngReg), Pre_OptFoutKIdeal m →
    (∀ c : Dev Cert.OptFoutKIdeal.nD,
      m' ((c.tc : Thread Cert.OptFoutRIdeal.nD Cert.OptFoutRIdeal.τ).loc Cert.OptFoutRIdeal.main_arg0) = m ((c.tc : Thread Cert.OptFoutKIdeal.nD Cert.OptFoutKIdeal.τ).loc Cert.OptFoutKIdeal.main_arg0)
      ∧ m' ((c.tc : Thread Cert.OptFoutRIdeal.nD Cert.OptFoutRIdeal.τ).loc Cert.OptFoutRIdeal.main_arg1) = m ((c.tc : Thread Cert.OptFoutKIdeal.nD Cert.OptFoutKIdeal.τ).loc Cert.OptFoutKIdeal.main_arg1)
      ∧ m' ((c.tc : Thread Cert.OptFoutRIdeal.nD Cert.OptFoutRIdeal.τ).loc Cert.OptFoutRIdeal.main_arg2) = m ((c.tc : Thread Cert.OptFoutKIdeal.nD Cert.OptFoutKIdeal.τ).loc Cert.OptFoutKIdeal.main_arg2)
      ∧ m' ((c.tc : Thread Cert.OptFoutRIdeal.nD Cert.OptFoutRIdeal.τ).loc Cert.OptFoutRIdeal.main_arg3) = m ((c.tc : Thread Cert.OptFoutKIdeal.nD Cert.OptFoutKIdeal.τ).loc Cert.OptFoutKIdeal.main_arg3)
      ∧ m' ((c.tc : Thread Cert.OptFoutRIdeal.nD Cert.OptFoutRIdeal.τ).loc Cert.OptFoutRIdeal.main_arg4) = m ((c.tc : Thread Cert.OptFoutKIdeal.nD Cert.OptFoutKIdeal.τ).loc Cert.OptFoutKIdeal.main_arg4)
      ∧ m' ((c.tc : Thread Cert.OptFoutRIdeal.nD Cert.OptFoutRIdeal.τ).loc Cert.OptFoutRIdeal.main_arg5) = m ((c.tc : Thread Cert.OptFoutKIdeal.nD Cert.OptFoutKIdeal.τ).loc Cert.OptFoutKIdeal.main_arg5)) →
    ∃ (v0 : (c : Dev Cert.OptFoutKIdeal.nD) → Buf (Elt Ideal) ((c.tc : Thread Cert.OptFoutKIdeal.nD Cert.OptFoutKIdeal.τ).loc Cert.OptFoutKIdeal.main_v0_0)) (v1 : (c : Dev Cert.OptFoutKIdeal.nD) → Buf (Elt Ideal) ((c.tc : Thread Cert.OptFoutKIdeal.nD Cert.OptFoutKIdeal.τ).loc Cert.OptFoutKIdeal.main_v0_1)) (v2 : (c : Dev Cert.OptFoutKIdeal.nD) → Buf (Elt Ideal) ((c.tc : Thread Cert.OptFoutKIdeal.nD Cert.OptFoutKIdeal.τ).loc Cert.OptFoutKIdeal.main_v0_2)) (v3 : (c : Dev Cert.OptFoutKIdeal.nD) → Buf (Elt Ideal) ((c.tc : Thread Cert.OptFoutKIdeal.nD Cert.OptFoutKIdeal.τ).loc Cert.OptFoutKIdeal.main_v0_3)),
      θ_run (Cert.OptFoutKIdeal.defs (F := Ideal)) (onTc (τ := Cert.OptFoutKIdeal.τ) (Cert.OptFoutKIdeal.main (F := Ideal))) ⟨m, fun _ => 0, g⟩ (fun r => ∀ c : Dev Cert.OptFoutKIdeal.nD,
          r.2.mem ((c.tc : Thread Cert.OptFoutKIdeal.nD Cert.OptFoutKIdeal.τ).loc Cert.OptFoutKIdeal.main_v0_0) = v0 c
          ∧ r.2.mem ((c.tc : Thread Cert.OptFoutKIdeal.nD Cert.OptFoutKIdeal.τ).loc Cert.OptFoutKIdeal.main_v0_1) = v1 c
          ∧ r.2.mem ((c.tc : Thread Cert.OptFoutKIdeal.nD Cert.OptFoutKIdeal.τ).loc Cert.OptFoutKIdeal.main_v0_2) = v2 c
          ∧ r.2.mem ((c.tc : Thread Cert.OptFoutKIdeal.nD Cert.OptFoutKIdeal.τ).loc Cert.OptFoutKIdeal.main_v0_3) = v3 c
          ∧ r.2.mem ((c.tc : Thread Cert.OptFoutKIdeal.nD Cert.OptFoutKIdeal.τ).loc Cert.OptFoutKIdeal.main_arg0) = m ((c.tc : Thread Cert.OptFoutKIdeal.nD Cert.OptFoutKIdeal.τ).loc Cert.OptFoutKIdeal.main_arg0)
          ∧ r.2.mem ((c.tc : Thread Cert.OptFoutKIdeal.nD Cert.OptFoutKIdeal.τ).loc Cert.OptFoutKIdeal.main_arg1) = m ((c.tc : Thread Cert.OptFoutKIdeal.nD Cert.OptFoutKIdeal.τ).loc Cert.OptFoutKIdeal.main_arg1)
          ∧ r.2.mem ((c.tc : Thread Cert.OptFoutKIdeal.nD Cert.OptFoutKIdeal.τ).loc Cert.OptFoutKIdeal.main_arg2) = m ((c.tc : Thread Cert.OptFoutKIdeal.nD Cert.OptFoutKIdeal.τ).loc Cert.OptFoutKIdeal.main_arg2)
          ∧ r.2.mem ((c.tc : Thread Cert.OptFoutKIdeal.nD Cert.OptFoutKIdeal.τ).loc Cert.OptFoutKIdeal.main_arg3) = m ((c.tc : Thread Cert.OptFoutKIdeal.nD Cert.OptFoutKIdeal.τ).loc Cert.OptFoutKIdeal.main_arg3)
          ∧ r.2.mem ((c.tc : Thread Cert.OptFoutKIdeal.nD Cert.OptFoutKIdeal.τ).loc Cert.OptFoutKIdeal.main_arg4) = m ((c.tc : Thread Cert.OptFoutKIdeal.nD Cert.OptFoutKIdeal.τ).loc Cert.OptFoutKIdeal.main_arg4)
          ∧ r.2.mem ((c.tc : Thread Cert.OptFoutKIdeal.nD Cert.OptFoutKIdeal.τ).loc Cert.OptFoutKIdeal.main_arg5) = m ((c.tc : Thread Cert.OptFoutKIdeal.nD Cert.OptFoutKIdeal.τ).loc Cert.OptFoutKIdeal.main_arg5))
      ∧ θ_run (Cert.OptFoutRIdeal.defs (F := Ideal)) (onTc (τ := Cert.OptFoutRIdeal.τ) (Cert.OptFoutRIdeal.main (F := Ideal))) ⟨m', fun _ => 0, g'⟩ (fun r => ∀ c : Dev Cert.OptFoutRIdeal.nD,
          r.2.mem ((c.tc : Thread Cert.OptFoutRIdeal.nD Cert.OptFoutRIdeal.τ).loc Cert.OptFoutRIdeal.main_v9) = v0 c
          ∧ r.2.mem ((c.tc : Thread Cert.OptFoutRIdeal.nD Cert.OptFoutRIdeal.τ).loc Cert.OptFoutRIdeal.main_v33) = v1 c
          ∧ r.2.mem ((c.tc : Thread Cert.OptFoutRIdeal.nD Cert.OptFoutRIdeal.τ).loc Cert.OptFoutRIdeal.main_v14) = v2 c
          ∧ r.2.mem ((c.tc : Thread Cert.OptFoutRIdeal.nD Cert.OptFoutRIdeal.τ).loc Cert.OptFoutRIdeal.main_v20) = v3 c
          ∧ r.2.mem ((c.tc : Thread Cert.OptFoutRIdeal.nD Cert.OptFoutRIdeal.τ).loc Cert.OptFoutRIdeal.main_arg0) = m' ((c.tc : Thread Cert.OptFoutRIdeal.nD Cert.OptFoutRIdeal.τ).loc Cert.OptFoutRIdeal.main_arg0)
          ∧ r.2.mem ((c.tc : Thread Cert.OptFoutRIdeal.nD Cert.OptFoutRIdeal.τ).loc Cert.OptFoutRIdeal.main_arg1) = m' ((c.tc : Thread Cert.OptFoutRIdeal.nD Cert.OptFoutRIdeal.τ).loc Cert.OptFoutRIdeal.main_arg1)
          ∧ r.2.mem ((c.tc : Thread Cert.OptFoutRIdeal.nD Cert.OptFoutRIdeal.τ).loc Cert.OptFoutRIdeal.main_arg2) = m' ((c.tc : Thread Cert.OptFoutRIdeal.nD Cert.OptFoutRIdeal.τ).loc Cert.OptFoutRIdeal.main_arg2)
          ∧ r.2.mem ((c.tc : Thread Cert.OptFoutRIdeal.nD Cert.OptFoutRIdeal.τ).loc Cert.OptFoutRIdeal.main_arg3) = m' ((c.tc : Thread Cert.OptFoutRIdeal.nD Cert.OptFoutRIdeal.τ).loc Cert.OptFoutRIdeal.main_arg3)
          ∧ r.2.mem ((c.tc : Thread Cert.OptFoutRIdeal.nD Cert.OptFoutRIdeal.τ).loc Cert.OptFoutRIdeal.main_arg4) = m' ((c.tc : Thread Cert.OptFoutRIdeal.nD Cert.OptFoutRIdeal.τ).loc Cert.OptFoutRIdeal.main_arg4)
          ∧ r.2.mem ((c.tc : Thread Cert.OptFoutRIdeal.nD Cert.OptFoutRIdeal.τ).loc Cert.OptFoutRIdeal.main_arg5) = m' ((c.tc : Thread Cert.OptFoutRIdeal.nD Cert.OptFoutRIdeal.τ).loc Cert.OptFoutRIdeal.main_arg5))

def preserves_OptFinK_OptFinKIdeal : Prop :=
  True

def algebraic_OptFinKIdeal_OptFinRIdeal [hOptFinKIdeal : Cert.OptFinKIdeal.Facts] [hOptFinRIdeal : Cert.OptFinRIdeal.Facts] [hPre_pre32 : Cert.Pre_pre32.Facts] : Prop :=
  ∀ (m : (ℓ : Loc Cert.OptFinKIdeal.nD Cert.OptFinKIdeal.τ Cert.OptFinKIdeal.sig) → Buf (Elt Ideal) ℓ) (g : Dev Cert.OptFinKIdeal.nD → PrngReg)
    (m' : (ℓ : Loc Cert.OptFinRIdeal.nD Cert.OptFinRIdeal.τ Cert.OptFinRIdeal.sig) → Buf (Elt Ideal) ℓ) (g' : Dev Cert.OptFinRIdeal.nD → PrngReg), Pre_OptFinKIdeal m →
    (∀ c : Dev Cert.OptFinKIdeal.nD,
      m' ((c.tc : Thread Cert.OptFinRIdeal.nD Cert.OptFinRIdeal.τ).loc Cert.OptFinRIdeal.main_arg0) = m ((c.tc : Thread Cert.OptFinKIdeal.nD Cert.OptFinKIdeal.τ).loc Cert.OptFinKIdeal.main_arg0)
      ∧ m' ((c.tc : Thread Cert.OptFinRIdeal.nD Cert.OptFinRIdeal.τ).loc Cert.OptFinRIdeal.main_arg1) = m ((c.tc : Thread Cert.OptFinKIdeal.nD Cert.OptFinKIdeal.τ).loc Cert.OptFinKIdeal.main_arg1)
      ∧ m' ((c.tc : Thread Cert.OptFinRIdeal.nD Cert.OptFinRIdeal.τ).loc Cert.OptFinRIdeal.main_arg2) = m ((c.tc : Thread Cert.OptFinKIdeal.nD Cert.OptFinKIdeal.τ).loc Cert.OptFinKIdeal.main_arg2)
      ∧ m' ((c.tc : Thread Cert.OptFinRIdeal.nD Cert.OptFinRIdeal.τ).loc Cert.OptFinRIdeal.main_arg3) = m ((c.tc : Thread Cert.OptFinKIdeal.nD Cert.OptFinKIdeal.τ).loc Cert.OptFinKIdeal.main_arg3)
      ∧ m' ((c.tc : Thread Cert.OptFinRIdeal.nD Cert.OptFinRIdeal.τ).loc Cert.OptFinRIdeal.main_arg4) = m ((c.tc : Thread Cert.OptFinKIdeal.nD Cert.OptFinKIdeal.τ).loc Cert.OptFinKIdeal.main_arg4)
      ∧ m' ((c.tc : Thread Cert.OptFinRIdeal.nD Cert.OptFinRIdeal.τ).loc Cert.OptFinRIdeal.main_arg5) = m ((c.tc : Thread Cert.OptFinKIdeal.nD Cert.OptFinKIdeal.τ).loc Cert.OptFinKIdeal.main_arg5)) →
    ∃ (v0 : (c : Dev Cert.OptFinKIdeal.nD) → Buf (Elt Ideal) ((c.tc : Thread Cert.OptFinKIdeal.nD Cert.OptFinKIdeal.τ).loc Cert.OptFinKIdeal.main_v0_0)) (v1 : (c : Dev Cert.OptFinKIdeal.nD) → Buf (Elt Ideal) ((c.tc : Thread Cert.OptFinKIdeal.nD Cert.OptFinKIdeal.τ).loc Cert.OptFinKIdeal.main_v0_1)) (v2 : (c : Dev Cert.OptFinKIdeal.nD) → Buf (Elt Ideal) ((c.tc : Thread Cert.OptFinKIdeal.nD Cert.OptFinKIdeal.τ).loc Cert.OptFinKIdeal.main_v0_2)) (v3 : (c : Dev Cert.OptFinKIdeal.nD) → Buf (Elt Ideal) ((c.tc : Thread Cert.OptFinKIdeal.nD Cert.OptFinKIdeal.τ).loc Cert.OptFinKIdeal.main_v0_3)),
      θ_run (Cert.OptFinKIdeal.defs (F := Ideal)) (onTc (τ := Cert.OptFinKIdeal.τ) (Cert.OptFinKIdeal.main (F := Ideal))) ⟨m, fun _ => 0, g⟩ (fun r => ∀ c : Dev Cert.OptFinKIdeal.nD,
          r.2.mem ((c.tc : Thread Cert.OptFinKIdeal.nD Cert.OptFinKIdeal.τ).loc Cert.OptFinKIdeal.main_v0_0) = v0 c
          ∧ r.2.mem ((c.tc : Thread Cert.OptFinKIdeal.nD Cert.OptFinKIdeal.τ).loc Cert.OptFinKIdeal.main_v0_1) = v1 c
          ∧ r.2.mem ((c.tc : Thread Cert.OptFinKIdeal.nD Cert.OptFinKIdeal.τ).loc Cert.OptFinKIdeal.main_v0_2) = v2 c
          ∧ r.2.mem ((c.tc : Thread Cert.OptFinKIdeal.nD Cert.OptFinKIdeal.τ).loc Cert.OptFinKIdeal.main_v0_3) = v3 c
          ∧ r.2.mem ((c.tc : Thread Cert.OptFinKIdeal.nD Cert.OptFinKIdeal.τ).loc Cert.OptFinKIdeal.main_arg0) = m ((c.tc : Thread Cert.OptFinKIdeal.nD Cert.OptFinKIdeal.τ).loc Cert.OptFinKIdeal.main_arg0)
          ∧ r.2.mem ((c.tc : Thread Cert.OptFinKIdeal.nD Cert.OptFinKIdeal.τ).loc Cert.OptFinKIdeal.main_arg1) = m ((c.tc : Thread Cert.OptFinKIdeal.nD Cert.OptFinKIdeal.τ).loc Cert.OptFinKIdeal.main_arg1)
          ∧ r.2.mem ((c.tc : Thread Cert.OptFinKIdeal.nD Cert.OptFinKIdeal.τ).loc Cert.OptFinKIdeal.main_arg2) = m ((c.tc : Thread Cert.OptFinKIdeal.nD Cert.OptFinKIdeal.τ).loc Cert.OptFinKIdeal.main_arg2)
          ∧ r.2.mem ((c.tc : Thread Cert.OptFinKIdeal.nD Cert.OptFinKIdeal.τ).loc Cert.OptFinKIdeal.main_arg3) = m ((c.tc : Thread Cert.OptFinKIdeal.nD Cert.OptFinKIdeal.τ).loc Cert.OptFinKIdeal.main_arg3)
          ∧ r.2.mem ((c.tc : Thread Cert.OptFinKIdeal.nD Cert.OptFinKIdeal.τ).loc Cert.OptFinKIdeal.main_arg4) = m ((c.tc : Thread Cert.OptFinKIdeal.nD Cert.OptFinKIdeal.τ).loc Cert.OptFinKIdeal.main_arg4)
          ∧ r.2.mem ((c.tc : Thread Cert.OptFinKIdeal.nD Cert.OptFinKIdeal.τ).loc Cert.OptFinKIdeal.main_arg5) = m ((c.tc : Thread Cert.OptFinKIdeal.nD Cert.OptFinKIdeal.τ).loc Cert.OptFinKIdeal.main_arg5))
      ∧ θ_run (Cert.OptFinRIdeal.defs (F := Ideal)) (onTc (τ := Cert.OptFinRIdeal.τ) (Cert.OptFinRIdeal.main (F := Ideal))) ⟨m', fun _ => 0, g'⟩ (fun r => ∀ c : Dev Cert.OptFinRIdeal.nD,
          r.2.mem ((c.tc : Thread Cert.OptFinRIdeal.nD Cert.OptFinRIdeal.τ).loc Cert.OptFinRIdeal.main_v9) = v0 c
          ∧ r.2.mem ((c.tc : Thread Cert.OptFinRIdeal.nD Cert.OptFinRIdeal.τ).loc Cert.OptFinRIdeal.main_v33) = v1 c
          ∧ r.2.mem ((c.tc : Thread Cert.OptFinRIdeal.nD Cert.OptFinRIdeal.τ).loc Cert.OptFinRIdeal.main_v14) = v2 c
          ∧ r.2.mem ((c.tc : Thread Cert.OptFinRIdeal.nD Cert.OptFinRIdeal.τ).loc Cert.OptFinRIdeal.main_v20) = v3 c
          ∧ r.2.mem ((c.tc : Thread Cert.OptFinRIdeal.nD Cert.OptFinRIdeal.τ).loc Cert.OptFinRIdeal.main_arg0) = m' ((c.tc : Thread Cert.OptFinRIdeal.nD Cert.OptFinRIdeal.τ).loc Cert.OptFinRIdeal.main_arg0)
          ∧ r.2.mem ((c.tc : Thread Cert.OptFinRIdeal.nD Cert.OptFinRIdeal.τ).loc Cert.OptFinRIdeal.main_arg1) = m' ((c.tc : Thread Cert.OptFinRIdeal.nD Cert.OptFinRIdeal.τ).loc Cert.OptFinRIdeal.main_arg1)
          ∧ r.2.mem ((c.tc : Thread Cert.OptFinRIdeal.nD Cert.OptFinRIdeal.τ).loc Cert.OptFinRIdeal.main_arg2) = m' ((c.tc : Thread Cert.OptFinRIdeal.nD Cert.OptFinRIdeal.τ).loc Cert.OptFinRIdeal.main_arg2)
          ∧ r.2.mem ((c.tc : Thread Cert.OptFinRIdeal.nD Cert.OptFinRIdeal.τ).loc Cert.OptFinRIdeal.main_arg3) = m' ((c.tc : Thread Cert.OptFinRIdeal.nD Cert.OptFinRIdeal.τ).loc Cert.OptFinRIdeal.main_arg3)
          ∧ r.2.mem ((c.tc : Thread Cert.OptFinRIdeal.nD Cert.OptFinRIdeal.τ).loc Cert.OptFinRIdeal.main_arg4) = m' ((c.tc : Thread Cert.OptFinRIdeal.nD Cert.OptFinRIdeal.τ).loc Cert.OptFinRIdeal.main_arg4)
          ∧ r.2.mem ((c.tc : Thread Cert.OptFinRIdeal.nD Cert.OptFinRIdeal.τ).loc Cert.OptFinRIdeal.main_arg5) = m' ((c.tc : Thread Cert.OptFinRIdeal.nD Cert.OptFinRIdeal.τ).loc Cert.OptFinRIdeal.main_arg5))

def preserves_OptInK_OptInKIdeal : Prop :=
  True

def algebraic_OptInKIdeal_OptInRIdeal [hOptInKIdeal : Cert.OptInKIdeal.Facts] [hOptInRIdeal : Cert.OptInRIdeal.Facts] [hPre_pre33 : Cert.Pre_pre33.Facts] : Prop :=
  ∀ (m : (ℓ : Loc Cert.OptInKIdeal.nD Cert.OptInKIdeal.τ Cert.OptInKIdeal.sig) → Buf (Elt Ideal) ℓ) (g : Dev Cert.OptInKIdeal.nD → PrngReg)
    (m' : (ℓ : Loc Cert.OptInRIdeal.nD Cert.OptInRIdeal.τ Cert.OptInRIdeal.sig) → Buf (Elt Ideal) ℓ) (g' : Dev Cert.OptInRIdeal.nD → PrngReg), Pre_OptInKIdeal m →
    (∀ c : Dev Cert.OptInKIdeal.nD,
      m' ((c.tc : Thread Cert.OptInRIdeal.nD Cert.OptInRIdeal.τ).loc Cert.OptInRIdeal.main_arg0) = m ((c.tc : Thread Cert.OptInKIdeal.nD Cert.OptInKIdeal.τ).loc Cert.OptInKIdeal.main_arg0)
      ∧ m' ((c.tc : Thread Cert.OptInRIdeal.nD Cert.OptInRIdeal.τ).loc Cert.OptInRIdeal.main_arg1) = m ((c.tc : Thread Cert.OptInKIdeal.nD Cert.OptInKIdeal.τ).loc Cert.OptInKIdeal.main_arg1)
      ∧ m' ((c.tc : Thread Cert.OptInRIdeal.nD Cert.OptInRIdeal.τ).loc Cert.OptInRIdeal.main_arg2) = m ((c.tc : Thread Cert.OptInKIdeal.nD Cert.OptInKIdeal.τ).loc Cert.OptInKIdeal.main_arg2)
      ∧ m' ((c.tc : Thread Cert.OptInRIdeal.nD Cert.OptInRIdeal.τ).loc Cert.OptInRIdeal.main_arg3) = m ((c.tc : Thread Cert.OptInKIdeal.nD Cert.OptInKIdeal.τ).loc Cert.OptInKIdeal.main_arg3)
      ∧ m' ((c.tc : Thread Cert.OptInRIdeal.nD Cert.OptInRIdeal.τ).loc Cert.OptInRIdeal.main_arg4) = m ((c.tc : Thread Cert.OptInKIdeal.nD Cert.OptInKIdeal.τ).loc Cert.OptInKIdeal.main_arg4)
      ∧ m' ((c.tc : Thread Cert.OptInRIdeal.nD Cert.OptInRIdeal.τ).loc Cert.OptInRIdeal.main_arg5) = m ((c.tc : Thread Cert.OptInKIdeal.nD Cert.OptInKIdeal.τ).loc Cert.OptInKIdeal.main_arg5)
      ∧ m' ((c.tc : Thread Cert.OptInRIdeal.nD Cert.OptInRIdeal.τ).loc Cert.OptInRIdeal.main_arg6) = m ((c.tc : Thread Cert.OptInKIdeal.nD Cert.OptInKIdeal.τ).loc Cert.OptInKIdeal.main_arg6)) →
    ∃ (v0 : (c : Dev Cert.OptInKIdeal.nD) → Buf (Elt Ideal) ((c.tc : Thread Cert.OptInKIdeal.nD Cert.OptInKIdeal.τ).loc Cert.OptInKIdeal.main_v0_0)) (v1 : (c : Dev Cert.OptInKIdeal.nD) → Buf (Elt Ideal) ((c.tc : Thread Cert.OptInKIdeal.nD Cert.OptInKIdeal.τ).loc Cert.OptInKIdeal.main_v0_1)) (v2 : (c : Dev Cert.OptInKIdeal.nD) → Buf (Elt Ideal) ((c.tc : Thread Cert.OptInKIdeal.nD Cert.OptInKIdeal.τ).loc Cert.OptInKIdeal.main_v0_2)) (v3 : (c : Dev Cert.OptInKIdeal.nD) → Buf (Elt Ideal) ((c.tc : Thread Cert.OptInKIdeal.nD Cert.OptInKIdeal.τ).loc Cert.OptInKIdeal.main_v0_3)),
      θ_run (Cert.OptInKIdeal.defs (F := Ideal)) (onTc (τ := Cert.OptInKIdeal.τ) (Cert.OptInKIdeal.main (F := Ideal))) ⟨m, fun _ => 0, g⟩ (fun r => ∀ c : Dev Cert.OptInKIdeal.nD,
          r.2.mem ((c.tc : Thread Cert.OptInKIdeal.nD Cert.OptInKIdeal.τ).loc Cert.OptInKIdeal.main_v0_0) = v0 c
          ∧ r.2.mem ((c.tc : Thread Cert.OptInKIdeal.nD Cert.OptInKIdeal.τ).loc Cert.OptInKIdeal.main_v0_1) = v1 c
          ∧ r.2.mem ((c.tc : Thread Cert.OptInKIdeal.nD Cert.OptInKIdeal.τ).loc Cert.OptInKIdeal.main_v0_2) = v2 c
          ∧ r.2.mem ((c.tc : Thread Cert.OptInKIdeal.nD Cert.OptInKIdeal.τ).loc Cert.OptInKIdeal.main_v0_3) = v3 c
          ∧ r.2.mem ((c.tc : Thread Cert.OptInKIdeal.nD Cert.OptInKIdeal.τ).loc Cert.OptInKIdeal.main_arg0) = m ((c.tc : Thread Cert.OptInKIdeal.nD Cert.OptInKIdeal.τ).loc Cert.OptInKIdeal.main_arg0)
          ∧ r.2.mem ((c.tc : Thread Cert.OptInKIdeal.nD Cert.OptInKIdeal.τ).loc Cert.OptInKIdeal.main_arg1) = m ((c.tc : Thread Cert.OptInKIdeal.nD Cert.OptInKIdeal.τ).loc Cert.OptInKIdeal.main_arg1)
          ∧ r.2.mem ((c.tc : Thread Cert.OptInKIdeal.nD Cert.OptInKIdeal.τ).loc Cert.OptInKIdeal.main_arg2) = m ((c.tc : Thread Cert.OptInKIdeal.nD Cert.OptInKIdeal.τ).loc Cert.OptInKIdeal.main_arg2)
          ∧ r.2.mem ((c.tc : Thread Cert.OptInKIdeal.nD Cert.OptInKIdeal.τ).loc Cert.OptInKIdeal.main_arg3) = m ((c.tc : Thread Cert.OptInKIdeal.nD Cert.OptInKIdeal.τ).loc Cert.OptInKIdeal.main_arg3)
          ∧ r.2.mem ((c.tc : Thread Cert.OptInKIdeal.nD Cert.OptInKIdeal.τ).loc Cert.OptInKIdeal.main_arg4) = m ((c.tc : Thread Cert.OptInKIdeal.nD Cert.OptInKIdeal.τ).loc Cert.OptInKIdeal.main_arg4)
          ∧ r.2.mem ((c.tc : Thread Cert.OptInKIdeal.nD Cert.OptInKIdeal.τ).loc Cert.OptInKIdeal.main_arg5) = m ((c.tc : Thread Cert.OptInKIdeal.nD Cert.OptInKIdeal.τ).loc Cert.OptInKIdeal.main_arg5)
          ∧ r.2.mem ((c.tc : Thread Cert.OptInKIdeal.nD Cert.OptInKIdeal.τ).loc Cert.OptInKIdeal.main_arg6) = m ((c.tc : Thread Cert.OptInKIdeal.nD Cert.OptInKIdeal.τ).loc Cert.OptInKIdeal.main_arg6))
      ∧ θ_run (Cert.OptInRIdeal.defs (F := Ideal)) (onTc (τ := Cert.OptInRIdeal.τ) (Cert.OptInRIdeal.main (F := Ideal))) ⟨m', fun _ => 0, g'⟩ (fun r => ∀ c : Dev Cert.OptInRIdeal.nD,
          r.2.mem ((c.tc : Thread Cert.OptInRIdeal.nD Cert.OptInRIdeal.τ).loc Cert.OptInRIdeal.main_v12) = v0 c
          ∧ r.2.mem ((c.tc : Thread Cert.OptInRIdeal.nD Cert.OptInRIdeal.τ).loc Cert.OptInRIdeal.main_v36) = v1 c
          ∧ r.2.mem ((c.tc : Thread Cert.OptInRIdeal.nD Cert.OptInRIdeal.τ).loc Cert.OptInRIdeal.main_v17) = v2 c
          ∧ r.2.mem ((c.tc : Thread Cert.OptInRIdeal.nD Cert.OptInRIdeal.τ).loc Cert.OptInRIdeal.main_v23) = v3 c
          ∧ r.2.mem ((c.tc : Thread Cert.OptInRIdeal.nD Cert.OptInRIdeal.τ).loc Cert.OptInRIdeal.main_arg0) = m' ((c.tc : Thread Cert.OptInRIdeal.nD Cert.OptInRIdeal.τ).loc Cert.OptInRIdeal.main_arg0)
          ∧ r.2.mem ((c.tc : Thread Cert.OptInRIdeal.nD Cert.OptInRIdeal.τ).loc Cert.OptInRIdeal.main_arg1) = m' ((c.tc : Thread Cert.OptInRIdeal.nD Cert.OptInRIdeal.τ).loc Cert.OptInRIdeal.main_arg1)
          ∧ r.2.mem ((c.tc : Thread Cert.OptInRIdeal.nD Cert.OptInRIdeal.τ).loc Cert.OptInRIdeal.main_arg2) = m' ((c.tc : Thread Cert.OptInRIdeal.nD Cert.OptInRIdeal.τ).loc Cert.OptInRIdeal.main_arg2)
          ∧ r.2.mem ((c.tc : Thread Cert.OptInRIdeal.nD Cert.OptInRIdeal.τ).loc Cert.OptInRIdeal.main_arg3) = m' ((c.tc : Thread Cert.OptInRIdeal.nD Cert.OptInRIdeal.τ).loc Cert.OptInRIdeal.main_arg3)
          ∧ r.2.mem ((c.tc : Thread Cert.OptInRIdeal.nD Cert.OptInRIdeal.τ).loc Cert.OptInRIdeal.main_arg4) = m' ((c.tc : Thread Cert.OptInRIdeal.nD Cert.OptInRIdeal.τ).loc Cert.OptInRIdeal.main_arg4)
          ∧ r.2.mem ((c.tc : Thread Cert.OptInRIdeal.nD Cert.OptInRIdeal.τ).loc Cert.OptInRIdeal.main_arg5) = m' ((c.tc : Thread Cert.OptInRIdeal.nD Cert.OptInRIdeal.τ).loc Cert.OptInRIdeal.main_arg5)
          ∧ r.2.mem ((c.tc : Thread Cert.OptInRIdeal.nD Cert.OptInRIdeal.τ).loc Cert.OptInRIdeal.main_arg6) = m' ((c.tc : Thread Cert.OptInRIdeal.nD Cert.OptInRIdeal.τ).loc Cert.OptInRIdeal.main_arg6))

def Claim : Prop :=
  ∃ (hConvK : Cert.ConvK.Facts) (hConvKIdeal : Cert.ConvKIdeal.Facts) (hConvRIdeal : Cert.ConvRIdeal.Facts) (hGateK : Cert.GateK.Facts) (hGateKIdeal : Cert.GateKIdeal.Facts) (hGateRIdeal : Cert.GateRIdeal.Facts) (hFfnK : Cert.FfnK.Facts) (hFfnKIdeal : Cert.FfnKIdeal.Facts) (hFfnRIdeal : Cert.FfnRIdeal.Facts) (hInDwK : Cert.InDwK.Facts) (hInDwKIdeal : Cert.InDwKIdeal.Facts) (hInDwRIdeal : Cert.InDwRIdeal.Facts) (hFinDwK : Cert.FinDwK.Facts) (hFinDwKIdeal : Cert.FinDwKIdeal.Facts) (hFinDwRIdeal : Cert.FinDwRIdeal.Facts) (hFinDxK : Cert.FinDxK.Facts) (hFinDxKIdeal : Cert.FinDxKIdeal.Facts) (hFinDxRIdeal : Cert.FinDxRIdeal.Facts) (hFoutDwK : Cert.FoutDwK.Facts) (hFoutDwKIdeal : Cert.FoutDwKIdeal.Facts) (hFoutDwRIdeal : Cert.FoutDwRIdeal.Facts) (hMixDwK : Cert.MixDwK.Facts) (hMixDwKIdeal : Cert.MixDwKIdeal.Facts) (hMixDwRIdeal : Cert.MixDwRIdeal.Facts) (hAttnDwK : Cert.AttnDwK.Facts) (hAttnDwKIdeal : Cert.AttnDwKIdeal.Facts) (hAttnDwRIdeal : Cert.AttnDwRIdeal.Facts) (hConvDwK : Cert.ConvDwK.Facts) (hConvDwKIdeal : Cert.ConvDwKIdeal.Facts) (hConvDwRIdeal : Cert.ConvDwRIdeal.Facts) (hAttnDxK : Cert.AttnDxK.Facts) (hAttnDxKIdeal : Cert.AttnDxKIdeal.Facts) (hAttnDxRIdeal : Cert.AttnDxRIdeal.Facts) (hConvDxK : Cert.ConvDxK.Facts) (hConvDxKIdeal : Cert.ConvDxKIdeal.Facts) (hConvDxRIdeal : Cert.ConvDxRIdeal.Facts) (hFinK : Cert.FinK.Facts) (hFinKIdeal : Cert.FinKIdeal.Facts) (hFinRIdeal : Cert.FinRIdeal.Facts) (hFoutK : Cert.FoutK.Facts) (hFoutKIdeal : Cert.FoutKIdeal.Facts) (hFoutRIdeal : Cert.FoutRIdeal.Facts) (hConvOutK : Cert.ConvOutK.Facts) (hConvOutKIdeal : Cert.ConvOutKIdeal.Facts) (hConvOutRIdeal : Cert.ConvOutRIdeal.Facts) (hMixOutK : Cert.MixOutK.Facts) (hMixOutKIdeal : Cert.MixOutKIdeal.Facts) (hMixOutRIdeal : Cert.MixOutRIdeal.Facts) (hAGateK : Cert.AGateK.Facts) (hAGateKIdeal : Cert.AGateKIdeal.Facts) (hAGateRIdeal : Cert.AGateRIdeal.Facts) (hPreDxK : Cert.PreDxK.Facts) (hPreDxKIdeal : Cert.PreDxKIdeal.Facts) (hPreDxRIdeal : Cert.PreDxRIdeal.Facts) (hCNormDxK : Cert.CNormDxK.Facts) (hCNormDxKIdeal : Cert.CNormDxKIdeal.Facts) (hCNormDxRIdeal : Cert.CNormDxRIdeal.Facts) (hPostDxK : Cert.PostDxK.Facts) (hPostDxKIdeal : Cert.PostDxKIdeal.Facts) (hPostDxRIdeal : Cert.PostDxRIdeal.Facts) (hPreK : Cert.PreK.Facts) (hPreKIdeal : Cert.PreKIdeal.Facts) (hPreRIdeal : Cert.PreRIdeal.Facts) (hCNormK : Cert.CNormK.Facts) (hCNormKIdeal : Cert.CNormKIdeal.Facts) (hCNormRIdeal : Cert.CNormRIdeal.Facts) (hPostK : Cert.PostK.Facts) (hPostKIdeal : Cert.PostKIdeal.Facts) (hPostRIdeal : Cert.PostRIdeal.Facts) (hOptSqK : Cert.OptSqK.Facts) (hOptSqKIdeal : Cert.OptSqKIdeal.Facts) (hOptSqRIdeal : Cert.OptSqRIdeal.Facts) (hOptFoutK : Cert.OptFoutK.Facts) (hOptFoutKIdeal : Cert.OptFoutKIdeal.Facts) (hOptFoutRIdeal : Cert.OptFoutRIdeal.Facts) (hOptFinK : Cert.OptFinK.Facts) (hOptFinKIdeal : Cert.OptFinKIdeal.Facts) (hOptFinRIdeal : Cert.OptFinRIdeal.Facts) (hOptInK : Cert.OptInK.Facts) (hOptInKIdeal : Cert.OptInKIdeal.Facts) (hOptInRIdeal : Cert.OptInRIdeal.Facts) (hPre_pre30 : Cert.Pre_pre30.Facts) (hPre_pre31 : Cert.Pre_pre31.Facts) (hPre_pre32 : Cert.Pre_pre32.Facts) (hPre_pre33 : Cert.Pre_pre33.Facts),
    quiescent_ConvK (hConvK := hConvK)
    ∧ quiescent_ConvKIdeal (hConvKIdeal := hConvKIdeal)
    ∧ quiescent_ConvRIdeal (hConvRIdeal := hConvRIdeal)
    ∧ quiescent_GateK (hGateK := hGateK)
    ∧ quiescent_GateKIdeal (hGateKIdeal := hGateKIdeal)
    ∧ quiescent_GateRIdeal (hGateRIdeal := hGateRIdeal)
    ∧ quiescent_FfnK (hFfnK := hFfnK)
    ∧ quiescent_FfnKIdeal (hFfnKIdeal := hFfnKIdeal)
    ∧ quiescent_FfnRIdeal (hFfnRIdeal := hFfnRIdeal)
    ∧ quiescent_InDwK (hInDwK := hInDwK)
    ∧ quiescent_InDwKIdeal (hInDwKIdeal := hInDwKIdeal)
    ∧ quiescent_InDwRIdeal (hInDwRIdeal := hInDwRIdeal)
    ∧ quiescent_FinDwK (hFinDwK := hFinDwK)
    ∧ quiescent_FinDwKIdeal (hFinDwKIdeal := hFinDwKIdeal)
    ∧ quiescent_FinDwRIdeal (hFinDwRIdeal := hFinDwRIdeal)
    ∧ quiescent_FinDxK (hFinDxK := hFinDxK)
    ∧ quiescent_FinDxKIdeal (hFinDxKIdeal := hFinDxKIdeal)
    ∧ quiescent_FinDxRIdeal (hFinDxRIdeal := hFinDxRIdeal)
    ∧ quiescent_FoutDwK (hFoutDwK := hFoutDwK)
    ∧ quiescent_FoutDwKIdeal (hFoutDwKIdeal := hFoutDwKIdeal)
    ∧ quiescent_FoutDwRIdeal (hFoutDwRIdeal := hFoutDwRIdeal)
    ∧ quiescent_MixDwK (hMixDwK := hMixDwK)
    ∧ quiescent_MixDwKIdeal (hMixDwKIdeal := hMixDwKIdeal)
    ∧ quiescent_MixDwRIdeal (hMixDwRIdeal := hMixDwRIdeal)
    ∧ quiescent_AttnDwK (hAttnDwK := hAttnDwK)
    ∧ quiescent_AttnDwKIdeal (hAttnDwKIdeal := hAttnDwKIdeal)
    ∧ quiescent_AttnDwRIdeal (hAttnDwRIdeal := hAttnDwRIdeal)
    ∧ quiescent_ConvDwK (hConvDwK := hConvDwK)
    ∧ quiescent_ConvDwKIdeal (hConvDwKIdeal := hConvDwKIdeal)
    ∧ quiescent_ConvDwRIdeal (hConvDwRIdeal := hConvDwRIdeal)
    ∧ quiescent_AttnDxK (hAttnDxK := hAttnDxK)
    ∧ quiescent_AttnDxKIdeal (hAttnDxKIdeal := hAttnDxKIdeal)
    ∧ quiescent_AttnDxRIdeal (hAttnDxRIdeal := hAttnDxRIdeal)
    ∧ quiescent_ConvDxK (hConvDxK := hConvDxK)
    ∧ quiescent_ConvDxKIdeal (hConvDxKIdeal := hConvDxKIdeal)
    ∧ quiescent_ConvDxRIdeal (hConvDxRIdeal := hConvDxRIdeal)
    ∧ quiescent_FinK (hFinK := hFinK)
    ∧ quiescent_FinKIdeal (hFinKIdeal := hFinKIdeal)
    ∧ quiescent_FinRIdeal (hFinRIdeal := hFinRIdeal)
    ∧ quiescent_FoutK (hFoutK := hFoutK)
    ∧ quiescent_FoutKIdeal (hFoutKIdeal := hFoutKIdeal)
    ∧ quiescent_FoutRIdeal (hFoutRIdeal := hFoutRIdeal)
    ∧ quiescent_ConvOutK (hConvOutK := hConvOutK)
    ∧ quiescent_ConvOutKIdeal (hConvOutKIdeal := hConvOutKIdeal)
    ∧ quiescent_ConvOutRIdeal (hConvOutRIdeal := hConvOutRIdeal)
    ∧ quiescent_MixOutK (hMixOutK := hMixOutK)
    ∧ quiescent_MixOutKIdeal (hMixOutKIdeal := hMixOutKIdeal)
    ∧ quiescent_MixOutRIdeal (hMixOutRIdeal := hMixOutRIdeal)
    ∧ quiescent_AGateK (hAGateK := hAGateK)
    ∧ quiescent_AGateKIdeal (hAGateKIdeal := hAGateKIdeal)
    ∧ quiescent_AGateRIdeal (hAGateRIdeal := hAGateRIdeal)
    ∧ quiescent_PreDxK (hPreDxK := hPreDxK)
    ∧ quiescent_PreDxKIdeal (hPreDxKIdeal := hPreDxKIdeal)
    ∧ quiescent_PreDxRIdeal (hPreDxRIdeal := hPreDxRIdeal)
    ∧ quiescent_CNormDxK (hCNormDxK := hCNormDxK)
    ∧ quiescent_CNormDxKIdeal (hCNormDxKIdeal := hCNormDxKIdeal)
    ∧ quiescent_CNormDxRIdeal (hCNormDxRIdeal := hCNormDxRIdeal)
    ∧ quiescent_PostDxK (hPostDxK := hPostDxK)
    ∧ quiescent_PostDxKIdeal (hPostDxKIdeal := hPostDxKIdeal)
    ∧ quiescent_PostDxRIdeal (hPostDxRIdeal := hPostDxRIdeal)
    ∧ quiescent_PreK (hPreK := hPreK)
    ∧ quiescent_PreKIdeal (hPreKIdeal := hPreKIdeal)
    ∧ quiescent_PreRIdeal (hPreRIdeal := hPreRIdeal)
    ∧ quiescent_CNormK (hCNormK := hCNormK)
    ∧ quiescent_CNormKIdeal (hCNormKIdeal := hCNormKIdeal)
    ∧ quiescent_CNormRIdeal (hCNormRIdeal := hCNormRIdeal)
    ∧ quiescent_PostK (hPostK := hPostK)
    ∧ quiescent_PostKIdeal (hPostKIdeal := hPostKIdeal)
    ∧ quiescent_PostRIdeal (hPostRIdeal := hPostRIdeal)
    ∧ quiescent_OptSqK (hOptSqK := hOptSqK) (hPre_pre30 := hPre_pre30)
    ∧ quiescent_OptSqKIdeal (hOptSqKIdeal := hOptSqKIdeal) (hPre_pre30 := hPre_pre30)
    ∧ quiescent_OptSqRIdeal (hOptSqRIdeal := hOptSqRIdeal)
    ∧ quiescent_OptSqRIdeal_pre_pre30 (hOptSqRIdeal := hOptSqRIdeal) (hPre_pre30 := hPre_pre30)
    ∧ quiescent_OptFoutK (hOptFoutK := hOptFoutK) (hPre_pre31 := hPre_pre31)
    ∧ quiescent_OptFoutKIdeal (hOptFoutKIdeal := hOptFoutKIdeal) (hPre_pre31 := hPre_pre31)
    ∧ quiescent_OptFoutRIdeal (hOptFoutRIdeal := hOptFoutRIdeal)
    ∧ quiescent_OptFoutRIdeal_pre_pre31 (hOptFoutRIdeal := hOptFoutRIdeal) (hPre_pre31 := hPre_pre31)
    ∧ quiescent_OptFinK (hOptFinK := hOptFinK) (hPre_pre32 := hPre_pre32)
    ∧ quiescent_OptFinKIdeal (hOptFinKIdeal := hOptFinKIdeal) (hPre_pre32 := hPre_pre32)
    ∧ quiescent_OptFinRIdeal (hOptFinRIdeal := hOptFinRIdeal)
    ∧ quiescent_OptFinRIdeal_pre_pre32 (hOptFinRIdeal := hOptFinRIdeal) (hPre_pre32 := hPre_pre32)
    ∧ quiescent_OptInK (hOptInK := hOptInK) (hPre_pre33 := hPre_pre33)
    ∧ quiescent_OptInKIdeal (hOptInKIdeal := hOptInKIdeal) (hPre_pre33 := hPre_pre33)
    ∧ quiescent_OptInRIdeal (hOptInRIdeal := hOptInRIdeal)
    ∧ quiescent_OptInRIdeal_pre_pre33 (hOptInRIdeal := hOptInRIdeal) (hPre_pre33 := hPre_pre33)
    ∧ preserves_ConvK_ConvKIdeal
    ∧ algebraic_ConvKIdeal_ConvRIdeal (hConvKIdeal := hConvKIdeal) (hConvRIdeal := hConvRIdeal)
    ∧ preserves_GateK_GateKIdeal
    ∧ algebraic_GateKIdeal_GateRIdeal (hGateKIdeal := hGateKIdeal) (hGateRIdeal := hGateRIdeal)
    ∧ preserves_FfnK_FfnKIdeal
    ∧ algebraic_FfnKIdeal_FfnRIdeal (hFfnKIdeal := hFfnKIdeal) (hFfnRIdeal := hFfnRIdeal)
    ∧ preserves_InDwK_InDwKIdeal
    ∧ algebraic_InDwKIdeal_InDwRIdeal (hInDwKIdeal := hInDwKIdeal) (hInDwRIdeal := hInDwRIdeal)
    ∧ preserves_FinDwK_FinDwKIdeal
    ∧ algebraic_FinDwKIdeal_FinDwRIdeal (hFinDwKIdeal := hFinDwKIdeal) (hFinDwRIdeal := hFinDwRIdeal)
    ∧ preserves_FinDxK_FinDxKIdeal
    ∧ algebraic_FinDxKIdeal_FinDxRIdeal (hFinDxKIdeal := hFinDxKIdeal) (hFinDxRIdeal := hFinDxRIdeal)
    ∧ preserves_FoutDwK_FoutDwKIdeal
    ∧ algebraic_FoutDwKIdeal_FoutDwRIdeal (hFoutDwKIdeal := hFoutDwKIdeal) (hFoutDwRIdeal := hFoutDwRIdeal)
    ∧ preserves_MixDwK_MixDwKIdeal
    ∧ algebraic_MixDwKIdeal_MixDwRIdeal (hMixDwKIdeal := hMixDwKIdeal) (hMixDwRIdeal := hMixDwRIdeal)
    ∧ preserves_AttnDwK_AttnDwKIdeal
    ∧ algebraic_AttnDwKIdeal_AttnDwRIdeal (hAttnDwKIdeal := hAttnDwKIdeal) (hAttnDwRIdeal := hAttnDwRIdeal)
    ∧ preserves_ConvDwK_ConvDwKIdeal
    ∧ algebraic_ConvDwKIdeal_ConvDwRIdeal (hConvDwKIdeal := hConvDwKIdeal) (hConvDwRIdeal := hConvDwRIdeal)
    ∧ preserves_AttnDxK_AttnDxKIdeal
    ∧ algebraic_AttnDxKIdeal_AttnDxRIdeal (hAttnDxKIdeal := hAttnDxKIdeal) (hAttnDxRIdeal := hAttnDxRIdeal)
    ∧ preserves_ConvDxK_ConvDxKIdeal
    ∧ algebraic_ConvDxKIdeal_ConvDxRIdeal (hConvDxKIdeal := hConvDxKIdeal) (hConvDxRIdeal := hConvDxRIdeal)
    ∧ preserves_FinK_FinKIdeal
    ∧ algebraic_FinKIdeal_FinRIdeal (hFinKIdeal := hFinKIdeal) (hFinRIdeal := hFinRIdeal)
    ∧ preserves_FoutK_FoutKIdeal
    ∧ algebraic_FoutKIdeal_FoutRIdeal (hFoutKIdeal := hFoutKIdeal) (hFoutRIdeal := hFoutRIdeal)
    ∧ preserves_ConvOutK_ConvOutKIdeal
    ∧ algebraic_ConvOutKIdeal_ConvOutRIdeal (hConvOutKIdeal := hConvOutKIdeal) (hConvOutRIdeal := hConvOutRIdeal)
    ∧ preserves_MixOutK_MixOutKIdeal
    ∧ algebraic_MixOutKIdeal_MixOutRIdeal (hMixOutKIdeal := hMixOutKIdeal) (hMixOutRIdeal := hMixOutRIdeal)
    ∧ preserves_AGateK_AGateKIdeal
    ∧ algebraic_AGateKIdeal_AGateRIdeal (hAGateKIdeal := hAGateKIdeal) (hAGateRIdeal := hAGateRIdeal)
    ∧ preserves_PreDxK_PreDxKIdeal
    ∧ algebraic_PreDxKIdeal_PreDxRIdeal (hPreDxKIdeal := hPreDxKIdeal) (hPreDxRIdeal := hPreDxRIdeal)
    ∧ preserves_CNormDxK_CNormDxKIdeal
    ∧ algebraic_CNormDxKIdeal_CNormDxRIdeal (hCNormDxKIdeal := hCNormDxKIdeal) (hCNormDxRIdeal := hCNormDxRIdeal)
    ∧ preserves_PostDxK_PostDxKIdeal
    ∧ algebraic_PostDxKIdeal_PostDxRIdeal (hPostDxKIdeal := hPostDxKIdeal) (hPostDxRIdeal := hPostDxRIdeal)
    ∧ preserves_PreK_PreKIdeal
    ∧ algebraic_PreKIdeal_PreRIdeal (hPreKIdeal := hPreKIdeal) (hPreRIdeal := hPreRIdeal)
    ∧ preserves_CNormK_CNormKIdeal
    ∧ algebraic_CNormKIdeal_CNormRIdeal (hCNormKIdeal := hCNormKIdeal) (hCNormRIdeal := hCNormRIdeal)
    ∧ preserves_PostK_PostKIdeal
    ∧ algebraic_PostKIdeal_PostRIdeal (hPostKIdeal := hPostKIdeal) (hPostRIdeal := hPostRIdeal)
    ∧ preserves_OptSqK_OptSqKIdeal
    ∧ algebraic_OptSqKIdeal_OptSqRIdeal (hOptSqKIdeal := hOptSqKIdeal) (hOptSqRIdeal := hOptSqRIdeal) (hPre_pre30 := hPre_pre30)
    ∧ preserves_OptFoutK_OptFoutKIdeal
    ∧ algebraic_OptFoutKIdeal_OptFoutRIdeal (hOptFoutKIdeal := hOptFoutKIdeal) (hOptFoutRIdeal := hOptFoutRIdeal) (hPre_pre31 := hPre_pre31)
    ∧ preserves_OptFinK_OptFinKIdeal
    ∧ algebraic_OptFinKIdeal_OptFinRIdeal (hOptFinKIdeal := hOptFinKIdeal) (hOptFinRIdeal := hOptFinRIdeal) (hPre_pre32 := hPre_pre32)
    ∧ preserves_OptInK_OptInKIdeal
    ∧ algebraic_OptInKIdeal_OptInRIdeal (hOptInKIdeal := hOptInKIdeal) (hOptInRIdeal := hOptInRIdeal) (hPre_pre33 := hPre_pre33)
-- ==== Pre_pre30.lean ====
abbrev S1 : Shape := ⟨1, ![1]⟩
abbrev S8x128x1024 : Shape := ⟨3, ![8, 128, 1024]⟩
abbrev S7x128x1024 : Shape := ⟨3, ![7, 128, 1024]⟩
abbrev S128x1024 : Shape := ⟨2, ![128, 1024]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S8x128x1024 .f32) (main_arg2 : FVec F S7x128x1024 .bf16) (main_arg3 : FVec F S128x1024 .f32) (main_arg4 : FVec F S128x1024 .f32) (main_arg5 : FVec F S128x1024 .f32) : IVec S1 1 × IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 8#32
  let main_v2 : IVec S1 32 := broadcastInDim S1 ![] bcast_S_S1 main_c_0
  let main_v3 : IVec S1 1 := cmpi .slt main_arg0 main_v2
  (main_v1, main_v3)
-- ==== Pre_pre31.lean ====
abbrev S1 : Shape := ⟨1, ![1]⟩
abbrev S8x352x1024 : Shape := ⟨3, ![8, 352, 1024]⟩
abbrev S7x352x1024 : Shape := ⟨3, ![7, 352, 1024]⟩
abbrev S352x1024 : Shape := ⟨2, ![352, 1024]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S8x352x1024 .f32) (main_arg2 : FVec F S7x352x1024 .bf16) (main_arg3 : FVec F S352x1024 .f32) (main_arg4 : FVec F S352x1024 .f32) (main_arg5 : FVec F S352x1024 .f32) : IVec S1 1 × IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 8#32
  let main_v2 : IVec S1 32 := broadcastInDim S1 ![] bcast_S_S1 main_c_0
  let main_v3 : IVec S1 1 := cmpi .slt main_arg0 main_v2
  (main_v1, main_v3)
-- ==== Pre_pre32.lean ====
abbrev S1 : Shape := ⟨1, ![1]⟩
abbrev S8x704x1024 : Shape := ⟨3, ![8, 704, 1024]⟩
abbrev S7x704x1024 : Shape := ⟨3, ![7, 704, 1024]⟩
abbrev S704x1024 : Shape := ⟨2, ![704, 1024]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S8x704x1024 .f32) (main_arg2 : FVec F S7x704x1024 .bf16) (main_arg3 : FVec F S704x1024 .f32) (main_arg4 : FVec F S704x1024 .f32) (main_arg5 : FVec F S704x1024 .f32) : IVec S1 1 × IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 8#32
  let main_v2 : IVec S1 32 := broadcastInDim S1 ![] bcast_S_S1 main_c_0
  let main_v3 : IVec S1 1 := cmpi .slt main_arg0 main_v2
  (main_v1, main_v3)
-- ==== Pre_pre33.lean ====
abbrev S1 : Shape := ⟨1, ![1]⟩
abbrev S8x1024x896 : Shape := ⟨3, ![8, 1024, 896]⟩
abbrev S1x1024x896 : Shape := ⟨3, ![1, 1024, 896]⟩
abbrev S3x1024x896 : Shape := ⟨3, ![3, 1024, 896]⟩
abbrev S1024x896 : Shape := ⟨2, ![1024, 896]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S8x1024x896 .f32) (main_arg2 : FVec F S1x1024x896 .bf16) (main_arg3 : FVec F S3x1024x896 .bf16) (main_arg4 : FVec F S1024x896 .f32) (main_arg5 : FVec F S1024x896 .f32) (main_arg6 : FVec F S1024x896 .f32) : IVec S1 1 × IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 8#32
  let main_v2 : IVec S1 32 := broadcastInDim S1 ![] bcast_S_S1 main_c_0
  let main_v3 : IVec S1 1 := cmpi .slt main_arg0 main_v2
  (main_v1, main_v3)
-- ==== ConvK.lean ====
abbrev S2176x7168 : Shape := ⟨2, ![2176, 7168]⟩
abbrev S2176x1024 : Shape := ⟨2, ![2176, 1024]⟩
abbrev S1x31x1024 : Shape := ⟨3, ![1, 31, 1024]⟩
abbrev S31x1024 : Shape := ⟨2, ![31, 1024]⟩
abbrev S_ : Shape := ⟨0, ![]⟩
abbrev S32x1024 : Shape := ⟨2, ![32, 1024]⟩
abbrev S1x1024 : Shape := ⟨2, ![1, 1024]⟩
abbrev S2176x128 : Shape := ⟨2, ![2176, 128]⟩
abbrev S32x128 : Shape := ⟨2, ![32, 128]⟩
abbrev S1x128 : Shape := ⟨2, ![1, 128]⟩
abbrev S2208x128 : Shape := ⟨2, ![2208, 128]⟩
abbrev S32x8x128 : Shape := ⟨3, ![32, 8, 128]⟩
abbrev S8x128 : Shape := ⟨2, ![8, 128]⟩
abbrev S128x128 : Shape := ⟨2, ![128, 128]⟩
abbrev S160x128 : Shape := ⟨2, ![160, 128]⟩
abbrev S1x8x128 : Shape := ⟨3, ![1, 8, 128]⟩
abbrev S16x8x128 : Shape := ⟨3, ![16, 8, 128]⟩
abbrev S128 : Shape := ⟨1, ![128]⟩

abbrev nBuf : Space → Nat
  | .hbm => 11
  | .vmem => 20
  | .smem => 0
  | _ => 0

abbrev bufTy : (tb : Table) → Fin (tcTables nBuf tb) → BufTy
  | .hbm, ⟨0, _⟩ => ⟨S2176x7168, .f32⟩
  | .hbm, ⟨1, _⟩ => ⟨S2176x1024, .f32⟩
  | .hbm, ⟨2, _⟩ => ⟨S1x31x1024, .f32⟩
  | .hbm, ⟨3, _⟩ => ⟨S31x1024, .f32⟩
  | .hbm, ⟨4, _⟩ => ⟨S_, .i32⟩
  | .hbm, ⟨5, _⟩ => ⟨S_, .f32⟩
  | .hbm, ⟨6, _⟩ => ⟨S32x1024, .f32⟩
  | .hbm, ⟨7, _⟩ => ⟨S2176x1024, .bf16⟩
  | .hbm, ⟨8, _⟩ => ⟨S2176x1024, .bf16⟩
  | .hbm, ⟨9, _⟩ => ⟨S32x1024, .f32⟩
  | .hbm, ⟨10, _⟩ => ⟨S1x1024, .f32⟩
  | .local _ .vmem, ⟨0, _⟩ => ⟨S2176x128, .f32⟩
  | .local _ .vmem, ⟨1, _⟩ => ⟨S2176x128, .f32⟩
  | .local _ .vmem, ⟨2, _⟩ => ⟨S2176x128, .f32⟩
  | .local _ .vmem, ⟨3, _⟩ => ⟨S2176x128, .f32⟩
  | .local _ .vmem, ⟨4, _⟩ => ⟨S2176x128, .f32⟩
  | .local _ .vmem, ⟨5, _⟩ => ⟨S2176x128, .f32⟩
  | .local _ .vmem, ⟨6, _⟩ => ⟨S32x128, .f32⟩
  | .local _ .vmem, ⟨7, _⟩ => ⟨S32x128, .f32⟩
  | .local _ .vmem, ⟨8, _⟩ => ⟨S2176x128, .bf16⟩
  | .local _ .vmem, ⟨9, _⟩ => ⟨S2176x128, .bf16⟩
  | .local _ .vmem, ⟨10, _⟩ => ⟨S2176x128, .bf16⟩
  | .local _ .vmem, ⟨11, _⟩ => ⟨S2176x128, .bf16⟩
  | .local _ .vmem, ⟨12, _⟩ => ⟨S32x128, .f32⟩
  | .local _ .vmem, ⟨13, _⟩ => ⟨S32x128, .f32⟩
  | .local _ .vmem, ⟨14, _⟩ => ⟨S1x128, .f32⟩
  | .local _ .vmem, ⟨15, _⟩ => ⟨S1x128, .f32⟩
  | .local _ .vmem, ⟨16, _⟩ => ⟨S2208x128, .f32⟩
  | .local _ .vmem, ⟨17, _⟩ => ⟨S2208x128, .f32⟩
  | .local _ .vmem, ⟨18, _⟩ => ⟨S32x8x128, .f32⟩
  | .local _ .vmem, ⟨19, _⟩ => ⟨S8x128, .f32⟩
  | _, _ => ⟨S2176x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c17_i32 : BitVec 32 := 17#32
  let v16 : BitVec 32 := Scalar.addi c0_i32 c17_i32
  let c1_i32 : BitVec 32 := 1#32
  ⟨c0_i32, v16, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c128_i32 : BitVec 32 := 128#32
  let v179 : BitVec 32 := Scalar.muli arg13 c128_i32
  v179
def k0_off1 (k0_t1 : Fin k0_t1_loop.trips) : Fin 2 → Nat :=
  let c0_i32 : BitVec 32 := 0#32
  let c1_i32 : BitVec 32 := 1#32
  let arg13 : BitVec 32 := Scf.iv c0_i32 c1_i32 k0_t1
  let c128_i32 : BitVec 32 := 128#32
  let v179 : BitVec 32 := Scalar.muli arg13 c128_i32
  let v180 : BitVec 32 := v179
  let v181 : Index := Scalar.indexCast v180
  let c0_178 : Index := 0#32
  ![v181.toNat, 0]
def k0_mult2 (k0_t1 : Fin k0_t1_loop.trips) : BitVec 32 :=
  let c0_i32 : BitVec 32 := 0#32
  let c1_i32 : BitVec 32 := 1#32
  let arg13 : BitVec 32 := Scf.iv c0_i32 c1_i32 k0_t1
  let c128_i32 : BitVec 32 := 128#32
  let v179 : BitVec 32 := Scalar.muli arg13 c128_i32
  let v180 : BitVec 32 := v179
  let c32_i32 : BitVec 32 := 32#32
  let v187 : BitVec 32 := Scalar.addi v180 c32_i32
  v187
def k0_off2 (k0_t1 : Fin k0_t1_loop.trips) : Fin 2 → Nat :=
  let c0_i32 : BitVec 32 := 0#32
  let c1_i32 : BitVec 32 := 1#32
  let arg13 : BitVec 32 := Scf.iv c0_i32 c1_i32 k0_t1
  let c128_i32 : BitVec 32 := 128#32
  let v179 : BitVec 32 := Scalar.muli arg13 c128_i32
  let v180 : BitVec 32 := v179
  let c32_i32 : BitVec 32 := 32#32
  let v187 : BitVec 32 := Scalar.addi v180 c32_i32
  let v188 : BitVec 32 := v187
  let v189 : Index := Scalar.indexCast v188
  let c0_180 : Index := 0#32
  ![v189.toNat, 0]
def k0_off3 (k0_t1 : Fin k0_t1_loop.trips) : Fin 2 → Nat :=
  let c0_i32 : BitVec 32 := 0#32
  let c1_i32 : BitVec 32 := 1#32
  let arg13 : BitVec 32 := Scf.iv c0_i32 c1_i32 k0_t1
  let c128_i32 : BitVec 32 := 128#32
  let v179 : BitVec 32 := Scalar.muli arg13 c128_i32
  let v180 : BitVec 32 := v179
  let v195 : Index := Scalar.indexCast v180
  let c0_182 : Index := 0#32
  ![v195.toNat, 0]
@[reducible] def k0_t2_loop : Scf.Loop 32 :=
  let c0_i32_11 : BitVec 32 := 0#32
  let c17_i32_12 : BitVec 32 := 17#32
  let v17 : BitVec 32 := Scalar.addi c0_i32_11 c17_i32_12
  let c1_i32_13 : BitVec 32 := 1#32
  ⟨c0_i32_11, v17, c1_i32_13⟩
def k0_mult3 (k0_t2 : Fin k0_t2_loop.trips) : BitVec 32 :=
  let c0_i32_11 : BitVec 32 := 0#32
  let c1_i32_13 : BitVec 32 := 1#32
  let arg13 : BitVec 32 := Scf.iv c0_i32_11 c1_i32_13 k0_t2
  let c128_i32 : BitVec 32 := 128#32
  let v179 : BitVec 32 := Scalar.muli arg13 c128_i32
  v179
def k0_off4 (k0_t2 : Fin k0_t2_loop.trips) : Fin 2 → Nat :=
  let c0_i32_11 : BitVec 32 := 0#32
  let c1_i32_13 : BitVec 32 := 1#32
  let arg13 : BitVec 32 := Scf.iv c0_i32_11 c1_i32_13 k0_t2
  let c128_i32 : BitVec 32 := 128#32
  let v179 : BitVec 32 := Scalar.muli arg13 c128_i32
  let v180 : BitVec 32 := v179
  let v181 : Index := Scalar.indexCast v180
  let c0_178 : Index := 0#32
  ![v181.toNat, 0]
def k0_off5 (k0_t2 : Fin k0_t2_loop.trips) : Fin 2 → Nat :=
  let c0_i32_11 : BitVec 32 := 0#32
  let c1_i32_13 : BitVec 32 := 1#32
  let arg13 : BitVec 32 := Scf.iv c0_i32_11 c1_i32_13 k0_t2
  let c128_i32 : BitVec 32 := 128#32
  let v179 : BitVec 32 := Scalar.muli arg13 c128_i32
  let v180 : BitVec 32 := v179
  let v377 : Index := Scalar.indexCast v180
  let c0_242 : Index := 0#32
  ![v377.toNat, 0]
def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2176x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2176x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2176x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2176x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2176x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ConvRIdeal.lean ====
abbrev S2176x7168 : Shape := ⟨2, ![2176, 7168]⟩
abbrev S2176x1024 : Shape := ⟨2, ![2176, 1024]⟩
abbrev S1x31x1024 : Shape := ⟨3, ![1, 31, 1024]⟩
abbrev S2176x2048 : Shape := ⟨2, ![2176, 2048]⟩
abbrev S31x1024 : Shape := ⟨2, ![31, 1024]⟩
abbrev S_ : Shape := ⟨0, ![]⟩
abbrev S1x1024 : Shape := ⟨2, ![1, 1024]⟩
abbrev S30x1024 : Shape := ⟨2, ![30, 1024]⟩
abbrev S2206x1024 : Shape := ⟨2, ![2206, 1024]⟩
abbrev S1024 : Shape := ⟨1, ![1024]⟩
abbrev S32x1024 : Shape := ⟨2, ![32, 1024]⟩

abbrev nBuf : Space → Nat
  | .hbm => 726
  | .vmem => 0
  | .smem => 0
  | _ => 0

abbrev hbmTy0_0 (i : Nat) : BufTy := match i % 128 with
  | 0 => ⟨S2176x7168, .f32⟩
  | 1 => ⟨S2176x1024, .f32⟩
  | 2 => ⟨S1x31x1024, .f32⟩
  | 3 => ⟨S2176x2048, .f32⟩
  | 4 => ⟨S31x1024, .f32⟩
  | 5 => ⟨S_, .f32⟩
  | 6 => ⟨S1x1024, .f32⟩
  | 7 => ⟨S2176x1024, .f32⟩
  | 8 => ⟨S2176x1024, .f32⟩
  | 9 => ⟨S2176x1024, .f32⟩
  | 10 => ⟨S2176x1024, .f32⟩
  | 11 => ⟨S_, .f32⟩
  | 12 => ⟨S2176x1024, .f32⟩
  | 13 => ⟨S2176x1024, .f32⟩
  | 14 => ⟨S_, .f32⟩
  | 15 => ⟨S2176x1024, .f32⟩
  | 16 => ⟨S2176x1024, .f32⟩
  | 17 => ⟨S_, .f32⟩
  | 18 => ⟨S2176x1024, .f32⟩
  | 19 => ⟨S2176x1024, .f32⟩
  | 20 => ⟨S2176x1024, .f32⟩
  | 21 => ⟨S2176x1024, .f32⟩
  | 22 => ⟨S_, .f32⟩
  | 23 => ⟨S30x1024, .f32⟩
  | 24 => ⟨S2206x1024, .f32⟩
  | 25 => ⟨S_, .f32⟩
  | 26 => ⟨S30x1024, .f32⟩
  | 27 => ⟨S2176x1024, .f32⟩
  | 28 => ⟨S1x1024, .f32⟩
  | 29 => ⟨S1024, .f32⟩
  | 30 => ⟨S1x1024, .f32⟩
  | 31 => ⟨S2176x1024, .f32⟩
  | 32 => ⟨S2176x1024, .f32⟩
  | 33 => ⟨S2176x1024, .f32⟩
  | 34 => ⟨S2176x1024, .f32⟩
  | 35 => ⟨S2176x1024, .f32⟩
  | 36 => ⟨S1x1024, .f32⟩
  | 37 => ⟨S1024, .f32⟩
  | 38 => ⟨S1x1024, .f32⟩
  | 39 => ⟨S2176x1024, .f32⟩
  | 40 => ⟨S2176x1024, .f32⟩
  | 41 => ⟨S2176x1024, .f32⟩
  | 42 => ⟨S2176x1024, .f32⟩
  | 43 => ⟨S1x1024, .f32⟩
  | 44 => ⟨S1024, .f32⟩
  | 45 => ⟨S1x1024, .f32⟩
  | 46 => ⟨S2176x1024, .f32⟩
  | 47 => ⟨S2176x1024, .f32⟩
  | 48 => ⟨S2176x1024, .f32⟩
  | 49 => ⟨S2176x1024, .f32⟩
  | 50 => ⟨S1x1024, .f32⟩
  | 51 => ⟨S1024, .f32⟩
  | 52 => ⟨S1x1024, .f32⟩
  | 53 => ⟨S2176x1024, .f32⟩
  | 54 => ⟨S2176x1024, .f32⟩
  | 55 => ⟨S2176x1024, .f32⟩
  | 56 => ⟨S2176x1024, .f32⟩
  | 57 => ⟨S1x1024, .f32⟩
  | 58 => ⟨S1024, .f32⟩
  | 59 => ⟨S1x1024, .f32⟩
  | 60 => ⟨S2176x1024, .f32⟩
  | 61 => ⟨S2176x1024, .f32⟩
  | 62 => ⟨S2176x1024, .f32⟩
  | 63 => ⟨S2176x1024, .f32⟩
  | 64 => ⟨S1x1024, .f32⟩
  | 65 => ⟨S1024, .f32⟩
  | 66 => ⟨S1x1024, .f32⟩
  | 67 => ⟨S2176x1024, .f32⟩
  | 68 => ⟨S2176x1024, .f32⟩
  | 69 => ⟨S2176x1024, .f32⟩
  | 70 => ⟨S2176x1024, .f32⟩
  | 71 => ⟨S1x1024, .f32⟩
  | 72 => ⟨S1024, .f32⟩
  | 73 => ⟨S1x1024, .f32⟩
  | 74 => ⟨S2176x1024, .f32⟩
  | 75 => ⟨S2176x1024, .f32⟩
  | 76 => ⟨S2176x1024, .f32⟩
  | 77 => ⟨S2176x1024, .f32⟩
  | 78 => ⟨S1x1024, .f32⟩
  | 79 => ⟨S1024, .f32⟩
  | 80 => ⟨S1x1024, .f32⟩
  | 81 => ⟨S2176x1024, .f32⟩
  | 82 => ⟨S2176x1024, .f32⟩
  | 83 => ⟨S2176x1024, .f32⟩
  | 84 => ⟨S2176x1024, .f32⟩
  | 85 => ⟨S1x1024, .f32⟩
  | 86 => ⟨S1024, .f32⟩
  | 87 => ⟨S1x1024, .f32⟩
  | 88 => ⟨S2176x1024, .f32⟩
  | 89 => ⟨S2176x1024, .f32⟩
  | 90 => ⟨S2176x1024, .f32⟩
  | 91 => ⟨S2176x1024, .f32⟩
  | 92 => ⟨S1x1024, .f32⟩
  | 93 => ⟨S1024, .f32⟩
  | 94 => ⟨S1x1024, .f32⟩
  | 95 => ⟨S2176x1024, .f32⟩
  | 96 => ⟨S2176x1024, .f32⟩
  | 97 => ⟨S2176x1024, .f32⟩
  | 98 => ⟨S2176x1024, .f32⟩
  | 99 => ⟨S1x1024, .f32⟩
  | 100 => ⟨S1024, .f32⟩
  | 101 => ⟨S1x1024, .f32⟩
  | 102 => ⟨S2176x1024, .f32⟩
  | 103 => ⟨S2176x1024, .f32⟩
  | 104 => ⟨S2176x1024, .f32⟩
  | 105 => ⟨S2176x1024, .f32⟩
  | 106 => ⟨S1x1024, .f32⟩
  | 107 => ⟨S1024, .f32⟩
  | 108 => ⟨S1x1024, .f32⟩
  | 109 => ⟨S2176x1024, .f32⟩
  | 110 => ⟨S2176x1024, .f32⟩
  | 111 => ⟨S2176x1024, .f32⟩
  | 112 => ⟨S2176x1024, .f32⟩
  | 113 => ⟨S1x1024, .f32⟩
  | 114 => ⟨S1024, .f32⟩
  | 115 => ⟨S1x1024, .f32⟩
  | 116 => ⟨S2176x1024, .f32⟩
  | 117 => ⟨S2176x1024, .f32⟩
  | 118 => ⟨S2176x1024, .f32⟩
  | 119 => ⟨S2176x1024, .f32⟩
  | 120 => ⟨S1x1024, .f32⟩
  | 121 => ⟨S1024, .f32⟩
  | 122 => ⟨S1x1024, .f32⟩
  | 123 => ⟨S2176x1024, .f32⟩
  | 124 => ⟨S2176x1024, .f32⟩
  | 125 => ⟨S2176x1024, .f32⟩
  | 126 => ⟨S2176x1024, .f32⟩
  | 127 => ⟨S1x1024, .f32⟩
  | _ => ⟨S2176x7168, .f32⟩

abbrev hbmTy0_1 (i : Nat) : BufTy := match i % 128 with
  | 0 => ⟨S1024, .f32⟩
  | 1 => ⟨S1x1024, .f32⟩
  | 2 => ⟨S2176x1024, .f32⟩
  | 3 => ⟨S2176x1024, .f32⟩
  | 4 => ⟨S2176x1024, .f32⟩
  | 5 => ⟨S2176x1024, .f32⟩
  | 6 => ⟨S1x1024, .f32⟩
  | 7 => ⟨S1024, .f32⟩
  | 8 => ⟨S1x1024, .f32⟩
  | 9 => ⟨S2176x1024, .f32⟩
  | 10 => ⟨S2176x1024, .f32⟩
  | 11 => ⟨S2176x1024, .f32⟩
  | 12 => ⟨S2176x1024, .f32⟩
  | 13 => ⟨S1x1024, .f32⟩
  | 14 => ⟨S1024, .f32⟩
  | 15 => ⟨S1x1024, .f32⟩
  | 16 => ⟨S2176x1024, .f32⟩
  | 17 => ⟨S2176x1024, .f32⟩
  | 18 => ⟨S2176x1024, .f32⟩
  | 19 => ⟨S2176x1024, .f32⟩
  | 20 => ⟨S1x1024, .f32⟩
  | 21 => ⟨S1024, .f32⟩
  | 22 => ⟨S1x1024, .f32⟩
  | 23 => ⟨S2176x1024, .f32⟩
  | 24 => ⟨S2176x1024, .f32⟩
  | 25 => ⟨S2176x1024, .f32⟩
  | 26 => ⟨S2176x1024, .f32⟩
  | 27 => ⟨S1x1024, .f32⟩
  | 28 => ⟨S1024, .f32⟩
  | 29 => ⟨S1x1024, .f32⟩
  | 30 => ⟨S2176x1024, .f32⟩
  | 31 => ⟨S2176x1024, .f32⟩
  | 32 => ⟨S2176x1024, .f32⟩
  | 33 => ⟨S2176x1024, .f32⟩
  | 34 => ⟨S1x1024, .f32⟩
  | 35 => ⟨S1024, .f32⟩
  | 36 => ⟨S1x1024, .f32⟩
  | 37 => ⟨S2176x1024, .f32⟩
  | 38 => ⟨S2176x1024, .f32⟩
  | 39 => ⟨S2176x1024, .f32⟩
  | 40 => ⟨S2176x1024, .f32⟩
  | 41 => ⟨S1x1024, .f32⟩
  | 42 => ⟨S1024, .f32⟩
  | 43 => ⟨S1x1024, .f32⟩
  | 44 => ⟨S2176x1024, .f32⟩
  | 45 => ⟨S2176x1024, .f32⟩
  | 46 => ⟨S2176x1024, .f32⟩
  | 47 => ⟨S2176x1024, .f32⟩
  | 48 => ⟨S1x1024, .f32⟩
  | 49 => ⟨S1024, .f32⟩
  | 50 => ⟨S1x1024, .f32⟩
  | 51 => ⟨S2176x1024, .f32⟩
  | 52 => ⟨S2176x1024, .f32⟩
  | 53 => ⟨S2176x1024, .f32⟩
  | 54 => ⟨S2176x1024, .f32⟩
  | 55 => ⟨S1x1024, .f32⟩
  | 56 => ⟨S1024, .f32⟩
  | 57 => ⟨S1x1024, .f32⟩
  | 58 => ⟨S2176x1024, .f32⟩
  | 59 => ⟨S2176x1024, .f32⟩
  | 60 => ⟨S2176x1024, .f32⟩
  | 61 => ⟨S2176x1024, .f32⟩
  | 62 => ⟨S1x1024, .f32⟩
  | 63 => ⟨S1024, .f32⟩
  | 64 => ⟨S1x1024, .f32⟩
  | 65 => ⟨S2176x1024, .f32⟩
  | 66 => ⟨S2176x1024, .f32⟩
  | 67 => ⟨S2176x1024, .f32⟩
  | 68 => ⟨S2176x1024, .f32⟩
  | 69 => ⟨S1x1024, .f32⟩
  | 70 => ⟨S1024, .f32⟩
  | 71 => ⟨S1x1024, .f32⟩
  | 72 => ⟨S2176x1024, .f32⟩
  | 73 => ⟨S2176x1024, .f32⟩
  | 74 => ⟨S2176x1024, .f32⟩
  | 75 => ⟨S2176x1024, .f32⟩
  | 76 => ⟨S1x1024, .f32⟩
  | 77 => ⟨S1024, .f32⟩
  | 78 => ⟨S1x1024, .f32⟩
  | 79 => ⟨S2176x1024, .f32⟩
  | 80 => ⟨S2176x1024, .f32⟩
  | 81 => ⟨S2176x1024, .f32⟩
  | 82 => ⟨S2176x1024, .f32⟩
  | 83 => ⟨S1x1024, .f32⟩
  | 84 => ⟨S1024, .f32⟩
  | 85 => ⟨S1x1024, .f32⟩
  | 86 => ⟨S2176x1024, .f32⟩
  | 87 => ⟨S2176x1024, .f32⟩
  | 88 => ⟨S2176x1024, .f32⟩
  | 89 => ⟨S2176x1024, .f32⟩
  | 90 => ⟨S1x1024, .f32⟩
  | 91 => ⟨S1024, .f32⟩
  | 92 => ⟨S1x1024, .f32⟩
  | 93 => ⟨S2176x1024, .f32⟩
  | 94 => ⟨S2176x1024, .f32⟩
  | 95 => ⟨S2176x1024, .f32⟩
  | 96 => ⟨S2176x1024, .f32⟩
  | 97 => ⟨S1x1024, .f32⟩
  | 98 => ⟨S1024, .f32⟩
  | 99 => ⟨S1x1024, .f32⟩
  | 100 => ⟨S2176x1024, .f32⟩
  | 101 => ⟨S2176x1024, .f32⟩
  | 102 => ⟨S2176x1024, .f32⟩
  | 103 => ⟨S2176x1024, .f32⟩
  | 104 => ⟨S1x1024, .f32⟩
  | 105 => ⟨S1024, .f32⟩
  | 106 => ⟨S1x1024, .f32⟩
  | 107 => ⟨S2176x1024, .f32⟩
  | 108 => ⟨S2176x1024, .f32⟩
  | 109 => ⟨S2176x1024, .f32⟩
  | 110 => ⟨S2176x1024, .f32⟩
  | 111 => ⟨S1x1024, .f32⟩
  | 112 => ⟨S1024, .f32⟩
  | 113 => ⟨S1x1024, .f32⟩
  | 114 => ⟨S2176x1024, .f32⟩
  | 115 => ⟨S2176x1024, .f32⟩
  | 116 => ⟨S2176x1024, .f32⟩
  | 117 => ⟨S2176x1024, .f32⟩
  | 118 => ⟨S2176x1024, .f32⟩
  | 119 => ⟨S2176x1024, .f32⟩
  | 120 => ⟨S_, .f32⟩
  | 121 => ⟨S1024, .f32⟩
  | 122 => ⟨S1x1024, .f32⟩
  | 123 => ⟨S2176x1024, .f32⟩
  | 124 => ⟨S2176x1024, .f32⟩
  | 125 => ⟨S_, .f32⟩
  | 126 => ⟨S1024, .f32⟩
  | 127 => ⟨S1x1024, .f32⟩
  | _ => ⟨S2176x7168, .f32⟩

abbrev hbmTy0_2 (i : Nat) : BufTy := match i % 128 with
  | 0 => ⟨S_, .f32⟩
  | 1 => ⟨S31x1024, .f32⟩
  | 2 => ⟨S_, .f32⟩
  | 3 => ⟨S2206x1024, .f32⟩
  | 4 => ⟨S2176x1024, .f32⟩
  | 5 => ⟨S_, .f32⟩
  | 6 => ⟨S1024, .f32⟩
  | 7 => ⟨S1x1024, .f32⟩
  | 8 => ⟨S2176x1024, .f32⟩
  | 9 => ⟨S2176x1024, .f32⟩
  | 10 => ⟨S_, .f32⟩
  | 11 => ⟨S1024, .f32⟩
  | 12 => ⟨S1x1024, .f32⟩
  | 13 => ⟨S_, .f32⟩
  | 14 => ⟨S31x1024, .f32⟩
  | 15 => ⟨S31x1024, .f32⟩
  | 16 => ⟨S_, .f32⟩
  | 17 => ⟨S2206x1024, .f32⟩
  | 18 => ⟨S2206x1024, .f32⟩
  | 19 => ⟨S2176x1024, .f32⟩
  | 20 => ⟨S_, .f32⟩
  | 21 => ⟨S1024, .f32⟩
  | 22 => ⟨S1x1024, .f32⟩
  | 23 => ⟨S2176x1024, .f32⟩
  | 24 => ⟨S2176x1024, .f32⟩
  | 25 => ⟨S_, .f32⟩
  | 26 => ⟨S1024, .f32⟩
  | 27 => ⟨S1x1024, .f32⟩
  | 28 => ⟨S_, .f32⟩
  | 29 => ⟨S31x1024, .f32⟩
  | 30 => ⟨S31x1024, .f32⟩
  | 31 => ⟨S_, .f32⟩
  | 32 => ⟨S2206x1024, .f32⟩
  | 33 => ⟨S2206x1024, .f32⟩
  | 34 => ⟨S2176x1024, .f32⟩
  | 35 => ⟨S_, .f32⟩
  | 36 => ⟨S1024, .f32⟩
  | 37 => ⟨S1x1024, .f32⟩
  | 38 => ⟨S2176x1024, .f32⟩
  | 39 => ⟨S2176x1024, .f32⟩
  | 40 => ⟨S_, .f32⟩
  | 41 => ⟨S1024, .f32⟩
  | 42 => ⟨S1x1024, .f32⟩
  | 43 => ⟨S_, .f32⟩
  | 44 => ⟨S31x1024, .f32⟩
  | 45 => ⟨S31x1024, .f32⟩
  | 46 => ⟨S_, .f32⟩
  | 47 => ⟨S2206x1024, .f32⟩
  | 48 => ⟨S2206x1024, .f32⟩
  | 49 => ⟨S2176x1024, .f32⟩
  | 50 => ⟨S_, .f32⟩
  | 51 => ⟨S1024, .f32⟩
  | 52 => ⟨S1x1024, .f32⟩
  | 53 => ⟨S2176x1024, .f32⟩
  | 54 => ⟨S2176x1024, .f32⟩
  | 55 => ⟨S_, .f32⟩
  | 56 => ⟨S1024, .f32⟩
  | 57 => ⟨S1x1024, .f32⟩
  | 58 => ⟨S_, .f32⟩
  | 59 => ⟨S31x1024, .f32⟩
  | 60 => ⟨S31x1024, .f32⟩
  | 61 => ⟨S_, .f32⟩
  | 62 => ⟨S2206x1024, .f32⟩
  | 63 => ⟨S2206x1024, .f32⟩
  | 64 => ⟨S2176x1024, .f32⟩
  | 65 => ⟨S_, .f32⟩
  | 66 => ⟨S1024, .f32⟩
  | 67 => ⟨S1x1024, .f32⟩
  | 68 => ⟨S2176x1024, .f32⟩
  | 69 => ⟨S2176x1024, .f32⟩
  | 70 => ⟨S_, .f32⟩
  | 71 => ⟨S1024, .f32⟩
  | 72 => ⟨S1x1024, .f32⟩
  | 73 => ⟨S_, .f32⟩
  | 74 => ⟨S31x1024, .f32⟩
  | 75 => ⟨S31x1024, .f32⟩
  | 76 => ⟨S_, .f32⟩
  | 77 => ⟨S2206x1024, .f32⟩
  | 78 => ⟨S2206x1024, .f32⟩
  | 79 => ⟨S2176x1024, .f32⟩
  | 80 => ⟨S_, .f32⟩
  | 81 => ⟨S1024, .f32⟩
  | 82 => ⟨S1x1024, .f32⟩
  | 83 => ⟨S2176x1024, .f32⟩
  | 84 => ⟨S2176x1024, .f32⟩
  | 85 => ⟨S_, .f32⟩
  | 86 => ⟨S1024, .f32⟩
  | 87 => ⟨S1x1024, .f32⟩
  | 88 => ⟨S_, .f32⟩
  | 89 => ⟨S31x1024, .f32⟩
  | 90 => ⟨S31x1024, .f32⟩
  | 91 => ⟨S_, .f32⟩
  | 92 => ⟨S2206x1024, .f32⟩
  | 93 => ⟨S2206x1024, .f32⟩
  | 94 => ⟨S2176x1024, .f32⟩
  | 95 => ⟨S_, .f32⟩
  | 96 => ⟨S1024, .f32⟩
  | 97 => ⟨S1x1024, .f32⟩
  | 98 => ⟨S2176x1024, .f32⟩
  | 99 => ⟨S2176x1024, .f32⟩
  | 100 => ⟨S_, .f32⟩
  | 101 => ⟨S1024, .f32⟩
  | 102 => ⟨S1x1024, .f32⟩
  | 103 => ⟨S_, .f32⟩
  | 104 => ⟨S31x1024, .f32⟩
  | 105 => ⟨S31x1024, .f32⟩
  | 106 => ⟨S_, .f32⟩
  | 107 => ⟨S2206x1024, .f32⟩
  | 108 => ⟨S2206x1024, .f32⟩
  | 109 => ⟨S2176x1024, .f32⟩
  | 110 => ⟨S_, .f32⟩
  | 111 => ⟨S1024, .f32⟩
  | 112 => ⟨S1x1024, .f32⟩
  | 113 => ⟨S2176x1024, .f32⟩
  | 114 => ⟨S2176x1024, .f32⟩
  | 115 => ⟨S_, .f32⟩
  | 116 => ⟨S1024, .f32⟩
  | 117 => ⟨S1x1024, .f32⟩
  | 118 => ⟨S_, .f32⟩
  | 119 => ⟨S31x1024, .f32⟩
  | 120 => ⟨S31x1024, .f32⟩
  | 121 => ⟨S_, .f32⟩
  | 122 => ⟨S2206x1024, .f32⟩
  | 123 => ⟨S2206x1024, .f32⟩
  | 124 => ⟨S2176x1024, .f32⟩
  | 125 => ⟨S_, .f32⟩
  | 126 => ⟨S1024, .f32⟩
  | 127 => ⟨S1x1024, .f32⟩
  | _ => ⟨S2176x7168, .f32⟩

abbrev hbmTy0_3 (i : Nat) : BufTy := match i % 128 with
  | 0 => ⟨S2176x1024, .f32⟩
  | 1 => ⟨S2176x1024, .f32⟩
  | 2 => ⟨S_, .f32⟩
  | 3 => ⟨S1024, .f32⟩
  | 4 => ⟨S1x1024, .f32⟩
  | 5 => ⟨S_, .f32⟩
  | 6 => ⟨S31x1024, .f32⟩
  | 7 => ⟨S31x1024, .f32⟩
  | 8 => ⟨S_, .f32⟩
  | 9 => ⟨S2206x1024, .f32⟩
  | 10 => ⟨S2206x1024, .f32⟩
  | 11 => ⟨S2176x1024, .f32⟩
  | 12 => ⟨S_, .f32⟩
  | 13 => ⟨S1024, .f32⟩
  | 14 => ⟨S1x1024, .f32⟩
  | 15 => ⟨S2176x1024, .f32⟩
  | 16 => ⟨S2176x1024, .f32⟩
  | 17 => ⟨S_, .f32⟩
  | 18 => ⟨S1024, .f32⟩
  | 19 => ⟨S1x1024, .f32⟩
  | 20 => ⟨S_, .f32⟩
  | 21 => ⟨S31x1024, .f32⟩
  | 22 => ⟨S31x1024, .f32⟩
  | 23 => ⟨S_, .f32⟩
  | 24 => ⟨S2206x1024, .f32⟩
  | 25 => ⟨S2206x1024, .f32⟩
  | 26 => ⟨S2176x1024, .f32⟩
  | 27 => ⟨S_, .f32⟩
  | 28 => ⟨S1024, .f32⟩
  | 29 => ⟨S1x1024, .f32⟩
  | 30 => ⟨S2176x1024, .f32⟩
  | 31 => ⟨S2176x1024, .f32⟩
  | 32 => ⟨S_, .f32⟩
  | 33 => ⟨S1024, .f32⟩
  | 34 => ⟨S1x1024, .f32⟩
  | 35 => ⟨S_, .f32⟩
  | 36 => ⟨S31x1024, .f32⟩
  | 37 => ⟨S31x1024, .f32⟩
  | 38 => ⟨S_, .f32⟩
  | 39 => ⟨S2206x1024, .f32⟩
  | 40 => ⟨S2206x1024, .f32⟩
  | 41 => ⟨S2176x1024, .f32⟩
  | 42 => ⟨S_, .f32⟩
  | 43 => ⟨S1024, .f32⟩
  | 44 => ⟨S1x1024, .f32⟩
  | 45 => ⟨S2176x1024, .f32⟩
  | 46 => ⟨S2176x1024, .f32⟩
  | 47 => ⟨S_, .f32⟩
  | 48 => ⟨S1024, .f32⟩
  | 49 => ⟨S1x1024, .f32⟩
  | 50 => ⟨S_, .f32⟩
  | 51 => ⟨S31x1024, .f32⟩
  | 52 => ⟨S31x1024, .f32⟩
  | 53 => ⟨S_, .f32⟩
  | 54 => ⟨S2206x1024, .f32⟩
  | 55 => ⟨S2206x1024, .f32⟩
  | 56 => ⟨S2176x1024, .f32⟩
  | 57 => ⟨S_, .f32⟩
  | 58 => ⟨S1024, .f32⟩
  | 59 => ⟨S1x1024, .f32⟩
  | 60 => ⟨S2176x1024, .f32⟩
  | 61 => ⟨S2176x1024, .f32⟩
  | 62 => ⟨S_, .f32⟩
  | 63 => ⟨S1024, .f32⟩
  | 64 => ⟨S1x1024, .f32⟩
  | 65 => ⟨S_, .f32⟩
  | 66 => ⟨S31x1024, .f32⟩
  | 67 => ⟨S31x1024, .f32⟩
  | 68 => ⟨S_, .f32⟩
  | 69 => ⟨S2206x1024, .f32⟩
  | 70 => ⟨S2206x1024, .f32⟩
  | 71 => ⟨S2176x1024, .f32⟩
  | 72 => ⟨S_, .f32⟩
  | 73 => ⟨S1024, .f32⟩
  | 74 => ⟨S1x1024, .f32⟩
  | 75 => ⟨S2176x1024, .f32⟩
  | 76 => ⟨S2176x1024, .f32⟩
  | 77 => ⟨S_, .f32⟩
  | 78 => ⟨S1024, .f32⟩
  | 79 => ⟨S1x1024, .f32⟩
  | 80 => ⟨S_, .f32⟩
  | 81 => ⟨S31x1024, .f32⟩
  | 82 => ⟨S31x1024, .f32⟩
  | 83 => ⟨S_, .f32⟩
  | 84 => ⟨S2206x1024, .f32⟩
  | 85 => ⟨S2206x1024, .f32⟩
  | 86 => ⟨S2176x1024, .f32⟩
  | 87 => ⟨S_, .f32⟩
  | 88 => ⟨S1024, .f32⟩
  | 89 => ⟨S1x1024, .f32⟩
  | 90 => ⟨S2176x1024, .f32⟩
  | 91 => ⟨S2176x1024, .f32⟩
  | 92 => ⟨S_, .f32⟩
  | 93 => ⟨S1024, .f32⟩
  | 94 => ⟨S1x1024, .f32⟩
  | 95 => ⟨S_, .f32⟩
  | 96 => ⟨S31x1024, .f32⟩
  | 97 => ⟨S31x1024, .f32⟩
  | 98 => ⟨S_, .f32⟩
  | 99 => ⟨S2206x1024, .f32⟩
  | 100 => ⟨S2206x1024, .f32⟩
  | 101 => ⟨S2176x1024, .f32⟩
  | 102 => ⟨S_, .f32⟩
  | 103 => ⟨S1024, .f32⟩
  | 104 => ⟨S1x1024, .f32⟩
  | 105 => ⟨S2176x1024, .f32⟩
  | 106 => ⟨S2176x1024, .f32⟩
  | 107 => ⟨S_, .f32⟩
  | 108 => ⟨S1024, .f32⟩
  | 109 => ⟨S1x1024, .f32⟩
  | 110 => ⟨S_, .f32⟩
  | 111 => ⟨S31x1024, .f32⟩
  | 112 => ⟨S31x1024, .f32⟩
  | 113 => ⟨S_, .f32⟩
  | 114 => ⟨S2206x1024, .f32⟩
  | 115 => ⟨S2206x1024, .f32⟩
  | 116 => ⟨S2176x1024, .f32⟩
  | 117 => ⟨S_, .f32⟩
  | 118 => ⟨S1024, .f32⟩
  | 119 => ⟨S1x1024, .f32⟩
  | 120 => ⟨S2176x1024, .f32⟩
  | 121 => ⟨S2176x1024, .f32⟩
  | 122 => ⟨S_, .f32⟩
  | 123 => ⟨S1024, .f32⟩
  | 124 => ⟨S1x1024, .f32⟩
  | 125 => ⟨S_, .f32⟩
  | 126 => ⟨S31x1024, .f32⟩
  | 127 => ⟨S31x1024, .f32⟩
  | _ => ⟨S2176x7168, .f32⟩

abbrev hbmTy0_4 (i : Nat) : BufTy := match i % 128 with
  | 0 => ⟨S_, .f32⟩
  | 1 => ⟨S2206x1024, .f32⟩
  | 2 => ⟨S2206x1024, .f32⟩
  | 3 => ⟨S2176x1024, .f32⟩
  | 4 => ⟨S_, .f32⟩
  | 5 => ⟨S1024, .f32⟩
  | 6 => ⟨S1x1024, .f32⟩
  | 7 => ⟨S2176x1024, .f32⟩
  | 8 => ⟨S2176x1024, .f32⟩
  | 9 => ⟨S_, .f32⟩
  | 10 => ⟨S1024, .f32⟩
  | 11 => ⟨S1x1024, .f32⟩
  | 12 => ⟨S_, .f32⟩
  | 13 => ⟨S31x1024, .f32⟩
  | 14 => ⟨S31x1024, .f32⟩
  | 15 => ⟨S_, .f32⟩
  | 16 => ⟨S2206x1024, .f32⟩
  | 17 => ⟨S2206x1024, .f32⟩
  | 18 => ⟨S2176x1024, .f32⟩
  | 19 => ⟨S_, .f32⟩
  | 20 => ⟨S1024, .f32⟩
  | 21 => ⟨S1x1024, .f32⟩
  | 22 => ⟨S2176x1024, .f32⟩
  | 23 => ⟨S2176x1024, .f32⟩
  | 24 => ⟨S_, .f32⟩
  | 25 => ⟨S1024, .f32⟩
  | 26 => ⟨S1x1024, .f32⟩
  | 27 => ⟨S_, .f32⟩
  | 28 => ⟨S31x1024, .f32⟩
  | 29 => ⟨S31x1024, .f32⟩
  | 30 => ⟨S_, .f32⟩
  | 31 => ⟨S2206x1024, .f32⟩
  | 32 => ⟨S2206x1024, .f32⟩
  | 33 => ⟨S2176x1024, .f32⟩
  | 34 => ⟨S_, .f32⟩
  | 35 => ⟨S1024, .f32⟩
  | 36 => ⟨S1x1024, .f32⟩
  | 37 => ⟨S2176x1024, .f32⟩
  | 38 => ⟨S2176x1024, .f32⟩
  | 39 => ⟨S_, .f32⟩
  | 40 => ⟨S1024, .f32⟩
  | 41 => ⟨S1x1024, .f32⟩
  | 42 => ⟨S_, .f32⟩
  | 43 => ⟨S31x1024, .f32⟩
  | 44 => ⟨S31x1024, .f32⟩
  | 45 => ⟨S_, .f32⟩
  | 46 => ⟨S2206x1024, .f32⟩
  | 47 => ⟨S2206x1024, .f32⟩
  | 48 => ⟨S2176x1024, .f32⟩
  | 49 => ⟨S_, .f32⟩
  | 50 => ⟨S1024, .f32⟩
  | 51 => ⟨S1x1024, .f32⟩
  | 52 => ⟨S2176x1024, .f32⟩
  | 53 => ⟨S2176x1024, .f32⟩
  | 54 => ⟨S_, .f32⟩
  | 55 => ⟨S1024, .f32⟩
  | 56 => ⟨S1x1024, .f32⟩
  | 57 => ⟨S_, .f32⟩
  | 58 => ⟨S31x1024, .f32⟩
  | 59 => ⟨S31x1024, .f32⟩
  | 60 => ⟨S_, .f32⟩
  | 61 => ⟨S2206x1024, .f32⟩
  | 62 => ⟨S2206x1024, .f32⟩
  | 63 => ⟨S2176x1024, .f32⟩
  | 64 => ⟨S_, .f32⟩
  | 65 => ⟨S1024, .f32⟩
  | 66 => ⟨S1x1024, .f32⟩
  | 67 => ⟨S2176x1024, .f32⟩
  | 68 => ⟨S2176x1024, .f32⟩
  | 69 => ⟨S_, .f32⟩
  | 70 => ⟨S1024, .f32⟩
  | 71 => ⟨S1x1024, .f32⟩
  | 72 => ⟨S_, .f32⟩
  | 73 => ⟨S31x1024, .f32⟩
  | 74 => ⟨S31x1024, .f32⟩
  | 75 => ⟨S_, .f32⟩
  | 76 => ⟨S2206x1024, .f32⟩
  | 77 => ⟨S2206x1024, .f32⟩
  | 78 => ⟨S2176x1024, .f32⟩
  | 79 => ⟨S_, .f32⟩
  | 80 => ⟨S1024, .f32⟩
  | 81 => ⟨S1x1024, .f32⟩
  | 82 => ⟨S2176x1024, .f32⟩
  | 83 => ⟨S2176x1024, .f32⟩
  | 84 => ⟨S_, .f32⟩
  | 85 => ⟨S1024, .f32⟩
  | 86 => ⟨S1x1024, .f32⟩
  | 87 => ⟨S_, .f32⟩
  | 88 => ⟨S31x1024, .f32⟩
  | 89 => ⟨S31x1024, .f32⟩
  | 90 => ⟨S_, .f32⟩
  | 91 => ⟨S2206x1024, .f32⟩
  | 92 => ⟨S2206x1024, .f32⟩
  | 93 => ⟨S2176x1024, .f32⟩
  | 94 => ⟨S_, .f32⟩
  | 95 => ⟨S1024, .f32⟩
  | 96 => ⟨S1x1024, .f32⟩
  | 97 => ⟨S2176x1024, .f32⟩
  | 98 => ⟨S2176x1024, .f32⟩
  | 99 => ⟨S_, .f32⟩
  | 100 => ⟨S1024, .f32⟩
  | 101 => ⟨S1x1024, .f32⟩
  | 102 => ⟨S_, .f32⟩
  | 103 => ⟨S31x1024, .f32⟩
  | 104 => ⟨S31x1024, .f32⟩
  | 105 => ⟨S_, .f32⟩
  | 106 => ⟨S2206x1024, .f32⟩
  | 107 => ⟨S2206x1024, .f32⟩
  | 108 => ⟨S2176x1024, .f32⟩
  | 109 => ⟨S_, .f32⟩
  | 110 => ⟨S1024, .f32⟩
  | 111 => ⟨S1x1024, .f32⟩
  | 112 => ⟨S2176x1024, .f32⟩
  | 113 => ⟨S2176x1024, .f32⟩
  | 114 => ⟨S_, .f32⟩
  | 115 => ⟨S1024, .f32⟩
  | 116 => ⟨S1x1024, .f32⟩
  | 117 => ⟨S_, .f32⟩
  | 118 => ⟨S31x1024, .f32⟩
  | 119 => ⟨S31x1024, .f32⟩
  | 120 => ⟨S_, .f32⟩
  | 121 => ⟨S2206x1024, .f32⟩
  | 122 => ⟨S2206x1024, .f32⟩
  | 123 => ⟨S2176x1024, .f32⟩
  | 124 => ⟨S_, .f32⟩
  | 125 => ⟨S1024, .f32⟩
  | 126 => ⟨S1x1024, .f32⟩
  | 127 => ⟨S2176x1024, .f32⟩
  | _ => ⟨S2176x7168, .f32⟩

abbrev hbmTy0_5 (i : Nat) : BufTy := match i % 128 with
  | 0 => ⟨S2176x1024, .f32⟩
  | 1 => ⟨S_, .f32⟩
  | 2 => ⟨S1024, .f32⟩
  | 3 => ⟨S1x1024, .f32⟩
  | 4 => ⟨S_, .f32⟩
  | 5 => ⟨S31x1024, .f32⟩
  | 6 => ⟨S31x1024, .f32⟩
  | 7 => ⟨S_, .f32⟩
  | 8 => ⟨S2206x1024, .f32⟩
  | 9 => ⟨S2206x1024, .f32⟩
  | 10 => ⟨S2176x1024, .f32⟩
  | 11 => ⟨S_, .f32⟩
  | 12 => ⟨S1024, .f32⟩
  | 13 => ⟨S1x1024, .f32⟩
  | 14 => ⟨S2176x1024, .f32⟩
  | 15 => ⟨S2176x1024, .f32⟩
  | 16 => ⟨S_, .f32⟩
  | 17 => ⟨S1024, .f32⟩
  | 18 => ⟨S1x1024, .f32⟩
  | 19 => ⟨S_, .f32⟩
  | 20 => ⟨S31x1024, .f32⟩
  | 21 => ⟨S31x1024, .f32⟩
  | 22 => ⟨S_, .f32⟩
  | 23 => ⟨S2206x1024, .f32⟩
  | 24 => ⟨S2206x1024, .f32⟩
  | 25 => ⟨S2176x1024, .f32⟩
  | 26 => ⟨S_, .f32⟩
  | 27 => ⟨S1024, .f32⟩
  | 28 => ⟨S1x1024, .f32⟩
  | 29 => ⟨S2176x1024, .f32⟩
  | 30 => ⟨S2176x1024, .f32⟩
  | 31 => ⟨S_, .f32⟩
  | 32 => ⟨S1024, .f32⟩
  | 33 => ⟨S1x1024, .f32⟩
  | 34 => ⟨S_, .f32⟩
  | 35 => ⟨S31x1024, .f32⟩
  | 36 => ⟨S31x1024, .f32⟩
  | 37 => ⟨S_, .f32⟩
  | 38 => ⟨S2206x1024, .f32⟩
  | 39 => ⟨S2206x1024, .f32⟩
  | 40 => ⟨S2176x1024, .f32⟩
  | 41 => ⟨S_, .f32⟩
  | 42 => ⟨S1024, .f32⟩
  | 43 => ⟨S1x1024, .f32⟩
  | 44 => ⟨S2176x1024, .f32⟩
  | 45 => ⟨S2176x1024, .f32⟩
  | 46 => ⟨S_, .f32⟩
  | 47 => ⟨S1024, .f32⟩
  | 48 => ⟨S1x1024, .f32⟩
  | 49 => ⟨S_, .f32⟩
  | 50 => ⟨S31x1024, .f32⟩
  | 51 => ⟨S31x1024, .f32⟩
  | 52 => ⟨S_, .f32⟩
  | 53 => ⟨S2206x1024, .f32⟩
  | 54 => ⟨S2206x1024, .f32⟩
  | 55 => ⟨S_, .f32⟩
  | 56 => ⟨S1024, .f32⟩
  | 57 => ⟨S1x1024, .f32⟩
  | 58 => ⟨S2176x1024, .f32⟩
  | 59 => ⟨S_, .f32⟩
  | 60 => ⟨S1024, .f32⟩
  | 61 => ⟨S1x1024, .f32⟩
  | 62 => ⟨S2176x1024, .f32⟩
  | 63 => ⟨S2176x1024, .f32⟩
  | 64 => ⟨S_, .f32⟩
  | 65 => ⟨S1024, .f32⟩
  | 66 => ⟨S1x1024, .f32⟩
  | 67 => ⟨S_, .f32⟩
  | 68 => ⟨S31x1024, .f32⟩
  | 69 => ⟨S31x1024, .f32⟩
  | 70 => ⟨S_, .f32⟩
  | 71 => ⟨S2206x1024, .f32⟩
  | 72 => ⟨S2206x1024, .f32⟩
  | 73 => ⟨S30x1024, .f32⟩
  | 74 => ⟨S2176x1024, .f32⟩
  | 75 => ⟨S2176x1024, .f32⟩
  | 76 => ⟨S2176x1024, .f32⟩
  | 77 => ⟨S2176x1024, .f32⟩
  | 78 => ⟨S2176x2048, .f32⟩
  | 79 => ⟨S2176x1024, .f32⟩
  | 80 => ⟨S2176x1024, .bf16⟩
  | 81 => ⟨S2176x1024, .f32⟩
  | 82 => ⟨S2176x1024, .bf16⟩
  | 83 => ⟨S_, .i32⟩
  | 84 => ⟨S_, .f32⟩
  | 85 => ⟨S32x1024, .f32⟩
  | _ => ⟨S2176x7168, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S2176x7168, .f32⟩

abbrev bufTy : (tb : Table) → Fin (tcTables nBuf tb) → BufTy
  | .hbm, ⟨i, _⟩ => hbmTy i
  | _, _ => ⟨S2176x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩
abbrev main_v203 : Ref sig .tc := ⟨.hbm, 212, rfl⟩
abbrev main_v204 : Ref sig .tc := ⟨.hbm, 213, rfl⟩
abbrev main_v205 : Ref sig .tc := ⟨.hbm, 214, rfl⟩
abbrev main_v206 : Ref sig .tc := ⟨.hbm, 215, rfl⟩
abbrev main_v207 : Ref sig .tc := ⟨.hbm, 216, rfl⟩
abbrev main_v208 : Ref sig .tc := ⟨.hbm, 217, rfl⟩
abbrev main_v209 : Ref sig .tc := ⟨.hbm, 218, rfl⟩
abbrev main_v210 : Ref sig .tc := ⟨.hbm, 219, rfl⟩
abbrev main_v211 : Ref sig .tc := ⟨.hbm, 220, rfl⟩
abbrev main_v212 : Ref sig .tc := ⟨.hbm, 221, rfl⟩
abbrev main_v213 : Ref sig .tc := ⟨.hbm, 222, rfl⟩
abbrev main_v214 : Ref sig .tc := ⟨.hbm, 223, rfl⟩
abbrev main_v215 : Ref sig .tc := ⟨.hbm, 224, rfl⟩
abbrev main_v216 : Ref sig .tc := ⟨.hbm, 225, rfl⟩
abbrev main_v217 : Ref sig .tc := ⟨.hbm, 226, rfl⟩
abbrev main_v218 : Ref sig .tc := ⟨.hbm, 227, rfl⟩
abbrev main_v219 : Ref sig .tc := ⟨.hbm, 228, rfl⟩
abbrev main_v220 : Ref sig .tc := ⟨.hbm, 229, rfl⟩
abbrev main_v221 : Ref sig .tc := ⟨.hbm, 230, rfl⟩
abbrev main_v222 : Ref sig .tc := ⟨.hbm, 231, rfl⟩
abbrev main_v223 : Ref sig .tc := ⟨.hbm, 232, rfl⟩
abbrev main_v224 : Ref sig .tc := ⟨.hbm, 233, rfl⟩
abbrev main_v225 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_v229 : Ref sig .tc := ⟨.hbm, 238, rfl⟩
abbrev main_v230 : Ref sig .tc := ⟨.hbm, 239, rfl⟩
abbrev main_v231 : Ref sig .tc := ⟨.hbm, 240, rfl⟩
abbrev main_v232 : Ref sig .tc := ⟨.hbm, 241, rfl⟩
abbrev main_v233 : Ref sig .tc := ⟨.hbm, 242, rfl⟩
abbrev main_v234 : Ref sig .tc := ⟨.hbm, 243, rfl⟩
abbrev main_v235 : Ref sig .tc := ⟨.hbm, 244, rfl⟩
abbrev main_v236 : Ref sig .tc := ⟨.hbm, 245, rfl⟩
abbrev main_v237 : Ref sig .tc := ⟨.hbm, 246, rfl⟩
abbrev main_v238 : Ref sig .tc := ⟨.hbm, 247, rfl⟩
abbrev main_cst_5 : Ref sig .tc := ⟨.hbm, 248, rfl⟩
abbrev main_v239 : Ref sig .tc := ⟨.hbm, 249, rfl⟩
abbrev main_v240 : Ref sig .tc := ⟨.hbm, 250, rfl⟩
abbrev main_v241 : Ref sig .tc := ⟨.hbm, 251, rfl⟩
abbrev main_v242 : Ref sig .tc := ⟨.hbm, 252, rfl⟩
abbrev main_cst_6 : Ref sig .tc := ⟨.hbm, 253, rfl⟩
abbrev main_v243 : Ref sig .tc := ⟨.hbm, 254, rfl⟩
abbrev main_v244 : Ref sig .tc := ⟨.hbm, 255, rfl⟩
abbrev main_cst_7 : Ref sig .tc := ⟨.hbm, 256, rfl⟩
abbrev main_v245 : Ref sig .tc := ⟨.hbm, 257, rfl⟩
abbrev main_cst_8 : Ref sig .tc := ⟨.hbm, 258, rfl⟩
abbrev main_v246 : Ref sig .tc := ⟨.hbm, 259, rfl⟩
abbrev main_v247 : Ref sig .tc := ⟨.hbm, 260, rfl⟩
abbrev main_cst_9 : Ref sig .tc := ⟨.hbm, 261, rfl⟩
abbrev main_v248 : Ref sig .tc := ⟨.hbm, 262, rfl⟩
abbrev main_v249 : Ref sig .tc := ⟨.hbm, 263, rfl⟩
abbrev main_v250 : Ref sig .tc := ⟨.hbm, 264, rfl⟩
abbrev main_v251 : Ref sig .tc := ⟨.hbm, 265, rfl⟩
abbrev main_cst_10 : Ref sig .tc := ⟨.hbm, 266, rfl⟩
abbrev main_v252 : Ref sig .tc := ⟨.hbm, 267, rfl⟩
abbrev main_v253 : Ref sig .tc := ⟨.hbm, 268, rfl⟩
abbrev main_cst_11 : Ref sig .tc := ⟨.hbm, 269, rfl⟩
abbrev main_v254 : Ref sig .tc := ⟨.hbm, 270, rfl⟩
abbrev main_v255 : Ref sig .tc := ⟨.hbm, 271, rfl⟩
abbrev main_cst_12 : Ref sig .tc := ⟨.hbm, 272, rfl⟩
abbrev main_v256 : Ref sig .tc := ⟨.hbm, 273, rfl⟩
abbrev main_v257 : Ref sig .tc := ⟨.hbm, 274, rfl⟩
abbrev main_v258 : Ref sig .tc := ⟨.hbm, 275, rfl⟩
abbrev main_cst_13 : Ref sig .tc := ⟨.hbm, 276, rfl⟩
abbrev main_v259 : Ref sig .tc := ⟨.hbm, 277, rfl⟩
abbrev main_v260 : Ref sig .tc := ⟨.hbm, 278, rfl⟩
abbrev main_v261 : Ref sig .tc := ⟨.hbm, 279, rfl⟩
abbrev main_v262 : Ref sig .tc := ⟨.hbm, 280, rfl⟩
abbrev main_cst_14 : Ref sig .tc := ⟨.hbm, 281, rfl⟩
abbrev main_v263 : Ref sig .tc := ⟨.hbm, 282, rfl⟩
abbrev main_v264 : Ref sig .tc := ⟨.hbm, 283, rfl⟩
abbrev main_cst_15 : Ref sig .tc := ⟨.hbm, 284, rfl⟩
abbrev main_v265 : Ref sig .tc := ⟨.hbm, 285, rfl⟩
abbrev main_v266 : Ref sig .tc := ⟨.hbm, 286, rfl⟩
abbrev main_cst_16 : Ref sig .tc := ⟨.hbm, 287, rfl⟩
abbrev main_v267 : Ref sig .tc := ⟨.hbm, 288, rfl⟩
abbrev main_v268 : Ref sig .tc := ⟨.hbm, 289, rfl⟩
abbrev main_v269 : Ref sig .tc := ⟨.hbm, 290, rfl⟩
abbrev main_cst_17 : Ref sig .tc := ⟨.hbm, 291, rfl⟩
abbrev main_v270 : Ref sig .tc := ⟨.hbm, 292, rfl⟩
abbrev main_v271 : Ref sig .tc := ⟨.hbm, 293, rfl⟩
abbrev main_v272 : Ref sig .tc := ⟨.hbm, 294, rfl⟩
abbrev main_v273 : Ref sig .tc := ⟨.hbm, 295, rfl⟩
abbrev main_cst_18 : Ref sig .tc := ⟨.hbm, 296, rfl⟩
abbrev main_v274 : Ref sig .tc := ⟨.hbm, 297, rfl⟩
abbrev main_v275 : Ref sig .tc := ⟨.hbm, 298, rfl⟩
abbrev main_cst_19 : Ref sig .tc := ⟨.hbm, 299, rfl⟩
abbrev main_v276 : Ref sig .tc := ⟨.hbm, 300, rfl⟩
abbrev main_v277 : Ref sig .tc := ⟨.hbm, 301, rfl⟩
abbrev main_cst_20 : Ref sig .tc := ⟨.hbm, 302, rfl⟩
abbrev main_v278 : Ref sig .tc := ⟨.hbm, 303, rfl⟩
abbrev main_v279 : Ref sig .tc := ⟨.hbm, 304, rfl⟩
abbrev main_v280 : Ref sig .tc := ⟨.hbm, 305, rfl⟩
abbrev main_cst_21 : Ref sig .tc := ⟨.hbm, 306, rfl⟩
abbrev main_v281 : Ref sig .tc := ⟨.hbm, 307, rfl⟩
abbrev main_v282 : Ref sig .tc := ⟨.hbm, 308, rfl⟩
abbrev main_v283 : Ref sig .tc := ⟨.hbm, 309, rfl⟩
abbrev main_v284 : Ref sig .tc := ⟨.hbm, 310, rfl⟩
abbrev main_cst_22 : Ref sig .tc := ⟨.hbm, 311, rfl⟩
abbrev main_v285 : Ref sig .tc := ⟨.hbm, 312, rfl⟩
abbrev main_v286 : Ref sig .tc := ⟨.hbm, 313, rfl⟩
abbrev main_cst_23 : Ref sig .tc := ⟨.hbm, 314, rfl⟩
abbrev main_v287 : Ref sig .tc := ⟨.hbm, 315, rfl⟩
abbrev main_v288 : Ref sig .tc := ⟨.hbm, 316, rfl⟩
abbrev main_cst_24 : Ref sig .tc := ⟨.hbm, 317, rfl⟩
abbrev main_v289 : Ref sig .tc := ⟨.hbm, 318, rfl⟩
abbrev main_v290 : Ref sig .tc := ⟨.hbm, 319, rfl⟩
abbrev main_v291 : Ref sig .tc := ⟨.hbm, 320, rfl⟩
abbrev main_cst_25 : Ref sig .tc := ⟨.hbm, 321, rfl⟩
abbrev main_v292 : Ref sig .tc := ⟨.hbm, 322, rfl⟩
abbrev main_v293 : Ref sig .tc := ⟨.hbm, 323, rfl⟩
abbrev main_v294 : Ref sig .tc := ⟨.hbm, 324, rfl⟩
abbrev main_v295 : Ref sig .tc := ⟨.hbm, 325, rfl⟩
abbrev main_cst_26 : Ref sig .tc := ⟨.hbm, 326, rfl⟩
abbrev main_v296 : Ref sig .tc := ⟨.hbm, 327, rfl⟩
abbrev main_v297 : Ref sig .tc := ⟨.hbm, 328, rfl⟩
abbrev main_cst_27 : Ref sig .tc := ⟨.hbm, 329, rfl⟩
abbrev main_v298 : Ref sig .tc := ⟨.hbm, 330, rfl⟩
abbrev main_v299 : Ref sig .tc := ⟨.hbm, 331, rfl⟩
abbrev main_cst_28 : Ref sig .tc := ⟨.hbm, 332, rfl⟩
abbrev main_v300 : Ref sig .tc := ⟨.hbm, 333, rfl⟩
abbrev main_v301 : Ref sig .tc := ⟨.hbm, 334, rfl⟩
abbrev main_v302 : Ref sig .tc := ⟨.hbm, 335, rfl⟩
abbrev main_cst_29 : Ref sig .tc := ⟨.hbm, 336, rfl⟩
abbrev main_v303 : Ref sig .tc := ⟨.hbm, 337, rfl⟩
abbrev main_v304 : Ref sig .tc := ⟨.hbm, 338, rfl⟩
abbrev main_v305 : Ref sig .tc := ⟨.hbm, 339, rfl⟩
abbrev main_v306 : Ref sig .tc := ⟨.hbm, 340, rfl⟩
abbrev main_cst_30 : Ref sig .tc := ⟨.hbm, 341, rfl⟩
abbrev main_v307 : Ref sig .tc := ⟨.hbm, 342, rfl⟩
abbrev main_v308 : Ref sig .tc := ⟨.hbm, 343, rfl⟩
abbrev main_cst_31 : Ref sig .tc := ⟨.hbm, 344, rfl⟩
abbrev main_v309 : Ref sig .tc := ⟨.hbm, 345, rfl⟩
abbrev main_v310 : Ref sig .tc := ⟨.hbm, 346, rfl⟩
abbrev main_cst_32 : Ref sig .tc := ⟨.hbm, 347, rfl⟩
abbrev main_v311 : Ref sig .tc := ⟨.hbm, 348, rfl⟩
abbrev main_v312 : Ref sig .tc := ⟨.hbm, 349, rfl⟩
abbrev main_v313 : Ref sig .tc := ⟨.hbm, 350, rfl⟩
abbrev main_cst_33 : Ref sig .tc := ⟨.hbm, 351, rfl⟩
abbrev main_v314 : Ref sig .tc := ⟨.hbm, 352, rfl⟩
abbrev main_v315 : Ref sig .tc := ⟨.hbm, 353, rfl⟩
abbrev main_v316 : Ref sig .tc := ⟨.hbm, 354, rfl⟩
abbrev main_v317 : Ref sig .tc := ⟨.hbm, 355, rfl⟩
abbrev main_cst_34 : Ref sig .tc := ⟨.hbm, 356, rfl⟩
abbrev main_v318 : Ref sig .tc := ⟨.hbm, 357, rfl⟩
abbrev main_v319 : Ref sig .tc := ⟨.hbm, 358, rfl⟩
abbrev main_cst_35 : Ref sig .tc := ⟨.hbm, 359, rfl⟩
abbrev main_v320 : Ref sig .tc := ⟨.hbm, 360, rfl⟩
abbrev main_v321 : Ref sig .tc := ⟨.hbm, 361, rfl⟩
abbrev main_cst_36 : Ref sig .tc := ⟨.hbm, 362, rfl⟩
abbrev main_v322 : Ref sig .tc := ⟨.hbm, 363, rfl⟩
abbrev main_v323 : Ref sig .tc := ⟨.hbm, 364, rfl⟩
abbrev main_v324 : Ref sig .tc := ⟨.hbm, 365, rfl⟩
abbrev main_cst_37 : Ref sig .tc := ⟨.hbm, 366, rfl⟩
abbrev main_v325 : Ref sig .tc := ⟨.hbm, 367, rfl⟩
abbrev main_v326 : Ref sig .tc := ⟨.hbm, 368, rfl⟩
abbrev main_v327 : Ref sig .tc := ⟨.hbm, 369, rfl⟩
abbrev main_v328 : Ref sig .tc := ⟨.hbm, 370, rfl⟩
abbrev main_cst_38 : Ref sig .tc := ⟨.hbm, 371, rfl⟩
abbrev main_v329 : Ref sig .tc := ⟨.hbm, 372, rfl⟩
abbrev main_v330 : Ref sig .tc := ⟨.hbm, 373, rfl⟩
abbrev main_cst_39 : Ref sig .tc := ⟨.hbm, 374, rfl⟩
abbrev main_v331 : Ref sig .tc := ⟨.hbm, 375, rfl⟩
abbrev main_v332 : Ref sig .tc := ⟨.hbm, 376, rfl⟩
abbrev main_cst_40 : Ref sig .tc := ⟨.hbm, 377, rfl⟩
abbrev main_v333 : Ref sig .tc := ⟨.hbm, 378, rfl⟩
abbrev main_v334 : Ref sig .tc := ⟨.hbm, 379, rfl⟩
abbrev main_v335 : Ref sig .tc := ⟨.hbm, 380, rfl⟩
abbrev main_cst_41 : Ref sig .tc := ⟨.hbm, 381, rfl⟩
abbrev main_v336 : Ref sig .tc := ⟨.hbm, 382, rfl⟩
abbrev main_v337 : Ref sig .tc := ⟨.hbm, 383, rfl⟩
abbrev main_v338 : Ref sig .tc := ⟨.hbm, 384, rfl⟩
abbrev main_v339 : Ref sig .tc := ⟨.hbm, 385, rfl⟩
abbrev main_cst_42 : Ref sig .tc := ⟨.hbm, 386, rfl⟩
abbrev main_v340 : Ref sig .tc := ⟨.hbm, 387, rfl⟩
abbrev main_v341 : Ref sig .tc := ⟨.hbm, 388, rfl⟩
abbrev main_cst_43 : Ref sig .tc := ⟨.hbm, 389, rfl⟩
abbrev main_v342 : Ref sig .tc := ⟨.hbm, 390, rfl⟩
abbrev main_v343 : Ref sig .tc := ⟨.hbm, 391, rfl⟩
abbrev main_cst_44 : Ref sig .tc := ⟨.hbm, 392, rfl⟩
abbrev main_v344 : Ref sig .tc := ⟨.hbm, 393, rfl⟩
abbrev main_v345 : Ref sig .tc := ⟨.hbm, 394, rfl⟩
abbrev main_v346 : Ref sig .tc := ⟨.hbm, 395, rfl⟩
abbrev main_cst_45 : Ref sig .tc := ⟨.hbm, 396, rfl⟩
abbrev main_v347 : Ref sig .tc := ⟨.hbm, 397, rfl⟩
abbrev main_v348 : Ref sig .tc := ⟨.hbm, 398, rfl⟩
abbrev main_v349 : Ref sig .tc := ⟨.hbm, 399, rfl⟩
abbrev main_v350 : Ref sig .tc := ⟨.hbm, 400, rfl⟩
abbrev main_cst_46 : Ref sig .tc := ⟨.hbm, 401, rfl⟩
abbrev main_v351 : Ref sig .tc := ⟨.hbm, 402, rfl⟩
abbrev main_v352 : Ref sig .tc := ⟨.hbm, 403, rfl⟩
abbrev main_cst_47 : Ref sig .tc := ⟨.hbm, 404, rfl⟩
abbrev main_v353 : Ref sig .tc := ⟨.hbm, 405, rfl⟩
abbrev main_v354 : Ref sig .tc := ⟨.hbm, 406, rfl⟩
abbrev main_cst_48 : Ref sig .tc := ⟨.hbm, 407, rfl⟩
abbrev main_v355 : Ref sig .tc := ⟨.hbm, 408, rfl⟩
abbrev main_v356 : Ref sig .tc := ⟨.hbm, 409, rfl⟩
abbrev main_v357 : Ref sig .tc := ⟨.hbm, 410, rfl⟩
abbrev main_cst_49 : Ref sig .tc := ⟨.hbm, 411, rfl⟩
abbrev main_v358 : Ref sig .tc := ⟨.hbm, 412, rfl⟩
abbrev main_v359 : Ref sig .tc := ⟨.hbm, 413, rfl⟩
abbrev main_v360 : Ref sig .tc := ⟨.hbm, 414, rfl⟩
abbrev main_v361 : Ref sig .tc := ⟨.hbm, 415, rfl⟩
abbrev main_cst_50 : Ref sig .tc := ⟨.hbm, 416, rfl⟩
abbrev main_v362 : Ref sig .tc := ⟨.hbm, 417, rfl⟩
abbrev main_v363 : Ref sig .tc := ⟨.hbm, 418, rfl⟩
abbrev main_cst_51 : Ref sig .tc := ⟨.hbm, 419, rfl⟩
abbrev main_v364 : Ref sig .tc := ⟨.hbm, 420, rfl⟩
abbrev main_v365 : Ref sig .tc := ⟨.hbm, 421, rfl⟩
abbrev main_cst_52 : Ref sig .tc := ⟨.hbm, 422, rfl⟩
abbrev main_v366 : Ref sig .tc := ⟨.hbm, 423, rfl⟩
abbrev main_v367 : Ref sig .tc := ⟨.hbm, 424, rfl⟩
abbrev main_v368 : Ref sig .tc := ⟨.hbm, 425, rfl⟩
abbrev main_cst_53 : Ref sig .tc := ⟨.hbm, 426, rfl⟩
abbrev main_v369 : Ref sig .tc := ⟨.hbm, 427, rfl⟩
abbrev main_v370 : Ref sig .tc := ⟨.hbm, 428, rfl⟩
abbrev main_v371 : Ref sig .tc := ⟨.hbm, 429, rfl⟩
abbrev main_v372 : Ref sig .tc := ⟨.hbm, 430, rfl⟩
abbrev main_cst_54 : Ref sig .tc := ⟨.hbm, 431, rfl⟩
abbrev main_v373 : Ref sig .tc := ⟨.hbm, 432, rfl⟩
abbrev main_v374 : Ref sig .tc := ⟨.hbm, 433, rfl⟩
abbrev main_cst_55 : Ref sig .tc := ⟨.hbm, 434, rfl⟩
abbrev main_v375 : Ref sig .tc := ⟨.hbm, 435, rfl⟩
abbrev main_v376 : Ref sig .tc := ⟨.hbm, 436, rfl⟩
abbrev main_cst_56 : Ref sig .tc := ⟨.hbm, 437, rfl⟩
abbrev main_v377 : Ref sig .tc := ⟨.hbm, 438, rfl⟩
abbrev main_v378 : Ref sig .tc := ⟨.hbm, 439, rfl⟩
abbrev main_v379 : Ref sig .tc := ⟨.hbm, 440, rfl⟩
abbrev main_cst_57 : Ref sig .tc := ⟨.hbm, 441, rfl⟩
abbrev main_v380 : Ref sig .tc := ⟨.hbm, 442, rfl⟩
abbrev main_v381 : Ref sig .tc := ⟨.hbm, 443, rfl⟩
abbrev main_v382 : Ref sig .tc := ⟨.hbm, 444, rfl⟩
abbrev main_v383 : Ref sig .tc := ⟨.hbm, 445, rfl⟩
abbrev main_cst_58 : Ref sig .tc := ⟨.hbm, 446, rfl⟩
abbrev main_v384 : Ref sig .tc := ⟨.hbm, 447, rfl⟩
abbrev main_v385 : Ref sig .tc := ⟨.hbm, 448, rfl⟩
abbrev main_cst_59 : Ref sig .tc := ⟨.hbm, 449, rfl⟩
abbrev main_v386 : Ref sig .tc := ⟨.hbm, 450, rfl⟩
abbrev main_v387 : Ref sig .tc := ⟨.hbm, 451, rfl⟩
abbrev main_cst_60 : Ref sig .tc := ⟨.hbm, 452, rfl⟩
abbrev main_v388 : Ref sig .tc := ⟨.hbm, 453, rfl⟩
abbrev main_v389 : Ref sig .tc := ⟨.hbm, 454, rfl⟩
abbrev main_v390 : Ref sig .tc := ⟨.hbm, 455, rfl⟩
abbrev main_cst_61 : Ref sig .tc := ⟨.hbm, 456, rfl⟩
abbrev main_v391 : Ref sig .tc := ⟨.hbm, 457, rfl⟩
abbrev main_v392 : Ref sig .tc := ⟨.hbm, 458, rfl⟩
abbrev main_v393 : Ref sig .tc := ⟨.hbm, 459, rfl⟩
abbrev main_v394 : Ref sig .tc := ⟨.hbm, 460, rfl⟩
abbrev main_cst_62 : Ref sig .tc := ⟨.hbm, 461, rfl⟩
abbrev main_v395 : Ref sig .tc := ⟨.hbm, 462, rfl⟩
abbrev main_v396 : Ref sig .tc := ⟨.hbm, 463, rfl⟩
abbrev main_cst_63 : Ref sig .tc := ⟨.hbm, 464, rfl⟩
abbrev main_v397 : Ref sig .tc := ⟨.hbm, 465, rfl⟩
abbrev main_v398 : Ref sig .tc := ⟨.hbm, 466, rfl⟩
abbrev main_cst_64 : Ref sig .tc := ⟨.hbm, 467, rfl⟩
abbrev main_v399 : Ref sig .tc := ⟨.hbm, 468, rfl⟩
abbrev main_v400 : Ref sig .tc := ⟨.hbm, 469, rfl⟩
abbrev main_v401 : Ref sig .tc := ⟨.hbm, 470, rfl⟩
abbrev main_cst_65 : Ref sig .tc := ⟨.hbm, 471, rfl⟩
abbrev main_v402 : Ref sig .tc := ⟨.hbm, 472, rfl⟩
abbrev main_v403 : Ref sig .tc := ⟨.hbm, 473, rfl⟩
abbrev main_v404 : Ref sig .tc := ⟨.hbm, 474, rfl⟩
abbrev main_v405 : Ref sig .tc := ⟨.hbm, 475, rfl⟩
abbrev main_cst_66 : Ref sig .tc := ⟨.hbm, 476, rfl⟩
abbrev main_v406 : Ref sig .tc := ⟨.hbm, 477, rfl⟩
abbrev main_v407 : Ref sig .tc := ⟨.hbm, 478, rfl⟩
abbrev main_cst_67 : Ref sig .tc := ⟨.hbm, 479, rfl⟩
abbrev main_v408 : Ref sig .tc := ⟨.hbm, 480, rfl⟩
abbrev main_v409 : Ref sig .tc := ⟨.hbm, 481, rfl⟩
abbrev main_cst_68 : Ref sig .tc := ⟨.hbm, 482, rfl⟩
abbrev main_v410 : Ref sig .tc := ⟨.hbm, 483, rfl⟩
abbrev main_v411 : Ref sig .tc := ⟨.hbm, 484, rfl⟩
abbrev main_v412 : Ref sig .tc := ⟨.hbm, 485, rfl⟩
abbrev main_cst_69 : Ref sig .tc := ⟨.hbm, 486, rfl⟩
abbrev main_v413 : Ref sig .tc := ⟨.hbm, 487, rfl⟩
abbrev main_v414 : Ref sig .tc := ⟨.hbm, 488, rfl⟩
abbrev main_v415 : Ref sig .tc := ⟨.hbm, 489, rfl⟩
abbrev main_v416 : Ref sig .tc := ⟨.hbm, 490, rfl⟩
abbrev main_cst_70 : Ref sig .tc := ⟨.hbm, 491, rfl⟩
abbrev main_v417 : Ref sig .tc := ⟨.hbm, 492, rfl⟩
abbrev main_v418 : Ref sig .tc := ⟨.hbm, 493, rfl⟩
abbrev main_cst_71 : Ref sig .tc := ⟨.hbm, 494, rfl⟩
abbrev main_v419 : Ref sig .tc := ⟨.hbm, 495, rfl⟩
abbrev main_v420 : Ref sig .tc := ⟨.hbm, 496, rfl⟩
abbrev main_cst_72 : Ref sig .tc := ⟨.hbm, 497, rfl⟩
abbrev main_v421 : Ref sig .tc := ⟨.hbm, 498, rfl⟩
abbrev main_v422 : Ref sig .tc := ⟨.hbm, 499, rfl⟩
abbrev main_v423 : Ref sig .tc := ⟨.hbm, 500, rfl⟩
abbrev main_cst_73 : Ref sig .tc := ⟨.hbm, 501, rfl⟩
abbrev main_v424 : Ref sig .tc := ⟨.hbm, 502, rfl⟩
abbrev main_v425 : Ref sig .tc := ⟨.hbm, 503, rfl⟩
abbrev main_v426 : Ref sig .tc := ⟨.hbm, 504, rfl⟩
abbrev main_v427 : Ref sig .tc := ⟨.hbm, 505, rfl⟩
abbrev main_cst_74 : Ref sig .tc := ⟨.hbm, 506, rfl⟩
abbrev main_v428 : Ref sig .tc := ⟨.hbm, 507, rfl⟩
abbrev main_v429 : Ref sig .tc := ⟨.hbm, 508, rfl⟩
abbrev main_cst_75 : Ref sig .tc := ⟨.hbm, 509, rfl⟩
abbrev main_v430 : Ref sig .tc := ⟨.hbm, 510, rfl⟩
abbrev main_v431 : Ref sig .tc := ⟨.hbm, 511, rfl⟩
abbrev main_cst_76 : Ref sig .tc := ⟨.hbm, 512, rfl⟩
abbrev main_v432 : Ref sig .tc := ⟨.hbm, 513, rfl⟩
abbrev main_v433 : Ref sig .tc := ⟨.hbm, 514, rfl⟩
abbrev main_v434 : Ref sig .tc := ⟨.hbm, 515, rfl⟩
abbrev main_cst_77 : Ref sig .tc := ⟨.hbm, 516, rfl⟩
abbrev main_v435 : Ref sig .tc := ⟨.hbm, 517, rfl⟩
abbrev main_v436 : Ref sig .tc := ⟨.hbm, 518, rfl⟩
abbrev main_v437 : Ref sig .tc := ⟨.hbm, 519, rfl⟩
abbrev main_v438 : Ref sig .tc := ⟨.hbm, 520, rfl⟩
abbrev main_cst_78 : Ref sig .tc := ⟨.hbm, 521, rfl⟩
abbrev main_v439 : Ref sig .tc := ⟨.hbm, 522, rfl⟩
abbrev main_v440 : Ref sig .tc := ⟨.hbm, 523, rfl⟩
abbrev main_cst_79 : Ref sig .tc := ⟨.hbm, 524, rfl⟩
abbrev main_v441 : Ref sig .tc := ⟨.hbm, 525, rfl⟩
abbrev main_v442 : Ref sig .tc := ⟨.hbm, 526, rfl⟩
abbrev main_cst_80 : Ref sig .tc := ⟨.hbm, 527, rfl⟩
abbrev main_v443 : Ref sig .tc := ⟨.hbm, 528, rfl⟩
abbrev main_v444 : Ref sig .tc := ⟨.hbm, 529, rfl⟩
abbrev main_v445 : Ref sig .tc := ⟨.hbm, 530, rfl⟩
abbrev main_cst_81 : Ref sig .tc := ⟨.hbm, 531, rfl⟩
abbrev main_v446 : Ref sig .tc := ⟨.hbm, 532, rfl⟩
abbrev main_v447 : Ref sig .tc := ⟨.hbm, 533, rfl⟩
abbrev main_v448 : Ref sig .tc := ⟨.hbm, 534, rfl⟩
abbrev main_v449 : Ref sig .tc := ⟨.hbm, 535, rfl⟩
abbrev main_cst_82 : Ref sig .tc := ⟨.hbm, 536, rfl⟩
abbrev main_v450 : Ref sig .tc := ⟨.hbm, 537, rfl⟩
abbrev main_v451 : Ref sig .tc := ⟨.hbm, 538, rfl⟩
abbrev main_cst_83 : Ref sig .tc := ⟨.hbm, 539, rfl⟩
abbrev main_v452 : Ref sig .tc := ⟨.hbm, 540, rfl⟩
abbrev main_v453 : Ref sig .tc := ⟨.hbm, 541, rfl⟩
abbrev main_cst_84 : Ref sig .tc := ⟨.hbm, 542, rfl⟩
abbrev main_v454 : Ref sig .tc := ⟨.hbm, 543, rfl⟩
abbrev main_v455 : Ref sig .tc := ⟨.hbm, 544, rfl⟩
abbrev main_v456 : Ref sig .tc := ⟨.hbm, 545, rfl⟩
abbrev main_cst_85 : Ref sig .tc := ⟨.hbm, 546, rfl⟩
abbrev main_v457 : Ref sig .tc := ⟨.hbm, 547, rfl⟩
abbrev main_v458 : Ref sig .tc := ⟨.hbm, 548, rfl⟩
abbrev main_v459 : Ref sig .tc := ⟨.hbm, 549, rfl⟩
abbrev main_v460 : Ref sig .tc := ⟨.hbm, 550, rfl⟩
abbrev main_cst_86 : Ref sig .tc := ⟨.hbm, 551, rfl⟩
abbrev main_v461 : Ref sig .tc := ⟨.hbm, 552, rfl⟩
abbrev main_v462 : Ref sig .tc := ⟨.hbm, 553, rfl⟩
abbrev main_cst_87 : Ref sig .tc := ⟨.hbm, 554, rfl⟩
abbrev main_v463 : Ref sig .tc := ⟨.hbm, 555, rfl⟩
abbrev main_v464 : Ref sig .tc := ⟨.hbm, 556, rfl⟩
abbrev main_cst_88 : Ref sig .tc := ⟨.hbm, 557, rfl⟩
abbrev main_v465 : Ref sig .tc := ⟨.hbm, 558, rfl⟩
abbrev main_v466 : Ref sig .tc := ⟨.hbm, 559, rfl⟩
abbrev main_v467 : Ref sig .tc := ⟨.hbm, 560, rfl⟩
abbrev main_cst_89 : Ref sig .tc := ⟨.hbm, 561, rfl⟩
abbrev main_v468 : Ref sig .tc := ⟨.hbm, 562, rfl⟩
abbrev main_v469 : Ref sig .tc := ⟨.hbm, 563, rfl⟩
abbrev main_v470 : Ref sig .tc := ⟨.hbm, 564, rfl⟩
abbrev main_v471 : Ref sig .tc := ⟨.hbm, 565, rfl⟩
abbrev main_cst_90 : Ref sig .tc := ⟨.hbm, 566, rfl⟩
abbrev main_v472 : Ref sig .tc := ⟨.hbm, 567, rfl⟩
abbrev main_v473 : Ref sig .tc := ⟨.hbm, 568, rfl⟩
abbrev main_cst_91 : Ref sig .tc := ⟨.hbm, 569, rfl⟩
abbrev main_v474 : Ref sig .tc := ⟨.hbm, 570, rfl⟩
abbrev main_v475 : Ref sig .tc := ⟨.hbm, 571, rfl⟩
abbrev main_cst_92 : Ref sig .tc := ⟨.hbm, 572, rfl⟩
abbrev main_v476 : Ref sig .tc := ⟨.hbm, 573, rfl⟩
abbrev main_v477 : Ref sig .tc := ⟨.hbm, 574, rfl⟩
abbrev main_v478 : Ref sig .tc := ⟨.hbm, 575, rfl⟩
abbrev main_cst_93 : Ref sig .tc := ⟨.hbm, 576, rfl⟩
abbrev main_v479 : Ref sig .tc := ⟨.hbm, 577, rfl⟩
abbrev main_v480 : Ref sig .tc := ⟨.hbm, 578, rfl⟩
abbrev main_v481 : Ref sig .tc := ⟨.hbm, 579, rfl⟩
abbrev main_v482 : Ref sig .tc := ⟨.hbm, 580, rfl⟩
abbrev main_cst_94 : Ref sig .tc := ⟨.hbm, 581, rfl⟩
abbrev main_v483 : Ref sig .tc := ⟨.hbm, 582, rfl⟩
abbrev main_v484 : Ref sig .tc := ⟨.hbm, 583, rfl⟩
abbrev main_cst_95 : Ref sig .tc := ⟨.hbm, 584, rfl⟩
abbrev main_v485 : Ref sig .tc := ⟨.hbm, 585, rfl⟩
abbrev main_v486 : Ref sig .tc := ⟨.hbm, 586, rfl⟩
abbrev main_cst_96 : Ref sig .tc := ⟨.hbm, 587, rfl⟩
abbrev main_v487 : Ref sig .tc := ⟨.hbm, 588, rfl⟩
abbrev main_v488 : Ref sig .tc := ⟨.hbm, 589, rfl⟩
abbrev main_v489 : Ref sig .tc := ⟨.hbm, 590, rfl⟩
abbrev main_cst_97 : Ref sig .tc := ⟨.hbm, 591, rfl⟩
abbrev main_v490 : Ref sig .tc := ⟨.hbm, 592, rfl⟩
abbrev main_v491 : Ref sig .tc := ⟨.hbm, 593, rfl⟩
abbrev main_v492 : Ref sig .tc := ⟨.hbm, 594, rfl⟩
abbrev main_v493 : Ref sig .tc := ⟨.hbm, 595, rfl⟩
abbrev main_cst_98 : Ref sig .tc := ⟨.hbm, 596, rfl⟩
abbrev main_v494 : Ref sig .tc := ⟨.hbm, 597, rfl⟩
abbrev main_v495 : Ref sig .tc := ⟨.hbm, 598, rfl⟩
abbrev main_cst_99 : Ref sig .tc := ⟨.hbm, 599, rfl⟩
abbrev main_v496 : Ref sig .tc := ⟨.hbm, 600, rfl⟩
abbrev main_v497 : Ref sig .tc := ⟨.hbm, 601, rfl⟩
abbrev main_cst_100 : Ref sig .tc := ⟨.hbm, 602, rfl⟩
abbrev main_v498 : Ref sig .tc := ⟨.hbm, 603, rfl⟩
abbrev main_v499 : Ref sig .tc := ⟨.hbm, 604, rfl⟩
abbrev main_v500 : Ref sig .tc := ⟨.hbm, 605, rfl⟩
abbrev main_cst_101 : Ref sig .tc := ⟨.hbm, 606, rfl⟩
abbrev main_v501 : Ref sig .tc := ⟨.hbm, 607, rfl⟩
abbrev main_v502 : Ref sig .tc := ⟨.hbm, 608, rfl⟩
abbrev main_v503 : Ref sig .tc := ⟨.hbm, 609, rfl⟩
abbrev main_v504 : Ref sig .tc := ⟨.hbm, 610, rfl⟩
abbrev main_cst_102 : Ref sig .tc := ⟨.hbm, 611, rfl⟩
abbrev main_v505 : Ref sig .tc := ⟨.hbm, 612, rfl⟩
abbrev main_v506 : Ref sig .tc := ⟨.hbm, 613, rfl⟩
abbrev main_cst_103 : Ref sig .tc := ⟨.hbm, 614, rfl⟩
abbrev main_v507 : Ref sig .tc := ⟨.hbm, 615, rfl⟩
abbrev main_v508 : Ref sig .tc := ⟨.hbm, 616, rfl⟩
abbrev main_cst_104 : Ref sig .tc := ⟨.hbm, 617, rfl⟩
abbrev main_v509 : Ref sig .tc := ⟨.hbm, 618, rfl⟩
abbrev main_v510 : Ref sig .tc := ⟨.hbm, 619, rfl⟩
abbrev main_v511 : Ref sig .tc := ⟨.hbm, 620, rfl⟩
abbrev main_cst_105 : Ref sig .tc := ⟨.hbm, 621, rfl⟩
abbrev main_v512 : Ref sig .tc := ⟨.hbm, 622, rfl⟩
abbrev main_v513 : Ref sig .tc := ⟨.hbm, 623, rfl⟩
abbrev main_v514 : Ref sig .tc := ⟨.hbm, 624, rfl⟩
abbrev main_v515 : Ref sig .tc := ⟨.hbm, 625, rfl⟩
abbrev main_cst_106 : Ref sig .tc := ⟨.hbm, 626, rfl⟩
abbrev main_v516 : Ref sig .tc := ⟨.hbm, 627, rfl⟩
abbrev main_v517 : Ref sig .tc := ⟨.hbm, 628, rfl⟩
abbrev main_cst_107 : Ref sig .tc := ⟨.hbm, 629, rfl⟩
abbrev main_v518 : Ref sig .tc := ⟨.hbm, 630, rfl⟩
abbrev main_v519 : Ref sig .tc := ⟨.hbm, 631, rfl⟩
abbrev main_cst_108 : Ref sig .tc := ⟨.hbm, 632, rfl⟩
abbrev main_v520 : Ref sig .tc := ⟨.hbm, 633, rfl⟩
abbrev main_v521 : Ref sig .tc := ⟨.hbm, 634, rfl⟩
abbrev main_v522 : Ref sig .tc := ⟨.hbm, 635, rfl⟩
abbrev main_cst_109 : Ref sig .tc := ⟨.hbm, 636, rfl⟩
abbrev main_v523 : Ref sig .tc := ⟨.hbm, 637, rfl⟩
abbrev main_v524 : Ref sig .tc := ⟨.hbm, 638, rfl⟩
abbrev main_v525 : Ref sig .tc := ⟨.hbm, 639, rfl⟩
abbrev main_v526 : Ref sig .tc := ⟨.hbm, 640, rfl⟩
abbrev main_cst_110 : Ref sig .tc := ⟨.hbm, 641, rfl⟩
abbrev main_v527 : Ref sig .tc := ⟨.hbm, 642, rfl⟩
abbrev main_v528 : Ref sig .tc := ⟨.hbm, 643, rfl⟩
abbrev main_cst_111 : Ref sig .tc := ⟨.hbm, 644, rfl⟩
abbrev main_v529 : Ref sig .tc := ⟨.hbm, 645, rfl⟩
abbrev main_v530 : Ref sig .tc := ⟨.hbm, 646, rfl⟩
abbrev main_cst_112 : Ref sig .tc := ⟨.hbm, 647, rfl⟩
abbrev main_v531 : Ref sig .tc := ⟨.hbm, 648, rfl⟩
abbrev main_v532 : Ref sig .tc := ⟨.hbm, 649, rfl⟩
abbrev main_v533 : Ref sig .tc := ⟨.hbm, 650, rfl⟩
abbrev main_cst_113 : Ref sig .tc := ⟨.hbm, 651, rfl⟩
abbrev main_v534 : Ref sig .tc := ⟨.hbm, 652, rfl⟩
abbrev main_v535 : Ref sig .tc := ⟨.hbm, 653, rfl⟩
abbrev main_v536 : Ref sig .tc := ⟨.hbm, 654, rfl⟩
abbrev main_v537 : Ref sig .tc := ⟨.hbm, 655, rfl⟩
abbrev main_cst_114 : Ref sig .tc := ⟨.hbm, 656, rfl⟩
abbrev main_v538 : Ref sig .tc := ⟨.hbm, 657, rfl⟩
abbrev main_v539 : Ref sig .tc := ⟨.hbm, 658, rfl⟩
abbrev main_cst_115 : Ref sig .tc := ⟨.hbm, 659, rfl⟩
abbrev main_v540 : Ref sig .tc := ⟨.hbm, 660, rfl⟩
abbrev main_v541 : Ref sig .tc := ⟨.hbm, 661, rfl⟩
abbrev main_cst_116 : Ref sig .tc := ⟨.hbm, 662, rfl⟩
abbrev main_v542 : Ref sig .tc := ⟨.hbm, 663, rfl⟩
abbrev main_v543 : Ref sig .tc := ⟨.hbm, 664, rfl⟩
abbrev main_v544 : Ref sig .tc := ⟨.hbm, 665, rfl⟩
abbrev main_cst_117 : Ref sig .tc := ⟨.hbm, 666, rfl⟩
abbrev main_v545 : Ref sig .tc := ⟨.hbm, 667, rfl⟩
abbrev main_v546 : Ref sig .tc := ⟨.hbm, 668, rfl⟩
abbrev main_v547 : Ref sig .tc := ⟨.hbm, 669, rfl⟩
abbrev main_v548 : Ref sig .tc := ⟨.hbm, 670, rfl⟩
abbrev main_cst_118 : Ref sig .tc := ⟨.hbm, 671, rfl⟩
abbrev main_v549 : Ref sig .tc := ⟨.hbm, 672, rfl⟩
abbrev main_v550 : Ref sig .tc := ⟨.hbm, 673, rfl⟩
abbrev main_cst_119 : Ref sig .tc := ⟨.hbm, 674, rfl⟩
abbrev main_v551 : Ref sig .tc := ⟨.hbm, 675, rfl⟩
abbrev main_v552 : Ref sig .tc := ⟨.hbm, 676, rfl⟩
abbrev main_cst_120 : Ref sig .tc := ⟨.hbm, 677, rfl⟩
abbrev main_v553 : Ref sig .tc := ⟨.hbm, 678, rfl⟩
abbrev main_v554 : Ref sig .tc := ⟨.hbm, 679, rfl⟩
abbrev main_v555 : Ref sig .tc := ⟨.hbm, 680, rfl⟩
abbrev main_cst_121 : Ref sig .tc := ⟨.hbm, 681, rfl⟩
abbrev main_v556 : Ref sig .tc := ⟨.hbm, 682, rfl⟩
abbrev main_v557 : Ref sig .tc := ⟨.hbm, 683, rfl⟩
abbrev main_v558 : Ref sig .tc := ⟨.hbm, 684, rfl⟩
abbrev main_v559 : Ref sig .tc := ⟨.hbm, 685, rfl⟩
abbrev main_cst_122 : Ref sig .tc := ⟨.hbm, 686, rfl⟩
abbrev main_v560 : Ref sig .tc := ⟨.hbm, 687, rfl⟩
abbrev main_v561 : Ref sig .tc := ⟨.hbm, 688, rfl⟩
abbrev main_cst_123 : Ref sig .tc := ⟨.hbm, 689, rfl⟩
abbrev main_v562 : Ref sig .tc := ⟨.hbm, 690, rfl⟩
abbrev main_v563 : Ref sig .tc := ⟨.hbm, 691, rfl⟩
abbrev main_cst_124 : Ref sig .tc := ⟨.hbm, 692, rfl⟩
abbrev main_v564 : Ref sig .tc := ⟨.hbm, 693, rfl⟩
abbrev main_v565 : Ref sig .tc := ⟨.hbm, 694, rfl⟩
abbrev main_cst_125 : Ref sig .tc := ⟨.hbm, 695, rfl⟩
abbrev main_v566 : Ref sig .tc := ⟨.hbm, 696, rfl⟩
abbrev main_v567 : Ref sig .tc := ⟨.hbm, 697, rfl⟩
abbrev main_v568 : Ref sig .tc := ⟨.hbm, 698, rfl⟩
abbrev main_cst_126 : Ref sig .tc := ⟨.hbm, 699, rfl⟩
abbrev main_v569 : Ref sig .tc := ⟨.hbm, 700, rfl⟩
abbrev main_v570 : Ref sig .tc := ⟨.hbm, 701, rfl⟩
abbrev main_v571 : Ref sig .tc := ⟨.hbm, 702, rfl⟩
abbrev main_v572 : Ref sig .tc := ⟨.hbm, 703, rfl⟩
abbrev main_cst_127 : Ref sig .tc := ⟨.hbm, 704, rfl⟩
abbrev main_v573 : Ref sig .tc := ⟨.hbm, 705, rfl⟩
abbrev main_v574 : Ref sig .tc := ⟨.hbm, 706, rfl⟩
abbrev main_cst_128 : Ref sig .tc := ⟨.hbm, 707, rfl⟩
abbrev main_v575 : Ref sig .tc := ⟨.hbm, 708, rfl⟩
abbrev main_v576 : Ref sig .tc := ⟨.hbm, 709, rfl⟩
abbrev main_cst_129 : Ref sig .tc := ⟨.hbm, 710, rfl⟩
abbrev main_v577 : Ref sig .tc := ⟨.hbm, 711, rfl⟩
abbrev main_v578 : Ref sig .tc := ⟨.hbm, 712, rfl⟩
abbrev main_v579 : Ref sig .tc := ⟨.hbm, 713, rfl⟩
abbrev main_v580 : Ref sig .tc := ⟨.hbm, 714, rfl⟩
abbrev main_v581 : Ref sig .tc := ⟨.hbm, 715, rfl⟩
abbrev main_v582 : Ref sig .tc := ⟨.hbm, 716, rfl⟩
abbrev main_v583 : Ref sig .tc := ⟨.hbm, 717, rfl⟩
abbrev main_v584 : Ref sig .tc := ⟨.hbm, 718, rfl⟩
abbrev main_v585 : Ref sig .tc := ⟨.hbm, 719, rfl⟩
abbrev main_v586 : Ref sig .tc := ⟨.hbm, 720, rfl⟩
abbrev main_v587 : Ref sig .tc := ⟨.hbm, 721, rfl⟩
abbrev main_v588 : Ref sig .tc := ⟨.hbm, 722, rfl⟩
abbrev main_c : Ref sig .tc := ⟨.hbm, 723, rfl⟩
abbrev main_call0_v0 : Ref sig .tc := ⟨.hbm, 724, rfl⟩
abbrev main_v589 : Ref sig .tc := ⟨.hbm, 725, rfl⟩

abbrev nD : Nat := 1
abbrev τ : Topo := Topo.v7x

variable {F : FTy → Type} [FloatOps F]
-- ==== GateK.lean ====
abbrev S2176x1024 : Shape := ⟨2, ![2176, 1024]⟩
abbrev S1024x1024 : Shape := ⟨2, ![1024, 1024]⟩
abbrev S2176x7168 : Shape := ⟨2, ![2176, 7168]⟩
abbrev S1x2048 : Shape := ⟨2, ![1, 2048]⟩
abbrev S1x1024 : Shape := ⟨2, ![1, 1024]⟩
abbrev S256x1024 : Shape := ⟨2, ![256, 1024]⟩
abbrev S2176x256 : Shape := ⟨2, ![2176, 256]⟩
abbrev S1x256 : Shape := ⟨2, ![1, 256]⟩
abbrev S1x512 : Shape := ⟨2, ![1, 512]⟩
abbrev S256 : Shape := ⟨1, ![256]⟩

abbrev nBuf : Space → Nat
  | .hbm => 12
  | .vmem => 27
  | .smem => 0
  | _ => 0

abbrev bufTy : (tb : Table) → Fin (tcTables nBuf tb) → BufTy
  | .hbm, ⟨0, _⟩ => ⟨S2176x1024, .bf16⟩
  | .hbm, ⟨1, _⟩ => ⟨S1024x1024, .bf16⟩
  | .hbm, ⟨2, _⟩ => ⟨S2176x7168, .f32⟩
  | .hbm, ⟨3, _⟩ => ⟨S2176x1024, .f32⟩
  | .hbm, ⟨4, _⟩ => ⟨S2176x1024, .f32⟩
  | .hbm, ⟨5, _⟩ => ⟨S1x2048, .f32⟩
  | .hbm, ⟨6, _⟩ => ⟨S2176x1024, .bf16⟩
  | .hbm, ⟨7, _⟩ => ⟨S2176x1024, .bf16⟩
  | .hbm, ⟨8, _⟩ => ⟨S2176x1024, .bf16⟩
  | .hbm, ⟨9, _⟩ => ⟨S2176x1024, .bf16⟩
  | .hbm, ⟨10, _⟩ => ⟨S1x1024, .f32⟩
  | .hbm, ⟨11, _⟩ => ⟨S1x1024, .f32⟩
  | .local _ .vmem, ⟨0, _⟩ => ⟨S2176x1024, .bf16⟩
  | .local _ .vmem, ⟨1, _⟩ => ⟨S256x1024, .bf16⟩
  | .local _ .vmem, ⟨2, _⟩ => ⟨S256x1024, .bf16⟩
  | .local _ .vmem, ⟨3, _⟩ => ⟨S2176x256, .f32⟩
  | .local _ .vmem, ⟨4, _⟩ => ⟨S2176x256, .f32⟩
  | .local _ .vmem, ⟨5, _⟩ => ⟨S2176x256, .f32⟩
  | .local _ .vmem, ⟨6, _⟩ => ⟨S2176x256, .f32⟩
  | .local _ .vmem, ⟨7, _⟩ => ⟨S2176x256, .f32⟩
  | .local _ .vmem, ⟨8, _⟩ => ⟨S2176x256, .f32⟩
  | .local _ .vmem, ⟨9, _⟩ => ⟨S2176x256, .f32⟩
  | .local _ .vmem, ⟨10, _⟩ => ⟨S2176x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S2176x256, .bf16⟩
  | .local _ .vmem, ⟨16, _⟩ => ⟨S2176x256, .bf16⟩
  | .local _ .vmem, ⟨17, _⟩ => ⟨S2176x256, .bf16⟩
  | .local _ .vmem, ⟨18, _⟩ => ⟨S2176x256, .bf16⟩
  | .local _ .vmem, ⟨19, _⟩ => ⟨S2176x256, .bf16⟩
  | .local _ .vmem, ⟨20, _⟩ => ⟨S2176x256, .bf16⟩
  | .local _ .vmem, ⟨21, _⟩ => ⟨S2176x256, .bf16⟩
  | .local _ .vmem, ⟨22, _⟩ => ⟨S2176x256, .bf16⟩
  | .local _ .vmem, ⟨23, _⟩ => ⟨S1x256, .f32⟩
  | .local _ .vmem, ⟨24, _⟩ => ⟨S1x256, .f32⟩
  | .local _ .vmem, ⟨25, _⟩ => ⟨S1x256, .f32⟩
  | .local _ .vmem, ⟨26, _⟩ => ⟨S1x256, .f32⟩
  | _, _ => ⟨S2176x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2176x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2176x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2176x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2176x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2176x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2176x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2176x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2176x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2176x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== GateRIdeal.lean ====
abbrev S2176x1024 : Shape := ⟨2, ![2176, 1024]⟩
abbrev S1024x1024 : Shape := ⟨2, ![1024, 1024]⟩
abbrev S2176x7168 : Shape := ⟨2, ![2176, 7168]⟩
abbrev S1x2048 : Shape := ⟨2, ![1, 2048]⟩
abbrev S2176x2048 : Shape := ⟨2, ![2176, 2048]⟩
abbrev S_ : Shape := ⟨0, ![]⟩
abbrev S2048 : Shape := ⟨1, ![2048]⟩
abbrev S1x1024 : Shape := ⟨2, ![1, 1024]⟩

abbrev nBuf : Space → Nat
  | .hbm => 47
  | .vmem => 0
  | .smem => 0
  | _ => 0

abbrev bufTy : (tb : Table) → Fin (tcTables nBuf tb) → BufTy
  | .hbm, ⟨0, _⟩ => ⟨S2176x1024, .bf16⟩
  | .hbm, ⟨1, _⟩ => ⟨S1024x1024, .bf16⟩
  | .hbm, ⟨2, _⟩ => ⟨S2176x7168, .f32⟩
  | .hbm, ⟨3, _⟩ => ⟨S2176x1024, .f32⟩
  | .hbm, ⟨4, _⟩ => ⟨S2176x1024, .f32⟩
  | .hbm, ⟨5, _⟩ => ⟨S1x2048, .f32⟩
  | .hbm, ⟨6, _⟩ => ⟨S2176x2048, .f32⟩
  | .hbm, ⟨7, _⟩ => ⟨S1024x1024, .f32⟩
  | .hbm, ⟨8, _⟩ => ⟨S2176x2048, .f32⟩
  | .hbm, ⟨9, _⟩ => ⟨S2176x2048, .f32⟩
  | .hbm, ⟨10, _⟩ => ⟨S2176x2048, .f32⟩
  | .hbm, ⟨11, _⟩ => ⟨S2176x2048, .f32⟩
  | .hbm, ⟨12, _⟩ => ⟨S_, .f32⟩
  | .hbm, ⟨13, _⟩ => ⟨S2176x2048, .f32⟩
  | .hbm, ⟨14, _⟩ => ⟨S2176x2048, .f32⟩
  | .hbm, ⟨15, _⟩ => ⟨S_, .f32⟩
  | .hbm, ⟨16, _⟩ => ⟨S2176x2048, .f32⟩
  | .hbm, ⟨17, _⟩ => ⟨S2176x2048, .f32⟩
  | .hbm, ⟨18, _⟩ => ⟨S_, .f32⟩
  | .hbm, ⟨19, _⟩ => ⟨S2176x2048, .f32⟩
  | .hbm, ⟨20, _⟩ => ⟨S2176x2048, .f32⟩
  | .hbm, ⟨21, _⟩ => ⟨S2176x2048, .f32⟩
  | .hbm, ⟨22, _⟩ => ⟨S2176x1024, .f32⟩
  | .hbm, ⟨23, _⟩ => ⟨S2176x1024, .f32⟩
  | .hbm, ⟨24, _⟩ => ⟨S2176x1024, .f32⟩
  | .hbm, ⟨25, _⟩ => ⟨S2176x1024, .f32⟩
  | .hbm, ⟨26, _⟩ => ⟨S2176x1024, .f32⟩
  | .hbm, ⟨27, _⟩ => ⟨S2176x1024, .f32⟩
  | .hbm, ⟨28, _⟩ => ⟨S2176x1024, .f32⟩
  | .hbm, ⟨29, _⟩ => ⟨S2176x1024, .f32⟩
  | .hbm, ⟨30, _⟩ => ⟨S2176x1024, .f32⟩
  | .hbm, ⟨31, _⟩ => ⟨S2176x1024, .f32⟩
  | .hbm, ⟨32, _⟩ => ⟨S2176x1024, .f32⟩
  | .hbm, ⟨33, _⟩ => ⟨S2176x1024, .f32⟩
  | .hbm, ⟨34, _⟩ => ⟨S2176x2048, .f32⟩
  | .hbm, ⟨35, _⟩ => ⟨S2176x2048, .f32⟩
  | .hbm, ⟨36, _⟩ => ⟨S_, .f32⟩
  | .hbm, ⟨37, _⟩ => ⟨S2048, .f32⟩
  | .hbm, ⟨38, _⟩ => ⟨S1x2048, .f32⟩
  | .hbm, ⟨39, _⟩ => ⟨S2176x1024, .f32⟩
  | .hbm, ⟨40, _⟩ => ⟨S2176x1024, .bf16⟩
  | .hbm, ⟨41, _⟩ => ⟨S2176x1024, .f32⟩
  | .hbm, ⟨42, _⟩ => ⟨S2176x1024, .bf16⟩
  | .hbm, ⟨43, _⟩ => ⟨S2176x1024, .bf16⟩
  | .hbm, ⟨44, _⟩ => ⟨S2176x1024, .bf16⟩
  | .hbm, ⟨45, _⟩ => ⟨S1x1024, .f32⟩
  | .hbm, ⟨46, _⟩ => ⟨S1x1024, .f32⟩
  | _, _ => ⟨S2176x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]
-- ==== FfnK.lean ====
abbrev S2176x1024 : Shape := ⟨2, ![2176, 1024]⟩
abbrev S4x704x1024 : Shape := ⟨3, ![4, 704, 1024]⟩
abbrev S4x2176x704 : Shape := ⟨3, ![4, 2176, 704]⟩
abbrev S2x4x2176x704 : Shape := ⟨4, ![2, 4, 2176, 704]⟩
abbrev S1088x1024 : Shape := ⟨2, ![1088, 1024]⟩
abbrev S1x704x1024 : Shape := ⟨3, ![1, 704, 1024]⟩
abbrev S1x1088x704 : Shape := ⟨3, ![1, 1088, 704]⟩
abbrev S2x1x1088x704 : Shape := ⟨4, ![2, 1, 1088, 704]⟩
abbrev S704x1024 : Shape := ⟨2, ![704, 1024]⟩
abbrev S1088x704 : Shape := ⟨2, ![1088, 704]⟩
abbrev S1x1x1088x704 : Shape := ⟨4, ![1, 1, 1088, 704]⟩

abbrev nBuf : Space → Nat
  | .hbm => 5
  | .vmem => 10
  | .smem => 0
  | _ => 0

abbrev bufTy : (tb : Table) → Fin (tcTables nBuf tb) → BufTy
  | .hbm, ⟨0, _⟩ => ⟨S2176x1024, .bf16⟩
  | .hbm, ⟨1, _⟩ => ⟨S4x704x1024, .bf16⟩
  | .hbm, ⟨2, _⟩ => ⟨S4x2176x704, .bf16⟩
  | .hbm, ⟨3, _⟩ => ⟨S4x2176x704, .bf16⟩
  | .hbm, ⟨4, _⟩ => ⟨S2x4x2176x704, .bf16⟩
  | .local _ .vmem, ⟨0, _⟩ => ⟨S1088x1024, .bf16⟩
  | .local _ .vmem, ⟨1, _⟩ => ⟨S1088x1024, .bf16⟩
  | .local _ .vmem, ⟨2, _⟩ => ⟨S1x704x1024, .bf16⟩
  | .local _ .vmem, ⟨3, _⟩ => ⟨S1x704x1024, .bf16⟩
  | .local _ .vmem, ⟨4, _⟩ => ⟨S1x1088x704, .bf16⟩
  | .local _ .vmem, ⟨5, _⟩ => ⟨S1x1088x704, .bf16⟩
  | .local _ .vmem, ⟨6, _⟩ => ⟨S1x1088x704, .bf16⟩
  | .local _ .vmem, ⟨7, _⟩ => ⟨S1x1088x704, .bf16⟩
  | .local _ .vmem, ⟨8, _⟩ => ⟨S2x1x1088x704, .bf16⟩
  | .local _ .vmem, ⟨9, _⟩ => ⟨S2x1x1088x704, .bf16⟩
  | _, _ => ⟨S2176x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1088x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1088x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x1x1088x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FfnRIdeal.lean ====
abbrev S2176x1024 : Shape := ⟨2, ![2176, 1024]⟩
abbrev S4x704x1024 : Shape := ⟨3, ![4, 704, 1024]⟩
abbrev S4x2176x704 : Shape := ⟨3, ![4, 2176, 704]⟩
abbrev S2176x4x704 : Shape := ⟨3, ![2176, 4, 704]⟩
abbrev S2176x2816 : Shape := ⟨2, ![2176, 2816]⟩
abbrev S2816x1024 : Shape := ⟨2, ![2816, 1024]⟩
abbrev S_ : Shape := ⟨0, ![]⟩
abbrev S1x4x2176x704 : Shape := ⟨4, ![1, 4, 2176, 704]⟩
abbrev S2x4x2176x704 : Shape := ⟨4, ![2, 4, 2176, 704]⟩

abbrev nBuf : Space → Nat
  | .hbm => 43
  | .vmem => 0
  | .smem => 0
  | _ => 0

abbrev bufTy : (tb : Table) → Fin (tcTables nBuf tb) → BufTy
  | .hbm, ⟨0, _⟩ => ⟨S2176x1024, .bf16⟩
  | .hbm, ⟨1, _⟩ => ⟨S4x704x1024, .bf16⟩
  | .hbm, ⟨2, _⟩ => ⟨S4x2176x704, .bf16⟩
  | .hbm, ⟨3, _⟩ => ⟨S4x2176x704, .bf16⟩
  | .hbm, ⟨4, _⟩ => ⟨S4x2176x704, .f32⟩
  | .hbm, ⟨5, _⟩ => ⟨S2176x4x704, .f32⟩
  | .hbm, ⟨6, _⟩ => ⟨S2176x2816, .f32⟩
  | .hbm, ⟨7, _⟩ => ⟨S4x2176x704, .f32⟩
  | .hbm, ⟨8, _⟩ => ⟨S2176x4x704, .f32⟩
  | .hbm, ⟨9, _⟩ => ⟨S2176x2816, .f32⟩
  | .hbm, ⟨10, _⟩ => ⟨S4x704x1024, .f32⟩
  | .hbm, ⟨11, _⟩ => ⟨S2816x1024, .f32⟩
  | .hbm, ⟨12, _⟩ => ⟨S2176x2816, .f32⟩
  | .hbm, ⟨13, _⟩ => ⟨S2176x2816, .f32⟩
  | .hbm, ⟨14, _⟩ => ⟨S_, .f32⟩
  | .hbm, ⟨15, _⟩ => ⟨S2176x2816, .f32⟩
  | .hbm, ⟨16, _⟩ => ⟨S2176x2816, .f32⟩
  | .hbm, ⟨17, _⟩ => ⟨S_, .f32⟩
  | .hbm, ⟨18, _⟩ => ⟨S2176x2816, .f32⟩
  | .hbm, ⟨19, _⟩ => ⟨S2176x2816, .f32⟩
  | .hbm, ⟨20, _⟩ => ⟨S_, .f32⟩
  | .hbm, ⟨21, _⟩ => ⟨S2176x2816, .f32⟩
  | .hbm, ⟨22, _⟩ => ⟨S2176x2816, .f32⟩
  | .hbm, ⟨23, _⟩ => ⟨S2176x2816, .f32⟩
  | .hbm, ⟨24, _⟩ => ⟨S2176x2816, .f32⟩
  | .hbm, ⟨25, _⟩ => ⟨S2176x2816, .f32⟩
  | .hbm, ⟨26, _⟩ => ⟨S2176x1024, .f32⟩
  | .hbm, ⟨27, _⟩ => ⟨S2176x1024, .f32⟩
  | .hbm, ⟨28, _⟩ => ⟨S2176x2816, .f32⟩
  | .hbm, ⟨29, _⟩ => ⟨S2176x2816, .f32⟩
  | .hbm, ⟨30, _⟩ => ⟨S2176x2816, .f32⟩
  | .hbm, ⟨31, _⟩ => ⟨S2176x2816, .f32⟩
  | .hbm, ⟨32, _⟩ => ⟨S2176x2816, .f32⟩
  | .hbm, ⟨33, _⟩ => ⟨S2176x2816, .f32⟩
  | .hbm, ⟨34, _⟩ => ⟨S2176x2816, .f32⟩
  | .hbm, ⟨35, _⟩ => ⟨S2176x4x704, .f32⟩
  | .hbm, ⟨36, _⟩ => ⟨S4x2176x704, .f32⟩
  | .hbm, ⟨37, _⟩ => ⟨S2176x4x704, .f32⟩
  | .hbm, ⟨38, _⟩ => ⟨S4x2176x704, .f32⟩
  | .hbm, ⟨39, _⟩ => ⟨S1x4x2176x704, .f32⟩
  | .hbm, ⟨40, _⟩ => ⟨S1x4x2176x704, .f32⟩
  | .hbm, ⟨41, _⟩ => ⟨S2x4x2176x704, .f32⟩
  | .hbm, ⟨42, _⟩ => ⟨S2x4x2176x704, .bf16⟩
  | _, _ => ⟨S2176x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_v8_2 : Ref sig .tc := ⟨.hbm, 19, rfl⟩
abbrev main_call0_cst_1 : Ref sig .tc := ⟨.hbm, 20, rfl⟩
abbrev main_call0_v6 : Ref sig .tc := ⟨.hbm, 21, rfl⟩
abbrev main_call0_v7 : Ref sig .tc := ⟨.hbm, 22, rfl⟩
abbrev main_v8_1 : Ref sig .tc := ⟨.hbm, 23, rfl⟩
abbrev main_v8_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩

abbrev nD : Nat := 1
abbrev τ : Topo := Topo.v7x

variable {F : FTy → Type} [FloatOps F]
-- ==== InDwK.lean ====
abbrev S2176x1024 : Shape := ⟨2, ![2176, 1024]⟩
abbrev S2176x7168 : Shape := ⟨2, ![2176, 7168]⟩
abbrev S8x1024x896 : Shape := ⟨3, ![8, 1024, 896]⟩
abbrev S2176x896 : Shape := ⟨2, ![2176, 896]⟩
abbrev S1x1024x896 : Shape := ⟨3, ![1, 1024, 896]⟩
abbrev S1024x896 : Shape := ⟨2, ![1024, 896]⟩

abbrev nBuf : Space → Nat
  | .hbm => 4
  | .vmem => 7
  | .smem => 0
  | _ => 0

abbrev bufTy : (tb : Table) → Fin (tcTables nBuf tb) → BufTy
  | .hbm, ⟨0, _⟩ => ⟨S2176x1024, .bf16⟩
  | .hbm, ⟨1, _⟩ => ⟨S2176x7168, .bf16⟩
  | .hbm, ⟨2, _⟩ => ⟨S8x1024x896, .f32⟩
  | .hbm, ⟨3, _⟩ => ⟨S8x1024x896, .bf16⟩
  | .local _ .vmem, ⟨0, _⟩ => ⟨S2176x1024, .bf16⟩
  | .local _ .vmem, ⟨1, _⟩ => ⟨S2176x896, .bf16⟩
  | .local _ .vmem, ⟨2, _⟩ => ⟨S2176x896, .bf16⟩
  | .local _ .vmem, ⟨3, _⟩ => ⟨S1x1024x896, .f32⟩
  | .local _ .vmem, ⟨4, _⟩ => ⟨S1x1024x896, .f32⟩
  | .local _ .vmem, ⟨5, _⟩ => ⟨S1x1024x896, .bf16⟩
  | .local _ .vmem, ⟨6, _⟩ => ⟨S1x1024x896, .bf16⟩
  | _, _ => ⟨S2176x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2176x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2176x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x896 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== InDwRIdeal.lean ====
abbrev S2176x1024 : Shape := ⟨2, ![2176, 1024]⟩
abbrev S2176x7168 : Shape := ⟨2, ![2176, 7168]⟩
abbrev S_ : Shape := ⟨0, ![]⟩
abbrev S1024x7168 : Shape := ⟨2, ![1024, 7168]⟩
abbrev S7168x1024 : Shape := ⟨2, ![7168, 1024]⟩
abbrev S1024x8x896 : Shape := ⟨3, ![1024, 8, 896]⟩
abbrev S8x1024x896 : Shape := ⟨3, ![8, 1024, 896]⟩

abbrev nBuf : Space → Nat
  | .hbm => 12
  | .vmem => 0
  | .smem => 0
  | _ => 0

abbrev bufTy : (tb : Table) → Fin (tcTables nBuf tb) → BufTy
  | .hbm, ⟨0, _⟩ => ⟨S2176x1024, .bf16⟩
  | .hbm, ⟨1, _⟩ => ⟨S2176x7168, .bf16⟩
  | .hbm, ⟨2, _⟩ => ⟨S_, .f32⟩
  | .hbm, ⟨3, _⟩ => ⟨S1024x7168, .f32⟩
  | .hbm, ⟨4, _⟩ => ⟨S2176x1024, .f32⟩
  | .hbm, ⟨5, _⟩ => ⟨S2176x7168, .f32⟩
  | .hbm, ⟨6, _⟩ => ⟨S2176x7168, .f32⟩
  | .hbm, ⟨7, _⟩ => ⟨S7168x1024, .f32⟩
  | .hbm, ⟨8, _⟩ => ⟨S1024x7168, .f32⟩
  | .hbm, ⟨9, _⟩ => ⟨S1024x8x896, .f32⟩
  | .hbm, ⟨10, _⟩ => ⟨S8x1024x896, .f32⟩
  | .hbm, ⟨11, _⟩ => ⟨S8x1024x896, .bf16⟩
  | _, _ => ⟨S2176x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== FinDwK.lean ====
abbrev S8x2176x704 : Shape := ⟨3, ![8, 2176, 704]⟩
abbrev S2176x1024 : Shape := ⟨2, ![2176, 1024]⟩
abbrev S8x704x1024 : Shape := ⟨3, ![8, 704, 1024]⟩
abbrev S1x2176x704 : Shape := ⟨3, ![1, 2176, 704]⟩
abbrev S1x704x1024 : Shape := ⟨3, ![1, 704, 1024]⟩
abbrev S2176x704 : Shape := ⟨2, ![2176, 704]⟩
abbrev S704x1024 : Shape := ⟨2, ![704, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8x2176x704, .bf16⟩
  | .hbm, ⟨1, _⟩ => ⟨S2176x1024, .bf16⟩
  | .hbm, ⟨2, _⟩ => ⟨S8x704x1024, .f32⟩
  | .hbm, ⟨3, _⟩ => ⟨S8x704x1024, .bf16⟩
  | .local _ .vmem, ⟨0, _⟩ => ⟨S1x2176x704, .bf16⟩
  | .local _ .vmem, ⟨1, _⟩ => ⟨S1x2176x704, .bf16⟩
  | .local _ .vmem, ⟨2, _⟩ => ⟨S2176x1024, .bf16⟩
  | .local _ .vmem, ⟨3, _⟩ => ⟨S1x704x1024, .f32⟩
  | .local _ .vmem, ⟨4, _⟩ => ⟨S1x704x1024, .f32⟩
  | .local _ .vmem, ⟨5, _⟩ => ⟨S1x704x1024, .bf16⟩
  | .local _ .vmem, ⟨6, _⟩ => ⟨S1x704x1024, .bf16⟩
  | _, _ => ⟨S8x2176x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2176x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2176x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FinDwRIdeal.lean ====
abbrev S8x2176x704 : Shape := ⟨3, ![8, 2176, 704]⟩
abbrev S2176x1024 : Shape := ⟨2, ![2176, 1024]⟩
abbrev S_ : Shape := ⟨0, ![]⟩
abbrev S1024x5632 : Shape := ⟨2, ![1024, 5632]⟩
abbrev S2176x5632 : Shape := ⟨2, ![2176, 5632]⟩
abbrev S2176x2816 : Shape := ⟨2, ![2176, 2816]⟩
abbrev S4x2176x704 : Shape := ⟨3, ![4, 2176, 704]⟩
abbrev S2176x4x704 : Shape := ⟨3, ![2176, 4, 704]⟩
abbrev S5632x1024 : Shape := ⟨2, ![5632, 1024]⟩
abbrev S8x704x1024 : Shape := ⟨3, ![8, 704, 1024]⟩

abbrev nBuf : Space → Nat
  | .hbm => 22
  | .vmem => 0
  | .smem => 0
  | _ => 0

abbrev bufTy : (tb : Table) → Fin (tcTables nBuf tb) → BufTy
  | .hbm, ⟨0, _⟩ => ⟨S8x2176x704, .bf16⟩
  | .hbm, ⟨1, _⟩ => ⟨S2176x1024, .bf16⟩
  | .hbm, ⟨2, _⟩ => ⟨S_, .f32⟩
  | .hbm, ⟨3, _⟩ => ⟨S1024x5632, .f32⟩
  | .hbm, ⟨4, _⟩ => ⟨S2176x1024, .f32⟩
  | .hbm, ⟨5, _⟩ => ⟨S2176x5632, .f32⟩
  | .hbm, ⟨6, _⟩ => ⟨S2176x2816, .f32⟩
  | .hbm, ⟨7, _⟩ => ⟨S2176x2816, .f32⟩
  | .hbm, ⟨8, _⟩ => ⟨S4x2176x704, .bf16⟩
  | .hbm, ⟨9, _⟩ => ⟨S4x2176x704, .f32⟩
  | .hbm, ⟨10, _⟩ => ⟨S2176x4x704, .f32⟩
  | .hbm, ⟨11, _⟩ => ⟨S2176x2816, .f32⟩
  | .hbm, ⟨12, _⟩ => ⟨S4x2176x704, .bf16⟩
  | .hbm, ⟨13, _⟩ => ⟨S4x2176x704, .f32⟩
  | .hbm, ⟨14, _⟩ => ⟨S2176x4x704, .f32⟩
  | .hbm, ⟨15, _⟩ => ⟨S2176x2816, .f32⟩
  | .hbm, ⟨16, _⟩ => ⟨S2176x5632, .f32⟩
  | .hbm, ⟨17, _⟩ => ⟨S5632x1024, .f32⟩
  | .hbm, ⟨18, _⟩ => ⟨S1024x5632, .f32⟩
  | .hbm, ⟨19, _⟩ => ⟨S5632x1024, .f32⟩
  | .hbm, ⟨20, _⟩ => ⟨S8x704x1024, .f32⟩
  | .hbm, ⟨21, _⟩ => ⟨S8x704x1024, .bf16⟩
  | _, _ => ⟨S8x2176x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩

abbrev nD : Nat := 1
abbrev τ : Topo := Topo.v7x

variable {F : FTy → Type} [FloatOps F]
-- ==== FinDxK.lean ====
abbrev S8x2176x704 : Shape := ⟨3, ![8, 2176, 704]⟩
abbrev S8x704x1024 : Shape := ⟨3, ![8, 704, 1024]⟩
abbrev S2176x1024 : Shape := ⟨2, ![2176, 1024]⟩
abbrev S1x2176x704 : Shape := ⟨3, ![1, 2176, 704]⟩
abbrev S1x704x1024 : Shape := ⟨3, ![1, 704, 1024]⟩
abbrev S2176x704 : Shape := ⟨2, ![2176, 704]⟩
abbrev S704x1024 : Shape := ⟨2, ![704, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8x2176x704, .bf16⟩
  | .hbm, ⟨1, _⟩ => ⟨S8x704x1024, .bf16⟩
  | .hbm, ⟨2, _⟩ => ⟨S2176x1024, .f32⟩
  | .local _ .vmem, ⟨0, _⟩ => ⟨S1x2176x704, .bf16⟩
  | .local _ .vmem, ⟨1, _⟩ => ⟨S1x2176x704, .bf16⟩
  | .local _ .vmem, ⟨2, _⟩ => ⟨S1x704x1024, .bf16⟩
  | .local _ .vmem, ⟨3, _⟩ => ⟨S1x704x1024, .bf16⟩
  | .local _ .vmem, ⟨4, _⟩ => ⟨S2176x1024, .f32⟩
  | _, _ => ⟨S8x2176x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v5 : BitVec 1 := Scalar.cmpi .eq arg0 c0_i32
  let v6 : BitVec 32 := Scalar.extui v5
  let c0_i32_5 : BitVec 32 := 0#32
  let v7 : BitVec 1 := Scalar.cmpi .ne v6 c0_i32_5
  v7

def k0_cond2 (i : grid0.Coords) : BitVec 1 :=
  let arg0 : BitVec 32 := BitVec.ofNat 32 (i 0).val
  let c0_i32_6 : BitVec 32 := 0#32
  let v8 : BitVec 1 := Scalar.cmpi .sgt arg0 c0_i32_6
  let v9 : BitVec 32 := Scalar.extui v8
  let c0_i32_7 : BitVec 32 := 0#32
  let v10 : BitVec 1 := Scalar.cmpi .ne v9 c0_i32_7
  v10

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x2176x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2176x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== FinDxRIdeal.lean ====
abbrev S8x2176x704 : Shape := ⟨3, ![8, 2176, 704]⟩
abbrev S8x704x1024 : Shape := ⟨3, ![8, 704, 1024]⟩
abbrev S_ : Shape := ⟨0, ![]⟩
abbrev S2176x1024 : Shape := ⟨2, ![2176, 1024]⟩
abbrev S5632x1024 : Shape := ⟨2, ![5632, 1024]⟩
abbrev S1024x5632 : Shape := ⟨2, ![1024, 5632]⟩
abbrev S2176x5632 : Shape := ⟨2, ![2176, 5632]⟩
abbrev S2176x2816 : Shape := ⟨2, ![2176, 2816]⟩
abbrev S4x2176x704 : Shape := ⟨3, ![4, 2176, 704]⟩
abbrev S2176x4x704 : Shape := ⟨3, ![2176, 4, 704]⟩

abbrev nBuf : Space → Nat
  | .hbm => 20
  | .vmem => 0
  | .smem => 0
  | _ => 0

abbrev bufTy : (tb : Table) → Fin (tcTables nBuf tb) → BufTy
  | .hbm, ⟨0, _⟩ => ⟨S8x2176x704, .bf16⟩
  | .hbm, ⟨1, _⟩ => ⟨S8x704x1024, .bf16⟩
  | .hbm, ⟨2, _⟩ => ⟨S_, .f32⟩
  | .hbm, ⟨3, _⟩ => ⟨S2176x1024, .f32⟩
  | .hbm, ⟨4, _⟩ => ⟨S8x704x1024, .f32⟩
  | .hbm, ⟨5, _⟩ => ⟨S5632x1024, .f32⟩
  | .hbm, ⟨6, _⟩ => ⟨S1024x5632, .f32⟩
  | .hbm, ⟨7, _⟩ => ⟨S2176x5632, .f32⟩
  | .hbm, ⟨8, _⟩ => ⟨S2176x2816, .f32⟩
  | .hbm, ⟨9, _⟩ => ⟨S2176x2816, .f32⟩
  | .hbm, ⟨10, _⟩ => ⟨S4x2176x704, .bf16⟩
  | .hbm, ⟨11, _⟩ => ⟨S4x2176x704, .f32⟩
  | .hbm, ⟨12, _⟩ => ⟨S2176x4x704, .f32⟩
  | .hbm, ⟨13, _⟩ => ⟨S2176x2816, .f32⟩
  | .hbm, ⟨14, _⟩ => ⟨S4x2176x704, .bf16⟩
  | .hbm, ⟨15, _⟩ => ⟨S4x2176x704, .f32⟩
  | .hbm, ⟨16, _⟩ => ⟨S2176x4x704, .f32⟩
  | .hbm, ⟨17, _⟩ => ⟨S2176x2816, .f32⟩
  | .hbm, ⟨18, _⟩ => ⟨S2176x5632, .f32⟩
  | .hbm, ⟨19, _⟩ => ⟨S2176x1024, .f32⟩
  | _, _ => ⟨S8x2176x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩

abbrev nD : Nat := 1
abbrev τ : Topo := Topo.v7x

variable {F : FTy → Type} [FloatOps F]
-- ==== FoutDwK.lean ====
abbrev S4x2176x704 : Shape := ⟨3, ![4, 2176, 704]⟩
abbrev S2176x1024 : Shape := ⟨2, ![2176, 1024]⟩
abbrev S4x704x1024 : Shape := ⟨3, ![4, 704, 1024]⟩
abbrev S1x2176x704 : Shape := ⟨3, ![1, 2176, 704]⟩
abbrev S1x704x1024 : Shape := ⟨3, ![1, 704, 1024]⟩
abbrev S2176x704 : Shape := ⟨2, ![2176, 704]⟩
abbrev S704x1024 : Shape := ⟨2, ![704, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4x2176x704, .bf16⟩
  | .hbm, ⟨1, _⟩ => ⟨S2176x1024, .bf16⟩
  | .hbm, ⟨2, _⟩ => ⟨S4x704x1024, .f32⟩
  | .hbm, ⟨3, _⟩ => ⟨S4x704x1024, .bf16⟩
  | .local _ .vmem, ⟨0, _⟩ => ⟨S1x2176x704, .bf16⟩
  | .local _ .vmem, ⟨1, _⟩ => ⟨S1x2176x704, .bf16⟩
  | .local _ .vmem, ⟨2, _⟩ => ⟨S2176x1024, .bf16⟩
  | .local _ .vmem, ⟨3, _⟩ => ⟨S1x704x1024, .f32⟩
  | .local _ .vmem, ⟨4, _⟩ => ⟨S1x704x1024, .f32⟩
  | .local _ .vmem, ⟨5, _⟩ => ⟨S1x704x1024, .bf16⟩
  | .local _ .vmem, ⟨6, _⟩ => ⟨S1x704x1024, .bf16⟩
  | _, _ => ⟨S4x2176x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2176x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2176x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FoutDwRIdeal.lean ====
abbrev S4x2176x704 : Shape := ⟨3, ![4, 2176, 704]⟩
abbrev S2176x1024 : Shape := ⟨2, ![2176, 1024]⟩
abbrev S_ : Shape := ⟨0, ![]⟩
abbrev S2816x1024 : Shape := ⟨2, ![2816, 1024]⟩
abbrev S2176x4x704 : Shape := ⟨3, ![2176, 4, 704]⟩
abbrev S2176x2816 : Shape := ⟨2, ![2176, 2816]⟩
abbrev S1024x2816 : Shape := ⟨2, ![1024, 2816]⟩
abbrev S4x704x1024 : Shape := ⟨3, ![4, 704, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4x2176x704, .bf16⟩
  | .hbm, ⟨1, _⟩ => ⟨S2176x1024, .bf16⟩
  | .hbm, ⟨2, _⟩ => ⟨S_, .f32⟩
  | .hbm, ⟨3, _⟩ => ⟨S2816x1024, .f32⟩
  | .hbm, ⟨4, _⟩ => ⟨S4x2176x704, .f32⟩
  | .hbm, ⟨5, _⟩ => ⟨S2176x4x704, .f32⟩
  | .hbm, ⟨6, _⟩ => ⟨S2176x2816, .f32⟩
  | .hbm, ⟨7, _⟩ => ⟨S2176x1024, .f32⟩
  | .hbm, ⟨8, _⟩ => ⟨S2176x1024, .f32⟩
  | .hbm, ⟨9, _⟩ => ⟨S1024x2816, .f32⟩
  | .hbm, ⟨10, _⟩ => ⟨S2816x1024, .f32⟩
  | .hbm, ⟨11, _⟩ => ⟨S4x704x1024, .f32⟩
  | .hbm, ⟨12, _⟩ => ⟨S4x704x1024, .bf16⟩
  | _, _ => ⟨S4x2176x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== MixDwK.lean ====
abbrev S2176x1024 : Shape := ⟨2, ![2176, 1024]⟩
abbrev S1024x1024 : Shape := ⟨2, ![1024, 1024]⟩
abbrev S2176x256 : Shape := ⟨2, ![2176, 256]⟩
abbrev S1024x256 : Shape := ⟨2, ![1024, 256]⟩

abbrev nBuf : Space → Nat
  | .hbm => 4
  | .vmem => 7
  | .smem => 0
  | _ => 0

abbrev bufTy : (tb : Table) → Fin (tcTables nBuf tb) → BufTy
  | .hbm, ⟨0, _⟩ => ⟨S2176x1024, .bf16⟩
  | .hbm, ⟨1, _⟩ => ⟨S2176x1024, .bf16⟩
  | .hbm, ⟨2, _⟩ => ⟨S1024x1024, .f32⟩
  | .hbm, ⟨3, _⟩ => ⟨S1024x1024, .bf16⟩
  | .local _ .vmem, ⟨0, _⟩ => ⟨S2176x1024, .bf16⟩
  | .local _ .vmem, ⟨1, _⟩ => ⟨S2176x256, .bf16⟩
  | .local _ .vmem, ⟨2, _⟩ => ⟨S2176x256, .bf16⟩
  | .local _ .vmem, ⟨3, _⟩ => ⟨S1024x256, .f32⟩
  | .local _ .vmem, ⟨4, _⟩ => ⟨S1024x256, .f32⟩
  | .local _ .vmem, ⟨5, _⟩ => ⟨S1024x256, .bf16⟩
  | .local _ .vmem, ⟨6, _⟩ => ⟨S1024x256, .bf16⟩
  | _, _ => ⟨S2176x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2176x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2176x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MixDwRIdeal.lean ====
abbrev S2176x1024 : Shape := ⟨2, ![2176, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2176x1024, .bf16⟩
  | .hbm, ⟨1, _⟩ => ⟨S2176x1024, .bf16⟩
  | .hbm, ⟨2, _⟩ => ⟨S_, .f32⟩
  | .hbm, ⟨3, _⟩ => ⟨S1024x1024, .f32⟩
  | .hbm, ⟨4, _⟩ => ⟨S2176x1024, .f32⟩
  | .hbm, ⟨5, _⟩ => ⟨S2176x1024, .f32⟩
  | .hbm, ⟨6, _⟩ => ⟨S2176x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S2176x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== AttnDwK.lean ====
abbrev S2176x1024 : Shape := ⟨2, ![2176, 1024]⟩
abbrev S1024x1024 : Shape := ⟨2, ![1024, 1024]⟩
abbrev S2176x256 : Shape := ⟨2, ![2176, 256]⟩
abbrev S1024x256 : Shape := ⟨2, ![1024, 256]⟩

abbrev nBuf : Space → Nat
  | .hbm => 4
  | .vmem => 7
  | .smem => 0
  | _ => 0

abbrev bufTy : (tb : Table) → Fin (tcTables nBuf tb) → BufTy
  | .hbm, ⟨0, _⟩ => ⟨S2176x1024, .bf16⟩
  | .hbm, ⟨1, _⟩ => ⟨S2176x1024, .bf16⟩
  | .hbm, ⟨2, _⟩ => ⟨S1024x1024, .f32⟩
  | .hbm, ⟨3, _⟩ => ⟨S1024x1024, .bf16⟩
  | .local _ .vmem, ⟨0, _⟩ => ⟨S2176x1024, .bf16⟩
  | .local _ .vmem, ⟨1, _⟩ => ⟨S2176x256, .bf16⟩
  | .local _ .vmem, ⟨2, _⟩ => ⟨S2176x256, .bf16⟩
  | .local _ .vmem, ⟨3, _⟩ => ⟨S1024x256, .f32⟩
  | .local _ .vmem, ⟨4, _⟩ => ⟨S1024x256, .f32⟩
  | .local _ .vmem, ⟨5, _⟩ => ⟨S1024x256, .bf16⟩
  | .local _ .vmem, ⟨6, _⟩ => ⟨S1024x256, .bf16⟩
  | _, _ => ⟨S2176x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2176x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2176x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AttnDwRIdeal.lean ====
abbrev S2176x1024 : Shape := ⟨2, ![2176, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2176x1024, .bf16⟩
  | .hbm, ⟨1, _⟩ => ⟨S2176x1024, .bf16⟩
  | .hbm, ⟨2, _⟩ => ⟨S_, .f32⟩
  | .hbm, ⟨3, _⟩ => ⟨S1024x1024, .f32⟩
  | .hbm, ⟨4, _⟩ => ⟨S2176x1024, .f32⟩
  | .hbm, ⟨5, _⟩ => ⟨S2176x1024, .f32⟩
  | .hbm, ⟨6, _⟩ => ⟨S2176x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S2176x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ConvDwK.lean ====
abbrev S2176x1024 : Shape := ⟨2, ![2176, 1024]⟩
abbrev S1024x1024 : Shape := ⟨2, ![1024, 1024]⟩
abbrev S2176x256 : Shape := ⟨2, ![2176, 256]⟩
abbrev S1024x256 : Shape := ⟨2, ![1024, 256]⟩

abbrev nBuf : Space → Nat
  | .hbm => 4
  | .vmem => 7
  | .smem => 0
  | _ => 0

abbrev bufTy : (tb : Table) → Fin (tcTables nBuf tb) → BufTy
  | .hbm, ⟨0, _⟩ => ⟨S2176x1024, .bf16⟩
  | .hbm, ⟨1, _⟩ => ⟨S2176x1024, .bf16⟩
  | .hbm, ⟨2, _⟩ => ⟨S1024x1024, .f32⟩
  | .hbm, ⟨3, _⟩ => ⟨S1024x1024, .bf16⟩
  | .local _ .vmem, ⟨0, _⟩ => ⟨S2176x1024, .bf16⟩
  | .local _ .vmem, ⟨1, _⟩ => ⟨S2176x256, .bf16⟩
  | .local _ .vmem, ⟨2, _⟩ => ⟨S2176x256, .bf16⟩
  | .local _ .vmem, ⟨3, _⟩ => ⟨S1024x256, .f32⟩
  | .local _ .vmem, ⟨4, _⟩ => ⟨S1024x256, .f32⟩
  | .local _ .vmem, ⟨5, _⟩ => ⟨S1024x256, .bf16⟩
  | .local _ .vmem, ⟨6, _⟩ => ⟨S1024x256, .bf16⟩
  | _, _ => ⟨S2176x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2176x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2176x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ConvDwRIdeal.lean ====
abbrev S2176x1024 : Shape := ⟨2, ![2176, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2176x1024, .bf16⟩
  | .hbm, ⟨1, _⟩ => ⟨S2176x1024, .bf16⟩
  | .hbm, ⟨2, _⟩ => ⟨S_, .f32⟩
  | .hbm, ⟨3, _⟩ => ⟨S1024x1024, .f32⟩
  | .hbm, ⟨4, _⟩ => ⟨S2176x1024, .f32⟩
  | .hbm, ⟨5, _⟩ => ⟨S2176x1024, .f32⟩
  | .hbm, ⟨6, _⟩ => ⟨S2176x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S2176x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== AttnDxK.lean ====
abbrev S2176x1024 : Shape := ⟨2, ![2176, 1024]⟩
abbrev S1024x1024 : Shape := ⟨2, ![1024, 1024]⟩
abbrev S256x1024 : Shape := ⟨2, ![256, 1024]⟩
abbrev S2176x256 : Shape := ⟨2, ![2176, 256]⟩

abbrev nBuf : Space → Nat
  | .hbm => 3
  | .vmem => 5
  | .smem => 0
  | _ => 0

abbrev bufTy : (tb : Table) → Fin (tcTables nBuf tb) → BufTy
  | .hbm, ⟨0, _⟩ => ⟨S2176x1024, .bf16⟩
  | .hbm, ⟨1, _⟩ => ⟨S1024x1024, .bf16⟩
  | .hbm, ⟨2, _⟩ => ⟨S2176x1024, .bf16⟩
  | .local _ .vmem, ⟨0, _⟩ => ⟨S2176x1024, .bf16⟩
  | .local _ .vmem, ⟨1, _⟩ => ⟨S256x1024, .bf16⟩
  | .local _ .vmem, ⟨2, _⟩ => ⟨S256x1024, .bf16⟩
  | .local _ .vmem, ⟨3, _⟩ => ⟨S2176x256, .bf16⟩
  | .local _ .vmem, ⟨4, _⟩ => ⟨S2176x256, .bf16⟩
  | _, _ => ⟨S2176x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2176x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2176x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== AttnDxRIdeal.lean ====
abbrev S2176x1024 : Shape := ⟨2, ![2176, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2176x1024, .bf16⟩
  | .hbm, ⟨1, _⟩ => ⟨S1024x1024, .bf16⟩
  | .hbm, ⟨2, _⟩ => ⟨S_, .f32⟩
  | .hbm, ⟨3, _⟩ => ⟨S2176x1024, .f32⟩
  | .hbm, ⟨4, _⟩ => ⟨S1024x1024, .f32⟩
  | .hbm, ⟨5, _⟩ => ⟨S2176x1024, .f32⟩
  | .hbm, ⟨6, _⟩ => ⟨S2176x1024, .f32⟩
  | .hbm, ⟨7, _⟩ => ⟨S2176x1024, .f32⟩
  | .hbm, ⟨8, _⟩ => ⟨S2176x1024, .bf16⟩
  | _, _ => ⟨S2176x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ConvDxK.lean ====
abbrev S2176x1024 : Shape := ⟨2, ![2176, 1024]⟩
abbrev S1024x1024 : Shape := ⟨2, ![1024, 1024]⟩
abbrev S256x1024 : Shape := ⟨2, ![256, 1024]⟩
abbrev S2176x256 : Shape := ⟨2, ![2176, 256]⟩

abbrev nBuf : Space → Nat
  | .hbm => 3
  | .vmem => 5
  | .smem => 0
  | _ => 0

abbrev bufTy : (tb : Table) → Fin (tcTables nBuf tb) → BufTy
  | .hbm, ⟨0, _⟩ => ⟨S2176x1024, .bf16⟩
  | .hbm, ⟨1, _⟩ => ⟨S1024x1024, .bf16⟩
  | .hbm, ⟨2, _⟩ => ⟨S2176x1024, .f32⟩
  | .local _ .vmem, ⟨0, _⟩ => ⟨S2176x1024, .bf16⟩
  | .local _ .vmem, ⟨1, _⟩ => ⟨S256x1024, .bf16⟩
  | .local _ .vmem, ⟨2, _⟩ => ⟨S256x1024, .bf16⟩
  | .local _ .vmem, ⟨3, _⟩ => ⟨S2176x256, .f32⟩
  | .local _ .vmem, ⟨4, _⟩ => ⟨S2176x256, .f32⟩
  | _, _ => ⟨S2176x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2176x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2176x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ConvDxRIdeal.lean ====
abbrev S2176x1024 : Shape := ⟨2, ![2176, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2176x1024, .bf16⟩
  | .hbm, ⟨1, _⟩ => ⟨S1024x1024, .bf16⟩
  | .hbm, ⟨2, _⟩ => ⟨S_, .f32⟩
  | .hbm, ⟨3, _⟩ => ⟨S2176x1024, .f32⟩
  | .hbm, ⟨4, _⟩ => ⟨S1024x1024, .f32⟩
  | .hbm, ⟨5, _⟩ => ⟨S2176x1024, .f32⟩
  | .hbm, ⟨6, _⟩ => ⟨S2176x1024, .f32⟩
  | .hbm, ⟨7, _⟩ => ⟨S2176x1024, .f32⟩
  | _, _ => ⟨S2176x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== FinK.lean ====
abbrev S2176x1024 : Shape := ⟨2, ![2176, 1024]⟩
abbrev S8x704x1024 : Shape := ⟨3, ![8, 704, 1024]⟩
abbrev S4x2176x704 : Shape := ⟨3, ![4, 2176, 704]⟩
abbrev S1088x1024 : Shape := ⟨2, ![1088, 1024]⟩
abbrev S1x704x1024 : Shape := ⟨3, ![1, 704, 1024]⟩
abbrev S1x1088x704 : Shape := ⟨3, ![1, 1088, 704]⟩
abbrev S704x1024 : Shape := ⟨2, ![704, 1024]⟩
abbrev S1088x704 : Shape := ⟨2, ![1088, 704]⟩

abbrev nBuf : Space → Nat
  | .hbm => 5
  | .vmem => 12
  | .smem => 0
  | _ => 0

abbrev bufTy : (tb : Table) → Fin (tcTables nBuf tb) → BufTy
  | .hbm, ⟨0, _⟩ => ⟨S2176x1024, .bf16⟩
  | .hbm, ⟨1, _⟩ => ⟨S8x704x1024, .bf16⟩
  | .hbm, ⟨2, _⟩ => ⟨S4x2176x704, .bf16⟩
  | .hbm, ⟨3, _⟩ => ⟨S4x2176x704, .bf16⟩
  | .hbm, ⟨4, _⟩ => ⟨S4x2176x704, .bf16⟩
  | .local _ .vmem, ⟨0, _⟩ => ⟨S1088x1024, .bf16⟩
  | .local _ .vmem, ⟨1, _⟩ => ⟨S1088x1024, .bf16⟩
  | .local _ .vmem, ⟨2, _⟩ => ⟨S1x704x1024, .bf16⟩
  | .local _ .vmem, ⟨3, _⟩ => ⟨S1x704x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S1x1088x704, .bf16⟩
  | .local _ .vmem, ⟨7, _⟩ => ⟨S1x1088x704, .bf16⟩
  | .local _ .vmem, ⟨8, _⟩ => ⟨S1x1088x704, .bf16⟩
  | .local _ .vmem, ⟨9, _⟩ => ⟨S1x1088x704, .bf16⟩
  | .local _ .vmem, ⟨10, _⟩ => ⟨S1x1088x704, .bf16⟩
  | .local _ .vmem, ⟨11, _⟩ => ⟨S1x1088x704, .bf16⟩
  | _, _ => ⟨S2176x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1088x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1088x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1088x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FinRIdeal.lean ====
abbrev S2176x1024 : Shape := ⟨2, ![2176, 1024]⟩
abbrev S8x704x1024 : Shape := ⟨3, ![8, 704, 1024]⟩
abbrev S5632x1024 : Shape := ⟨2, ![5632, 1024]⟩
abbrev S1024x5632 : Shape := ⟨2, ![1024, 5632]⟩
abbrev S2176x5632 : Shape := ⟨2, ![2176, 5632]⟩
abbrev S2176x2816 : Shape := ⟨2, ![2176, 2816]⟩
abbrev S2176x4x704 : Shape := ⟨3, ![2176, 4, 704]⟩
abbrev S4x2176x704 : Shape := ⟨3, ![4, 2176, 704]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S2176x1024, .bf16⟩
  | .hbm, ⟨1, _⟩ => ⟨S8x704x1024, .bf16⟩
  | .hbm, ⟨2, _⟩ => ⟨S2176x1024, .f32⟩
  | .hbm, ⟨3, _⟩ => ⟨S8x704x1024, .f32⟩
  | .hbm, ⟨4, _⟩ => ⟨S5632x1024, .f32⟩
  | .hbm, ⟨5, _⟩ => ⟨S1024x5632, .f32⟩
  | .hbm, ⟨6, _⟩ => ⟨S2176x5632, .f32⟩
  | .hbm, ⟨7, _⟩ => ⟨S2176x2816, .f32⟩
  | .hbm, ⟨8, _⟩ => ⟨S2176x2816, .f32⟩
  | .hbm, ⟨9, _⟩ => ⟨S2176x4x704, .f32⟩
  | .hbm, ⟨10, _⟩ => ⟨S4x2176x704, .f32⟩
  | .hbm, ⟨11, _⟩ => ⟨S4x2176x704, .bf16⟩
  | .hbm, ⟨12, _⟩ => ⟨S2176x4x704, .f32⟩
  | .hbm, ⟨13, _⟩ => ⟨S4x2176x704, .f32⟩
  | .hbm, ⟨14, _⟩ => ⟨S4x2176x704, .bf16⟩
  | .hbm, ⟨15, _⟩ => ⟨S2176x2816, .f32⟩
  | .hbm, ⟨16, _⟩ => ⟨S2176x2816, .f32⟩
  | .hbm, ⟨17, _⟩ => ⟨S_, .f32⟩
  | .hbm, ⟨18, _⟩ => ⟨S2176x2816, .f32⟩
  | .hbm, ⟨19, _⟩ => ⟨S2176x2816, .f32⟩
  | .hbm, ⟨20, _⟩ => ⟨S_, .f32⟩
  | .hbm, ⟨21, _⟩ => ⟨S2176x2816, .f32⟩
  | .hbm, ⟨22, _⟩ => ⟨S2176x2816, .f32⟩
  | .hbm, ⟨23, _⟩ => ⟨S2176x2816, .f32⟩
  | .hbm, ⟨24, _⟩ => ⟨S2176x2816, .f32⟩
  | .hbm, ⟨25, _⟩ => ⟨S2176x4x704, .f32⟩
  | .hbm, ⟨26, _⟩ => ⟨S4x2176x704, .f32⟩
  | .hbm, ⟨27, _⟩ => ⟨S4x2176x704, .bf16⟩
  | _, _ => ⟨S2176x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]
-- ==== FoutK.lean ====
abbrev S4x2176x704 : Shape := ⟨3, ![4, 2176, 704]⟩
abbrev S4x704x1024 : Shape := ⟨3, ![4, 704, 1024]⟩
abbrev S2176x1024 : Shape := ⟨2, ![2176, 1024]⟩
abbrev S1x2176x704 : Shape := ⟨3, ![1, 2176, 704]⟩
abbrev S1x704x1024 : Shape := ⟨3, ![1, 704, 1024]⟩
abbrev S2176x704 : Shape := ⟨2, ![2176, 704]⟩
abbrev S704x1024 : Shape := ⟨2, ![704, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4x2176x704, .bf16⟩
  | .hbm, ⟨1, _⟩ => ⟨S4x704x1024, .bf16⟩
  | .hbm, ⟨2, _⟩ => ⟨S2176x1024, .f32⟩
  | .local _ .vmem, ⟨0, _⟩ => ⟨S1x2176x704, .bf16⟩
  | .local _ .vmem, ⟨1, _⟩ => ⟨S1x2176x704, .bf16⟩
  | .local _ .vmem, ⟨2, _⟩ => ⟨S1x704x1024, .bf16⟩
  | .local _ .vmem, ⟨3, _⟩ => ⟨S1x704x1024, .bf16⟩
  | .local _ .vmem, ⟨4, _⟩ => ⟨S2176x1024, .f32⟩
  | _, _ => ⟨S4x2176x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v5 : BitVec 1 := Scalar.cmpi .eq arg0 c0_i32
  let v6 : BitVec 32 := Scalar.extui v5
  let c0_i32_5 : BitVec 32 := 0#32
  let v7 : BitVec 1 := Scalar.cmpi .ne v6 c0_i32_5
  v7

def k0_cond2 (i : grid0.Coords) : BitVec 1 :=
  let arg0 : BitVec 32 := BitVec.ofNat 32 (i 0).val
  let c0_i32_6 : BitVec 32 := 0#32
  let v8 : BitVec 1 := Scalar.cmpi .sgt arg0 c0_i32_6
  let v9 : BitVec 32 := Scalar.extui v8
  let c0_i32_7 : BitVec 32 := 0#32
  let v10 : BitVec 1 := Scalar.cmpi .ne v9 c0_i32_7
  v10

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x2176x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2176x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== FoutRIdeal.lean ====
abbrev S4x2176x704 : Shape := ⟨3, ![4, 2176, 704]⟩
abbrev S4x704x1024 : Shape := ⟨3, ![4, 704, 1024]⟩
abbrev S2176x4x704 : Shape := ⟨3, ![2176, 4, 704]⟩
abbrev S2176x2816 : Shape := ⟨2, ![2176, 2816]⟩
abbrev S2816x1024 : Shape := ⟨2, ![2816, 1024]⟩
abbrev S2176x1024 : Shape := ⟨2, ![2176, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4x2176x704, .bf16⟩
  | .hbm, ⟨1, _⟩ => ⟨S4x704x1024, .bf16⟩
  | .hbm, ⟨2, _⟩ => ⟨S4x2176x704, .f32⟩
  | .hbm, ⟨3, _⟩ => ⟨S2176x4x704, .f32⟩
  | .hbm, ⟨4, _⟩ => ⟨S2176x2816, .f32⟩
  | .hbm, ⟨5, _⟩ => ⟨S4x704x1024, .f32⟩
  | .hbm, ⟨6, _⟩ => ⟨S2816x1024, .f32⟩
  | .hbm, ⟨7, _⟩ => ⟨S2176x1024, .f32⟩
  | _, _ => ⟨S4x2176x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== ConvOutK.lean ====
abbrev S2176x1024 : Shape := ⟨2, ![2176, 1024]⟩
abbrev S1024x1024 : Shape := ⟨2, ![1024, 1024]⟩
abbrev S1024x256 : Shape := ⟨2, ![1024, 256]⟩
abbrev S2176x256 : Shape := ⟨2, ![2176, 256]⟩

abbrev nBuf : Space → Nat
  | .hbm => 3
  | .vmem => 5
  | .smem => 0
  | _ => 0

abbrev bufTy : (tb : Table) → Fin (tcTables nBuf tb) → BufTy
  | .hbm, ⟨0, _⟩ => ⟨S2176x1024, .bf16⟩
  | .hbm, ⟨1, _⟩ => ⟨S1024x1024, .bf16⟩
  | .hbm, ⟨2, _⟩ => ⟨S2176x1024, .f32⟩
  | .local _ .vmem, ⟨0, _⟩ => ⟨S2176x1024, .bf16⟩
  | .local _ .vmem, ⟨1, _⟩ => ⟨S1024x256, .bf16⟩
  | .local _ .vmem, ⟨2, _⟩ => ⟨S1024x256, .bf16⟩
  | .local _ .vmem, ⟨3, _⟩ => ⟨S2176x256, .f32⟩
  | .local _ .vmem, ⟨4, _⟩ => ⟨S2176x256, .f32⟩
  | _, _ => ⟨S2176x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2176x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2176x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ConvOutRIdeal.lean ====
abbrev S2176x1024 : Shape := ⟨2, ![2176, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2176x1024, .bf16⟩
  | .hbm, ⟨1, _⟩ => ⟨S1024x1024, .bf16⟩
  | .hbm, ⟨2, _⟩ => ⟨S2176x1024, .f32⟩
  | .hbm, ⟨3, _⟩ => ⟨S1024x1024, .f32⟩
  | .hbm, ⟨4, _⟩ => ⟨S2176x1024, .f32⟩
  | _, _ => ⟨S2176x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MixOutK.lean ====
abbrev S2176x1024 : Shape := ⟨2, ![2176, 1024]⟩
abbrev S1024x1024 : Shape := ⟨2, ![1024, 1024]⟩
abbrev S1024x256 : Shape := ⟨2, ![1024, 256]⟩
abbrev S2176x256 : Shape := ⟨2, ![2176, 256]⟩

abbrev nBuf : Space → Nat
  | .hbm => 3
  | .vmem => 5
  | .smem => 0
  | _ => 0

abbrev bufTy : (tb : Table) → Fin (tcTables nBuf tb) → BufTy
  | .hbm, ⟨0, _⟩ => ⟨S2176x1024, .bf16⟩
  | .hbm, ⟨1, _⟩ => ⟨S1024x1024, .bf16⟩
  | .hbm, ⟨2, _⟩ => ⟨S2176x1024, .f32⟩
  | .local _ .vmem, ⟨0, _⟩ => ⟨S2176x1024, .bf16⟩
  | .local _ .vmem, ⟨1, _⟩ => ⟨S1024x256, .bf16⟩
  | .local _ .vmem, ⟨2, _⟩ => ⟨S1024x256, .bf16⟩
  | .local _ .vmem, ⟨3, _⟩ => ⟨S2176x256, .f32⟩
  | .local _ .vmem, ⟨4, _⟩ => ⟨S2176x256, .f32⟩
  | _, _ => ⟨S2176x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2176x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2176x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== MixOutRIdeal.lean ====
abbrev S2176x1024 : Shape := ⟨2, ![2176, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2176x1024, .bf16⟩
  | .hbm, ⟨1, _⟩ => ⟨S1024x1024, .bf16⟩
  | .hbm, ⟨2, _⟩ => ⟨S2176x1024, .f32⟩
  | .hbm, ⟨3, _⟩ => ⟨S1024x1024, .f32⟩
  | .hbm, ⟨4, _⟩ => ⟨S2176x1024, .f32⟩
  | _, _ => ⟨S2176x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== AGateK.lean ====
abbrev S2176x1024 : Shape := ⟨2, ![2176, 1024]⟩
abbrev S1024x1024 : Shape := ⟨2, ![1024, 1024]⟩
abbrev S2176x7168 : Shape := ⟨2, ![2176, 7168]⟩
abbrev S1x2048 : Shape := ⟨2, ![1, 2048]⟩
abbrev S1024x256 : Shape := ⟨2, ![1024, 256]⟩
abbrev S2176x256 : Shape := ⟨2, ![2176, 256]⟩
abbrev S1x256 : Shape := ⟨2, ![1, 256]⟩
abbrev S1x512 : Shape := ⟨2, ![1, 512]⟩

abbrev nBuf : Space → Nat
  | .hbm => 7
  | .vmem => 17
  | .smem => 0
  | _ => 0

abbrev bufTy : (tb : Table) → Fin (tcTables nBuf tb) → BufTy
  | .hbm, ⟨0, _⟩ => ⟨S2176x1024, .bf16⟩
  | .hbm, ⟨1, _⟩ => ⟨S1024x1024, .bf16⟩
  | .hbm, ⟨2, _⟩ => ⟨S2176x7168, .f32⟩
  | .hbm, ⟨3, _⟩ => ⟨S2176x1024, .f32⟩
  | .hbm, ⟨4, _⟩ => ⟨S1x2048, .f32⟩
  | .hbm, ⟨5, _⟩ => ⟨S2176x1024, .f32⟩
  | .hbm, ⟨6, _⟩ => ⟨S2176x1024, .bf16⟩
  | .local _ .vmem, ⟨0, _⟩ => ⟨S2176x1024, .bf16⟩
  | .local _ .vmem, ⟨1, _⟩ => ⟨S1024x256, .bf16⟩
  | .local _ .vmem, ⟨2, _⟩ => ⟨S1024x256, .bf16⟩
  | .local _ .vmem, ⟨3, _⟩ => ⟨S2176x256, .f32⟩
  | .local _ .vmem, ⟨4, _⟩ => ⟨S2176x256, .f32⟩
  | .local _ .vmem, ⟨5, _⟩ => ⟨S2176x256, .f32⟩
  | .local _ .vmem, ⟨6, _⟩ => ⟨S2176x256, .f32⟩
  | .local _ .vmem, ⟨7, _⟩ => ⟨S2176x256, .f32⟩
  | .local _ .vmem, ⟨8, _⟩ => ⟨S2176x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S2176x256, .f32⟩
  | .local _ .vmem, ⟨14, _⟩ => ⟨S2176x256, .f32⟩
  | .local _ .vmem, ⟨15, _⟩ => ⟨S2176x256, .bf16⟩
  | .local _ .vmem, ⟨16, _⟩ => ⟨S2176x256, .bf16⟩
  | _, _ => ⟨S2176x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2176x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2176x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2176x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2176x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2176x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2176x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AGateRIdeal.lean ====
abbrev S2176x1024 : Shape := ⟨2, ![2176, 1024]⟩
abbrev S1024x1024 : Shape := ⟨2, ![1024, 1024]⟩
abbrev S2176x7168 : Shape := ⟨2, ![2176, 7168]⟩
abbrev S1x2048 : Shape := ⟨2, ![1, 2048]⟩
abbrev S2176x2048 : Shape := ⟨2, ![2176, 2048]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S2176x1024, .bf16⟩
  | .hbm, ⟨1, _⟩ => ⟨S1024x1024, .bf16⟩
  | .hbm, ⟨2, _⟩ => ⟨S2176x7168, .f32⟩
  | .hbm, ⟨3, _⟩ => ⟨S2176x1024, .f32⟩
  | .hbm, ⟨4, _⟩ => ⟨S1x2048, .f32⟩
  | .hbm, ⟨5, _⟩ => ⟨S2176x1024, .f32⟩
  | .hbm, ⟨6, _⟩ => ⟨S1024x1024, .f32⟩
  | .hbm, ⟨7, _⟩ => ⟨S2176x1024, .f32⟩
  | .hbm, ⟨8, _⟩ => ⟨S2176x2048, .f32⟩
  | .hbm, ⟨9, _⟩ => ⟨S2176x2048, .f32⟩
  | .hbm, ⟨10, _⟩ => ⟨S2176x2048, .f32⟩
  | .hbm, ⟨11, _⟩ => ⟨S2176x2048, .f32⟩
  | .hbm, ⟨12, _⟩ => ⟨S2176x2048, .f32⟩
  | .hbm, ⟨13, _⟩ => ⟨S_, .f32⟩
  | .hbm, ⟨14, _⟩ => ⟨S2176x2048, .f32⟩
  | .hbm, ⟨15, _⟩ => ⟨S2176x2048, .f32⟩
  | .hbm, ⟨16, _⟩ => ⟨S_, .f32⟩
  | .hbm, ⟨17, _⟩ => ⟨S2176x2048, .f32⟩
  | .hbm, ⟨18, _⟩ => ⟨S2176x2048, .f32⟩
  | .hbm, ⟨19, _⟩ => ⟨S2176x1024, .f32⟩
  | .hbm, ⟨20, _⟩ => ⟨S2176x1024, .f32⟩
  | .hbm, ⟨21, _⟩ => ⟨S2176x1024, .f32⟩
  | .hbm, ⟨22, _⟩ => ⟨S2176x1024, .f32⟩
  | .hbm, ⟨23, _⟩ => ⟨S2176x1024, .f32⟩
  | .hbm, ⟨24, _⟩ => ⟨S2176x1024, .bf16⟩
  | _, _ => ⟨S2176x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== PreDxK.lean ====
abbrev S2176x1024 : Shape := ⟨2, ![2176, 1024]⟩
abbrev S1x1024 : Shape := ⟨2, ![1, 1024]⟩
abbrev S544x1024 : Shape := ⟨2, ![544, 1024]⟩
abbrev S128x1024 : Shape := ⟨2, ![128, 1024]⟩
abbrev S128 : Shape := ⟨1, ![128]⟩
abbrev S128x1 : Shape := ⟨2, ![128, 1]⟩
abbrev S1024 : Shape := ⟨1, ![1024]⟩
abbrev S32x1024 : Shape := ⟨2, ![32, 1024]⟩
abbrev S32 : Shape := ⟨1, ![32]⟩
abbrev S32x1 : Shape := ⟨2, ![32, 1]⟩

abbrev nBuf : Space → Nat
  | .hbm => 6
  | .vmem => 10
  | .smem => 0
  | _ => 0

abbrev bufTy : (tb : Table) → Fin (tcTables nBuf tb) → BufTy
  | .hbm, ⟨0, _⟩ => ⟨S2176x1024, .f32⟩
  | .hbm, ⟨1, _⟩ => ⟨S2176x1024, .f32⟩
  | .hbm, ⟨2, _⟩ => ⟨S2176x1024, .f32⟩
  | .hbm, ⟨3, _⟩ => ⟨S1x1024, .f32⟩
  | .hbm, ⟨4, _⟩ => ⟨S2176x1024, .f32⟩
  | .hbm, ⟨5, _⟩ => ⟨S1x1024, .f32⟩
  | .local _ .vmem, ⟨0, _⟩ => ⟨S544x1024, .f32⟩
  | .local _ .vmem, ⟨1, _⟩ => ⟨S544x1024, .f32⟩
  | .local _ .vmem, ⟨2, _⟩ => ⟨S544x1024, .f32⟩
  | .local _ .vmem, ⟨3, _⟩ => ⟨S544x1024, .f32⟩
  | .local _ .vmem, ⟨4, _⟩ => ⟨S544x1024, .f32⟩
  | .local _ .vmem, ⟨5, _⟩ => ⟨S544x1024, .f32⟩
  | .local _ .vmem, ⟨6, _⟩ => ⟨S1x1024, .f32⟩
  | .local _ .vmem, ⟨7, _⟩ => ⟨S544x1024, .f32⟩
  | .local _ .vmem, ⟨8, _⟩ => ⟨S544x1024, .f32⟩
  | .local _ .vmem, ⟨9, _⟩ => ⟨S1x1024, .f32⟩
  | _, _ => ⟨S2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c4_i32 : BitVec 32 := 4#32
  let v2 : BitVec 32 := Scalar.addi c0_i32 c4_i32
  let c1_i32 : BitVec 32 := 1#32
  ⟨c0_i32, v2, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c128_i32 : BitVec 32 := 128#32
  let v50 : BitVec 32 := Scalar.muli arg7 c128_i32
  v50
def k0_off1 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32 : BitVec 32 := 128#32
  let v50 : BitVec 32 := Scalar.muli arg7 c128_i32
  let v51 : BitVec 32 := v50
  let v52 : Index := Scalar.indexCast v51
  let c0_23 : Index := 0#32
  ![v52.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S544x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S544x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S544x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== PreDxRIdeal.lean ====
abbrev S2176x1024 : Shape := ⟨2, ![2176, 1024]⟩
abbrev S1x1024 : Shape := ⟨2, ![1, 1024]⟩
abbrev S_ : Shape := ⟨0, ![]⟩
abbrev S2176 : Shape := ⟨1, ![2176]⟩
abbrev S2176x1 : Shape := ⟨2, ![2176, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S2176x1024, .f32⟩
  | .hbm, ⟨1, _⟩ => ⟨S2176x1024, .f32⟩
  | .hbm, ⟨2, _⟩ => ⟨S2176x1024, .f32⟩
  | .hbm, ⟨3, _⟩ => ⟨S1x1024, .f32⟩
  | .hbm, ⟨4, _⟩ => ⟨S2176x1024, .f32⟩
  | .hbm, ⟨5, _⟩ => ⟨S_, .f32⟩
  | .hbm, ⟨6, _⟩ => ⟨S2176, .f32⟩
  | .hbm, ⟨7, _⟩ => ⟨S2176x1, .f32⟩
  | .hbm, ⟨8, _⟩ => ⟨S_, .f32⟩
  | .hbm, ⟨9, _⟩ => ⟨S2176x1, .f32⟩
  | .hbm, ⟨10, _⟩ => ⟨S2176x1, .f32⟩
  | .hbm, ⟨11, _⟩ => ⟨S_, .f32⟩
  | .hbm, ⟨12, _⟩ => ⟨S2176x1, .f32⟩
  | .hbm, ⟨13, _⟩ => ⟨S2176x1, .f32⟩
  | .hbm, ⟨14, _⟩ => ⟨S2176x1, .f32⟩
  | .hbm, ⟨15, _⟩ => ⟨S2176x1, .f32⟩
  | .hbm, ⟨16, _⟩ => ⟨S_, .f32⟩
  | .hbm, ⟨17, _⟩ => ⟨S2176x1, .f32⟩
  | .hbm, ⟨18, _⟩ => ⟨S2176x1, .f32⟩
  | .hbm, ⟨19, _⟩ => ⟨S2176x1024, .f32⟩
  | .hbm, ⟨20, _⟩ => ⟨S2176x1024, .f32⟩
  | .hbm, ⟨21, _⟩ => ⟨S2176x1024, .f32⟩
  | .hbm, ⟨22, _⟩ => ⟨S2176x1024, .f32⟩
  | .hbm, ⟨23, _⟩ => ⟨S2176x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S2176x1024, .f32⟩
  | .hbm, ⟨28, _⟩ => ⟨S2176x1024, .f32⟩
  | .hbm, ⟨29, _⟩ => ⟨S2176x1024, .f32⟩
  | .hbm, ⟨30, _⟩ => ⟨S_, .f32⟩
  | .hbm, ⟨31, _⟩ => ⟨S2176, .f32⟩
  | .hbm, ⟨32, _⟩ => ⟨S2176x1, .f32⟩
  | .hbm, ⟨33, _⟩ => ⟨S2176x1024, .f32⟩
  | .hbm, ⟨34, _⟩ => ⟨S2176x1024, .f32⟩
  | .hbm, ⟨35, _⟩ => ⟨S2176x1024, .f32⟩
  | .hbm, ⟨36, _⟩ => ⟨S2176x1, .f32⟩
  | .hbm, ⟨37, _⟩ => ⟨S_, .f32⟩
  | .hbm, ⟨38, _⟩ => ⟨S2176x1, .f32⟩
  | .hbm, ⟨39, _⟩ => ⟨S2176x1, .f32⟩
  | .hbm, ⟨40, _⟩ => ⟨S_, .f32⟩
  | .hbm, ⟨41, _⟩ => ⟨S2176, .f32⟩
  | .hbm, ⟨42, _⟩ => ⟨S2176x1024, .f32⟩
  | .hbm, ⟨43, _⟩ => ⟨S2176x1024, .f32⟩
  | .hbm, ⟨44, _⟩ => ⟨S2176x1024, .f32⟩
  | .hbm, ⟨45, _⟩ => ⟨S2176x1024, .f32⟩
  | .hbm, ⟨46, _⟩ => ⟨S2176x1024, .f32⟩
  | _, _ => ⟨S2176x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== CNormDxK.lean ====
abbrev S2176x1024 : Shape := ⟨2, ![2176, 1024]⟩
abbrev S1x1024 : Shape := ⟨2, ![1, 1024]⟩
abbrev S544x1024 : Shape := ⟨2, ![544, 1024]⟩
abbrev S128x1024 : Shape := ⟨2, ![128, 1024]⟩
abbrev S128 : Shape := ⟨1, ![128]⟩
abbrev S128x1 : Shape := ⟨2, ![128, 1]⟩
abbrev S1024 : Shape := ⟨1, ![1024]⟩
abbrev S32x1024 : Shape := ⟨2, ![32, 1024]⟩
abbrev S32 : Shape := ⟨1, ![32]⟩
abbrev S32x1 : Shape := ⟨2, ![32, 1]⟩

abbrev nBuf : Space → Nat
  | .hbm => 7
  | .vmem => 10
  | .smem => 0
  | _ => 0

abbrev bufTy : (tb : Table) → Fin (tcTables nBuf tb) → BufTy
  | .hbm, ⟨0, _⟩ => ⟨S2176x1024, .f32⟩
  | .hbm, ⟨1, _⟩ => ⟨S2176x1024, .f32⟩
  | .hbm, ⟨2, _⟩ => ⟨S1x1024, .f32⟩
  | .hbm, ⟨3, _⟩ => ⟨S1x1024, .f32⟩
  | .hbm, ⟨4, _⟩ => ⟨S2176x1024, .f32⟩
  | .hbm, ⟨5, _⟩ => ⟨S1x1024, .f32⟩
  | .hbm, ⟨6, _⟩ => ⟨S1x1024, .f32⟩
  | .local _ .vmem, ⟨0, _⟩ => ⟨S544x1024, .f32⟩
  | .local _ .vmem, ⟨1, _⟩ => ⟨S544x1024, .f32⟩
  | .local _ .vmem, ⟨2, _⟩ => ⟨S544x1024, .f32⟩
  | .local _ .vmem, ⟨3, _⟩ => ⟨S544x1024, .f32⟩
  | .local _ .vmem, ⟨4, _⟩ => ⟨S1x1024, .f32⟩
  | .local _ .vmem, ⟨5, _⟩ => ⟨S1x1024, .f32⟩
  | .local _ .vmem, ⟨6, _⟩ => ⟨S544x1024, .f32⟩
  | .local _ .vmem, ⟨7, _⟩ => ⟨S544x1024, .f32⟩
  | .local _ .vmem, ⟨8, _⟩ => ⟨S1x1024, .f32⟩
  | .local _ .vmem, ⟨9, _⟩ => ⟨S1x1024, .f32⟩
  | _, _ => ⟨S2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c4_i32 : BitVec 32 := 4#32
  let v4 : BitVec 32 := Scalar.addi c0_i32 c4_i32
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c128_i32 : BitVec 32 := 128#32
  let v85 : BitVec 32 := Scalar.muli arg8 c128_i32
  v85
def k0_off1 (k0_t1 : Fin k0_t1_loop.trips) : Fin 2 → Nat :=
  let c0_i32 : BitVec 32 := 0#32
  let c1_i32 : BitVec 32 := 1#32
  let arg8 : BitVec 32 := Scf.iv c0_i32 c1_i32 k0_t1
  let c128_i32 : BitVec 32 := 128#32
  let v85 : BitVec 32 := Scalar.muli arg8 c128_i32
  let v86 : BitVec 32 := v85
  let v87 : Index := Scalar.indexCast v86
  let c0_36 : Index := 0#32
  ![v87.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S544x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S544x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S544x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== CNormDxRIdeal.lean ====
abbrev S2176x1024 : Shape := ⟨2, ![2176, 1024]⟩
abbrev S1x1024 : Shape := ⟨2, ![1, 1024]⟩
abbrev S_ : Shape := ⟨0, ![]⟩
abbrev S2176 : Shape := ⟨1, ![2176]⟩
abbrev S2176x1 : Shape := ⟨2, ![2176, 1]⟩
abbrev S1024 : Shape := ⟨1, ![1024]⟩

abbrev nBuf : Space → Nat
  | .hbm => 87
  | .vmem => 0
  | .smem => 0
  | _ => 0

abbrev bufTy : (tb : Table) → Fin (tcTables nBuf tb) → BufTy
  | .hbm, ⟨0, _⟩ => ⟨S2176x1024, .f32⟩
  | .hbm, ⟨1, _⟩ => ⟨S2176x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S2176, .f32⟩
  | .hbm, ⟨6, _⟩ => ⟨S2176x1, .f32⟩
  | .hbm, ⟨7, _⟩ => ⟨S_, .f32⟩
  | .hbm, ⟨8, _⟩ => ⟨S2176x1, .f32⟩
  | .hbm, ⟨9, _⟩ => ⟨S2176x1, .f32⟩
  | .hbm, ⟨10, _⟩ => ⟨S2176x1024, .f32⟩
  | .hbm, ⟨11, _⟩ => ⟨S2176x1024, .f32⟩
  | .hbm, ⟨12, _⟩ => ⟨S2176x1024, .f32⟩
  | .hbm, ⟨13, _⟩ => ⟨S_, .f32⟩
  | .hbm, ⟨14, _⟩ => ⟨S2176, .f32⟩
  | .hbm, ⟨15, _⟩ => ⟨S2176x1, .f32⟩
  | .hbm, ⟨16, _⟩ => ⟨S_, .f32⟩
  | .hbm, ⟨17, _⟩ => ⟨S2176x1, .f32⟩
  | .hbm, ⟨18, _⟩ => ⟨S2176x1, .f32⟩
  | .hbm, ⟨19, _⟩ => ⟨S_, .f32⟩
  | .hbm, ⟨20, _⟩ => ⟨S2176x1, .f32⟩
  | .hbm, ⟨21, _⟩ => ⟨S2176x1, .f32⟩
  | .hbm, ⟨22, _⟩ => ⟨S2176x1, .f32⟩
  | .hbm, ⟨23, _⟩ => ⟨S2176x1, .f32⟩
  | .hbm, ⟨24, _⟩ => ⟨S_, .f32⟩
  | .hbm, ⟨25, _⟩ => ⟨S2176x1, .f32⟩
  | .hbm, ⟨26, _⟩ => ⟨S2176x1, .f32⟩
  | .hbm, ⟨27, _⟩ => ⟨S2176x1024, .f32⟩
  | .hbm, ⟨28, _⟩ => ⟨S2176x1024, .f32⟩
  | .hbm, ⟨29, _⟩ => ⟨S2176x1024, .f32⟩
  | .hbm, ⟨30, _⟩ => ⟨S2176x1024, .f32⟩
  | .hbm, ⟨31, _⟩ => ⟨S2176x1024, .f32⟩
  | .hbm, ⟨32, _⟩ => ⟨S2176x1024, .f32⟩
  | .hbm, ⟨33, _⟩ => ⟨S2176x1024, .f32⟩
  | .hbm, ⟨34, _⟩ => ⟨S2176x1024, .f32⟩
  | .hbm, ⟨35, _⟩ => ⟨S_, .f32⟩
  | .hbm, ⟨36, _⟩ => ⟨S2176x1024, .f32⟩
  | .hbm, ⟨37, _⟩ => ⟨S2176x1024, .f32⟩
  | .hbm, ⟨38, _⟩ => ⟨S_, .f32⟩
  | .hbm, ⟨39, _⟩ => ⟨S2176x1024, .f32⟩
  | .hbm, ⟨40, _⟩ => ⟨S2176x1024, .f32⟩
  | .hbm, ⟨41, _⟩ => ⟨S_, .f32⟩
  | .hbm, ⟨42, _⟩ => ⟨S2176x1024, .f32⟩
  | .hbm, ⟨43, _⟩ => ⟨S2176x1024, .f32⟩
  | .hbm, ⟨44, _⟩ => ⟨S2176x1024, .f32⟩
  | .hbm, ⟨45, _⟩ => ⟨S2176x1024, .f32⟩
  | .hbm, ⟨46, _⟩ => ⟨S2176x1024, .f32⟩
  | .hbm, ⟨47, _⟩ => ⟨S2176x1024, .f32⟩
  | .hbm, ⟨48, _⟩ => ⟨S2176x1024, .f32⟩
  | .hbm, ⟨49, _⟩ => ⟨S2176x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S2176x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S2176x1024, .f32⟩
  | .hbm, ⟨58, _⟩ => ⟨S2176x1024, .f32⟩
  | .hbm, ⟨59, _⟩ => ⟨S2176x1024, .f32⟩
  | .hbm, ⟨60, _⟩ => ⟨S_, .f32⟩
  | .hbm, ⟨61, _⟩ => ⟨S2176, .f32⟩
  | .hbm, ⟨62, _⟩ => ⟨S2176x1, .f32⟩
  | .hbm, ⟨63, _⟩ => ⟨S2176x1024, .f32⟩
  | .hbm, ⟨64, _⟩ => ⟨S2176x1024, .f32⟩
  | .hbm, ⟨65, _⟩ => ⟨S2176x1, .f32⟩
  | .hbm, ⟨66, _⟩ => ⟨S_, .f32⟩
  | .hbm, ⟨67, _⟩ => ⟨S2176x1, .f32⟩
  | .hbm, ⟨68, _⟩ => ⟨S2176x1, .f32⟩
  | .hbm, ⟨69, _⟩ => ⟨S_, .f32⟩
  | .hbm, ⟨70, _⟩ => ⟨S2176, .f32⟩
  | .hbm, ⟨71, _⟩ => ⟨S2176x1024, .f32⟩
  | .hbm, ⟨72, _⟩ => ⟨S2176x1024, .f32⟩
  | .hbm, ⟨73, _⟩ => ⟨S2176x1024, .f32⟩
  | .hbm, ⟨74, _⟩ => ⟨S2176x1024, .f32⟩
  | .hbm, ⟨75, _⟩ => ⟨S2176x1024, .f32⟩
  | .hbm, ⟨76, _⟩ => ⟨S2176x1024, .f32⟩
  | .hbm, ⟨77, _⟩ => ⟨S_, .f32⟩
  | .hbm, ⟨78, _⟩ => ⟨S2176, .f32⟩
  | .hbm, ⟨79, _⟩ => ⟨S2176x1, .f32⟩
  | .hbm, ⟨80, _⟩ => ⟨S_, .f32⟩
  | .hbm, ⟨81, _⟩ => ⟨S2176x1, .f32⟩
  | .hbm, ⟨82, _⟩ => ⟨S2176x1, .f32⟩
  | .hbm, ⟨83, _⟩ => ⟨S_, .f32⟩
  | .hbm, ⟨84, _⟩ => ⟨S2176, .f32⟩
  | .hbm, ⟨85, _⟩ => ⟨S2176x1024, .f32⟩
  | .hbm, ⟨86, _⟩ => ⟨S2176x1024, .f32⟩
  | _, _ => ⟨S2176x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_v23_2 : Ref sig .tc := ⟨.hbm, 40, rfl⟩
abbrev main_call0_cst_1 : Ref sig .tc := ⟨.hbm, 41, rfl⟩
abbrev main_call0_v6 : Ref sig .tc := ⟨.hbm, 42, rfl⟩
abbrev main_call0_v7 : Ref sig .tc := ⟨.hbm, 43, rfl⟩
abbrev main_v23_1 : Ref sig .tc := ⟨.hbm, 44, rfl⟩
abbrev main_v23_0 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v24 : Ref sig .tc := ⟨.hbm, 49, rfl⟩
abbrev main_cst_5 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_cst_6 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst_7 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_8 : Ref sig .tc := ⟨.hbm, 66, rfl⟩
abbrev main_v38 : Ref sig .tc := ⟨.hbm, 67, rfl⟩
abbrev main_v39 : Ref sig .tc := ⟨.hbm, 68, rfl⟩
abbrev main_cst_9 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_10 : Ref sig .tc := ⟨.hbm, 77, rfl⟩
abbrev main_v47 : Ref sig .tc := ⟨.hbm, 78, rfl⟩
abbrev main_v48 : Ref sig .tc := ⟨.hbm, 79, rfl⟩
abbrev main_cst_11 : Ref sig .tc := ⟨.hbm, 80, rfl⟩
abbrev main_v49 : Ref sig .tc := ⟨.hbm, 81, rfl⟩
abbrev main_v50 : Ref sig .tc := ⟨.hbm, 82, rfl⟩
abbrev main_cst_12 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩

abbrev nD : Nat := 1
abbrev τ : Topo := Topo.v7x

variable {F : FTy → Type} [FloatOps F]
-- ==== PostDxK.lean ====
abbrev S2176x1024 : Shape := ⟨2, ![2176, 1024]⟩
abbrev S1x1024 : Shape := ⟨2, ![1, 1024]⟩
abbrev S544x1024 : Shape := ⟨2, ![544, 1024]⟩
abbrev S128x1024 : Shape := ⟨2, ![128, 1024]⟩
abbrev S128 : Shape := ⟨1, ![128]⟩
abbrev S128x1 : Shape := ⟨2, ![128, 1]⟩
abbrev S1024 : Shape := ⟨1, ![1024]⟩
abbrev S32x1024 : Shape := ⟨2, ![32, 1024]⟩
abbrev S32 : Shape := ⟨1, ![32]⟩
abbrev S32x1 : Shape := ⟨2, ![32, 1]⟩

abbrev nBuf : Space → Nat
  | .hbm => 10
  | .vmem => 16
  | .smem => 0
  | _ => 0

abbrev bufTy : (tb : Table) → Fin (tcTables nBuf tb) → BufTy
  | .hbm, ⟨0, _⟩ => ⟨S2176x1024, .f32⟩
  | .hbm, ⟨1, _⟩ => ⟨S2176x1024, .f32⟩
  | .hbm, ⟨2, _⟩ => ⟨S2176x1024, .f32⟩
  | .hbm, ⟨3, _⟩ => ⟨S2176x1024, .f32⟩
  | .hbm, ⟨4, _⟩ => ⟨S1x1024, .f32⟩
  | .hbm, ⟨5, _⟩ => ⟨S1x1024, .f32⟩
  | .hbm, ⟨6, _⟩ => ⟨S2176x1024, .bf16⟩
  | .hbm, ⟨7, _⟩ => ⟨S2176x1024, .f32⟩
  | .hbm, ⟨8, _⟩ => ⟨S1x1024, .f32⟩
  | .hbm, ⟨9, _⟩ => ⟨S1x1024, .f32⟩
  | .local _ .vmem, ⟨0, _⟩ => ⟨S544x1024, .f32⟩
  | .local _ .vmem, ⟨1, _⟩ => ⟨S544x1024, .f32⟩
  | .local _ .vmem, ⟨2, _⟩ => ⟨S544x1024, .f32⟩
  | .local _ .vmem, ⟨3, _⟩ => ⟨S544x1024, .f32⟩
  | .local _ .vmem, ⟨4, _⟩ => ⟨S544x1024, .f32⟩
  | .local _ .vmem, ⟨5, _⟩ => ⟨S544x1024, .f32⟩
  | .local _ .vmem, ⟨6, _⟩ => ⟨S544x1024, .f32⟩
  | .local _ .vmem, ⟨7, _⟩ => ⟨S544x1024, .f32⟩
  | .local _ .vmem, ⟨8, _⟩ => ⟨S1x1024, .f32⟩
  | .local _ .vmem, ⟨9, _⟩ => ⟨S1x1024, .f32⟩
  | .local _ .vmem, ⟨10, _⟩ => ⟨S544x1024, .bf16⟩
  | .local _ .vmem, ⟨11, _⟩ => ⟨S544x1024, .bf16⟩
  | .local _ .vmem, ⟨12, _⟩ => ⟨S544x1024, .f32⟩
  | .local _ .vmem, ⟨13, _⟩ => ⟨S544x1024, .f32⟩
  | .local _ .vmem, ⟨14, _⟩ => ⟨S1x1024, .f32⟩
  | .local _ .vmem, ⟨15, _⟩ => ⟨S1x1024, .f32⟩
  | _, _ => ⟨S2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c4_i32 : BitVec 32 := 4#32
  let v4 : BitVec 32 := Scalar.addi c0_i32 c4_i32
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c128_i32 : BitVec 32 := 128#32
  let v97 : BitVec 32 := Scalar.muli arg11 c128_i32
  v97
def k0_off1 (k0_t1 : Fin k0_t1_loop.trips) : Fin 2 → Nat :=
  let c0_i32 : BitVec 32 := 0#32
  let c1_i32 : BitVec 32 := 1#32
  let arg11 : BitVec 32 := Scf.iv c0_i32 c1_i32 k0_t1
  let c128_i32 : BitVec 32 := 128#32
  let v97 : BitVec 32 := Scalar.muli arg11 c128_i32
  let v98 : BitVec 32 := v97
  let v99 : Index := Scalar.indexCast v98
  let c0_42 : Index := 0#32
  ![v99.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S544x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S544x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S544x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S544x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S544x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== PostDxRIdeal.lean ====
abbrev S2176x1024 : Shape := ⟨2, ![2176, 1024]⟩
abbrev S1x1024 : Shape := ⟨2, ![1, 1024]⟩
abbrev S_ : Shape := ⟨0, ![]⟩
abbrev S2176 : Shape := ⟨1, ![2176]⟩
abbrev S2176x1 : Shape := ⟨2, ![2176, 1]⟩
abbrev S1024 : Shape := ⟨1, ![1024]⟩

abbrev nBuf : Space → Nat
  | .hbm => 94
  | .vmem => 0
  | .smem => 0
  | _ => 0

abbrev bufTy : (tb : Table) → Fin (tcTables nBuf tb) → BufTy
  | .hbm, ⟨0, _⟩ => ⟨S2176x1024, .f32⟩
  | .hbm, ⟨1, _⟩ => ⟨S2176x1024, .f32⟩
  | .hbm, ⟨2, _⟩ => ⟨S2176x1024, .f32⟩
  | .hbm, ⟨3, _⟩ => ⟨S2176x1024, .f32⟩
  | .hbm, ⟨4, _⟩ => ⟨S1x1024, .f32⟩
  | .hbm, ⟨5, _⟩ => ⟨S1x1024, .f32⟩
  | .hbm, ⟨6, _⟩ => ⟨S2176x1024, .f32⟩
  | .hbm, ⟨7, _⟩ => ⟨S_, .f32⟩
  | .hbm, ⟨8, _⟩ => ⟨S2176, .f32⟩
  | .hbm, ⟨9, _⟩ => ⟨S2176x1, .f32⟩
  | .hbm, ⟨10, _⟩ => ⟨S_, .f32⟩
  | .hbm, ⟨11, _⟩ => ⟨S2176x1, .f32⟩
  | .hbm, ⟨12, _⟩ => ⟨S2176x1, .f32⟩
  | .hbm, ⟨13, _⟩ => ⟨S_, .f32⟩
  | .hbm, ⟨14, _⟩ => ⟨S2176x1, .f32⟩
  | .hbm, ⟨15, _⟩ => ⟨S2176x1, .f32⟩
  | .hbm, ⟨16, _⟩ => ⟨S2176x1, .f32⟩
  | .hbm, ⟨17, _⟩ => ⟨S2176x1, .f32⟩
  | .hbm, ⟨18, _⟩ => ⟨S_, .f32⟩
  | .hbm, ⟨19, _⟩ => ⟨S2176x1, .f32⟩
  | .hbm, ⟨20, _⟩ => ⟨S2176x1, .f32⟩
  | .hbm, ⟨21, _⟩ => ⟨S2176x1024, .f32⟩
  | .hbm, ⟨22, _⟩ => ⟨S2176x1024, .f32⟩
  | .hbm, ⟨23, _⟩ => ⟨S2176x1024, .f32⟩
  | .hbm, ⟨24, _⟩ => ⟨S2176x1024, .f32⟩
  | .hbm, ⟨25, _⟩ => ⟨S2176x1024, .f32⟩
  | .hbm, ⟨26, _⟩ => ⟨S2176x1024, .f32⟩
  | .hbm, ⟨27, _⟩ => ⟨S_, .f32⟩
  | .hbm, ⟨28, _⟩ => ⟨S2176, .f32⟩
  | .hbm, ⟨29, _⟩ => ⟨S2176x1, .f32⟩
  | .hbm, ⟨30, _⟩ => ⟨S_, .f32⟩
  | .hbm, ⟨31, _⟩ => ⟨S2176x1, .f32⟩
  | .hbm, ⟨32, _⟩ => ⟨S2176x1, .f32⟩
  | .hbm, ⟨33, _⟩ => ⟨S_, .f32⟩
  | .hbm, ⟨34, _⟩ => ⟨S2176x1, .f32⟩
  | .hbm, ⟨35, _⟩ => ⟨S2176x1, .f32⟩
  | .hbm, ⟨36, _⟩ => ⟨S2176x1, .f32⟩
  | .hbm, ⟨37, _⟩ => ⟨S2176x1, .f32⟩
  | .hbm, ⟨38, _⟩ => ⟨S_, .f32⟩
  | .hbm, ⟨39, _⟩ => ⟨S2176x1, .f32⟩
  | .hbm, ⟨40, _⟩ => ⟨S2176x1, .f32⟩
  | .hbm, ⟨41, _⟩ => ⟨S2176x1024, .f32⟩
  | .hbm, ⟨42, _⟩ => ⟨S2176x1024, .f32⟩
  | .hbm, ⟨43, _⟩ => ⟨S2176x1024, .f32⟩
  | .hbm, ⟨44, _⟩ => ⟨S2176x1024, .f32⟩
  | .hbm, ⟨45, _⟩ => ⟨S2176x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S2176x1024, .f32⟩
  | .hbm, ⟨50, _⟩ => ⟨S2176x1024, .f32⟩
  | .hbm, ⟨51, _⟩ => ⟨S2176x1024, .f32⟩
  | .hbm, ⟨52, _⟩ => ⟨S_, .f32⟩
  | .hbm, ⟨53, _⟩ => ⟨S2176, .f32⟩
  | .hbm, ⟨54, _⟩ => ⟨S2176x1, .f32⟩
  | .hbm, ⟨55, _⟩ => ⟨S2176x1024, .f32⟩
  | .hbm, ⟨56, _⟩ => ⟨S2176x1024, .f32⟩
  | .hbm, ⟨57, _⟩ => ⟨S2176x1024, .f32⟩
  | .hbm, ⟨58, _⟩ => ⟨S2176x1, .f32⟩
  | .hbm, ⟨59, _⟩ => ⟨S_, .f32⟩
  | .hbm, ⟨60, _⟩ => ⟨S2176x1, .f32⟩
  | .hbm, ⟨61, _⟩ => ⟨S2176x1, .f32⟩
  | .hbm, ⟨62, _⟩ => ⟨S_, .f32⟩
  | .hbm, ⟨63, _⟩ => ⟨S2176, .f32⟩
  | .hbm, ⟨64, _⟩ => ⟨S2176x1024, .f32⟩
  | .hbm, ⟨65, _⟩ => ⟨S2176x1024, .f32⟩
  | .hbm, ⟨66, _⟩ => ⟨S2176x1024, .f32⟩
  | .hbm, ⟨67, _⟩ => ⟨S2176x1024, .f32⟩
  | .hbm, ⟨68, _⟩ => ⟨S2176x1024, .f32⟩
  | .hbm, ⟨69, _⟩ => ⟨S2176x1024, .f32⟩
  | .hbm, ⟨70, _⟩ => ⟨S2176x1024, .f32⟩
  | .hbm, ⟨71, _⟩ => ⟨S_, .f32⟩
  | .hbm, ⟨72, _⟩ => ⟨S1024, .f32⟩
  | .hbm, ⟨73, _⟩ => ⟨S1x1024, .f32⟩
  | .hbm, ⟨74, _⟩ => ⟨S2176x1024, .f32⟩
  | .hbm, ⟨75, _⟩ => ⟨S2176x1024, .f32⟩
  | .hbm, ⟨76, _⟩ => ⟨S2176x1024, .f32⟩
  | .hbm, ⟨77, _⟩ => ⟨S_, .f32⟩
  | .hbm, ⟨78, _⟩ => ⟨S2176, .f32⟩
  | .hbm, ⟨79, _⟩ => ⟨S2176x1, .f32⟩
  | .hbm, ⟨80, _⟩ => ⟨S2176x1024, .f32⟩
  | .hbm, ⟨81, _⟩ => ⟨S2176x1024, .f32⟩
  | .hbm, ⟨82, _⟩ => ⟨S2176x1, .f32⟩
  | .hbm, ⟨83, _⟩ => ⟨S_, .f32⟩
  | .hbm, ⟨84, _⟩ => ⟨S2176x1, .f32⟩
  | .hbm, ⟨85, _⟩ => ⟨S2176x1, .f32⟩
  | .hbm, ⟨86, _⟩ => ⟨S_, .f32⟩
  | .hbm, ⟨87, _⟩ => ⟨S2176, .f32⟩
  | .hbm, ⟨88, _⟩ => ⟨S2176x1024, .f32⟩
  | .hbm, ⟨89, _⟩ => ⟨S2176x1024, .f32⟩
  | .hbm, ⟨90, _⟩ => ⟨S2176x1024, .f32⟩
  | .hbm, ⟨91, _⟩ => ⟨S2176x1024, .f32⟩
  | .hbm, ⟨92, _⟩ => ⟨S2176x1024, .f32⟩
  | .hbm, ⟨93, _⟩ => ⟨S2176x1024, .bf16⟩
  | _, _ => ⟨S2176x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_cst_10 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_11 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_12 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_13 : Ref sig .tc := ⟨.hbm, 83, rfl⟩
abbrev main_v63 : Ref sig .tc := ⟨.hbm, 84, rfl⟩
abbrev main_v64 : Ref sig .tc := ⟨.hbm, 85, rfl⟩
abbrev main_cst_14 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩

abbrev nD : Nat := 1
abbrev τ : Topo := Topo.v7x

variable {F : FTy → Type} [FloatOps F]
-- ==== PreK.lean ====
abbrev S2176x1024 : Shape := ⟨2, ![2176, 1024]⟩
abbrev S1x1024 : Shape := ⟨2, ![1, 1024]⟩
abbrev S544x1024 : Shape := ⟨2, ![544, 1024]⟩
abbrev S128x1024 : Shape := ⟨2, ![128, 1024]⟩
abbrev S128 : Shape := ⟨1, ![128]⟩
abbrev S128x1 : Shape := ⟨2, ![128, 1]⟩
abbrev S32x1024 : Shape := ⟨2, ![32, 1024]⟩
abbrev S32 : Shape := ⟨1, ![32]⟩
abbrev S32x1 : Shape := ⟨2, ![32, 1]⟩

abbrev nBuf : Space → Nat
  | .hbm => 3
  | .vmem => 5
  | .smem => 0
  | _ => 0

abbrev bufTy : (tb : Table) → Fin (tcTables nBuf tb) → BufTy
  | .hbm, ⟨0, _⟩ => ⟨S2176x1024, .f32⟩
  | .hbm, ⟨1, _⟩ => ⟨S1x1024, .f32⟩
  | .hbm, ⟨2, _⟩ => ⟨S2176x1024, .bf16⟩
  | .local _ .vmem, ⟨0, _⟩ => ⟨S544x1024, .f32⟩
  | .local _ .vmem, ⟨1, _⟩ => ⟨S544x1024, .f32⟩
  | .local _ .vmem, ⟨2, _⟩ => ⟨S1x1024, .f32⟩
  | .local _ .vmem, ⟨3, _⟩ => ⟨S544x1024, .bf16⟩
  | .local _ .vmem, ⟨4, _⟩ => ⟨S544x1024, .bf16⟩
  | _, _ => ⟨S2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c4_i32 : BitVec 32 := 4#32
  let v1 : BitVec 32 := Scalar.addi c0_i32 c4_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg4 : BitVec 32 := Scf.iv c0_i32 c1_i32 k0_t1
  let c128_i32 : BitVec 32 := 128#32
  let v17 : BitVec 32 := Scalar.muli arg4 c128_i32
  v17
def k0_off1 (k0_t1 : Fin k0_t1_loop.trips) : Fin 2 → Nat :=
  let c0_i32 : BitVec 32 := 0#32
  let c1_i32 : BitVec 32 := 1#32
  let arg4 : BitVec 32 := Scf.iv c0_i32 c1_i32 k0_t1
  let c128_i32 : BitVec 32 := 128#32
  let v17 : BitVec 32 := Scalar.muli arg4 c128_i32
  let v18 : BitVec 32 := v17
  let v19 : Index := Scalar.indexCast v18
  let c0_7 : Index := 0#32
  ![v19.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S544x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PreRIdeal.lean ====
abbrev S2176x1024 : Shape := ⟨2, ![2176, 1024]⟩
abbrev S1x1024 : Shape := ⟨2, ![1, 1024]⟩
abbrev S_ : Shape := ⟨0, ![]⟩
abbrev S2176 : Shape := ⟨1, ![2176]⟩
abbrev S2176x1 : Shape := ⟨2, ![2176, 1]⟩

abbrev nBuf : Space → Nat
  | .hbm => 18
  | .vmem => 0
  | .smem => 0
  | _ => 0

abbrev bufTy : (tb : Table) → Fin (tcTables nBuf tb) → BufTy
  | .hbm, ⟨0, _⟩ => ⟨S2176x1024, .f32⟩
  | .hbm, ⟨1, _⟩ => ⟨S1x1024, .f32⟩
  | .hbm, ⟨2, _⟩ => ⟨S2176x1024, .f32⟩
  | .hbm, ⟨3, _⟩ => ⟨S_, .f32⟩
  | .hbm, ⟨4, _⟩ => ⟨S2176, .f32⟩
  | .hbm, ⟨5, _⟩ => ⟨S2176x1, .f32⟩
  | .hbm, ⟨6, _⟩ => ⟨S_, .f32⟩
  | .hbm, ⟨7, _⟩ => ⟨S2176x1, .f32⟩
  | .hbm, ⟨8, _⟩ => ⟨S2176x1, .f32⟩
  | .hbm, ⟨9, _⟩ => ⟨S_, .f32⟩
  | .hbm, ⟨10, _⟩ => ⟨S2176x1, .f32⟩
  | .hbm, ⟨11, _⟩ => ⟨S2176x1, .f32⟩
  | .hbm, ⟨12, _⟩ => ⟨S2176x1, .f32⟩
  | .hbm, ⟨13, _⟩ => ⟨S2176x1024, .f32⟩
  | .hbm, ⟨14, _⟩ => ⟨S2176x1024, .f32⟩
  | .hbm, ⟨15, _⟩ => ⟨S2176x1024, .f32⟩
  | .hbm, ⟨16, _⟩ => ⟨S2176x1024, .f32⟩
  | .hbm, ⟨17, _⟩ => ⟨S2176x1024, .bf16⟩
  | _, _ => ⟨S2176x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== CNormK.lean ====
abbrev S2176x1024 : Shape := ⟨2, ![2176, 1024]⟩
abbrev S1x1024 : Shape := ⟨2, ![1, 1024]⟩
abbrev S544x1024 : Shape := ⟨2, ![544, 1024]⟩
abbrev S128x1024 : Shape := ⟨2, ![128, 1024]⟩
abbrev S128 : Shape := ⟨1, ![128]⟩
abbrev S128x1 : Shape := ⟨2, ![128, 1]⟩
abbrev S32x1024 : Shape := ⟨2, ![32, 1024]⟩
abbrev S32 : Shape := ⟨1, ![32]⟩
abbrev S32x1 : Shape := ⟨2, ![32, 1]⟩

abbrev nBuf : Space → Nat
  | .hbm => 4
  | .vmem => 6
  | .smem => 0
  | _ => 0

abbrev bufTy : (tb : Table) → Fin (tcTables nBuf tb) → BufTy
  | .hbm, ⟨0, _⟩ => ⟨S2176x1024, .f32⟩
  | .hbm, ⟨1, _⟩ => ⟨S1x1024, .f32⟩
  | .hbm, ⟨2, _⟩ => ⟨S1x1024, .f32⟩
  | .hbm, ⟨3, _⟩ => ⟨S2176x1024, .bf16⟩
  | .local _ .vmem, ⟨0, _⟩ => ⟨S544x1024, .f32⟩
  | .local _ .vmem, ⟨1, _⟩ => ⟨S544x1024, .f32⟩
  | .local _ .vmem, ⟨2, _⟩ => ⟨S1x1024, .f32⟩
  | .local _ .vmem, ⟨3, _⟩ => ⟨S1x1024, .f32⟩
  | .local _ .vmem, ⟨4, _⟩ => ⟨S544x1024, .bf16⟩
  | .local _ .vmem, ⟨5, _⟩ => ⟨S544x1024, .bf16⟩
  | _, _ => ⟨S2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c4_i32 : BitVec 32 := 4#32
  let v2 : BitVec 32 := Scalar.addi c0_i32 c4_i32
  let c1_i32 : BitVec 32 := 1#32
  ⟨c0_i32, v2, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c128_i32 : BitVec 32 := 128#32
  let v28 : BitVec 32 := Scalar.muli arg5 c128_i32
  v28
def k0_off1 (k0_t1 : Fin k0_t1_loop.trips) : Fin 2 → Nat :=
  let c0_i32 : BitVec 32 := 0#32
  let c1_i32 : BitVec 32 := 1#32
  let arg5 : BitVec 32 := Scf.iv c0_i32 c1_i32 k0_t1
  let c128_i32 : BitVec 32 := 128#32
  let v28 : BitVec 32 := Scalar.muli arg5 c128_i32
  let v29 : BitVec 32 := v28
  let v30 : Index := Scalar.indexCast v29
  let c0_11 : Index := 0#32
  ![v30.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S544x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== CNormRIdeal.lean ====
abbrev S2176x1024 : Shape := ⟨2, ![2176, 1024]⟩
abbrev S1x1024 : Shape := ⟨2, ![1, 1024]⟩
abbrev S_ : Shape := ⟨0, ![]⟩
abbrev S2176 : Shape := ⟨1, ![2176]⟩
abbrev S2176x1 : Shape := ⟨2, ![2176, 1]⟩

abbrev nBuf : Space → Nat
  | .hbm => 38
  | .vmem => 0
  | .smem => 0
  | _ => 0

abbrev bufTy : (tb : Table) → Fin (tcTables nBuf tb) → BufTy
  | .hbm, ⟨0, _⟩ => ⟨S2176x1024, .f32⟩
  | .hbm, ⟨1, _⟩ => ⟨S1x1024, .f32⟩
  | .hbm, ⟨2, _⟩ => ⟨S1x1024, .f32⟩
  | .hbm, ⟨3, _⟩ => ⟨S_, .f32⟩
  | .hbm, ⟨4, _⟩ => ⟨S2176, .f32⟩
  | .hbm, ⟨5, _⟩ => ⟨S2176x1, .f32⟩
  | .hbm, ⟨6, _⟩ => ⟨S_, .f32⟩
  | .hbm, ⟨7, _⟩ => ⟨S2176x1, .f32⟩
  | .hbm, ⟨8, _⟩ => ⟨S2176x1, .f32⟩
  | .hbm, ⟨9, _⟩ => ⟨S2176x1024, .f32⟩
  | .hbm, ⟨10, _⟩ => ⟨S2176x1024, .f32⟩
  | .hbm, ⟨11, _⟩ => ⟨S2176x1024, .f32⟩
  | .hbm, ⟨12, _⟩ => ⟨S_, .f32⟩
  | .hbm, ⟨13, _⟩ => ⟨S2176, .f32⟩
  | .hbm, ⟨14, _⟩ => ⟨S2176x1, .f32⟩
  | .hbm, ⟨15, _⟩ => ⟨S_, .f32⟩
  | .hbm, ⟨16, _⟩ => ⟨S2176x1, .f32⟩
  | .hbm, ⟨17, _⟩ => ⟨S2176x1, .f32⟩
  | .hbm, ⟨18, _⟩ => ⟨S_, .f32⟩
  | .hbm, ⟨19, _⟩ => ⟨S2176x1, .f32⟩
  | .hbm, ⟨20, _⟩ => ⟨S2176x1, .f32⟩
  | .hbm, ⟨21, _⟩ => ⟨S2176x1, .f32⟩
  | .hbm, ⟨22, _⟩ => ⟨S2176x1024, .f32⟩
  | .hbm, ⟨23, _⟩ => ⟨S2176x1024, .f32⟩
  | .hbm, ⟨24, _⟩ => ⟨S2176x1024, .f32⟩
  | .hbm, ⟨25, _⟩ => ⟨S2176x1024, .f32⟩
  | .hbm, ⟨26, _⟩ => ⟨S2176x1024, .f32⟩
  | .hbm, ⟨27, _⟩ => ⟨S2176x1024, .f32⟩
  | .hbm, ⟨28, _⟩ => ⟨S2176x1024, .f32⟩
  | .hbm, ⟨29, _⟩ => ⟨S2176x1024, .f32⟩
  | .hbm, ⟨30, _⟩ => ⟨S_, .f32⟩
  | .hbm, ⟨31, _⟩ => ⟨S2176x1024, .f32⟩
  | .hbm, ⟨32, _⟩ => ⟨S2176x1024, .f32⟩
  | .hbm, ⟨33, _⟩ => ⟨S_, .f32⟩
  | .hbm, ⟨34, _⟩ => ⟨S2176x1024, .f32⟩
  | .hbm, ⟨35, _⟩ => ⟨S2176x1024, .f32⟩
  | .hbm, ⟨36, _⟩ => ⟨S2176x1024, .f32⟩
  | .hbm, ⟨37, _⟩ => ⟨S2176x1024, .bf16⟩
  | _, _ => ⟨S2176x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v20 : Ref sig .tc := ⟨.hbm, 36, rfl⟩
abbrev main_v21 : Ref sig .tc := ⟨.hbm, 37, rfl⟩

abbrev nD : Nat := 1
abbrev τ : Topo := Topo.v7x

variable {F : FTy → Type} [FloatOps F]
-- ==== PostK.lean ====
abbrev S2176x1024 : Shape := ⟨2, ![2176, 1024]⟩
abbrev S1x1024 : Shape := ⟨2, ![1, 1024]⟩
abbrev S544x1024 : Shape := ⟨2, ![544, 1024]⟩
abbrev S128x1024 : Shape := ⟨2, ![128, 1024]⟩
abbrev S128 : Shape := ⟨1, ![128]⟩
abbrev S128x1 : Shape := ⟨2, ![128, 1]⟩
abbrev S32x1024 : Shape := ⟨2, ![32, 1024]⟩
abbrev S32 : Shape := ⟨1, ![32]⟩
abbrev S32x1 : Shape := ⟨2, ![32, 1]⟩

abbrev nBuf : Space → Nat
  | .hbm => 6
  | .vmem => 10
  | .smem => 0
  | _ => 0

abbrev bufTy : (tb : Table) → Fin (tcTables nBuf tb) → BufTy
  | .hbm, ⟨0, _⟩ => ⟨S2176x1024, .f32⟩
  | .hbm, ⟨1, _⟩ => ⟨S2176x1024, .f32⟩
  | .hbm, ⟨2, _⟩ => ⟨S1x1024, .f32⟩
  | .hbm, ⟨3, _⟩ => ⟨S1x1024, .f32⟩
  | .hbm, ⟨4, _⟩ => ⟨S2176x1024, .f32⟩
  | .hbm, ⟨5, _⟩ => ⟨S2176x1024, .bf16⟩
  | .local _ .vmem, ⟨0, _⟩ => ⟨S544x1024, .f32⟩
  | .local _ .vmem, ⟨1, _⟩ => ⟨S544x1024, .f32⟩
  | .local _ .vmem, ⟨2, _⟩ => ⟨S544x1024, .f32⟩
  | .local _ .vmem, ⟨3, _⟩ => ⟨S544x1024, .f32⟩
  | .local _ .vmem, ⟨4, _⟩ => ⟨S1x1024, .f32⟩
  | .local _ .vmem, ⟨5, _⟩ => ⟨S1x1024, .f32⟩
  | .local _ .vmem, ⟨6, _⟩ => ⟨S544x1024, .f32⟩
  | .local _ .vmem, ⟨7, _⟩ => ⟨S544x1024, .f32⟩
  | .local _ .vmem, ⟨8, _⟩ => ⟨S544x1024, .bf16⟩
  | .local _ .vmem, ⟨9, _⟩ => ⟨S544x1024, .bf16⟩
  | _, _ => ⟨S2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c4_i32 : BitVec 32 := 4#32
  let v2 : BitVec 32 := Scalar.addi c0_i32 c4_i32
  let c1_i32 : BitVec 32 := 1#32
  ⟨c0_i32, v2, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c128_i32 : BitVec 32 := 128#32
  let v33 : BitVec 32 := Scalar.muli arg7 c128_i32
  v33
def k0_off1 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32 : BitVec 32 := 128#32
  let v33 : BitVec 32 := Scalar.muli arg7 c128_i32
  let v34 : BitVec 32 := v33
  let v35 : Index := Scalar.indexCast v34
  let c0_16 : Index := 0#32
  ![v35.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S544x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S544x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S544x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== PostRIdeal.lean ====
abbrev S2176x1024 : Shape := ⟨2, ![2176, 1024]⟩
abbrev S1x1024 : Shape := ⟨2, ![1, 1024]⟩
abbrev S_ : Shape := ⟨0, ![]⟩
abbrev S2176 : Shape := ⟨1, ![2176]⟩
abbrev S2176x1 : Shape := ⟨2, ![2176, 1]⟩

abbrev nBuf : Space → Nat
  | .hbm => 36
  | .vmem => 0
  | .smem => 0
  | _ => 0

abbrev bufTy : (tb : Table) → Fin (tcTables nBuf tb) → BufTy
  | .hbm, ⟨0, _⟩ => ⟨S2176x1024, .f32⟩
  | .hbm, ⟨1, _⟩ => ⟨S2176x1024, .f32⟩
  | .hbm, ⟨2, _⟩ => ⟨S1x1024, .f32⟩
  | .hbm, ⟨3, _⟩ => ⟨S1x1024, .f32⟩
  | .hbm, ⟨4, _⟩ => ⟨S2176x1024, .f32⟩
  | .hbm, ⟨5, _⟩ => ⟨S_, .f32⟩
  | .hbm, ⟨6, _⟩ => ⟨S2176, .f32⟩
  | .hbm, ⟨7, _⟩ => ⟨S2176x1, .f32⟩
  | .hbm, ⟨8, _⟩ => ⟨S_, .f32⟩
  | .hbm, ⟨9, _⟩ => ⟨S2176x1, .f32⟩
  | .hbm, ⟨10, _⟩ => ⟨S2176x1, .f32⟩
  | .hbm, ⟨11, _⟩ => ⟨S_, .f32⟩
  | .hbm, ⟨12, _⟩ => ⟨S2176x1, .f32⟩
  | .hbm, ⟨13, _⟩ => ⟨S2176x1, .f32⟩
  | .hbm, ⟨14, _⟩ => ⟨S2176x1, .f32⟩
  | .hbm, ⟨15, _⟩ => ⟨S2176x1024, .f32⟩
  | .hbm, ⟨16, _⟩ => ⟨S2176x1024, .f32⟩
  | .hbm, ⟨17, _⟩ => ⟨S2176x1024, .f32⟩
  | .hbm, ⟨18, _⟩ => ⟨S2176x1024, .f32⟩
  | .hbm, ⟨19, _⟩ => ⟨S2176x1024, .f32⟩
  | .hbm, ⟨20, _⟩ => ⟨S2176x1024, .f32⟩
  | .hbm, ⟨21, _⟩ => ⟨S_, .f32⟩
  | .hbm, ⟨22, _⟩ => ⟨S2176, .f32⟩
  | .hbm, ⟨23, _⟩ => ⟨S2176x1, .f32⟩
  | .hbm, ⟨24, _⟩ => ⟨S_, .f32⟩
  | .hbm, ⟨25, _⟩ => ⟨S2176x1, .f32⟩
  | .hbm, ⟨26, _⟩ => ⟨S2176x1, .f32⟩
  | .hbm, ⟨27, _⟩ => ⟨S_, .f32⟩
  | .hbm, ⟨28, _⟩ => ⟨S2176x1, .f32⟩
  | .hbm, ⟨29, _⟩ => ⟨S2176x1, .f32⟩
  | .hbm, ⟨30, _⟩ => ⟨S2176x1, .f32⟩
  | .hbm, ⟨31, _⟩ => ⟨S2176x1024, .f32⟩
  | .hbm, ⟨32, _⟩ => ⟨S2176x1024, .f32⟩
  | .hbm, ⟨33, _⟩ => ⟨S2176x1024, .f32⟩
  | .hbm, ⟨34, _⟩ => ⟨S2176x1024, .f32⟩
  | .hbm, ⟨35, _⟩ => ⟨S2176x1024, .bf16⟩
  | _, _ => ⟨S2176x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== OptSqK.lean ====
abbrev S1 : Shape := ⟨1, ![1]⟩
abbrev S8x128x1024 : Shape := ⟨3, ![8, 128, 1024]⟩
abbrev S7x128x1024 : Shape := ⟨3, ![7, 128, 1024]⟩
abbrev S128x1024 : Shape := ⟨2, ![128, 1024]⟩
abbrev S1x128x1024 : Shape := ⟨3, ![1, 128, 1024]⟩

abbrev nBuf : Space → Nat
  | .hbm => 9
  | .vmem => 9
  | .smem => 1
  | _ => 0

abbrev bufTy : (tb : Table) → Fin (tcTables nBuf tb) → BufTy
  | .hbm, ⟨0, _⟩ => ⟨S8x128x1024, .f32⟩
  | .hbm, ⟨1, _⟩ => ⟨S7x128x1024, .bf16⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .local _ .vmem, ⟨0, _⟩ => ⟨S1x128x1024, .f32⟩
  | .local _ .vmem, ⟨1, _⟩ => ⟨S7x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .smem, ⟨0, _⟩ => ⟨S1, .i32⟩
  | _, _ => ⟨S8x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S7x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== OptSqRIdeal.lean ====
abbrev S1 : Shape := ⟨1, ![1]⟩
abbrev S8x128x1024 : Shape := ⟨3, ![8, 128, 1024]⟩
abbrev S7x128x1024 : Shape := ⟨3, ![7, 128, 1024]⟩
abbrev S128x1024 : Shape := ⟨2, ![128, 1024]⟩
abbrev S8 : Shape := ⟨1, ![8]⟩
abbrev S8x1x1 : Shape := ⟨3, ![8, 1, 1]⟩
abbrev S1x1x1 : Shape := ⟨3, ![1, 1, 1]⟩
abbrev S_ : Shape := ⟨0, ![]⟩

abbrev nBuf : Space → Nat
  | .hbm => 55
  | .vmem => 0
  | .smem => 0
  | _ => 0

abbrev bufTy : (tb : Table) → Fin (tcTables nBuf tb) → BufTy
  | .hbm, ⟨0, _⟩ => ⟨S1, .i32⟩
  | .hbm, ⟨1, _⟩ => ⟨S8x128x1024, .f32⟩
  | .hbm, ⟨2, _⟩ => ⟨S7x128x1024, .bf16⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S8, .i32⟩
  | .hbm, ⟨7, _⟩ => ⟨S8x1x1, .i32⟩
  | .hbm, ⟨8, _⟩ => ⟨S1x1x1, .i32⟩
  | .hbm, ⟨9, _⟩ => ⟨S8x1x1, .i32⟩
  | .hbm, ⟨10, _⟩ => ⟨S8x1x1, .i1⟩
  | .hbm, ⟨11, _⟩ => ⟨S_, .f32⟩
  | .hbm, ⟨12, _⟩ => ⟨S_, .f32⟩
  | .hbm, ⟨13, _⟩ => ⟨S8x128x1024, .i1⟩
  | .hbm, ⟨14, _⟩ => ⟨S8x128x1024, .f32⟩
  | .hbm, ⟨15, _⟩ => ⟨S8x128x1024, .f32⟩
  | .hbm, ⟨16, _⟩ => ⟨S_, .f32⟩
  | .hbm, ⟨17, _⟩ => ⟨S128x1024, .f32⟩
  | .hbm, ⟨18, _⟩ => ⟨S7x128x1024, .f32⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | .hbm, ⟨40, _⟩ => ⟨S_, .f32⟩
  | .hbm, ⟨41, _⟩ => ⟨S128x1024, .f32⟩
  | .hbm, ⟨42, _⟩ => ⟨S128x1024, .f32⟩
  | .hbm, ⟨43, _⟩ => ⟨S128x1024, .f32⟩
  | .hbm, ⟨44, _⟩ => ⟨S_, .f32⟩
  | .hbm, ⟨45, _⟩ => ⟨S128x1024, .f32⟩
  | .hbm, ⟨46, _⟩ => ⟨S128x1024, .f32⟩
  | .hbm, ⟨47, _⟩ => ⟨S128x1024, .f32⟩
  | .hbm, ⟨48, _⟩ => ⟨S_, .f32⟩
  | .hbm, ⟨49, _⟩ => ⟨S128x1024, .f32⟩
  | .hbm, ⟨50, _⟩ => ⟨S128x1024, .f32⟩
  | .hbm, ⟨51, _⟩ => ⟨S128x1024, .f32⟩
  | .hbm, ⟨52, _⟩ => ⟨S_, .f32⟩
  | .hbm, ⟨53, _⟩ => ⟨S128x1024, .f32⟩
  | .hbm, ⟨54, _⟩ => ⟨S128x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_6 : Ref sig .tc := ⟨.hbm, 37, rfl⟩
abbrev main_v21 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_8 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_9 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_10 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== OptFoutK.lean ====
abbrev S1 : Shape := ⟨1, ![1]⟩
abbrev S8x352x1024 : Shape := ⟨3, ![8, 352, 1024]⟩
abbrev S7x352x1024 : Shape := ⟨3, ![7, 352, 1024]⟩
abbrev S352x1024 : Shape := ⟨2, ![352, 1024]⟩
abbrev S1x352x1024 : Shape := ⟨3, ![1, 352, 1024]⟩

abbrev nBuf : Space → Nat
  | .hbm => 9
  | .vmem => 9
  | .smem => 1
  | _ => 0

abbrev bufTy : (tb : Table) → Fin (tcTables nBuf tb) → BufTy
  | .hbm, ⟨0, _⟩ => ⟨S8x352x1024, .f32⟩
  | .hbm, ⟨1, _⟩ => ⟨S7x352x1024, .bf16⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .hbm, ⟨8, _⟩ => ⟨S352x1024, .f32⟩
  | .local _ .vmem, ⟨0, _⟩ => ⟨S1x352x1024, .f32⟩
  | .local _ .vmem, ⟨1, _⟩ => ⟨S7x352x1024, .bf16⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .smem, ⟨0, _⟩ => ⟨S1, .i32⟩
  | _, _ => ⟨S8x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x352x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S7x352x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S352x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S352x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S352x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S352x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S352x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S352x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S352x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== OptFoutRIdeal.lean ====
abbrev S1 : Shape := ⟨1, ![1]⟩
abbrev S8x352x1024 : Shape := ⟨3, ![8, 352, 1024]⟩
abbrev S7x352x1024 : Shape := ⟨3, ![7, 352, 1024]⟩
abbrev S352x1024 : Shape := ⟨2, ![352, 1024]⟩
abbrev S8 : Shape := ⟨1, ![8]⟩
abbrev S8x1x1 : Shape := ⟨3, ![8, 1, 1]⟩
abbrev S1x1x1 : Shape := ⟨3, ![1, 1, 1]⟩
abbrev S_ : Shape := ⟨0, ![]⟩

abbrev nBuf : Space → Nat
  | .hbm => 55
  | .vmem => 0
  | .smem => 0
  | _ => 0

abbrev bufTy : (tb : Table) → Fin (tcTables nBuf tb) → BufTy
  | .hbm, ⟨0, _⟩ => ⟨S1, .i32⟩
  | .hbm, ⟨1, _⟩ => ⟨S8x352x1024, .f32⟩
  | .hbm, ⟨2, _⟩ => ⟨S7x352x1024, .bf16⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S8, .i32⟩
  | .hbm, ⟨7, _⟩ => ⟨S8x1x1, .i32⟩
  | .hbm, ⟨8, _⟩ => ⟨S1x1x1, .i32⟩
  | .hbm, ⟨9, _⟩ => ⟨S8x1x1, .i32⟩
  | .hbm, ⟨10, _⟩ => ⟨S8x1x1, .i1⟩
  | .hbm, ⟨11, _⟩ => ⟨S_, .f32⟩
  | .hbm, ⟨12, _⟩ => ⟨S_, .f32⟩
  | .hbm, ⟨13, _⟩ => ⟨S8x352x1024, .i1⟩
  | .hbm, ⟨14, _⟩ => ⟨S8x352x1024, .f32⟩
  | .hbm, ⟨15, _⟩ => ⟨S8x352x1024, .f32⟩
  | .hbm, ⟨16, _⟩ => ⟨S_, .f32⟩
  | .hbm, ⟨17, _⟩ => ⟨S352x1024, .f32⟩
  | .hbm, ⟨18, _⟩ => ⟨S7x352x1024, .f32⟩
  | .hbm, ⟨19, _⟩ => ⟨S_, .f32⟩
  | .hbm, ⟨20, _⟩ => ⟨S352x1024, .f32⟩
  | .hbm, ⟨21, _⟩ => ⟨S352x1024, .f32⟩
  | .hbm, ⟨22, _⟩ => ⟨S_, .f32⟩
  | .hbm, ⟨23, _⟩ => ⟨S352x1024, .f32⟩
  | .hbm, ⟨24, _⟩ => ⟨S352x1024, .f32⟩
  | .hbm, ⟨25, _⟩ => ⟨S_, .f32⟩
  | .hbm, ⟨26, _⟩ => ⟨S352x1024, .f32⟩
  | .hbm, ⟨27, _⟩ => ⟨S352x1024, .f32⟩
  | .hbm, ⟨28, _⟩ => ⟨S352x1024, .f32⟩
  | .hbm, ⟨29, _⟩ => ⟨S_, .f32⟩
  | .hbm, ⟨30, _⟩ => ⟨S352x1024, .f32⟩
  | .hbm, ⟨31, _⟩ => ⟨S352x1024, .f32⟩
  | .hbm, ⟨32, _⟩ => ⟨S352x1024, .f32⟩
  | .hbm, ⟨33, _⟩ => ⟨S_, .f32⟩
  | .hbm, ⟨34, _⟩ => ⟨S352x1024, .f32⟩
  | .hbm, ⟨35, _⟩ => ⟨S352x1024, .f32⟩
  | .hbm, ⟨36, _⟩ => ⟨S352x1024, .f32⟩
  | .hbm, ⟨37, _⟩ => ⟨S_, .f32⟩
  | .hbm, ⟨38, _⟩ => ⟨S352x1024, .f32⟩
  | .hbm, ⟨39, _⟩ => ⟨S352x1024, .f32⟩
  | .hbm, ⟨40, _⟩ => ⟨S_, .f32⟩
  | .hbm, ⟨41, _⟩ => ⟨S352x1024, .f32⟩
  | .hbm, ⟨42, _⟩ => ⟨S352x1024, .f32⟩
  | .hbm, ⟨43, _⟩ => ⟨S352x1024, .f32⟩
  | .hbm, ⟨44, _⟩ => ⟨S_, .f32⟩
  | .hbm, ⟨45, _⟩ => ⟨S352x1024, .f32⟩
  | .hbm, ⟨46, _⟩ => ⟨S352x1024, .f32⟩
  | .hbm, ⟨47, _⟩ => ⟨S352x1024, .f32⟩
  | .hbm, ⟨48, _⟩ => ⟨S_, .f32⟩
  | .hbm, ⟨49, _⟩ => ⟨S352x1024, .f32⟩
  | .hbm, ⟨50, _⟩ => ⟨S352x1024, .f32⟩
  | .hbm, ⟨51, _⟩ => ⟨S352x1024, .f32⟩
  | .hbm, ⟨52, _⟩ => ⟨S_, .f32⟩
  | .hbm, ⟨53, _⟩ => ⟨S352x1024, .f32⟩
  | .hbm, ⟨54, _⟩ => ⟨S352x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_6 : Ref sig .tc := ⟨.hbm, 37, rfl⟩
abbrev main_v21 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_8 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_9 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_10 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== OptFinK.lean ====
abbrev S1 : Shape := ⟨1, ![1]⟩
abbrev S8x704x1024 : Shape := ⟨3, ![8, 704, 1024]⟩
abbrev S7x704x1024 : Shape := ⟨3, ![7, 704, 1024]⟩
abbrev S704x1024 : Shape := ⟨2, ![704, 1024]⟩
abbrev S1x352x1024 : Shape := ⟨3, ![1, 352, 1024]⟩
abbrev S7x352x1024 : Shape := ⟨3, ![7, 352, 1024]⟩
abbrev S352x1024 : Shape := ⟨2, ![352, 1024]⟩

abbrev nBuf : Space → Nat
  | .hbm => 9
  | .vmem => 18
  | .smem => 1
  | _ => 0

abbrev bufTy : (tb : Table) → Fin (tcTables nBuf tb) → BufTy
  | .hbm, ⟨0, _⟩ => ⟨S8x704x1024, .f32⟩
  | .hbm, ⟨1, _⟩ => ⟨S7x704x1024, .bf16⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .local _ .vmem, ⟨0, _⟩ => ⟨S1x352x1024, .f32⟩
  | .local _ .vmem, ⟨1, _⟩ => ⟨S1x352x1024, .f32⟩
  | .local _ .vmem, ⟨2, _⟩ => ⟨S7x352x1024, .bf16⟩
  | .local _ .vmem, ⟨3, _⟩ => ⟨S7x352x1024, .bf16⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | .local _ .vmem, ⟨14, _⟩ => ⟨S352x1024, .f32⟩
  | .local _ .vmem, ⟨15, _⟩ => ⟨S352x1024, .f32⟩
  | .local _ .vmem, ⟨16, _⟩ => ⟨S352x1024, .f32⟩
  | .local _ .vmem, ⟨17, _⟩ => ⟨S352x1024, .f32⟩
  | .local _ .smem, ⟨0, _⟩ => ⟨S1, .i32⟩
  | _, _ => ⟨S8x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S352x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OptFinRIdeal.lean ====
abbrev S1 : Shape := ⟨1, ![1]⟩
abbrev S8x704x1024 : Shape := ⟨3, ![8, 704, 1024]⟩
abbrev S7x704x1024 : Shape := ⟨3, ![7, 704, 1024]⟩
abbrev S704x1024 : Shape := ⟨2, ![704, 1024]⟩
abbrev S8 : Shape := ⟨1, ![8]⟩
abbrev S8x1x1 : Shape := ⟨3, ![8, 1, 1]⟩
abbrev S1x1x1 : Shape := ⟨3, ![1, 1, 1]⟩
abbrev S_ : Shape := ⟨0, ![]⟩

abbrev nBuf : Space → Nat
  | .hbm => 55
  | .vmem => 0
  | .smem => 0
  | _ => 0

abbrev bufTy : (tb : Table) → Fin (tcTables nBuf tb) → BufTy
  | .hbm, ⟨0, _⟩ => ⟨S1, .i32⟩
  | .hbm, ⟨1, _⟩ => ⟨S8x704x1024, .f32⟩
  | .hbm, ⟨2, _⟩ => ⟨S7x704x1024, .bf16⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S8, .i32⟩
  | .hbm, ⟨7, _⟩ => ⟨S8x1x1, .i32⟩
  | .hbm, ⟨8, _⟩ => ⟨S1x1x1, .i32⟩
  | .hbm, ⟨9, _⟩ => ⟨S8x1x1, .i32⟩
  | .hbm, ⟨10, _⟩ => ⟨S8x1x1, .i1⟩
  | .hbm, ⟨11, _⟩ => ⟨S_, .f32⟩
  | .hbm, ⟨12, _⟩ => ⟨S_, .f32⟩
  | .hbm, ⟨13, _⟩ => ⟨S8x704x1024, .i1⟩
  | .hbm, ⟨14, _⟩ => ⟨S8x704x1024, .f32⟩
  | .hbm, ⟨15, _⟩ => ⟨S8x704x1024, .f32⟩
  | .hbm, ⟨16, _⟩ => ⟨S_, .f32⟩
  | .hbm, ⟨17, _⟩ => ⟨S704x1024, .f32⟩
  | .hbm, ⟨18, _⟩ => ⟨S7x704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S_, .f32⟩
  | .hbm, ⟨26, _⟩ => ⟨S704x1024, .f32⟩
  | .hbm, ⟨27, _⟩ => ⟨S704x1024, .f32⟩
  | .hbm, ⟨28, _⟩ => ⟨S704x1024, .f32⟩
  | .hbm, ⟨29, _⟩ => ⟨S_, .f32⟩
  | .hbm, ⟨30, _⟩ => ⟨S704x1024, .f32⟩
  | .hbm, ⟨31, _⟩ => ⟨S704x1024, .f32⟩
  | .hbm, ⟨32, _⟩ => ⟨S704x1024, .f32⟩
  | .hbm, ⟨33, _⟩ => ⟨S_, .f32⟩
  | .hbm, ⟨34, _⟩ => ⟨S704x1024, .f32⟩
  | .hbm, ⟨35, _⟩ => ⟨S704x1024, .f32⟩
  | .hbm, ⟨36, _⟩ => ⟨S704x1024, .f32⟩
  | .hbm, ⟨37, _⟩ => ⟨S_, .f32⟩
  | .hbm, ⟨38, _⟩ => ⟨S704x1024, .f32⟩
  | .hbm, ⟨39, _⟩ => ⟨S704x1024, .f32⟩
  | .hbm, ⟨40, _⟩ => ⟨S_, .f32⟩
  | .hbm, ⟨41, _⟩ => ⟨S704x1024, .f32⟩
  | .hbm, ⟨42, _⟩ => ⟨S704x1024, .f32⟩
  | .hbm, ⟨43, _⟩ => ⟨S704x1024, .f32⟩
  | .hbm, ⟨44, _⟩ => ⟨S_, .f32⟩
  | .hbm, ⟨45, _⟩ => ⟨S704x1024, .f32⟩
  | .hbm, ⟨46, _⟩ => ⟨S704x1024, .f32⟩
  | .hbm, ⟨47, _⟩ => ⟨S704x1024, .f32⟩
  | .hbm, ⟨48, _⟩ => ⟨S_, .f32⟩
  | .hbm, ⟨49, _⟩ => ⟨S704x1024, .f32⟩
  | .hbm, ⟨50, _⟩ => ⟨S704x1024, .f32⟩
  | .hbm, ⟨51, _⟩ => ⟨S704x1024, .f32⟩
  | .hbm, ⟨52, _⟩ => ⟨S_, .f32⟩
  | .hbm, ⟨53, _⟩ => ⟨S704x1024, .f32⟩
  | .hbm, ⟨54, _⟩ => ⟨S704x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_6 : Ref sig .tc := ⟨.hbm, 37, rfl⟩
abbrev main_v21 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_8 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_9 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_10 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== OptInK.lean ====
abbrev S1 : Shape := ⟨1, ![1]⟩
abbrev S8x1024x896 : Shape := ⟨3, ![8, 1024, 896]⟩
abbrev S1x1024x896 : Shape := ⟨3, ![1, 1024, 896]⟩
abbrev S3x1024x896 : Shape := ⟨3, ![3, 1024, 896]⟩
abbrev S1024x896 : Shape := ⟨2, ![1024, 896]⟩
abbrev S1x512x896 : Shape := ⟨3, ![1, 512, 896]⟩
abbrev S3x512x896 : Shape := ⟨3, ![3, 512, 896]⟩
abbrev S512x896 : Shape := ⟨2, ![512, 896]⟩

abbrev nBuf : Space → Nat
  | .hbm => 10
  | .vmem => 20
  | .smem => 1
  | _ => 0

abbrev bufTy : (tb : Table) → Fin (tcTables nBuf tb) → BufTy
  | .hbm, ⟨0, _⟩ => ⟨S8x1024x896, .f32⟩
  | .hbm, ⟨1, _⟩ => ⟨S1x1024x896, .bf16⟩
  | .hbm, ⟨2, _⟩ => ⟨S3x1024x896, .bf16⟩
  | .hbm, ⟨3, _⟩ => ⟨S1024x896, .f32⟩
  | .hbm, ⟨4, _⟩ => ⟨S1024x896, .f32⟩
  | .hbm, ⟨5, _⟩ => ⟨S1024x896, .f32⟩
  | .hbm, ⟨6, _⟩ => ⟨S1024x896, .f32⟩
  | .hbm, ⟨7, _⟩ => ⟨S1024x896, .f32⟩
  | .hbm, ⟨8, _⟩ => ⟨S1024x896, .f32⟩
  | .hbm, ⟨9, _⟩ => ⟨S1024x896, .f32⟩
  | .local _ .vmem, ⟨0, _⟩ => ⟨S1x512x896, .f32⟩
  | .local _ .vmem, ⟨1, _⟩ => ⟨S1x512x896, .f32⟩
  | .local _ .vmem, ⟨2, _⟩ => ⟨S1x512x896, .bf16⟩
  | .local _ .vmem, ⟨3, _⟩ => ⟨S1x512x896, .bf16⟩
  | .local _ .vmem, ⟨4, _⟩ => ⟨S3x512x896, .bf16⟩
  | .local _ .vmem, ⟨5, _⟩ => ⟨S3x512x896, .bf16⟩
  | .local _ .vmem, ⟨6, _⟩ => ⟨S512x896, .f32⟩
  | .local _ .vmem, ⟨7, _⟩ => ⟨S512x896, .f32⟩
  | .local _ .vmem, ⟨8, _⟩ => ⟨S512x896, .f32⟩
  | .local _ .vmem, ⟨9, _⟩ => ⟨S512x896, .f32⟩
  | .local _ .vmem, ⟨10, _⟩ => ⟨S512x896, .f32⟩
  | .local _ .vmem, ⟨11, _⟩ => ⟨S512x896, .f32⟩
  | .local _ .vmem, ⟨12, _⟩ => ⟨S512x896, .f32⟩
  | .local _ .vmem, ⟨13, _⟩ => ⟨S512x896, .f32⟩
  | .local _ .vmem, ⟨14, _⟩ => ⟨S512x896, .f32⟩
  | .local _ .vmem, ⟨15, _⟩ => ⟨S512x896, .f32⟩
  | .local _ .vmem, ⟨16, _⟩ => ⟨S512x896, .f32⟩
  | .local _ .vmem, ⟨17, _⟩ => ⟨S512x896, .f32⟩
  | .local _ .vmem, ⟨18, _⟩ => ⟨S512x896, .f32⟩
  | .local _ .vmem, ⟨19, _⟩ => ⟨S512x896, .f32⟩
  | .local _ .smem, ⟨0, _⟩ => ⟨S1, .i32⟩
  | _, _ => ⟨S8x1024x896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x512x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x896 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x896 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x896 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x896 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x896 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x896 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OptInRIdeal.lean ====
abbrev S1 : Shape := ⟨1, ![1]⟩
abbrev S8x1024x896 : Shape := ⟨3, ![8, 1024, 896]⟩
abbrev S1x1024x896 : Shape := ⟨3, ![1, 1024, 896]⟩
abbrev S3x1024x896 : Shape := ⟨3, ![3, 1024, 896]⟩
abbrev S1024x896 : Shape := ⟨2, ![1024, 896]⟩
abbrev S8 : Shape := ⟨1, ![8]⟩
abbrev S8x1x1 : Shape := ⟨3, ![8, 1, 1]⟩
abbrev S1x1x1 : Shape := ⟨3, ![1, 1, 1]⟩
abbrev S_ : Shape := ⟨0, ![]⟩

abbrev nBuf : Space → Nat
  | .hbm => 59
  | .vmem => 0
  | .smem => 0
  | _ => 0

abbrev bufTy : (tb : Table) → Fin (tcTables nBuf tb) → BufTy
  | .hbm, ⟨0, _⟩ => ⟨S1, .i32⟩
  | .hbm, ⟨1, _⟩ => ⟨S8x1024x896, .f32⟩
  | .hbm, ⟨2, _⟩ => ⟨S1x1024x896, .bf16⟩
  | .hbm, ⟨3, _⟩ => ⟨S3x1024x896, .bf16⟩
  | .hbm, ⟨4, _⟩ => ⟨S1024x896, .f32⟩
  | .hbm, ⟨5, _⟩ => ⟨S1024x896, .f32⟩
  | .hbm, ⟨6, _⟩ => ⟨S1024x896, .f32⟩
  | .hbm, ⟨7, _⟩ => ⟨S8, .i32⟩
  | .hbm, ⟨8, _⟩ => ⟨S8x1x1, .i32⟩
  | .hbm, ⟨9, _⟩ => ⟨S1x1x1, .i32⟩
  | .hbm, ⟨10, _⟩ => ⟨S8x1x1, .i32⟩
  | .hbm, ⟨11, _⟩ => ⟨S8x1x1, .i1⟩
  | .hbm, ⟨12, _⟩ => ⟨S_, .f32⟩
  | .hbm, ⟨13, _⟩ => ⟨S_, .f32⟩
  | .hbm, ⟨14, _⟩ => ⟨S8x1024x896, .i1⟩
  | .hbm, ⟨15, _⟩ => ⟨S8x1024x896, .f32⟩
  | .hbm, ⟨16, _⟩ => ⟨S8x1024x896, .f32⟩
  | .hbm, ⟨17, _⟩ => ⟨S_, .f32⟩
  | .hbm, ⟨18, _⟩ => ⟨S1024x896, .f32⟩
  | .hbm, ⟨19, _⟩ => ⟨S1024x896, .bf16⟩
  | .hbm, ⟨20, _⟩ => ⟨S1024x896, .f32⟩
  | .hbm, ⟨21, _⟩ => ⟨S1024x896, .f32⟩
  | .hbm, ⟨22, _⟩ => ⟨S3x1024x896, .f32⟩
  | .hbm, ⟨23, _⟩ => ⟨S_, .f32⟩
  | .hbm, ⟨24, _⟩ => ⟨S1024x896, .f32⟩
  | .hbm, ⟨25, _⟩ => ⟨S1024x896, .f32⟩
  | .hbm, ⟨26, _⟩ => ⟨S_, .f32⟩
  | .hbm, ⟨27, _⟩ => ⟨S1024x896, .f32⟩
  | .hbm, ⟨28, _⟩ => ⟨S1024x896, .f32⟩
  | .hbm, ⟨29, _⟩ => ⟨S_, .f32⟩
  | .hbm, ⟨30, _⟩ => ⟨S1024x896, .f32⟩
  | .hbm, ⟨31, _⟩ => ⟨S1024x896, .f32⟩
  | .hbm, ⟨32, _⟩ => ⟨S1024x896, .f32⟩
  | .hbm, ⟨33, _⟩ => ⟨S_, .f32⟩
  | .hbm, ⟨34, _⟩ => ⟨S1024x896, .f32⟩
  | .hbm, ⟨35, _⟩ => ⟨S1024x896, .f32⟩
  | .hbm, ⟨36, _⟩ => ⟨S1024x896, .f32⟩
  | .hbm, ⟨37, _⟩ => ⟨S_, .f32⟩
  | .hbm, ⟨38, _⟩ => ⟨S1024x896, .f32⟩
  | .hbm, ⟨39, _⟩ => ⟨S1024x896, .f32⟩
  | .hbm, ⟨40, _⟩ => ⟨S1024x896, .f32⟩
  | .hbm, ⟨41, _⟩ => ⟨S_, .f32⟩
  | .hbm, ⟨42, _⟩ => ⟨S1024x896, .f32⟩
  | .hbm, ⟨43, _⟩ => ⟨S1024x896, .f32⟩
  | .hbm, ⟨44, _⟩ => ⟨S_, .f32⟩
  | .hbm, ⟨45, _⟩ => ⟨S1024x896, .f32⟩
  | .hbm, ⟨46, _⟩ => ⟨S1024x896, .f32⟩
  | .hbm, ⟨47, _⟩ => ⟨S1024x896, .f32⟩
  | .hbm, ⟨48, _⟩ => ⟨S_, .f32⟩
  | .hbm, ⟨49, _⟩ => ⟨S1024x896, .f32⟩
  | .hbm, ⟨50, _⟩ => ⟨S1024x896, .f32⟩
  | .hbm, ⟨51, _⟩ => ⟨S1024x896, .f32⟩
  | .hbm, ⟨52, _⟩ => ⟨S_, .f32⟩
  | .hbm, ⟨53, _⟩ => ⟨S1024x896, .f32⟩
  | .hbm, ⟨54, _⟩ => ⟨S1024x896, .f32⟩
  | .hbm, ⟨55, _⟩ => ⟨S1024x896, .f32⟩
  | .hbm, ⟨56, _⟩ => ⟨S_, .f32⟩
  | .hbm, ⟨57, _⟩ => ⟨S1024x896, .f32⟩
  | .hbm, ⟨58, _⟩ => ⟨S1024x896, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_6 : Ref sig .tc := ⟨.hbm, 41, rfl⟩
abbrev main_v24 : Ref sig .tc := ⟨.hbm, 42, rfl⟩
abbrev main_v25 : Ref sig .tc := ⟨.hbm, 43, rfl⟩
abbrev main_cst_7 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_8 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_9 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_10 : Ref sig .tc := ⟨.hbm, 56, rfl⟩
abbrev main_v35 : Ref sig .tc := ⟨.hbm, 57, rfl⟩
abbrev main_v36 : Ref sig .tc := ⟨.hbm, 58, rfl⟩

abbrev nD : Nat := 1
abbrev τ : Topo := Topo.v7x

variable {F : FTy → Type} [FloatOps F]
-- ==== Proof.ConvRun.lean ====
module

public import proofs.«01_k».proof.Defs
public import proofs.«01_k».proof.Proof.Gen.ConvKIdeal.Loops
public import proofs.«01_k».proof.Proof.Gen.ConvKIdeal.Frame
public import proofs.«01_k».proof.Proof.Gen.ConvKIdeal.Launch
public import proofs.«01_k».proof.Proof.Gen.ConvKIdeal.Points

@[expose] public section

/-! The body of the convolution's backward call, run once for any values: what it leaves in every buffer it is
handed, as the run of its memory operations finds it. -/

set_option maxRecDepth 16384
set_option maxHeartbeats 4000000
noncomputable section
namespace Cert.Conv
open Cert.ConvKIdeal Cert.ConvKIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

/-- The body on whole buffers at any contents: the contents it leaves in the four results' buffers and in the four
scratch buffers (the four operands' buffers are left as found), with the proof that it runs to them. -/
@[irreducible] def bodyRun (c : Dev nD) (i : grid0.Coords) (b1 : Memref sig .tc .vmem S2176x128 .f32) (k1 : b1.IsWhole) (b2 : Memref sig .tc .vmem S2176x128 .f32) (k2 : b2.IsWhole) (b3 : Memref sig .tc .vmem S2176x128 .f32) (k3 : b3.IsWhole)
    (b4 : Memref sig .tc .vmem S32x128 .f32) (k4 : b4.IsWhole) (b5 : Memref sig .tc .vmem S2176x128 .bf16) (k5 : b5.IsWhole) (b6 : Memref sig .tc .vmem S2176x128 .bf16) (k6 : b6.IsWhole) (b7 : Memref sig .tc .vmem S32x128 .f32) (k7 : b7.IsWhole) (b8 : Memref sig .tc .vmem S1x128 .f32) (k8 : b8.IsWhole) (b9 : Memref sig .tc .vmem S2208x128 .f32) (k9 : b9.IsWhole) (b10 : Memref sig .tc .vmem S2208x128 .f32) (k10 : b10.IsWhole) (b11 : Memref sig .tc .vmem S32x8x128 .f32) (k11 : b11.IsWhole) (b12 : Memref sig .tc .vmem S8x128 .f32) (k12 : b12.IsWhole)
    (X1 : BufTy.Contents (Elt F) b1.view.ty) (X2 : BufTy.Contents (Elt F) b2.view.ty) (X3 : BufTy.Contents (Elt F) b3.view.ty) (X4 : BufTy.Contents (Elt F) b4.view.ty)
    (f5 : BufTy.Contents (Elt F) b5.view.ty) (f6 : BufTy.Contents (Elt F) b6.view.ty) (f7 : BufTy.Contents (Elt F) b7.view.ty) (f8 : BufTy.Contents (Elt F) b8.view.ty)
    (f9 : BufTy.Contents (Elt F) b9.view.ty) (f10 : BufTy.Contents (Elt F) b10.view.ty) (f11 : BufTy.Contents (Elt F) b11.view.ty) (f12 : BufTy.Contents (Elt F) b12.view.ty) :
    Σ' (g5 : BufTy.Contents (Elt F) b5.view.ty) (g6 : BufTy.Contents (Elt F) b6.view.ty) (g7 : BufTy.Contents (Elt F) b7.view.ty) (g8 : BufTy.Contents (Elt F) b8.view.ty)
      (g9 : BufTy.Contents (Elt F) b9.view.ty) (g10 : BufTy.Contents (Elt F) b10.view.ty) (g11 : BufTy.Contents (Elt F) b11.view.ty), { g12 : BufTy.Contents (Elt F) b12.view.ty //
      ∀ (E : Set ℕ), iprop((b1.view.loc (c : Thread nD τ) ↦[b1.view.set]{fullShare} X1) ∗ (b2.view.loc (c : Thread nD τ) ↦[b2.view.set]{fullShare} X2) ∗ (b3.view.loc (c : Thread nD τ) ↦[b3.view.set]{fullShare} X3) ∗ (b4.view.loc (c : Thread nD τ) ↦[b4.view.set]{fullShare} X4)
          ∗ (b5.view.loc (c : Thread nD τ) ↦[b5.view.set]{fullShare} f5) ∗ (b6.view.loc (c : Thread nD τ) ↦[b6.view.set]{fullShare} f6) ∗ (b7.view.loc (c : Thread nD τ) ↦[b7.view.set]{fullShare} f7) ∗ (b8.view.loc (c : Thread nD τ) ↦[b8.view.set]{fullShare} f8)
          ∗ (b9.view.loc (c : Thread nD τ) ↦[b9.view.set]{fullShare} f9) ∗ (b10.view.loc (c : Thread nD τ) ↦[b10.view.set]{fullShare} f10) ∗ (b11.view.loc (c : Thread nD τ) ↦[b11.view.set]{fullShare} f11) ∗ (b12.view.loc (c : Thread nD τ) ↦[b12.view.set]{fullShare} f12))
        ⊢ (wp Idealize.ShloMosaic.frame (wpE (defs₀ (F := F)) Variants.none c none) E (cc0_conv_bwd i b1 k1 b2 k2 b3 k3 b4 k4 b5 k5 b6 k6 b7 k7 b8 k8 b9 k9 b10 k10 b11 k11 b12 k12)
          (fun _ => iprop((b1.view.loc (c : Thread nD τ) ↦[b1.view.set]{fullShare} X1) ∗ (b2.view.loc (c : Thread nD τ) ↦[b2.view.set]{fullShare} X2) ∗ (b3.view.loc (c : Thread nD τ) ↦[b3.view.set]{fullShare} X3) ∗ (b4.view.loc (c : Thread nD τ) ↦[b4.view.set]{fullShare} X4)
          ∗ (b5.view.loc (c : Thread nD τ) ↦[b5.view.set]{fullShare} g5) ∗ (b6.view.loc (c : Thread nD τ) ↦[b6.view.set]{fullShare} g6) ∗ (b7.view.loc (c : Thread nD τ) ↦[b7.view.set]{fullShare} g7) ∗ (b8.view.loc (c : Thread nD τ) ↦[b8.view.set]{fullShare} g8)
          ∗ (b9.view.loc (c : Thread nD τ) ↦[b9.view.set]{fullShare} g9) ∗ (b10.view.loc (c : Thread nD τ) ↦[b10.view.set]{fullShare} g10) ∗ (b11.view.loc (c : Thread nD τ) ↦[b11.view.set]{fullShare} g11) ∗ (b12.view.loc (c : Thread nD τ) ↦[b12.view.set]{fullShare} g12))) : sProp 𝕄) } := by
  refine ⟨?_, ?_, ?_, ?_, ?_, ?_, ?_, ?_, fun E => ?run⟩
  case run =>
    simp only [cc0_conv_bwd_eq_skeleton]; unfold cc0_conv_bwd_skel
    simp only [k0_part16_eq_skeleton, k0_part17_eq_skeleton, k0_part18_eq_skeleton, k0_part19_eq_skeleton, k0_part20_eq_skeleton, k0_part21_eq_skeleton, k0_part22_eq_skeleton]
    iintro ⟨H1, H2, H3, H4, H5, H6, H7, H8, H9, H10, H11, H12⟩
    sl_exec
    sl_step
    sl_close

end Cert.Conv
end
-- ==== Proof.ConvTiles.lean ====
module

public import proofs.«01_k».proof.Proof.ConvRun
public import Idealize.ShloMosaic.Lib.WritesUnit
public import Idealize.ShloMosaic.Lib.Pointwise
public import Idealize.ShloMosaic.Lib.Pipeline.FrameBody

@[expose] public section

/-! What one trip of each of the two loops of the convolution's backward body stores, as functions of what the
buffers read: the first loop's tiles of the padded activation and of the padded cotangent, the second loop's tiles of
the two gradients and its steps of the two accumulators. -/

set_option maxRecDepth 16384
set_option maxHeartbeats 4000000

noncomputable section

namespace Cert.Conv

open Cert.ConvKIdeal Cert.ConvKIdeal.Gen
open Idealize.ShloMosaic Idealize.ShloMosaic.TcCoe

variable {F : FTy → Type} [FloatOps F] {α : Type}

/-! ## Windows of a buffer -/

/-- Rows `128 n …` of an operand: 128 of them. -/
def rowsAt (x : S2176x128.Idx → α) (n : ℕ) : S128x128.Idx → α :=
  fun y => x (ix2 ⟨(128 * n + (y 0).val) % 2176, Nat.mod_lt _ (by decide)⟩ (y 1))

/-- Rows `128 n …` of a padded buffer: 160 of them. -/
def winAt (x : S2208x128.Idx → α) (n : ℕ) : S160x128.Idx → α :=
  fun y => x (ix2 ⟨(128 * n + (y 0).val) % 2208, Nat.mod_lt _ (by decide)⟩ (y 1))

/-- Row `j` of the taps. -/
def rowAt (x : S32x128.Idx → α) (j : ℕ) : S1x128.Idx → α :=
  fun y => x (ix2 ⟨(j + (y 0).val) % 32, Nat.mod_lt _ (by decide)⟩ (y 1))

/-- Plane `j` of the taps' accumulator. -/
def planeAt (x : S32x8x128.Idx → α) (j : ℕ) : S1x8x128.Idx → α :=
  fun y => x (ix3 ⟨(j + (y 0).val) % 32, Nat.mod_lt _ (by decide)⟩ (y 1) (y 2))

/-- 128 rows of a window of 160, from row `o`. -/
def sl (x : S160x128.Idx → α) (o : ℕ) : S128x128.Idx → α :=
  fun y => x (ix2 ⟨(o + (y 0).val) % 160, Nat.mod_lt _ (by decide)⟩ (y 1))

theorem trips1 (k : Fin k0_t1_loop.trips) : k.val < 17 := Nat.lt_of_lt_of_le k.isLt k0_t1_abs.2.1
theorem trips2 (k : Fin k0_t2_loop.trips) : k.val < 17 := Nat.lt_of_lt_of_le k.isLt k0_t2_abs.2.1

/-- A load of the loop's rows reads rowsAt. -/
theorem rd1 {e : EltTy} (v : View sig .tc .vmem S2176x128 e) (X : v.ty.Contents (Elt F)) (k : Fin k0_t1_loop.trips)
    (h : ∀ a, k0_off1 k a + (![128, 128] : Fin 2 → ℕ) a ≤ S2176x128.size a) :
    (View.readAt (Elt F) v (Rect.unit (s := S2176x128) (k0_off1 k) ![128, 128] h).toLoadRect X : S128x128.Idx → Elt F e)
      = rowsAt (v.read (Elt F) X) k.val := by
  funext y
  refine congrArg (v.read (Elt F) X) (funext fun a => ?_)
  have hk := trips1 k
  have h0 : (k0_off1 k) 0 = 128 * k.val := congrFun (k0_off1_eq k) 0
  have h1 : (k0_off1 k) 1 = 0 := congrFun (k0_off1_eq k) 1
  have hy0 : (y 0).val < 128 := (y 0).isLt
  exact Fin.ext (match a with
  | ⟨0, _⟩ => by show k0_off1 k 0 + 1 * (y 0).val = (128 * k.val + (y 0).val) % _; rw [h0, Nat.mod_eq_of_lt (by omega)]; omega
  | ⟨1, _⟩ => by show k0_off1 k 1 + 1 * (y 1).val = (y 1).val; rw [h1]; omega)

/-- A load of the loop's rows reads rowsAt. -/
theorem rd5 {e : EltTy} (v : View sig .tc .vmem S2176x128 e) (X : v.ty.Contents (Elt F)) (k : Fin k0_t2_loop.trips)
    (h : ∀ a, k0_off5 k a + (![128, 128] : Fin 2 → ℕ) a ≤ S2176x128.size a) :
    (View.readAt (Elt F) v (Rect.unit (s := S2176x128) (k0_off5 k) ![128, 128] h).toLoadRect X : S128x128.Idx → Elt F e)
      = rowsAt (v.read (Elt F) X) k.val := by
  funext y
  refine congrArg (v.read (Elt F) X) (funext fun a => ?_)
  have hk := trips2 k
  have h0 : (k0_off5 k) 0 = 128 * k.val := congrFun (k0_off5_eq k) 0
  have h1 : (k0_off5 k) 1 = 0 := congrFun (k0_off5_eq k) 1
  have hy0 : (y 0).val < 128 := (y 0).isLt
  exact Fin.ext (match a with
  | ⟨0, _⟩ => by show k0_off5 k 0 + 1 * (y 0).val = (128 * k.val + (y 0).val) % _; rw [h0, Nat.mod_eq_of_lt (by omega)]; omega
  | ⟨1, _⟩ => by show k0_off5 k 1 + 1 * (y 1).val = (y 1).val; rw [h1]; omega)

/-- A load of the loop's rows reads winAt. -/
theorem rd4 {e : EltTy} (v : View sig .tc .vmem S2208x128 e) (X : v.ty.Contents (Elt F)) (k : Fin k0_t2_loop.trips)
    (h : ∀ a, k0_off4 k a + (![160, 128] : Fin 2 → ℕ) a ≤ S2208x128.size a) :
    (View.readAt (Elt F) v (Rect.unit (s := S2208x128) (k0_off4 k) ![160, 128] h).toLoadRect X : S160x128.Idx → Elt F e)
      = winAt (v.read (Elt F) X) k.val := by
  funext y
  refine congrArg (v.read (Elt F) X) (funext fun a => ?_)
  have hk := trips2 k
  have h0 : (k0_off4 k) 0 = 128 * k.val := congrFun (k0_off4_eq k) 0
  have h1 : (k0_off4 k) 1 = 0 := congrFun (k0_off4_eq k) 1
  have hy0 : (y 0).val < 160 := (y 0).isLt
  exact Fin.ext (match a with
  | ⟨0, _⟩ => by show k0_off4 k 0 + 1 * (y 0).val = (128 * k.val + (y 0).val) % _; rw [h0, Nat.mod_eq_of_lt (by omega)]; omega
  | ⟨1, _⟩ => by show k0_off4 k 1 + 1 * (y 1).val = (y 1).val; rw [h1]; omega)

/-- A load of one row of the taps reads it. -/
theorem rdRow {e : EltTy} (v : View sig .tc .vmem S32x128 e) (X : v.ty.Contents (Elt F)) (j : ℕ)
    (h : ∀ a, (![j, 0] : Fin 2 → ℕ) a + (![1, 128] : Fin 2 → ℕ) a ≤ S32x128.size a) :
    (View.readAt (Elt F) v (Rect.unit (s := S32x128) ![j, 0] ![1, 128] h).toLoadRect X : S1x128.Idx → Elt F e)
      = rowAt (v.read (Elt F) X) j := by
  funext y
  refine congrArg (v.read (Elt F) X) (funext fun a => ?_)
  have hj : j + 1 ≤ 32 := h 0
  have hy0 : (y 0).val < 1 := (y 0).isLt
  exact Fin.ext (match a with
  | ⟨0, _⟩ => by show j + 1 * (y 0).val = (j + (y 0).val) % 32; rw [Nat.mod_eq_of_lt (by omega)]; omega
  | ⟨1, _⟩ => by show 0 + 1 * (y 1).val = (y 1).val; omega)

/-- A load of one plane of the accumulator reads it. -/
theorem rdPlane {e : EltTy} (v : View sig .tc .vmem S32x8x128 e) (X : v.ty.Contents (Elt F)) (j : ℕ)
    (h : ∀ a, (![j, 0, 0] : Fin 3 → ℕ) a + (![1, 8, 128] : Fin 3 → ℕ) a ≤ S32x8x128.size a) :
    (View.readAt (Elt F) v (Rect.unit (s := S32x8x128) ![j, 0, 0] ![1, 8, 128] h).toLoadRect X : S1x8x128.Idx → Elt F e)
      = planeAt (v.read (Elt F) X) j := by
  funext y
  refine congrArg (v.read (Elt F) X) (funext fun a => ?_)
  have hj : j + 1 ≤ 32 := h 0
  have hy0 : (y 0).val < 1 := (y 0).isLt
  exact Fin.ext (match a with
  | ⟨0, _⟩ => by show j + 1 * (y 0).val = (j + (y 0).val) % 32; rw [Nat.mod_eq_of_lt (by omega)]; omega
  | ⟨1, _⟩ => by show 0 + 1 * (y 1).val = (y 1).val; omega
  | ⟨2, _⟩ => by show 0 + 1 * (y 2).val = (y 2).val; omega)

/-- A load of the whole of the bias's accumulator reads it. -/
theorem rdWhole {e : EltTy} (v : View sig .tc .vmem S8x128 e) (X : v.ty.Contents (Elt F))
    (h : ∀ a, (![0, 0] : Fin 2 → ℕ) a + (![8, 128] : Fin 2 → ℕ) a ≤ S8x128.size a) :
    (View.readAt (Elt F) v (Rect.unit (s := S8x128) ![0, 0] ![8, 128] h).toLoadRect X : S8x128.Idx → Elt F e)
      = v.read (Elt F) X := by
  funext y
  refine congrArg (v.read (Elt F) X) (funext fun a => ?_)
  exact Fin.ext (match a with
  | ⟨0, _⟩ => by show 0 + 1 * (y 0).val = (y 0).val; omega
  | ⟨1, _⟩ => by show 0 + 1 * (y 1).val = (y 1).val; omega)

/-! ## Slices of a rolled window -/

/-- A slice of the window is its rows. -/
theorem slice_eq (x : S160x128.Idx → α) (o : ℕ) (h : S160x128.Slices ![o, 0] S128x128) :
    extractStridedSlice S128x128 ![o, 0] x h = sl x o := by
  funext y
  refine congrArg x (funext fun a => ?_)
  have ho : o + 128 ≤ 160 := h.2 0
  have hy0 : (y 0).val < 128 := (y 0).isLt
  exact Fin.ext (match a with
  | ⟨0, _⟩ => by show o + (y 0).val = (o + (y 0).val) % 160; rw [Nat.mod_eq_of_lt (by omega)]
  | ⟨1, _⟩ => by show 0 + (y 1).val = (y 1).val; omega)

/-- A slice of the window rolled by `n` rows is the window's rows from `n` rows before. -/
theorem sl_roll (x : S160x128.Idx → α) (o : ℕ) (n : BitVec 32) (h : S160x128.Rotates 0 none) :
    sl (dynamicRotate (no_index 0) n (no_index none) x h) o = sl x ((o + (160 - n.toNat % 160)) % 160) := by
  funext y
  refine congrArg x (funext fun a => ?_)
  have hn : n.toNat % 160 < 160 := Nat.mod_lt _ (by decide)
  exact Fin.ext (match a with
  | ⟨0, _⟩ => by
    show ((o + (y 0).val) % 160 + 160 - (n.toNat + 0) % 160) % 160 = ((o + (160 - n.toNat % 160)) % 160 + (y 0).val) % 160
    rw [Nat.add_zero]; omega
  | ⟨1, _⟩ => rfl)

/-- Rows taken modulo the window's height. -/
theorem sl_mod (x : S160x128.Idx → α) (o o' : ℕ) (h : o % 160 = o' % 160) : sl x o = sl x o' := by
  funext y
  refine congrArg x (funext fun a => ?_)
  exact Fin.ext (match a with
  | ⟨0, _⟩ => by show (o + (y 0).val) % 160 = (o' + (y 0).val) % 160; omega
  | ⟨1, _⟩ => rfl)

/-! ## The tiles -/

/-- One plane of the taps' accumulator after a trip: the plane found, plus the sums of the products' groups of eight rows. -/
def accStep (acc : Vec F S1x8x128 .f32) (p : FVec F S128x128 .f32) : FVec F S1x8x128 .f32 :=
  shapeCast S1x8x128 (addf (shapeCast S8x128 acc shapeCasts_S1x8x128_S8x128)
    (multiReduction .add [0] S8x128 (shapeCast S16x8x128 p shapeCasts_S128x128_S16x8x128) 0x00000000#32 reduces_S16x8x128_S8x128 (.inl rfl) rfl)) shapeCasts_S8x128_S1x8x128

/-- Plane `j` of the taps' accumulator after a trip, from the trip's rows of the cotangent and its window of the padded
activation: row `r` of the cotangent meets row `r + j + 2` of the window. -/
def tapTile (dyc : Vec F S128x128 .f32) (uwin : Vec F S160x128 .f32) (acc : Vec F S1x8x128 .f32) (j : ℕ) : FVec F S1x8x128 .f32 :=
  accStep acc (mulf dyc (sl uwin (j + 2)))

/-- The bias's accumulator after a trip. -/
def biasTile (dyc : Vec F S128x128 .f32) (acc : Vec F S8x128 .f32) : FVec F S8x128 .f32 :=
  shapeCast S8x128 (addf acc
    (multiReduction .add [0] S8x128 (shapeCast S16x8x128 dyc shapeCasts_S128x128_S16x8x128) 0x00000000#32 reduces_S16x8x128_S8x128 (.inl rfl) rfl)) shapeCasts_S8x128_S8x128

/-- One tap's step of the activation's gradient: tap `30 - s` against the window's rows from `s`. -/
def duStep (dwin : Vec F S160x128 .f32) (w : Vec F S32x128 .f32) (acc : FVec F S128x128 .f32) (s : ℕ) : FVec F S128x128 .f32 :=
  addf acc (mulf (broadcastTo S128x128 (shapeCast S1x128 (rowAt w (30 - s)) shapeCasts_S1x128_S1x128) broadcasts_S1x128_S128x128) (sl dwin s))

/-- The order in which the kernel takes the taps. -/
def taps : List ℕ := [0, 8, 16, 24, 1, 9, 17, 25, 2, 10, 18, 26, 3, 11, 19, 27, 4, 12, 20, 28, 5, 13, 21, 29, 6, 14, 22, 30, 7, 15, 23]

/-- A tile of the activation's gradient: the taps' steps in the kernel's order. -/
def duTile (dwin : Vec F S160x128 .f32) (w : Vec F S32x128 .f32) : FVec F S128x128 .f32 :=
  taps.foldl (duStep dwin w) (broadcast S128x128 (Scalar.ofBits .f32 0x00000000#32))

/-- A tile of the gradient of the gated value. -/
def daTile (du g : FVec F S128x128 .f32) : FVec F S128x128 .bf16 :=
  truncf .bf16 (mulf du (logistic g)) bitsLt_bf16_f32

/-- A tile of the gradient of the gate's logit. -/
def dgTile (du a g : FVec F S128x128 .f32) : FVec F S128x128 .bf16 :=
  truncf .bf16 (mulf (mulf (mulf du a) (logistic g)) (subf (broadcast S128x128 (Scalar.ofBits .f32 0x3F800000#32)) (logistic g))) bitsLt_bf16_f32

/-- The steps one trip stores into the taps' accumulator, newest first. -/
def tapPieces (dyc : Vec F S128x128 .f32) (uwin : Vec F S160x128 .f32) (acc : Vec F S32x8x128 .f32) : List (View.Piece (Elt F) S32x8x128 .f32) :=
  [⟨Rect.unit ![7, 0, 0] ![1, 8, 128] inb_S32x8x128_S1x8x128_7_0_0, tapTile dyc uwin (planeAt acc 7) 7⟩,
   ⟨Rect.unit ![15, 0, 0] ![1, 8, 128] inb_S32x8x128_S1x8x128_15_0_0, tapTile dyc uwin (planeAt acc 15) 15⟩,
   ⟨Rect.unit ![23, 0, 0] ![1, 8, 128] inb_S32x8x128_S1x8x128_23_0_0, tapTile dyc uwin (planeAt acc 23) 23⟩,
   ⟨Rect.unit ![0, 0, 0] ![1, 8, 128] inb_S32x8x128_S1x8x128_0_0_0, tapTile dyc uwin (planeAt acc 0) 0⟩,
   ⟨Rect.unit ![8, 0, 0] ![1, 8, 128] inb_S32x8x128_S1x8x128_8_0_0, tapTile dyc uwin (planeAt acc 8) 8⟩,
   ⟨Rect.unit ![16, 0, 0] ![1, 8, 128] inb_S32x8x128_S1x8x128_16_0_0, tapTile dyc uwin (planeAt acc 16) 16⟩,
   ⟨Rect.unit ![24, 0, 0] ![1, 8, 128] inb_S32x8x128_S1x8x128_24_0_0, tapTile dyc uwin (planeAt acc 24) 24⟩,
   ⟨Rect.unit ![1, 0, 0] ![1, 8, 128] inb_S32x8x128_S1x8x128_1_0_0, tapTile dyc uwin (planeAt acc 1) 1⟩,
   ⟨Rect.unit ![9, 0, 0] ![1, 8, 128] inb_S32x8x128_S1x8x128_9_0_0, tapTile dyc uwin (planeAt acc 9) 9⟩,
   ⟨Rect.unit ![17, 0, 0] ![1, 8, 128] inb_S32x8x128_S1x8x128_17_0_0, tapTile dyc uwin (planeAt acc 17) 17⟩,
   ⟨Rect.unit ![25, 0, 0] ![1, 8, 128] inb_S32x8x128_S1x8x128_25_0_0, tapTile dyc uwin (planeAt acc 25) 25⟩,
   ⟨Rect.unit ![2, 0, 0] ![1, 8, 128] inb_S32x8x128_S1x8x128_2_0_0, tapTile dyc uwin (planeAt acc 2) 2⟩,
   ⟨Rect.unit ![10, 0, 0] ![1, 8, 128] inb_S32x8x128_S1x8x128_10_0_0, tapTile dyc uwin (planeAt acc 10) 10⟩,
   ⟨Rect.unit ![18, 0, 0] ![1, 8, 128] inb_S32x8x128_S1x8x128_18_0_0, tapTile dyc uwin (planeAt acc 18) 18⟩,
   ⟨Rect.unit ![26, 0, 0] ![1, 8, 128] inb_S32x8x128_S1x8x128_26_0_0, tapTile dyc uwin (planeAt acc 26) 26⟩,
   ⟨Rect.unit ![3, 0, 0] ![1, 8, 128] inb_S32x8x128_S1x8x128_3_0_0, tapTile dyc uwin (planeAt acc 3) 3⟩,
   ⟨Rect.unit ![11, 0, 0] ![1, 8, 128] inb_S32x8x128_S1x8x128_11_0_0, tapTile dyc uwin (planeAt acc 11) 11⟩,
   ⟨Rect.unit ![19, 0, 0] ![1, 8, 128] inb_S32x8x128_S1x8x128_19_0_0, tapTile dyc uwin (planeAt acc 19) 19⟩,
   ⟨Rect.unit ![27, 0, 0] ![1, 8, 128] inb_S32x8x128_S1x8x128_27_0_0, tapTile dyc uwin (planeAt acc 27) 27⟩,
   ⟨Rect.unit ![4, 0, 0] ![1, 8, 128] inb_S32x8x128_S1x8x128_4_0_0, tapTile dyc uwin (planeAt acc 4) 4⟩,
   ⟨Rect.unit ![12, 0, 0] ![1, 8, 128] inb_S32x8x128_S1x8x128_12_0_0, tapTile dyc uwin (planeAt acc 12) 12⟩,
   ⟨Rect.unit ![20, 0, 0] ![1, 8, 128] inb_S32x8x128_S1x8x128_20_0_0, tapTile dyc uwin (planeAt acc 20) 20⟩,
   ⟨Rect.unit ![28, 0, 0] ![1, 8, 128] inb_S32x8x128_S1x8x128_28_0_0, tapTile dyc uwin (planeAt acc 28) 28⟩,
   ⟨Rect.unit ![5, 0, 0] ![1, 8, 128] inb_S32x8x128_S1x8x128_5_0_0, tapTile dyc uwin (planeAt acc 5) 5⟩,
   ⟨Rect.unit ![13, 0, 0] ![1, 8, 128] inb_S32x8x128_S1x8x128_13_0_0, tapTile dyc uwin (planeAt acc 13) 13⟩,
   ⟨Rect.unit ![21, 0, 0] ![1, 8, 128] inb_S32x8x128_S1x8x128_21_0_0, tapTile dyc uwin (planeAt acc 21) 21⟩,
   ⟨Rect.unit ![29, 0, 0] ![1, 8, 128] inb_S32x8x128_S1x8x128_29_0_0, tapTile dyc uwin (planeAt acc 29) 29⟩,
   ⟨Rect.unit ![6, 0, 0] ![1, 8, 128] inb_S32x8x128_S1x8x128_6_0_0, tapTile dyc uwin (planeAt acc 6) 6⟩,
   ⟨Rect.unit ![14, 0, 0] ![1, 8, 128] inb_S32x8x128_S1x8x128_14_0_0, tapTile dyc uwin (planeAt acc 14) 14⟩,
   ⟨Rect.unit ![22, 0, 0] ![1, 8, 128] inb_S32x8x128_S1x8x128_22_0_0, tapTile dyc uwin (planeAt acc 22) 22⟩,
   ⟨Rect.unit ![30, 0, 0] ![1, 8, 128] inb_S32x8x128_S1x8x128_30_0_0, tapTile dyc uwin (planeAt acc 30) 30⟩]

section Trips

variable (c : Dev nD) (i : grid0.Coords) (b1 : Memref sig .tc .vmem S2176x128 .f32) (k1 : b1.IsWhole) (b2 : Memref sig .tc .vmem S2176x128 .f32) (k2 : b2.IsWhole) (b3 : Memref sig .tc .vmem S2176x128 .f32) (k3 : b3.IsWhole) (b4 : Memref sig .tc .vmem S32x128 .f32) (k4 : b4.IsWhole) (b5 : Memref sig .tc .vmem S2176x128 .bf16) (k5 : b5.IsWhole) (b6 : Memref sig .tc .vmem S2176x128 .bf16) (k6 : b6.IsWhole) (b7 : Memref sig .tc .vmem S32x128 .f32) (k7 : b7.IsWhole) (b8 : Memref sig .tc .vmem S1x128 .f32) (k8 : b8.IsWhole) (b9 : Memref sig .tc .vmem S2208x128 .f32) (k9 : b9.IsWhole) (b10 : Memref sig .tc .vmem S2208x128 .f32) (k10 : b10.IsWhole) (b11 : Memref sig .tc .vmem S32x8x128 .f32) (k11 : b11.IsWhole) (b12 : Memref sig .tc .vmem S8x128 .f32) (k12 : b12.IsWhole)
  (X1 : BufTy.Contents (Elt F) b1.view.ty) (X2 : BufTy.Contents (Elt F) b2.view.ty) (X3 : BufTy.Contents (Elt F) b3.view.ty) (X4 : BufTy.Contents (Elt F) b4.view.ty) (X9 : BufTy.Contents (Elt F) b9.view.ty) (X10 : BufTy.Contents (Elt F) b10.view.ty)
  (g5 : BufTy.Contents (Elt F) b5.view.ty) (g6 : BufTy.Contents (Elt F) b6.view.ty) (g11 : BufTy.Contents (Elt F) b11.view.ty) (g12 : BufTy.Contents (Elt F) b12.view.ty)

/-- What trip `k` of the first loop stores: rows of the gated activation and of the cotangent. -/
theorem trip1_eq (k : Fin k0_t1_loop.trips) :
    tripL_k0_t1 (F := F) Variants.none c none i b1 k1 b2 k2 b3 k3 b4 k4 b5 k5 b6 k6 b7 k7 b8 k8 b9 k9 b10 k10 b11 k11 b12 k12 X1 X2 X3 k
      = ([⟨Rect.unit (k0_off2 k) S128x128.size (k0_off2_inb k), k0_pay66 (rowsAt (b1.view.read (Elt F) X1) k.val) (rowsAt (b2.view.read (Elt F) X2) k.val)⟩],
         [⟨Rect.unit (k0_off3 k) S128x128.size (k0_off3_inb k), k0_pay67 (rowsAt (b3.view.read (Elt F) X3) k.val)⟩]) := by
  unfold tripL_k0_t1 trip_k0_t1
  simp only [rd1]

/-- What trip `k` of the second loop stores: a tile of each gradient and a step of each accumulator. -/
theorem trip2_eq (k : Fin k0_t2_loop.trips) :
    tripL_k0_t2 (F := F) Variants.none c none i b1 k1 b2 k2 b3 k3 b4 k4 b5 k5 b6 k6 b7 k7 b8 k8 b9 k9 b10 k10 b11 k11 b12 k12 X1 X2 X3 X4 X9 X10 k g5 g6 g11 g12
      = ([⟨Rect.unit (k0_off5 k) S128x128.size (k0_off5_inb k), daTile (duTile (winAt (b10.view.read (Elt F) X10) k.val) (b4.view.read (Elt F) X4)) (rowsAt (b2.view.read (Elt F) X2) k.val)⟩],
         [⟨Rect.unit (k0_off5 k) S128x128.size (k0_off5_inb k), dgTile (duTile (winAt (b10.view.read (Elt F) X10) k.val) (b4.view.read (Elt F) X4)) (rowsAt (b1.view.read (Elt F) X1) k.val) (rowsAt (b2.view.read (Elt F) X2) k.val)⟩],
         tapPieces (rowsAt (b3.view.read (Elt F) X3) k.val) (winAt (b9.view.read (Elt F) X9) k.val) (b11.view.read (Elt F) g11),
         [⟨Rect.unit ![0, 0] ![8, 128] inb_S8x128_S8x128_0_0, biasTile (rowsAt (b3.view.read (Elt F) X3) k.val) (b12.view.read (Elt F) g12)⟩]) := by
  unfold tripL_k0_t2 trip_k0_t2
  simp only [trip_k0_t2.sl.r, trip_k0_t2.sl.r_1, trip_k0_t2.sl.r_2, trip_k0_t2.sl.r_3, trip_k0_t2.sl.r_4, trip_k0_t2.sl.r_5, trip_k0_t2.sl.r_6, trip_k0_t2.sl.r_7, trip_k0_t2.sl.r_8, trip_k0_t2.sl.r_9, trip_k0_t2.sl.r_10, trip_k0_t2.sl.r_11, trip_k0_t2.sl.r_12, trip_k0_t2.sl.r_13, trip_k0_t2.sl.r_14, trip_k0_t2.sl.r_15, trip_k0_t2.sl.r_16, trip_k0_t2.sl.r_17, trip_k0_t2.sl.r_18, trip_k0_t2.sl.r_19, trip_k0_t2.sl.r_20, trip_k0_t2.sl.r_21, trip_k0_t2.sl.r_22, trip_k0_t2.sl.r_23, trip_k0_t2.sl.r_24, trip_k0_t2.sl.r_25, trip_k0_t2.sl.r_26, trip_k0_t2.sl.r_27, trip_k0_t2.sl.r_28, trip_k0_t2.sl.r_29, trip_k0_t2.sl.v179, trip_k0_t2.sl.v396, trip_k0_t2.sl.v410, trip_k0_t2.sl.v420, trip_k0_t2.sl.v430, trip_k0_t2.sl.v441, trip_k0_t2.sl.v451, trip_k0_t2.sl.v461, trip_k0_t2.sl.v471, trip_k0_t2.sl.v482, trip_k0_t2.sl.v492, trip_k0_t2.sl.v502, trip_k0_t2.sl.v512, trip_k0_t2.sl.v523, trip_k0_t2.sl.v533, trip_k0_t2.sl.v543, trip_k0_t2.sl.v553, trip_k0_t2.sl.v564, trip_k0_t2.sl.v574, trip_k0_t2.sl.v584, trip_k0_t2.sl.v594, trip_k0_t2.sl.v605, trip_k0_t2.sl.v615, trip_k0_t2.sl.v625, trip_k0_t2.sl.v635, trip_k0_t2.sl.v646, trip_k0_t2.sl.v656, trip_k0_t2.sl.v666, trip_k0_t2.sl.v676, trip_k0_t2.sl.v687, trip_k0_t2.sl.v697, trip_k0_t2.sl.v707]
  simp only [rd5, rd4, rdRow, rdPlane, rdWhole, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, slice_eq, sl_roll,
    BitVec.toNat_ofNat, Nat.reduceAdd, Nat.reduceMod, Nat.reduceSub, Nat.reducePow,
    daTile, dgTile, duTile, taps, List.foldl_cons, List.foldl_nil, duStep, tapPieces, tapTile, accStep, biasTile]

end Trips

end Cert.Conv

end
-- ==== Proof.ConvFill.lean ====
module

public import proofs.«01_k».proof.Proof.ConvTiles

@[expose] public section

/-! What the buffers of the convolution's backward body read after its two loops, as functions of what the operands'
buffers read: the padded activation and cotangent, the tiles of the two gradients, the two accumulators. -/

set_option maxRecDepth 16384
set_option maxHeartbeats 4000000

noncomputable section

namespace Cert.Conv

open Cert.ConvKIdeal Cert.ConvKIdeal.Gen
open Idealize.ShloMosaic Idealize.ShloMosaic.TcCoe

variable {F : FTy → Type} [FloatOps F] {α : Type}

/-! ## Reading a list of pieces -/

/-- If every piece is its part of `G`, an index that some piece holds reads `G`. -/
theorem read_agree {s : Shape} {e : EltTy} (v : View sig .tc .vmem s e) (f : v.ty.Contents (Elt F)) (G : s.Idx → Elt F e) (y : s.Idx) :
    ∀ L : List (View.Piece (Elt F) s e), (∀ p ∈ L, ∀ x, p.2 x = G (p.1.emb x)) → (∃ p ∈ L, ∃ x, p.1.emb x = y) →
      v.read (Elt F) (v.writes (Elt F) f L) y = G y
  | [], _, h => by obtain ⟨p, hp, _⟩ := h; exact absurd hp (List.not_mem_nil)
  | p :: L, hG, h => by
    by_cases hy : ∃ x, p.1.emb x = y
    · obtain ⟨x, rfl⟩ := hy
      exact (View.read_writes_cons_emb v f p.1 p.2 L x).trans (hG p (List.mem_cons_self) x)
    · have hn : y ∉ (Finset.univ.map p.1.emb) := fun hm => by
        obtain ⟨x, _, hx⟩ := Finset.mem_map.mp hm
        exact hy ⟨x, hx⟩
      refine (View.read_slice_write_of_not_mem p.1 _ _ _ hn).trans ?_
      refine read_agree v f G y L (fun q hq => hG q (List.mem_cons_of_mem _ hq)) ?_
      obtain ⟨q, hq, x, hx⟩ := h
      rcases List.mem_cons.mp hq with rfl | hq'
      · exact absurd ⟨x, hx⟩ hy
      · exact ⟨q, hq', x, hx⟩

/-- An index that no piece holds reads what was there. -/
theorem read_miss {s : Shape} {e : EltTy} (v : View sig .tc .vmem s e) (f : v.ty.Contents (Elt F)) (y : s.Idx) :
    ∀ L : List (View.Piece (Elt F) s e), (∀ p ∈ L, ∀ x, p.1.emb x ≠ y) → v.read (Elt F) (v.writes (Elt F) f L) y = v.read (Elt F) f y
  | [], _ => rfl
  | p :: L, h => by
    have hn : y ∉ (Finset.univ.map p.1.emb) := fun hm => by
      obtain ⟨x, _, hx⟩ := Finset.mem_map.mp hm
      exact h p (List.mem_cons_self) x hx
    exact (View.read_slice_write_of_not_mem p.1 _ _ _ hn).trans (read_miss v f y L fun q hq => h q (List.mem_cons_of_mem _ hq))

/-- A tile of 128 rows written at row `128 k + o`: an index reads the tile in its rows, and elsewhere what was there. -/
theorem read_tile {R k o : ℕ} {e : EltTy} (v : View sig .tc .vmem (⟨2, ![R, 128]⟩ : Shape) e) (f : v.ty.Contents (Elt F))
    {off : Fin 2 → ℕ} (h : ∀ a, off a + (![128, 128] : Fin 2 → ℕ) a ≤ (![R, 128] : Fin 2 → ℕ) a) (hoff : off = ![128 * k + o, 0])
    (T : S128x128.Idx → Elt F e) (L : List (View.Piece (Elt F) (⟨2, ![R, 128]⟩ : Shape) e)) (y : (⟨2, ![R, 128]⟩ : Shape).Idx) :
    v.read (Elt F) (v.writes (Elt F) f (⟨Rect.unit (s := (⟨2, ![R, 128]⟩ : Shape)) off ![128, 128] h, T⟩ :: L)) y
      = if 128 * k + o ≤ (y 0).val ∧ (y 0).val < 128 * k + o + 128
        then T (ix2 ⟨((y 0).val - o) % 128, Nat.mod_lt _ (by decide)⟩ (y 1)) else v.read (Elt F) (v.writes (Elt F) f L) y := by
  by_cases hy : 128 * k + o ≤ (y 0).val ∧ (y 0).val < 128 * k + o + 128
  · rw [if_pos hy]
    exact View.read_writes_cons_rows_of_mem v f h T L y (ix2 ⟨((y 0).val - o) % 128, Nat.mod_lt _ (by decide)⟩ (y 1)) hoff
      (by show (y 0).val = 128 * k + o + ((y 0).val - o) % 128; omega) rfl
  · rw [if_neg hy]
    exact View.read_writes_cons_rows_of_not_mem (W := 128) v f h T L y hoff rfl (by omega)

/-- A piece that is the whole buffer: the buffer reads the piece. -/
theorem read_whole2 {R C : ℕ} {e : EltTy} (v : View sig .tc .vmem (⟨2, ![R, C]⟩ : Shape) e) (f : v.ty.Contents (Elt F))
    (h : ∀ a, (![0, 0] : Fin 2 → ℕ) a + (![R, C] : Fin 2 → ℕ) a ≤ (![R, C] : Fin 2 → ℕ) a)
    (T : (⟨2, ![R, C]⟩ : Shape).Idx → Elt F e) (L : List (View.Piece (Elt F) (⟨2, ![R, C]⟩ : Shape) e)) :
    v.read (Elt F) (v.writes (Elt F) f (⟨Rect.unit (s := (⟨2, ![R, C]⟩ : Shape)) ![0, 0] ![R, C] h, T⟩ :: L)) = T := by
  funext y
  have hy : (Rect.unit (s := (⟨2, ![R, C]⟩ : Shape)) ![0, 0] ![R, C] h).emb y = y := funext fun a => Fin.ext (match a with
    | ⟨0, _⟩ => by show 0 + 1 * (y 0).val = (y 0).val; omega
    | ⟨1, _⟩ => by show 0 + 1 * (y 1).val = (y 1).val; omega)
  exact (congrArg _ hy.symm).trans (View.read_writes_cons_emb v f (Rect.unit (s := (⟨2, ![R, C]⟩ : Shape)) ![0, 0] ![R, C] h) T L y)

/-- A piece that is the whole of a three-dimensional buffer. -/
theorem read_whole3 {R C D : ℕ} {e : EltTy} (v : View sig .tc .vmem (⟨3, ![R, C, D]⟩ : Shape) e) (f : v.ty.Contents (Elt F))
    (h : ∀ a, (![0, 0, 0] : Fin 3 → ℕ) a + (![R, C, D] : Fin 3 → ℕ) a ≤ (![R, C, D] : Fin 3 → ℕ) a)
    (T : (⟨3, ![R, C, D]⟩ : Shape).Idx → Elt F e) (L : List (View.Piece (Elt F) (⟨3, ![R, C, D]⟩ : Shape) e)) :
    v.read (Elt F) (v.writes (Elt F) f (⟨Rect.unit (s := (⟨3, ![R, C, D]⟩ : Shape)) ![0, 0, 0] ![R, C, D] h, T⟩ :: L)) = T := by
  funext y
  have hy : (Rect.unit (s := (⟨3, ![R, C, D]⟩ : Shape)) ![0, 0, 0] ![R, C, D] h).emb y = y := funext fun a => Fin.ext (match a with
    | ⟨0, _⟩ => by show 0 + 1 * (y 0).val = (y 0).val; omega
    | ⟨1, _⟩ => by show 0 + 1 * (y 1).val = (y 1).val; omega
    | ⟨2, _⟩ => by show 0 + 1 * (y 2).val = (y 2).val; omega)
  exact (congrArg _ hy.symm).trans (View.read_writes_cons_emb v f (Rect.unit (s := (⟨3, ![R, C, D]⟩ : Shape)) ![0, 0, 0] ![R, C, D] h) T L y)

/-! ## The padded buffers -/

/-- The padded activation: 32 rows of zero, then the gated activation. -/
def uFill (x1 x2 : Vec F S2176x128 .f32) : Vec F S2208x128 .f32 := fun y =>
  if (y 0).val < 32 then k0_pay62 (F := F) (ix2 ⟨(y 0).val % 32, Nat.mod_lt _ (by decide)⟩ (y 1))
  else k0_pay66 (rowsAt x1 (((y 0).val - 32) / 128)) (rowsAt x2 (((y 0).val - 32) / 128)) (ix2 ⟨((y 0).val - 32) % 128, Nat.mod_lt _ (by decide)⟩ (y 1))

/-- The padded cotangent: the cotangent, then 32 rows of zero. -/
def dFill (x3 : Vec F S2176x128 .f32) : Vec F S2208x128 .f32 := fun y =>
  if (y 0).val < 2176 then k0_pay67 (rowsAt x3 ((y 0).val / 128)) (ix2 ⟨((y 0).val - 0) % 128, Nat.mod_lt _ (by decide)⟩ (y 1))
  else k0_pay63 (F := F) (ix2 ⟨((y 0).val - 2176) % 32, Nat.mod_lt _ (by decide)⟩ (y 1))

/-- Tiles of 128 rows, one below the other. -/
def tiled (T : ℕ → S128x128.Idx → α) : S2176x128.Idx → α :=
  fun y => T ((y 0).val / 128) (ix2 ⟨((y 0).val - 0) % 128, Nat.mod_lt _ (by decide)⟩ (y 1))

/-- The taps' accumulator after a trip. -/
def wNext (dyc : Vec F S128x128 .f32) (uwin : Vec F S160x128 .f32) (acc : Vec F S32x8x128 .f32) : Vec F S32x8x128 .f32 :=
  fun y => if (y 0).val < 31 then tapTile dyc uwin (planeAt acc (y 0).val) (y 0).val (ix3 0 (y 1) (y 2)) else acc y

/-- The taps' accumulator after `k` trips, from zero. -/
def wAcc (x3 : Vec F S2176x128 .f32) (u : Vec F S2208x128 .f32) : ℕ → Vec F S32x8x128 .f32
  | 0 => k0_pay64
  | k + 1 => wNext (rowsAt x3 k) (winAt u k) (wAcc x3 u k)

/-- The bias's accumulator after `k` trips, from zero. -/
def bAcc (x3 : Vec F S2176x128 .f32) : ℕ → Vec F S8x128 .f32
  | 0 => k0_pay65
  | k + 1 => biasTile (rowsAt x3 k) (bAcc x3 k)

/-- The gradient of the gated value, as the body leaves it. -/
def daOut (x2 x3 : Vec F S2176x128 .f32) (w : Vec F S32x128 .f32) : Vec F S2176x128 .bf16 :=
  tiled fun k => daTile (duTile (winAt (dFill x3) k) w) (rowsAt x2 k)

/-- The gradient of the gate's logit, as the body leaves it. -/
def dgOut (x1 x2 x3 : Vec F S2176x128 .f32) (w : Vec F S32x128 .f32) : Vec F S2176x128 .bf16 :=
  tiled fun k => dgTile (duTile (winAt (dFill x3) k) w) (rowsAt x1 k) (rowsAt x2 k)

/-- A trip's steps stored into the taps' accumulator: all planes but the last move on. -/
theorem read_tapPieces (v : View sig .tc .vmem S32x8x128 .f32) (f : v.ty.Contents (Elt F)) (dyc : Vec F S128x128 .f32) (uwin : Vec F S160x128 .f32)
    (acc : Vec F S32x8x128 .f32) (hf : v.read (Elt F) f = acc) :
    v.read (Elt F) (v.writes (Elt F) f (tapPieces dyc uwin acc)) = wNext dyc uwin acc := by
  funext y
  have key : ∀ (j : ℕ) (hj : j < 31) (h : ∀ a, (![j, 0, 0] : Fin 3 → ℕ) a + (![1, 8, 128] : Fin 3 → ℕ) a ≤ S32x8x128.size a)
      (x : (Rect.unit (s := S32x8x128) ![j, 0, 0] ![1, 8, 128] h).shape.Idx),
      tapTile dyc uwin (planeAt acc j) j x = wNext dyc uwin acc ((Rect.unit (s := S32x8x128) ![j, 0, 0] ![1, 8, 128] h).emb x) := by
    intro j hj h x
    have hx : (x 0).val < 1 := (x 0).isLt
    have h0 : (((Rect.unit (s := S32x8x128) ![j, 0, 0] ![1, 8, 128] h).emb x) 0).val = j := by
      show j + 1 * (x 0).val = j; omega
    unfold wNext
    rw [h0, if_pos hj]
    refine congrArg (tapTile dyc uwin (planeAt acc j) j) (funext fun a => Fin.ext ?_)
    exact match a with
    | ⟨0, _⟩ => by show (x 0).val = 0; omega
    | ⟨1, _⟩ => by show (x 1).val = 0 + 1 * (x 1).val; omega
    | ⟨2, _⟩ => by show (x 2).val = 0 + 1 * (x 2).val; omega
  by_cases hy : (y 0).val < 31
  · refine read_agree v f _ y _ ?_ ?_
    · unfold tapPieces
      simp only [List.forall_mem_cons, List.not_mem_nil, false_imp_iff, implies_true, and_true]
      refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
        exact key _ (by decide) _
    · have hall : ∀ j : ℕ, j < 31 → ∃ (h : ∀ a, (![j, 0, 0] : Fin 3 → ℕ) a + (![1, 8, 128] : Fin 3 → ℕ) a ≤ S32x8x128.size a),
          (⟨Rect.unit (s := S32x8x128) ![j, 0, 0] ![1, 8, 128] h, tapTile dyc uwin (planeAt acc j) j⟩ : View.Piece (Elt F) S32x8x128 .f32) ∈ tapPieces dyc uwin acc := by
        intro j hj
        unfold tapPieces
        interval_cases j <;> exact ⟨by decide, by simp only [List.mem_cons, true_or, or_true]⟩
      obtain ⟨h, hm⟩ := hall (y 0).val hy
      refine ⟨_, hm, ix3 0 (y 1) (y 2), funext fun a => Fin.ext ?_⟩
      exact match a with
      | ⟨0, _⟩ => by show (y 0).val + 1 * 0 = (y 0).val; omega
      | ⟨1, _⟩ => by show 0 + 1 * (y 1).val = (y 1).val; omega
      | ⟨2, _⟩ => by show 0 + 1 * (y 2).val = (y 2).val; omega
  · rw [read_miss v f y]
    · unfold wNext; rw [if_neg hy, hf]
    · have miss : ∀ (j : ℕ) (hj : j < 31) (h : ∀ a, (![j, 0, 0] : Fin 3 → ℕ) a + (![1, 8, 128] : Fin 3 → ℕ) a ≤ S32x8x128.size a)
          (x : (Rect.unit (s := S32x8x128) ![j, 0, 0] ![1, 8, 128] h).shape.Idx), (Rect.unit (s := S32x8x128) ![j, 0, 0] ![1, 8, 128] h).emb x ≠ y := by
        intro j hj h x he
        have hx : (x 0).val < 1 := (x 0).isLt
        have h0 : j + 1 * (x 0).val = (y 0).val := congrArg Fin.val (congrFun he 0)
        omega
      unfold tapPieces
      simp only [List.forall_mem_cons, List.not_mem_nil, false_imp_iff, implies_true, and_true]
      refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
        exact miss _ (by decide) _

section Loops

variable (c : Dev nD) (i : grid0.Coords) (b1 : Memref sig .tc .vmem S2176x128 .f32) (k1 : b1.IsWhole) (b2 : Memref sig .tc .vmem S2176x128 .f32) (k2 : b2.IsWhole) (b3 : Memref sig .tc .vmem S2176x128 .f32) (k3 : b3.IsWhole) (b4 : Memref sig .tc .vmem S32x128 .f32) (k4 : b4.IsWhole) (b5 : Memref sig .tc .vmem S2176x128 .bf16) (k5 : b5.IsWhole) (b6 : Memref sig .tc .vmem S2176x128 .bf16) (k6 : b6.IsWhole) (b7 : Memref sig .tc .vmem S32x128 .f32) (k7 : b7.IsWhole) (b8 : Memref sig .tc .vmem S1x128 .f32) (k8 : b8.IsWhole) (b9 : Memref sig .tc .vmem S2208x128 .f32) (k9 : b9.IsWhole) (b10 : Memref sig .tc .vmem S2208x128 .f32) (k10 : b10.IsWhole) (b11 : Memref sig .tc .vmem S32x8x128 .f32) (k11 : b11.IsWhole) (b12 : Memref sig .tc .vmem S8x128 .f32) (k12 : b12.IsWhole)
  (X1 : BufTy.Contents (Elt F) b1.view.ty) (X2 : BufTy.Contents (Elt F) b2.view.ty) (X3 : BufTy.Contents (Elt F) b3.view.ty) (X4 : BufTy.Contents (Elt F) b4.view.ty) (X9 : BufTy.Contents (Elt F) b9.view.ty) (X10 : BufTy.Contents (Elt F) b10.view.ty)
  (g5 : BufTy.Contents (Elt F) b5.view.ty) (g6 : BufTy.Contents (Elt F) b6.view.ty) (g11 : BufTy.Contents (Elt F) b11.view.ty) (g12 : BufTy.Contents (Elt F) b12.view.ty)

/-- The first loop's pieces of the padded activation after `k` trips. -/
theorem u_loop (f : b9.view.ty.Contents (Elt F)) (L : List (View.Piece (Elt F) S2208x128 .f32)) (y : S2208x128.Idx) : ∀ k ≤ 17,
    b9.view.read (Elt F) (b9.view.writes (Elt F) f ((pb_k0_t1 (F := F) Variants.none c none i b1 k1 b2 k2 b3 k3 b4 k4 b5 k5 b6 k6 b7 k7 b8 k8 b9 k9 b10 k10 b11 k11 b12 k12 X1 X2 X3 k).1 ++ L)) y
      = if 32 ≤ (y 0).val ∧ (y 0).val < 128 * k + 32
        then k0_pay66 (rowsAt (b1.view.read (Elt F) X1) (((y 0).val - 32) / 128)) (rowsAt (b2.view.read (Elt F) X2) (((y 0).val - 32) / 128)) (ix2 ⟨((y 0).val - 32) % 128, Nat.mod_lt _ (by decide)⟩ (y 1))
        else b9.view.read (Elt F) (b9.view.writes (Elt F) f L) y
  | 0, _ => by rw [if_neg (by omega)]; rfl
  | k + 1, hk => by
    have hk' : k < k0_t1_loop.trips := hk
    have hs := pb_k0_t1_succ (F := F) Variants.none c none i b1 k1 b2 k2 b3 k3 b4 k4 b5 k5 b6 k6 b7 k7 b8 k8 b9 k9 b10 k10 b11 k11 b12 k12 X1 X2 X3 ⟨k, hk'⟩
    rw [trip1_eq] at hs
    rw [hs]
    refine (read_tile (R := 2208) (k := k) (o := 32) b9.view f _ (k0_off2_eq ⟨k, hk'⟩) _ _ y).trans ?_
    by_cases hy : 128 * k + 32 ≤ (y 0).val ∧ (y 0).val < 128 * k + 32 + 128
    · rw [if_pos hy, if_pos ⟨by omega, by omega⟩, show ((y 0).val - 32) / 128 = k by omega]
    · rw [if_neg hy]
      refine (u_loop f L y k (by omega)).trans ?_
      by_cases h1 : 32 ≤ (y 0).val ∧ (y 0).val < 128 * k + 32
      · rw [if_pos h1, if_pos ⟨by omega, by omega⟩]
      · rw [if_neg h1, if_neg (by omega)]

/-- The first loop's pieces of the padded cotangent after `k` trips. -/
theorem d_loop (f : b10.view.ty.Contents (Elt F)) (L : List (View.Piece (Elt F) S2208x128 .f32)) (y : S2208x128.Idx) : ∀ k ≤ 17,
    b10.view.read (Elt F) (b10.view.writes (Elt F) f ((pb_k0_t1 (F := F) Variants.none c none i b1 k1 b2 k2 b3 k3 b4 k4 b5 k5 b6 k6 b7 k7 b8 k8 b9 k9 b10 k10 b11 k11 b12 k12 X1 X2 X3 k).2 ++ L)) y
      = if (y 0).val < 128 * k
        then k0_pay67 (rowsAt (b3.view.read (Elt F) X3) ((y 0).val / 128)) (ix2 ⟨((y 0).val - 0) % 128, Nat.mod_lt _ (by decide)⟩ (y 1))
        else b10.view.read (Elt F) (b10.view.writes (Elt F) f L) y
  | 0, _ => by rw [if_neg (by omega)]; rfl
  | k + 1, hk => by
    have hk' : k < k0_t1_loop.trips := hk
    have hs := pb_k0_t1_succ (F := F) Variants.none c none i b1 k1 b2 k2 b3 k3 b4 k4 b5 k5 b6 k6 b7 k7 b8 k8 b9 k9 b10 k10 b11 k11 b12 k12 X1 X2 X3 ⟨k, hk'⟩
    rw [trip1_eq] at hs
    rw [hs]
    refine (read_tile (R := 2208) (k := k) (o := 0) b10.view f _ (k0_off3_eq ⟨k, hk'⟩) _ _ y).trans ?_
    by_cases hy : 128 * k + 0 ≤ (y 0).val ∧ (y 0).val < 128 * k + 0 + 128
    · rw [if_pos hy, if_pos (by omega), show (y 0).val / 128 = k by omega]
    · rw [if_neg hy]
      refine (d_loop f L y k (by omega)).trans ?_
      by_cases h1 : (y 0).val < 128 * k
      · rw [if_pos h1, if_pos (by omega)]
      · rw [if_neg h1, if_neg (by omega)]

/-- The padded activation after the first loop. -/
theorem u_read (f : b9.view.ty.Contents (Elt F)) :
    b9.view.read (Elt F) (b9.view.writes (Elt F) f ((pb_k0_t1 (F := F) Variants.none c none i b1 k1 b2 k2 b3 k3 b4 k4 b5 k5 b6 k6 b7 k7 b8 k8 b9 k9 b10 k10 b11 k11 b12 k12 X1 X2 X3 17).1 ++ [⟨Rect.unit (s := S2208x128) ![0, 0] ![32, 128] inb_S2208x128_S32x128_0_0, k0_pay62⟩]))
      = uFill (b1.view.read (Elt F) X1) (b2.view.read (Elt F) X2) := by
  funext y
  have hy : (y 0).val < 2208 := (y 0).isLt
  refine (u_loop (c := c) (i := i) (b1 := b1) (k1 := k1) (b2 := b2) (k2 := k2) (b3 := b3) (k3 := k3) (b4 := b4) (k4 := k4) (b5 := b5) (k5 := k5) (b6 := b6) (k6 := k6) (b7 := b7) (k7 := k7) (b8 := b8) (k8 := k8) (b9 := b9) (k9 := k9) (b10 := b10) (k10 := k10) (b11 := b11) (k11 := k11) (b12 := b12) (k12 := k12) (X1 := X1) (X2 := X2) (X3 := X3) f _ y 17 (le_refl _)).trans ?_
  unfold uFill
  by_cases h : (y 0).val < 32
  · rw [if_neg (by omega), if_pos h]
    exact View.read_writes_cons_rows_of_mem (o := 0) b9.view f _ _ [] y (ix2 ⟨(y 0).val % 32, Nat.mod_lt _ (by decide)⟩ (y 1)) rfl
      (by show (y 0).val = 0 + (y 0).val % 32; omega) rfl
  · rw [if_pos ⟨by omega, by omega⟩, if_neg h]

/-- The padded cotangent after the first loop. -/
theorem d_read (f : b10.view.ty.Contents (Elt F)) :
    b10.view.read (Elt F) (b10.view.writes (Elt F) f ((pb_k0_t1 (F := F) Variants.none c none i b1 k1 b2 k2 b3 k3 b4 k4 b5 k5 b6 k6 b7 k7 b8 k8 b9 k9 b10 k10 b11 k11 b12 k12 X1 X2 X3 17).2 ++ [⟨Rect.unit (s := S2208x128) ![2176, 0] ![32, 128] inb_S2208x128_S32x128_2176_0, k0_pay63⟩]))
      = dFill (b3.view.read (Elt F) X3) := by
  funext y
  have hy : (y 0).val < 2208 := (y 0).isLt
  refine (d_loop (c := c) (i := i) (b1 := b1) (k1 := k1) (b2 := b2) (k2 := k2) (b3 := b3) (k3 := k3) (b4 := b4) (k4 := k4) (b5 := b5) (k5 := k5) (b6 := b6) (k6 := k6) (b7 := b7) (k7 := k7) (b8 := b8) (k8 := k8) (b9 := b9) (k9 := k9) (b10 := b10) (k10 := k10) (b11 := b11) (k11 := k11) (b12 := b12) (k12 := k12) (X1 := X1) (X2 := X2) (X3 := X3) f _ y 17 (le_refl _)).trans ?_
  unfold dFill
  by_cases h : (y 0).val < 2176
  · rw [if_pos (by omega), if_pos h]
  · rw [if_neg (by omega), if_neg h]
    exact View.read_writes_cons_rows_of_mem (o := 2176) b10.view f _ _ [] y (ix2 ⟨((y 0).val - 2176) % 32, Nat.mod_lt _ (by decide)⟩ (y 1)) rfl
      (by show (y 0).val = 2176 + ((y 0).val - 2176) % 32; omega) rfl

/-- The second loop after `k` trips: the tiles stored so far, and the accumulators. -/
theorem loop2 : ∀ k ≤ 17,
    (∀ y, b5.view.read (Elt F) (b5.view.writes (Elt F) g5 (pb_k0_t2 (F := F) Variants.none c none i b1 k1 b2 k2 b3 k3 b4 k4 b5 k5 b6 k6 b7 k7 b8 k8 b9 k9 b10 k10 b11 k11 b12 k12 X1 X2 X3 X4 X9 X10 g5 g6 g11 g12 k).1) y
      = if (y 0).val < 128 * k then tiled (fun n => daTile (duTile (winAt (b10.view.read (Elt F) X10) n) (b4.view.read (Elt F) X4)) (rowsAt (b2.view.read (Elt F) X2) n)) y
        else b5.view.read (Elt F) g5 y)
    ∧ (∀ y, b6.view.read (Elt F) (b6.view.writes (Elt F) g6 (pb_k0_t2 (F := F) Variants.none c none i b1 k1 b2 k2 b3 k3 b4 k4 b5 k5 b6 k6 b7 k7 b8 k8 b9 k9 b10 k10 b11 k11 b12 k12 X1 X2 X3 X4 X9 X10 g5 g6 g11 g12 k).2.1) y
      = if (y 0).val < 128 * k then tiled (fun n => dgTile (duTile (winAt (b10.view.read (Elt F) X10) n) (b4.view.read (Elt F) X4)) (rowsAt (b1.view.read (Elt F) X1) n) (rowsAt (b2.view.read (Elt F) X2) n)) y
        else b6.view.read (Elt F) g6 y)
    ∧ (b11.view.read (Elt F) g11 = k0_pay64 → b11.view.read (Elt F) (b11.view.writes (Elt F) g11 (pb_k0_t2 (F := F) Variants.none c none i b1 k1 b2 k2 b3 k3 b4 k4 b5 k5 b6 k6 b7 k7 b8 k8 b9 k9 b10 k10 b11 k11 b12 k12 X1 X2 X3 X4 X9 X10 g5 g6 g11 g12 k).2.2.1) = wAcc (b3.view.read (Elt F) X3) (b9.view.read (Elt F) X9) k)
    ∧ (b12.view.read (Elt F) g12 = k0_pay65 → b12.view.read (Elt F) (b12.view.writes (Elt F) g12 (pb_k0_t2 (F := F) Variants.none c none i b1 k1 b2 k2 b3 k3 b4 k4 b5 k5 b6 k6 b7 k7 b8 k8 b9 k9 b10 k10 b11 k11 b12 k12 X1 X2 X3 X4 X9 X10 g5 g6 g11 g12 k).2.2.2) = bAcc (b3.view.read (Elt F) X3) k)
  | 0, _ => ⟨fun y => by rw [if_neg (by omega)]; rfl, fun y => by rw [if_neg (by omega)]; rfl, fun h => h, fun h => h⟩
  | k + 1, hk => by
    obtain ⟨ih5, ih6, ih11, ih12⟩ := loop2 k (by omega)
    have hk' : k < k0_t2_loop.trips := hk
    have hs := pb_k0_t2_succ (F := F) Variants.none c none i b1 k1 b2 k2 b3 k3 b4 k4 b5 k5 b6 k6 b7 k7 b8 k8 b9 k9 b10 k10 b11 k11 b12 k12 X1 X2 X3 X4 X9 X10 g5 g6 g11 g12 ⟨k, hk'⟩
    rw [trip2_eq] at hs
    rw [hs]
    refine ⟨fun y => ?_, fun y => ?_, fun h => ?_, fun h => ?_⟩
    · refine (read_tile (R := 2176) (k := k) (o := 0) b5.view g5 _ (k0_off5_eq ⟨k, hk'⟩) _ _ y).trans ?_
      by_cases hy : 128 * k + 0 ≤ (y 0).val ∧ (y 0).val < 128 * k + 0 + 128
      · rw [if_pos hy, if_pos (by omega)]; unfold tiled; rw [show (y 0).val / 128 = k by omega]
      · rw [if_neg hy]
        refine (ih5 y).trans ?_
        by_cases h1 : (y 0).val < 128 * k
        · rw [if_pos h1, if_pos (by omega)]
        · rw [if_neg h1, if_neg (by omega)]
    · refine (read_tile (R := 2176) (k := k) (o := 0) b6.view g6 _ (k0_off5_eq ⟨k, hk'⟩) _ _ y).trans ?_
      by_cases hy : 128 * k + 0 ≤ (y 0).val ∧ (y 0).val < 128 * k + 0 + 128
      · rw [if_pos hy, if_pos (by omega)]; unfold tiled; rw [show (y 0).val / 128 = k by omega]
      · rw [if_neg hy]
        refine (ih6 y).trans ?_
        by_cases h1 : (y 0).val < 128 * k
        · rw [if_pos h1, if_pos (by omega)]
        · rw [if_neg h1, if_neg (by omega)]
    · rw [View.writes_append, read_tapPieces _ _ _ _ _ rfl, ih11 h]
      rfl
    · rw [View.writes_append, ih12 h]
      exact read_whole2 b12.view _ _ _ _

end Loops

end Cert.Conv

end
-- ==== Proof.ConvFinal.lean ====
module

public import proofs.«01_k».proof.Proof.ConvFill

@[expose] public section

/-! What the convolution's backward body leaves in its four results, as functions of what its four operands read. -/

set_option maxRecDepth 16384
set_option maxHeartbeats 4000000

noncomputable section

namespace Cert.Conv

open Cert.ConvKIdeal Cert.ConvKIdeal.Gen
open Idealize.ShloMosaic Idealize.ShloMosaic.TcCoe

variable {F : FTy → Type} [FloatOps F] {α : Type}

/-- The sum of the eight rows of a plane, as a row. -/
def rowTile (p : Vec F S1x8x128 .f32) : Vec F S1x128 .f32 := k0_pay68 p

/-- The gradient of the taps, as the body leaves it: a row per tap, and a last row of zero. -/
def dwOut (x1 x2 x3 : Vec F S2176x128 .f32) : Vec F S32x128 .f32 := fun y =>
  if (y 0).val = 31 then k0_pay99 (ix2 0 (y 1)) else rowTile (planeAt (wAcc x3 (uFill x1 x2) 17) (y 0).val) (ix2 0 (y 1))

/-- The gradient of the bias, as the body leaves it. -/
def dbOut (x3 : Vec F S2176x128 .f32) : Vec F S1x128 .f32 := k0_pay1 (bAcc x3 17)

section Final

variable (c : Dev nD) (i : grid0.Coords) (b1 : Memref sig .tc .vmem S2176x128 .f32) (k1 : b1.IsWhole) (b2 : Memref sig .tc .vmem S2176x128 .f32) (k2 : b2.IsWhole) (b3 : Memref sig .tc .vmem S2176x128 .f32) (k3 : b3.IsWhole)
    (b4 : Memref sig .tc .vmem S32x128 .f32) (k4 : b4.IsWhole) (b5 : Memref sig .tc .vmem S2176x128 .bf16) (k5 : b5.IsWhole) (b6 : Memref sig .tc .vmem S2176x128 .bf16) (k6 : b6.IsWhole) (b7 : Memref sig .tc .vmem S32x128 .f32) (k7 : b7.IsWhole) (b8 : Memref sig .tc .vmem S1x128 .f32) (k8 : b8.IsWhole) (b9 : Memref sig .tc .vmem S2208x128 .f32) (k9 : b9.IsWhole) (b10 : Memref sig .tc .vmem S2208x128 .f32) (k10 : b10.IsWhole) (b11 : Memref sig .tc .vmem S32x8x128 .f32) (k11 : b11.IsWhole) (b12 : Memref sig .tc .vmem S8x128 .f32) (k12 : b12.IsWhole)
    (X1 : BufTy.Contents (Elt F) b1.view.ty) (X2 : BufTy.Contents (Elt F) b2.view.ty) (X3 : BufTy.Contents (Elt F) b3.view.ty) (X4 : BufTy.Contents (Elt F) b4.view.ty)
    (f5 : BufTy.Contents (Elt F) b5.view.ty) (f6 : BufTy.Contents (Elt F) b6.view.ty) (f7 : BufTy.Contents (Elt F) b7.view.ty) (f8 : BufTy.Contents (Elt F) b8.view.ty)
    (f9 : BufTy.Contents (Elt F) b9.view.ty) (f10 : BufTy.Contents (Elt F) b10.view.ty) (f11 : BufTy.Contents (Elt F) b11.view.ty) (f12 : BufTy.Contents (Elt F) b12.view.ty)

/-- The taps' accumulator once the second loop is done. -/
theorem acc_read : b11.view.read (Elt F) (b11.view.writes (Elt F) b11.view.junk ((pb_k0_t2 (F := F) Variants.none c none i b1 k1 b2 k2 b3 k3 b4 k4 b5 k5 b6 k6 b7 k7 b8 k8 b9 k9 b10 k10 b11 k11 b12 k12 X1 X2 X3 X4 (b9.view.writes (Elt F) f9 ((pb_k0_t1 (F := F) Variants.none c none i b1 k1 b2 k2 b3 k3 b4 k4 b5 k5 b6 k6 b7 k7 b8 k8 b9 k9 b10 k10 b11 k11 b12 k12 X1 X2 X3 17).1 ++ [⟨Rect.unit (s := S2208x128) ![0, 0] ![32, 128] inb_S2208x128_S32x128_0_0, k0_pay62⟩])) (b10.view.writes (Elt F) f10 ((pb_k0_t1 (F := F) Variants.none c none i b1 k1 b2 k2 b3 k3 b4 k4 b5 k5 b6 k6 b7 k7 b8 k8 b9 k9 b10 k10 b11 k11 b12 k12 X1 X2 X3 17).2 ++ [⟨Rect.unit (s := S2208x128) ![2176, 0] ![32, 128] inb_S2208x128_S32x128_2176_0, k0_pay63⟩])) f5 f6 (b11.view.writes (Elt F) b11.view.junk [⟨Rect.unit (s := S32x8x128) ![0, 0, 0] ![32, 8, 128] inb_S32x8x128_S32x8x128_0_0_0, k0_pay64⟩]) (b12.view.writes (Elt F) b12.view.junk [⟨Rect.unit (s := S8x128) ![0, 0] ![8, 128] inb_S8x128_S8x128_0_0, k0_pay65⟩]) 17).2.2.1 ++ [⟨Rect.unit (s := S32x8x128) ![0, 0, 0] ![32, 8, 128] inb_S32x8x128_S32x8x128_0_0_0, k0_pay64⟩]))
    = wAcc (b3.view.read (Elt F) X3) (uFill (b1.view.read (Elt F) X1) (b2.view.read (Elt F) X2)) 17 := by
  rw [View.writes_append]
  refine ((loop2 (c := c) (i := i) (b1 := b1) (k1 := k1) (b2 := b2) (k2 := k2) (b3 := b3) (k3 := k3) (b4 := b4) (k4 := k4) (b5 := b5) (k5 := k5) (b6 := b6) (k6 := k6) (b7 := b7) (k7 := k7) (b8 := b8) (k8 := k8) (b9 := b9) (k9 := k9) (b10 := b10) (k10 := k10) (b11 := b11) (k11 := k11) (b12 := b12) (k12 := k12) X1 X2 X3 X4 _ _ _ _ _ _ 17 (le_refl _)).2.2.1 (read_whole3 _ _ _ _ _)).trans ?_
  rw [u_read]

/-- The bias's accumulator once the second loop is done. -/
theorem bias_read : b12.view.read (Elt F) (b12.view.writes (Elt F) b12.view.junk ((pb_k0_t2 (F := F) Variants.none c none i b1 k1 b2 k2 b3 k3 b4 k4 b5 k5 b6 k6 b7 k7 b8 k8 b9 k9 b10 k10 b11 k11 b12 k12 X1 X2 X3 X4 (b9.view.writes (Elt F) f9 ((pb_k0_t1 (F := F) Variants.none c none i b1 k1 b2 k2 b3 k3 b4 k4 b5 k5 b6 k6 b7 k7 b8 k8 b9 k9 b10 k10 b11 k11 b12 k12 X1 X2 X3 17).1 ++ [⟨Rect.unit (s := S2208x128) ![0, 0] ![32, 128] inb_S2208x128_S32x128_0_0, k0_pay62⟩])) (b10.view.writes (Elt F) f10 ((pb_k0_t1 (F := F) Variants.none c none i b1 k1 b2 k2 b3 k3 b4 k4 b5 k5 b6 k6 b7 k7 b8 k8 b9 k9 b10 k10 b11 k11 b12 k12 X1 X2 X3 17).2 ++ [⟨Rect.unit (s := S2208x128) ![2176, 0] ![32, 128] inb_S2208x128_S32x128_2176_0, k0_pay63⟩])) f5 f6 (b11.view.writes (Elt F) b11.view.junk [⟨Rect.unit (s := S32x8x128) ![0, 0, 0] ![32, 8, 128] inb_S32x8x128_S32x8x128_0_0_0, k0_pay64⟩]) (b12.view.writes (Elt F) b12.view.junk [⟨Rect.unit (s := S8x128) ![0, 0] ![8, 128] inb_S8x128_S8x128_0_0, k0_pay65⟩]) 17).2.2.2 ++ [⟨Rect.unit (s := S8x128) ![0, 0] ![8, 128] inb_S8x128_S8x128_0_0, k0_pay65⟩]))
    = bAcc (b3.view.read (Elt F) X3) 17 := by
  rw [View.writes_append]
  exact ((loop2 (c := c) (i := i) (b1 := b1) (k1 := k1) (b2 := b2) (k2 := k2) (b3 := b3) (k3 := k3) (b4 := b4) (k4 := k4) (b5 := b5) (k5 := k5) (b6 := b6) (k6 := k6) (b7 := b7) (k7 := k7) (b8 := b8) (k8 := k8) (b9 := b9) (k9 := k9) (b10 := b10) (k10 := k10) (b11 := b11) (k11 := k11) (b12 := b12) (k12 := k12) X1 X2 X3 X4 _ _ _ _ _ _ 17 (le_refl _)).2.2.2 (read_whole2 _ _ _ _ _))

/-- The gradient of the gated value. -/
theorem final5 : b5.view.read (Elt F) (bodyRun (F := F) c i b1 k1 b2 k2 b3 k3 b4 k4 b5 k5 b6 k6 b7 k7 b8 k8 b9 k9 b10 k10 b11 k11 b12 k12 X1 X2 X3 X4 f5 f6 f7 f8 f9 f10 f11 f12).1 = daOut (b2.view.read (Elt F) X2) (b3.view.read (Elt F) X3) (b4.view.read (Elt F) X4) := by
  unfold bodyRun
  dsimp only
  funext y
  have hy : (y 0).val < 2176 := (y 0).isLt
  have h := (loop2 (F := F) (c := c) (i := i) (b1 := b1) (k1 := k1) (b2 := b2) (k2 := k2) (b3 := b3) (k3 := k3) (b4 := b4) (k4 := k4) (b5 := b5) (k5 := k5) (b6 := b6) (k6 := k6) (b7 := b7) (k7 := k7) (b8 := b8) (k8 := k8) (b9 := b9) (k9 := k9) (b10 := b10) (k10 := k10) (b11 := b11) (k11 := k11) (b12 := b12) (k12 := k12) X1 X2 X3 X4 (b9.view.writes (Elt F) f9 ((pb_k0_t1 (F := F) Variants.none c none i b1 k1 b2 k2 b3 k3 b4 k4 b5 k5 b6 k6 b7 k7 b8 k8 b9 k9 b10 k10 b11 k11 b12 k12 X1 X2 X3 17).1 ++ [⟨Rect.unit (s := S2208x128) ![0, 0] ![32, 128] inb_S2208x128_S32x128_0_0, k0_pay62⟩])) (b10.view.writes (Elt F) f10 ((pb_k0_t1 (F := F) Variants.none c none i b1 k1 b2 k2 b3 k3 b4 k4 b5 k5 b6 k6 b7 k7 b8 k8 b9 k9 b10 k10 b11 k11 b12 k12 X1 X2 X3 17).2 ++ [⟨Rect.unit (s := S2208x128) ![2176, 0] ![32, 128] inb_S2208x128_S32x128_2176_0, k0_pay63⟩])) f5 f6 (b11.view.writes (Elt F) b11.view.junk [⟨Rect.unit (s := S32x8x128) ![0, 0, 0] ![32, 8, 128] inb_S32x8x128_S32x8x128_0_0_0, k0_pay64⟩]) (b12.view.writes (Elt F) b12.view.junk [⟨Rect.unit (s := S8x128) ![0, 0] ![8, 128] inb_S8x128_S8x128_0_0, k0_pay65⟩]) 17 (le_refl _)).1 y
  rw [d_read, if_pos (by omega)] at h
  exact h

/-- The gradient of the gate's logit. -/
theorem final6 : b6.view.read (Elt F) (bodyRun (F := F) c i b1 k1 b2 k2 b3 k3 b4 k4 b5 k5 b6 k6 b7 k7 b8 k8 b9 k9 b10 k10 b11 k11 b12 k12 X1 X2 X3 X4 f5 f6 f7 f8 f9 f10 f11 f12).2.1 = dgOut (b1.view.read (Elt F) X1) (b2.view.read (Elt F) X2) (b3.view.read (Elt F) X3) (b4.view.read (Elt F) X4) := by
  unfold bodyRun
  dsimp only
  funext y
  have hy : (y 0).val < 2176 := (y 0).isLt
  have h := (loop2 (F := F) (c := c) (i := i) (b1 := b1) (k1 := k1) (b2 := b2) (k2 := k2) (b3 := b3) (k3 := k3) (b4 := b4) (k4 := k4) (b5 := b5) (k5 := k5) (b6 := b6) (k6 := k6) (b7 := b7) (k7 := k7) (b8 := b8) (k8 := k8) (b9 := b9) (k9 := k9) (b10 := b10) (k10 := k10) (b11 := b11) (k11 := k11) (b12 := b12) (k12 := k12) X1 X2 X3 X4 (b9.view.writes (Elt F) f9 ((pb_k0_t1 (F := F) Variants.none c none i b1 k1 b2 k2 b3 k3 b4 k4 b5 k5 b6 k6 b7 k7 b8 k8 b9 k9 b10 k10 b11 k11 b12 k12 X1 X2 X3 17).1 ++ [⟨Rect.unit (s := S2208x128) ![0, 0] ![32, 128] inb_S2208x128_S32x128_0_0, k0_pay62⟩])) (b10.view.writes (Elt F) f10 ((pb_k0_t1 (F := F) Variants.none c none i b1 k1 b2 k2 b3 k3 b4 k4 b5 k5 b6 k6 b7 k7 b8 k8 b9 k9 b10 k10 b11 k11 b12 k12 X1 X2 X3 17).2 ++ [⟨Rect.unit (s := S2208x128) ![2176, 0] ![32, 128] inb_S2208x128_S32x128_2176_0, k0_pay63⟩])) f5 f6 (b11.view.writes (Elt F) b11.view.junk [⟨Rect.unit (s := S32x8x128) ![0, 0, 0] ![32, 8, 128] inb_S32x8x128_S32x8x128_0_0_0, k0_pay64⟩]) (b12.view.writes (Elt F) b12.view.junk [⟨Rect.unit (s := S8x128) ![0, 0] ![8, 128] inb_S8x128_S8x128_0_0, k0_pay65⟩]) 17 (le_refl _)).2.1 y
  rw [d_read, if_pos (by omega)] at h
  exact h

/-- The gradient of the bias. -/
theorem final8 : b8.view.read (Elt F) (bodyRun (F := F) c i b1 k1 b2 k2 b3 k3 b4 k4 b5 k5 b6 k6 b7 k7 b8 k8 b9 k9 b10 k10 b11 k11 b12 k12 X1 X2 X3 X4 f5 f6 f7 f8 f9 f10 f11 f12).2.2.2.1 = dbOut (b3.view.read (Elt F) X3) := by
  unfold bodyRun
  dsimp only
  unfold bodyRun.sl.v175
  refine (read_whole2 _ _ _ _ _).trans (congrArg k0_pay1 ?_)
  unfold View.readCov
  exact (rdWhole _ _ _).trans (bias_read _ _ _ _ _ _ _ _ _ _ _ _ _ _ _ _ _ _ _ _ _ _ _ _ _ _ _ _ _ _ _ _ _ _ )

/-- The gradient of the taps. -/
theorem final7 : b7.view.read (Elt F) (bodyRun (F := F) c i b1 k1 b2 k2 b3 k3 b4 k4 b5 k5 b6 k6 b7 k7 b8 k8 b9 k9 b10 k10 b11 k11 b12 k12 X1 X2 X3 X4 f5 f6 f7 f8 f9 f10 f11 f12).2.2.1 = dwOut (b1.view.read (Elt F) X1) (b2.view.read (Elt F) X2) (b3.view.read (Elt F) X3) := by
  have hpl : ∀ (j : ℕ) (h : ∀ a, (![j, 0, 0] : Fin 3 → ℕ) a + (![1, 8, 128] : Fin 3 → ℕ) a ≤ S32x8x128.size a),
      b11.view.readCov ((pb_k0_t2 (F := F) Variants.none c none i b1 k1 b2 k2 b3 k3 b4 k4 b5 k5 b6 k6 b7 k7 b8 k8 b9 k9 b10 k10 b11 k11 b12 k12 X1 X2 X3 X4 (b9.view.writes (Elt F) f9 ((pb_k0_t1 (F := F) Variants.none c none i b1 k1 b2 k2 b3 k3 b4 k4 b5 k5 b6 k6 b7 k7 b8 k8 b9 k9 b10 k10 b11 k11 b12 k12 X1 X2 X3 17).1 ++ [⟨Rect.unit (s := S2208x128) ![0, 0] ![32, 128] inb_S2208x128_S32x128_0_0, k0_pay62⟩])) (b10.view.writes (Elt F) f10 ((pb_k0_t1 (F := F) Variants.none c none i b1 k1 b2 k2 b3 k3 b4 k4 b5 k5 b6 k6 b7 k7 b8 k8 b9 k9 b10 k10 b11 k11 b12 k12 X1 X2 X3 17).2 ++ [⟨Rect.unit (s := S2208x128) ![2176, 0] ![32, 128] inb_S2208x128_S32x128_2176_0, k0_pay63⟩])) f5 f6 (b11.view.writes (Elt F) b11.view.junk [⟨Rect.unit (s := S32x8x128) ![0, 0, 0] ![32, 8, 128] inb_S32x8x128_S32x8x128_0_0_0, k0_pay64⟩]) (b12.view.writes (Elt F) b12.view.junk [⟨Rect.unit (s := S8x128) ![0, 0] ![8, 128] inb_S8x128_S8x128_0_0, k0_pay65⟩]) 17).2.2.1 ++ [⟨Rect.unit (s := S32x8x128) ![0, 0, 0] ![32, 8, 128] inb_S32x8x128_S32x8x128_0_0_0, k0_pay64⟩]) (Rect.unit (s := S32x8x128) ![j, 0, 0] ![1, 8, 128] h).toLoadRect
        = planeAt (wAcc (b3.view.read (Elt F) X3) (uFill (b1.view.read (Elt F) X1) (b2.view.read (Elt F) X2)) 17) j := fun j h => by
    unfold View.readCov
    refine (rdPlane _ _ j h).trans ?_
    rw [acc_read]
  unfold bodyRun
  dsimp only
  unfold bodyRun.sl.v18 bodyRun.sl.v23 bodyRun.sl.v28 bodyRun.sl.v33 bodyRun.sl.v38 bodyRun.sl.v43 bodyRun.sl.v48 bodyRun.sl.v53 bodyRun.sl.v58 bodyRun.sl.v63 bodyRun.sl.v68 bodyRun.sl.v73 bodyRun.sl.v78 bodyRun.sl.v83 bodyRun.sl.v88 bodyRun.sl.v93 bodyRun.sl.v98 bodyRun.sl.v103 bodyRun.sl.v108 bodyRun.sl.v113 bodyRun.sl.v118 bodyRun.sl.v123 bodyRun.sl.v128 bodyRun.sl.v133 bodyRun.sl.v138 bodyRun.sl.v143 bodyRun.sl.v148 bodyRun.sl.v153 bodyRun.sl.v158 bodyRun.sl.v163 bodyRun.sl.v168
  funext y
  have key : ∀ (j : ℕ) (hj : j < 31) (h : ∀ a, (![j, 0] : Fin 2 → ℕ) a + (![1, 128] : Fin 2 → ℕ) a ≤ S32x128.size a)
      (x : (Rect.unit (s := S32x128) ![j, 0] ![1, 128] h).shape.Idx),
      rowTile (planeAt (wAcc (b3.view.read (Elt F) X3) (uFill (b1.view.read (Elt F) X1) (b2.view.read (Elt F) X2)) 17) j) x
        = dwOut (b1.view.read (Elt F) X1) (b2.view.read (Elt F) X2) (b3.view.read (Elt F) X3) ((Rect.unit (s := S32x128) ![j, 0] ![1, 128] h).emb x) := by
    intro j hj h x
    have hx : (x 0).val < 1 := (x 0).isLt
    have h0 : (((Rect.unit (s := S32x128) ![j, 0] ![1, 128] h).emb x) 0).val = j := by show j + 1 * (x 0).val = j; omega
    unfold dwOut
    rw [h0, if_neg (by omega)]
    refine congrArg (rowTile _) (funext fun a => Fin.ext ?_)
    exact match a with
    | ⟨0, _⟩ => by show (x 0).val = 0; omega
    | ⟨1, _⟩ => by show (x 1).val = 0 + 1 * (x 1).val; omega
  have last : ∀ (h : ∀ a, (![31, 0] : Fin 2 → ℕ) a + (![1, 128] : Fin 2 → ℕ) a ≤ S32x128.size a)
      (x : (Rect.unit (s := S32x128) ![31, 0] ![1, 128] h).shape.Idx),
      k0_pay99 (F := F) x = dwOut (b1.view.read (Elt F) X1) (b2.view.read (Elt F) X2) (b3.view.read (Elt F) X3) ((Rect.unit (s := S32x128) ![31, 0] ![1, 128] h).emb x) := by
    intro h x
    have hx : (x 0).val < 1 := (x 0).isLt
    have h0 : (((Rect.unit (s := S32x128) ![31, 0] ![1, 128] h).emb x) 0).val = 31 := by show 31 + 1 * (x 0).val = 31; omega
    unfold dwOut
    rw [h0, if_pos rfl]
    refine congrArg k0_pay99 (funext fun a => Fin.ext ?_)
    exact match a with
    | ⟨0, _⟩ => by show (x 0).val = 0; omega
    | ⟨1, _⟩ => by show (x 1).val = 0 + 1 * (x 1).val; omega
  refine read_agree b7.view f7 _ y _ ?_ ?_
  · simp only [List.forall_mem_cons, List.not_mem_nil, false_imp_iff, implies_true, and_true]
    refine ⟨last _, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
    · exact fun x => (congrArg (fun t => rowTile t x) (hpl 30 inb_S32x8x128_S1x8x128_30_0_0)).trans (key 30 (by decide) _ x)
    · exact fun x => (congrArg (fun t => rowTile t x) (hpl 29 inb_S32x8x128_S1x8x128_29_0_0)).trans (key 29 (by decide) _ x)
    · exact fun x => (congrArg (fun t => rowTile t x) (hpl 28 inb_S32x8x128_S1x8x128_28_0_0)).trans (key 28 (by decide) _ x)
    · exact fun x => (congrArg (fun t => rowTile t x) (hpl 27 inb_S32x8x128_S1x8x128_27_0_0)).trans (key 27 (by decide) _ x)
    · exact fun x => (congrArg (fun t => rowTile t x) (hpl 26 inb_S32x8x128_S1x8x128_26_0_0)).trans (key 26 (by decide) _ x)
    · exact fun x => (congrArg (fun t => rowTile t x) (hpl 25 inb_S32x8x128_S1x8x128_25_0_0)).trans (key 25 (by decide) _ x)
    · exact fun x => (congrArg (fun t => rowTile t x) (hpl 24 inb_S32x8x128_S1x8x128_24_0_0)).trans (key 24 (by decide) _ x)
    · exact fun x => (congrArg (fun t => rowTile t x) (hpl 23 inb_S32x8x128_S1x8x128_23_0_0)).trans (key 23 (by decide) _ x)
    · exact fun x => (congrArg (fun t => rowTile t x) (hpl 22 inb_S32x8x128_S1x8x128_22_0_0)).trans (key 22 (by decide) _ x)
    · exact fun x => (congrArg (fun t => rowTile t x) (hpl 21 inb_S32x8x128_S1x8x128_21_0_0)).trans (key 21 (by decide) _ x)
    · exact fun x => (congrArg (fun t => rowTile t x) (hpl 20 inb_S32x8x128_S1x8x128_20_0_0)).trans (key 20 (by decide) _ x)
    · exact fun x => (congrArg (fun t => rowTile t x) (hpl 19 inb_S32x8x128_S1x8x128_19_0_0)).trans (key 19 (by decide) _ x)
    · exact fun x => (congrArg (fun t => rowTile t x) (hpl 18 inb_S32x8x128_S1x8x128_18_0_0)).trans (key 18 (by decide) _ x)
    · exact fun x => (congrArg (fun t => rowTile t x) (hpl 17 inb_S32x8x128_S1x8x128_17_0_0)).trans (key 17 (by decide) _ x)
    · exact fun x => (congrArg (fun t => rowTile t x) (hpl 16 inb_S32x8x128_S1x8x128_16_0_0)).trans (key 16 (by decide) _ x)
    · exact fun x => (congrArg (fun t => rowTile t x) (hpl 15 inb_S32x8x128_S1x8x128_15_0_0)).trans (key 15 (by decide) _ x)
    · exact fun x => (congrArg (fun t => rowTile t x) (hpl 14 inb_S32x8x128_S1x8x128_14_0_0)).trans (key 14 (by decide) _ x)
    · exact fun x => (congrArg (fun t => rowTile t x) (hpl 13 inb_S32x8x128_S1x8x128_13_0_0)).trans (key 13 (by decide) _ x)
    · exact fun x => (congrArg (fun t => rowTile t x) (hpl 12 inb_S32x8x128_S1x8x128_12_0_0)).trans (key 12 (by decide) _ x)
    · exact fun x => (congrArg (fun t => rowTile t x) (hpl 11 inb_S32x8x128_S1x8x128_11_0_0)).trans (key 11 (by decide) _ x)
    · exact fun x => (congrArg (fun t => rowTile t x) (hpl 10 inb_S32x8x128_S1x8x128_10_0_0)).trans (key 10 (by decide) _ x)
    · exact fun x => (congrArg (fun t => rowTile t x) (hpl 9 inb_S32x8x128_S1x8x128_9_0_0)).trans (key 9 (by decide) _ x)
    · exact fun x => (congrArg (fun t => rowTile t x) (hpl 8 inb_S32x8x128_S1x8x128_8_0_0)).trans (key 8 (by decide) _ x)
    · exact fun x => (congrArg (fun t => rowTile t x) (hpl 7 inb_S32x8x128_S1x8x128_7_0_0)).trans (key 7 (by decide) _ x)
    · exact fun x => (congrArg (fun t => rowTile t x) (hpl 6 inb_S32x8x128_S1x8x128_6_0_0)).trans (key 6 (by decide) _ x)
    · exact fun x => (congrArg (fun t => rowTile t x) (hpl 5 inb_S32x8x128_S1x8x128_5_0_0)).trans (key 5 (by decide) _ x)
    · exact fun x => (congrArg (fun t => rowTile t x) (hpl 4 inb_S32x8x128_S1x8x128_4_0_0)).trans (key 4 (by decide) _ x)
    · exact fun x => (congrArg (fun t => rowTile t x) (hpl 3 inb_S32x8x128_S1x8x128_3_0_0)).trans (key 3 (by decide) _ x)
    · exact fun x => (congrArg (fun t => rowTile t x) (hpl 2 inb_S32x8x128_S1x8x128_2_0_0)).trans (key 2 (by decide) _ x)
    · exact fun x => (congrArg (fun t => rowTile t x) (hpl 1 inb_S32x8x128_S1x8x128_1_0_0)).trans (key 1 (by decide) _ x)
    · exact fun x => (congrArg (fun t => rowTile t x) (hpl 0 inb_S32x8x128_S1x8x128_0_0_0)).trans (key 0 (by decide) _ x)
  · have hy : (y 0).val < 32 := (y 0).isLt
    have cov : ∀ (j : ℕ) (h : ∀ a, (![j, 0] : Fin 2 → ℕ) a + (![1, 128] : Fin 2 → ℕ) a ≤ S32x128.size a), (y 0).val = j →
        ∃ x, (Rect.unit (s := S32x128) ![j, 0] ![1, 128] h).emb x = y := fun j h e =>
      ⟨ix2 0 (y 1), funext fun a => Fin.ext (match a with
        | ⟨0, _⟩ => by show j + 1 * 0 = (y 0).val; omega
        | ⟨1, _⟩ => by show 0 + 1 * (y 1).val = (y 1).val; omega)⟩
    generalize hj : (y 0).val = j at hy cov
    simp only [List.exists_mem_cons_iff, List.not_mem_nil]
    interval_cases j
    · exact .inr (.inr (.inr (.inr (.inr (.inr (.inr (.inr (.inr (.inr (.inr (.inr (.inr (.inr (.inr (.inr (.inr (.inr (.inr (.inr (.inr (.inr (.inr (.inr (.inr (.inr (.inr (.inr (.inr (.inr (.inr (.inl (cov 0 inb_S32x128_S1x128_0_0 rfl))))))))))))))))))))))))))))))))
    · exact .inr (.inr (.inr (.inr (.inr (.inr (.inr (.inr (.inr (.inr (.inr (.inr (.inr (.inr (.inr (.inr (.inr (.inr (.inr (.inr (.inr (.inr (.inr (.inr (.inr (.inr (.inr (.inr (.inr (.inr (.inl (cov 1 inb_S32x128_S1x128_1_0 rfl)))))))))))))))))))))))))))))))
    · exact .inr (.inr (.inr (.inr (.inr (.inr (.inr (.inr (.inr (.inr (.inr (.inr (.inr (.inr (.inr (.inr (.inr (.inr (.inr (.inr (.inr (.inr (.inr (.inr (.inr (.inr (.inr (.inr (.inr (.inl (cov 2 inb_S32x128_S1x128_2_0 rfl))))))))))))))))))))))))))))))
    · exact .inr (.inr (.inr (.inr (.inr (.inr (.inr (.inr (.inr (.inr (.inr (.inr (.inr (.inr (.inr (.inr (.inr (.inr (.inr (.inr (.inr (.inr (.inr (.inr (.inr (.inr (.inr (.inr (.inl (cov 3 inb_S32x128_S1x128_3_0 rfl)))))))))))))))))))))))))))))
    · exact .inr (.inr (.inr (.inr (.inr (.inr (.inr (.inr (.inr (.inr (.inr (.inr (.inr (.inr (.inr (.inr (.inr (.inr (.inr (.inr (.inr (.inr (.inr (.inr (.inr (.inr (.inr (.inl (cov 4 inb_S32x128_S1x128_4_0 rfl))))))))))))))))))))))))))))
    · exact .inr (.inr (.inr (.inr (.inr (.inr (.inr (.inr (.inr (.inr (.inr (.inr (.inr (.inr (.inr (.inr (.inr (.inr (.inr (.inr (.inr (.inr (.inr (.inr (.inr (.inr (.inl (cov 5 inb_S32x128_S1x128_5_0 rfl)))))))))))))))))))))))))))
    · exact .inr (.inr (.inr (.inr (.inr (.inr (.inr (.inr (.inr (.inr (.inr (.inr (.inr (.inr (.inr (.inr (.inr (.inr (.inr (.inr (.inr (.inr (.inr (.inr (.inr (.inl (cov 6 inb_S32x128_S1x128_6_0 rfl))))))))))))))))))))))))))
    · exact .inr (.inr (.inr (.inr (.inr (.inr (.inr (.inr (.inr (.inr (.inr (.inr (.inr (.inr (.inr (.inr (.inr (.inr (.inr (.inr (.inr (.inr (.inr (.inr (.inl (cov 7 inb_S32x128_S1x128_7_0 rfl)))))))))))))))))))))))))
    · exact .inr (.inr (.inr (.inr (.inr (.inr (.inr (.inr (.inr (.inr (.inr (.inr (.inr (.inr (.inr (.inr (.inr (.inr (.inr (.inr (.inr (.inr (.inr (.inl (cov 8 inb_S32x128_S1x128_8_0 rfl))))))))))))))))))))))))
    · exact .inr (.inr (.inr (.inr (.inr (.inr (.inr (.inr (.inr (.inr (.inr (.inr (.inr (.inr (.inr (.inr (.inr (.inr (.inr (.inr (.inr (.inr (.inl (cov 9 inb_S32x128_S1x128_9_0 rfl)))))))))))))))))))))))
    · exact .inr (.inr (.inr (.inr (.inr (.inr (.inr (.inr (.inr (.inr (.inr (.inr (.inr (.inr (.inr (.inr (.inr (.inr (.inr (.inr (.inr (.inl (cov 10 inb_S32x128_S1x128_10_0 rfl))))))))))))))))))))))
    · exact .inr (.inr (.inr (.inr (.inr (.inr (.inr (.inr (.inr (.inr (.inr (.inr (.inr (.inr (.inr (.inr (.inr (.inr (.inr (.inr (.inl (cov 11 inb_S32x128_S1x128_11_0 rfl)))))))))))))))))))))
    · exact .inr (.inr (.inr (.inr (.inr (.inr (.inr (.inr (.inr (.inr (.inr (.inr (.inr (.inr (.inr (.inr (.inr (.inr (.inr (.inl (cov 12 inb_S32x128_S1x128_12_0 rfl))))))))))))))))))))
    · exact .inr (.inr (.inr (.inr (.inr (.inr (.inr (.inr (.inr (.inr (.inr (.inr (.inr (.inr (.inr (.inr (.inr (.inr (.inl (cov 13 inb_S32x128_S1x128_13_0 rfl)))))))))))))))))))
    · exact .inr (.inr (.inr (.inr (.inr (.inr (.inr (.inr (.inr (.inr (.inr (.inr (.inr (.inr (.inr (.inr (.inr (.inl (cov 14 inb_S32x128_S1x128_14_0 rfl))))))))))))))))))
    · exact .inr (.inr (.inr (.inr (.inr (.inr (.inr (.inr (.inr (.inr (.inr (.inr (.inr (.inr (.inr (.inr (.inl (cov 15 inb_S32x128_S1x128_15_0 rfl)))))))))))))))))
    · exact .inr (.inr (.inr (.inr (.inr (.inr (.inr (.inr (.inr (.inr (.inr (.inr (.inr (.inr (.inr (.inl (cov 16 inb_S32x128_S1x128_16_0 rfl))))))))))))))))
    · exact .inr (.inr (.inr (.inr (.inr (.inr (.inr (.inr (.inr (.inr (.inr (.inr (.inr (.inr (.inl (cov 17 inb_S32x128_S1x128_17_0 rfl)))))))))))))))
    · exact .inr (.inr (.inr (.inr (.inr (.inr (.inr (.inr (.inr (.inr (.inr (.inr (.inr (.inl (cov 18 inb_S32x128_S1x128_18_0 rfl))))))))))))))
    · exact .inr (.inr (.inr (.inr (.inr (.inr (.inr (.inr (.inr (.inr (.inr (.inr (.inl (cov 19 inb_S32x128_S1x128_19_0 rfl)))))))))))))
    · exact .inr (.inr (.inr (.inr (.inr (.inr (.inr (.inr (.inr (.inr (.inr (.inl (cov 20 inb_S32x128_S1x128_20_0 rfl))))))))))))
    · exact .inr (.inr (.inr (.inr (.inr (.inr (.inr (.inr (.inr (.inr (.inl (cov 21 inb_S32x128_S1x128_21_0 rfl)))))))))))
    · exact .inr (.inr (.inr (.inr (.inr (.inr (.inr (.inr (.inr (.inl (cov 22 inb_S32x128_S1x128_22_0 rfl))))))))))
    · exact .inr (.inr (.inr (.inr (.inr (.inr (.inr (.inr (.inl (cov 23 inb_S32x128_S1x128_23_0 rfl)))))))))
    · exact .inr (.inr (.inr (.inr (.inr (.inr (.inr (.inl (cov 24 inb_S32x128_S1x128_24_0 rfl))))))))
    · exact .inr (.inr (.inr (.inr (.inr (.inr (.inl (cov 25 inb_S32x128_S1x128_25_0 rfl)))))))
    · exact .inr (.inr (.inr (.inr (.inr (.inl (cov 26 inb_S32x128_S1x128_26_0 rfl))))))
    · exact .inr (.inr (.inr (.inr (.inl (cov 27 inb_S32x128_S1x128_27_0 rfl)))))
    · exact .inr (.inr (.inr (.inl (cov 28 inb_S32x128_S1x128_28_0 rfl))))
    · exact .inr (.inr (.inl (cov 29 inb_S32x128_S1x128_29_0 rfl)))
    · exact .inr (.inl (cov 30 inb_S32x128_S1x128_30_0 rfl))
    · exact .inl (cov 31 inb_S32x128_S1x128_31_0 rfl)

end Final

end Cert.Conv

end
-- ==== Proof.ConvBody.lean ====
module

public import proofs.«01_k».proof.Proof.ConvFinal
public import Idealize.ShloMosaic.Lib.Claim

@[expose] public section

/-! The run of the convolution's backward call: the body's triple over whole buffers, the pipeline's proof data with
the four results named, the run and the frame. -/

set_option maxRecDepth 16384
set_option maxHeartbeats 4000000

noncomputable section

namespace Cert.Conv

open Cert.ConvKIdeal Cert.ConvKIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ

/-- The body on whole buffers, the operands' at `x0 … x3`: it leaves them, and the results at what they determine. -/
theorem sound_kernel (c : Dev nD) (i : grid0.Coords) (E : Set ℕ) (b1 : Memref sig .tc .vmem S2176x128 .f32) (k1 : b1.IsWhole) (b2 : Memref sig .tc .vmem S2176x128 .f32) (k2 : b2.IsWhole) (b3 : Memref sig .tc .vmem S2176x128 .f32) (k3 : b3.IsWhole)
    (b4 : Memref sig .tc .vmem S32x128 .f32) (k4 : b4.IsWhole) (b5 : Memref sig .tc .vmem S2176x128 .bf16) (k5 : b5.IsWhole) (b6 : Memref sig .tc .vmem S2176x128 .bf16) (k6 : b6.IsWhole) (b7 : Memref sig .tc .vmem S32x128 .f32) (k7 : b7.IsWhole) (b8 : Memref sig .tc .vmem S1x128 .f32) (k8 : b8.IsWhole) (b9 : Memref sig .tc .vmem S2208x128 .f32) (k9 : b9.IsWhole) (b10 : Memref sig .tc .vmem S2208x128 .f32) (k10 : b10.IsWhole) (b11 : Memref sig .tc .vmem S32x8x128 .f32) (k11 : b11.IsWhole) (b12 : Memref sig .tc .vmem S8x128 .f32) (k12 : b12.IsWhole)
    (x0 x1 x2 : Vec F S2176x128 .f32) (x3 : Vec F S32x128 .f32) (K : PUnit → sProp 𝕄) :
    iprop(owns (c : Thread nD τ) b1 fullShare x0 ∗ owns (c : Thread nD τ) b2 fullShare x1 ∗ owns (c : Thread nD τ) b3 fullShare x2 ∗ owns (c : Thread nD τ) b4 fullShare x3 ∗ (∃ d, owns (c : Thread nD τ) b5 fullShare d) ∗ (∃ d, owns (c : Thread nD τ) b6 fullShare d) ∗ (∃ d, owns (c : Thread nD τ) b7 fullShare d) ∗ (∃ d, owns (c : Thread nD τ) b8 fullShare d) ∗ (∃ d, owns (c : Thread nD τ) b9 fullShare d) ∗ (∃ d, owns (c : Thread nD τ) b10 fullShare d) ∗ (∃ d, owns (c : Thread nD τ) b11 fullShare d) ∗ (∃ d, owns (c : Thread nD τ) b12 fullShare d)
        ∗ (iprop(owns (c : Thread nD τ) b1 fullShare x0 ∗ owns (c : Thread nD τ) b2 fullShare x1 ∗ owns (c : Thread nD τ) b3 fullShare x2 ∗ owns (c : Thread nD τ) b4 fullShare x3 ∗ owns (c : Thread nD τ) b5 fullShare (daOut x1 x2 x3) ∗ owns (c : Thread nD τ) b6 fullShare (dgOut x0 x1 x2 x3) ∗ owns (c : Thread nD τ) b7 fullShare (dwOut x0 x1 x2) ∗ owns (c : Thread nD τ) b8 fullShare (dbOut x2) ∗ (∃ d, owns (c : Thread nD τ) b9 fullShare d) ∗ (∃ d, owns (c : Thread nD τ) b10 fullShare d) ∗ (∃ d, owns (c : Thread nD τ) b11 fullShare d) ∗ (∃ d, owns (c : Thread nD τ) b12 fullShare d)) -∗ K ⟨⟩))
      ⊢ wp frame (wpE (defs₀ (F := F)) Variants.none c none) E (cc0_conv_bwd i b1 k1 b2 k2 b3 k3 b4 k4 b5 k5 b6 k6 b7 k7 b8 k8 b9 k9 b10 k10 b11 k11 b12 k12) K := by
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
  subst hf1 hf2 hf3 hf4
  have h5 := final5 (F := F) c i b1 k1 b2 k2 b3 k3 b4 k4 b5 k5 b6 k6 b7 k7 b8 k8 b9 k9 b10 k10 b11 k11 b12 k12 f1 f2 f3 f4 f5 f6 f7 f8 f9 f10 f11 f12
  have h6 := final6 (F := F) c i b1 k1 b2 k2 b3 k3 b4 k4 b5 k5 b6 k6 b7 k7 b8 k8 b9 k9 b10 k10 b11 k11 b12 k12 f1 f2 f3 f4 f5 f6 f7 f8 f9 f10 f11 f12
  have h7 := final7 (F := F) c i b1 k1 b2 k2 b3 k3 b4 k4 b5 k5 b6 k6 b7 k7 b8 k8 b9 k9 b10 k10 b11 k11 b12 k12 f1 f2 f3 f4 f5 f6 f7 f8 f9 f10 f11 f12
  have h8 := final8 (F := F) c i b1 k1 b2 k2 b3 k3 b4 k4 b5 k5 b6 k6 b7 k7 b8 k8 b9 k9 b10 k10 b11 k11 b12 k12 f1 f2 f3 f4 f5 f6 f7 f8 f9 f10 f11 f12
  generalize hB : bodyRun (F := F) c i b1 k1 b2 k2 b3 k3 b4 k4 b5 k5 b6 k6 b7 k7 b8 k8 b9 k9 b10 k10 b11 k11 b12 k12 f1 f2 f3 f4 f5 f6 f7 f8 f9 f10 f11 f12 = B at h5 h6 h7 h8
  obtain ⟨g5, g6, g7, g8, g9, g10, g11, g12, hrun⟩ := B
  dsimp only at h5 h6 h7 h8
  iapply wp_wand_r
  isplitl [H1 H2 H3 H4 H5 H6 H7 H8 H9 H10 H11 H12]
  · iapply (hrun E)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  iintro %u ⟨H1, H2, H3, H4, H5, H6, H7, H8, H9, H10, H11, H12⟩
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists g5; isplitr; · ipureintro; exact h5
    iexact H5
  isplitl [H6]
  · iexists g6; isplitr; · ipureintro; exact h6
    iexact H6
  isplitl [H7]
  · iexists g7; isplitr; · ipureintro; exact h7
    iexact H7
  isplitl [H8]
  · iexists g8; isplitr; · ipureintro; exact h8
    iexact H8
  isplitl [H9]
  · iexists _, g9; isplitr; swap; · iexact H9
    ipureintro; rfl
  isplitl [H10]
  · iexists _, g10; isplitr; swap; · iexact H10
    ipureintro; rfl
  isplitl [H11]
  · iexists _, g11; isplitr; swap; · iexact H11
    ipureintro; rfl
  iexists _, g12; isplitr; swap; · iexact H12
  ipureintro; rfl

variable (m : (ℓ : Loc nD τ sig) → Buf (Elt F) ℓ) (ρ : Dev nD → PrngReg)

/-- The proof data of the pipeline on a core: the arrays as the region finds them; after the body each operand's
buffer at its block and each result's at what the operands' blocks determine; an array two windows read is shared. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => daOut (iblk m c 1 t) (iblk m c 2 t) (iblk m c 3 t)
    | ⟨5, _⟩ => dgOut (iblk m c 0 t) (iblk m c 1 t) (iblk m c 2 t) (iblk m c 3 t)
    | ⟨6, _⟩ => dwOut (iblk m c 0 t) (iblk m c 1 t) (iblk m c 2 t)
    | ⟨7, _⟩ => dbOut (iblk m c 2 t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = daOut (iblk m c 1 t) (iblk m c 2 t) (iblk m c 3 t) := by dsimp only [dats]
theorem after0_5 (c : Dev nD) (t : Fin cfg0.N) : (dats m 0 c).after 5 t = dgOut (iblk m c 0 t) (iblk m c 1 t) (iblk m c 2 t) (iblk m c 3 t) := by dsimp only [dats]
theorem after0_6 (c : Dev nD) (t : Fin cfg0.N) : (dats m 0 c).after 6 t = dwOut (iblk m c 0 t) (iblk m c 1 t) (iblk m c 2 t) := by dsimp only [dats]
theorem after0_7 (c : Dev nD) (t : Fin cfg0.N) : (dats m 0 c).after 7 t = dbOut (iblk m c 2 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The invariant with the scratch buffers as owned at some contents. -/
theorem scratch_eq (c : Dev nD) : (Pipeline.ΦA spec0 c : sProp 𝕄)
    = iprop(iprop((∃ d, owns (c : Thread nD τ) (Memref.whole cc0_scratch0) fullShare d) ∗ (∃ d, owns (c : Thread nD τ) (Memref.whole cc0_scratch1) fullShare d)
        ∗ (∃ d, owns (c : Thread nD τ) (Memref.whole cc0_scratch2) fullShare d) ∗ (∃ d, owns (c : Thread nD τ) (Memref.whole cc0_scratch3) fullShare d)) ∗ (∃ r, prngReg c r)) := by
  unfold Pipeline.ΦA; rw [scopedRest0_eq]; simp only [owns_whole]; try rfl

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, scratch_eq]
  iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c (grid0.coords t) Set.univ _ _ _ _ _ _ _ _ _ _ _ _ _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  isplitl [S0]; · iexact S0
  isplitl [S1]; · iexact S1
  isplitl [S2]; · iexact S2
  isplitl [S3]; · iexact S3
  iintro ⟨H0, H1, H2, H3, H4, H5, H6, H7, S0, S1, S2, S3⟩
  isplitl [S0 S1 S2 S3 Hg]
  · isplitl [S0 S1 S2 S3]
    · isplitl [S0]; · iexact S0
      isplitl [S1]; · iexact S1
      isplitl [S2]; · iexact S2
      iexact S3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at a point is the body there. -/
theorem row_eq (t : Fin cfg0.N) : defs₀ (F := F) .tc cfg0.body (cfg0.bodyArgs t (cfg0.slots t)) = bodyAt0 t := by
  unfold defs₀; rw [Defs.onTc_tc]

/-- The body meets its obligation at every point. -/
theorem body_obligation (c : Dev nD) : BodyObligation (dats (F := F) m 0 c) (defs₀ (F := F)) Variants.none () Set.univ := fun t => by
  rw [bigSep_W0, bigSep_W0, row_eq]
  exact triple_restated (sound_body m c t) rfl .rfl fun _ => .rfl

set_option backward.isDefEq.respectTransparency.types false in
/-- The launch: every array of the pipeline ends at what the proof data compute, and every counter ends at zero. -/
theorem run_quiet : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The launch, the counters left out. -/
theorem run_main : θ_run defs (onTc (τ := τ) (main (F := F))) (s₀ m ρ) (Pipeline.FramePost cfgs (dats m) 0 (V m)) :=
  (θ_run defs _ _).mono (fun _ h => h.1) (run_quiet m ρ)

/-- The frame of the convolution's backward call: the three arguments end unchanged, every counter ends at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiet m ρ))

end Cert.Conv

end
-- ==== Proof.ConvSame.lean ====
module
public import proofs.«01_k».proof.Defs
public import proofs.«01_k».proof.Proof.Gen.ConvK
public import proofs.«01_k».proof.Proof.Gen.ConvKIdeal
public import proofs.«01_k».proof.Proof.ConvBody
@[expose] public section

/-! The convolution's backward call is printed twice, once to be read over the extended reals, in the same words: its
frame at the machine's values is the one run's. -/

set_option maxRecDepth 65536
set_option maxHeartbeats 4000000
noncomputable section
namespace Cert.Conv
open Idealize.ShloMosaic Idealize.SL.Sem
variable {F : FTy → Type} [FloatOps F]

/-- The two printings of the call have the same bodies. -/
theorem bodies_eq : @Cert.ConvK.defs₀ F _ Cert.ConvK.Gen.facts = @Cert.ConvKIdeal.defs₀ F _ Cert.ConvKIdeal.Gen.facts := by
  unfold Cert.ConvK.defs₀ Cert.ConvKIdeal.defs₀
  refine congrArg (Defs.onTc (nD := ConvKIdeal.nD) (τ := ConvKIdeal.τ) (sig := ConvKIdeal.sig) (Val := Elt F)) (funext fun l => funext fun a => ?_)
  match l, a with
  | 0, (t, s) => rfl
  | ⟨_ + 1, h⟩, _ => exact absurd h (Nat.not_lt.2 (Nat.le_add_left _ _))

/-- They have the same procedures. -/
theorem procs_eq : @Cert.ConvK.defs F _ Cert.ConvK.Gen.facts = @Cert.ConvKIdeal.defs F _ Cert.ConvKIdeal.Gen.facts :=
  congrArg (Pipeline.defs Cert.ConvKIdeal.pcfgs) bodies_eq

/-- So the frame of the one is the frame of the other: the arguments end unchanged, every counter ends at zero. -/
theorem frame_same : Cert.quiescent_ConvK (hConvK := Cert.ConvK.Gen.facts) := fun m ρ _ => by
  rw [procs_eq]
  exact frame_all (F := Bits) m ρ
end Cert.Conv
-- ==== Proof.ConvPay.lean ====
module

public import proofs.«01_k».proof.Proof.ConvFinal
public import Idealize.ShloMosaic.Lib.IdealHost

@[expose] public section

/-! The tiles of the convolution's backward body over the extended reals, entry by entry, and what its blocks add up
to: the gradients of the two gated operands, of the taps and of the bias, for one block of 128 columns. -/

set_option maxRecDepth 16384
set_option maxHeartbeats 4000000

noncomputable section

namespace Cert.Conv

open Cert.ConvKIdeal Cert.ConvKIdeal.Gen
open Idealize.ShloMosaic Idealize.ShloMosaic.TcCoe

/-! ## Tiles -/

theorem accStep_apply (acc : Vec Ideal S1x8x128 .f32) (p : FVec Ideal S128x128 .f32) (l : Fin 8) (c : Fin 128) :
    accStep acc p (ix3 0 l c) = acc (ix3 0 l c) + ∑ q : Fin 16, p (ix2 ⟨q.val * 8 + l.val, by omega⟩ c) := by
  pointwise [accStep]

theorem biasTile_apply (acc : Vec Ideal S8x128 .f32) (p : FVec Ideal S128x128 .f32) (l : Fin 8) (c : Fin 128) :
    biasTile p acc (ix2 l c) = acc (ix2 l c) + ∑ q : Fin 16, p (ix2 ⟨q.val * 8 + l.val, by omega⟩ c) := by
  pointwise [biasTile]

theorem pay1_apply (p : FVec Ideal S8x128 .f32) (c : Fin 128) :
    k0_pay1 p (ix2 0 c) = ∑ l : Fin 8, p (ix2 l c) := by
  pointwise [k0_pay1]

theorem pay68_apply (p : FVec Ideal S1x8x128 .f32) (c : Fin 128) :
    k0_pay68 p (ix2 0 c) = ∑ l : Fin 8, p (ix3 0 l c) := by
  pointwise [k0_pay68]

theorem pay66_apply (a g : FVec Ideal S128x128 .f32) (r c : Fin 128) :
    k0_pay66 a g (ix2 r c) = a (ix2 r c) * Ideal.logistic (g (ix2 r c)) := by
  pointwise [k0_pay66]

theorem pay67_apply (a : FVec Ideal S128x128 .f32) (r c : Fin 128) : k0_pay67 a (ix2 r c) = a (ix2 r c) := by
  pointwise [k0_pay67]

theorem pay62_apply (r : Fin 32) (c : Fin 128) : k0_pay62 (F := Ideal) (ix2 r c) = 0 := by pointwise [k0_pay62]
theorem pay63_apply (r : Fin 32) (c : Fin 128) : k0_pay63 (F := Ideal) (ix2 r c) = 0 := by pointwise [k0_pay63]
theorem pay64_apply (r : Fin 32) (l : Fin 8) (c : Fin 128) : k0_pay64 (F := Ideal) (ix3 r l c) = 0 := by pointwise [k0_pay64]
theorem pay65_apply (r : Fin 8) (c : Fin 128) : k0_pay65 (F := Ideal) (ix2 r c) = 0 := by pointwise [k0_pay65]
theorem pay99_apply (c : Fin 128) : k0_pay99 (F := Ideal) (ix2 0 c) = 0 := by pointwise [k0_pay99]

theorem duStep_apply (dwin : Vec Ideal S160x128 .f32) (w : Vec Ideal S32x128 .f32) (acc : FVec Ideal S128x128 .f32) (s : ℕ) (r c : Fin 128) :
    duStep dwin w acc s (ix2 r c) = acc (ix2 r c) + rowAt w (30 - s) (ix2 0 c) * sl dwin s (ix2 r c) := by
  pointwise [duStep]

theorem daTile_apply (d g : FVec Ideal S128x128 .f32) (r c : Fin 128) :
    daTile d g (ix2 r c) = d (ix2 r c) * Ideal.logistic (g (ix2 r c)) := by
  pointwise [daTile]

theorem dgTile_apply (d a g : FVec Ideal S128x128 .f32) (r c : Fin 128) :
    dgTile d a g (ix2 r c) = d (ix2 r c) * a (ix2 r c) * Ideal.logistic (g (ix2 r c)) * (1 - Ideal.logistic (g (ix2 r c))) := by
  pointwise [dgTile]

theorem mulf_at (d g : FVec Ideal S128x128 .f32) (r c : Fin 128) : mulf d g (ix2 r c) = d (ix2 r c) * g (ix2 r c) := by
  pointwise

/-! ## Sums -/

/-- The taps in the kernel's order add up to the taps in order. -/
theorem sum_tap (f : ℕ → EReal) : (taps.map f).sum = ∑ s ∈ Finset.range 31, f s := by
  have h : taps.Perm (List.range 31) := by decide
  rw [(h.map f).sum_eq]; rfl

/-- A sum taken block by block. -/
theorem sum_blocks (f : ℕ → EReal) (b n : ℕ) :
    ∑ i ∈ Finset.range (b * n), f i = ∑ k ∈ Finset.range n, ∑ i ∈ Finset.range b, f (b * k + i) := by
  induction n with
  | zero => rfl
  | succ n ih => rw [Nat.mul_succ, Finset.sum_range_add, ih, Finset.sum_range_succ]

/-- 2176 rows, summed as the kernel does: eight partial sums, each over the trips and over the groups of eight rows. -/
theorem sum_rows (f : ℕ → EReal) :
    ∑ l : Fin 8, ∑ n ∈ Finset.range 17, ∑ q : Fin 16, f (128 * n + (q.val * 8 + l.val)) = ∑ r ∈ Finset.range 2176, f r := by
  rw [Finset.sum_comm, show (2176 : ℕ) = 128 * 17 from rfl, sum_blocks]
  refine Finset.sum_congr rfl fun n _ => ?_
  rw [Finset.sum_comm, show (128 : ℕ) = 8 * 16 from rfl, sum_blocks (fun i => f (8 * 16 * n + i)), Finset.sum_range]
  refine Finset.sum_congr rfl fun q _ => ?_
  rw [Finset.sum_range]
  exact Finset.sum_congr rfl fun l _ => by rw [Nat.mul_comm q.val 8]

/-! ## The blocks -/

section Blocks

variable (x1 x2 x3 : Vec Ideal S2176x128 .f32) (w : Vec Ideal S32x128 .f32)

/-- An operand's entry at a row counted past its last row from the first one again. -/
abbrev at0 (x : Vec Ideal S2176x128 .f32) (q : ℕ) (c : Fin 128) : EReal := x (ix2 ⟨q % 2176, Nat.mod_lt _ (by decide)⟩ c)

theorem at0_congr (x : Vec Ideal S2176x128 .f32) {q : ℕ} (r : Fin 2176) (c : Fin 128) (h : q % 2176 = r.val) :
    at0 x q c = x (ix2 r c) := congrArg (fun z => x (ix2 z c)) (Fin.ext h)

theorem rowsAt_apply (x : Vec Ideal S2176x128 .f32) (n : ℕ) (r c : Fin 128) : rowsAt x n (ix2 r c) = at0 x (128 * n + r.val) c := rfl

theorem uFill_apply (q : Fin 2208) (c : Fin 128) :
    uFill x1 x2 (ix2 q c) = if q.val < 32 then 0 else at0 x1 (q.val - 32) c * Ideal.logistic (at0 x2 (q.val - 32) c) := by
  show (if q.val < 32 then k0_pay62 (F := Ideal) (ix2 ⟨q.val % 32, _⟩ c) else k0_pay66 (rowsAt x1 ((q.val - 32) / 128)) (rowsAt x2 ((q.val - 32) / 128)) (ix2 ⟨(q.val - 32) % 128, _⟩ c)) = _
  rw [pay62_apply, pay66_apply, rowsAt_apply, rowsAt_apply]
  have h : 128 * ((q.val - 32) / 128) + (q.val - 32) % 128 = q.val - 32 := Nat.div_add_mod _ _
  simp only [h]

theorem dFill_apply (q : Fin 2208) (c : Fin 128) :
    dFill x3 (ix2 q c) = if q.val < 2176 then at0 x3 q.val c else 0 := by
  show (if q.val < 2176 then k0_pay67 (rowsAt x3 (q.val / 128)) (ix2 ⟨(q.val - 0) % 128, _⟩ c) else k0_pay63 (F := Ideal) (ix2 ⟨(q.val - 2176) % 32, _⟩ c)) = _
  rw [pay63_apply, pay67_apply, rowsAt_apply]
  have h : 128 * (q.val / 128) + (q.val - 0) % 128 = q.val := by omega
  simp only [h]

theorem duFold (dwin : Vec Ideal S160x128 .f32) (r c : Fin 128) : ∀ (L : List ℕ) (a : FVec Ideal S128x128 .f32),
    (L.foldl (duStep dwin w) a) (ix2 r c) = a (ix2 r c) + (L.map fun s => rowAt w (30 - s) (ix2 0 c) * sl dwin s (ix2 r c)).sum
  | [], a => by rw [List.map_nil, List.sum_nil, add_zero]; rfl
  | s :: L, a => by rw [List.foldl_cons, duFold dwin r c L, duStep_apply, List.map_cons, List.sum_cons, add_assoc]

theorem zero_at (r c : Fin 128) : (broadcast S128x128 (Scalar.ofBits (F := Ideal) .f32 0x00000000#32)) (ix2 r c) = 0 := by pointwise

/-- The activation's gradient: row `q` gathers the cotangent's rows from `q` on, each by its tap. -/
def blkDu (q : ℕ) (c : Fin 128) : EReal :=
  ∑ s ∈ Finset.range 31, w (ix2 ⟨(30 - s) % 32, Nat.mod_lt _ (by decide)⟩ c) * (if q + s < 2176 then at0 x3 (q + s) c else 0)

theorem duTile_apply (k : ℕ) (hk : k < 17) (r c : Fin 128) :
    duTile (winAt (dFill x3) k) w (ix2 r c) = blkDu x3 w (128 * k + r.val) c := by
  unfold duTile blkDu
  rw [duFold, zero_at, zero_add, sum_tap]
  refine Finset.sum_congr rfl fun s hs => ?_
  have hs' := Finset.mem_range.1 hs
  have hr := r.isLt
  show w (ix2 ⟨(30 - s + 0) % 32, _⟩ c) * dFill x3 (ix2 ⟨(128 * k + (s + r.val) % 160) % 2208, _⟩ c) = _
  rw [dFill_apply]
  have e : (128 * k + (s + r.val) % 160) % 2208 = 128 * k + r.val + s := by omega
  simp only [e, Nat.add_zero]

theorem daOut_apply (q : Fin 2176) (c : Fin 128) :
    daOut x2 x3 w (ix2 q c) = blkDu x3 w q.val c * Ideal.logistic (x2 (ix2 q c)) := by
  have hq := q.isLt
  show daTile (duTile (winAt (dFill x3) (q.val / 128)) w) (rowsAt x2 (q.val / 128)) (ix2 ⟨(q.val - 0) % 128, _⟩ c) = _
  rw [daTile_apply, duTile_apply _ _ _ (by omega), rowsAt_apply, at0_congr x2 q c (by show (128 * (q.val / 128) + (q.val - 0) % 128) % 2176 = q.val; omega)]
  have h : 128 * (q.val / 128) + (q.val - 0) % 128 = q.val := by omega
  simp only [h]

theorem dgOut_apply (q : Fin 2176) (c : Fin 128) :
    dgOut x1 x2 x3 w (ix2 q c)
      = blkDu x3 w q.val c * x1 (ix2 q c) * Ideal.logistic (x2 (ix2 q c)) * (1 - Ideal.logistic (x2 (ix2 q c))) := by
  have hq := q.isLt
  show dgTile (duTile (winAt (dFill x3) (q.val / 128)) w) (rowsAt x1 (q.val / 128)) (rowsAt x2 (q.val / 128)) (ix2 ⟨(q.val - 0) % 128, _⟩ c) = _
  rw [dgTile_apply, duTile_apply _ _ _ (by omega), rowsAt_apply, rowsAt_apply,
    at0_congr x2 q c (by show (128 * (q.val / 128) + (q.val - 0) % 128) % 2176 = q.val; omega),
    at0_congr x1 q c (by show (128 * (q.val / 128) + (q.val - 0) % 128) % 2176 = q.val; omega)]
  have h : 128 * (q.val / 128) + (q.val - 0) % 128 = q.val := by omega
  simp only [h]

/-- The taps' accumulator after `k` trips. -/
theorem wAcc_apply (u : Vec Ideal S2208x128 .f32) (j : Fin 32) (hj : j.val < 31) (l : Fin 8) (c : Fin 128) : ∀ k ≤ 17,
    wAcc x3 u k (ix3 j l c) = ∑ n ∈ Finset.range k, ∑ q : Fin 16,
      at0 x3 (128 * n + (q.val * 8 + l.val)) c * u (ix2 ⟨(128 * n + (q.val * 8 + l.val) + j.val + 2) % 2208, Nat.mod_lt _ (by decide)⟩ c)
  | 0, _ => by rw [Finset.sum_range_zero]; exact pay64_apply j l c
  | k + 1, hk => by
    rw [Finset.sum_range_succ, ← wAcc_apply u j hj l c k (by omega)]
    show (if j.val < 31 then tapTile (rowsAt x3 k) (winAt u k) (planeAt (wAcc x3 u k) j.val) j.val (ix3 0 l c) else _) = _
    rw [if_pos hj]
    unfold tapTile
    rw [accStep_apply]
    refine congrArg₂ (· + ·) ?_ (Finset.sum_congr rfl fun q _ => ?_)
    · show wAcc x3 u k (ix3 ⟨(j.val + 0) % 32, _⟩ l c) = _
      exact congrArg (fun z => wAcc x3 u k (ix3 z l c)) (Fin.ext (by show (j.val + 0) % 32 = j.val; omega))
    · rw [mulf_at]
      refine congrArg₂ (· * ·) rfl ?_
      have hq := q.isLt
      have hl := l.isLt
      show u (ix2 ⟨(128 * k + (j.val + 2 + (q.val * 8 + l.val)) % 160) % 2208, _⟩ c) = _
      exact congrArg (fun z => u (ix2 z c)) (Fin.ext (by
        show (128 * k + (j.val + 2 + (q.val * 8 + l.val)) % 160) % 2208 = (128 * k + (q.val * 8 + l.val) + j.val + 2) % 2208; omega))

theorem bAcc_apply (l : Fin 8) (c : Fin 128) : ∀ k,
    bAcc x3 k (ix2 l c) = ∑ n ∈ Finset.range k, ∑ q : Fin 16, at0 x3 (128 * n + (q.val * 8 + l.val)) c
  | 0 => by rw [Finset.sum_range_zero]; exact pay65_apply l c
  | k + 1 => by
    rw [Finset.sum_range_succ, ← bAcc_apply l c k]
    show biasTile (rowsAt x3 k) (bAcc x3 k) (ix2 l c) = _
    rw [biasTile_apply]
    rfl

theorem dbOut_apply (c : Fin 128) : dbOut x3 (ix2 0 c) = ∑ r ∈ Finset.range 2176, at0 x3 r c := by
  unfold dbOut
  rw [pay1_apply, ← sum_rows]
  exact Finset.sum_congr rfl fun l _ => bAcc_apply x3 l c 17

/-- A tap's gradient: the cotangent's rows against the activation's rows that the tap brought to them. -/
theorem dwOut_apply (j : Fin 32) (hj : j.val < 31) (c : Fin 128) : dwOut x1 x2 x3 (ix2 j c)
    = ∑ r ∈ Finset.range 2176, at0 x3 r c * (if r + j.val < 30 then 0 else at0 x1 (r + j.val - 30) c * Ideal.logistic (at0 x2 (r + j.val - 30) c)) := by
  show (if j.val = 31 then _ else rowTile (planeAt (wAcc x3 (uFill x1 x2) 17) j.val) (ix2 0 c)) = _
  rw [if_neg (by omega)]
  unfold rowTile
  rw [pay68_apply]
  refine Eq.trans ?_ ((sum_rows fun r => at0 x3 r c * uFill x1 x2 (ix2 ⟨(r + j.val + 2) % 2208, Nat.mod_lt _ (by decide)⟩ c)).trans
    (Finset.sum_congr rfl fun r hr => ?_))
  · refine Finset.sum_congr rfl fun l _ => ?_
    rw [← wAcc_apply x3 (uFill x1 x2) j hj l c 17 (le_refl _)]
    exact congrArg (fun z => wAcc x3 (uFill x1 x2) 17 (ix3 z l c)) (Fin.ext (by show (j.val + 0) % 32 = j.val; omega))
  · have hr' := Finset.mem_range.1 hr
    rw [uFill_apply]
    have e : (r + j.val + 2) % 2208 = r + j.val + 2 := by omega
    have e2 : r + j.val + 2 - 32 = r + j.val - 30 := by omega
    simp only [e, e2]
    refine congrArg _ ?_
    by_cases h : r + j.val < 30
    · rw [if_pos h, if_pos (by omega)]
    · rw [if_neg h, if_neg (by omega)]

theorem dwOut_last (j : Fin 32) (hj : ¬ j.val < 31) (c : Fin 128) : dwOut x1 x2 x3 (ix2 j c) = 0 := by
  have := j.isLt
  show (if j.val = 31 then k0_pay99 (F := Ideal) (ix2 0 c) else _) = _
  rw [if_pos (by omega), pay99_apply]

end Blocks

end Cert.Conv

end
-- ==== Proof.ConvIdeal.lean ====
module

public import proofs.«01_k».proof.Proof.ConvPay
public import proofs.«01_k».proof.Proof.ConvBody

@[expose] public section

/-! The four results of the convolution's backward call over the extended reals, as functions of its three arguments:
the gradients of the two gated operands, of the taps and of the bias. -/

set_option maxRecDepth 16384
set_option maxHeartbeats 4000000

noncomputable section

namespace Cert.Conv

open Cert.ConvKIdeal Cert.ConvKIdeal.Gen
open Idealize.ShloMosaic Idealize.ShloMosaic.TcCoe

/-! ## The mathematics -/

section Forms

variable (p : Vec Ideal S2176x7168 .f32) (dy : Vec Ideal S2176x1024 .f32) (w : Vec Ideal S1x31x1024 .f32)

/-- The value that the gate multiplies. -/
abbrev val (q : Fin 2176) (j : Fin 1024) : EReal := p (ix2 q ⟨j.val, by have := j.isLt; omega⟩)

/-- The gate: the logistic function of its logit. -/
abbrev sg (q : Fin 2176) (j : Fin 1024) : EReal := Ideal.logistic (p (ix2 q ⟨1024 + j.val, by have := j.isLt; omega⟩))

/-- The gated activation's row `q`. -/
abbrev act (q : ℕ) (j : Fin 1024) : EReal := val p ⟨q % 2176, Nat.mod_lt _ (by decide)⟩ j * sg p ⟨q % 2176, Nat.mod_lt _ (by decide)⟩ j

/-- The cotangent's row `q`. -/
abbrev cot (q : ℕ) (j : Fin 1024) : EReal := dy (ix2 ⟨q % 2176, Nat.mod_lt _ (by decide)⟩ j)

/-- The gated activation's gradient: row `q` gathers the cotangent's rows `q … q + 30`, row `q + s` by tap `30 - s`. -/
def dAct (q : ℕ) (j : Fin 1024) : EReal :=
  ∑ s ∈ Finset.range 31, w (ix3 0 ⟨(30 - s) % 31, Nat.mod_lt _ (by decide)⟩ j) * (if q + s < 2176 then cot dy (q + s) j else 0)

/-- The gradient of the gated value. -/
def dVal : Vec Ideal S2176x1024 .bf16 := fun i => dAct dy w (i 0).val (i 1) * sg p (i 0) (i 1)

/-- The gradient of the gate's logit. -/
def dLog : Vec Ideal S2176x1024 .bf16 := fun i =>
  dAct dy w (i 0).val (i 1) * val p (i 0) (i 1) * sg p (i 0) (i 1) * (1 - sg p (i 0) (i 1))

/-- The gradient of tap `t`: the cotangent's row `r` meets the activation's row `r + t - 30`. -/
def dTap (t : ℕ) (j : Fin 1024) : EReal :=
  ∑ r ∈ Finset.range 2176, cot dy r j * (if r + t < 30 then 0 else act p (r + t - 30) j)

/-- The gradient of the taps, and a last row of zero. -/
def dTaps : Vec Ideal S32x1024 .f32 := fun i => if (i 0).val < 31 then dTap p dy (i 0).val (i 1) else 0

/-- The gradient of the bias. -/
def dBias : Vec Ideal S1x1024 .f32 := fun i => ∑ r ∈ Finset.range 2176, cot dy r (i 1)

end Forms

/-! ## The kernel's results -/

section Kernel

variable (m : (ℓ : Loc nD τ sig) → Buf (Elt Ideal) ℓ) (ρ : Dev nD → PrngReg)

/-- Where each window's block lies. -/
theorem index_facts : ∀ t : Fin grid0.N,
    (win0_0.index t 0 = 0 ∧ win0_0.index t 1 = t.val)
    ∧ (win0_1.index t 0 = 0 ∧ win0_1.index t 1 = 8 + t.val)
    ∧ (win0_2.index t 0 = 0 ∧ win0_2.index t 1 = t.val)
    ∧ (win0_3.index t 0 = 0 ∧ win0_3.index t 1 = t.val)
    ∧ (win0_4.index t 0 = 0 ∧ win0_4.index t 1 = t.val)
    ∧ (win0_5.index t 0 = 0 ∧ win0_5.index t 1 = t.val)
    ∧ (win0_6.index t 0 = 0 ∧ win0_6.index t 1 = t.val)
    ∧ (win0_7.index t 0 = 0 ∧ win0_7.index t 1 = t.val) := by decide +kernel

/-- Column `j` of the column block point `t` works on. -/
abbrev col (t : Fin cfg0.N) (j : Fin 128) : Fin 1024 :=
  ⟨t.val * 128 + j.val, by have := j.isLt; have := t.isLt; have hN : cfg0.N = 8 := N_0; omega⟩

/-- The taps as the host hands them to the call: one row of zero below them. -/
theorem V_main_v1 (c : Dev nD) : V m c main_v1 = pad S32x1024 ![0, 0] ![1, 0] ![0, 0]
    (shapeCast S31x1024 (m (c.tc.loc main_arg2)) shapeCasts_S1x31x1024_S31x1024)
    (sitofp (F := Ideal) .f32 (constantI S_ 32 0#32)) pads_S31x1024_S32x1024_010_000 h_S_ := by
  unfold V
  simp only [hostOps0, hostOps0_1, List.flatten_cons, List.flatten_nil, List.append_nil, List.cons_append, List.nil_append,
    StableHlo.after_cons, StableHlo.after_nil]
  rfl

/-- A row of the padded taps is a row of the taps. -/
theorem pad_taps (x : Vec Ideal S1x31x1024 .f32) (z : Vec Ideal S_ .f32) (i : Fin 31) (j : Fin 1024) :
    (pad S32x1024 ![0, 0] ![1, 0] ![0, 0] (shapeCast S31x1024 x shapeCasts_S1x31x1024_S31x1024) z pads_S31x1024_S32x1024_010_000 h_S_)
      (ix2 ⟨i.val, by have := i.isLt; omega⟩ j) = x (ix3 0 i j) := by
  have hi := i.isLt
  have hj := j.isLt
  pointwise

theorem taps_apply (c : Dev nD) (i : Fin 31) (r : Fin 32) (h : r.val = i.val) (j : Fin 1024) :
    V m c main_v1 (ix2 r j) = m (c.tc.loc main_arg2) (ix3 0 i j) := by
  obtain rfl : r = ⟨i.val, Nat.lt_of_lt_of_le i.isLt (by decide)⟩ := Fin.ext h
  exact (congrFun (V_main_v1 m c) _).trans (pad_taps _ _ i j)

/-- Input window 0's block at a point. -/
theorem iblk0_apply (c : Dev nD) (t : Fin cfg0.N) (r : Fin 2176) (j : Fin 128) :
    (iblk m c 0 t : Vec Ideal S2176x128 .f32) (ix2 r j) = val (m (c.tc.loc main_arg0)) r (col t j) := by
  obtain ⟨⟨h0, h1⟩, -⟩ := index_facts t
  unfold iblk
  rw [View.read_apply]
  show V m c main_arg0 _ = _
  rw [V_main_arg0]
  refine congrArg (m (c.tc.loc main_arg0)) (funext fun a => Fin.ext ?_)
  match a with
  | ⟨0, _⟩ => show win0_0.index t 0 * 2176 + 1 * r.val = r.val; rw [h0]; omega
  | ⟨1, _⟩ => show win0_0.index t 1 * 128 + 1 * j.val = t.val * 128 + j.val; rw [h1]; omega

/-- Input window 1's block at a point. -/
theorem iblk1_apply (c : Dev nD) (t : Fin cfg0.N) (r : Fin 2176) (j : Fin 128) :
    (iblk m c 1 t : Vec Ideal S2176x128 .f32) (ix2 r j) = m (c.tc.loc main_arg0) (ix2 r ⟨1024 + (col t j).val, by have := (col t j).isLt; omega⟩) := by
  obtain ⟨-, ⟨h0, h1⟩, -⟩ := index_facts t
  unfold iblk
  rw [View.read_apply]
  show V m c main_arg0 _ = _
  rw [V_main_arg0]
  refine congrArg (m (c.tc.loc main_arg0)) (funext fun a => Fin.ext ?_)
  match a with
  | ⟨0, _⟩ => show win0_1.index t 0 * 2176 + 1 * r.val = r.val; rw [h0]; omega
  | ⟨1, _⟩ => show win0_1.index t 1 * 128 + 1 * j.val = 1024 + (t.val * 128 + j.val); rw [h1]; omega

/-- Input window 2's block at a point. -/
theorem iblk2_apply (c : Dev nD) (t : Fin cfg0.N) (r : Fin 2176) (j : Fin 128) :
    (iblk m c 2 t : Vec Ideal S2176x128 .f32) (ix2 r j) = m (c.tc.loc main_arg1) (ix2 r (col t j)) := by
  obtain ⟨-, -, ⟨h0, h1⟩, -⟩ := index_facts t
  unfold iblk
  rw [View.read_apply]
  show V m c main_arg1 _ = _
  rw [V_main_arg1]
  refine congrArg (m (c.tc.loc main_arg1)) (funext fun a => Fin.ext ?_)
  match a with
  | ⟨0, _⟩ => show win0_2.index t 0 * 2176 + 1 * r.val = r.val; rw [h0]; omega
  | ⟨1, _⟩ => show win0_2.index t 1 * 128 + 1 * j.val = t.val * 128 + j.val; rw [h1]; omega

/-- Input window 3's block at a point. -/
theorem iblk3_apply (c : Dev nD) (t : Fin cfg0.N) (r : Fin 32) (j : Fin 128) :
    (iblk m c 3 t : Vec Ideal S32x128 .f32) (ix2 r j) = V m c main_v1 (ix2 r (col t j)) := by
  obtain ⟨-, -, -, ⟨h0, h1⟩, -⟩ := index_facts t
  unfold iblk
  rw [View.read_apply]
  show V m c main_v1 _ = _
  skip
  refine congrArg (V m c main_v1) (funext fun a => Fin.ext ?_)
  match a with
  | ⟨0, _⟩ => show win0_3.index t 0 * 32 + 1 * r.val = r.val; rw [h0]; omega
  | ⟨1, _⟩ => show win0_3.index t 1 * 128 + 1 * j.val = t.val * 128 + j.val; rw [h1]; omega

/-- A block's gradient of the activation is the whole's at the block's columns. -/
theorem blkDu_eq (c : Dev nD) (t : Fin cfg0.N) (q : ℕ) (j : Fin 128) :
    blkDu (iblk m c 2 t) (iblk m c 3 t) q j = dAct (m (c.tc.loc main_arg1)) (m (c.tc.loc main_arg2)) q (col t j) := by
  unfold blkDu dAct
  refine Finset.sum_congr rfl fun s hs => ?_
  have hs' := Finset.mem_range.1 hs
  refine congrArg₂ (· * ·) ?_ ?_
  · exact (iblk3_apply m c t _ j).trans (taps_apply m c _ _ (by show (30 - s) % 32 = (30 - s) % 31; omega) (col t j))
  · split
    · exact iblk2_apply m c t _ j
    · rfl

/-- Result 0 as a function of the launch contents. -/
abbrev res4 (c : Dev nD) : Buf (Elt Ideal) ((c : Thread nD τ).loc main_v2_0) := dVal (m (c.tc.loc main_arg0)) (m (c.tc.loc main_arg1)) (m (c.tc.loc main_arg2))

/-- What a grid point leaves in result 0's buffer. -/
theorem out_apply4 (c : Dev nD) (t : Fin cfg0.N) (y : S2176x128.Idx) :
    daOut (iblk m c 1 t) (iblk m c 2 t) (iblk m c 3 t) y = res4 m c (ix2 (y 0) (col t (y 1))) := by
  obtain ⟨r, j, rfl⟩ : ∃ r j, y = (ix2 r j : S2176x128.Idx) := ⟨y 0, y 1, by funext a; fin_cases a <;> rfl⟩
  rw [daOut_apply, blkDu_eq, iblk1_apply]
  rfl

/-- What a point writes back through window 4. -/
theorem flushed4_eq (c : Dev nD) (t : Fin cfg0.N) :
    (dats m 0 c).flushed 4 t = ((cfg0.win 4).blk t).view.read (Elt Ideal) (res4 m c) := by
  obtain ⟨-, -, -, -, ⟨h0, h1⟩, -⟩ := index_facts t
  show (cfg0.win 4).cut (grid0.coords t) ((dats m 0 c).after 4 t) = _
  rw [after0_4]
  funext y
  rw [View.read_apply]
  refine (out_apply4 m c t y).trans (congrArg (res4 m c) ?_)
  funext a
  apply Fin.ext
  match a with
  | ⟨0, _⟩ => show (y 0).val = win0_4.index t 0 * 2176 + 1 * (y 0).val; rw [h0]; omega
  | ⟨1, _⟩ => show t.val * 128 + (y 1).val = win0_4.index t 1 * 128 + 1 * (y 1).val; rw [h1]; omega

/-- The blocks cover result 0. -/
theorem cover4 (i : S2176x1024.Idx) : ∃ t : Fin cfg0.N, (cfg0.win 4).flush t = true ∧ i ∈ ((cfg0.win 4).blk t).view.set := by
  have i0 : (i 0).val < 2176 := (i 0).isLt
  have i1 : (i 1).val < 1024 := (i 1).isLt
  have hN : cfg0.N = 8 := N_0
  obtain ⟨t, ht⟩ : ∃ t : Fin cfg0.N, t.val = (i 1).val / 128 := ⟨⟨_, by omega⟩, rfl⟩
  obtain ⟨-, -, -, -, ⟨h0, h1⟩, -⟩ := index_facts t
  refine ⟨t, flush0_4 t, ?_⟩
  show i ∈ ((View.whole main_v2_0).slice (win0_4.rect t)).set
  rw [View.set_slice_whole, Rect.mem_set_unit]
  intro a
  match a with
  | ⟨0, _⟩ => show win0_4.index t 0 * 2176 ≤ (i 0).val ∧ (i 0).val < win0_4.index t 0 * 2176 + 2176; rw [h0]; omega
  | ⟨1, _⟩ => show win0_4.index t 1 * 128 ≤ (i 1).val ∧ (i 1).val < win0_4.index t 1 * 128 + 128; rw [h1]; omega

/-- Result 0 after the run. -/
theorem final4_arr (c : Dev nD) : (dats m 0 c).arrAt 4 cfg0.N = res4 m c :=
  (dats m 0 c).arrAt_eq_of_cover 4 (res4 m c) (fun t _ => flushed4_eq m c t) cover4

/-- Result 1 as a function of the launch contents. -/
abbrev res5 (c : Dev nD) : Buf (Elt Ideal) ((c : Thread nD τ).loc main_v2_1) := dLog (m (c.tc.loc main_arg0)) (m (c.tc.loc main_arg1)) (m (c.tc.loc main_arg2))

/-- What a grid point leaves in result 1's buffer. -/
theorem out_apply5 (c : Dev nD) (t : Fin cfg0.N) (y : S2176x128.Idx) :
    dgOut (iblk m c 0 t) (iblk m c 1 t) (iblk m c 2 t) (iblk m c 3 t) y = res5 m c (ix2 (y 0) (col t (y 1))) := by
  obtain ⟨r, j, rfl⟩ : ∃ r j, y = (ix2 r j : S2176x128.Idx) := ⟨y 0, y 1, by funext a; fin_cases a <;> rfl⟩
  rw [dgOut_apply, blkDu_eq, iblk1_apply, iblk0_apply]
  rfl

/-- What a point writes back through window 5. -/
theorem flushed5_eq (c : Dev nD) (t : Fin cfg0.N) :
    (dats m 0 c).flushed 5 t = ((cfg0.win 5).blk t).view.read (Elt Ideal) (res5 m c) := by
  obtain ⟨-, -, -, -, -, ⟨h0, h1⟩, -⟩ := index_facts t
  show (cfg0.win 5).cut (grid0.coords t) ((dats m 0 c).after 5 t) = _
  rw [after0_5]
  funext y
  rw [View.read_apply]
  refine (out_apply5 m c t y).trans (congrArg (res5 m c) ?_)
  funext a
  apply Fin.ext
  match a with
  | ⟨0, _⟩ => show (y 0).val = win0_5.index t 0 * 2176 + 1 * (y 0).val; rw [h0]; omega
  | ⟨1, _⟩ => show t.val * 128 + (y 1).val = win0_5.index t 1 * 128 + 1 * (y 1).val; rw [h1]; omega

/-- The blocks cover result 1. -/
theorem cover5 (i : S2176x1024.Idx) : ∃ t : Fin cfg0.N, (cfg0.win 5).flush t = true ∧ i ∈ ((cfg0.win 5).blk t).view.set := by
  have i0 : (i 0).val < 2176 := (i 0).isLt
  have i1 : (i 1).val < 1024 := (i 1).isLt
  have hN : cfg0.N = 8 := N_0
  obtain ⟨t, ht⟩ : ∃ t : Fin cfg0.N, t.val = (i 1).val / 128 := ⟨⟨_, by omega⟩, rfl⟩
  obtain ⟨-, -, -, -, -, ⟨h0, h1⟩, -⟩ := index_facts t
  refine ⟨t, flush0_5 t, ?_⟩
  show i ∈ ((View.whole main_v2_1).slice (win0_5.rect t)).set
  rw [View.set_slice_whole, Rect.mem_set_unit]
  intro a
  match a with
  | ⟨0, _⟩ => show win0_5.index t 0 * 2176 ≤ (i 0).val ∧ (i 0).val < win0_5.index t 0 * 2176 + 2176; rw [h0]; omega
  | ⟨1, _⟩ => show win0_5.index t 1 * 128 ≤ (i 1).val ∧ (i 1).val < win0_5.index t 1 * 128 + 128; rw [h1]; omega

/-- Result 1 after the run. -/
theorem final5_arr (c : Dev nD) : (dats m 0 c).arrAt 5 cfg0.N = res5 m c :=
  (dats m 0 c).arrAt_eq_of_cover 5 (res5 m c) (fun t _ => flushed5_eq m c t) cover5

/-- Result 2 as a function of the launch contents. -/
abbrev res6 (c : Dev nD) : Buf (Elt Ideal) ((c : Thread nD τ).loc main_v2_2) := dTaps (m (c.tc.loc main_arg0)) (m (c.tc.loc main_arg1))

/-- What a grid point leaves in result 2's buffer. -/
theorem out_apply6 (c : Dev nD) (t : Fin cfg0.N) (y : S32x128.Idx) :
    dwOut (iblk m c 0 t) (iblk m c 1 t) (iblk m c 2 t) y = res6 m c (ix2 (y 0) (col t (y 1))) := by
  obtain ⟨r, j, rfl⟩ : ∃ r j, y = (ix2 r j : S32x128.Idx) := ⟨y 0, y 1, by funext a; fin_cases a <;> rfl⟩
  show _ = if r.val < 31 then ∑ q ∈ Finset.range 2176, cot (m (c.tc.loc main_arg1)) q (col t j) * (if q + r.val < 30 then 0 else act (m (c.tc.loc main_arg0)) (q + r.val - 30) (col t j)) else 0
  by_cases hr : r.val < 31
  · rw [if_pos hr, dwOut_apply _ _ _ _ hr]
    refine Finset.sum_congr rfl fun q _ => congrArg₂ (· * ·) (iblk2_apply m c t _ j) ?_
    split
    · rfl
    · exact congrArg₂ (fun a b => a * Ideal.logistic b) (iblk0_apply m c t _ j) (iblk1_apply m c t _ j)
  · rw [if_neg hr, dwOut_last _ _ _ _ hr]

/-- What a point writes back through window 6. -/
theorem flushed6_eq (c : Dev nD) (t : Fin cfg0.N) :
    (dats m 0 c).flushed 6 t = ((cfg0.win 6).blk t).view.read (Elt Ideal) (res6 m c) := by
  obtain ⟨-, -, -, -, -, -, ⟨h0, h1⟩, -⟩ := index_facts t
  show (cfg0.win 6).cut (grid0.coords t) ((dats m 0 c).after 6 t) = _
  rw [after0_6]
  funext y
  rw [View.read_apply]
  refine (out_apply6 m c t y).trans (congrArg (res6 m c) ?_)
  funext a
  apply Fin.ext
  match a with
  | ⟨0, _⟩ => show (y 0).val = win0_6.index t 0 * 32 + 1 * (y 0).val; rw [h0]; omega
  | ⟨1, _⟩ => show t.val * 128 + (y 1).val = win0_6.index t 1 * 128 + 1 * (y 1).val; rw [h1]; omega

/-- The blocks cover result 2. -/
theorem cover6 (i : S32x1024.Idx) : ∃ t : Fin cfg0.N, (cfg0.win 6).flush t = true ∧ i ∈ ((cfg0.win 6).blk t).view.set := by
  have i0 : (i 0).val < 32 := (i 0).isLt
  have i1 : (i 1).val < 1024 := (i 1).isLt
  have hN : cfg0.N = 8 := N_0
  obtain ⟨t, ht⟩ : ∃ t : Fin cfg0.N, t.val = (i 1).val / 128 := ⟨⟨_, by omega⟩, rfl⟩
  obtain ⟨-, -, -, -, -, -, ⟨h0, h1⟩, -⟩ := index_facts t
  refine ⟨t, flush0_6 t, ?_⟩
  show i ∈ ((View.whole main_v2_2).slice (win0_6.rect t)).set
  rw [View.set_slice_whole, Rect.mem_set_unit]
  intro a
  match a with
  | ⟨0, _⟩ => show win0_6.index t 0 * 32 ≤ (i 0).val ∧ (i 0).val < win0_6.index t 0 * 32 + 32; rw [h0]; omega
  | ⟨1, _⟩ => show win0_6.index t 1 * 128 ≤ (i 1).val ∧ (i 1).val < win0_6.index t 1 * 128 + 128; rw [h1]; omega

/-- Result 2 after the run. -/
theorem final6_arr (c : Dev nD) : (dats m 0 c).arrAt 6 cfg0.N = res6 m c :=
  (dats m 0 c).arrAt_eq_of_cover 6 (res6 m c) (fun t _ => flushed6_eq m c t) cover6

/-- Result 3 as a function of the launch contents. -/
abbrev res7 (c : Dev nD) : Buf (Elt Ideal) ((c : Thread nD τ).loc main_v2_3) := dBias (m (c.tc.loc main_arg1))

/-- What a grid point leaves in result 3's buffer. -/
theorem out_apply7 (c : Dev nD) (t : Fin cfg0.N) (y : S1x128.Idx) :
    dbOut (iblk m c 2 t) y = res7 m c (ix2 (y 0) (col t (y 1))) := by
  obtain ⟨r, j, rfl⟩ : ∃ r j, y = (ix2 r j : S1x128.Idx) := ⟨y 0, y 1, by funext a; fin_cases a <;> rfl⟩
  obtain rfl : r = 0 := Subsingleton.elim _ _
  rw [dbOut_apply]
  exact Finset.sum_congr rfl fun q _ => iblk2_apply m c t _ j

/-- What a point writes back through window 7. -/
theorem flushed7_eq (c : Dev nD) (t : Fin cfg0.N) :
    (dats m 0 c).flushed 7 t = ((cfg0.win 7).blk t).view.read (Elt Ideal) (res7 m c) := by
  obtain ⟨-, -, -, -, -, -, -, ⟨h0, h1⟩⟩ := index_facts t
  show (cfg0.win 7).cut (grid0.coords t) ((dats m 0 c).after 7 t) = _
  rw [after0_7]
  funext y
  rw [View.read_apply]
  refine (out_apply7 m c t y).trans (congrArg (res7 m c) ?_)
  funext a
  apply Fin.ext
  match a with
  | ⟨0, _⟩ => show (y 0).val = win0_7.index t 0 * 1 + 1 * (y 0).val; rw [h0]; omega
  | ⟨1, _⟩ => show t.val * 128 + (y 1).val = win0_7.index t 1 * 128 + 1 * (y 1).val; rw [h1]; omega

/-- The blocks cover result 3. -/
theorem cover7 (i : S1x1024.Idx) : ∃ t : Fin cfg0.N, (cfg0.win 7).flush t = true ∧ i ∈ ((cfg0.win 7).blk t).view.set := by
  have i0 : (i 0).val < 1 := (i 0).isLt
  have i1 : (i 1).val < 1024 := (i 1).isLt
  have hN : cfg0.N = 8 := N_0
  obtain ⟨t, ht⟩ : ∃ t : Fin cfg0.N, t.val = (i 1).val / 128 := ⟨⟨_, by omega⟩, rfl⟩
  obtain ⟨-, -, -, -, -, -, -, ⟨h0, h1⟩⟩ := index_facts t
  refine ⟨t, flush0_7 t, ?_⟩
  show i ∈ ((View.whole main_v2_3).slice (win0_7.rect t)).set
  rw [View.set_slice_whole, Rect.mem_set_unit]
  intro a
  match a with
  | ⟨0, _⟩ => show win0_7.index t 0 * 1 ≤ (i 0).val ∧ (i 0).val < win0_7.index t 0 * 1 + 1; rw [h0]; omega
  | ⟨1, _⟩ => show win0_7.index t 1 * 128 ≤ (i 1).val ∧ (i 1).val < win0_7.index t 1 * 128 + 128; rw [h1]; omega

/-- Result 3 after the run. -/
theorem final7_arr (c : Dev nD) : (dats m 0 c).arrAt 7 cfg0.N = res7 m c :=
  (dats m 0 c).arrAt_eq_of_cover 7 (res7 m c) (fun t _ => flushed7_eq m c t) cover7

/-- The call's four results and its unchanged arguments. -/
theorem run : θ_run defs (onTc (τ := τ) (main (F := Ideal))) ⟨m, fun _ => 0, ρ⟩ fun r => ∀ c : Dev nD,
    r.2.mem (c.tc.loc main_v2_0) = res4 m c
    ∧ r.2.mem (c.tc.loc main_v2_1) = res5 m c
    ∧ r.2.mem (c.tc.loc main_v2_2) = res6 m c
    ∧ r.2.mem (c.tc.loc main_v2_3) = res7 m c
    ∧ r.2.mem (c.tc.loc main_arg0) = m (c.tc.loc main_arg0)
    ∧ r.2.mem (c.tc.loc main_arg1) = m (c.tc.loc main_arg1)
    ∧ r.2.mem (c.tc.loc main_arg2) = m (c.tc.loc main_arg2) :=
  (θ_run _ _ _).mono (fun r h c => ⟨((h c).1 4).trans (final4_arr m c),
    ((h c).1 5).trans (final5_arr m c),
    ((h c).1 6).trans (final6_arr m c),
    ((h c).1 7).trans (final7_arr m c),
    ((h c).1 0).trans (((dats m 0 c).arrAt_in 0 rfl _).trans ((A_eq m c 0).trans (V_main_arg0 m c))),
    ((h c).1 2).trans (((dats m 0 c).arrAt_in 2 rfl _).trans ((A_eq m c 2).trans (V_main_arg1 m c))),
    ((h c).2 main_arg2 (Pipeline.mem_restRefs_of main_arg2 (by decide) (by decide))).trans (V_main_arg2 m c)⟩)
    (run_main m ρ)

end Kernel

end Cert.Conv

end
-- ==== Proof.ConvRef.lean ====
module

public import proofs.«01_k».proof.Proof.Gen.ConvRIdeal.Read
public import proofs.«01_k».proof.Proof.ConvIdeal

@[expose] public section

/-! The reference of the convolution's backward call over the extended reals: its four results are the gradients that
the kernel's results were shown to be. The reference pads and adds one product per tap; here the 31 of them become one
sum. -/

set_option maxRecDepth 16384
set_option maxHeartbeats 4000000

noncomputable section

namespace Cert.Conv.Reference

open Cert.ConvRIdeal Cert.ConvRIdeal.Gen Cert.ConvRIdeal.Read
open Idealize.ShloMosaic Idealize.ShloMosaic.TcCoe

variable (x0 : Vec Ideal S2176x7168 .f32) (x1 : Vec Ideal S2176x1024 .f32) (x2 : Vec Ideal S1x31x1024 .f32)

/-- The padded activation: 30 rows of zero, then the gated activation. -/
theorem up_apply (q : Fin 2206) (c : Fin 1024) : val_main_v16 (F := Ideal) x0 (ix2 q c)
    = if q.val < 30 then 0 else act x0 (q.val - 30) c := by
  have hq := q.isLt
  have e : (q.val - 30) % 2176 = q.val - 30 := by omega
  pointwise [val_main_v16, val_main_v15, val_main_cst_3, val_main_v14, val_main_v3, val_main_v0, val_main_v10, val_main_v9, val_main_cst_1, val_main_v8, val_main_v7, val_main_cst_0, val_main_v6, val_main_v5, val_main_v4]
  by_cases h : q.val < 30
  · rw [dif_pos h, if_pos h]
  · rw [dif_neg h, if_neg h]
    simp only [act, e]
    rfl

/-- The gradient of tap `t`, as the reference sums it. -/
def tapSum (t : ℕ) (c : Fin 1024) : EReal :=
  ∑ k : Fin 2176, val_main_v16 (F := Ideal) x0 (ix2 ⟨(t + k.val) % 2206, Nat.mod_lt _ (by decide)⟩ c) * x1 (ix2 k c)

/-- The cotangent's part in the padded activation's gradient by tap `t`: the rows moved down by `t`. -/
def part (q t : ℕ) (c : Fin 1024) : EReal :=
  if t ≤ q ∧ q - t < 2176 then x1 (ix2 ⟨(q - t) % 2176, Nat.mod_lt _ (by decide)⟩ c) * x2 (ix3 0 ⟨t % 31, Nat.mod_lt _ (by decide)⟩ c) else 0

/-- A tap's sum, as it stands in the program. -/
theorem tapSum_eq {i j : ℕ} (hj : j < 31) (c : Fin 1024) (b : Fin 1 → EReal) (y : Fin 2176 → EReal)
    (hy : ∀ k : Fin 2176, y k = val_main_v16 (F := Ideal) x0 (ix2 ⟨j + k.val, by have := k.isLt; omega⟩ c) * x1 (ix2 k c))
    (hb : ∀ z, b z = ∑ k : Fin 2176, y k) (P : Prop) [Decidable P] (hP : P ↔ i = j) :
    (if P then ∑ z : Fin 1, b z else 0) = if i = j then tapSum x0 x1 j c else 0 := by
  by_cases h : i = j
  · rw [if_pos h, if_pos (hP.2 h), Fin.sum_univ_one, hb]
    refine Finset.sum_congr rfl fun k _ => ?_
    have hk := k.isLt
    rw [hy]
    exact congrArg (fun z => val_main_v16 (F := Ideal) x0 (ix2 z c) * x1 (ix2 k c)) (Fin.ext (by show j + k.val = (j + k.val) % 2206; omega))
  · rw [if_neg h, if_neg (fun hp => h (hP.1 hp))]

/-- A tap's part, as it stands in the program. -/
theorem part_eq {q j : ℕ} (hj : j < 31) (c : Fin 1024) :
    (if h : j ≤ q ∧ q - j < 2176 then x1 (ix2 ⟨q - j, h.2⟩ c) * x2 (ix3 0 ⟨j, hj⟩ c) else 0) = part x1 x2 q j c := by
  unfold part
  by_cases h : j ≤ q ∧ q - j < 2176
  · rw [dif_pos h, if_pos h]
    exact congrArg₂ (fun a b => x1 (ix2 a c) * x2 (ix3 0 b c)) (Fin.ext (Nat.mod_eq_of_lt h.2).symm) (Fin.ext (Nat.mod_eq_of_lt hj).symm)
  · rw [dif_neg h, if_neg h]

/-- The rows from tap `j` on hold their sums, and the others nothing. -/
abbrev Rows (j : ℕ) (v : (⟨2, ![31, 1024]⟩ : Shape).Idx → EReal) : Prop :=
  ∀ (i : Fin 31) (c : Fin 1024), v (ix2 i c) = if j ≤ i.val then tapSum x0 x1 i.val c else 0

/-- Every element is the sum of its last `n` taps' parts. -/
abbrev Parts (n : ℕ) (v : (⟨2, ![2206, 1024]⟩ : Shape).Idx → EReal) : Prop :=
  ∀ (q : Fin 2206) (c : Fin 1024), v (ix2 q c) = ∑ s ∈ Finset.range n, part x1 x2 q.val (30 - s) c

/-- One more tap's part beside the sum of the later taps' parts. -/
theorem parts_step {q n j : ℕ} {c : Fin 1024} (hj : j < 31) {a b : EReal} (ha : a = ∑ s ∈ Finset.range n, part x1 x2 q (30 - s) c)
    (hb : b = if h : j ≤ q ∧ q - j < 2176 then x1 (ix2 ⟨q - j, h.2⟩ c) * x2 (ix3 0 ⟨j, hj⟩ c) else 0) (e : 30 - n = j := by decide) :
    a + b = ∑ s ∈ Finset.range (n + 1), part x1 x2 q (30 - s) c := by
  rw [Finset.sum_range_succ, ha, hb, part_eq x1 x2 hj c, e]

/-- One more tap's row beside the rows of the later taps. -/
theorem row_step {i j : ℕ} {c : Fin 1024} {a b : EReal} (ha : a = if j + 1 ≤ i then tapSum x0 x1 i c else 0) (hb : b = if i = j then tapSum x0 x1 j c else 0) :
    a + b = if j ≤ i then tapSum x0 x1 i c else 0 := by
  subst ha hb
  by_cases h : j + 1 ≤ i
  · rw [if_pos h, if_neg (by omega), if_pos (by omega), add_zero]
  · rw [if_neg h, zero_add]
    by_cases e : i = j
    · rw [if_pos e, if_pos (by omega), e]
    · rw [if_neg e, if_neg (by omega)]

theorem row30 (i : Fin 31) (c : Fin 1024) : val_main_v245 (F := Ideal) x0 x1 (ix2 i c) = if i.val = 30 then tapSum x0 x1 30 c else 0 := by
  pointwise [val_main_v245, val_main_v244, val_main_v243, val_main_v240, val_main_v239, val_main_v238, val_main_v229, val_main_v237, val_main_cst_5, val_main_cst_6, val_main_cst_7]
  refine tapSum_eq x0 x1 (by decide) c _ _ (fun k => ?_) (fun _ => rfl) _ (by omega)
  rfl

theorem rows30 : Rows x0 x1 30 (val_main_v245 (F := Ideal) x0 x1) := fun i c => by
  rw [row30]
  by_cases h : i.val = 30
  · rw [if_pos h, if_pos (by omega), h]
  · rw [if_neg h, if_neg (by have := i.isLt; omega)]

theorem part30 (q : Fin 2206) (c : Fin 1024) : val_main_v246 (F := Ideal) x1 x2 (ix2 q c) = part x1 x2 q.val 30 c := by
  refine Eq.trans (b := if h : 30 ≤ q.val ∧ q.val - 30 < 2176 then x1 (ix2 ⟨q.val - 30, h.2⟩ c) * x2 (ix3 0 ⟨30, by decide⟩ c) else 0) ?_ (part_eq x1 x2 (by decide) c)
  pointwise [val_main_v246, val_main_v242, val_main_v237, val_main_v241, val_main_v232, val_main_v231, val_main_v230, val_main_v1, val_main_cst_8]

theorem parts30 : Parts x1 x2 1 (val_main_v246 (F := Ideal) x1 x2) := fun q c => by
  rw [Finset.sum_range_one]
  exact part30 x1 x2 q c

theorem rows29 : Rows x0 x1 29 (val_main_v255 (F := Ideal) x0 x1) := fun i c => by
  refine row_step x0 x1 (j := 29) (rows30 x0 x1 i c) ?_
  pointwise [val_main_v254, val_main_v253, val_main_v252, val_main_v249, val_main_v248, val_main_v247, val_main_v222, val_main_v236, val_main_cst_9, val_main_cst_10, val_main_cst_11]
  exact tapSum_eq x0 x1 (by decide) c _ _ (fun _ => rfl) (fun _ => rfl) _ (by omega)

theorem parts29 : Parts x1 x2 2 (val_main_v257 (F := Ideal) x1 x2) := fun q c => by
  refine parts_step x1 x2 (j := 29) (by decide) (parts30 x1 x2 q c) ?_
  pointwise [val_main_v256, val_main_v251, val_main_v236, val_main_v250, val_main_v225, val_main_v224, val_main_v223, val_main_v1, val_main_cst_12]

theorem rows28 : Rows x0 x1 28 (val_main_v266 (F := Ideal) x0 x1) := fun i c => by
  refine row_step x0 x1 (j := 28) (rows29 x0 x1 i c) ?_
  pointwise [val_main_v265, val_main_v264, val_main_v263, val_main_v260, val_main_v259, val_main_v258, val_main_v215, val_main_v236, val_main_cst_13, val_main_cst_14, val_main_cst_15]
  exact tapSum_eq x0 x1 (by decide) c _ _ (fun _ => rfl) (fun _ => rfl) _ (by omega)

theorem parts28 : Parts x1 x2 3 (val_main_v268 (F := Ideal) x1 x2) := fun q c => by
  refine parts_step x1 x2 (j := 28) (by decide) (parts29 x1 x2 q c) ?_
  pointwise [val_main_v267, val_main_v262, val_main_v236, val_main_v261, val_main_v218, val_main_v217, val_main_v216, val_main_v1, val_main_cst_16]

theorem rows27 : Rows x0 x1 27 (val_main_v277 (F := Ideal) x0 x1) := fun i c => by
  refine row_step x0 x1 (j := 27) (rows28 x0 x1 i c) ?_
  pointwise [val_main_v276, val_main_v275, val_main_v274, val_main_v271, val_main_v270, val_main_v269, val_main_v208, val_main_v236, val_main_cst_17, val_main_cst_18, val_main_cst_19]
  exact tapSum_eq x0 x1 (by decide) c _ _ (fun _ => rfl) (fun _ => rfl) _ (by omega)

theorem parts27 : Parts x1 x2 4 (val_main_v279 (F := Ideal) x1 x2) := fun q c => by
  refine parts_step x1 x2 (j := 27) (by decide) (parts28 x1 x2 q c) ?_
  pointwise [val_main_v278, val_main_v273, val_main_v236, val_main_v272, val_main_v211, val_main_v210, val_main_v209, val_main_v1, val_main_cst_20]

theorem rows26 : Rows x0 x1 26 (val_main_v288 (F := Ideal) x0 x1) := fun i c => by
  refine row_step x0 x1 (j := 26) (rows27 x0 x1 i c) ?_
  pointwise [val_main_v287, val_main_v286, val_main_v285, val_main_v282, val_main_v281, val_main_v280, val_main_v201, val_main_v236, val_main_cst_21, val_main_cst_22, val_main_cst_23]
  exact tapSum_eq x0 x1 (by decide) c _ _ (fun _ => rfl) (fun _ => rfl) _ (by omega)

theorem parts26 : Parts x1 x2 5 (val_main_v290 (F := Ideal) x1 x2) := fun q c => by
  refine parts_step x1 x2 (j := 26) (by decide) (parts27 x1 x2 q c) ?_
  pointwise [val_main_v289, val_main_v284, val_main_v236, val_main_v283, val_main_v204, val_main_v203, val_main_v202, val_main_v1, val_main_cst_24]

theorem rows25 : Rows x0 x1 25 (val_main_v299 (F := Ideal) x0 x1) := fun i c => by
  refine row_step x0 x1 (j := 25) (rows26 x0 x1 i c) ?_
  pointwise [val_main_v298, val_main_v297, val_main_v296, val_main_v293, val_main_v292, val_main_v291, val_main_v194, val_main_v236, val_main_cst_25, val_main_cst_26, val_main_cst_27]
  exact tapSum_eq x0 x1 (by decide) c _ _ (fun _ => rfl) (fun _ => rfl) _ (by omega)

theorem parts25 : Parts x1 x2 6 (val_main_v301 (F := Ideal) x1 x2) := fun q c => by
  refine parts_step x1 x2 (j := 25) (by decide) (parts26 x1 x2 q c) ?_
  pointwise [val_main_v300, val_main_v295, val_main_v236, val_main_v294, val_main_v197, val_main_v196, val_main_v195, val_main_v1, val_main_cst_28]

theorem rows24 : Rows x0 x1 24 (val_main_v310 (F := Ideal) x0 x1) := fun i c => by
  refine row_step x0 x1 (j := 24) (rows25 x0 x1 i c) ?_
  pointwise [val_main_v309, val_main_v308, val_main_v307, val_main_v304, val_main_v303, val_main_v302, val_main_v187, val_main_v236, val_main_cst_29, val_main_cst_30, val_main_cst_31]
  exact tapSum_eq x0 x1 (by decide) c _ _ (fun _ => rfl) (fun _ => rfl) _ (by omega)

theorem parts24 : Parts x1 x2 7 (val_main_v312 (F := Ideal) x1 x2) := fun q c => by
  refine parts_step x1 x2 (j := 24) (by decide) (parts25 x1 x2 q c) ?_
  pointwise [val_main_v311, val_main_v306, val_main_v236, val_main_v305, val_main_v190, val_main_v189, val_main_v188, val_main_v1, val_main_cst_32]

theorem rows23 : Rows x0 x1 23 (val_main_v321 (F := Ideal) x0 x1) := fun i c => by
  refine row_step x0 x1 (j := 23) (rows24 x0 x1 i c) ?_
  pointwise [val_main_v320, val_main_v319, val_main_v318, val_main_v315, val_main_v314, val_main_v313, val_main_v180, val_main_v236, val_main_cst_33, val_main_cst_34, val_main_cst_35]
  exact tapSum_eq x0 x1 (by decide) c _ _ (fun _ => rfl) (fun _ => rfl) _ (by omega)

theorem parts23 : Parts x1 x2 8 (val_main_v323 (F := Ideal) x1 x2) := fun q c => by
  refine parts_step x1 x2 (j := 23) (by decide) (parts24 x1 x2 q c) ?_
  pointwise [val_main_v322, val_main_v317, val_main_v236, val_main_v316, val_main_v183, val_main_v182, val_main_v181, val_main_v1, val_main_cst_36]

theorem rows22 : Rows x0 x1 22 (val_main_v332 (F := Ideal) x0 x1) := fun i c => by
  refine row_step x0 x1 (j := 22) (rows23 x0 x1 i c) ?_
  pointwise [val_main_v331, val_main_v330, val_main_v329, val_main_v326, val_main_v325, val_main_v324, val_main_v173, val_main_v236, val_main_cst_37, val_main_cst_38, val_main_cst_39]
  exact tapSum_eq x0 x1 (by decide) c _ _ (fun _ => rfl) (fun _ => rfl) _ (by omega)

theorem parts22 : Parts x1 x2 9 (val_main_v334 (F := Ideal) x1 x2) := fun q c => by
  refine parts_step x1 x2 (j := 22) (by decide) (parts23 x1 x2 q c) ?_
  pointwise [val_main_v333, val_main_v328, val_main_v236, val_main_v327, val_main_v176, val_main_v175, val_main_v174, val_main_v1, val_main_cst_40]

theorem rows21 : Rows x0 x1 21 (val_main_v343 (F := Ideal) x0 x1) := fun i c => by
  refine row_step x0 x1 (j := 21) (rows22 x0 x1 i c) ?_
  pointwise [val_main_v342, val_main_v341, val_main_v340, val_main_v337, val_main_v336, val_main_v335, val_main_v166, val_main_v236, val_main_cst_41, val_main_cst_42, val_main_cst_43]
  exact tapSum_eq x0 x1 (by decide) c _ _ (fun _ => rfl) (fun _ => rfl) _ (by omega)

theorem parts21 : Parts x1 x2 10 (val_main_v345 (F := Ideal) x1 x2) := fun q c => by
  refine parts_step x1 x2 (j := 21) (by decide) (parts22 x1 x2 q c) ?_
  pointwise [val_main_v344, val_main_v339, val_main_v236, val_main_v338, val_main_v169, val_main_v168, val_main_v167, val_main_v1, val_main_cst_44]

theorem rows20 : Rows x0 x1 20 (val_main_v354 (F := Ideal) x0 x1) := fun i c => by
  refine row_step x0 x1 (j := 20) (rows21 x0 x1 i c) ?_
  pointwise [val_main_v353, val_main_v352, val_main_v351, val_main_v348, val_main_v347, val_main_v346, val_main_v159, val_main_v236, val_main_cst_45, val_main_cst_46, val_main_cst_47]
  exact tapSum_eq x0 x1 (by decide) c _ _ (fun _ => rfl) (fun _ => rfl) _ (by omega)

theorem parts20 : Parts x1 x2 11 (val_main_v356 (F := Ideal) x1 x2) := fun q c => by
  refine parts_step x1 x2 (j := 20) (by decide) (parts21 x1 x2 q c) ?_
  pointwise [val_main_v355, val_main_v350, val_main_v236, val_main_v349, val_main_v162, val_main_v161, val_main_v160, val_main_v1, val_main_cst_48]

theorem rows19 : Rows x0 x1 19 (val_main_v365 (F := Ideal) x0 x1) := fun i c => by
  refine row_step x0 x1 (j := 19) (rows20 x0 x1 i c) ?_
  pointwise [val_main_v364, val_main_v363, val_main_v362, val_main_v359, val_main_v358, val_main_v357, val_main_v152, val_main_v236, val_main_cst_49, val_main_cst_50, val_main_cst_51]
  exact tapSum_eq x0 x1 (by decide) c _ _ (fun _ => rfl) (fun _ => rfl) _ (by omega)

theorem parts19 : Parts x1 x2 12 (val_main_v367 (F := Ideal) x1 x2) := fun q c => by
  refine parts_step x1 x2 (j := 19) (by decide) (parts20 x1 x2 q c) ?_
  pointwise [val_main_v366, val_main_v361, val_main_v236, val_main_v360, val_main_v155, val_main_v154, val_main_v153, val_main_v1, val_main_cst_52]

theorem rows18 : Rows x0 x1 18 (val_main_v376 (F := Ideal) x0 x1) := fun i c => by
  refine row_step x0 x1 (j := 18) (rows19 x0 x1 i c) ?_
  pointwise [val_main_v375, val_main_v374, val_main_v373, val_main_v370, val_main_v369, val_main_v368, val_main_v145, val_main_v236, val_main_cst_53, val_main_cst_54, val_main_cst_55]
  exact tapSum_eq x0 x1 (by decide) c _ _ (fun _ => rfl) (fun _ => rfl) _ (by omega)

theorem parts18 : Parts x1 x2 13 (val_main_v378 (F := Ideal) x1 x2) := fun q c => by
  refine parts_step x1 x2 (j := 18) (by decide) (parts19 x1 x2 q c) ?_
  pointwise [val_main_v377, val_main_v372, val_main_v236, val_main_v371, val_main_v148, val_main_v147, val_main_v146, val_main_v1, val_main_cst_56]

theorem rows17 : Rows x0 x1 17 (val_main_v387 (F := Ideal) x0 x1) := fun i c => by
  refine row_step x0 x1 (j := 17) (rows18 x0 x1 i c) ?_
  pointwise [val_main_v386, val_main_v385, val_main_v384, val_main_v381, val_main_v380, val_main_v379, val_main_v138, val_main_v236, val_main_cst_57, val_main_cst_58, val_main_cst_59]
  exact tapSum_eq x0 x1 (by decide) c _ _ (fun _ => rfl) (fun _ => rfl) _ (by omega)

theorem parts17 : Parts x1 x2 14 (val_main_v389 (F := Ideal) x1 x2) := fun q c => by
  refine parts_step x1 x2 (j := 17) (by decide) (parts18 x1 x2 q c) ?_
  pointwise [val_main_v388, val_main_v383, val_main_v236, val_main_v382, val_main_v141, val_main_v140, val_main_v139, val_main_v1, val_main_cst_60]

theorem rows16 : Rows x0 x1 16 (val_main_v398 (F := Ideal) x0 x1) := fun i c => by
  refine row_step x0 x1 (j := 16) (rows17 x0 x1 i c) ?_
  pointwise [val_main_v397, val_main_v396, val_main_v395, val_main_v392, val_main_v391, val_main_v390, val_main_v131, val_main_v236, val_main_cst_61, val_main_cst_62, val_main_cst_63]
  exact tapSum_eq x0 x1 (by decide) c _ _ (fun _ => rfl) (fun _ => rfl) _ (by omega)

theorem parts16 : Parts x1 x2 15 (val_main_v400 (F := Ideal) x1 x2) := fun q c => by
  refine parts_step x1 x2 (j := 16) (by decide) (parts17 x1 x2 q c) ?_
  pointwise [val_main_v399, val_main_v394, val_main_v236, val_main_v393, val_main_v134, val_main_v133, val_main_v132, val_main_v1, val_main_cst_64]

theorem rows15 : Rows x0 x1 15 (val_main_v409 (F := Ideal) x0 x1) := fun i c => by
  refine row_step x0 x1 (j := 15) (rows16 x0 x1 i c) ?_
  pointwise [val_main_v408, val_main_v407, val_main_v406, val_main_v403, val_main_v402, val_main_v401, val_main_v124, val_main_v236, val_main_cst_65, val_main_cst_66, val_main_cst_67]
  exact tapSum_eq x0 x1 (by decide) c _ _ (fun _ => rfl) (fun _ => rfl) _ (by omega)

theorem parts15 : Parts x1 x2 16 (val_main_v411 (F := Ideal) x1 x2) := fun q c => by
  refine parts_step x1 x2 (j := 15) (by decide) (parts16 x1 x2 q c) ?_
  pointwise [val_main_v410, val_main_v405, val_main_v236, val_main_v404, val_main_v127, val_main_v126, val_main_v125, val_main_v1, val_main_cst_68]

theorem rows14 : Rows x0 x1 14 (val_main_v420 (F := Ideal) x0 x1) := fun i c => by
  refine row_step x0 x1 (j := 14) (rows15 x0 x1 i c) ?_
  pointwise [val_main_v419, val_main_v418, val_main_v417, val_main_v414, val_main_v413, val_main_v412, val_main_v117, val_main_v236, val_main_cst_69, val_main_cst_70, val_main_cst_71]
  exact tapSum_eq x0 x1 (by decide) c _ _ (fun _ => rfl) (fun _ => rfl) _ (by omega)

theorem parts14 : Parts x1 x2 17 (val_main_v422 (F := Ideal) x1 x2) := fun q c => by
  refine parts_step x1 x2 (j := 14) (by decide) (parts15 x1 x2 q c) ?_
  pointwise [val_main_v421, val_main_v416, val_main_v236, val_main_v415, val_main_v120, val_main_v119, val_main_v118, val_main_v1, val_main_cst_72]

theorem rows13 : Rows x0 x1 13 (val_main_v431 (F := Ideal) x0 x1) := fun i c => by
  refine row_step x0 x1 (j := 13) (rows14 x0 x1 i c) ?_
  pointwise [val_main_v430, val_main_v429, val_main_v428, val_main_v425, val_main_v424, val_main_v423, val_main_v110, val_main_v236, val_main_cst_73, val_main_cst_74, val_main_cst_75]
  exact tapSum_eq x0 x1 (by decide) c _ _ (fun _ => rfl) (fun _ => rfl) _ (by omega)

theorem parts13 : Parts x1 x2 18 (val_main_v433 (F := Ideal) x1 x2) := fun q c => by
  refine parts_step x1 x2 (j := 13) (by decide) (parts14 x1 x2 q c) ?_
  pointwise [val_main_v432, val_main_v427, val_main_v236, val_main_v426, val_main_v113, val_main_v112, val_main_v111, val_main_v1, val_main_cst_76]

theorem rows12 : Rows x0 x1 12 (val_main_v442 (F := Ideal) x0 x1) := fun i c => by
  refine row_step x0 x1 (j := 12) (rows13 x0 x1 i c) ?_
  pointwise [val_main_v441, val_main_v440, val_main_v439, val_main_v436, val_main_v435, val_main_v434, val_main_v103, val_main_v236, val_main_cst_77, val_main_cst_78, val_main_cst_79]
  exact tapSum_eq x0 x1 (by decide) c _ _ (fun _ => rfl) (fun _ => rfl) _ (by omega)

theorem parts12 : Parts x1 x2 19 (val_main_v444 (F := Ideal) x1 x2) := fun q c => by
  refine parts_step x1 x2 (j := 12) (by decide) (parts13 x1 x2 q c) ?_
  pointwise [val_main_v443, val_main_v438, val_main_v236, val_main_v437, val_main_v106, val_main_v105, val_main_v104, val_main_v1, val_main_cst_80]

theorem rows11 : Rows x0 x1 11 (val_main_v453 (F := Ideal) x0 x1) := fun i c => by
  refine row_step x0 x1 (j := 11) (rows12 x0 x1 i c) ?_
  pointwise [val_main_v452, val_main_v451, val_main_v450, val_main_v447, val_main_v446, val_main_v445, val_main_v96, val_main_v236, val_main_cst_81, val_main_cst_82, val_main_cst_83]
  exact tapSum_eq x0 x1 (by decide) c _ _ (fun _ => rfl) (fun _ => rfl) _ (by omega)

theorem parts11 : Parts x1 x2 20 (val_main_v455 (F := Ideal) x1 x2) := fun q c => by
  refine parts_step x1 x2 (j := 11) (by decide) (parts12 x1 x2 q c) ?_
  pointwise [val_main_v454, val_main_v449, val_main_v236, val_main_v448, val_main_v99, val_main_v98, val_main_v97, val_main_v1, val_main_cst_84]

theorem rows10 : Rows x0 x1 10 (val_main_v464 (F := Ideal) x0 x1) := fun i c => by
  refine row_step x0 x1 (j := 10) (rows11 x0 x1 i c) ?_
  pointwise [val_main_v463, val_main_v462, val_main_v461, val_main_v458, val_main_v457, val_main_v456, val_main_v89, val_main_v236, val_main_cst_85, val_main_cst_86, val_main_cst_87]
  exact tapSum_eq x0 x1 (by decide) c _ _ (fun _ => rfl) (fun _ => rfl) _ (by omega)

theorem parts10 : Parts x1 x2 21 (val_main_v466 (F := Ideal) x1 x2) := fun q c => by
  refine parts_step x1 x2 (j := 10) (by decide) (parts11 x1 x2 q c) ?_
  pointwise [val_main_v465, val_main_v460, val_main_v236, val_main_v459, val_main_v92, val_main_v91, val_main_v90, val_main_v1, val_main_cst_88]

theorem rows9 : Rows x0 x1 9 (val_main_v475 (F := Ideal) x0 x1) := fun i c => by
  refine row_step x0 x1 (j := 9) (rows10 x0 x1 i c) ?_
  pointwise [val_main_v474, val_main_v473, val_main_v472, val_main_v469, val_main_v468, val_main_v467, val_main_v82, val_main_v236, val_main_cst_89, val_main_cst_90, val_main_cst_91]
  exact tapSum_eq x0 x1 (by decide) c _ _ (fun _ => rfl) (fun _ => rfl) _ (by omega)

theorem parts9 : Parts x1 x2 22 (val_main_v477 (F := Ideal) x1 x2) := fun q c => by
  refine parts_step x1 x2 (j := 9) (by decide) (parts10 x1 x2 q c) ?_
  pointwise [val_main_v476, val_main_v471, val_main_v236, val_main_v470, val_main_v85, val_main_v84, val_main_v83, val_main_v1, val_main_cst_92]

theorem rows8 : Rows x0 x1 8 (val_main_v486 (F := Ideal) x0 x1) := fun i c => by
  refine row_step x0 x1 (j := 8) (rows9 x0 x1 i c) ?_
  pointwise [val_main_v485, val_main_v484, val_main_v483, val_main_v480, val_main_v479, val_main_v478, val_main_v75, val_main_v236, val_main_cst_93, val_main_cst_94, val_main_cst_95]
  exact tapSum_eq x0 x1 (by decide) c _ _ (fun _ => rfl) (fun _ => rfl) _ (by omega)

theorem parts8 : Parts x1 x2 23 (val_main_v488 (F := Ideal) x1 x2) := fun q c => by
  refine parts_step x1 x2 (j := 8) (by decide) (parts9 x1 x2 q c) ?_
  pointwise [val_main_v487, val_main_v482, val_main_v236, val_main_v481, val_main_v78, val_main_v77, val_main_v76, val_main_v1, val_main_cst_96]

theorem rows7 : Rows x0 x1 7 (val_main_v497 (F := Ideal) x0 x1) := fun i c => by
  refine row_step x0 x1 (j := 7) (rows8 x0 x1 i c) ?_
  pointwise [val_main_v496, val_main_v495, val_main_v494, val_main_v491, val_main_v490, val_main_v489, val_main_v68, val_main_v236, val_main_cst_97, val_main_cst_98, val_main_cst_99]
  exact tapSum_eq x0 x1 (by decide) c _ _ (fun _ => rfl) (fun _ => rfl) _ (by omega)

theorem parts7 : Parts x1 x2 24 (val_main_v499 (F := Ideal) x1 x2) := fun q c => by
  refine parts_step x1 x2 (j := 7) (by decide) (parts8 x1 x2 q c) ?_
  pointwise [val_main_v498, val_main_v493, val_main_v236, val_main_v492, val_main_v71, val_main_v70, val_main_v69, val_main_v1, val_main_cst_100]

theorem rows6 : Rows x0 x1 6 (val_main_v508 (F := Ideal) x0 x1) := fun i c => by
  refine row_step x0 x1 (j := 6) (rows7 x0 x1 i c) ?_
  pointwise [val_main_v507, val_main_v506, val_main_v505, val_main_v502, val_main_v501, val_main_v500, val_main_v61, val_main_v236, val_main_cst_101, val_main_cst_102, val_main_cst_103]
  exact tapSum_eq x0 x1 (by decide) c _ _ (fun _ => rfl) (fun _ => rfl) _ (by omega)

theorem parts6 : Parts x1 x2 25 (val_main_v510 (F := Ideal) x1 x2) := fun q c => by
  refine parts_step x1 x2 (j := 6) (by decide) (parts7 x1 x2 q c) ?_
  pointwise [val_main_v509, val_main_v504, val_main_v236, val_main_v503, val_main_v64, val_main_v63, val_main_v62, val_main_v1, val_main_cst_104]

theorem rows5 : Rows x0 x1 5 (val_main_v519 (F := Ideal) x0 x1) := fun i c => by
  refine row_step x0 x1 (j := 5) (rows6 x0 x1 i c) ?_
  pointwise [val_main_v518, val_main_v517, val_main_v516, val_main_v513, val_main_v512, val_main_v511, val_main_v54, val_main_v236, val_main_cst_105, val_main_cst_106, val_main_cst_107]
  exact tapSum_eq x0 x1 (by decide) c _ _ (fun _ => rfl) (fun _ => rfl) _ (by omega)

theorem parts5 : Parts x1 x2 26 (val_main_v521 (F := Ideal) x1 x2) := fun q c => by
  refine parts_step x1 x2 (j := 5) (by decide) (parts6 x1 x2 q c) ?_
  pointwise [val_main_v520, val_main_v515, val_main_v236, val_main_v514, val_main_v57, val_main_v56, val_main_v55, val_main_v1, val_main_cst_108]

theorem rows4 : Rows x0 x1 4 (val_main_v530 (F := Ideal) x0 x1) := fun i c => by
  refine row_step x0 x1 (j := 4) (rows5 x0 x1 i c) ?_
  pointwise [val_main_v529, val_main_v528, val_main_v527, val_main_v524, val_main_v523, val_main_v522, val_main_v47, val_main_v236, val_main_cst_109, val_main_cst_110, val_main_cst_111]
  exact tapSum_eq x0 x1 (by decide) c _ _ (fun _ => rfl) (fun _ => rfl) _ (by omega)

theorem parts4 : Parts x1 x2 27 (val_main_v532 (F := Ideal) x1 x2) := fun q c => by
  refine parts_step x1 x2 (j := 4) (by decide) (parts5 x1 x2 q c) ?_
  pointwise [val_main_v531, val_main_v526, val_main_v236, val_main_v525, val_main_v50, val_main_v49, val_main_v48, val_main_v1, val_main_cst_112]

theorem rows3 : Rows x0 x1 3 (val_main_v541 (F := Ideal) x0 x1) := fun i c => by
  refine row_step x0 x1 (j := 3) (rows4 x0 x1 i c) ?_
  pointwise [val_main_v540, val_main_v539, val_main_v538, val_main_v535, val_main_v534, val_main_v533, val_main_v40, val_main_v236, val_main_cst_113, val_main_cst_114, val_main_cst_115]
  exact tapSum_eq x0 x1 (by decide) c _ _ (fun _ => rfl) (fun _ => rfl) _ (by omega)

theorem parts3 : Parts x1 x2 28 (val_main_v543 (F := Ideal) x1 x2) := fun q c => by
  refine parts_step x1 x2 (j := 3) (by decide) (parts4 x1 x2 q c) ?_
  pointwise [val_main_v542, val_main_v537, val_main_v236, val_main_v536, val_main_v43, val_main_v42, val_main_v41, val_main_v1, val_main_cst_116]

theorem rows2 : Rows x0 x1 2 (val_main_v552 (F := Ideal) x0 x1) := fun i c => by
  refine row_step x0 x1 (j := 2) (rows3 x0 x1 i c) ?_
  pointwise [val_main_v551, val_main_v550, val_main_v549, val_main_v546, val_main_v545, val_main_v544, val_main_v33, val_main_v236, val_main_cst_117, val_main_cst_118, val_main_cst_119]
  exact tapSum_eq x0 x1 (by decide) c _ _ (fun _ => rfl) (fun _ => rfl) _ (by omega)

theorem parts2 : Parts x1 x2 29 (val_main_v554 (F := Ideal) x1 x2) := fun q c => by
  refine parts_step x1 x2 (j := 2) (by decide) (parts3 x1 x2 q c) ?_
  pointwise [val_main_v553, val_main_v548, val_main_v236, val_main_v547, val_main_v36, val_main_v35, val_main_v34, val_main_v1, val_main_cst_120]

theorem rows1 : Rows x0 x1 1 (val_main_v563 (F := Ideal) x0 x1) := fun i c => by
  refine row_step x0 x1 (j := 1) (rows2 x0 x1 i c) ?_
  pointwise [val_main_v562, val_main_v561, val_main_v560, val_main_v557, val_main_v556, val_main_v555, val_main_v26, val_main_v236, val_main_cst_121, val_main_cst_122, val_main_cst_123]
  exact tapSum_eq x0 x1 (by decide) c _ _ (fun _ => rfl) (fun _ => rfl) _ (by omega)

theorem parts1 : Parts x1 x2 30 (val_main_v565 (F := Ideal) x1 x2) := fun q c => by
  refine parts_step x1 x2 (j := 1) (by decide) (parts2 x1 x2 q c) ?_
  pointwise [val_main_v564, val_main_v559, val_main_v236, val_main_v558, val_main_v29, val_main_v28, val_main_v27, val_main_v1, val_main_cst_124]

theorem row0 (i : Fin 31) (c : Fin 1024) : val_main_v575 (F := Ideal) x0 x1 (ix2 i c) = if i.val = 0 then tapSum x0 x1 0 c else 0 := by
  pointwise [val_main_v575, val_main_v574, val_main_v573, val_main_v570, val_main_v569, val_main_v568, val_main_v18, val_main_v236, val_main_cst_126, val_main_cst_127, val_main_cst_128]
  refine tapSum_eq x0 x1 (by decide) c _ _ (fun k => ?_) (fun _ => rfl) _ (by omega)
  simp only [Nat.zero_add]

theorem rows0 : Rows x0 x1 0 (val_main_v576 (F := Ideal) x0 x1) := fun i c =>
  row_step x0 x1 (rows1 x0 x1 i c) (row0 x0 x1 i c)

theorem parts0 : Parts x1 x2 31 (val_main_v578 (F := Ideal) x1 x2) := fun q c => by
  refine parts_step x1 x2 (j := 0) (by decide) (parts1 x1 x2 q c) ?_
  pointwise [val_main_v577, val_main_v572, val_main_v236, val_main_v571, val_main_v21, val_main_v20, val_main_v19, val_main_v1, val_main_cst_129]

/-! ## The results -/

/-- The reference's gradient of the gated activation. -/
theorem dAct_eq (r : Fin 2176) (c : Fin 1024) : val_main_v580 (F := Ideal) x1 x2 (ix2 r c) = dAct x1 x2 r.val c := by
  have hr := r.isLt
  pointwise [val_main_v580]
  rw [parts0]
  unfold dAct
  refine Finset.sum_congr rfl fun s hs => ?_
  have hs' := Finset.mem_range.1 hs
  unfold part
  show (if 30 - s ≤ 30 + r.val ∧ 30 + r.val - (30 - s) < 2176 then _ else 0) = _
  have e : 30 + r.val - (30 - s) = r.val + s := by omega
  by_cases h : r.val + s < 2176
  · rw [if_pos ⟨by omega, by omega⟩, if_pos h, mul_comm]
    refine congrArg (_ * ·) ?_
    exact congrArg (fun z => x1 (ix2 z c)) (Fin.ext (by show (30 + r.val - (30 - s)) % 2176 = (r.val + s) % 2176; rw [e]))
  · rw [if_neg (by omega), if_neg h, mul_zero]

theorem sg_eq (r : Fin 2176) (c : Fin 1024) : val_main_v10 (F := Ideal) x0 (ix2 r c) = sg x0 r c := by
  pointwise [val_main_v10, val_main_v9, val_main_cst_1, val_main_v8, val_main_v7, val_main_cst_0, val_main_v6, val_main_v5, val_main_v4, val_main_v0]
  rfl

theorem val_eq (r : Fin 2176) (c : Fin 1024) : val_main_v3 (F := Ideal) x0 (ix2 r c) = val x0 r c := by
  pointwise [val_main_v3, val_main_v0]

theorem ref586 (r : Fin 2176) (c : Fin 1024) : val_main_v586 (F := Ideal) x0 x1 x2 (ix2 r c) = dVal x0 x1 x2 (ix2 r c) := by
  pointwise [val_main_v586, val_main_v585, val_main_v584, val_main_v582]
  rw [dAct_eq, sg_eq]
  rfl

theorem ref588 (r : Fin 2176) (c : Fin 1024) : val_main_v588 (F := Ideal) x0 x1 x2 (ix2 r c) = dLog x0 x1 x2 (ix2 r c) := by
  pointwise [val_main_v588, val_main_v587, val_main_v584, val_main_v583, val_main_v581, val_main_v13, val_main_v12, val_main_v11, val_main_cst_2]
  rw [dAct_eq, sg_eq, val_eq]
  show val x0 r c * dAct x1 x2 r.val c * (sg x0 r c * (1 - sg x0 r c)) = dAct x1 x2 r.val c * val x0 r c * sg x0 r c * (1 - sg x0 r c)
  rw [mul_comm (val x0 r c), mul_assoc (dAct x1 x2 r.val c * val x0 r c)]

theorem ref576 (i : Fin 31) (c : Fin 1024) : val_main_v576 (F := Ideal) x0 x1 (ix2 i c) = dTap x0 x1 i.val c := by
  have hi := i.isLt
  rw [rows0, if_pos (Nat.zero_le _)]
  unfold tapSum dTap
  rw [Finset.sum_range]
  refine Finset.sum_congr rfl fun k _ => ?_
  have hk := k.isLt
  rw [up_apply, mul_comm]
  have e : (i.val + k.val) % 2206 = k.val + i.val := by omega
  refine congrArg₂ (· * ·) ?_ ?_
  · exact congrArg (fun z => x1 (ix2 z c)) (Fin.ext (Nat.mod_eq_of_lt hk).symm)
  · simp only [e]

theorem ref589 (i : Fin 32) (c : Fin 1024) : val_main_v589 (F := Ideal) x0 x1 (ix2 i c) = dTaps x0 x1 (ix2 i c) := by
  show _ = if i.val < 31 then dTap x0 x1 i.val c else 0
  refine Eq.trans (b := if h : i.val < 31 then val_main_v576 (F := Ideal) x0 x1 (ix2 ⟨i.val, h⟩ c) else 0) ?_ ?_
  · pointwise [val_main_v589, val_main_call0_v0, val_main_c]
    refine dite_congr rfl (fun _ => rfl) fun _ => ?_
    show (((0#32 : BitVec 32).toInt : ℝ) : EReal) = 0
    norm_num
  · by_cases h : i.val < 31
    · rw [dif_pos h, if_pos h, ref576]
    · rw [dif_neg h, if_neg h]

theorem ref567 (c : Fin 1024) : val_main_v567 (F := Ideal) x1 (ix2 0 c) = dBias x1 (ix2 0 c) := by
  show _ = ∑ r ∈ Finset.range 2176, cot x1 r c
  rw [Finset.sum_range]
  refine Eq.trans (b := ∑ r : Fin 2176, x1 (ix2 r c)) ?_ ?_
  · pointwise [val_main_v567, val_main_v566, val_main_v236, val_main_cst_125]
  · exact Finset.sum_congr rfl fun r _ => congrArg (fun z => x1 (ix2 z c)) (Fin.ext (Nat.mod_eq_of_lt r.isLt).symm)

end Cert.Conv.Reference

end
-- ==== Proof.ConvClaim.lean ====
module

public import proofs.«01_k».proof.Proof.ConvRef
public import proofs.«01_k».proof.Proof.Gen.ConvRIdeal.Run
public import proofs.«01_k».proof.Defs

@[expose] public section

/-! The convolution's backward call computes its reference's gradients over the extended reals. -/

set_option maxRecDepth 16384

noncomputable section

namespace Cert.Conv

open Idealize.ShloMosaic Idealize.ShloMosaic.TcCoe Idealize.SL.Sem

/-- From launch memories that agree on the arguments, the call and its reference leave the same four gradients. -/
theorem algebraic : Cert.algebraic_ConvKIdeal_ConvRIdeal (hConvKIdeal := Cert.ConvKIdeal.Gen.facts) (hConvRIdeal := Cert.ConvRIdeal.Gen.facts) := by
  intro m g m' g' _ hag
  refine ⟨fun c => res4 m c, fun c => res5 m c, fun c => res6 m c, fun c => res7 m c, ?_, ?_⟩
  · exact run m g
  · refine (θ_run _ _ _).mono (fun r h c => ?_) (ConvRIdeal.Value.run (F := Ideal) m' g')
    obtain ⟨a0, a1, a2⟩ := hag c
    have h := h c
    refine ⟨h.1.trans ?_, h.2.1.trans ?_, h.2.2.1.trans ?_, h.2.2.2.1.trans ?_, h.2.2.2.2⟩
    · refine (ConvRIdeal.Read.val_main_v586_eq (F := Ideal) _).trans ?_
      show ConvRIdeal.Read.val_main_v586 (F := Ideal) (m' (c.tc.loc ConvRIdeal.main_arg0)) (m' (c.tc.loc ConvRIdeal.main_arg1)) (m' (c.tc.loc ConvRIdeal.main_arg2)) = _
      rw [a0, a1, a2]
      funext i
      obtain ⟨a, b, rfl⟩ : ∃ a b, i = (ix2 a b : ConvRIdeal.S2176x1024.Idx) := ⟨i 0, i 1, by funext a; fin_cases a <;> rfl⟩
      exact Reference.ref586 _ _ _ a b
    · refine (ConvRIdeal.Read.val_main_v588_eq (F := Ideal) _).trans ?_
      show ConvRIdeal.Read.val_main_v588 (F := Ideal) (m' (c.tc.loc ConvRIdeal.main_arg0)) (m' (c.tc.loc ConvRIdeal.main_arg1)) (m' (c.tc.loc ConvRIdeal.main_arg2)) = _
      rw [a0, a1, a2]
      funext i
      obtain ⟨a, b, rfl⟩ : ∃ a b, i = (ix2 a b : ConvRIdeal.S2176x1024.Idx) := ⟨i 0, i 1, by funext a; fin_cases a <;> rfl⟩
      exact Reference.ref588 _ _ _ a b
    · refine (ConvRIdeal.Read.val_main_v589_eq (F := Ideal) _).trans ?_
      show ConvRIdeal.Read.val_main_v589 (F := Ideal) (m' (c.tc.loc ConvRIdeal.main_arg0)) (m' (c.tc.loc ConvRIdeal.main_arg1)) = _
      rw [a0, a1]
      funext i
      obtain ⟨a, b, rfl⟩ : ∃ a b, i = (ix2 a b : ConvRIdeal.S32x1024.Idx) := ⟨i 0, i 1, by funext a; fin_cases a <;> rfl⟩
      exact Reference.ref589 _ _ a b
    · refine (ConvRIdeal.Read.val_main_v567_eq (F := Ideal) _).trans ?_
      show ConvRIdeal.Read.val_main_v567 (F := Ideal) (m' (c.tc.loc ConvRIdeal.main_arg1)) = _
      rw [a1]
      funext i
      obtain ⟨a, b, rfl⟩ : ∃ a b, i = (ix2 a b : ConvRIdeal.S1x1024.Idx) := ⟨i 0, i 1, by funext a; fin_cases a <;> rfl⟩
      obtain rfl : a = 0 := Subsingleton.elim _ _
      exact Reference.ref567 _ b

end Cert.Conv

end
-- ==== Proof.Blocks.lean ====
module

public import proofs.«01_k».proof.Defs
public import Idealize.ShloMosaic.Lib.Pipeline.Value
public import Idealize.ShloMosaic.Lib.Pointwise
public import Idealize.ShloMosaic.Lib.IdealHost
public import Idealize.ShloMosaic.Lib.Quiescent

@[expose] public section

/-! Indices into blocks: what every call's tiling of its arrays shares. -/

noncomputable section

open Idealize.ShloMosaic Idealize.ShloMosaic.TcCoe

namespace Cert.Blocks

/-- An index of a matrix is its row and its column. -/
theorem eq_ix2 {R C : ℕ} {f : (⟨2, ![R, C]⟩ : Shape).Idx} {r : Fin R} {j : Fin C} (h0 : (f 0).val = r.val) (h1 : (f 1).val = j.val) : f = ix2 r j := by
  funext a
  apply Fin.ext
  match a with
  | ⟨0, _⟩ => exact h0
  | ⟨1, _⟩ => exact h1

/-- An index of a stack is its slab, its row and its column. -/
theorem eq_ix3 {n R C : ℕ} {f : (⟨3, ![n, R, C]⟩ : Shape).Idx} {s : Fin n} {r : Fin R} {j : Fin C} (h0 : (f 0).val = s.val) (h1 : (f 1).val = r.val)
    (h2 : (f 2).val = j.val) : f = ix3 s r j := by
  funext a
  apply Fin.ext
  match a with
  | ⟨0, _⟩ => exact h0
  | ⟨1, _⟩ => exact h1
  | ⟨2, _⟩ => exact h2

/-- Every index of a matrix is one of a row and a column. -/
theorem idx2 {R C : ℕ} (i : (⟨2, ![R, C]⟩ : Shape).Idx) : ∃ (r : Fin R) (j : Fin C), i = ix2 r j := ⟨i 0, i 1, eq_ix2 rfl rfl⟩

/-- The offsets of a whole matrix. -/
theorem zero2 : (![0, 0] : Fin 2 → Nat) = fun _ => 0 := funext fun a => by fin_cases a <;> rfl

/-- An index of a matrix lies in the block that its coordinates fall in. -/
theorem in_block2 {R C p q a b : ℕ} {f : Fin 2 → ℕ} {i : (⟨2, ![R, C]⟩ : Shape).Idx} (h0 : f 0 = a) (h1 : f 1 = b)
    (g0 : a * p ≤ (i 0).val ∧ (i 0).val < a * p + p) (g1 : b * q ≤ (i 1).val ∧ (i 1).val < b * q + q) (k : Fin 2) :
    f k * (![p, q] : Fin 2 → ℕ) k ≤ (i k).val ∧ (i k).val < f k * (![p, q] : Fin 2 → ℕ) k + (![p, q] : Fin 2 → ℕ) k := by
  subst h0 h1
  match k with
  | ⟨0, _⟩ => exact g0
  | ⟨1, _⟩ => exact g1

/-- The same for a stack. -/
theorem in_block3 {n R C p q w a b d : ℕ} {f : Fin 3 → ℕ} {i : (⟨3, ![n, R, C]⟩ : Shape).Idx} (h0 : f 0 = a) (h1 : f 1 = b) (h2 : f 2 = d)
    (g0 : a * p ≤ (i 0).val ∧ (i 0).val < a * p + p) (g1 : b * q ≤ (i 1).val ∧ (i 1).val < b * q + q)
    (g2 : d * w ≤ (i 2).val ∧ (i 2).val < d * w + w) (k : Fin 3) :
    f k * (![p, q, w] : Fin 3 → ℕ) k ≤ (i k).val ∧ (i k).val < f k * (![p, q, w] : Fin 3 → ℕ) k + (![p, q, w] : Fin 3 → ℕ) k := by
  subst h0 h1 h2
  match k with
  | ⟨0, _⟩ => exact g0
  | ⟨1, _⟩ => exact g1
  | ⟨2, _⟩ => exact g2

end Cert.Blocks

end
-- ==== Proof.Gate.lean ====
module

public import proofs.«01_k».proof.Proof.Blocks
public import proofs.«01_k».proof.Proof.Gen.GateKIdeal.Frame
public import proofs.«01_k».proof.Proof.Gen.GateRIdeal.Read

@[expose] public section

set_option maxRecDepth 16384

noncomputable section

open Idealize.ShloMosaic Idealize.ShloMosaic.TcCoe Idealize.SL.Sem
open Cert.Blocks

namespace Cert.Gate

open Cert.GateKIdeal

/-- The gradient that reaches the mixed rows: row `r` of the cotangent against row `j` of the output weight. -/
def dmix (d : Vec Ideal S2176x1024 .bf16) (w : Vec Ideal S1024x1024 .bf16) (r : Fin 2176) (j : Fin 1024) : EReal :=
  ∑ k : Fin 1024, d (ix2 r k) * w (ix2 j k)

/-- A gate: the logistic function of its logit and its bias. -/
def gate (x b : EReal) : EReal := Ideal.logistic (x + b)

/-- The gradient of a gate's logit at one element, from the gradient `g` of the mix and the gated value `y`. -/
def dLogit (g y x b : EReal) : EReal := g * y * (gate x b * (1 - gate x b))

/-- The gradient of a gated value at one element. -/
def dValue (g x b : EReal) : EReal := gate x b * g

/-- Column `j` of the projection, in the stretch of gate logits starting at column `5120 + 1024 h`. -/
abbrev pcol (h : Fin 2) (j : Fin 1024) : Fin 7168 := ⟨5120 + (h.val * 1024 + j.val), by have := j.isLt; have := h.isLt; omega⟩

/-- Entry `j` of the bias of gate `h`. -/
abbrev bcol (h : Fin 2) (j : Fin 1024) : Fin 2048 := ⟨h.val * 1024 + j.val, by have := j.isLt; have := h.isLt; omega⟩

/-- The gradient of the logits of gate `h`. -/
def dLogits (h : Fin 2) (d : Vec Ideal S2176x1024 .bf16) (w : Vec Ideal S1024x1024 .bf16) (p : Vec Ideal S2176x7168 .f32)
    (y : Vec Ideal S2176x1024 .f32) (b : Vec Ideal S1x2048 .f32) : Vec Ideal S2176x1024 .bf16 := fun i =>
  dLogit (dmix d w (i 0) (i 1)) (y (ix2 (i 0) (i 1))) (p (ix2 (i 0) (pcol h (i 1)))) (b (ix2 0 (bcol h (i 1))))

/-- The gradient of the values that gate `h` scales. -/
def dValues (h : Fin 2) (d : Vec Ideal S2176x1024 .bf16) (w : Vec Ideal S1024x1024 .bf16) (p : Vec Ideal S2176x7168 .f32)
    (b : Vec Ideal S1x2048 .f32) : Vec Ideal S2176x1024 .bf16 := fun i =>
  dValue (dmix d w (i 0) (i 1)) (p (ix2 (i 0) (pcol h (i 1)))) (b (ix2 0 (bcol h (i 1))))

/-- The gradient of the bias of gate `h`: the logits' gradient summed over the rows. -/
def dBias (h : Fin 2) (d : Vec Ideal S2176x1024 .bf16) (w : Vec Ideal S1024x1024 .bf16) (p : Vec Ideal S2176x7168 .f32)
    (y : Vec Ideal S2176x1024 .f32) (b : Vec Ideal S1x2048 .f32) : Vec Ideal S1x1024 .f32 := fun i =>
  ∑ r : Fin 2176, dLogit (dmix d w r (i 1)) (y (ix2 r (i 1))) (p (ix2 r (pcol h (i 1)))) (b (ix2 0 (bcol h (i 1))))

section Payloads

open Gen

variable (v0 : Vec Ideal S2176x1024 .bf16) (v1 : Vec Ideal S256x1024 .bf16) (v3 v4 : Vec Ideal S1x256 .f32)
  (v6 v8 : Vec Ideal S2176x256 .f32) (r : Fin 2176) (j : Fin 256)

/-- The product the kernel forms from two loaded blocks. -/
theorem pay8_apply : k0_pay8 v0 v1 (ix2 r j) = ∑ k : Fin 1024, v0 (ix2 r k) * v1 (ix2 j k) := by
  pointwise [k0_pay8]

/-- The first gate of the loaded blocks. -/
theorem pay10_apply : k0_pay10 v3 v4 v6 (ix2 r j) = gate (v6 (ix2 r j)) (v3 (ix2 0 j)) := by
  pointwise [k0_pay10, k0_pay9, gate]

/-- The second gate of the loaded blocks. -/
theorem pay11_apply : k0_pay11 v3 v4 v6 (ix2 r j) = gate (v6 (ix2 r j)) (v4 (ix2 0 j)) := by
  pointwise [k0_pay11, k0_pay9, gate]

theorem pay16_apply : k0_pay16 v0 v1 v3 v4 v6 v8 (ix2 r j)
    = dLogit (∑ k : Fin 1024, v0 (ix2 r k) * v1 (ix2 j k)) (v8 (ix2 r j)) (v6 (ix2 r j)) (v3 (ix2 0 j)) := by
  pointwise [k0_pay16]
  rw [pay8_apply, pay10_apply]
  rfl

theorem pay13_apply : k0_pay13 v0 v1 v3 v4 v6 v8 (ix2 r j)
    = dLogit (∑ k : Fin 1024, v0 (ix2 r k) * v1 (ix2 j k)) (v8 (ix2 r j)) (v6 (ix2 r j)) (v4 (ix2 0 j)) := by
  pointwise [k0_pay13]
  rw [pay8_apply, pay11_apply]
  rfl

theorem pay15_apply : k0_pay15 v0 v1 v3 v4 v6 (ix2 r j)
    = dValue (∑ k : Fin 1024, v0 (ix2 r k) * v1 (ix2 j k)) (v6 (ix2 r j)) (v3 (ix2 0 j)) := by
  pointwise [k0_pay15]
  rw [pay8_apply, pay10_apply]
  rfl

theorem pay12_apply : k0_pay12 v0 v1 v3 v4 v6 (ix2 r j)
    = dValue (∑ k : Fin 1024, v0 (ix2 r k) * v1 (ix2 j k)) (v6 (ix2 r j)) (v4 (ix2 0 j)) := by
  pointwise [k0_pay12]
  rw [pay8_apply, pay11_apply]
  rfl

/-- The first half of the bias gradient: the sum over the rows of the first gate's logit gradient. -/
theorem pay6_apply (v9 v7 : Vec Ideal S2176x256 .f32) : k0_pay6 (k0_pay14 v0 v1 v3 v4 v7 v9) (k0_pay17 v0 v1 v3 v4 v6 v8) (Scalar.ofBits .f32 0x00000000#32) (ix2 0 j)
    = ∑ r : Fin 2176, dLogit (∑ k : Fin 1024, v0 (ix2 r k) * v1 (ix2 j k)) (v8 (ix2 r j)) (v6 (ix2 r j)) (v3 (ix2 0 j)) := by
  pointwise [k0_pay6, k0_pay1, k0_pay14, k0_pay17]
  simp only [pay16_apply]
  try rfl

/-- The second half of the bias gradient. -/
theorem pay7_apply (v9 v7 : Vec Ideal S2176x256 .f32) : k0_pay7 (k0_pay14 v0 v1 v3 v4 v7 v9) (k0_pay17 v0 v1 v3 v4 v6 v8) (Scalar.ofBits .f32 0x00000000#32) (ix2 0 j)
    = ∑ r : Fin 2176, dLogit (∑ k : Fin 1024, v0 (ix2 r k) * v1 (ix2 j k)) (v9 (ix2 r j)) (v7 (ix2 r j)) (v4 (ix2 0 j)) := by
  pointwise [k0_pay7, k0_pay1, k0_pay14, k0_pay17]
  simp only [pay13_apply]
  try rfl

end Payloads

section Kernel

variable (m : (ℓ : Loc nD τ sig) → Buf (Elt Ideal) ℓ) (ρ : Dev nD → PrngReg)

open Gen

/-- Where each window's block lies. -/
theorem index_facts : ∀ t : Fin grid0.N,
    (win0_0.index t 0 = 0 ∧ win0_0.index t 1 = 0)
    ∧ (win0_1.index t 0 = t.val ∧ win0_1.index t 1 = 0)
    ∧ (win0_2.index t 0 = 0 ∧ win0_2.index t 1 = 20 + t.val)
    ∧ (win0_3.index t 0 = 0 ∧ win0_3.index t 1 = 24 + t.val)
    ∧ (win0_4.index t 0 = 0 ∧ win0_4.index t 1 = t.val)
    ∧ (win0_5.index t 0 = 0 ∧ win0_5.index t 1 = t.val)
    ∧ (win0_6.index t 0 = 0 ∧ win0_6.index t 1 = t.val)
    ∧ (win0_7.index t 0 = 0 ∧ win0_7.index t 1 = 4 + t.val)
    ∧ (win0_8.index t 0 = 0 ∧ win0_8.index t 1 = t.val)
    ∧ (win0_9.index t 0 = 0 ∧ win0_9.index t 1 = t.val)
    ∧ (win0_10.index t 0 = 0 ∧ win0_10.index t 1 = t.val)
    ∧ (win0_11.index t 0 = 0 ∧ win0_11.index t 1 = t.val)
    ∧ (win0_12.index t 0 = 0 ∧ win0_12.index t 1 = t.val)
    ∧ (win0_13.index t 0 = 0 ∧ win0_13.index t 1 = t.val) := by decide +kernel

/-- Column `j` of the column block point `t` works on. -/
abbrev col (t : Fin cfg0.N) (j : Fin 256) : Fin 1024 :=
  ⟨t.val * 256 + j.val, by have := j.isLt; have := t.isLt; have hN : cfg0.N = 4 := N_0; omega⟩

/-- Input window 0's block at a point. -/
theorem iblk0_apply (c : Dev nD) (t : Fin cfg0.N) (r : Fin 2176) (k : Fin 1024) :
    (iblk m c 0 t : Vec Ideal S2176x1024 .bf16) (ix2 r k) = m (c.tc.loc main_arg0) (ix2 r k) := by
  obtain ⟨⟨h0, h1⟩, -⟩ := index_facts t
  exact (View.read_apply _ _).trans (congrArg (m (c.tc.loc main_arg0)) (eq_ix2 (show win0_0.index t 0 * 2176 + 1 * r.val = r.val by rw [h0]; omega) (show win0_0.index t 1 * 1024 + 1 * k.val = k.val by rw [h1]; omega)))

/-- Input window 1's block at a point. -/
theorem iblk1_apply (c : Dev nD) (t : Fin cfg0.N) (j : Fin 256) (k : Fin 1024) :
    (iblk m c 1 t : Vec Ideal S256x1024 .bf16) (ix2 j k) = m (c.tc.loc main_arg1) (ix2 (col t j) k) := by
  obtain ⟨-, ⟨h0, h1⟩, -⟩ := index_facts t
  exact (View.read_apply _ _).trans (congrArg (m (c.tc.loc main_arg1)) (eq_ix2 (show win0_1.index t 0 * 256 + 1 * j.val = t.val * 256 + j.val by rw [h0]; omega) (show win0_1.index t 1 * 1024 + 1 * k.val = k.val by rw [h1]; omega)))

/-- Input window 2's block at a point. -/
theorem iblk2_apply (c : Dev nD) (t : Fin cfg0.N) (r : Fin 2176) (j : Fin 256) :
    (iblk m c 2 t : Vec Ideal S2176x256 .f32) (ix2 r j) = m (c.tc.loc main_arg2) (ix2 r (pcol 0 (col t j))) := by
  obtain ⟨-, -, ⟨h0, h1⟩, -⟩ := index_facts t
  exact (View.read_apply _ _).trans (congrArg (m (c.tc.loc main_arg2)) (eq_ix2 (show win0_2.index t 0 * 2176 + 1 * r.val = r.val by rw [h0]; omega) (show win0_2.index t 1 * 256 + 1 * j.val = 5120 + (0 * 1024 + (t.val * 256 + j.val)) by rw [h1]; omega)))

/-- Input window 3's block at a point. -/
theorem iblk3_apply (c : Dev nD) (t : Fin cfg0.N) (r : Fin 2176) (j : Fin 256) :
    (iblk m c 3 t : Vec Ideal S2176x256 .f32) (ix2 r j) = m (c.tc.loc main_arg2) (ix2 r (pcol 1 (col t j))) := by
  obtain ⟨-, -, -, ⟨h0, h1⟩, -⟩ := index_facts t
  exact (View.read_apply _ _).trans (congrArg (m (c.tc.loc main_arg2)) (eq_ix2 (show win0_3.index t 0 * 2176 + 1 * r.val = r.val by rw [h0]; omega) (show win0_3.index t 1 * 256 + 1 * j.val = 5120 + (1 * 1024 + (t.val * 256 + j.val)) by rw [h1]; omega)))

/-- Input window 4's block at a point. -/
theorem iblk4_apply (c : Dev nD) (t : Fin cfg0.N) (r : Fin 2176) (j : Fin 256) :
    (iblk m c 4 t : Vec Ideal S2176x256 .f32) (ix2 r j) = m (c.tc.loc main_arg3) (ix2 r (col t j)) := by
  obtain ⟨-, -, -, -, ⟨h0, h1⟩, -⟩ := index_facts t
  exact (View.read_apply _ _).trans (congrArg (m (c.tc.loc main_arg3)) (eq_ix2 (show win0_4.index t 0 * 2176 + 1 * r.val = r.val by rw [h0]; omega) (show win0_4.index t 1 * 256 + 1 * j.val = t.val * 256 + j.val by rw [h1]; omega)))

/-- Input window 5's block at a point. -/
theorem iblk5_apply (c : Dev nD) (t : Fin cfg0.N) (r : Fin 2176) (j : Fin 256) :
    (iblk m c 5 t : Vec Ideal S2176x256 .f32) (ix2 r j) = m (c.tc.loc main_arg4) (ix2 r (col t j)) := by
  obtain ⟨-, -, -, -, -, ⟨h0, h1⟩, -⟩ := index_facts t
  exact (View.read_apply _ _).trans (congrArg (m (c.tc.loc main_arg4)) (eq_ix2 (show win0_5.index t 0 * 2176 + 1 * r.val = r.val by rw [h0]; omega) (show win0_5.index t 1 * 256 + 1 * j.val = t.val * 256 + j.val by rw [h1]; omega)))

/-- Input window 6's block at a point. -/
theorem iblk6_apply (c : Dev nD) (t : Fin cfg0.N) (j : Fin 256) :
    (iblk m c 6 t : Vec Ideal S1x256 .f32) (ix2 0 j) = m (c.tc.loc main_arg5) (ix2 0 (bcol 0 (col t j))) := by
  obtain ⟨-, -, -, -, -, -, ⟨h0, h1⟩, -⟩ := index_facts t
  exact (View.read_apply _ _).trans (congrArg (m (c.tc.loc main_arg5)) (eq_ix2 (show win0_6.index t 0 * 1 + 1 * 0 = 0 by omega) (show win0_6.index t 1 * 256 + 1 * j.val = 0 * 1024 + (t.val * 256 + j.val) by rw [h1]; omega)))

/-- Input window 7's block at a point. -/
theorem iblk7_apply (c : Dev nD) (t : Fin cfg0.N) (j : Fin 256) :
    (iblk m c 7 t : Vec Ideal S1x256 .f32) (ix2 0 j) = m (c.tc.loc main_arg5) (ix2 0 (bcol 1 (col t j))) := by
  obtain ⟨-, -, -, -, -, -, -, ⟨h0, h1⟩, -⟩ := index_facts t
  exact (View.read_apply _ _).trans (congrArg (m (c.tc.loc main_arg5)) (eq_ix2 (show win0_7.index t 0 * 1 + 1 * 0 = 0 by omega) (show win0_7.index t 1 * 256 + 1 * j.val = 1 * 1024 + (t.val * 256 + j.val) by rw [h1]; omega)))

/-- Result 0 as a function of the launch contents. -/
abbrev res8 (c : Dev nD) : Buf (Elt Ideal) ((c : Thread nD τ).loc main_v0_0) :=
  dLogits 0 (m (c.tc.loc main_arg0)) (m (c.tc.loc main_arg1)) (m (c.tc.loc main_arg2)) (m (c.tc.loc main_arg3)) (m (c.tc.loc main_arg5))

/-- Result 1 as a function of the launch contents. -/
abbrev res9 (c : Dev nD) : Buf (Elt Ideal) ((c : Thread nD τ).loc main_v0_1) :=
  dLogits 1 (m (c.tc.loc main_arg0)) (m (c.tc.loc main_arg1)) (m (c.tc.loc main_arg2)) (m (c.tc.loc main_arg4)) (m (c.tc.loc main_arg5))

/-- Result 2 as a function of the launch contents. -/
abbrev res10 (c : Dev nD) : Buf (Elt Ideal) ((c : Thread nD τ).loc main_v0_2) :=
  dValues 0 (m (c.tc.loc main_arg0)) (m (c.tc.loc main_arg1)) (m (c.tc.loc main_arg2)) (m (c.tc.loc main_arg5))

/-- Result 3 as a function of the launch contents. -/
abbrev res11 (c : Dev nD) : Buf (Elt Ideal) ((c : Thread nD τ).loc main_v0_3) :=
  dValues 1 (m (c.tc.loc main_arg0)) (m (c.tc.loc main_arg1)) (m (c.tc.loc main_arg2)) (m (c.tc.loc main_arg5))

/-- Result 4 as a function of the launch contents. -/
abbrev res12 (c : Dev nD) : Buf (Elt Ideal) ((c : Thread nD τ).loc main_v0_4) :=
  dBias 0 (m (c.tc.loc main_arg0)) (m (c.tc.loc main_arg1)) (m (c.tc.loc main_arg2)) (m (c.tc.loc main_arg3)) (m (c.tc.loc main_arg5))

/-- Result 5 as a function of the launch contents. -/
abbrev res13 (c : Dev nD) : Buf (Elt Ideal) ((c : Thread nD τ).loc main_v0_5) :=
  dBias 1 (m (c.tc.loc main_arg0)) (m (c.tc.loc main_arg1)) (m (c.tc.loc main_arg2)) (m (c.tc.loc main_arg4)) (m (c.tc.loc main_arg5))

theorem ld0 (X : Vec Ideal S2176x1024 .bf16) : View.ld X r0_0 = X := View.ld_unit_zero zero2 _ X
theorem ld1 (X : Vec Ideal S256x1024 .bf16) : View.ld X r0_1 = X := View.ld_unit_zero zero2 _ X
theorem ld2 (X : Vec Ideal S1x256 .f32) : View.ld X r0_2 = X := View.ld_unit_zero zero2 _ X
theorem ld3 (X : Vec Ideal S2176x256 .f32) : View.ld X r0_3 = X := View.ld_unit_zero zero2 _ X
theorem canon2 (X : Vec Ideal S1x256 .f32) : View.canon (Val := Elt Ideal) [⟨r0_2, X⟩] = X := View.canon_unit_zero zero2 _ X
theorem canon3 (X : Vec Ideal S2176x256 .bf16) : View.canon (Val := Elt Ideal) [⟨r0_3, X⟩] = X := View.canon_unit_zero zero2 _ X

/-- What a grid point leaves in result 0's buffer. -/
theorem out_apply8 (c : Dev nD) (t : Fin cfg0.N) (y : S2176x256.Idx) :
    out0_8 (iblk m c 0 t) (iblk m c 1 t) (iblk m c 2 t) (iblk m c 3 t) (iblk m c 4 t) (iblk m c 5 t) (iblk m c 6 t) (iblk m c 7 t) y = res8 m c (ix2 (y 0) (col t (y 1))) := by
  obtain ⟨r, j, rfl⟩ := idx2 (R := 2176) (C := 256) y
  unfold out0_8
  rw [canon3]
  simp only [ld0, ld1, ld2, ld3]
  show k0_pay16 (F := Ideal) _ _ _ _ _ _ (ix2 r j) = _
  refine (pay16_apply _ _ _ _ _ _ r j).trans ?_
  simp only [iblk0_apply, iblk1_apply, iblk2_apply, iblk3_apply, iblk4_apply, iblk5_apply, iblk6_apply, iblk7_apply]
  rfl

/-- What a grid point leaves in result 1's buffer. -/
theorem out_apply9 (c : Dev nD) (t : Fin cfg0.N) (y : S2176x256.Idx) :
    out0_9 (iblk m c 0 t) (iblk m c 1 t) (iblk m c 2 t) (iblk m c 3 t) (iblk m c 4 t) (iblk m c 5 t) (iblk m c 6 t) (iblk m c 7 t) y = res9 m c (ix2 (y 0) (col t (y 1))) := by
  obtain ⟨r, j, rfl⟩ := idx2 (R := 2176) (C := 256) y
  unfold out0_9
  rw [canon3]
  simp only [ld0, ld1, ld2, ld3]
  show k0_pay13 (F := Ideal) _ _ _ _ _ _ (ix2 r j) = _
  refine (pay13_apply _ _ _ _ _ _ r j).trans ?_
  simp only [iblk0_apply, iblk1_apply, iblk2_apply, iblk3_apply, iblk4_apply, iblk5_apply, iblk6_apply, iblk7_apply]
  rfl

/-- What a grid point leaves in result 2's buffer. -/
theorem out_apply10 (c : Dev nD) (t : Fin cfg0.N) (y : S2176x256.Idx) :
    out0_10 (iblk m c 0 t) (iblk m c 1 t) (iblk m c 2 t) (iblk m c 3 t) (iblk m c 4 t) (iblk m c 5 t) (iblk m c 6 t) (iblk m c 7 t) y = res10 m c (ix2 (y 0) (col t (y 1))) := by
  obtain ⟨r, j, rfl⟩ := idx2 (R := 2176) (C := 256) y
  unfold out0_10
  rw [canon3]
  simp only [ld0, ld1, ld2, ld3]
  show k0_pay15 (F := Ideal) _ _ _ _ _ (ix2 r j) = _
  refine (pay15_apply _ _ _ _ _ r j).trans ?_
  simp only [iblk0_apply, iblk1_apply, iblk2_apply, iblk3_apply, iblk4_apply, iblk5_apply, iblk6_apply, iblk7_apply]
  rfl

/-- What a grid point leaves in result 3's buffer. -/
theorem out_apply11 (c : Dev nD) (t : Fin cfg0.N) (y : S2176x256.Idx) :
    out0_11 (iblk m c 0 t) (iblk m c 1 t) (iblk m c 2 t) (iblk m c 3 t) (iblk m c 4 t) (iblk m c 5 t) (iblk m c 6 t) (iblk m c 7 t) y = res11 m c (ix2 (y 0) (col t (y 1))) := by
  obtain ⟨r, j, rfl⟩ := idx2 (R := 2176) (C := 256) y
  unfold out0_11
  rw [canon3]
  simp only [ld0, ld1, ld2, ld3]
  show k0_pay12 (F := Ideal) _ _ _ _ _ (ix2 r j) = _
  refine (pay12_apply _ _ _ _ _ r j).trans ?_
  simp only [iblk0_apply, iblk1_apply, iblk2_apply, iblk3_apply, iblk4_apply, iblk5_apply, iblk6_apply, iblk7_apply]
  rfl

/-- What a grid point leaves in result 4's buffer. -/
theorem out_apply12 (c : Dev nD) (t : Fin cfg0.N) (y : S1x256.Idx) :
    out0_12 (iblk m c 0 t) (iblk m c 1 t) (iblk m c 2 t) (iblk m c 3 t) (iblk m c 4 t) (iblk m c 5 t) (iblk m c 6 t) (iblk m c 7 t) y = res12 m c (ix2 0 (col t (y 1))) := by
  obtain ⟨r, j, rfl⟩ := idx2 (R := 1) (C := 256) y
  obtain rfl : r = 0 := Subsingleton.elim _ _
  unfold out0_12 k0_pay18 k0_pay19
  rw [canon2]
  simp only [ld0, ld1, ld2, ld3]
  refine (pay6_apply _ _ _ _ _ _ j _ _).trans ?_
  simp only [iblk0_apply, iblk1_apply, iblk2_apply, iblk3_apply, iblk4_apply, iblk5_apply, iblk6_apply, iblk7_apply]
  rfl

/-- What a grid point leaves in result 5's buffer. -/
theorem out_apply13 (c : Dev nD) (t : Fin cfg0.N) (y : S1x256.Idx) :
    out0_13 (iblk m c 0 t) (iblk m c 1 t) (iblk m c 2 t) (iblk m c 3 t) (iblk m c 4 t) (iblk m c 5 t) (iblk m c 6 t) (iblk m c 7 t) y = res13 m c (ix2 0 (col t (y 1))) := by
  obtain ⟨r, j, rfl⟩ := idx2 (R := 1) (C := 256) y
  obtain rfl : r = 0 := Subsingleton.elim _ _
  unfold out0_13 k0_pay18 k0_pay19
  rw [canon2]
  simp only [ld0, ld1, ld2, ld3]
  refine (pay7_apply _ _ _ _ _ _ j _ _).trans ?_
  simp only [iblk0_apply, iblk1_apply, iblk2_apply, iblk3_apply, iblk4_apply, iblk5_apply, iblk6_apply, iblk7_apply]
  rfl

/-- What a point writes back through window 8. -/
theorem flushed8_eq (c : Dev nD) (t : Fin cfg0.N) :
    (dats m 0 c).flushed 8 t = ((cfg0.win 8).blk t).view.read (Elt Ideal) (res8 m c) := by
  obtain ⟨-, -, -, -, -, -, -, -, ⟨h0, h1⟩, -⟩ := index_facts t
  show (cfg0.win 8).cut (grid0.coords t) ((dats m 0 c).after 8 t) = _
  rw [after0_8]
  funext y
  rw [View.read_apply]
  refine (out_apply8 m c t y).trans (congrArg (res8 m c) ?_)
  exact Eq.symm (eq_ix2 (show win0_8.index t 0 * 2176 + 1 * (y 0).val = (y 0).val by rw [h0]; omega) (show win0_8.index t 1 * 256 + 1 * (y 1).val = t.val * 256 + (y 1).val by rw [h1]; omega))

/-- The blocks cover result 8. -/
theorem cover8 (i : S2176x1024.Idx) : ∃ t : Fin cfg0.N, (cfg0.win 8).flush t = true ∧ i ∈ ((cfg0.win 8).blk t).view.set := by
  have i0 : (i 0).val < 2176 := (i 0).isLt
  have i1 : (i 1).val < 1024 := (i 1).isLt
  have hN : cfg0.N = 4 := N_0
  obtain ⟨t, ht⟩ : ∃ t : Fin cfg0.N, t.val = (i 1).val / 256 := ⟨⟨_, by omega⟩, rfl⟩
  obtain ⟨-, -, -, -, -, -, -, -, ⟨h0, h1⟩, -⟩ := index_facts t
  refine ⟨t, flush0_8 t, ?_⟩
  show i ∈ ((View.whole main_v0_0).slice (win0_8.rect t)).set
  rw [View.set_slice_whole, Rect.mem_set_unit]
  exact in_block2 (p := 2176) (q := 256) h0 h1 (by omega) (by omega)

/-- Result 8 after the run. -/
theorem final8 (c : Dev nD) : (dats m 0 c).arrAt 8 cfg0.N = res8 m c :=
  (dats m 0 c).arrAt_eq_of_cover 8 (res8 m c) (fun t _ => flushed8_eq m c t) cover8

/-- What a point writes back through window 9. -/
theorem flushed9_eq (c : Dev nD) (t : Fin cfg0.N) :
    (dats m 0 c).flushed 9 t = ((cfg0.win 9).blk t).view.read (Elt Ideal) (res9 m c) := by
  obtain ⟨-, -, -, -, -, -, -, -, -, ⟨h0, h1⟩, -⟩ := index_facts t
  show (cfg0.win 9).cut (grid0.coords t) ((dats m 0 c).after 9 t) = _
  rw [after0_9]
  funext y
  rw [View.read_apply]
  refine (out_apply9 m c t y).trans (congrArg (res9 m c) ?_)
  exact Eq.symm (eq_ix2 (show win0_9.index t 0 * 2176 + 1 * (y 0).val = (y 0).val by rw [h0]; omega) (show win0_9.index t 1 * 256 + 1 * (y 1).val = t.val * 256 + (y 1).val by rw [h1]; omega))

/-- The blocks cover result 9. -/
theorem cover9 (i : S2176x1024.Idx) : ∃ t : Fin cfg0.N, (cfg0.win 9).flush t = true ∧ i ∈ ((cfg0.win 9).blk t).view.set := by
  have i0 : (i 0).val < 2176 := (i 0).isLt
  have i1 : (i 1).val < 1024 := (i 1).isLt
  have hN : cfg0.N = 4 := N_0
  obtain ⟨t, ht⟩ : ∃ t : Fin cfg0.N, t.val = (i 1).val / 256 := ⟨⟨_, by omega⟩, rfl⟩
  obtain ⟨-, -, -, -, -, -, -, -, -, ⟨h0, h1⟩, -⟩ := index_facts t
  refine ⟨t, flush0_9 t, ?_⟩
  show i ∈ ((View.whole main_v0_1).slice (win0_9.rect t)).set
  rw [View.set_slice_whole, Rect.mem_set_unit]
  exact in_block2 (p := 2176) (q := 256) h0 h1 (by omega) (by omega)

/-- Result 9 after the run. -/
theorem final9 (c : Dev nD) : (dats m 0 c).arrAt 9 cfg0.N = res9 m c :=
  (dats m 0 c).arrAt_eq_of_cover 9 (res9 m c) (fun t _ => flushed9_eq m c t) cover9

/-- What a point writes back through window 10. -/
theorem flushed10_eq (c : Dev nD) (t : Fin cfg0.N) :
    (dats m 0 c).flushed 10 t = ((cfg0.win 10).blk t).view.read (Elt Ideal) (res10 m c) := by
  obtain ⟨-, -, -, -, -, -, -, -, -, -, ⟨h0, h1⟩, -⟩ := index_facts t
  show (cfg0.win 10).cut (grid0.coords t) ((dats m 0 c).after 10 t) = _
  rw [after0_10]
  funext y
  rw [View.read_apply]
  refine (out_apply10 m c t y).trans (congrArg (res10 m c) ?_)
  exact Eq.symm (eq_ix2 (show win0_10.index t 0 * 2176 + 1 * (y 0).val = (y 0).val by rw [h0]; omega) (show win0_10.index t 1 * 256 + 1 * (y 1).val = t.val * 256 + (y 1).val by rw [h1]; omega))

/-- The blocks cover result 10. -/
theorem cover10 (i : S2176x1024.Idx) : ∃ t : Fin cfg0.N, (cfg0.win 10).flush t = true ∧ i ∈ ((cfg0.win 10).blk t).view.set := by
  have i0 : (i 0).val < 2176 := (i 0).isLt
  have i1 : (i 1).val < 1024 := (i 1).isLt
  have hN : cfg0.N = 4 := N_0
  obtain ⟨t, ht⟩ : ∃ t : Fin cfg0.N, t.val = (i 1).val / 256 := ⟨⟨_, by omega⟩, rfl⟩
  obtain ⟨-, -, -, -, -, -, -, -, -, -, ⟨h0, h1⟩, -⟩ := index_facts t
  refine ⟨t, flush0_10 t, ?_⟩
  show i ∈ ((View.whole main_v0_2).slice (win0_10.rect t)).set
  rw [View.set_slice_whole, Rect.mem_set_unit]
  exact in_block2 (p := 2176) (q := 256) h0 h1 (by omega) (by omega)

/-- Result 10 after the run. -/
theorem final10 (c : Dev nD) : (dats m 0 c).arrAt 10 cfg0.N = res10 m c :=
  (dats m 0 c).arrAt_eq_of_cover 10 (res10 m c) (fun t _ => flushed10_eq m c t) cover10

/-- What a point writes back through window 11. -/
theorem flushed11_eq (c : Dev nD) (t : Fin cfg0.N) :
    (dats m 0 c).flushed 11 t = ((cfg0.win 11).blk t).view.read (Elt Ideal) (res11 m c) := by
  obtain ⟨-, -, -, -, -, -, -, -, -, -, -, ⟨h0, h1⟩, -⟩ := index_facts t
  show (cfg0.win 11).cut (grid0.coords t) ((dats m 0 c).after 11 t) = _
  rw [after0_11]
  funext y
  rw [View.read_apply]
  refine (out_apply11 m c t y).trans (congrArg (res11 m c) ?_)
  exact Eq.symm (eq_ix2 (show win0_11.index t 0 * 2176 + 1 * (y 0).val = (y 0).val by rw [h0]; omega) (show win0_11.index t 1 * 256 + 1 * (y 1).val = t.val * 256 + (y 1).val by rw [h1]; omega))

/-- The blocks cover result 11. -/
theorem cover11 (i : S2176x1024.Idx) : ∃ t : Fin cfg0.N, (cfg0.win 11).flush t = true ∧ i ∈ ((cfg0.win 11).blk t).view.set := by
  have i0 : (i 0).val < 2176 := (i 0).isLt
  have i1 : (i 1).val < 1024 := (i 1).isLt
  have hN : cfg0.N = 4 := N_0
  obtain ⟨t, ht⟩ : ∃ t : Fin cfg0.N, t.val = (i 1).val / 256 := ⟨⟨_, by omega⟩, rfl⟩
  obtain ⟨-, -, -, -, -, -, -, -, -, -, -, ⟨h0, h1⟩, -⟩ := index_facts t
  refine ⟨t, flush0_11 t, ?_⟩
  show i ∈ ((View.whole main_v0_3).slice (win0_11.rect t)).set
  rw [View.set_slice_whole, Rect.mem_set_unit]
  exact in_block2 (p := 2176) (q := 256) h0 h1 (by omega) (by omega)

/-- Result 11 after the run. -/
theorem final11 (c : Dev nD) : (dats m 0 c).arrAt 11 cfg0.N = res11 m c :=
  (dats m 0 c).arrAt_eq_of_cover 11 (res11 m c) (fun t _ => flushed11_eq m c t) cover11

/-- What a point writes back through window 12. -/
theorem flushed12_eq (c : Dev nD) (t : Fin cfg0.N) :
    (dats m 0 c).flushed 12 t = ((cfg0.win 12).blk t).view.read (Elt Ideal) (res12 m c) := by
  obtain ⟨-, -, -, -, -, -, -, -, -, -, -, -, ⟨h0, h1⟩, -⟩ := index_facts t
  show (cfg0.win 12).cut (grid0.coords t) ((dats m 0 c).after 12 t) = _
  rw [after0_12]
  funext y
  rw [View.read_apply]
  refine (out_apply12 m c t y).trans (congrArg (res12 m c) ?_)
  funext a
  apply Fin.ext
  have y0 : (y 0).val = 0 := by have : (y 0).val < 1 := (y 0).isLt; omega
  match a with
  | ⟨0, _⟩ => show 0 = win0_12.index t 0 * 1 + 1 * (y 0).val; omega
  | ⟨1, _⟩ => show t.val * 256 + (y 1).val = win0_12.index t 1 * 256 + 1 * (y 1).val; rw [h1]; omega

/-- The blocks cover result 12. -/
theorem cover12 (i : S1x1024.Idx) : ∃ t : Fin cfg0.N, (cfg0.win 12).flush t = true ∧ i ∈ ((cfg0.win 12).blk t).view.set := by
  have i0 : (i 0).val < 1 := (i 0).isLt
  have i1 : (i 1).val < 1024 := (i 1).isLt
  have hN : cfg0.N = 4 := N_0
  obtain ⟨t, ht⟩ : ∃ t : Fin cfg0.N, t.val = (i 1).val / 256 := ⟨⟨_, by omega⟩, rfl⟩
  obtain ⟨-, -, -, -, -, -, -, -, -, -, -, -, ⟨h0, h1⟩, -⟩ := index_facts t
  refine ⟨t, flush0_12 t, ?_⟩
  show i ∈ ((View.whole main_v0_4).slice (win0_12.rect t)).set
  rw [View.set_slice_whole, Rect.mem_set_unit]
  exact in_block2 (p := 1) (q := 256) h0 h1 (by omega) (by omega)

/-- Result 12 after the run. -/
theorem final12 (c : Dev nD) : (dats m 0 c).arrAt 12 cfg0.N = res12 m c :=
  (dats m 0 c).arrAt_eq_of_cover 12 (res12 m c) (fun t _ => flushed12_eq m c t) cover12

/-- What a point writes back through window 13. -/
theorem flushed13_eq (c : Dev nD) (t : Fin cfg0.N) :
    (dats m 0 c).flushed 13 t = ((cfg0.win 13).blk t).view.read (Elt Ideal) (res13 m c) := by
  obtain ⟨-, -, -, -, -, -, -, -, -, -, -, -, -, ⟨h0, h1⟩⟩ := index_facts t
  show (cfg0.win 13).cut (grid0.coords t) ((dats m 0 c).after 13 t) = _
  rw [after0_13]
  funext y
  rw [View.read_apply]
  refine (out_apply13 m c t y).trans (congrArg (res13 m c) ?_)
  funext a
  apply Fin.ext
  have y0 : (y 0).val = 0 := by have : (y 0).val < 1 := (y 0).isLt; omega
  match a with
  | ⟨0, _⟩ => show 0 = win0_13.index t 0 * 1 + 1 * (y 0).val; omega
  | ⟨1, _⟩ => show t.val * 256 + (y 1).val = win0_13.index t 1 * 256 + 1 * (y 1).val; rw [h1]; omega

/-- The blocks cover result 13. -/
theorem cover13 (i : S1x1024.Idx) : ∃ t : Fin cfg0.N, (cfg0.win 13).flush t = true ∧ i ∈ ((cfg0.win 13).blk t).view.set := by
  have i0 : (i 0).val < 1 := (i 0).isLt
  have i1 : (i 1).val < 1024 := (i 1).isLt
  have hN : cfg0.N = 4 := N_0
  obtain ⟨t, ht⟩ : ∃ t : Fin cfg0.N, t.val = (i 1).val / 256 := ⟨⟨_, by omega⟩, rfl⟩
  obtain ⟨-, -, -, -, -, -, -, -, -, -, -, -, -, ⟨h0, h1⟩⟩ := index_facts t
  refine ⟨t, flush0_13 t, ?_⟩
  show i ∈ ((View.whole main_v0_5).slice (win0_13.rect t)).set
  rw [View.set_slice_whole, Rect.mem_set_unit]
  exact in_block2 (p := 1) (q := 256) h0 h1 (by omega) (by omega)

/-- Result 13 after the run. -/
theorem final13 (c : Dev nD) : (dats m 0 c).arrAt 13 cfg0.N = res13 m c :=
  (dats m 0 c).arrAt_eq_of_cover 13 (res13 m c) (fun t _ => flushed13_eq m c t) cover13

/-- The run: every result is the stated function of the launch contents, and the arguments are kept. -/
theorem run : θ_run defs (onTc (τ := τ) (main (F := Ideal))) ⟨m, fun _ => 0, ρ⟩ fun r => ∀ c : Dev nD,
    r.2.mem (c.tc.loc main_v0_0) = res8 m c
    ∧ r.2.mem (c.tc.loc main_v0_1) = res9 m c
    ∧ r.2.mem (c.tc.loc main_v0_2) = res10 m c
    ∧ r.2.mem (c.tc.loc main_v0_3) = res11 m c
    ∧ r.2.mem (c.tc.loc main_v0_4) = res12 m c
    ∧ r.2.mem (c.tc.loc main_v0_5) = res13 m c
    ∧ r.2.mem (c.tc.loc main_arg0) = m (c.tc.loc main_arg0)
    ∧ r.2.mem (c.tc.loc main_arg1) = m (c.tc.loc main_arg1)
    ∧ r.2.mem (c.tc.loc main_arg2) = m (c.tc.loc main_arg2)
    ∧ r.2.mem (c.tc.loc main_arg3) = m (c.tc.loc main_arg3)
    ∧ r.2.mem (c.tc.loc main_arg4) = m (c.tc.loc main_arg4)
    ∧ r.2.mem (c.tc.loc main_arg5) = m (c.tc.loc main_arg5) :=
  (θ_run _ _ _).mono (fun r h c => ⟨((h c).1 8).trans (final8 m c),
    ((h c).1 9).trans (final9 m c),
    ((h c).1 10).trans (final10 m c),
    ((h c).1 11).trans (final11 m c),
    ((h c).1 12).trans (final12 m c),
    ((h c).1 13).trans (final13 m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 4).trans (((dats m 0 c).arrAt_in 4 rfl _).trans ((A_eq m c 4).trans (V_main_arg3 m c))),
    ((h c).1 5).trans (((dats m 0 c).arrAt_in 5 rfl _).trans ((A_eq m c 5).trans (V_main_arg4 m c))),
    ((h c).1 6).trans (((dats m 0 c).arrAt_in 6 rfl _).trans ((A_eq m c 6).trans (V_main_arg5 m c)))⟩)
    (run_main m ρ)

end Kernel

section Reference

open Cert.GateRIdeal.Read

variable (x0 : Vec Ideal S2176x1024 .bf16) (x1 : Vec Ideal S1024x1024 .bf16) (x2 : Vec Ideal S2176x7168 .f32)
  (x3 x4 : Vec Ideal S2176x1024 .f32) (x5 : Vec Ideal S1x2048 .f32) (r : Fin 2176) (j : Fin 1024)

/-- The reference's gates, read at an index. -/
theorem ref_gate (h : Fin 2) : val_main_v9 (F := Ideal) x2 x5 (ix2 r (bcol h j)) = gate (x2 (ix2 r (pcol h j))) (x5 (ix2 0 (bcol h j))) := by
  unfold gate pcol bcol
  pointwise [val_main_v9, val_main_v8, val_main_cst_0, val_main_v7, val_main_v6, val_main_cst, val_main_v5, val_main_v4, val_main_v3, val_main_v2, val_main_v0, Ideal.logistic]

/-- The reference's product, read at an index. -/
theorem ref_dmix : val_main_v20 (F := Ideal) x0 x1 (ix2 r j) = dmix x0 x1 r j := by
  pointwise [val_main_v20, val_main_v19, val_main_v1, dmix]

/-- The reference's gradient of the first gate's logits, before the two halves are cut apart. -/
theorem ref_logit0 : val_main_v26 (F := Ideal) x0 x1 x2 x3 x4 x5 (ix2 r (bcol 0 j)) = dLogits 0 x0 x1 x2 x3 x5 (ix2 r j) := by
  unfold val_main_v26 val_main_v25
  pointwise [val_main_v12, val_main_v11, val_main_v10, val_main_cst_1, val_main_v24, val_main_v22]
  rw [ref_gate, ref_dmix]
  rfl

/-- The same of the second gate. -/
theorem ref_logit1 : val_main_v26 (F := Ideal) x0 x1 x2 x3 x4 x5 (ix2 r (bcol 1 j)) = dLogits 1 x0 x1 x2 x4 x5 (ix2 r j) := by
  unfold val_main_v26 val_main_v25
  pointwise [val_main_v12, val_main_v11, val_main_v10, val_main_cst_1, val_main_v24, val_main_v22]
  rw [ref_gate, ref_dmix]
  rfl

theorem b0 (h : j.val < 2048) : (⟨j.val, h⟩ : Fin 2048) = bcol 0 j := Fin.ext (by show j.val = 0 * 1024 + j.val; omega)
theorem b1 (h : 1024 + j.val < 2048) : (⟨1024 + j.val, h⟩ : Fin 2048) = bcol 1 j := Fin.ext (by show 1024 + j.val = 1 * 1024 + j.val; omega)

/-- The reference's first result, read at an index. -/
theorem ref30 : val_main_v30 (F := Ideal) x0 x1 x2 x3 x4 x5 (ix2 r j) = dLogits 0 x0 x1 x2 x3 x5 (ix2 r j) := by
  pointwise [val_main_v30, val_main_v29]
  rw [b0, ref_logit0]

/-- The reference's second result, read at an index. -/
theorem ref32 : val_main_v32 (F := Ideal) x0 x1 x2 x3 x4 x5 (ix2 r j) = dLogits 1 x0 x1 x2 x4 x5 (ix2 r j) := by
  pointwise [val_main_v32, val_main_v31]
  rw [b1, ref_logit1]

/-- The reference's third result, read at an index. -/
theorem ref33 : val_main_v33 (F := Ideal) x0 x1 x2 x5 (ix2 r j) = dValues 0 x0 x1 x2 x5 (ix2 r j) := by
  pointwise [val_main_v33, val_main_v23, val_main_v13]
  rw [b0, ref_gate, ref_dmix]
  rfl

/-- The reference's fourth result, read at an index. -/
theorem ref34 : val_main_v34 (F := Ideal) x0 x1 x2 x5 (ix2 r j) = dValues 1 x0 x1 x2 x5 (ix2 r j) := by
  pointwise [val_main_v34, val_main_v21, val_main_v14]
  rw [b1, ref_gate, ref_dmix]
  rfl

/-- The reference's fifth result, read at an index. -/
theorem ref35 : val_main_v35 (F := Ideal) x0 x1 x2 x3 x4 x5 (ix2 0 j) = dBias 0 x0 x1 x2 x3 x5 (ix2 0 j) := by
  pointwise [val_main_v35, val_main_v28, val_main_v27, val_main_cst_2]
  rw [b0]
  simp only [ref_logit0]
  rfl

/-- The reference's sixth result, read at an index. -/
theorem ref36 : val_main_v36 (F := Ideal) x0 x1 x2 x3 x4 x5 (ix2 0 j) = dBias 1 x0 x1 x2 x4 x5 (ix2 0 j) := by
  pointwise [val_main_v36, val_main_v28, val_main_v27, val_main_cst_2]
  rw [b1]
  simp only [ref_logit1]
  rfl

end Reference

/-- The kernel computes the reference's six gradients. -/
theorem algebraic : Cert.algebraic_GateKIdeal_GateRIdeal := by
  intro m g m' g' _ hag
  refine ⟨fun c => res8 m c, fun c => res9 m c, fun c => res10 m c, fun c => res11 m c, fun c => res12 m c, fun c => res13 m c, ?_, ?_⟩
  · exact run m g
  · refine (θ_run _ _ _).mono (fun r h c => ?_) (GateRIdeal.Value.run (F := Ideal) m' g')
    obtain ⟨a0, a1, a2, a3, a4, a5⟩ := hag c
    have h := h c
    refine ⟨h.1.trans ?_, h.2.1.trans ?_, h.2.2.1.trans ?_, h.2.2.2.1.trans ?_, h.2.2.2.2.1.trans ?_, h.2.2.2.2.2.1.trans ?_, h.2.2.2.2.2.2⟩
    · rw [a0, a1, a2, a3, a4, a5]
      refine (GateRIdeal.Read.val_main_v30_eq (F := Ideal) _ _ _ _ _ _).trans ?_
      funext i
      obtain ⟨a, b, rfl⟩ := idx2 (R := 2176) (C := 1024) i
      exact ref30 ..
    · rw [a0, a1, a2, a3, a4, a5]
      refine (GateRIdeal.Read.val_main_v32_eq (F := Ideal) _ _ _ _ _ _).trans ?_
      funext i
      obtain ⟨a, b, rfl⟩ := idx2 (R := 2176) (C := 1024) i
      exact ref32 ..
    · rw [a0, a1, a2, a5]
      refine (GateRIdeal.Read.val_main_v33_eq (F := Ideal) _ _ _ _).trans ?_
      funext i
      obtain ⟨a, b, rfl⟩ := idx2 (R := 2176) (C := 1024) i
      exact ref33 _ _ _ _ _ _
    · rw [a0, a1, a2, a5]
      refine (GateRIdeal.Read.val_main_v34_eq (F := Ideal) _ _ _ _).trans ?_
      funext i
      obtain ⟨a, b, rfl⟩ := idx2 (R := 2176) (C := 1024) i
      exact ref34 _ _ _ _ _ _
    · rw [a0, a1, a2, a3, a4, a5]
      refine (GateRIdeal.Read.val_main_v35_eq (F := Ideal) _ _ _ _ _ _).trans ?_
      funext i
      obtain ⟨a, b, rfl⟩ := idx2 (R := 1) (C := 1024) i
      obtain rfl : a = 0 := Subsingleton.elim _ _
      exact ref35 _ _ _ _ _ _ _
    · rw [a0, a1, a2, a3, a4, a5]
      refine (GateRIdeal.Read.val_main_v36_eq (F := Ideal) _ _ _ _ _ _).trans ?_
      funext i
      obtain ⟨a, b, rfl⟩ := idx2 (R := 1) (C := 1024) i
      obtain rfl : a = 0 := Subsingleton.elim _ _
      exact ref36 _ _ _ _ _ _ _

end Cert.Gate

end
-- ==== Proof.Ffn.lean ====
module

public import proofs.«01_k».proof.Proof.Blocks
public import proofs.«01_k».proof.Proof.Gen.FfnKIdeal.Value
public import proofs.«01_k».proof.Proof.Gen.FfnRIdeal.Read

@[expose] public section

set_option maxRecDepth 16384

noncomputable section

open Idealize.ShloMosaic Idealize.ShloMosaic.TcCoe Idealize.SL.Sem
open Cert.Blocks

namespace Cert.Ffn

open Cert.FfnKIdeal

/-- The gradient that reaches the gated product: row `r` of the cotangent against row `(j, c)` of the weight. -/
def dh (dy : Vec Ideal S2176x1024 .bf16) (w : Vec Ideal S4x704x1024 .bf16) (j : Fin 4) (r : Fin 2176) (c : Fin 704) : EReal :=
  ∑ k : Fin 1024, dy (ix2 r k) * w (ix3 j c k)

/-- The gradient of the gate branch `silu a` at one element. -/
def dA (g a b : EReal) : EReal :=
  g * b * Ideal.logistic a + a * (g * b) * (Ideal.logistic a * (1 - Ideal.logistic a))

/-- The gradient of the linear branch at one element. -/
def dB (g a : EReal) : EReal := a * Ideal.logistic a * g

/-- Both gradients, stacked on the leading axis. -/
def G (dy : Vec Ideal S2176x1024 .bf16) (w : Vec Ideal S4x704x1024 .bf16) (a b : Vec Ideal S4x2176x704 .bf16) :
    Vec Ideal S2x4x2176x704 .bf16 := fun i =>
  if (i 0).val = 0 then dA (dh dy w (i 1) (i 2) (i 3)) (a (ix3 (i 1) (i 2) (i 3))) (b (ix3 (i 1) (i 2) (i 3)))
  else dB (dh dy w (i 1) (i 2) (i 3)) (a (ix3 (i 1) (i 2) (i 3)))

/-- The kernel's first stored vector: the gate branch's gradient of the loaded blocks. -/
theorem pay4_apply (v0 : Vec Ideal S1088x1024 .bf16) (v1 : Vec Ideal S1x704x1024 .bf16) (v4 v7 : Vec Ideal S1x1088x704 .bf16)
    (r : Fin 1088) (c : Fin 704) :
    Gen.k0_pay4 v0 v1 v4 v7 (ix4 0 0 r c) =
      dA (∑ k : Fin 1024, v0 (ix2 r k) * v1 (ix3 0 c k)) (v4 (ix3 0 r c)) (v7 (ix3 0 r c)) := by
  pointwise [Gen.k0_pay4, Gen.k0_pay3, Gen.k0_pay2, Gen.k0_pay1, dA]

/-- The kernel's second stored vector: the linear branch's gradient of the loaded blocks. -/
theorem pay5_apply (v0 : Vec Ideal S1088x1024 .bf16) (v1 : Vec Ideal S1x704x1024 .bf16) (v4 : Vec Ideal S1x1088x704 .bf16)
    (r : Fin 1088) (c : Fin 704) :
    Gen.k0_pay5 v0 v1 v4 (ix4 0 0 r c) =
      dB (∑ k : Fin 1024, v0 (ix2 r k) * v1 (ix3 0 c k)) (v4 (ix3 0 r c)) := by
  pointwise [Gen.k0_pay5, Gen.k0_pay3, Gen.k0_pay2, Gen.k0_pay1, dB]

section Kernel

variable (m : (ℓ : Loc nD τ sig) → Buf (Elt Ideal) ℓ) (ρ : Dev nD → PrngReg)

open Gen

/-- Where each window's block lies. -/
theorem index_facts : ∀ t : Fin grid0.N,
    (win0_0.index t 0 = t.val % 2 ∧ win0_0.index t 1 = 0)
    ∧ (win0_1.index t 0 = t.val / 2 ∧ win0_1.index t 1 = 0 ∧ win0_1.index t 2 = 0)
    ∧ (win0_2.index t 0 = t.val / 2 ∧ win0_2.index t 1 = t.val % 2 ∧ win0_2.index t 2 = 0)
    ∧ (win0_3.index t 0 = t.val / 2 ∧ win0_3.index t 1 = t.val % 2 ∧ win0_3.index t 2 = 0)
    ∧ (win0_4.index t 0 = 0 ∧ win0_4.index t 1 = t.val / 2 ∧ win0_4.index t 2 = t.val % 2 ∧ win0_4.index t 3 = 0) := by decide +kernel

/-- Row `r` of the row block point `t` works on. -/
abbrev row (t : Fin cfg0.N) (r : Fin 1088) : Fin 2176 := ⟨t.val % 2 * 1088 + r.val, by have := r.isLt; omega⟩

/-- The stretch of the hidden axis point `t` works on. -/
abbrev slab (t : Fin cfg0.N) : Fin 4 := ⟨t.val / 2, by have := t.isLt; have hN : cfg0.N = 8 := N_0; omega⟩

theorem iblk0_apply (c : Dev nD) (t : Fin cfg0.N) (r : Fin 1088) (k : Fin 1024) :
    (iblk m c 0 t : Vec Ideal S1088x1024 .bf16) (ix2 r k) = m (c.tc.loc main_arg0) (ix2 (row t r) k) := by
  obtain ⟨⟨h0, h1⟩, -⟩ := index_facts t
  exact (View.read_apply _ _).trans (congrArg (m (c.tc.loc main_arg0)) (eq_ix2 (show win0_0.index t 0 * 1088 + 1 * r.val = t.val % 2 * 1088 + r.val by rw [h0]; omega) (show win0_0.index t 1 * 1024 + 1 * k.val = k.val by rw [h1]; omega)))

theorem iblk1_apply (c : Dev nD) (t : Fin cfg0.N) (h : Fin 704) (k : Fin 1024) :
    (iblk m c 1 t : Vec Ideal S1x704x1024 .bf16) (ix3 0 h k) = m (c.tc.loc main_arg1) (ix3 (slab t) h k) := by
  obtain ⟨-, ⟨h0, h1, h2⟩, -⟩ := index_facts t
  unfold iblk
  rw [View.read_apply]
  show V m c main_arg1 _ = m (c.tc.loc main_arg1) _
  congr 1
  funext a
  apply Fin.ext
  match a with
  | ⟨0, _⟩ => show win0_1.index t 0 * 1 + 1 * 0 = t.val / 2; rw [h0]; omega
  | ⟨1, _⟩ => show win0_1.index t 1 * 704 + 1 * h.val = h.val; rw [h1]; omega
  | ⟨2, _⟩ => show win0_1.index t 2 * 1024 + 1 * k.val = k.val; rw [h2]; omega

theorem iblk2_apply (c : Dev nD) (t : Fin cfg0.N) (r : Fin 1088) (h : Fin 704) :
    (iblk m c 2 t : Vec Ideal S1x1088x704 .bf16) (ix3 0 r h) = m (c.tc.loc main_arg2) (ix3 (slab t) (row t r) h) := by
  obtain ⟨-, -, ⟨h0, h1, h2⟩, -⟩ := index_facts t
  unfold iblk
  rw [View.read_apply]
  show V m c main_arg2 _ = m (c.tc.loc main_arg2) _
  congr 1
  funext a
  apply Fin.ext
  match a with
  | ⟨0, _⟩ => show win0_2.index t 0 * 1 + 1 * 0 = t.val / 2; rw [h0]; omega
  | ⟨1, _⟩ => show win0_2.index t 1 * 1088 + 1 * r.val = t.val % 2 * 1088 + r.val; rw [h1]; omega
  | ⟨2, _⟩ => show win0_2.index t 2 * 704 + 1 * h.val = h.val; rw [h2]; omega

theorem iblk3_apply (c : Dev nD) (t : Fin cfg0.N) (r : Fin 1088) (h : Fin 704) :
    (iblk m c 3 t : Vec Ideal S1x1088x704 .bf16) (ix3 0 r h) = m (c.tc.loc main_arg3) (ix3 (slab t) (row t r) h) := by
  obtain ⟨-, -, -, ⟨h0, h1, h2⟩, -⟩ := index_facts t
  unfold iblk
  rw [View.read_apply]
  show V m c main_arg3 _ = m (c.tc.loc main_arg3) _
  congr 1
  funext a
  apply Fin.ext
  match a with
  | ⟨0, _⟩ => show win0_3.index t 0 * 1 + 1 * 0 = t.val / 2; rw [h0]; omega
  | ⟨1, _⟩ => show win0_3.index t 1 * 1088 + 1 * r.val = t.val % 2 * 1088 + r.val; rw [h1]; omega
  | ⟨2, _⟩ => show win0_3.index t 2 * 704 + 1 * h.val = h.val; rw [h2]; omega

/-- The whole result as a function of the launch contents. -/
abbrev result (c : Dev nD) : Buf (Elt Ideal) ((c : Thread nD τ).loc main_v0) :=
  G (m (c.tc.loc main_arg0)) (m (c.tc.loc main_arg1)) (m (c.tc.loc main_arg2))
    (m (c.tc.loc main_arg3))

theorem hz3 : (![0, 0, 0] : Fin 3 → Nat) = fun _ => 0 := funext fun a => by fin_cases a <;> rfl

/-- What a grid point leaves in its staging buffer, read at an index. -/
theorem out_apply (c : Dev nD) (t : Fin cfg0.N) (y : S2x1x1088x704.Idx) :
    out0_4 (iblk m c 0 t) (iblk m c 1 t) (iblk m c 2 t) (iblk m c 3 t) y
      = result m c (ix4 (y 0) (slab t) (row t (y 2)) (y 3)) := by
  unfold out0_4
  rw [View.ld_unit_zero zero2, View.ld_unit_zero hz3, View.ld_unit_zero hz3, View.ld_unit_zero hz3]
  refine View.canon_apply_of_pieces (fun y : S2x1x1088x704.Idx => result m c (ix4 (y 0) (slab t) (row t (y 2)) (y 3))) _ ?_ y (cover0_4 _ _ y)
  intro p hp x
  rcases List.mem_cons.1 hp with rfl | hp
  · obtain ⟨a, b, r, h, rfl⟩ : ∃ a b r h, x = (ix4 a b r h : S1x1x1088x704.Idx) := ⟨x 0, x 1, x 2, x 3, by funext a; fin_cases a <;> rfl⟩
    obtain rfl : a = 0 := Subsingleton.elim _ _
    obtain rfl : b = 0 := Subsingleton.elim _ _
    have e : r0_4.emb (ix4 0 0 r h : S1x1x1088x704.Idx) = (ix4 1 0 r h : S2x1x1088x704.Idx) := by
      funext a; apply Fin.ext; fin_cases a <;> simp [ix4]
    show k0_pay5 (iblk m c 0 t) (iblk m c 1 t) (iblk m c 2 t) (ix4 0 0 r h) = _
    rw [e, pay5_apply]
    simp only [iblk0_apply, iblk1_apply, iblk2_apply]
    rfl
  · obtain rfl := List.mem_singleton.1 hp
    obtain ⟨a, b, r, h, rfl⟩ : ∃ a b r h, x = (ix4 a b r h : S1x1x1088x704.Idx) := ⟨x 0, x 1, x 2, x 3, by funext a; fin_cases a <;> rfl⟩
    obtain rfl : a = 0 := Subsingleton.elim _ _
    obtain rfl : b = 0 := Subsingleton.elim _ _
    have e : r0_3.emb (ix4 0 0 r h : S1x1x1088x704.Idx) = (ix4 0 0 r h : S2x1x1088x704.Idx) := by
      funext a; apply Fin.ext; fin_cases a <;> simp [ix4]
    show k0_pay4 (iblk m c 0 t) (iblk m c 1 t) (iblk m c 2 t) (iblk m c 3 t) (ix4 0 0 r h) = _
    rw [e, pay4_apply]
    simp only [iblk0_apply, iblk1_apply, iblk2_apply, iblk3_apply]
    rfl

/-- What a grid point writes back is its block of the whole result. -/
theorem flushed_eq (c : Dev nD) (t : Fin cfg0.N) :
    (dats m 0 c).flushed 4 t = ((cfg0.win 4).blk t).view.read (Elt Ideal) (result m c) := by
  obtain ⟨-, -, -, -, ⟨h0, h1, h2, h3⟩⟩ := index_facts t
  rw [Value.flushed4]
  funext y
  rw [View.read_apply]
  refine (out_apply m c t y).trans (congrArg (result m c) ?_)
  funext a
  apply Fin.ext
  have y1 : (y 1).val = 0 := by have : (y 1).val < 1 := (y 1).isLt; omega
  match a with
  | ⟨0, _⟩ => show (y 0).val = win0_4.index t 0 * 2 + 1 * (y 0).val; rw [h0]; omega
  | ⟨1, _⟩ => show t.val / 2 = win0_4.index t 1 * 1 + 1 * (y 1).val; rw [h1, y1]; omega
  | ⟨2, _⟩ => show t.val % 2 * 1088 + (y 2).val = win0_4.index t 2 * 1088 + 1 * (y 2).val; rw [h2]; omega
  | ⟨3, _⟩ => show (y 3).val = win0_4.index t 3 * 704 + 1 * (y 3).val; rw [h3]; omega

/-- Every index of the result lies in some point's block. -/
theorem cover (i : S2x4x2176x704.Idx) : ∃ t : Fin cfg0.N, (cfg0.win 4).flush t = true ∧ i ∈ ((cfg0.win 4).blk t).view.set := by
  have i0 : (i 0).val < 2 := (i 0).isLt
  have i1 : (i 1).val < 4 := (i 1).isLt
  have i2 : (i 2).val < 2176 := (i 2).isLt
  have i3 : (i 3).val < 704 := (i 3).isLt
  have hN : cfg0.N = 8 := N_0
  obtain ⟨t, ht⟩ : ∃ t : Fin cfg0.N, t.val = (i 1).val * 2 + (i 2).val / 1088 := ⟨⟨_, by omega⟩, rfl⟩
  obtain ⟨-, -, -, -, ⟨h0, h1, h2, h3⟩⟩ := index_facts t
  refine ⟨t, flush0_4 t, ?_⟩
  show i ∈ ((View.whole main_v0).slice (win0_4.rect t)).set
  rw [View.set_slice_whole, Rect.mem_set_unit]
  intro a
  match a with
  | ⟨0, _⟩ => show win0_4.index t 0 * 2 ≤ (i 0).val ∧ (i 0).val < win0_4.index t 0 * 2 + 2; rw [h0]; omega
  | ⟨1, _⟩ => show win0_4.index t 1 * 1 ≤ (i 1).val ∧ (i 1).val < win0_4.index t 1 * 1 + 1; rw [h1]; omega
  | ⟨2, _⟩ => show win0_4.index t 2 * 1088 ≤ (i 2).val ∧ (i 2).val < win0_4.index t 2 * 1088 + 1088; rw [h2]; omega
  | ⟨3, _⟩ => show win0_4.index t 3 * 704 ≤ (i 3).val ∧ (i 3).val < win0_4.index t 3 * 704 + 704; rw [h3]; omega

/-- The result array after the run. -/
theorem final (c : Dev nD) : (dats m 0 c).arrAt 4 cfg0.N = result m c :=
  (dats m 0 c).arrAt_eq_of_cover 4 (result m c) (fun t _ => flushed_eq m c t) cover

end Kernel

open Cert.FfnRIdeal.Read in
/-- The reference's result is the same function. -/
theorem ref_apply (x0 : Vec Ideal S2176x1024 .bf16) (x1 : Vec Ideal S4x704x1024 .bf16) (x2 x3 : Vec Ideal S4x2176x704 .bf16)
    (j : Fin 4) (r : Fin 2176) (c : Fin 704) (h : Fin 2) :
    val_main_v23 (F := Ideal) x0 x1 x2 x3 (ix4 h j r c) = G x0 x1 x2 x3 (ix4 h j r c) := by
  unfold val_main_v23 val_main_v22
  have e20 : val_main_v20 (F := Ideal) x0 x1 x2 x3 (ix4 0 j r c) = dA (dh x0 x1 j r c) (x2 (ix3 j r c)) (x3 (ix3 j r c)) := by
    have hc := c.isLt
    have hj := j.isLt
    pointwise [val_main_v17, val_main_v16, val_main_v15, val_main_call1_v2, val_main_call1_v1, val_main_call1_v0, val_main_v14, val_main_v13, val_main_v12, val_main_v11, val_main_v8_0, val_main_v8_1, val_main_v8_2, val_main_call0_v7, val_main_call0_v6, val_main_call0_cst_1, val_main_call0_v4, val_main_call0_cst_0, val_main_call0_v3, val_main_call0_v2, val_main_call0_cst, val_main_call0_v1, val_main_call0_v0, val_main_v7, val_main_v6, val_main_v5, val_main_v4, val_main_v3, val_main_v2, val_main_v1, val_main_v0, val_main_v18, val_main_v19, val_main_v20, val_main_v21, dA, dh, Ideal.logistic]
  have e21 : val_main_v21 (F := Ideal) x0 x1 x2 (ix4 0 j r c) = dB (dh x0 x1 j r c) (x2 (ix3 j r c)) := by
    pointwise [val_main_v17, val_main_v16, val_main_v15, val_main_call1_v2, val_main_call1_v1, val_main_call1_v0, val_main_v14, val_main_v13, val_main_v12, val_main_v11, val_main_v8_0, val_main_v8_1, val_main_v8_2, val_main_call0_v7, val_main_call0_v6, val_main_call0_cst_1, val_main_call0_v4, val_main_call0_cst_0, val_main_call0_v3, val_main_call0_v2, val_main_call0_cst, val_main_call0_v1, val_main_call0_v0, val_main_v7, val_main_v6, val_main_v5, val_main_v4, val_main_v3, val_main_v2, val_main_v1, val_main_v0, val_main_v18, val_main_v19, val_main_v20, val_main_v21, dB, dh, Ideal.logistic]
  pointwise [G]
  match h with
  | ⟨0, _⟩ => exact e20
  | ⟨1, _⟩ => exact e21

/-- At `Ideal` the kernel and the reference end with the same result. -/
theorem algebraic : Cert.algebraic_FfnKIdeal_FfnRIdeal := by
  intro m g m' g' _ hag
  refine ⟨fun c => result m c, ?_, ?_⟩
  · exact (θ_run _ _ _).mono (fun r h c => ⟨(h c).1.trans (final m c), (h c).2⟩) (FfnKIdeal.Value.run_blocks m g)
  · refine (θ_run _ _ _).mono (fun r h c => ⟨(h c).1.trans ?_, (h c).2⟩) (FfnRIdeal.Value.run (F := Ideal) m' g')
    obtain ⟨a0, a1, a2, a3⟩ := hag c
    rw [a0, a1, a2, a3]
    refine (FfnRIdeal.Read.val_main_v23_eq (F := Ideal) _ _ _ _).trans ?_
    funext i
    obtain ⟨a, b, r, h, rfl⟩ : ∃ a b r h, i = (ix4 a b r h : S2x4x2176x704.Idx) := ⟨i 0, i 1, i 2, i 3, by funext a; fin_cases a <;> rfl⟩
    exact ref_apply _ _ _ _ b r h a

end Cert.Ffn

end
-- ==== Proof.InDw.lean ====
module

public import proofs.«01_k».proof.Proof.Blocks
public import proofs.«01_k».proof.Proof.Gen.InDwKIdeal.Value
public import proofs.«01_k».proof.Proof.Gen.InDwRIdeal.Run
public import proofs.«01_k».proof.Proof.Gen.InDwRIdeal.Read

@[expose] public section

/-! The gradient of the input projection's weight: one stretch of its columns at each grid point. -/

set_option maxRecDepth 16384

noncomputable section

open Idealize.ShloMosaic Idealize.ShloMosaic.TcCoe Idealize.SL.Sem
open Cert.Blocks

namespace Cert.InDw

open Cert.InDwKIdeal

/-- Column `j` of the projection's stretch `s`. -/
abbrev pcol (s : Fin 8) (j : Fin 896) : Fin 7168 := ⟨s.val * 896 + j.val, by have := j.isLt; have := s.isLt; omega⟩

/-- Stretch `i 0` of the weight's gradient: the rows' inputs against the cotangent's columns. -/
def slabs (x0 : Vec Ideal S2176x1024 .bf16) (x1 : Vec Ideal S2176x7168 .bf16) : S8x1024x896.Idx → EReal := fun i =>
  ∑ k : Fin 2176, x0 (ix2 k (i 1)) * x1 (ix2 k (pcol (i 0) (i 2)))

/-- The product that the call forms of two loaded blocks. -/
theorem pay2_apply (v0 : Vec Ideal S2176x1024 .bf16) (v1 : Vec Ideal S2176x896 .bf16) (r : Fin 1024) (j : Fin 896) :
    Gen.k0_pay2 v0 v1 (ix3 0 r j) = ∑ k : Fin 2176, v0 (ix2 k r) * v1 (ix2 k j) := by
  pointwise [Gen.k0_pay2, Gen.k0_pay1]

/-- The same, narrowed. -/
theorem pay3_apply (v0 : Vec Ideal S2176x1024 .bf16) (v1 : Vec Ideal S2176x896 .bf16) (r : Fin 1024) (j : Fin 896) :
    Gen.k0_pay3 v0 v1 (ix3 0 r j) = ∑ k : Fin 2176, v0 (ix2 k r) * v1 (ix2 k j) := by
  pointwise [Gen.k0_pay3, Gen.k0_pay1]

section Kernel

variable (m : (ℓ : Loc nD τ sig) → Buf (Elt Ideal) ℓ) (ρ : Dev nD → PrngReg)

open Gen

/-- Where each window's block lies. -/
theorem index_facts : ∀ t : Fin grid0.N,
    (win0_0.index t 0 = 0 ∧ win0_0.index t 1 = 0)
    ∧ (win0_1.index t 0 = 0 ∧ win0_1.index t 1 = t.val)
    ∧ (win0_2.index t 0 = t.val ∧ win0_2.index t 1 = 0 ∧ win0_2.index t 2 = 0)
    ∧ (win0_3.index t 0 = t.val ∧ win0_3.index t 1 = 0 ∧ win0_3.index t 2 = 0) := by decide +kernel

/-- The stretch that point `t` works on. -/
abbrev slab (t : Fin cfg0.N) : Fin 8 := ⟨t.val, by have := t.isLt; have hN : cfg0.N = 8 := N_0; omega⟩

/-- Input window 0's block at a point. -/
theorem iblk0_apply (c : Dev nD) (t : Fin cfg0.N) (k : Fin 2176) (r : Fin 1024) :
    (iblk m c 0 t : Vec Ideal S2176x1024 .bf16) (ix2 k r) = m (c.tc.loc main_arg0) (ix2 k r) := by
  obtain ⟨⟨h0, h1⟩, -⟩ := index_facts t
  exact (View.read_apply _ _).trans (congrArg (m (c.tc.loc main_arg0)) (eq_ix2 (show win0_0.index t 0 * 2176 + 1 * k.val = k.val by rw [h0]; omega) (show win0_0.index t 1 * 1024 + 1 * r.val = r.val by rw [h1]; omega)))

/-- Input window 1's block at a point. -/
theorem iblk1_apply (c : Dev nD) (t : Fin cfg0.N) (k : Fin 2176) (j : Fin 896) :
    (iblk m c 1 t : Vec Ideal S2176x896 .bf16) (ix2 k j) = m (c.tc.loc main_arg1) (ix2 k (pcol (slab t) j)) := by
  obtain ⟨-, ⟨h0, h1⟩, -⟩ := index_facts t
  exact (View.read_apply _ _).trans (congrArg (m (c.tc.loc main_arg1)) (eq_ix2 (show win0_1.index t 0 * 2176 + 1 * k.val = k.val by rw [h0]; omega) (show win0_1.index t 1 * 896 + 1 * j.val = t.val * 896 + j.val by rw [h1]; omega)))

/-- Window 2's array after the run. -/
abbrev res2 (c : Dev nD) : Buf (Elt Ideal) ((c : Thread nD τ).loc main_v0_0) :=
  slabs (m (c.tc.loc main_arg0)) (m (c.tc.loc main_arg1))

/-- Window 3's array after the run. -/
abbrev res3 (c : Dev nD) : Buf (Elt Ideal) ((c : Thread nD τ).loc main_v0_1) :=
  slabs (m (c.tc.loc main_arg0)) (m (c.tc.loc main_arg1))

theorem hz3 : (![0, 0, 0] : Fin 3 → Nat) = fun _ => 0 := funext fun a => by fin_cases a <;> rfl

theorem ld0 {e} (X : Vec Ideal S2176x1024 e) : View.ld X r0_0 = X := View.ld_unit_zero zero2 _ X
theorem canon0 {e} (X : Vec Ideal S2176x1024 e) : View.canon (Val := Elt Ideal) [⟨r0_0, X⟩] = X := View.canon_unit_zero zero2 _ X
theorem ld1 {e} (X : Vec Ideal S2176x896 e) : View.ld X r0_1 = X := View.ld_unit_zero zero2 _ X
theorem canon1 {e} (X : Vec Ideal S2176x896 e) : View.canon (Val := Elt Ideal) [⟨r0_1, X⟩] = X := View.canon_unit_zero zero2 _ X
theorem ld2 {e} (X : Vec Ideal S1x1024x896 e) : View.ld X r0_2 = X := View.ld_unit_zero hz3 _ X
theorem canon2 {e} (X : Vec Ideal S1x1024x896 e) : View.canon (Val := Elt Ideal) [⟨r0_2, X⟩] = X := View.canon_unit_zero hz3 _ X

/-- What a grid point leaves in window 2's buffer. -/
theorem out_apply2 (c : Dev nD) (t : Fin cfg0.N) (y : S1x1024x896.Idx) :
    out0_2 (iblk m c 0 t) (iblk m c 1 t) y = res2 m c (ix3 (slab t) (y 1) (y 2)) := by
  obtain ⟨z, r, j, rfl⟩ : ∃ z r j, y = (ix3 z r j : S1x1024x896.Idx) := ⟨y 0, y 1, y 2, by funext a; fin_cases a <;> rfl⟩
  obtain rfl : z = 0 := Subsingleton.elim _ _
  unfold out0_2
  simp only [ld0, ld1, ld2, canon0, canon1, canon2]
  refine (pay2_apply ..).trans ?_
  simp only [iblk0_apply, iblk1_apply]
  rfl

/-- What a point writes back through window 2. -/
theorem flushed2_eq (c : Dev nD) (t : Fin cfg0.N) :
    (dats m 0 c).flushed 2 t = ((cfg0.win 2).blk t).view.read (Elt Ideal) (res2 m c) := by
  obtain ⟨-, -, ⟨h0, h1, h2⟩, -⟩ := index_facts t
  show (cfg0.win 2).cut (grid0.coords t) ((dats m 0 c).after 2 t) = _
  rw [after0_2]
  funext y
  rw [View.read_apply]
  refine (out_apply2 m c t y).trans (congrArg (res2 m c) ?_)
  funext a
  apply Fin.ext
  have y0 : (y 0).val = 0 := by have : (y 0).val < 1 := (y 0).isLt; omega
  match a with
  | ⟨0, _⟩ => show t.val = win0_2.index t 0 * 1 + 1 * (y 0).val; omega
  | ⟨1, _⟩ => show (y 1).val = win0_2.index t 1 * 1024 + 1 * (y 1).val; rw [h1]; omega
  | ⟨2, _⟩ => show (y 2).val = win0_2.index t 2 * 896 + 1 * (y 2).val; rw [h2]; omega

/-- The blocks cover result 2. -/
theorem cover2 (i : S8x1024x896.Idx) : ∃ t : Fin cfg0.N, (cfg0.win 2).flush t = true ∧ i ∈ ((cfg0.win 2).blk t).view.set := by
  have i0 : (i 0).val < 8 := (i 0).isLt
  have i1 : (i 1).val < 1024 := (i 1).isLt
  have i2 : (i 2).val < 896 := (i 2).isLt
  have hN : cfg0.N = 8 := N_0
  obtain ⟨t, ht⟩ : ∃ t : Fin cfg0.N, t.val = (i 0).val := ⟨⟨_, by omega⟩, rfl⟩
  obtain ⟨-, -, ⟨h0, h1, h2⟩, -⟩ := index_facts t
  refine ⟨t, flush0_2 t, ?_⟩
  show i ∈ ((View.whole main_v0_0).slice (win0_2.rect t)).set
  rw [View.set_slice_whole, Rect.mem_set_unit]
  exact in_block3 (p := 1) (q := 1024) (w := 896) h0 h1 h2 (by omega) (by omega) (by omega)

/-- Result 2 after the run. -/
theorem final2 (c : Dev nD) : (dats m 0 c).arrAt 2 cfg0.N = res2 m c :=
  (dats m 0 c).arrAt_eq_of_cover 2 (res2 m c) (fun t _ => flushed2_eq m c t) cover2

/-- What a grid point leaves in window 3's buffer. -/
theorem out_apply3 (c : Dev nD) (t : Fin cfg0.N) (y : S1x1024x896.Idx) :
    out0_3 (iblk m c 0 t) (iblk m c 1 t) y = res3 m c (ix3 (slab t) (y 1) (y 2)) := by
  obtain ⟨z, r, j, rfl⟩ : ∃ z r j, y = (ix3 z r j : S1x1024x896.Idx) := ⟨y 0, y 1, y 2, by funext a; fin_cases a <;> rfl⟩
  obtain rfl : z = 0 := Subsingleton.elim _ _
  unfold out0_3
  simp only [ld0, ld1, ld2, canon0, canon1, canon2]
  refine (pay3_apply ..).trans ?_
  simp only [iblk0_apply, iblk1_apply]
  rfl

/-- What a point writes back through window 3. -/
theorem flushed3_eq (c : Dev nD) (t : Fin cfg0.N) :
    (dats m 0 c).flushed 3 t = ((cfg0.win 3).blk t).view.read (Elt Ideal) (res3 m c) := by
  obtain ⟨-, -, -, ⟨h0, h1, h2⟩⟩ := index_facts t
  show (cfg0.win 3).cut (grid0.coords t) ((dats m 0 c).after 3 t) = _
  rw [after0_3]
  funext y
  rw [View.read_apply]
  refine (out_apply3 m c t y).trans (congrArg (res3 m c) ?_)
  funext a
  apply Fin.ext
  have y0 : (y 0).val = 0 := by have : (y 0).val < 1 := (y 0).isLt; omega
  match a with
  | ⟨0, _⟩ => show t.val = win0_3.index t 0 * 1 + 1 * (y 0).val; omega
  | ⟨1, _⟩ => show (y 1).val = win0_3.index t 1 * 1024 + 1 * (y 1).val; rw [h1]; omega
  | ⟨2, _⟩ => show (y 2).val = win0_3.index t 2 * 896 + 1 * (y 2).val; rw [h2]; omega

/-- The blocks cover result 3. -/
theorem cover3 (i : S8x1024x896.Idx) : ∃ t : Fin cfg0.N, (cfg0.win 3).flush t = true ∧ i ∈ ((cfg0.win 3).blk t).view.set := by
  have i0 : (i 0).val < 8 := (i 0).isLt
  have i1 : (i 1).val < 1024 := (i 1).isLt
  have i2 : (i 2).val < 896 := (i 2).isLt
  have hN : cfg0.N = 8 := N_0
  obtain ⟨t, ht⟩ : ∃ t : Fin cfg0.N, t.val = (i 0).val := ⟨⟨_, by omega⟩, rfl⟩
  obtain ⟨-, -, -, ⟨h0, h1, h2⟩⟩ := index_facts t
  refine ⟨t, flush0_3 t, ?_⟩
  show i ∈ ((View.whole main_v0_1).slice (win0_3.rect t)).set
  rw [View.set_slice_whole, Rect.mem_set_unit]
  exact in_block3 (p := 1) (q := 1024) (w := 896) h0 h1 h2 (by omega) (by omega) (by omega)

/-- Result 3 after the run. -/
theorem final3 (c : Dev nD) : (dats m 0 c).arrAt 3 cfg0.N = res3 m c :=
  (dats m 0 c).arrAt_eq_of_cover 3 (res3 m c) (fun t _ => flushed3_eq m c t) cover3

end Kernel

open Cert.InDwRIdeal.Read in
/-- The reference's result is the same function. -/
theorem ref_apply2 (x0 : Vec Ideal S2176x1024 .bf16) (x1 : Vec Ideal S2176x7168 .bf16) (s : Fin 8) (r : Fin 1024) (j : Fin 896) :
    val_main_v7 (F := Ideal) x0 x1 (ix3 s r j) = slabs x0 x1 (ix3 s r j) := by
  have hs := s.isLt
  have hr := r.isLt
  have hj := j.isLt
  pointwise [val_main_v7, val_main_v6, val_main_v5, val_main_v4, val_main_v3, val_main_v1, slabs]
  exact Finset.sum_congr rfl fun k _ => mul_comm _ _

open Cert.InDwRIdeal.Read in
/-- The reference's result is the same function. -/
theorem ref_apply3 (x0 : Vec Ideal S2176x1024 .bf16) (x1 : Vec Ideal S2176x7168 .bf16) (s : Fin 8) (r : Fin 1024) (j : Fin 896) :
    val_main_v8 (F := Ideal) x0 x1 (ix3 s r j) = slabs x0 x1 (ix3 s r j) := by
  have hs := s.isLt
  have hr := r.isLt
  have hj := j.isLt
  pointwise [val_main_v8, val_main_v7, val_main_v6, val_main_v5, val_main_v4, val_main_v3, val_main_v1, slabs]
  exact Finset.sum_congr rfl fun k _ => mul_comm _ _

/-- At the extended reals both end with the same results. -/
theorem algebraic : Cert.algebraic_InDwKIdeal_InDwRIdeal := by
  intro m g m' g' _ hag
  refine ⟨fun c => res2 m c, fun c => res3 m c, ?_, ?_⟩
  · exact (θ_run _ _ _).mono (fun r h c => ⟨(h c).1.trans (final2 m c), (h c).2.1.trans (final3 m c), (h c).2.2⟩) (InDwKIdeal.Value.run_blocks m g)
  · refine (θ_run _ _ _).mono (fun r h c => ⟨(h c).1.trans ?_, (h c).2.1.trans ?_, (h c).2.2⟩) (InDwRIdeal.Value.run (F := Ideal) m' g')
    all_goals obtain ⟨a0, a1⟩ := hag c
    all_goals rw [a0, a1]
    · refine (InDwRIdeal.Read.val_main_v7_eq (F := Ideal) _ _).trans ?_
      funext i
      obtain ⟨a, b, c, rfl⟩ : ∃ a b c, i = (ix3 a b c : S8x1024x896.Idx) := ⟨i 0, i 1, i 2, by funext a; fin_cases a <;> rfl⟩
      exact ref_apply2 _ _ a b c
    · refine (InDwRIdeal.Read.val_main_v8_eq (F := Ideal) _ _).trans ?_
      funext i
      obtain ⟨a, b, c, rfl⟩ : ∃ a b c, i = (ix3 a b c : S8x1024x896.Idx) := ⟨i 0, i 1, i 2, by funext a; fin_cases a <;> rfl⟩
      exact ref_apply3 _ _ a b c

end Cert.InDw

end
-- ==== Proof.FinDw.lean ====
module

public import proofs.«01_k».proof.Proof.Blocks
public import proofs.«01_k».proof.Proof.Gen.FinDwKIdeal.Value
public import proofs.«01_k».proof.Proof.Gen.FinDwRIdeal.Run
public import proofs.«01_k».proof.Proof.Gen.FinDwRIdeal.Read

@[expose] public section

/-! The gradient of the feed-forward's first weight: one stretch of its columns at each grid point. -/

set_option maxRecDepth 16384

noncomputable section

open Idealize.ShloMosaic Idealize.ShloMosaic.TcCoe Idealize.SL.Sem
open Cert.Blocks

namespace Cert.FinDw

open Cert.FinDwKIdeal

/-- Stretch `i 0` of the weight's gradient, its rows the hidden columns. -/
def slabs (x0 : Vec Ideal S8x2176x704 .bf16) (x1 : Vec Ideal S2176x1024 .bf16) : S8x704x1024.Idx → EReal := fun i =>
  ∑ k : Fin 2176, x0 (ix3 (i 0) k (i 1)) * x1 (ix2 k (i 2))

/-- The product that the call forms of two loaded blocks. -/
theorem pay2_apply (v0 : Vec Ideal S1x2176x704 .bf16) (v1 : Vec Ideal S2176x1024 .bf16) (r : Fin 704) (j : Fin 1024) :
    Gen.k0_pay2 v0 v1 (ix3 0 r j) = ∑ k : Fin 2176, v0 (ix3 0 k r) * v1 (ix2 k j) := by
  pointwise [Gen.k0_pay2, Gen.k0_pay1]

/-- The same, narrowed. -/
theorem pay3_apply (v0 : Vec Ideal S1x2176x704 .bf16) (v1 : Vec Ideal S2176x1024 .bf16) (r : Fin 704) (j : Fin 1024) :
    Gen.k0_pay3 v0 v1 (ix3 0 r j) = ∑ k : Fin 2176, v0 (ix3 0 k r) * v1 (ix2 k j) := by
  pointwise [Gen.k0_pay3, Gen.k0_pay1]

section Kernel

variable (m : (ℓ : Loc nD τ sig) → Buf (Elt Ideal) ℓ) (ρ : Dev nD → PrngReg)

open Gen

/-- Where each window's block lies. -/
theorem index_facts : ∀ t : Fin grid0.N,
    (win0_0.index t 0 = t.val ∧ win0_0.index t 1 = 0 ∧ win0_0.index t 2 = 0)
    ∧ (win0_1.index t 0 = 0 ∧ win0_1.index t 1 = 0)
    ∧ (win0_2.index t 0 = t.val ∧ win0_2.index t 1 = 0 ∧ win0_2.index t 2 = 0)
    ∧ (win0_3.index t 0 = t.val ∧ win0_3.index t 1 = 0 ∧ win0_3.index t 2 = 0) := by decide +kernel

/-- The stretch that point `t` works on. -/
abbrev slab (t : Fin cfg0.N) : Fin 8 := ⟨t.val, by have := t.isLt; have hN : cfg0.N = 8 := N_0; omega⟩

/-- Input window 0's block at a point. -/
theorem iblk0_apply (c : Dev nD) (t : Fin cfg0.N) (k : Fin 2176) (r : Fin 704) :
    (iblk m c 0 t : Vec Ideal S1x2176x704 .bf16) (ix3 0 k r) = m (c.tc.loc main_arg0) (ix3 (slab t) k r) := by
  obtain ⟨⟨h0, h1, h2⟩, -⟩ := index_facts t
  unfold iblk
  rw [View.read_apply]
  show V m c main_arg0 _ = m (c.tc.loc main_arg0) _
  congr 1
  funext a
  apply Fin.ext
  match a with
  | ⟨0, _⟩ => show win0_0.index t 0 * 1 + 1 * 0 = t.val; omega
  | ⟨1, _⟩ => show win0_0.index t 1 * 2176 + 1 * k.val = k.val; rw [h1]; omega
  | ⟨2, _⟩ => show win0_0.index t 2 * 704 + 1 * r.val = r.val; rw [h2]; omega

/-- Input window 1's block at a point. -/
theorem iblk1_apply (c : Dev nD) (t : Fin cfg0.N) (k : Fin 2176) (j : Fin 1024) :
    (iblk m c 1 t : Vec Ideal S2176x1024 .bf16) (ix2 k j) = m (c.tc.loc main_arg1) (ix2 k j) := by
  obtain ⟨-, ⟨h0, h1⟩, -⟩ := index_facts t
  exact (View.read_apply _ _).trans (congrArg (m (c.tc.loc main_arg1)) (eq_ix2 (show win0_1.index t 0 * 2176 + 1 * k.val = k.val by rw [h0]; omega) (show win0_1.index t 1 * 1024 + 1 * j.val = j.val by rw [h1]; omega)))

/-- Window 2's array after the run. -/
abbrev res2 (c : Dev nD) : Buf (Elt Ideal) ((c : Thread nD τ).loc main_v0_0) :=
  slabs (m (c.tc.loc main_arg0)) (m (c.tc.loc main_arg1))

/-- Window 3's array after the run. -/
abbrev res3 (c : Dev nD) : Buf (Elt Ideal) ((c : Thread nD τ).loc main_v0_1) :=
  slabs (m (c.tc.loc main_arg0)) (m (c.tc.loc main_arg1))

theorem hz3 : (![0, 0, 0] : Fin 3 → Nat) = fun _ => 0 := funext fun a => by fin_cases a <;> rfl

theorem ld0 {e} (X : Vec Ideal S1x2176x704 e) : View.ld X r0_0 = X := View.ld_unit_zero hz3 _ X
theorem canon0 {e} (X : Vec Ideal S1x2176x704 e) : View.canon (Val := Elt Ideal) [⟨r0_0, X⟩] = X := View.canon_unit_zero hz3 _ X
theorem ld1 {e} (X : Vec Ideal S2176x1024 e) : View.ld X r0_1 = X := View.ld_unit_zero zero2 _ X
theorem canon1 {e} (X : Vec Ideal S2176x1024 e) : View.canon (Val := Elt Ideal) [⟨r0_1, X⟩] = X := View.canon_unit_zero zero2 _ X
theorem ld2 {e} (X : Vec Ideal S1x704x1024 e) : View.ld X r0_2 = X := View.ld_unit_zero hz3 _ X
theorem canon2 {e} (X : Vec Ideal S1x704x1024 e) : View.canon (Val := Elt Ideal) [⟨r0_2, X⟩] = X := View.canon_unit_zero hz3 _ X

/-- What a grid point leaves in window 2's buffer. -/
theorem out_apply2 (c : Dev nD) (t : Fin cfg0.N) (y : S1x704x1024.Idx) :
    out0_2 (iblk m c 0 t) (iblk m c 1 t) y = res2 m c (ix3 (slab t) (y 1) (y 2)) := by
  obtain ⟨z, r, j, rfl⟩ : ∃ z r j, y = (ix3 z r j : S1x704x1024.Idx) := ⟨y 0, y 1, y 2, by funext a; fin_cases a <;> rfl⟩
  obtain rfl : z = 0 := Subsingleton.elim _ _
  unfold out0_2
  simp only [ld0, ld1, ld2, canon0, canon1, canon2]
  refine (pay2_apply ..).trans ?_
  simp only [iblk0_apply, iblk1_apply]
  rfl

/-- What a point writes back through window 2. -/
theorem flushed2_eq (c : Dev nD) (t : Fin cfg0.N) :
    (dats m 0 c).flushed 2 t = ((cfg0.win 2).blk t).view.read (Elt Ideal) (res2 m c) := by
  obtain ⟨-, -, ⟨h0, h1, h2⟩, -⟩ := index_facts t
  show (cfg0.win 2).cut (grid0.coords t) ((dats m 0 c).after 2 t) = _
  rw [after0_2]
  funext y
  rw [View.read_apply]
  refine (out_apply2 m c t y).trans (congrArg (res2 m c) ?_)
  funext a
  apply Fin.ext
  have y0 : (y 0).val = 0 := by have : (y 0).val < 1 := (y 0).isLt; omega
  match a with
  | ⟨0, _⟩ => show t.val = win0_2.index t 0 * 1 + 1 * (y 0).val; omega
  | ⟨1, _⟩ => show (y 1).val = win0_2.index t 1 * 704 + 1 * (y 1).val; rw [h1]; omega
  | ⟨2, _⟩ => show (y 2).val = win0_2.index t 2 * 1024 + 1 * (y 2).val; rw [h2]; omega

/-- The blocks cover result 2. -/
theorem cover2 (i : S8x704x1024.Idx) : ∃ t : Fin cfg0.N, (cfg0.win 2).flush t = true ∧ i ∈ ((cfg0.win 2).blk t).view.set := by
  have i0 : (i 0).val < 8 := (i 0).isLt
  have i1 : (i 1).val < 704 := (i 1).isLt
  have i2 : (i 2).val < 1024 := (i 2).isLt
  have hN : cfg0.N = 8 := N_0
  obtain ⟨t, ht⟩ : ∃ t : Fin cfg0.N, t.val = (i 0).val := ⟨⟨_, by omega⟩, rfl⟩
  obtain ⟨-, -, ⟨h0, h1, h2⟩, -⟩ := index_facts t
  refine ⟨t, flush0_2 t, ?_⟩
  show i ∈ ((View.whole main_v0_0).slice (win0_2.rect t)).set
  rw [View.set_slice_whole, Rect.mem_set_unit]
  exact in_block3 (p := 1) (q := 704) (w := 1024) h0 h1 h2 (by omega) (by omega) (by omega)

/-- Result 2 after the run. -/
theorem final2 (c : Dev nD) : (dats m 0 c).arrAt 2 cfg0.N = res2 m c :=
  (dats m 0 c).arrAt_eq_of_cover 2 (res2 m c) (fun t _ => flushed2_eq m c t) cover2

/-- What a grid point leaves in window 3's buffer. -/
theorem out_apply3 (c : Dev nD) (t : Fin cfg0.N) (y : S1x704x1024.Idx) :
    out0_3 (iblk m c 0 t) (iblk m c 1 t) y = res3 m c (ix3 (slab t) (y 1) (y 2)) := by
  obtain ⟨z, r, j, rfl⟩ : ∃ z r j, y = (ix3 z r j : S1x704x1024.Idx) := ⟨y 0, y 1, y 2, by funext a; fin_cases a <;> rfl⟩
  obtain rfl : z = 0 := Subsingleton.elim _ _
  unfold out0_3
  simp only [ld0, ld1, ld2, canon0, canon1, canon2]
  refine (pay3_apply ..).trans ?_
  simp only [iblk0_apply, iblk1_apply]
  rfl

/-- What a point writes back through window 3. -/
theorem flushed3_eq (c : Dev nD) (t : Fin cfg0.N) :
    (dats m 0 c).flushed 3 t = ((cfg0.win 3).blk t).view.read (Elt Ideal) (res3 m c) := by
  obtain ⟨-, -, -, ⟨h0, h1, h2⟩⟩ := index_facts t
  show (cfg0.win 3).cut (grid0.coords t) ((dats m 0 c).after 3 t) = _
  rw [after0_3]
  funext y
  rw [View.read_apply]
  refine (out_apply3 m c t y).trans (congrArg (res3 m c) ?_)
  funext a
  apply Fin.ext
  have y0 : (y 0).val = 0 := by have : (y 0).val < 1 := (y 0).isLt; omega
  match a with
  | ⟨0, _⟩ => show t.val = win0_3.index t 0 * 1 + 1 * (y 0).val; omega
  | ⟨1, _⟩ => show (y 1).val = win0_3.index t 1 * 704 + 1 * (y 1).val; rw [h1]; omega
  | ⟨2, _⟩ => show (y 2).val = win0_3.index t 2 * 1024 + 1 * (y 2).val; rw [h2]; omega

/-- The blocks cover result 3. -/
theorem cover3 (i : S8x704x1024.Idx) : ∃ t : Fin cfg0.N, (cfg0.win 3).flush t = true ∧ i ∈ ((cfg0.win 3).blk t).view.set := by
  have i0 : (i 0).val < 8 := (i 0).isLt
  have i1 : (i 1).val < 704 := (i 1).isLt
  have i2 : (i 2).val < 1024 := (i 2).isLt
  have hN : cfg0.N = 8 := N_0
  obtain ⟨t, ht⟩ : ∃ t : Fin cfg0.N, t.val = (i 0).val := ⟨⟨_, by omega⟩, rfl⟩
  obtain ⟨-, -, -, ⟨h0, h1, h2⟩⟩ := index_facts t
  refine ⟨t, flush0_3 t, ?_⟩
  show i ∈ ((View.whole main_v0_1).slice (win0_3.rect t)).set
  rw [View.set_slice_whole, Rect.mem_set_unit]
  exact in_block3 (p := 1) (q := 704) (w := 1024) h0 h1 h2 (by omega) (by omega) (by omega)

/-- Result 3 after the run. -/
theorem final3 (c : Dev nD) : (dats m 0 c).arrAt 3 cfg0.N = res3 m c :=
  (dats m 0 c).arrAt_eq_of_cover 3 (res3 m c) (fun t _ => flushed3_eq m c t) cover3

end Kernel

open Cert.FinDwRIdeal.Read in
/-- The reference's result is the same function. -/
theorem ref_apply2 (x0 : Vec Ideal S8x2176x704 .bf16) (x1 : Vec Ideal S2176x1024 .bf16) (s : Fin 8) (r : Fin 704) (j : Fin 1024) :
    val_main_v17 (F := Ideal) x0 x1 (ix3 s r j) = slabs x0 x1 (ix3 s r j) := by
  have hr := r.isLt
  have hj := j.isLt
  have hs := s.isLt
  pointwise [val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, slabs]
  refine Finset.sum_congr rfl fun k _ => congrArg (· * x1 (ix2 k j)) ?_
  split_ifs <;> first
    | exact absurd rfl ‹_›
    | exact congrArg₂ (fun p q => x0 (ix3 p k q)) (Fin.ext (by first | rfl | (dsimp only; omega))) (Fin.ext (by first | rfl | (dsimp only; omega)))

open Cert.FinDwRIdeal.Read in
/-- The reference's result is the same function. -/
theorem ref_apply3 (x0 : Vec Ideal S8x2176x704 .bf16) (x1 : Vec Ideal S2176x1024 .bf16) (s : Fin 8) (r : Fin 704) (j : Fin 1024) :
    val_main_v18 (F := Ideal) x0 x1 (ix3 s r j) = slabs x0 x1 (ix3 s r j) := by
  have hr := r.isLt
  have hj := j.isLt
  have hs := s.isLt
  pointwise [val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, slabs]
  refine Finset.sum_congr rfl fun k _ => congrArg (· * x1 (ix2 k j)) ?_
  split_ifs <;> first
    | exact absurd rfl ‹_›
    | exact congrArg₂ (fun p q => x0 (ix3 p k q)) (Fin.ext (by first | rfl | (dsimp only; omega))) (Fin.ext (by first | rfl | (dsimp only; omega)))

/-- At the extended reals both end with the same results. -/
theorem algebraic : Cert.algebraic_FinDwKIdeal_FinDwRIdeal := by
  intro m g m' g' _ hag
  refine ⟨fun c => res2 m c, fun c => res3 m c, ?_, ?_⟩
  · exact (θ_run _ _ _).mono (fun r h c => ⟨(h c).1.trans (final2 m c), (h c).2.1.trans (final3 m c), (h c).2.2⟩) (FinDwKIdeal.Value.run_blocks m g)
  · refine (θ_run _ _ _).mono (fun r h c => ⟨(h c).1.trans ?_, (h c).2.1.trans ?_, (h c).2.2⟩) (FinDwRIdeal.Value.run (F := Ideal) m' g')
    all_goals obtain ⟨a0, a1⟩ := hag c
    all_goals rw [a0, a1]
    · refine (FinDwRIdeal.Read.val_main_v17_eq (F := Ideal) _ _).trans ?_
      funext i
      obtain ⟨a, b, c, rfl⟩ : ∃ a b c, i = (ix3 a b c : S8x704x1024.Idx) := ⟨i 0, i 1, i 2, by funext a; fin_cases a <;> rfl⟩
      exact ref_apply2 _ _ a b c
    · refine (FinDwRIdeal.Read.val_main_v18_eq (F := Ideal) _ _).trans ?_
      funext i
      obtain ⟨a, b, c, rfl⟩ : ∃ a b c, i = (ix3 a b c : S8x704x1024.Idx) := ⟨i 0, i 1, i 2, by funext a; fin_cases a <;> rfl⟩
      exact ref_apply3 _ _ a b c

end Cert.FinDw

end
-- ==== Proof.FinDx.lean ====
module

public import proofs.«01_k».proof.Proof.Blocks
public import proofs.«01_k».proof.Proof.Gen.FinDxKIdeal.Value
public import proofs.«01_k».proof.Proof.Gen.FinDxRIdeal.Run
public import proofs.«01_k».proof.Proof.Gen.FinDxRIdeal.Read

@[expose] public section

/-! The gradient of the feed-forward's first product with respect to its input: one stretch of the hidden columns at
each grid point, added up in the result's buffer. -/

set_option maxRecDepth 16384

noncomputable section

open Idealize.ShloMosaic Idealize.ShloMosaic.TcCoe Idealize.SL.Sem
open Cert.Blocks

namespace Cert.FinDx

open Cert.FinDxKIdeal

/-- One stretch's part of the product: row `r` of stretch `s` of the left array against column `j` of stretch `s` of
the weight. -/
def part (x0 : Vec Ideal S8x2176x704 .bf16) (x1 : Vec Ideal S8x704x1024 .bf16) (r : Fin 2176) (j : Fin 1024) (s : Fin 8) : EReal :=
  ∑ k : Fin 704, x0 (ix3 s r k) * x1 (ix3 s k j)

/-- The parts of stretches `0 … l`, added in order. -/
def upto (f : Fin 8 → EReal) : (l : ℕ) → l < 8 → EReal
  | 0, h => f ⟨0, h⟩
  | l + 1, h => upto f l (Nat.lt_of_succ_lt h) + f ⟨l + 1, h⟩

/-- Added in order, all the parts give their sum. -/
theorem upto_last (f : Fin 8 → EReal) : upto f 7 (by decide) = ∑ s : Fin 8, f s :=
  (Fin.sum_univ_eight f).symm

/-- A sum over 2816 columns is the sum over the 4 stretches of the sums over a stretch's 704 columns. -/
theorem sum_stretches (f : Fin 2816 → EReal) :
    ∑ x, f x = ∑ s : Fin 4, ∑ k : Fin 704, f ⟨s.val * 704 + k.val, by have := s.isLt; have := k.isLt; omega⟩ := by
  rw [← Fintype.sum_prod_type' (f := fun (s : Fin 4) (k : Fin 704) => f ⟨s.val * 704 + k.val, by have := s.isLt; have := k.isLt; omega⟩)]
  exact (Fintype.sum_equiv (finProdFinEquiv (m := 4) (n := 704)) _ _ (fun p => congrArg f (Fin.ext (by
    show p.1.val * 704 + p.2.val = p.2.val + 704 * p.1.val
    omega)))).symm

/-- The product of the rows with the weight. -/
def product (x0 : Vec Ideal S8x2176x704 .bf16) (x1 : Vec Ideal S8x704x1024 .bf16) : S2176x1024.Idx → EReal := fun i => ∑ s, part x0 x1 (i 0) (i 1) s

/-- The product of two loaded blocks at one element. -/
def blockDot (v0 : Vec Ideal S1x2176x704 .bf16) (v2 : Vec Ideal S1x704x1024 .bf16) (r : Fin 2176) (j : Fin 1024) : EReal := ∑ k : Fin 704, v0 (ix3 0 r k) * v2 (ix3 0 k j)

/-- The first grid point stores its stretch's part. -/
theorem pay1_apply (v0 : Vec Ideal S1x2176x704 .bf16) (v2 : Vec Ideal S1x704x1024 .bf16) (r : Fin 2176) (j : Fin 1024) : Gen.k0_pay1 v0 v2 (ix2 r j) = blockDot v0 v2 r j := by
  pointwise [Gen.k0_pay1, blockDot]

/-- A later point adds its stretch's part to what is there. -/
theorem pay2_apply (v0 : Vec Ideal S1x2176x704 .bf16) (v2 : Vec Ideal S1x704x1024 .bf16) (a : Vec Ideal S2176x1024 .f32) (r : Fin 2176) (j : Fin 1024) :
    Gen.k0_pay2 v0 v2 a (ix2 r j) = a (ix2 r j) + blockDot v0 v2 r j := by
  pointwise [Gen.k0_pay2, Gen.k0_pay1, blockDot]

section Kernel

variable (m : (ℓ : Loc nD τ sig) → Buf (Elt Ideal) ℓ) (ρ : Dev nD → PrngReg)

open Gen

/-- Where each window's block lies. -/
theorem index_facts : ∀ t : Fin grid0.N,
    (win0_0.index t 0 = t.val ∧ win0_0.index t 1 = 0 ∧ win0_0.index t 2 = 0)
    ∧ (win0_1.index t 0 = t.val ∧ win0_1.index t 1 = 0 ∧ win0_1.index t 2 = 0)
    ∧ (win0_2.index t 0 = 0 ∧ win0_2.index t 1 = 0) := by decide +kernel

/-- The stretch that point `t` works on. -/
abbrev slab (t : Fin cfg0.N) : Fin 8 := ⟨t.val, t.isLt.trans_eq N_0⟩

/-- Input window 0's block at a point. -/
theorem iblk0_apply (c : Dev nD) (t : Fin cfg0.N) (r : Fin 2176) (k : Fin 704) :
    (iblk m c 0 t : Vec Ideal S1x2176x704 .bf16) (ix3 0 r k) = m (c.tc.loc main_arg0) (ix3 (slab t) r k) := by
  obtain ⟨⟨h0, h1, h2⟩, -⟩ := index_facts t
  unfold iblk
  rw [View.read_apply]
  show V m c main_arg0 _ = m (c.tc.loc main_arg0) _
  congr 1
  funext a
  apply Fin.ext
  match a with
  | ⟨0, _⟩ => show win0_0.index t 0 * 1 + 1 * 0 = t.val; omega
  | ⟨1, _⟩ => show win0_0.index t 1 * 2176 + 1 * r.val = r.val; rw [h1]; omega
  | ⟨2, _⟩ => show win0_0.index t 2 * 704 + 1 * k.val = k.val; rw [h2]; omega

/-- Input window 1's block at a point. -/
theorem iblk1_apply (c : Dev nD) (t : Fin cfg0.N) (k : Fin 704) (j : Fin 1024) :
    (iblk m c 1 t : Vec Ideal S1x704x1024 .bf16) (ix3 0 k j) = m (c.tc.loc main_arg1) (ix3 (slab t) k j) := by
  obtain ⟨-, ⟨h0, h1, h2⟩, -⟩ := index_facts t
  unfold iblk
  rw [View.read_apply]
  show V m c main_arg1 _ = m (c.tc.loc main_arg1) _
  congr 1
  funext a
  apply Fin.ext
  match a with
  | ⟨0, _⟩ => show win0_1.index t 0 * 1 + 1 * 0 = t.val; omega
  | ⟨1, _⟩ => show win0_1.index t 1 * 704 + 1 * k.val = k.val; rw [h1]; omega
  | ⟨2, _⟩ => show win0_1.index t 2 * 1024 + 1 * j.val = j.val; rw [h2]; omega

/-- Window 2's array after the run. -/
abbrev res2 (c : Dev nD) : Buf (Elt Ideal) ((c : Thread nD τ).loc main_v0) :=
  product (m (c.tc.loc main_arg0)) (m (c.tc.loc main_arg1))

theorem zero3 : (![0, 0, 0] : Fin 3 → Nat) = fun _ => 0 := funext fun a => by fin_cases a <;> rfl

/-- What the body leaves in the result's buffer at the first point. -/
theorem first_value (c : Dev nD) (i : grid0.Coords) (a1 : Memref sig .tc .vmem S1x2176x704 .bf16) (h1 : a1.IsWhole)
    (a2 : Memref sig .tc .vmem S1x704x1024 .bf16) (h2 : a2.IsWhole) (a3 : Memref sig .tc .vmem S2176x1024 .f32) (h3 : a3.IsWhole)
    (p : cond0_0 i) (q : ¬cond0_1 i) (x0 : Vec Ideal S1x2176x704 .bf16) (x1 : Vec Ideal S1x704x1024 .bf16) :
    out0_A_2 c i a1 h1 a2 h2 a3 h3 p q x0 x1 = k0_pay1 x0 x1 := by
  unfold out0_A_2
  rw [View.read_writes_eq_canon _ _ _ (cover0_A_2 c i a1 h1 a2 h2 a3 h3 p q x0 x1)]
  unfold kernelRun0_A
  dsimp only
  rw [View.canon_unit_zero zero2]
  simp only [View.readAt_eq_ld, h1.read_unread, h2.read_unread, View.ld_unit_zero (S := S1x2176x704) zero3,
    View.ld_unit_zero (S := S1x704x1024) zero3]

/-- What it leaves there at a later point, over what the point before left. -/
theorem later_value (c : Dev nD) (i : grid0.Coords) (a1 : Memref sig .tc .vmem S1x2176x704 .bf16) (h1 : a1.IsWhole)
    (a2 : Memref sig .tc .vmem S1x704x1024 .bf16) (h2 : a2.IsWhole) (a3 : Memref sig .tc .vmem S2176x1024 .f32) (h3 : a3.IsWhole)
    (p : ¬cond0_0 i) (q : cond0_1 i) (x0 : Vec Ideal S1x2176x704 .bf16) (x1 : Vec Ideal S1x704x1024 .bf16)
    (a : Vec Ideal S2176x1024 .f32) :
    out0_B_2 c i a1 h1 a2 h2 a3 h3 p q x0 x1 a = k0_pay2 x0 x1 a := by
  unfold out0_B_2
  rw [View.read_writes_eq_canon _ _ _ (cover0_B_2 c i a1 h1 a2 h2 a3 h3 p q x0 x1 a)]
  unfold kernelRun0_B
  dsimp only
  rw [View.canon_unit_zero zero2]
  simp only [View.readAt_eq_ld, h1.read_unread, h2.read_unread, h3.read_unread, View.ld_unit_zero (S := S1x2176x704) zero3,
    View.ld_unit_zero (S := S1x704x1024) zero3, View.ld_unit_zero (S := S2176x1024) zero2]

/-- A point's product of its two blocks is its stretch's part. -/
theorem point_part (c : Dev nD) (t : Fin cfg0.N) (r : Fin 2176) (j : Fin 1024) :
    blockDot (iblk m c 0 t) (iblk m c 1 t) r j
      = part (m (c.tc.loc main_arg0)) (m (c.tc.loc main_arg1)) r j (slab t) :=
  Finset.sum_congr rfl fun k _ => congrArg₂ (· * ·) (iblk0_apply m c t r k) (iblk1_apply m c t k j)

/-- After point `l` the buffer holds the parts of stretches `0 … l`: by induction on the point. -/
theorem outs_apply (c : Dev nD) (r : Fin 2176) (j : Fin 1024) : ∀ (l : ℕ) (h : l < cfg0.N),
    outsAt0 m c l h (ix2 r j) = upto (part (m (c.tc.loc main_arg0)) (m (c.tc.loc main_arg1)) r j) l (h.trans_eq N_0)
  | 0, h => by
    rw [outsAt0_A m c ⟨0, h⟩ rfl (by dsimp only; omega), first_value, pay1_apply]
    exact point_part m c ⟨0, h⟩ r j
  | l + 1, h => by
    have hN : l + 1 < 8 := h.trans_eq N_0
    rw [outsAt0_B m c ⟨l + 1, h⟩ (by dsimp only; omega) (by dsimp only; omega), later_value, pay2_apply]
    exact congrArg₂ (· + ·) (outs_apply c r j l _) (point_part m c ⟨l + 1, h⟩ r j)

/-- The last point leaves the whole product. -/
theorem last_apply (c : Dev nD) (t : Fin cfg0.N) (ht : t.val = 7) (y : S2176x1024.Idx) :
    outsAt0 m c t.val t.isLt y = res2 m c (ix2 (y 0) (y 1)) := by
  obtain ⟨r, j, rfl⟩ := idx2 (R := 2176) (C := 1024) y
  obtain ⟨l, hl⟩ := t
  obtain rfl : l = 7 := ht
  exact (outs_apply m c r j 7 hl).trans (upto_last _)

/-- What the last point writes back is the whole result. -/
theorem flushed2_eq (c : Dev nD) (t : Fin cfg0.N) (hf : (cfg0.win 2).flush t = true) :
    (dats m 0 c).flushed 2 t = ((cfg0.win 2).blk t).view.read (Elt Ideal) (res2 m c) := by
  have ht : t.val = 7 := by have := (flush0_2 t).mp hf; have := t.isLt.trans_eq N_0; omega
  obtain ⟨-, -, ⟨h0, h1⟩⟩ := index_facts t
  rw [Value.flushed2 m c t]
  funext y
  rw [View.read_apply]
  refine (last_apply m c t ht y).trans (congrArg (res2 m c) ?_)
  exact Eq.symm (eq_ix2 (show win0_2.index t 0 * 2176 + 1 * (y 0).val = (y 0).val by rw [h0]; omega) (show win0_2.index t 1 * 1024 + 1 * (y 1).val = (y 1).val by rw [h1]; omega))

/-- Its block is the whole array. -/
theorem cover2 (i : S2176x1024.Idx) : ∃ t : Fin cfg0.N, (cfg0.win 2).flush t = true ∧ i ∈ ((cfg0.win 2).blk t).view.set := by
  have i0 : (i 0).val < 2176 := (i 0).isLt
  have i1 : (i 1).val < 1024 := (i 1).isLt
  obtain ⟨t, ht⟩ : ∃ t : Fin cfg0.N, t.val = 7 := ⟨⟨7, (show 7 < 8 by decide).trans_eq N_0.symm⟩, rfl⟩
  obtain ⟨-, -, ⟨h0, h1⟩⟩ := index_facts t
  refine ⟨t, (flush0_2 t).mpr (by rw [ht]), ?_⟩
  show i ∈ ((View.whole main_v0).slice (win0_2.rect t)).set
  rw [View.set_slice_whole, Rect.mem_set_unit]
  exact in_block2 (p := 2176) (q := 1024) h0 h1 (by omega) (by omega)

/-- The result after the run. -/
theorem final2 (c : Dev nD) : (dats m 0 c).arrAt 2 cfg0.N = res2 m c :=
  (dats m 0 c).arrAt_eq_of_cover 2 (res2 m c) (flushed2_eq m c) cover2

end Kernel

open Cert.FinDxRIdeal.Read in
/-- The reference's result is the same function. -/
theorem ref_apply2 (x0 : Vec Ideal S8x2176x704 .bf16) (x1 : Vec Ideal S8x704x1024 .bf16) (r : Fin 2176) (j : Fin 1024) :
    val_main_v16 (F := Ideal) x0 x1 (ix2 r j) = product x0 x1 (ix2 r j) := by
  have hj := j.isLt
  pointwise [val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst]
  refine (congrArg₂ (· + ·) (sum_stretches _) (sum_stretches _)).trans ?_
  refine Eq.trans ?_ (Fin.sum_univ_add (a := 4) (b := 4) (part x0 x1 r j)).symm
  refine congrArg₂ (· + ·) ?_ ?_
  · exact Finset.sum_congr rfl fun s _ => Finset.sum_congr rfl fun k _ => by
      have hs := s.isLt
      have hk := k.isLt
      refine congrArg₂ (· * ·) (congrArg x0 (funext fun a => Fin.ext ?_)) (congrArg x1 (funext fun a => Fin.ext ?_))
      all_goals
        match a with
        | ⟨0, _⟩ => first | rfl | (simp; done) | (simp; omega)
        | ⟨1, _⟩ => first | rfl | (simp; done) | (simp; omega)
        | ⟨2, _⟩ => first | rfl | (simp; done) | (simp; omega)
  · exact Finset.sum_congr rfl fun s _ => Finset.sum_congr rfl fun k _ => by
      have hs := s.isLt
      have hk := k.isLt
      refine congrArg₂ (· * ·) (congrArg x0 (funext fun a => Fin.ext ?_)) (congrArg x1 (funext fun a => Fin.ext ?_))
      all_goals
        match a with
        | ⟨0, _⟩ => first | rfl | (simp; done) | (simp; omega)
        | ⟨1, _⟩ => first | rfl | (simp; done) | (simp; omega)
        | ⟨2, _⟩ => first | rfl | (simp; done) | (simp; omega)

/-- At the extended reals both end with the same results. -/
theorem algebraic : Cert.algebraic_FinDxKIdeal_FinDxRIdeal := by
  intro m g m' g' _ hag
  refine ⟨fun c => res2 m c, ?_, ?_⟩
  · exact (θ_run _ _ _).mono (fun r h c => ⟨(h c).1.trans (final2 m c), (h c).2⟩) (FinDxKIdeal.Value.run_blocks m g)
  · refine (θ_run _ _ _).mono (fun r h c => ⟨(h c).1.trans ?_, (h c).2⟩) (FinDxRIdeal.Value.run (F := Ideal) m' g')
    all_goals obtain ⟨a0, a1⟩ := hag c
    all_goals rw [a0, a1]
    · refine (FinDxRIdeal.Read.val_main_v16_eq (F := Ideal) _ _).trans ?_
      funext i
      obtain ⟨a, b, rfl⟩ := idx2 (R := 2176) (C := 1024) i
      exact ref_apply2 _ _ a b

end Cert.FinDx

end
-- ==== Proof.FoutDw.lean ====
module

public import proofs.«01_k».proof.Proof.Blocks
public import proofs.«01_k».proof.Proof.Gen.FoutDwKIdeal.Value
public import proofs.«01_k».proof.Proof.Gen.FoutDwRIdeal.Run
public import proofs.«01_k».proof.Proof.Gen.FoutDwRIdeal.Read

@[expose] public section

/-! The gradient of the feed-forward's second weight: one stretch of its rows at each grid point. -/

set_option maxRecDepth 16384

noncomputable section

open Idealize.ShloMosaic Idealize.ShloMosaic.TcCoe Idealize.SL.Sem
open Cert.Blocks

namespace Cert.FoutDw

open Cert.FoutDwKIdeal

/-- Stretch `i 0` of the weight's gradient, its rows the hidden columns. -/
def slabs (x0 : Vec Ideal S4x2176x704 .bf16) (x1 : Vec Ideal S2176x1024 .bf16) : S4x704x1024.Idx → EReal := fun i =>
  ∑ k : Fin 2176, x0 (ix3 (i 0) k (i 1)) * x1 (ix2 k (i 2))

/-- The product that the call forms of two loaded blocks. -/
theorem pay2_apply (v0 : Vec Ideal S1x2176x704 .bf16) (v1 : Vec Ideal S2176x1024 .bf16) (r : Fin 704) (j : Fin 1024) :
    Gen.k0_pay2 v0 v1 (ix3 0 r j) = ∑ k : Fin 2176, v0 (ix3 0 k r) * v1 (ix2 k j) := by
  pointwise [Gen.k0_pay2, Gen.k0_pay1]

/-- The same, narrowed. -/
theorem pay3_apply (v0 : Vec Ideal S1x2176x704 .bf16) (v1 : Vec Ideal S2176x1024 .bf16) (r : Fin 704) (j : Fin 1024) :
    Gen.k0_pay3 v0 v1 (ix3 0 r j) = ∑ k : Fin 2176, v0 (ix3 0 k r) * v1 (ix2 k j) := by
  pointwise [Gen.k0_pay3, Gen.k0_pay1]

section Kernel

variable (m : (ℓ : Loc nD τ sig) → Buf (Elt Ideal) ℓ) (ρ : Dev nD → PrngReg)

open Gen

/-- Where each window's block lies. -/
theorem index_facts : ∀ t : Fin grid0.N,
    (win0_0.index t 0 = t.val ∧ win0_0.index t 1 = 0 ∧ win0_0.index t 2 = 0)
    ∧ (win0_1.index t 0 = 0 ∧ win0_1.index t 1 = 0)
    ∧ (win0_2.index t 0 = t.val ∧ win0_2.index t 1 = 0 ∧ win0_2.index t 2 = 0)
    ∧ (win0_3.index t 0 = t.val ∧ win0_3.index t 1 = 0 ∧ win0_3.index t 2 = 0) := by decide +kernel

/-- The stretch that point `t` works on. -/
abbrev slab (t : Fin cfg0.N) : Fin 4 := ⟨t.val, by have := t.isLt; have hN : cfg0.N = 4 := N_0; omega⟩

/-- Input window 0's block at a point. -/
theorem iblk0_apply (c : Dev nD) (t : Fin cfg0.N) (k : Fin 2176) (r : Fin 704) :
    (iblk m c 0 t : Vec Ideal S1x2176x704 .bf16) (ix3 0 k r) = m (c.tc.loc main_arg0) (ix3 (slab t) k r) := by
  obtain ⟨⟨h0, h1, h2⟩, -⟩ := index_facts t
  unfold iblk
  rw [View.read_apply]
  show V m c main_arg0 _ = m (c.tc.loc main_arg0) _
  congr 1
  funext a
  apply Fin.ext
  match a with
  | ⟨0, _⟩ => show win0_0.index t 0 * 1 + 1 * 0 = t.val; omega
  | ⟨1, _⟩ => show win0_0.index t 1 * 2176 + 1 * k.val = k.val; rw [h1]; omega
  | ⟨2, _⟩ => show win0_0.index t 2 * 704 + 1 * r.val = r.val; rw [h2]; omega

/-- Input window 1's block at a point. -/
theorem iblk1_apply (c : Dev nD) (t : Fin cfg0.N) (k : Fin 2176) (j : Fin 1024) :
    (iblk m c 1 t : Vec Ideal S2176x1024 .bf16) (ix2 k j) = m (c.tc.loc main_arg1) (ix2 k j) := by
  obtain ⟨-, ⟨h0, h1⟩, -⟩ := index_facts t
  exact (View.read_apply _ _).trans (congrArg (m (c.tc.loc main_arg1)) (eq_ix2 (show win0_1.index t 0 * 2176 + 1 * k.val = k.val by rw [h0]; omega) (show win0_1.index t 1 * 1024 + 1 * j.val = j.val by rw [h1]; omega)))

/-- Window 2's array after the run. -/
abbrev res2 (c : Dev nD) : Buf (Elt Ideal) ((c : Thread nD τ).loc main_v0_0) :=
  slabs (m (c.tc.loc main_arg0)) (m (c.tc.loc main_arg1))

/-- Window 3's array after the run. -/
abbrev res3 (c : Dev nD) : Buf (Elt Ideal) ((c : Thread nD τ).loc main_v0_1) :=
  slabs (m (c.tc.loc main_arg0)) (m (c.tc.loc main_arg1))

theorem hz3 : (![0, 0, 0] : Fin 3 → Nat) = fun _ => 0 := funext fun a => by fin_cases a <;> rfl

theorem ld0 {e} (X : Vec Ideal S1x2176x704 e) : View.ld X r0_0 = X := View.ld_unit_zero hz3 _ X
theorem canon0 {e} (X : Vec Ideal S1x2176x704 e) : View.canon (Val := Elt Ideal) [⟨r0_0, X⟩] = X := View.canon_unit_zero hz3 _ X
theorem ld1 {e} (X : Vec Ideal S2176x1024 e) : View.ld X r0_1 = X := View.ld_unit_zero zero2 _ X
theorem canon1 {e} (X : Vec Ideal S2176x1024 e) : View.canon (Val := Elt Ideal) [⟨r0_1, X⟩] = X := View.canon_unit_zero zero2 _ X
theorem ld2 {e} (X : Vec Ideal S1x704x1024 e) : View.ld X r0_2 = X := View.ld_unit_zero hz3 _ X
theorem canon2 {e} (X : Vec Ideal S1x704x1024 e) : View.canon (Val := Elt Ideal) [⟨r0_2, X⟩] = X := View.canon_unit_zero hz3 _ X

/-- What a grid point leaves in window 2's buffer. -/
theorem out_apply2 (c : Dev nD) (t : Fin cfg0.N) (y : S1x704x1024.Idx) :
    out0_2 (iblk m c 0 t) (iblk m c 1 t) y = res2 m c (ix3 (slab t) (y 1) (y 2)) := by
  obtain ⟨z, r, j, rfl⟩ : ∃ z r j, y = (ix3 z r j : S1x704x1024.Idx) := ⟨y 0, y 1, y 2, by funext a; fin_cases a <;> rfl⟩
  obtain rfl : z = 0 := Subsingleton.elim _ _
  unfold out0_2
  simp only [ld0, ld1, ld2, canon0, canon1, canon2]
  refine (pay2_apply ..).trans ?_
  simp only [iblk0_apply, iblk1_apply]
  rfl

/-- What a point writes back through window 2. -/
theorem flushed2_eq (c : Dev nD) (t : Fin cfg0.N) :
    (dats m 0 c).flushed 2 t = ((cfg0.win 2).blk t).view.read (Elt Ideal) (res2 m c) := by
  obtain ⟨-, -, ⟨h0, h1, h2⟩, -⟩ := index_facts t
  show (cfg0.win 2).cut (grid0.coords t) ((dats m 0 c).after 2 t) = _
  rw [after0_2]
  funext y
  rw [View.read_apply]
  refine (out_apply2 m c t y).trans (congrArg (res2 m c) ?_)
  funext a
  apply Fin.ext
  have y0 : (y 0).val = 0 := by have : (y 0).val < 1 := (y 0).isLt; omega
  match a with
  | ⟨0, _⟩ => show t.val = win0_2.index t 0 * 1 + 1 * (y 0).val; omega
  | ⟨1, _⟩ => show (y 1).val = win0_2.index t 1 * 704 + 1 * (y 1).val; rw [h1]; omega
  | ⟨2, _⟩ => show (y 2).val = win0_2.index t 2 * 1024 + 1 * (y 2).val; rw [h2]; omega

/-- The blocks cover result 2. -/
theorem cover2 (i : S4x704x1024.Idx) : ∃ t : Fin cfg0.N, (cfg0.win 2).flush t = true ∧ i ∈ ((cfg0.win 2).blk t).view.set := by
  have i0 : (i 0).val < 4 := (i 0).isLt
  have i1 : (i 1).val < 704 := (i 1).isLt
  have i2 : (i 2).val < 1024 := (i 2).isLt
  have hN : cfg0.N = 4 := N_0
  obtain ⟨t, ht⟩ : ∃ t : Fin cfg0.N, t.val = (i 0).val := ⟨⟨_, by omega⟩, rfl⟩
  obtain ⟨-, -, ⟨h0, h1, h2⟩, -⟩ := index_facts t
  refine ⟨t, flush0_2 t, ?_⟩
  show i ∈ ((View.whole main_v0_0).slice (win0_2.rect t)).set
  rw [View.set_slice_whole, Rect.mem_set_unit]
  exact in_block3 (p := 1) (q := 704) (w := 1024) h0 h1 h2 (by omega) (by omega) (by omega)

/-- Result 2 after the run. -/
theorem final2 (c : Dev nD) : (dats m 0 c).arrAt 2 cfg0.N = res2 m c :=
  (dats m 0 c).arrAt_eq_of_cover 2 (res2 m c) (fun t _ => flushed2_eq m c t) cover2

/-- What a grid point leaves in window 3's buffer. -/
theorem out_apply3 (c : Dev nD) (t : Fin cfg0.N) (y : S1x704x1024.Idx) :
    out0_3 (iblk m c 0 t) (iblk m c 1 t) y = res3 m c (ix3 (slab t) (y 1) (y 2)) := by
  obtain ⟨z, r, j, rfl⟩ : ∃ z r j, y = (ix3 z r j : S1x704x1024.Idx) := ⟨y 0, y 1, y 2, by funext a; fin_cases a <;> rfl⟩
  obtain rfl : z = 0 := Subsingleton.elim _ _
  unfold out0_3
  simp only [ld0, ld1, ld2, canon0, canon1, canon2]
  refine (pay3_apply ..).trans ?_
  simp only [iblk0_apply, iblk1_apply]
  rfl

/-- What a point writes back through window 3. -/
theorem flushed3_eq (c : Dev nD) (t : Fin cfg0.N) :
    (dats m 0 c).flushed 3 t = ((cfg0.win 3).blk t).view.read (Elt Ideal) (res3 m c) := by
  obtain ⟨-, -, -, ⟨h0, h1, h2⟩⟩ := index_facts t
  show (cfg0.win 3).cut (grid0.coords t) ((dats m 0 c).after 3 t) = _
  rw [after0_3]
  funext y
  rw [View.read_apply]
  refine (out_apply3 m c t y).trans (congrArg (res3 m c) ?_)
  funext a
  apply Fin.ext
  have y0 : (y 0).val = 0 := by have : (y 0).val < 1 := (y 0).isLt; omega
  match a with
  | ⟨0, _⟩ => show t.val = win0_3.index t 0 * 1 + 1 * (y 0).val; omega
  | ⟨1, _⟩ => show (y 1).val = win0_3.index t 1 * 704 + 1 * (y 1).val; rw [h1]; omega
  | ⟨2, _⟩ => show (y 2).val = win0_3.index t 2 * 1024 + 1 * (y 2).val; rw [h2]; omega

/-- The blocks cover result 3. -/
theorem cover3 (i : S4x704x1024.Idx) : ∃ t : Fin cfg0.N, (cfg0.win 3).flush t = true ∧ i ∈ ((cfg0.win 3).blk t).view.set := by
  have i0 : (i 0).val < 4 := (i 0).isLt
  have i1 : (i 1).val < 704 := (i 1).isLt
  have i2 : (i 2).val < 1024 := (i 2).isLt
  have hN : cfg0.N = 4 := N_0
  obtain ⟨t, ht⟩ : ∃ t : Fin cfg0.N, t.val = (i 0).val := ⟨⟨_, by omega⟩, rfl⟩
  obtain ⟨-, -, -, ⟨h0, h1, h2⟩⟩ := index_facts t
  refine ⟨t, flush0_3 t, ?_⟩
  show i ∈ ((View.whole main_v0_1).slice (win0_3.rect t)).set
  rw [View.set_slice_whole, Rect.mem_set_unit]
  exact in_block3 (p := 1) (q := 704) (w := 1024) h0 h1 h2 (by omega) (by omega) (by omega)

/-- Result 3 after the run. -/
theorem final3 (c : Dev nD) : (dats m 0 c).arrAt 3 cfg0.N = res3 m c :=
  (dats m 0 c).arrAt_eq_of_cover 3 (res3 m c) (fun t _ => flushed3_eq m c t) cover3

end Kernel

open Cert.FoutDwRIdeal.Read in
/-- The reference's result is the same function. -/
theorem ref_apply2 (x0 : Vec Ideal S4x2176x704 .bf16) (x1 : Vec Ideal S2176x1024 .bf16) (s : Fin 4) (r : Fin 704) (j : Fin 1024) :
    val_main_v8 (F := Ideal) x0 x1 (ix3 s r j) = slabs x0 x1 (ix3 s r j) := by
  have hr := r.isLt
  have hj := j.isLt
  have hs := s.isLt
  pointwise [val_main_v8, val_main_v7, val_main_v6, val_main_v5, val_main_v4, val_main_v3, val_main_v2, val_main_v1, val_main_v0, val_main_cst, slabs]
  exact Finset.sum_congr rfl fun k _ => mul_comm _ _

open Cert.FoutDwRIdeal.Read in
/-- The reference's result is the same function. -/
theorem ref_apply3 (x0 : Vec Ideal S4x2176x704 .bf16) (x1 : Vec Ideal S2176x1024 .bf16) (s : Fin 4) (r : Fin 704) (j : Fin 1024) :
    val_main_v9 (F := Ideal) x0 x1 (ix3 s r j) = slabs x0 x1 (ix3 s r j) := by
  have hr := r.isLt
  have hj := j.isLt
  have hs := s.isLt
  pointwise [val_main_v9, val_main_v8, val_main_v7, val_main_v6, val_main_v5, val_main_v4, val_main_v3, val_main_v2, val_main_v1, val_main_v0, val_main_cst, slabs]
  exact Finset.sum_congr rfl fun k _ => mul_comm _ _

/-- At the extended reals both end with the same results. -/
theorem algebraic : Cert.algebraic_FoutDwKIdeal_FoutDwRIdeal := by
  intro m g m' g' _ hag
  refine ⟨fun c => res2 m c, fun c => res3 m c, ?_, ?_⟩
  · exact (θ_run _ _ _).mono (fun r h c => ⟨(h c).1.trans (final2 m c), (h c).2.1.trans (final3 m c), (h c).2.2⟩) (FoutDwKIdeal.Value.run_blocks m g)
  · refine (θ_run _ _ _).mono (fun r h c => ⟨(h c).1.trans ?_, (h c).2.1.trans ?_, (h c).2.2⟩) (FoutDwRIdeal.Value.run (F := Ideal) m' g')
    all_goals obtain ⟨a0, a1⟩ := hag c
    all_goals rw [a0, a1]
    · refine (FoutDwRIdeal.Read.val_main_v8_eq (F := Ideal) _ _).trans ?_
      funext i
      obtain ⟨a, b, c, rfl⟩ : ∃ a b c, i = (ix3 a b c : S4x704x1024.Idx) := ⟨i 0, i 1, i 2, by funext a; fin_cases a <;> rfl⟩
      exact ref_apply2 _ _ a b c
    · refine (FoutDwRIdeal.Read.val_main_v9_eq (F := Ideal) _ _).trans ?_
      funext i
      obtain ⟨a, b, c, rfl⟩ : ∃ a b c, i = (ix3 a b c : S4x704x1024.Idx) := ⟨i 0, i 1, i 2, by funext a; fin_cases a <;> rfl⟩
      exact ref_apply3 _ _ a b c

end Cert.FoutDw

end
-- ==== Proof.MixDw.lean ====
module

public import proofs.«01_k».proof.Proof.Blocks
public import proofs.«01_k».proof.Proof.Gen.MixDwKIdeal.Value
public import proofs.«01_k».proof.Proof.Gen.MixDwRIdeal.Run
public import proofs.«01_k».proof.Proof.Gen.MixDwRIdeal.Read

@[expose] public section

/-! The gradient of the output mixer's weight, 256 columns at each grid point. -/

set_option maxRecDepth 16384

noncomputable section

open Idealize.ShloMosaic Idealize.ShloMosaic.TcCoe Idealize.SL.Sem
open Cert.Blocks

namespace Cert.MixDw

open Cert.MixDwKIdeal

/-- Entry `i` of the product. -/
def product (x0 : Vec Ideal S2176x1024 .bf16) (x1 : Vec Ideal S2176x1024 .bf16) : S1024x1024.Idx → EReal := fun i =>
  ∑ k : Fin 2176, x0 (ix2 k (i 0)) * x1 (ix2 k (i 1))

/-- The product that the call forms of two loaded blocks. -/
theorem pay1_apply (v0 : Vec Ideal S2176x1024 .bf16) (v1 : Vec Ideal S2176x256 .bf16) (r : Fin 1024) (j : Fin 256) :
    Gen.k0_pay1 v0 v1 (ix2 r j) = ∑ k : Fin 2176, v0 (ix2 k r) * v1 (ix2 k j) := by
  pointwise [Gen.k0_pay1]

/-- The same, narrowed. -/
theorem pay2_apply (v0 : Vec Ideal S2176x1024 .bf16) (v1 : Vec Ideal S2176x256 .bf16) (r : Fin 1024) (j : Fin 256) :
    Gen.k0_pay2 v0 v1 (ix2 r j) = ∑ k : Fin 2176, v0 (ix2 k r) * v1 (ix2 k j) := by
  pointwise [Gen.k0_pay2, Gen.k0_pay1]

section Kernel

variable (m : (ℓ : Loc nD τ sig) → Buf (Elt Ideal) ℓ) (ρ : Dev nD → PrngReg)

open Gen

/-- Where each window's block lies. -/
theorem index_facts : ∀ t : Fin grid0.N,
    (win0_0.index t 0 = 0 ∧ win0_0.index t 1 = 0)
    ∧ (win0_1.index t 0 = 0 ∧ win0_1.index t 1 = t.val)
    ∧ (win0_2.index t 0 = 0 ∧ win0_2.index t 1 = t.val)
    ∧ (win0_3.index t 0 = 0 ∧ win0_3.index t 1 = t.val) := by decide +kernel

/-- Column `j` of the columns that point `t` works on. -/
abbrev col (t : Fin cfg0.N) (j : Fin 256) : Fin 1024 :=
  ⟨t.val * 256 + j.val, by have := j.isLt; have := t.isLt; have hN : cfg0.N = 4 := N_0; omega⟩

/-- Input window 0's block at a point. -/
theorem iblk0_apply (c : Dev nD) (t : Fin cfg0.N) (k : Fin 2176) (r : Fin 1024) :
    (iblk m c 0 t : Vec Ideal S2176x1024 .bf16) (ix2 k r) = m (c.tc.loc main_arg0) (ix2 k r) := by
  obtain ⟨⟨h0, h1⟩, -⟩ := index_facts t
  exact (View.read_apply _ _).trans (congrArg (m (c.tc.loc main_arg0)) (eq_ix2 (show win0_0.index t 0 * 2176 + 1 * k.val = k.val by rw [h0]; omega) (show win0_0.index t 1 * 1024 + 1 * r.val = r.val by rw [h1]; omega)))

/-- Input window 1's block at a point. -/
theorem iblk1_apply (c : Dev nD) (t : Fin cfg0.N) (k : Fin 2176) (j : Fin 256) :
    (iblk m c 1 t : Vec Ideal S2176x256 .bf16) (ix2 k j) = m (c.tc.loc main_arg1) (ix2 k (col t j)) := by
  obtain ⟨-, ⟨h0, h1⟩, -⟩ := index_facts t
  exact (View.read_apply _ _).trans (congrArg (m (c.tc.loc main_arg1)) (eq_ix2 (show win0_1.index t 0 * 2176 + 1 * k.val = k.val by rw [h0]; omega) (show win0_1.index t 1 * 256 + 1 * j.val = t.val * 256 + j.val by rw [h1]; omega)))

/-- Window 2's array after the run. -/
abbrev res2 (c : Dev nD) : Buf (Elt Ideal) ((c : Thread nD τ).loc main_v0_0) :=
  product (m (c.tc.loc main_arg0)) (m (c.tc.loc main_arg1))

/-- Window 3's array after the run. -/
abbrev res3 (c : Dev nD) : Buf (Elt Ideal) ((c : Thread nD τ).loc main_v0_1) :=
  product (m (c.tc.loc main_arg0)) (m (c.tc.loc main_arg1))

theorem ld0 {e} (X : Vec Ideal S2176x1024 e) : View.ld X r0_0 = X := View.ld_unit_zero zero2 _ X
theorem canon0 {e} (X : Vec Ideal S2176x1024 e) : View.canon (Val := Elt Ideal) [⟨r0_0, X⟩] = X := View.canon_unit_zero zero2 _ X
theorem ld1 {e} (X : Vec Ideal S2176x256 e) : View.ld X r0_1 = X := View.ld_unit_zero zero2 _ X
theorem canon1 {e} (X : Vec Ideal S2176x256 e) : View.canon (Val := Elt Ideal) [⟨r0_1, X⟩] = X := View.canon_unit_zero zero2 _ X
theorem ld2 {e} (X : Vec Ideal S1024x256 e) : View.ld X r0_2 = X := View.ld_unit_zero zero2 _ X
theorem canon2 {e} (X : Vec Ideal S1024x256 e) : View.canon (Val := Elt Ideal) [⟨r0_2, X⟩] = X := View.canon_unit_zero zero2 _ X

/-- What a grid point leaves in window 2's buffer. -/
theorem out_apply2 (c : Dev nD) (t : Fin cfg0.N) (y : S1024x256.Idx) :
    out0_2 (iblk m c 0 t) (iblk m c 1 t) y = res2 m c (ix2 (y 0) (col t (y 1))) := by
  obtain ⟨r, j, rfl⟩ := idx2 (R := 1024) (C := 256) y
  unfold out0_2
  simp only [ld0, ld1, ld2, canon0, canon1, canon2]
  refine (pay1_apply ..).trans ?_
  simp only [iblk0_apply, iblk1_apply]
  rfl

/-- What a point writes back through window 2. -/
theorem flushed2_eq (c : Dev nD) (t : Fin cfg0.N) :
    (dats m 0 c).flushed 2 t = ((cfg0.win 2).blk t).view.read (Elt Ideal) (res2 m c) := by
  obtain ⟨-, -, ⟨h0, h1⟩, -⟩ := index_facts t
  show (cfg0.win 2).cut (grid0.coords t) ((dats m 0 c).after 2 t) = _
  rw [after0_2]
  funext y
  rw [View.read_apply]
  refine (out_apply2 m c t y).trans (congrArg (res2 m c) ?_)
  exact Eq.symm (eq_ix2 (show win0_2.index t 0 * 1024 + 1 * (y 0).val = (y 0).val by rw [h0]; omega) (show win0_2.index t 1 * 256 + 1 * (y 1).val = t.val * 256 + (y 1).val by rw [h1]; omega))

/-- The blocks cover result 2. -/
theorem cover2 (i : S1024x1024.Idx) : ∃ t : Fin cfg0.N, (cfg0.win 2).flush t = true ∧ i ∈ ((cfg0.win 2).blk t).view.set := by
  have i0 : (i 0).val < 1024 := (i 0).isLt
  have i1 : (i 1).val < 1024 := (i 1).isLt
  have hN : cfg0.N = 4 := N_0
  obtain ⟨t, ht⟩ : ∃ t : Fin cfg0.N, t.val = (i 1).val / 256 := ⟨⟨_, by omega⟩, rfl⟩
  obtain ⟨-, -, ⟨h0, h1⟩, -⟩ := index_facts t
  refine ⟨t, flush0_2 t, ?_⟩
  show i ∈ ((View.whole main_v0_0).slice (win0_2.rect t)).set
  rw [View.set_slice_whole, Rect.mem_set_unit]
  exact in_block2 (p := 1024) (q := 256) h0 h1 (by omega) (by omega)

/-- Result 2 after the run. -/
theorem final2 (c : Dev nD) : (dats m 0 c).arrAt 2 cfg0.N = res2 m c :=
  (dats m 0 c).arrAt_eq_of_cover 2 (res2 m c) (fun t _ => flushed2_eq m c t) cover2

/-- What a grid point leaves in window 3's buffer. -/
theorem out_apply3 (c : Dev nD) (t : Fin cfg0.N) (y : S1024x256.Idx) :
    out0_3 (iblk m c 0 t) (iblk m c 1 t) y = res3 m c (ix2 (y 0) (col t (y 1))) := by
  obtain ⟨r, j, rfl⟩ := idx2 (R := 1024) (C := 256) y
  unfold out0_3
  simp only [ld0, ld1, ld2, canon0, canon1, canon2]
  refine (pay2_apply ..).trans ?_
  simp only [iblk0_apply, iblk1_apply]
  rfl

/-- What a point writes back through window 3. -/
theorem flushed3_eq (c : Dev nD) (t : Fin cfg0.N) :
    (dats m 0 c).flushed 3 t = ((cfg0.win 3).blk t).view.read (Elt Ideal) (res3 m c) := by
  obtain ⟨-, -, -, ⟨h0, h1⟩⟩ := index_facts t
  show (cfg0.win 3).cut (grid0.coords t) ((dats m 0 c).after 3 t) = _
  rw [after0_3]
  funext y
  rw [View.read_apply]
  refine (out_apply3 m c t y).trans (congrArg (res3 m c) ?_)
  exact Eq.symm (eq_ix2 (show win0_3.index t 0 * 1024 + 1 * (y 0).val = (y 0).val by rw [h0]; omega) (show win0_3.index t 1 * 256 + 1 * (y 1).val = t.val * 256 + (y 1).val by rw [h1]; omega))

/-- The blocks cover result 3. -/
theorem cover3 (i : S1024x1024.Idx) : ∃ t : Fin cfg0.N, (cfg0.win 3).flush t = true ∧ i ∈ ((cfg0.win 3).blk t).view.set := by
  have i0 : (i 0).val < 1024 := (i 0).isLt
  have i1 : (i 1).val < 1024 := (i 1).isLt
  have hN : cfg0.N = 4 := N_0
  obtain ⟨t, ht⟩ : ∃ t : Fin cfg0.N, t.val = (i 1).val / 256 := ⟨⟨_, by omega⟩, rfl⟩
  obtain ⟨-, -, -, ⟨h0, h1⟩⟩ := index_facts t
  refine ⟨t, flush0_3 t, ?_⟩
  show i ∈ ((View.whole main_v0_1).slice (win0_3.rect t)).set
  rw [View.set_slice_whole, Rect.mem_set_unit]
  exact in_block2 (p := 1024) (q := 256) h0 h1 (by omega) (by omega)

/-- Result 3 after the run. -/
theorem final3 (c : Dev nD) : (dats m 0 c).arrAt 3 cfg0.N = res3 m c :=
  (dats m 0 c).arrAt_eq_of_cover 3 (res3 m c) (fun t _ => flushed3_eq m c t) cover3

end Kernel

open Cert.MixDwRIdeal.Read in
/-- The reference's result is the same function. -/
theorem ref_apply2 (x0 : Vec Ideal S2176x1024 .bf16) (x1 : Vec Ideal S2176x1024 .bf16) (r : Fin 1024) (j : Fin 1024) :
    val_main_v5 (F := Ideal) x0 x1 (ix2 r j) = product x0 x1 (ix2 r j) := by
  pointwise [val_main_v5, val_main_v4, val_main_v3, val_main_v2, val_main_v1, val_main_v0, val_main_cst, product]
  exact Finset.sum_congr rfl fun k _ => mul_comm _ _

open Cert.MixDwRIdeal.Read in
/-- The reference's result is the same function. -/
theorem ref_apply3 (x0 : Vec Ideal S2176x1024 .bf16) (x1 : Vec Ideal S2176x1024 .bf16) (r : Fin 1024) (j : Fin 1024) :
    val_main_v6 (F := Ideal) x0 x1 (ix2 r j) = product x0 x1 (ix2 r j) := by
  pointwise [val_main_v6, val_main_v5, val_main_v4, val_main_v3, val_main_v2, val_main_v1, val_main_v0, val_main_cst, product]
  exact Finset.sum_congr rfl fun k _ => mul_comm _ _

/-- At the extended reals both end with the same results. -/
theorem algebraic : Cert.algebraic_MixDwKIdeal_MixDwRIdeal := by
  intro m g m' g' _ hag
  refine ⟨fun c => res2 m c, fun c => res3 m c, ?_, ?_⟩
  · exact (θ_run _ _ _).mono (fun r h c => ⟨(h c).1.trans (final2 m c), (h c).2.1.trans (final3 m c), (h c).2.2⟩) (MixDwKIdeal.Value.run_blocks m g)
  · refine (θ_run _ _ _).mono (fun r h c => ⟨(h c).1.trans ?_, (h c).2.1.trans ?_, (h c).2.2⟩) (MixDwRIdeal.Value.run (F := Ideal) m' g')
    all_goals obtain ⟨a0, a1⟩ := hag c
    all_goals rw [a0, a1]
    · refine (MixDwRIdeal.Read.val_main_v5_eq (F := Ideal) _ _).trans ?_
      funext i
      obtain ⟨a, b, rfl⟩ := idx2 (R := 1024) (C := 1024) i
      exact ref_apply2 _ _ a b
    · refine (MixDwRIdeal.Read.val_main_v6_eq (F := Ideal) _ _).trans ?_
      funext i
      obtain ⟨a, b, rfl⟩ := idx2 (R := 1024) (C := 1024) i
      exact ref_apply3 _ _ a b

end Cert.MixDw

end
-- ==== Proof.AttnDw.lean ====
module

public import proofs.«01_k».proof.Proof.Blocks
public import proofs.«01_k».proof.Proof.Gen.AttnDwKIdeal
public import proofs.«01_k».proof.Proof.Gen.AttnDwRIdeal
public import proofs.«01_k».proof.Proof.MixDw

/-! The attention output's weight gradient is printed in the same words as the mixer output's weight gradient, at other arguments: its value claim is
that one's. -/

@[expose] public section

set_option maxRecDepth 65536
set_option maxHeartbeats 4000000

noncomputable section
namespace Cert.AttnDw
open Idealize.ShloMosaic Idealize.SL.Sem
open Cert.Blocks
variable {F : FTy → Type} [FloatOps F]

/-- The two calls have the same body. -/
theorem bodies_eq : @Cert.AttnDwKIdeal.defs₀ F _ Cert.AttnDwKIdeal.Gen.facts = @Cert.MixDwKIdeal.defs₀ F _ Cert.MixDwKIdeal.Gen.facts := by
  unfold Cert.AttnDwKIdeal.defs₀ Cert.MixDwKIdeal.defs₀
  refine congrArg (Defs.onTc (nD := MixDwKIdeal.nD) (τ := MixDwKIdeal.τ) (sig := MixDwKIdeal.sig) (Val := Elt F)) (funext fun l => funext fun a => ?_)
  match l, a with
  | 0, (t, s) => rfl
  | ⟨_ + 1, h⟩, _ => exact absurd h (Nat.not_lt.2 (Nat.le_add_left _ _))

/-- They have the same procedures. -/
theorem procs_eq : @Cert.AttnDwKIdeal.defs F _ Cert.AttnDwKIdeal.Gen.facts = @Cert.MixDwKIdeal.defs F _ Cert.MixDwKIdeal.Gen.facts :=
  congrArg (Pipeline.defs Cert.MixDwKIdeal.pcfgs) bodies_eq

/-- At the extended reals both end with the same results. -/
theorem algebraic : @Cert.algebraic_AttnDwKIdeal_AttnDwRIdeal Cert.AttnDwKIdeal.Gen.facts Cert.AttnDwRIdeal.Gen.facts := by
  intro m g m' g' p hag
  rw [procs_eq]
  exact Cert.MixDw.algebraic m g m' g' p hag

end Cert.AttnDw
end
-- ==== Proof.ConvDw.lean ====
module

public import proofs.«01_k».proof.Proof.Blocks
public import proofs.«01_k».proof.Proof.Gen.ConvDwKIdeal
public import proofs.«01_k».proof.Proof.Gen.ConvDwRIdeal
public import proofs.«01_k».proof.Proof.MixDw

/-! The convolution output's weight gradient is printed in the same words as the mixer output's weight gradient, at other arguments: its value claim is
that one's. -/

@[expose] public section

set_option maxRecDepth 65536
set_option maxHeartbeats 4000000

noncomputable section
namespace Cert.ConvDw
open Idealize.ShloMosaic Idealize.SL.Sem
open Cert.Blocks
variable {F : FTy → Type} [FloatOps F]

/-- The two calls have the same body. -/
theorem bodies_eq : @Cert.ConvDwKIdeal.defs₀ F _ Cert.ConvDwKIdeal.Gen.facts = @Cert.MixDwKIdeal.defs₀ F _ Cert.MixDwKIdeal.Gen.facts := by
  unfold Cert.ConvDwKIdeal.defs₀ Cert.MixDwKIdeal.defs₀
  refine congrArg (Defs.onTc (nD := MixDwKIdeal.nD) (τ := MixDwKIdeal.τ) (sig := MixDwKIdeal.sig) (Val := Elt F)) (funext fun l => funext fun a => ?_)
  match l, a with
  | 0, (t, s) => rfl
  | ⟨_ + 1, h⟩, _ => exact absurd h (Nat.not_lt.2 (Nat.le_add_left _ _))

/-- They have the same procedures. -/
theorem procs_eq : @Cert.ConvDwKIdeal.defs F _ Cert.ConvDwKIdeal.Gen.facts = @Cert.MixDwKIdeal.defs F _ Cert.MixDwKIdeal.Gen.facts :=
  congrArg (Pipeline.defs Cert.MixDwKIdeal.pcfgs) bodies_eq

/-- At the extended reals both end with the same results. -/
theorem algebraic : @Cert.algebraic_ConvDwKIdeal_ConvDwRIdeal Cert.ConvDwKIdeal.Gen.facts Cert.ConvDwRIdeal.Gen.facts := by
  intro m g m' g' p hag
  rw [procs_eq]
  exact Cert.MixDw.algebraic m g m' g' p hag

end Cert.ConvDw
end
-- ==== Proof.AttnDx.lean ====
module

public import proofs.«01_k».proof.Proof.Blocks
public import proofs.«01_k».proof.Proof.Gen.AttnDxKIdeal.Value
public import proofs.«01_k».proof.Proof.Gen.AttnDxRIdeal.Run
public import proofs.«01_k».proof.Proof.Gen.AttnDxRIdeal.Read

@[expose] public section

/-! The gradient that reaches the attention's output, 256 columns at each grid point. -/

set_option maxRecDepth 16384

noncomputable section

open Idealize.ShloMosaic Idealize.ShloMosaic.TcCoe Idealize.SL.Sem
open Cert.Blocks

namespace Cert.AttnDx

open Cert.AttnDxKIdeal

/-- Entry `i` of the product. -/
def product (x0 : Vec Ideal S2176x1024 .bf16) (x1 : Vec Ideal S1024x1024 .bf16) : S2176x1024.Idx → EReal := fun i =>
  ∑ k : Fin 1024, x0 (ix2 (i 0) k) * x1 (ix2 (i 1) k)

/-- The product that the call forms of two loaded blocks. -/
theorem pay1_apply (v0 : Vec Ideal S2176x1024 .bf16) (v1 : Vec Ideal S256x1024 .bf16) (r : Fin 2176) (j : Fin 256) :
    Gen.k0_pay1 v0 v1 (ix2 r j) = ∑ k : Fin 1024, v0 (ix2 r k) * v1 (ix2 j k) := by
  pointwise [Gen.k0_pay1]

section Kernel

variable (m : (ℓ : Loc nD τ sig) → Buf (Elt Ideal) ℓ) (ρ : Dev nD → PrngReg)

open Gen

/-- Where each window's block lies. -/
theorem index_facts : ∀ t : Fin grid0.N,
    (win0_0.index t 0 = 0 ∧ win0_0.index t 1 = 0)
    ∧ (win0_1.index t 0 = t.val ∧ win0_1.index t 1 = 0)
    ∧ (win0_2.index t 0 = 0 ∧ win0_2.index t 1 = t.val) := by decide +kernel

/-- Column `j` of the columns that point `t` works on. -/
abbrev col (t : Fin cfg0.N) (j : Fin 256) : Fin 1024 :=
  ⟨t.val * 256 + j.val, by have := j.isLt; have := t.isLt; have hN : cfg0.N = 4 := N_0; omega⟩

/-- Input window 0's block at a point. -/
theorem iblk0_apply (c : Dev nD) (t : Fin cfg0.N) (r : Fin 2176) (k : Fin 1024) :
    (iblk m c 0 t : Vec Ideal S2176x1024 .bf16) (ix2 r k) = m (c.tc.loc main_arg0) (ix2 r k) := by
  obtain ⟨⟨h0, h1⟩, -⟩ := index_facts t
  exact (View.read_apply _ _).trans (congrArg (m (c.tc.loc main_arg0)) (eq_ix2 (show win0_0.index t 0 * 2176 + 1 * r.val = r.val by rw [h0]; omega) (show win0_0.index t 1 * 1024 + 1 * k.val = k.val by rw [h1]; omega)))

/-- Input window 1's block at a point. -/
theorem iblk1_apply (c : Dev nD) (t : Fin cfg0.N) (j : Fin 256) (k : Fin 1024) :
    (iblk m c 1 t : Vec Ideal S256x1024 .bf16) (ix2 j k) = m (c.tc.loc main_arg1) (ix2 (col t j) k) := by
  obtain ⟨-, ⟨h0, h1⟩, -⟩ := index_facts t
  exact (View.read_apply _ _).trans (congrArg (m (c.tc.loc main_arg1)) (eq_ix2 (show win0_1.index t 0 * 256 + 1 * j.val = t.val * 256 + j.val by rw [h0]; omega) (show win0_1.index t 1 * 1024 + 1 * k.val = k.val by rw [h1]; omega)))

/-- Window 2's array after the run. -/
abbrev res2 (c : Dev nD) : Buf (Elt Ideal) ((c : Thread nD τ).loc main_v0) :=
  product (m (c.tc.loc main_arg0)) (m (c.tc.loc main_arg1))

theorem ld0 {e} (X : Vec Ideal S2176x1024 e) : View.ld X r0_0 = X := View.ld_unit_zero zero2 _ X
theorem canon0 {e} (X : Vec Ideal S2176x1024 e) : View.canon (Val := Elt Ideal) [⟨r0_0, X⟩] = X := View.canon_unit_zero zero2 _ X
theorem ld1 {e} (X : Vec Ideal S256x1024 e) : View.ld X r0_1 = X := View.ld_unit_zero zero2 _ X
theorem canon1 {e} (X : Vec Ideal S256x1024 e) : View.canon (Val := Elt Ideal) [⟨r0_1, X⟩] = X := View.canon_unit_zero zero2 _ X
theorem ld2 {e} (X : Vec Ideal S2176x256 e) : View.ld X r0_2 = X := View.ld_unit_zero zero2 _ X
theorem canon2 {e} (X : Vec Ideal S2176x256 e) : View.canon (Val := Elt Ideal) [⟨r0_2, X⟩] = X := View.canon_unit_zero zero2 _ X

/-- What a grid point leaves in window 2's buffer. -/
theorem out_apply2 (c : Dev nD) (t : Fin cfg0.N) (y : S2176x256.Idx) :
    out0_2 (iblk m c 0 t) (iblk m c 1 t) y = res2 m c (ix2 (y 0) (col t (y 1))) := by
  obtain ⟨r, j, rfl⟩ := idx2 (R := 2176) (C := 256) y
  unfold out0_2
  simp only [ld0, ld1, ld2, canon0, canon1, canon2]
  refine (pay1_apply ..).trans ?_
  simp only [iblk0_apply, iblk1_apply]
  rfl

/-- What a point writes back through window 2. -/
theorem flushed2_eq (c : Dev nD) (t : Fin cfg0.N) :
    (dats m 0 c).flushed 2 t = ((cfg0.win 2).blk t).view.read (Elt Ideal) (res2 m c) := by
  obtain ⟨-, -, ⟨h0, h1⟩⟩ := index_facts t
  show (cfg0.win 2).cut (grid0.coords t) ((dats m 0 c).after 2 t) = _
  rw [after0_2]
  funext y
  rw [View.read_apply]
  refine (out_apply2 m c t y).trans (congrArg (res2 m c) ?_)
  exact Eq.symm (eq_ix2 (show win0_2.index t 0 * 2176 + 1 * (y 0).val = (y 0).val by rw [h0]; omega) (show win0_2.index t 1 * 256 + 1 * (y 1).val = t.val * 256 + (y 1).val by rw [h1]; omega))

/-- The blocks cover result 2. -/
theorem cover2 (i : S2176x1024.Idx) : ∃ t : Fin cfg0.N, (cfg0.win 2).flush t = true ∧ i ∈ ((cfg0.win 2).blk t).view.set := by
  have i0 : (i 0).val < 2176 := (i 0).isLt
  have i1 : (i 1).val < 1024 := (i 1).isLt
  have hN : cfg0.N = 4 := N_0
  obtain ⟨t, ht⟩ : ∃ t : Fin cfg0.N, t.val = (i 1).val / 256 := ⟨⟨_, by omega⟩, rfl⟩
  obtain ⟨-, -, ⟨h0, h1⟩⟩ := index_facts t
  refine ⟨t, flush0_2 t, ?_⟩
  show i ∈ ((View.whole main_v0).slice (win0_2.rect t)).set
  rw [View.set_slice_whole, Rect.mem_set_unit]
  exact in_block2 (p := 2176) (q := 256) h0 h1 (by omega) (by omega)

/-- Result 2 after the run. -/
theorem final2 (c : Dev nD) : (dats m 0 c).arrAt 2 cfg0.N = res2 m c :=
  (dats m 0 c).arrAt_eq_of_cover 2 (res2 m c) (fun t _ => flushed2_eq m c t) cover2

end Kernel

open Cert.AttnDxRIdeal.Read in
/-- The reference's result is the same function. -/
theorem ref_apply2 (x0 : Vec Ideal S2176x1024 .bf16) (x1 : Vec Ideal S1024x1024 .bf16) (r : Fin 2176) (j : Fin 1024) :
    val_main_v5 (F := Ideal) x0 x1 (ix2 r j) = product x0 x1 (ix2 r j) := by
  pointwise [val_main_v5, val_main_v4, val_main_v3, val_main_v2, val_main_v1, val_main_v0, val_main_cst, product]

/-- At the extended reals both end with the same results. -/
theorem algebraic : Cert.algebraic_AttnDxKIdeal_AttnDxRIdeal := by
  intro m g m' g' _ hag
  refine ⟨fun c => res2 m c, ?_, ?_⟩
  · exact (θ_run _ _ _).mono (fun r h c => ⟨(h c).1.trans (final2 m c), (h c).2⟩) (AttnDxKIdeal.Value.run_blocks m g)
  · refine (θ_run _ _ _).mono (fun r h c => ⟨(h c).1.trans ?_, (h c).2⟩) (AttnDxRIdeal.Value.run (F := Ideal) m' g')
    all_goals obtain ⟨a0, a1⟩ := hag c
    all_goals rw [a0, a1]
    · refine (AttnDxRIdeal.Read.val_main_v5_eq (F := Ideal) _ _).trans ?_
      funext i
      obtain ⟨a, b, rfl⟩ := idx2 (R := 2176) (C := 1024) i
      exact ref_apply2 _ _ a b

end Cert.AttnDx

end
-- ==== Proof.ConvDx.lean ====
module

public import proofs.«01_k».proof.Proof.Blocks
public import proofs.«01_k».proof.Proof.Gen.ConvDxKIdeal.Value
public import proofs.«01_k».proof.Proof.Gen.ConvDxRIdeal.Run
public import proofs.«01_k».proof.Proof.Gen.ConvDxRIdeal.Read

@[expose] public section

/-! The gradient that reaches the convolution's normalised output, 256 columns at each grid point. -/

set_option maxRecDepth 16384

noncomputable section

open Idealize.ShloMosaic Idealize.ShloMosaic.TcCoe Idealize.SL.Sem
open Cert.Blocks

namespace Cert.ConvDx

open Cert.ConvDxKIdeal

/-- Entry `i` of the product. -/
def product (x0 : Vec Ideal S2176x1024 .bf16) (x1 : Vec Ideal S1024x1024 .bf16) : S2176x1024.Idx → EReal := fun i =>
  ∑ k : Fin 1024, x0 (ix2 (i 0) k) * x1 (ix2 (i 1) k)

/-- The product that the call forms of two loaded blocks. -/
theorem pay1_apply (v0 : Vec Ideal S2176x1024 .bf16) (v1 : Vec Ideal S256x1024 .bf16) (r : Fin 2176) (j : Fin 256) :
    Gen.k0_pay1 v0 v1 (ix2 r j) = ∑ k : Fin 1024, v0 (ix2 r k) * v1 (ix2 j k) := by
  pointwise [Gen.k0_pay1]

section Kernel

variable (m : (ℓ : Loc nD τ sig) → Buf (Elt Ideal) ℓ) (ρ : Dev nD → PrngReg)

open Gen

/-- Where each window's block lies. -/
theorem index_facts : ∀ t : Fin grid0.N,
    (win0_0.index t 0 = 0 ∧ win0_0.index t 1 = 0)
    ∧ (win0_1.index t 0 = t.val ∧ win0_1.index t 1 = 0)
    ∧ (win0_2.index t 0 = 0 ∧ win0_2.index t 1 = t.val) := by decide +kernel

/-- Column `j` of the columns that point `t` works on. -/
abbrev col (t : Fin cfg0.N) (j : Fin 256) : Fin 1024 :=
  ⟨t.val * 256 + j.val, by have := j.isLt; have := t.isLt; have hN : cfg0.N = 4 := N_0; omega⟩

/-- Input window 0's block at a point. -/
theorem iblk0_apply (c : Dev nD) (t : Fin cfg0.N) (r : Fin 2176) (k : Fin 1024) :
    (iblk m c 0 t : Vec Ideal S2176x1024 .bf16) (ix2 r k) = m (c.tc.loc main_arg0) (ix2 r k) := by
  obtain ⟨⟨h0, h1⟩, -⟩ := index_facts t
  exact (View.read_apply _ _).trans (congrArg (m (c.tc.loc main_arg0)) (eq_ix2 (show win0_0.index t 0 * 2176 + 1 * r.val = r.val by rw [h0]; omega) (show win0_0.index t 1 * 1024 + 1 * k.val = k.val by rw [h1]; omega)))

/-- Input window 1's block at a point. -/
theorem iblk1_apply (c : Dev nD) (t : Fin cfg0.N) (j : Fin 256) (k : Fin 1024) :
    (iblk m c 1 t : Vec Ideal S256x1024 .bf16) (ix2 j k) = m (c.tc.loc main_arg1) (ix2 (col t j) k) := by
  obtain ⟨-, ⟨h0, h1⟩, -⟩ := index_facts t
  exact (View.read_apply _ _).trans (congrArg (m (c.tc.loc main_arg1)) (eq_ix2 (show win0_1.index t 0 * 256 + 1 * j.val = t.val * 256 + j.val by rw [h0]; omega) (show win0_1.index t 1 * 1024 + 1 * k.val = k.val by rw [h1]; omega)))

/-- Window 2's array after the run. -/
abbrev res2 (c : Dev nD) : Buf (Elt Ideal) ((c : Thread nD τ).loc main_v0) :=
  product (m (c.tc.loc main_arg0)) (m (c.tc.loc main_arg1))

theorem ld0 {e} (X : Vec Ideal S2176x1024 e) : View.ld X r0_0 = X := View.ld_unit_zero zero2 _ X
theorem canon0 {e} (X : Vec Ideal S2176x1024 e) : View.canon (Val := Elt Ideal) [⟨r0_0, X⟩] = X := View.canon_unit_zero zero2 _ X
theorem ld1 {e} (X : Vec Ideal S256x1024 e) : View.ld X r0_1 = X := View.ld_unit_zero zero2 _ X
theorem canon1 {e} (X : Vec Ideal S256x1024 e) : View.canon (Val := Elt Ideal) [⟨r0_1, X⟩] = X := View.canon_unit_zero zero2 _ X
theorem ld2 {e} (X : Vec Ideal S2176x256 e) : View.ld X r0_2 = X := View.ld_unit_zero zero2 _ X
theorem canon2 {e} (X : Vec Ideal S2176x256 e) : View.canon (Val := Elt Ideal) [⟨r0_2, X⟩] = X := View.canon_unit_zero zero2 _ X

/-- What a grid point leaves in window 2's buffer. -/
theorem out_apply2 (c : Dev nD) (t : Fin cfg0.N) (y : S2176x256.Idx) :
    out0_2 (iblk m c 0 t) (iblk m c 1 t) y = res2 m c (ix2 (y 0) (col t (y 1))) := by
  obtain ⟨r, j, rfl⟩ := idx2 (R := 2176) (C := 256) y
  unfold out0_2
  simp only [ld0, ld1, ld2, canon0, canon1, canon2]
  refine (pay1_apply ..).trans ?_
  simp only [iblk0_apply, iblk1_apply]
  rfl

/-- What a point writes back through window 2. -/
theorem flushed2_eq (c : Dev nD) (t : Fin cfg0.N) :
    (dats m 0 c).flushed 2 t = ((cfg0.win 2).blk t).view.read (Elt Ideal) (res2 m c) := by
  obtain ⟨-, -, ⟨h0, h1⟩⟩ := index_facts t
  show (cfg0.win 2).cut (grid0.coords t) ((dats m 0 c).after 2 t) = _
  rw [after0_2]
  funext y
  rw [View.read_apply]
  refine (out_apply2 m c t y).trans (congrArg (res2 m c) ?_)
  exact Eq.symm (eq_ix2 (show win0_2.index t 0 * 2176 + 1 * (y 0).val = (y 0).val by rw [h0]; omega) (show win0_2.index t 1 * 256 + 1 * (y 1).val = t.val * 256 + (y 1).val by rw [h1]; omega))

/-- The blocks cover result 2. -/
theorem cover2 (i : S2176x1024.Idx) : ∃ t : Fin cfg0.N, (cfg0.win 2).flush t = true ∧ i ∈ ((cfg0.win 2).blk t).view.set := by
  have i0 : (i 0).val < 2176 := (i 0).isLt
  have i1 : (i 1).val < 1024 := (i 1).isLt
  have hN : cfg0.N = 4 := N_0
  obtain ⟨t, ht⟩ : ∃ t : Fin cfg0.N, t.val = (i 1).val / 256 := ⟨⟨_, by omega⟩, rfl⟩
  obtain ⟨-, -, ⟨h0, h1⟩⟩ := index_facts t
  refine ⟨t, flush0_2 t, ?_⟩
  show i ∈ ((View.whole main_v0).slice (win0_2.rect t)).set
  rw [View.set_slice_whole, Rect.mem_set_unit]
  exact in_block2 (p := 2176) (q := 256) h0 h1 (by omega) (by omega)

/-- Result 2 after the run. -/
theorem final2 (c : Dev nD) : (dats m 0 c).arrAt 2 cfg0.N = res2 m c :=
  (dats m 0 c).arrAt_eq_of_cover 2 (res2 m c) (fun t _ => flushed2_eq m c t) cover2

end Kernel

open Cert.ConvDxRIdeal.Read in
/-- The reference's result is the same function. -/
theorem ref_apply2 (x0 : Vec Ideal S2176x1024 .bf16) (x1 : Vec Ideal S1024x1024 .bf16) (r : Fin 2176) (j : Fin 1024) :
    val_main_v4 (F := Ideal) x0 x1 (ix2 r j) = product x0 x1 (ix2 r j) := by
  pointwise [val_main_v4, val_main_v3, val_main_v2, val_main_v1, val_main_v0, val_main_cst, product]

/-- At the extended reals both end with the same results. -/
theorem algebraic : Cert.algebraic_ConvDxKIdeal_ConvDxRIdeal := by
  intro m g m' g' _ hag
  refine ⟨fun c => res2 m c, ?_, ?_⟩
  · exact (θ_run _ _ _).mono (fun r h c => ⟨(h c).1.trans (final2 m c), (h c).2⟩) (ConvDxKIdeal.Value.run_blocks m g)
  · refine (θ_run _ _ _).mono (fun r h c => ⟨(h c).1.trans ?_, (h c).2⟩) (ConvDxRIdeal.Value.run (F := Ideal) m' g')
    all_goals obtain ⟨a0, a1⟩ := hag c
    all_goals rw [a0, a1]
    · refine (ConvDxRIdeal.Read.val_main_v4_eq (F := Ideal) _ _).trans ?_
      funext i
      obtain ⟨a, b, rfl⟩ := idx2 (R := 2176) (C := 1024) i
      exact ref_apply2 _ _ a b

end Cert.ConvDx

end
-- ==== Proof.Fin.lean ====
module

public import proofs.«01_k».proof.Proof.Blocks
public import proofs.«01_k».proof.Proof.Gen.FinKIdeal.Value
public import proofs.«01_k».proof.Proof.Gen.FinRIdeal.Run
public import proofs.«01_k».proof.Proof.Gen.FinRIdeal.Read

@[expose] public section

/-! The feed-forward's first product and its gated unit: one stretch of the hidden columns and half of the rows at each
grid point. -/

set_option maxRecDepth 16384

noncomputable section

open Idealize.ShloMosaic Idealize.ShloMosaic.TcCoe Idealize.SL.Sem
open Cert.Blocks

namespace Cert.Fin

open Cert.FinKIdeal

/-- The hidden layer before the gate: row `r` of the input against row `(s, c)` of the transposed weight. -/
def hidden (x0 : Vec Ideal S2176x1024 .bf16) (x1 : Vec Ideal S8x704x1024 .bf16) (s : Fin 8) (r : Fin 2176) (c : Fin 704) : EReal :=
  ∑ k : Fin 1024, x0 (ix2 r k) * x1 (ix3 s c k)

/-- The half of the stretches that the gate acts on. -/
abbrev lo (s : Fin 4) : Fin 8 := ⟨s.val, by have := s.isLt; omega⟩

/-- The other half. -/
abbrev hi (s : Fin 4) : Fin 8 := ⟨s.val + 4, by have := s.isLt; omega⟩

/-- The gated unit at one element: `silu a` times `b`. -/
def gated (a b : EReal) : EReal := a * Ideal.logistic a * b

/-- The gate's half of the hidden layer. -/
def gateHalf (x0 : Vec Ideal S2176x1024 .bf16) (x1 : Vec Ideal S8x704x1024 .bf16) : S4x2176x704.Idx → EReal := fun i => hidden x0 x1 (lo (i 0)) (i 1) (i 2)

/-- The linear half of the hidden layer. -/
def linHalf (x0 : Vec Ideal S2176x1024 .bf16) (x1 : Vec Ideal S8x704x1024 .bf16) : S4x2176x704.Idx → EReal := fun i => hidden x0 x1 (hi (i 0)) (i 1) (i 2)

/-- The gated hidden layer. -/
def unit (x0 : Vec Ideal S2176x1024 .bf16) (x1 : Vec Ideal S8x704x1024 .bf16) : S4x2176x704.Idx → EReal := fun i =>
  gated (hidden x0 x1 (lo (i 0)) (i 1) (i 2)) (hidden x0 x1 (hi (i 0)) (i 1) (i 2))

/-- The first stored vector: the gate's half of the loaded blocks. -/
theorem pay3_apply (v0 : Vec Ideal S1088x1024 .bf16) (v1 : Vec Ideal S1x704x1024 .bf16) (r : Fin 1088) (c : Fin 704) : Gen.k0_pay3 v0 v1 (ix3 0 r c) = (∑ k : Fin 1024, v0 (ix2 r k) * v1 (ix3 0 c k)) := by
  pointwise [Gen.k0_pay3, Gen.k0_pay1]

/-- The second: the linear half. -/
theorem pay4_apply (v0 : Vec Ideal S1088x1024 .bf16) (v4 : Vec Ideal S1x704x1024 .bf16) (r : Fin 1088) (c : Fin 704) : Gen.k0_pay4 v0 v4 (ix3 0 r c) = (∑ k : Fin 1024, v0 (ix2 r k) * v4 (ix3 0 c k)) := by
  pointwise [Gen.k0_pay4, Gen.k0_pay2]

/-- The third: the gated unit of the two. -/
theorem pay5_apply (v0 : Vec Ideal S1088x1024 .bf16) (v1 v4 : Vec Ideal S1x704x1024 .bf16) (r : Fin 1088) (c : Fin 704) : Gen.k0_pay5 v0 v1 v4 (ix3 0 r c) = gated (∑ k : Fin 1024, v0 (ix2 r k) * v1 (ix3 0 c k)) (∑ k : Fin 1024, v0 (ix2 r k) * v4 (ix3 0 c k)) := by
  pointwise [Gen.k0_pay5, Gen.k0_pay1, Gen.k0_pay2, gated]

section Kernel

variable (m : (ℓ : Loc nD τ sig) → Buf (Elt Ideal) ℓ) (ρ : Dev nD → PrngReg)

open Gen

/-- Where each window's block lies. -/
theorem index_facts : ∀ t : Fin grid0.N,
    (win0_0.index t 0 = t.val % 2 ∧ win0_0.index t 1 = 0)
    ∧ (win0_1.index t 0 = t.val / 2 ∧ win0_1.index t 1 = 0 ∧ win0_1.index t 2 = 0)
    ∧ (win0_2.index t 0 = t.val / 2 + 4 ∧ win0_2.index t 1 = 0 ∧ win0_2.index t 2 = 0)
    ∧ (win0_3.index t 0 = t.val / 2 ∧ win0_3.index t 1 = t.val % 2 ∧ win0_3.index t 2 = 0)
    ∧ (win0_4.index t 0 = t.val / 2 ∧ win0_4.index t 1 = t.val % 2 ∧ win0_4.index t 2 = 0)
    ∧ (win0_5.index t 0 = t.val / 2 ∧ win0_5.index t 1 = t.val % 2 ∧ win0_5.index t 2 = 0) := by decide +kernel

/-- Row `r` of the half of the rows that point `t` works on. -/
abbrev row (t : Fin cfg0.N) (r : Fin 1088) : Fin 2176 := ⟨t.val % 2 * 1088 + r.val, by have := r.isLt; omega⟩

/-- The stretch of the hidden columns that point `t` works on. -/
abbrev slab (t : Fin cfg0.N) : Fin 4 := ⟨t.val / 2, by have := t.isLt; have hN : cfg0.N = 8 := N_0; omega⟩

/-- Input window 0's block at a point. -/
theorem iblk0_apply (c : Dev nD) (t : Fin cfg0.N) (r : Fin 1088) (k : Fin 1024) :
    (iblk m c 0 t : Vec Ideal S1088x1024 .bf16) (ix2 r k) = m (c.tc.loc main_arg0) (ix2 (row t r) k) := by
  obtain ⟨⟨h0, h1⟩, -⟩ := index_facts t
  exact (View.read_apply _ _).trans (congrArg (m (c.tc.loc main_arg0)) (eq_ix2 (show win0_0.index t 0 * 1088 + 1 * r.val = t.val % 2 * 1088 + r.val by rw [h0]; omega) (show win0_0.index t 1 * 1024 + 1 * k.val = k.val by rw [h1]; omega)))

/-- Input window 1's block at a point. -/
theorem iblk1_apply (d : Dev nD) (t : Fin cfg0.N) (c : Fin 704) (k : Fin 1024) :
    (iblk m d 1 t : Vec Ideal S1x704x1024 .bf16) (ix3 0 c k) = m ((d : Thread nD τ).loc main_arg1) (ix3 (lo (slab t)) c k) := by
  obtain ⟨-, ⟨h0, h1, h2⟩, -⟩ := index_facts t
  unfold iblk
  rw [View.read_apply]
  show V m d main_arg1 _ = m (d.tc.loc main_arg1) _
  congr 1
  funext a
  apply Fin.ext
  match a with
  | ⟨0, _⟩ => show win0_1.index t 0 * 1 + 1 * 0 = t.val / 2; omega
  | ⟨1, _⟩ => show win0_1.index t 1 * 704 + 1 * c.val = c.val; rw [h1]; omega
  | ⟨2, _⟩ => show win0_1.index t 2 * 1024 + 1 * k.val = k.val; rw [h2]; omega

/-- Input window 2's block at a point. -/
theorem iblk2_apply (d : Dev nD) (t : Fin cfg0.N) (c : Fin 704) (k : Fin 1024) :
    (iblk m d 2 t : Vec Ideal S1x704x1024 .bf16) (ix3 0 c k) = m ((d : Thread nD τ).loc main_arg1) (ix3 (hi (slab t)) c k) := by
  obtain ⟨-, -, ⟨h0, h1, h2⟩, -⟩ := index_facts t
  unfold iblk
  rw [View.read_apply]
  show V m d main_arg1 _ = m (d.tc.loc main_arg1) _
  congr 1
  funext a
  apply Fin.ext
  match a with
  | ⟨0, _⟩ => show win0_2.index t 0 * 1 + 1 * 0 = t.val / 2 + 4; omega
  | ⟨1, _⟩ => show win0_2.index t 1 * 704 + 1 * c.val = c.val; rw [h1]; omega
  | ⟨2, _⟩ => show win0_2.index t 2 * 1024 + 1 * k.val = k.val; rw [h2]; omega

/-- Window 3's array after the run. -/
abbrev res3 (c : Dev nD) : Buf (Elt Ideal) ((c : Thread nD τ).loc main_v0_0) :=
  gateHalf (m (c.tc.loc main_arg0)) (m (c.tc.loc main_arg1))

/-- Window 4's array after the run. -/
abbrev res4 (c : Dev nD) : Buf (Elt Ideal) ((c : Thread nD τ).loc main_v0_1) :=
  linHalf (m (c.tc.loc main_arg0)) (m (c.tc.loc main_arg1))

/-- Window 5's array after the run. -/
abbrev res5 (c : Dev nD) : Buf (Elt Ideal) ((c : Thread nD τ).loc main_v0_2) :=
  unit (m (c.tc.loc main_arg0)) (m (c.tc.loc main_arg1))

theorem hz3 : (![0, 0, 0] : Fin 3 → Nat) = fun _ => 0 := funext fun a => by fin_cases a <;> rfl

theorem ld0 {e} (X : Vec Ideal S1088x1024 e) : View.ld X r0_0 = X := View.ld_unit_zero zero2 _ X
theorem canon0 {e} (X : Vec Ideal S1088x1024 e) : View.canon (Val := Elt Ideal) [⟨r0_0, X⟩] = X := View.canon_unit_zero zero2 _ X
theorem ld1 {e} (X : Vec Ideal S1x704x1024 e) : View.ld X r0_1 = X := View.ld_unit_zero hz3 _ X
theorem canon1 {e} (X : Vec Ideal S1x704x1024 e) : View.canon (Val := Elt Ideal) [⟨r0_1, X⟩] = X := View.canon_unit_zero hz3 _ X
theorem ld2 {e} (X : Vec Ideal S1x1088x704 e) : View.ld X r0_2 = X := View.ld_unit_zero hz3 _ X
theorem canon2 {e} (X : Vec Ideal S1x1088x704 e) : View.canon (Val := Elt Ideal) [⟨r0_2, X⟩] = X := View.canon_unit_zero hz3 _ X

/-- What a grid point leaves in window 3's buffer. -/
theorem out_apply3 (c : Dev nD) (t : Fin cfg0.N) (y : S1x1088x704.Idx) :
    out0_3 (iblk m c 0 t) (iblk m c 1 t) (iblk m c 2 t) y = res3 m c (ix3 (slab t) (row t (y 1)) (y 2)) := by
  obtain ⟨z, r, j, rfl⟩ : ∃ z r j, y = (ix3 z r j : S1x1088x704.Idx) := ⟨y 0, y 1, y 2, by funext a; fin_cases a <;> rfl⟩
  obtain rfl : z = 0 := Subsingleton.elim _ _
  unfold out0_3
  simp only [ld0, ld1, ld2, canon0, canon1, canon2]
  refine (pay3_apply ..).trans ?_
  simp only [iblk0_apply, iblk1_apply, iblk2_apply]
  rfl

/-- What a point writes back through window 3. -/
theorem flushed3_eq (c : Dev nD) (t : Fin cfg0.N) :
    (dats m 0 c).flushed 3 t = ((cfg0.win 3).blk t).view.read (Elt Ideal) (res3 m c) := by
  obtain ⟨-, -, -, ⟨h0, h1, h2⟩, -⟩ := index_facts t
  show (cfg0.win 3).cut (grid0.coords t) ((dats m 0 c).after 3 t) = _
  rw [after0_3]
  funext y
  rw [View.read_apply]
  refine (out_apply3 m c t y).trans (congrArg (res3 m c) ?_)
  funext a
  apply Fin.ext
  have y0 : (y 0).val = 0 := by have : (y 0).val < 1 := (y 0).isLt; omega
  match a with
  | ⟨0, _⟩ => show t.val / 2 = win0_3.index t 0 * 1 + 1 * (y 0).val; omega
  | ⟨1, _⟩ => show t.val % 2 * 1088 + (y 1).val = win0_3.index t 1 * 1088 + 1 * (y 1).val; rw [h1]; omega
  | ⟨2, _⟩ => show (y 2).val = win0_3.index t 2 * 704 + 1 * (y 2).val; rw [h2]; omega

/-- The blocks cover result 3. -/
theorem cover3 (i : S4x2176x704.Idx) : ∃ t : Fin cfg0.N, (cfg0.win 3).flush t = true ∧ i ∈ ((cfg0.win 3).blk t).view.set := by
  have i0 : (i 0).val < 4 := (i 0).isLt
  have i1 : (i 1).val < 2176 := (i 1).isLt
  have i2 : (i 2).val < 704 := (i 2).isLt
  have hN : cfg0.N = 8 := N_0
  obtain ⟨t, ht⟩ : ∃ t : Fin cfg0.N, t.val = (i 0).val * 2 + (i 1).val / 1088 := ⟨⟨_, by omega⟩, rfl⟩
  obtain ⟨-, -, -, ⟨h0, h1, h2⟩, -⟩ := index_facts t
  refine ⟨t, flush0_3 t, ?_⟩
  show i ∈ ((View.whole main_v0_0).slice (win0_3.rect t)).set
  rw [View.set_slice_whole, Rect.mem_set_unit]
  exact in_block3 (p := 1) (q := 1088) (w := 704) h0 h1 h2 (by omega) (by omega) (by omega)

/-- Result 3 after the run. -/
theorem final3 (c : Dev nD) : (dats m 0 c).arrAt 3 cfg0.N = res3 m c :=
  (dats m 0 c).arrAt_eq_of_cover 3 (res3 m c) (fun t _ => flushed3_eq m c t) cover3

/-- What a grid point leaves in window 4's buffer. -/
theorem out_apply4 (c : Dev nD) (t : Fin cfg0.N) (y : S1x1088x704.Idx) :
    out0_4 (iblk m c 0 t) (iblk m c 1 t) (iblk m c 2 t) y = res4 m c (ix3 (slab t) (row t (y 1)) (y 2)) := by
  obtain ⟨z, r, j, rfl⟩ : ∃ z r j, y = (ix3 z r j : S1x1088x704.Idx) := ⟨y 0, y 1, y 2, by funext a; fin_cases a <;> rfl⟩
  obtain rfl : z = 0 := Subsingleton.elim _ _
  unfold out0_4
  simp only [ld0, ld1, ld2, canon0, canon1, canon2]
  refine (pay4_apply ..).trans ?_
  simp only [iblk0_apply, iblk1_apply, iblk2_apply]
  rfl

/-- What a point writes back through window 4. -/
theorem flushed4_eq (c : Dev nD) (t : Fin cfg0.N) :
    (dats m 0 c).flushed 4 t = ((cfg0.win 4).blk t).view.read (Elt Ideal) (res4 m c) := by
  obtain ⟨-, -, -, -, ⟨h0, h1, h2⟩, -⟩ := index_facts t
  show (cfg0.win 4).cut (grid0.coords t) ((dats m 0 c).after 4 t) = _
  rw [after0_4]
  funext y
  rw [View.read_apply]
  refine (out_apply4 m c t y).trans (congrArg (res4 m c) ?_)
  funext a
  apply Fin.ext
  have y0 : (y 0).val = 0 := by have : (y 0).val < 1 := (y 0).isLt; omega
  match a with
  | ⟨0, _⟩ => show t.val / 2 = win0_4.index t 0 * 1 + 1 * (y 0).val; omega
  | ⟨1, _⟩ => show t.val % 2 * 1088 + (y 1).val = win0_4.index t 1 * 1088 + 1 * (y 1).val; rw [h1]; omega
  | ⟨2, _⟩ => show (y 2).val = win0_4.index t 2 * 704 + 1 * (y 2).val; rw [h2]; omega

/-- The blocks cover result 4. -/
theorem cover4 (i : S4x2176x704.Idx) : ∃ t : Fin cfg0.N, (cfg0.win 4).flush t = true ∧ i ∈ ((cfg0.win 4).blk t).view.set := by
  have i0 : (i 0).val < 4 := (i 0).isLt
  have i1 : (i 1).val < 2176 := (i 1).isLt
  have i2 : (i 2).val < 704 := (i 2).isLt
  have hN : cfg0.N = 8 := N_0
  obtain ⟨t, ht⟩ : ∃ t : Fin cfg0.N, t.val = (i 0).val * 2 + (i 1).val / 1088 := ⟨⟨_, by omega⟩, rfl⟩
  obtain ⟨-, -, -, -, ⟨h0, h1, h2⟩, -⟩ := index_facts t
  refine ⟨t, flush0_4 t, ?_⟩
  show i ∈ ((View.whole main_v0_1).slice (win0_4.rect t)).set
  rw [View.set_slice_whole, Rect.mem_set_unit]
  exact in_block3 (p := 1) (q := 1088) (w := 704) h0 h1 h2 (by omega) (by omega) (by omega)

/-- Result 4 after the run. -/
theorem final4 (c : Dev nD) : (dats m 0 c).arrAt 4 cfg0.N = res4 m c :=
  (dats m 0 c).arrAt_eq_of_cover 4 (res4 m c) (fun t _ => flushed4_eq m c t) cover4

/-- What a grid point leaves in window 5's buffer. -/
theorem out_apply5 (c : Dev nD) (t : Fin cfg0.N) (y : S1x1088x704.Idx) :
    out0_5 (iblk m c 0 t) (iblk m c 1 t) (iblk m c 2 t) y = res5 m c (ix3 (slab t) (row t (y 1)) (y 2)) := by
  obtain ⟨z, r, j, rfl⟩ : ∃ z r j, y = (ix3 z r j : S1x1088x704.Idx) := ⟨y 0, y 1, y 2, by funext a; fin_cases a <;> rfl⟩
  obtain rfl : z = 0 := Subsingleton.elim _ _
  unfold out0_5
  simp only [ld0, ld1, ld2, canon0, canon1, canon2]
  refine (pay5_apply ..).trans ?_
  simp only [iblk0_apply, iblk1_apply, iblk2_apply]
  rfl

/-- What a point writes back through window 5. -/
theorem flushed5_eq (c : Dev nD) (t : Fin cfg0.N) :
    (dats m 0 c).flushed 5 t = ((cfg0.win 5).blk t).view.read (Elt Ideal) (res5 m c) := by
  obtain ⟨-, -, -, -, -, ⟨h0, h1, h2⟩⟩ := index_facts t
  show (cfg0.win 5).cut (grid0.coords t) ((dats m 0 c).after 5 t) = _
  rw [after0_5]
  funext y
  rw [View.read_apply]
  refine (out_apply5 m c t y).trans (congrArg (res5 m c) ?_)
  funext a
  apply Fin.ext
  have y0 : (y 0).val = 0 := by have : (y 0).val < 1 := (y 0).isLt; omega
  match a with
  | ⟨0, _⟩ => show t.val / 2 = win0_5.index t 0 * 1 + 1 * (y 0).val; omega
  | ⟨1, _⟩ => show t.val % 2 * 1088 + (y 1).val = win0_5.index t 1 * 1088 + 1 * (y 1).val; rw [h1]; omega
  | ⟨2, _⟩ => show (y 2).val = win0_5.index t 2 * 704 + 1 * (y 2).val; rw [h2]; omega

/-- The blocks cover result 5. -/
theorem cover5 (i : S4x2176x704.Idx) : ∃ t : Fin cfg0.N, (cfg0.win 5).flush t = true ∧ i ∈ ((cfg0.win 5).blk t).view.set := by
  have i0 : (i 0).val < 4 := (i 0).isLt
  have i1 : (i 1).val < 2176 := (i 1).isLt
  have i2 : (i 2).val < 704 := (i 2).isLt
  have hN : cfg0.N = 8 := N_0
  obtain ⟨t, ht⟩ : ∃ t : Fin cfg0.N, t.val = (i 0).val * 2 + (i 1).val / 1088 := ⟨⟨_, by omega⟩, rfl⟩
  obtain ⟨-, -, -, -, -, ⟨h0, h1, h2⟩⟩ := index_facts t
  refine ⟨t, flush0_5 t, ?_⟩
  show i ∈ ((View.whole main_v0_2).slice (win0_5.rect t)).set
  rw [View.set_slice_whole, Rect.mem_set_unit]
  exact in_block3 (p := 1) (q := 1088) (w := 704) h0 h1 h2 (by omega) (by omega) (by omega)

/-- Result 5 after the run. -/
theorem final5 (c : Dev nD) : (dats m 0 c).arrAt 5 cfg0.N = res5 m c :=
  (dats m 0 c).arrAt_eq_of_cover 5 (res5 m c) (fun t _ => flushed5_eq m c t) cover5

end Kernel

open Cert.FinRIdeal.Read in
/-- The reference's result 0 is the same function. -/
theorem ref_apply3 (x0 : Vec Ideal S2176x1024 .bf16) (x1 : Vec Ideal S8x704x1024 .bf16) (s : Fin 4) (r : Fin 2176) (c : Fin 704) :
    val_main_v9 (F := Ideal) x0 x1 (ix3 s r c) = gateHalf x0 x1 (ix3 s r c) := by
  have hs := s.isLt
  have hc := c.isLt
  have hl : ∀ h, (⟨(s.val * 704 + c.val) / 704, h⟩ : Fin 8) = lo s := fun _ => Fin.ext (by dsimp only; omega)
  pointwise [val_main_v9, val_main_v8, val_main_v7, val_main_v6, val_main_v5, val_main_v4, val_main_v3, val_main_v2, val_main_v1, val_main_v0, gateHalf, hidden, gated, Ideal.logistic]
  simp only [hl]

open Cert.FinRIdeal.Read in
/-- The reference's result 1 is the same function. -/
theorem ref_apply4 (x0 : Vec Ideal S2176x1024 .bf16) (x1 : Vec Ideal S8x704x1024 .bf16) (s : Fin 4) (r : Fin 2176) (c : Fin 704) :
    val_main_v12 (F := Ideal) x0 x1 (ix3 s r c) = linHalf x0 x1 (ix3 s r c) := by
  have hs := s.isLt
  have hc := c.isLt
  have hh : ∀ h, (⟨(2816 + (s.val * 704 + c.val)) / 704, h⟩ : Fin 8) = hi s := fun _ => Fin.ext (by dsimp only; omega)
  pointwise [val_main_v12, val_main_v11, val_main_v10, val_main_v9, val_main_v8, val_main_v7, val_main_v6, val_main_v5, val_main_v4, val_main_v3, val_main_v2, val_main_v1, val_main_v0, linHalf, hidden, gated, Ideal.logistic]
  simp only [hh]

open Cert.FinRIdeal.Read in
/-- The reference's result 2 is the same function. -/
theorem ref_apply5 (x0 : Vec Ideal S2176x1024 .bf16) (x1 : Vec Ideal S8x704x1024 .bf16) (s : Fin 4) (r : Fin 2176) (c : Fin 704) :
    val_main_v17 (F := Ideal) x0 x1 (ix3 s r c) = unit x0 x1 (ix3 s r c) := by
  have hs := s.isLt
  have hc := c.isLt
  have hl : ∀ h, (⟨(s.val * 704 + c.val) / 704, h⟩ : Fin 8) = lo s := fun _ => Fin.ext (by dsimp only; omega)
  have hh : ∀ h, (⟨(2816 + (s.val * 704 + c.val)) / 704, h⟩ : Fin 8) = hi s := fun _ => Fin.ext (by dsimp only; omega)
  pointwise [val_main_v17, val_main_v16, val_main_v15, val_main_v14, val_main_v13, val_main_call0_v5, val_main_call0_v4, val_main_call0_cst_0, val_main_call0_v3, val_main_call0_v2, val_main_call0_cst, val_main_call0_v1, val_main_call0_v0, val_main_v12, val_main_v11, val_main_v10, val_main_v9, val_main_v8, val_main_v7, val_main_v6, val_main_v5, val_main_v4, val_main_v3, val_main_v2, val_main_v1, val_main_v0, unit, hidden, gated, Ideal.logistic]
  simp only [hl, hh]

/-- At the extended reals both end with the same results. -/
theorem algebraic : Cert.algebraic_FinKIdeal_FinRIdeal := by
  intro m g m' g' _ hag
  refine ⟨fun c => res3 m c, fun c => res4 m c, fun c => res5 m c, ?_, ?_⟩
  · exact (θ_run _ _ _).mono (fun r h c => ⟨(h c).1.trans (final3 m c), (h c).2.1.trans (final4 m c), (h c).2.2.1.trans (final5 m c), (h c).2.2.2⟩) (FinKIdeal.Value.run_blocks m g)
  · refine (θ_run _ _ _).mono (fun r h c => ⟨(h c).1.trans ?_, (h c).2.1.trans ?_, (h c).2.2.1.trans ?_, (h c).2.2.2⟩) (FinRIdeal.Value.run (F := Ideal) m' g')
    all_goals obtain ⟨a0, a1⟩ := hag c
    all_goals rw [a0, a1]
    · refine (FinRIdeal.Read.val_main_v9_eq (F := Ideal) _ _).trans ?_
      funext i
      obtain ⟨a, b, c, rfl⟩ : ∃ a b c, i = (ix3 a b c : S4x2176x704.Idx) := ⟨i 0, i 1, i 2, by funext a; fin_cases a <;> rfl⟩
      exact ref_apply3 _ _ a b c
    · refine (FinRIdeal.Read.val_main_v12_eq (F := Ideal) _ _).trans ?_
      funext i
      obtain ⟨a, b, c, rfl⟩ : ∃ a b c, i = (ix3 a b c : S4x2176x704.Idx) := ⟨i 0, i 1, i 2, by funext a; fin_cases a <;> rfl⟩
      exact ref_apply4 _ _ a b c
    · refine (FinRIdeal.Read.val_main_v17_eq (F := Ideal) _ _).trans ?_
      funext i
      obtain ⟨a, b, c, rfl⟩ : ∃ a b c, i = (ix3 a b c : S4x2176x704.Idx) := ⟨i 0, i 1, i 2, by funext a; fin_cases a <;> rfl⟩
      exact ref_apply5 _ _ a b c

end Cert.Fin

end
-- ==== Proof.Fout.lean ====
module

public import proofs.«01_k».proof.Proof.Blocks
public import proofs.«01_k».proof.Proof.Gen.FoutKIdeal.Value
public import proofs.«01_k».proof.Proof.Gen.FoutRIdeal.Run
public import proofs.«01_k».proof.Proof.Gen.FoutRIdeal.Read

@[expose] public section

/-! The feed-forward's second product: one stretch of the hidden columns at each grid point, added up in the result's
buffer. -/

set_option maxRecDepth 16384

noncomputable section

open Idealize.ShloMosaic Idealize.ShloMosaic.TcCoe Idealize.SL.Sem
open Cert.Blocks

namespace Cert.Fout

open Cert.FoutKIdeal

/-- One stretch's part of the product: row `r` of stretch `s` of the left array against column `j` of stretch `s` of
the weight. -/
def part (x0 : Vec Ideal S4x2176x704 .bf16) (x1 : Vec Ideal S4x704x1024 .bf16) (r : Fin 2176) (j : Fin 1024) (s : Fin 4) : EReal :=
  ∑ k : Fin 704, x0 (ix3 s r k) * x1 (ix3 s k j)

/-- The parts of stretches `0 … l`, added in order. -/
def upto (f : Fin 4 → EReal) : (l : ℕ) → l < 4 → EReal
  | 0, h => f ⟨0, h⟩
  | l + 1, h => upto f l (Nat.lt_of_succ_lt h) + f ⟨l + 1, h⟩

/-- Added in order, all the parts give their sum. -/
theorem upto_last (f : Fin 4 → EReal) : upto f 3 (by decide) = ∑ s : Fin 4, f s :=
  (Fin.sum_univ_four f).symm

/-- A sum over 2816 columns is the sum over the 4 stretches of the sums over a stretch's 704 columns. -/
theorem sum_stretches (f : Fin 2816 → EReal) :
    ∑ x, f x = ∑ s : Fin 4, ∑ k : Fin 704, f ⟨s.val * 704 + k.val, by have := s.isLt; have := k.isLt; omega⟩ := by
  rw [← Fintype.sum_prod_type' (f := fun (s : Fin 4) (k : Fin 704) => f ⟨s.val * 704 + k.val, by have := s.isLt; have := k.isLt; omega⟩)]
  exact (Fintype.sum_equiv (finProdFinEquiv (m := 4) (n := 704)) _ _ (fun p => congrArg f (Fin.ext (by
    show p.1.val * 704 + p.2.val = p.2.val + 704 * p.1.val
    omega)))).symm

/-- The product of the rows with the weight. -/
def product (x0 : Vec Ideal S4x2176x704 .bf16) (x1 : Vec Ideal S4x704x1024 .bf16) : S2176x1024.Idx → EReal := fun i => ∑ s, part x0 x1 (i 0) (i 1) s

/-- The product of two loaded blocks at one element. -/
def blockDot (v0 : Vec Ideal S1x2176x704 .bf16) (v2 : Vec Ideal S1x704x1024 .bf16) (r : Fin 2176) (j : Fin 1024) : EReal := ∑ k : Fin 704, v0 (ix3 0 r k) * v2 (ix3 0 k j)

/-- The first grid point stores its stretch's part. -/
theorem pay1_apply (v0 : Vec Ideal S1x2176x704 .bf16) (v2 : Vec Ideal S1x704x1024 .bf16) (r : Fin 2176) (j : Fin 1024) : Gen.k0_pay1 v0 v2 (ix2 r j) = blockDot v0 v2 r j := by
  pointwise [Gen.k0_pay1, blockDot]

/-- A later point adds its stretch's part to what is there. -/
theorem pay2_apply (v0 : Vec Ideal S1x2176x704 .bf16) (v2 : Vec Ideal S1x704x1024 .bf16) (a : Vec Ideal S2176x1024 .f32) (r : Fin 2176) (j : Fin 1024) :
    Gen.k0_pay2 v0 v2 a (ix2 r j) = a (ix2 r j) + blockDot v0 v2 r j := by
  pointwise [Gen.k0_pay2, Gen.k0_pay1, blockDot]

section Kernel

variable (m : (ℓ : Loc nD τ sig) → Buf (Elt Ideal) ℓ) (ρ : Dev nD → PrngReg)

open Gen

/-- Where each window's block lies. -/
theorem index_facts : ∀ t : Fin grid0.N,
    (win0_0.index t 0 = t.val ∧ win0_0.index t 1 = 0 ∧ win0_0.index t 2 = 0)
    ∧ (win0_1.index t 0 = t.val ∧ win0_1.index t 1 = 0 ∧ win0_1.index t 2 = 0)
    ∧ (win0_2.index t 0 = 0 ∧ win0_2.index t 1 = 0) := by decide +kernel

/-- The stretch that point `t` works on. -/
abbrev slab (t : Fin cfg0.N) : Fin 4 := ⟨t.val, t.isLt.trans_eq N_0⟩

/-- Input window 0's block at a point. -/
theorem iblk0_apply (c : Dev nD) (t : Fin cfg0.N) (r : Fin 2176) (k : Fin 704) :
    (iblk m c 0 t : Vec Ideal S1x2176x704 .bf16) (ix3 0 r k) = m (c.tc.loc main_arg0) (ix3 (slab t) r k) := by
  obtain ⟨⟨h0, h1, h2⟩, -⟩ := index_facts t
  unfold iblk
  rw [View.read_apply]
  show V m c main_arg0 _ = m (c.tc.loc main_arg0) _
  congr 1
  funext a
  apply Fin.ext
  match a with
  | ⟨0, _⟩ => show win0_0.index t 0 * 1 + 1 * 0 = t.val; omega
  | ⟨1, _⟩ => show win0_0.index t 1 * 2176 + 1 * r.val = r.val; rw [h1]; omega
  | ⟨2, _⟩ => show win0_0.index t 2 * 704 + 1 * k.val = k.val; rw [h2]; omega

/-- Input window 1's block at a point. -/
theorem iblk1_apply (c : Dev nD) (t : Fin cfg0.N) (k : Fin 704) (j : Fin 1024) :
    (iblk m c 1 t : Vec Ideal S1x704x1024 .bf16) (ix3 0 k j) = m (c.tc.loc main_arg1) (ix3 (slab t) k j) := by
  obtain ⟨-, ⟨h0, h1, h2⟩, -⟩ := index_facts t
  unfold iblk
  rw [View.read_apply]
  show V m c main_arg1 _ = m (c.tc.loc main_arg1) _
  congr 1
  funext a
  apply Fin.ext
  match a with
  | ⟨0, _⟩ => show win0_1.index t 0 * 1 + 1 * 0 = t.val; omega
  | ⟨1, _⟩ => show win0_1.index t 1 * 704 + 1 * k.val = k.val; rw [h1]; omega
  | ⟨2, _⟩ => show win0_1.index t 2 * 1024 + 1 * j.val = j.val; rw [h2]; omega

/-- Window 2's array after the run. -/
abbrev res2 (c : Dev nD) : Buf (Elt Ideal) ((c : Thread nD τ).loc main_v0) :=
  product (m (c.tc.loc main_arg0)) (m (c.tc.loc main_arg1))

theorem zero3 : (![0, 0, 0] : Fin 3 → Nat) = fun _ => 0 := funext fun a => by fin_cases a <;> rfl

/-- What the body leaves in the result's buffer at the first point. -/
theorem first_value (c : Dev nD) (i : grid0.Coords) (a1 : Memref sig .tc .vmem S1x2176x704 .bf16) (h1 : a1.IsWhole)
    (a2 : Memref sig .tc .vmem S1x704x1024 .bf16) (h2 : a2.IsWhole) (a3 : Memref sig .tc .vmem S2176x1024 .f32) (h3 : a3.IsWhole)
    (p : cond0_0 i) (q : ¬cond0_1 i) (x0 : Vec Ideal S1x2176x704 .bf16) (x1 : Vec Ideal S1x704x1024 .bf16) :
    out0_A_2 c i a1 h1 a2 h2 a3 h3 p q x0 x1 = k0_pay1 x0 x1 := by
  unfold out0_A_2
  rw [View.read_writes_eq_canon _ _ _ (cover0_A_2 c i a1 h1 a2 h2 a3 h3 p q x0 x1)]
  unfold kernelRun0_A
  dsimp only
  rw [View.canon_unit_zero zero2]
  simp only [View.readAt_eq_ld, h1.read_unread, h2.read_unread, View.ld_unit_zero (S := S1x2176x704) zero3,
    View.ld_unit_zero (S := S1x704x1024) zero3]

/-- What it leaves there at a later point, over what the point before left. -/
theorem later_value (c : Dev nD) (i : grid0.Coords) (a1 : Memref sig .tc .vmem S1x2176x704 .bf16) (h1 : a1.IsWhole)
    (a2 : Memref sig .tc .vmem S1x704x1024 .bf16) (h2 : a2.IsWhole) (a3 : Memref sig .tc .vmem S2176x1024 .f32) (h3 : a3.IsWhole)
    (p : ¬cond0_0 i) (q : cond0_1 i) (x0 : Vec Ideal S1x2176x704 .bf16) (x1 : Vec Ideal S1x704x1024 .bf16)
    (a : Vec Ideal S2176x1024 .f32) :
    out0_B_2 c i a1 h1 a2 h2 a3 h3 p q x0 x1 a = k0_pay2 x0 x1 a := by
  unfold out0_B_2
  rw [View.read_writes_eq_canon _ _ _ (cover0_B_2 c i a1 h1 a2 h2 a3 h3 p q x0 x1 a)]
  unfold kernelRun0_B
  dsimp only
  rw [View.canon_unit_zero zero2]
  simp only [View.readAt_eq_ld, h1.read_unread, h2.read_unread, h3.read_unread, View.ld_unit_zero (S := S1x2176x704) zero3,
    View.ld_unit_zero (S := S1x704x1024) zero3, View.ld_unit_zero (S := S2176x1024) zero2]

/-- A point's product of its two blocks is its stretch's part. -/
theorem point_part (c : Dev nD) (t : Fin cfg0.N) (r : Fin 2176) (j : Fin 1024) :
    blockDot (iblk m c 0 t) (iblk m c 1 t) r j
      = part (m (c.tc.loc main_arg0)) (m (c.tc.loc main_arg1)) r j (slab t) :=
  Finset.sum_congr rfl fun k _ => congrArg₂ (· * ·) (iblk0_apply m c t r k) (iblk1_apply m c t k j)

/-- After point `l` the buffer holds the parts of stretches `0 … l`: by induction on the point. -/
theorem outs_apply (c : Dev nD) (r : Fin 2176) (j : Fin 1024) : ∀ (l : ℕ) (h : l < cfg0.N),
    outsAt0 m c l h (ix2 r j) = upto (part (m (c.tc.loc main_arg0)) (m (c.tc.loc main_arg1)) r j) l (h.trans_eq N_0)
  | 0, h => by
    rw [outsAt0_A m c ⟨0, h⟩ rfl (by dsimp only; omega), first_value, pay1_apply]
    exact point_part m c ⟨0, h⟩ r j
  | l + 1, h => by
    have hN : l + 1 < 4 := h.trans_eq N_0
    rw [outsAt0_B m c ⟨l + 1, h⟩ (by dsimp only; omega) (by dsimp only; omega), later_value, pay2_apply]
    exact congrArg₂ (· + ·) (outs_apply c r j l _) (point_part m c ⟨l + 1, h⟩ r j)

/-- The last point leaves the whole product. -/
theorem last_apply (c : Dev nD) (t : Fin cfg0.N) (ht : t.val = 3) (y : S2176x1024.Idx) :
    outsAt0 m c t.val t.isLt y = res2 m c (ix2 (y 0) (y 1)) := by
  obtain ⟨r, j, rfl⟩ := idx2 (R := 2176) (C := 1024) y
  obtain ⟨l, hl⟩ := t
  obtain rfl : l = 3 := ht
  exact (outs_apply m c r j 3 hl).trans (upto_last _)

/-- What the last point writes back is the whole result. -/
theorem flushed2_eq (c : Dev nD) (t : Fin cfg0.N) (hf : (cfg0.win 2).flush t = true) :
    (dats m 0 c).flushed 2 t = ((cfg0.win 2).blk t).view.read (Elt Ideal) (res2 m c) := by
  have ht : t.val = 3 := by have := (flush0_2 t).mp hf; have := t.isLt.trans_eq N_0; omega
  obtain ⟨-, -, ⟨h0, h1⟩⟩ := index_facts t
  rw [Value.flushed2 m c t]
  funext y
  rw [View.read_apply]
  refine (last_apply m c t ht y).trans (congrArg (res2 m c) ?_)
  exact Eq.symm (eq_ix2 (show win0_2.index t 0 * 2176 + 1 * (y 0).val = (y 0).val by rw [h0]; omega) (show win0_2.index t 1 * 1024 + 1 * (y 1).val = (y 1).val by rw [h1]; omega))

/-- Its block is the whole array. -/
theorem cover2 (i : S2176x1024.Idx) : ∃ t : Fin cfg0.N, (cfg0.win 2).flush t = true ∧ i ∈ ((cfg0.win 2).blk t).view.set := by
  have i0 : (i 0).val < 2176 := (i 0).isLt
  have i1 : (i 1).val < 1024 := (i 1).isLt
  obtain ⟨t, ht⟩ : ∃ t : Fin cfg0.N, t.val = 3 := ⟨⟨3, (show 3 < 4 by decide).trans_eq N_0.symm⟩, rfl⟩
  obtain ⟨-, -, ⟨h0, h1⟩⟩ := index_facts t
  refine ⟨t, (flush0_2 t).mpr (by rw [ht]), ?_⟩
  show i ∈ ((View.whole main_v0).slice (win0_2.rect t)).set
  rw [View.set_slice_whole, Rect.mem_set_unit]
  exact in_block2 (p := 2176) (q := 1024) h0 h1 (by omega) (by omega)

/-- The result after the run. -/
theorem final2 (c : Dev nD) : (dats m 0 c).arrAt 2 cfg0.N = res2 m c :=
  (dats m 0 c).arrAt_eq_of_cover 2 (res2 m c) (flushed2_eq m c) cover2

end Kernel

open Cert.FoutRIdeal.Read in
/-- The reference's result is the same function. -/
theorem ref_apply2 (x0 : Vec Ideal S4x2176x704 .bf16) (x1 : Vec Ideal S4x704x1024 .bf16) (r : Fin 2176) (j : Fin 1024) :
    val_main_v5 (F := Ideal) x0 x1 (ix2 r j) = product x0 x1 (ix2 r j) := by
  have hj := j.isLt
  pointwise [val_main_v5, val_main_v4, val_main_v3, val_main_v2, val_main_v1, val_main_v0]
  refine (sum_stretches _).trans ?_
  exact Finset.sum_congr rfl fun s _ => Finset.sum_congr rfl fun k _ => by
    have hs := s.isLt
    have hk := k.isLt
    refine congrArg₂ (· * ·) (congrArg x0 (funext fun a => Fin.ext ?_)) (congrArg x1 (funext fun a => Fin.ext ?_))
    all_goals
      match a with
      | ⟨0, _⟩ => first | rfl | (simp; done) | (simp; omega)
      | ⟨1, _⟩ => first | rfl | (simp; done) | (simp; omega)
      | ⟨2, _⟩ => first | rfl | (simp; done) | (simp; omega)

/-- At the extended reals both end with the same results. -/
theorem algebraic : Cert.algebraic_FoutKIdeal_FoutRIdeal := by
  intro m g m' g' _ hag
  refine ⟨fun c => res2 m c, ?_, ?_⟩
  · exact (θ_run _ _ _).mono (fun r h c => ⟨(h c).1.trans (final2 m c), (h c).2⟩) (FoutKIdeal.Value.run_blocks m g)
  · refine (θ_run _ _ _).mono (fun r h c => ⟨(h c).1.trans ?_, (h c).2⟩) (FoutRIdeal.Value.run (F := Ideal) m' g')
    all_goals obtain ⟨a0, a1⟩ := hag c
    all_goals rw [a0, a1]
    · refine (FoutRIdeal.Read.val_main_v5_eq (F := Ideal) _ _).trans ?_
      funext i
      obtain ⟨a, b, rfl⟩ := idx2 (R := 2176) (C := 1024) i
      exact ref_apply2 _ _ a b

end Cert.Fout

end
-- ==== Proof.ConvOut.lean ====
module

public import proofs.«01_k».proof.Proof.Blocks
public import proofs.«01_k».proof.Proof.Gen.ConvOutKIdeal.Value
public import proofs.«01_k».proof.Proof.Gen.ConvOutRIdeal.Run
public import proofs.«01_k».proof.Proof.Gen.ConvOutRIdeal.Read

@[expose] public section

/-! The convolution branch's output product, 256 columns at each grid point. -/

set_option maxRecDepth 16384

noncomputable section

open Idealize.ShloMosaic Idealize.ShloMosaic.TcCoe Idealize.SL.Sem
open Cert.Blocks

namespace Cert.ConvOut

open Cert.ConvOutKIdeal

/-- Entry `i` of the product. -/
def product (x0 : Vec Ideal S2176x1024 .bf16) (x1 : Vec Ideal S1024x1024 .bf16) : S2176x1024.Idx → EReal := fun i =>
  ∑ k : Fin 1024, x0 (ix2 (i 0) k) * x1 (ix2 k (i 1))

/-- The product that the call forms of two loaded blocks. -/
theorem pay1_apply (v0 : Vec Ideal S2176x1024 .bf16) (v1 : Vec Ideal S1024x256 .bf16) (r : Fin 2176) (j : Fin 256) :
    Gen.k0_pay1 v0 v1 (ix2 r j) = ∑ k : Fin 1024, v0 (ix2 r k) * v1 (ix2 k j) := by
  pointwise [Gen.k0_pay1]

section Kernel

variable (m : (ℓ : Loc nD τ sig) → Buf (Elt Ideal) ℓ) (ρ : Dev nD → PrngReg)

open Gen

/-- Where each window's block lies. -/
theorem index_facts : ∀ t : Fin grid0.N,
    (win0_0.index t 0 = 0 ∧ win0_0.index t 1 = 0)
    ∧ (win0_1.index t 0 = 0 ∧ win0_1.index t 1 = t.val)
    ∧ (win0_2.index t 0 = 0 ∧ win0_2.index t 1 = t.val) := by decide +kernel

/-- Column `j` of the columns that point `t` works on. -/
abbrev col (t : Fin cfg0.N) (j : Fin 256) : Fin 1024 :=
  ⟨t.val * 256 + j.val, by have := j.isLt; have := t.isLt; have hN : cfg0.N = 4 := N_0; omega⟩

/-- Input window 0's block at a point. -/
theorem iblk0_apply (c : Dev nD) (t : Fin cfg0.N) (r : Fin 2176) (k : Fin 1024) :
    (iblk m c 0 t : Vec Ideal S2176x1024 .bf16) (ix2 r k) = m (c.tc.loc main_arg0) (ix2 r k) := by
  obtain ⟨⟨h0, h1⟩, -⟩ := index_facts t
  exact (View.read_apply _ _).trans (congrArg (m (c.tc.loc main_arg0)) (eq_ix2 (show win0_0.index t 0 * 2176 + 1 * r.val = r.val by rw [h0]; omega) (show win0_0.index t 1 * 1024 + 1 * k.val = k.val by rw [h1]; omega)))

/-- Input window 1's block at a point. -/
theorem iblk1_apply (c : Dev nD) (t : Fin cfg0.N) (k : Fin 1024) (j : Fin 256) :
    (iblk m c 1 t : Vec Ideal S1024x256 .bf16) (ix2 k j) = m (c.tc.loc main_arg1) (ix2 k (col t j)) := by
  obtain ⟨-, ⟨h0, h1⟩, -⟩ := index_facts t
  exact (View.read_apply _ _).trans (congrArg (m (c.tc.loc main_arg1)) (eq_ix2 (show win0_1.index t 0 * 1024 + 1 * k.val = k.val by rw [h0]; omega) (show win0_1.index t 1 * 256 + 1 * j.val = t.val * 256 + j.val by rw [h1]; omega)))

/-- Window 2's array after the run. -/
abbrev res2 (c : Dev nD) : Buf (Elt Ideal) ((c : Thread nD τ).loc main_v0) :=
  product (m (c.tc.loc main_arg0)) (m (c.tc.loc main_arg1))

theorem ld0 {e} (X : Vec Ideal S2176x1024 e) : View.ld X r0_0 = X := View.ld_unit_zero zero2 _ X
theorem canon0 {e} (X : Vec Ideal S2176x1024 e) : View.canon (Val := Elt Ideal) [⟨r0_0, X⟩] = X := View.canon_unit_zero zero2 _ X
theorem ld1 {e} (X : Vec Ideal S1024x256 e) : View.ld X r0_1 = X := View.ld_unit_zero zero2 _ X
theorem canon1 {e} (X : Vec Ideal S1024x256 e) : View.canon (Val := Elt Ideal) [⟨r0_1, X⟩] = X := View.canon_unit_zero zero2 _ X
theorem ld2 {e} (X : Vec Ideal S2176x256 e) : View.ld X r0_2 = X := View.ld_unit_zero zero2 _ X
theorem canon2 {e} (X : Vec Ideal S2176x256 e) : View.canon (Val := Elt Ideal) [⟨r0_2, X⟩] = X := View.canon_unit_zero zero2 _ X

/-- What a grid point leaves in window 2's buffer. -/
theorem out_apply2 (c : Dev nD) (t : Fin cfg0.N) (y : S2176x256.Idx) :
    out0_2 (iblk m c 0 t) (iblk m c 1 t) y = res2 m c (ix2 (y 0) (col t (y 1))) := by
  obtain ⟨r, j, rfl⟩ := idx2 (R := 2176) (C := 256) y
  unfold out0_2
  simp only [ld0, ld1, ld2, canon0, canon1, canon2]
  refine (pay1_apply ..).trans ?_
  simp only [iblk0_apply, iblk1_apply]
  rfl

/-- What a point writes back through window 2. -/
theorem flushed2_eq (c : Dev nD) (t : Fin cfg0.N) :
    (dats m 0 c).flushed 2 t = ((cfg0.win 2).blk t).view.read (Elt Ideal) (res2 m c) := by
  obtain ⟨-, -, ⟨h0, h1⟩⟩ := index_facts t
  show (cfg0.win 2).cut (grid0.coords t) ((dats m 0 c).after 2 t) = _
  rw [after0_2]
  funext y
  rw [View.read_apply]
  refine (out_apply2 m c t y).trans (congrArg (res2 m c) ?_)
  exact Eq.symm (eq_ix2 (show win0_2.index t 0 * 2176 + 1 * (y 0).val = (y 0).val by rw [h0]; omega) (show win0_2.index t 1 * 256 + 1 * (y 1).val = t.val * 256 + (y 1).val by rw [h1]; omega))

/-- The blocks cover result 2. -/
theorem cover2 (i : S2176x1024.Idx) : ∃ t : Fin cfg0.N, (cfg0.win 2).flush t = true ∧ i ∈ ((cfg0.win 2).blk t).view.set := by
  have i0 : (i 0).val < 2176 := (i 0).isLt
  have i1 : (i 1).val < 1024 := (i 1).isLt
  have hN : cfg0.N = 4 := N_0
  obtain ⟨t, ht⟩ : ∃ t : Fin cfg0.N, t.val = (i 1).val / 256 := ⟨⟨_, by omega⟩, rfl⟩
  obtain ⟨-, -, ⟨h0, h1⟩⟩ := index_facts t
  refine ⟨t, flush0_2 t, ?_⟩
  show i ∈ ((View.whole main_v0).slice (win0_2.rect t)).set
  rw [View.set_slice_whole, Rect.mem_set_unit]
  exact in_block2 (p := 2176) (q := 256) h0 h1 (by omega) (by omega)

/-- Result 2 after the run. -/
theorem final2 (c : Dev nD) : (dats m 0 c).arrAt 2 cfg0.N = res2 m c :=
  (dats m 0 c).arrAt_eq_of_cover 2 (res2 m c) (fun t _ => flushed2_eq m c t) cover2

end Kernel

open Cert.ConvOutRIdeal.Read in
/-- The reference's result is the same function. -/
theorem ref_apply2 (x0 : Vec Ideal S2176x1024 .bf16) (x1 : Vec Ideal S1024x1024 .bf16) (r : Fin 2176) (j : Fin 1024) :
    val_main_v2 (F := Ideal) x0 x1 (ix2 r j) = product x0 x1 (ix2 r j) := by
  pointwise [val_main_v2, val_main_v1, val_main_v0, product]

/-- At the extended reals both end with the same results. -/
theorem algebraic : Cert.algebraic_ConvOutKIdeal_ConvOutRIdeal := by
  intro m g m' g' _ hag
  refine ⟨fun c => res2 m c, ?_, ?_⟩
  · exact (θ_run _ _ _).mono (fun r h c => ⟨(h c).1.trans (final2 m c), (h c).2⟩) (ConvOutKIdeal.Value.run_blocks m g)
  · refine (θ_run _ _ _).mono (fun r h c => ⟨(h c).1.trans ?_, (h c).2⟩) (ConvOutRIdeal.Value.run (F := Ideal) m' g')
    all_goals obtain ⟨a0, a1⟩ := hag c
    all_goals rw [a0, a1]
    · refine (ConvOutRIdeal.Read.val_main_v2_eq (F := Ideal) _ _).trans ?_
      funext i
      obtain ⟨a, b, rfl⟩ := idx2 (R := 2176) (C := 1024) i
      exact ref_apply2 _ _ a b

end Cert.ConvOut

end
-- ==== Proof.MixOut.lean ====
module

public import proofs.«01_k».proof.Proof.Blocks
public import proofs.«01_k».proof.Proof.Gen.MixOutKIdeal
public import proofs.«01_k».proof.Proof.Gen.MixOutRIdeal
public import proofs.«01_k».proof.Proof.ConvOut

/-! The mixer's output product is printed in the same words as the convolution's output product, at other arguments: its value claim is
that one's. -/

@[expose] public section

set_option maxRecDepth 65536
set_option maxHeartbeats 4000000

noncomputable section
namespace Cert.MixOut
open Idealize.ShloMosaic Idealize.SL.Sem
open Cert.Blocks
variable {F : FTy → Type} [FloatOps F]

/-- The two calls have the same body. -/
theorem bodies_eq : @Cert.MixOutKIdeal.defs₀ F _ Cert.MixOutKIdeal.Gen.facts = @Cert.ConvOutKIdeal.defs₀ F _ Cert.ConvOutKIdeal.Gen.facts := by
  unfold Cert.MixOutKIdeal.defs₀ Cert.ConvOutKIdeal.defs₀
  refine congrArg (Defs.onTc (nD := ConvOutKIdeal.nD) (τ := ConvOutKIdeal.τ) (sig := ConvOutKIdeal.sig) (Val := Elt F)) (funext fun l => funext fun a => ?_)
  match l, a with
  | 0, (t, s) => rfl
  | ⟨_ + 1, h⟩, _ => exact absurd h (Nat.not_lt.2 (Nat.le_add_left _ _))

/-- They have the same procedures. -/
theorem procs_eq : @Cert.MixOutKIdeal.defs F _ Cert.MixOutKIdeal.Gen.facts = @Cert.ConvOutKIdeal.defs F _ Cert.ConvOutKIdeal.Gen.facts :=
  congrArg (Pipeline.defs Cert.ConvOutKIdeal.pcfgs) bodies_eq

/-- At the extended reals both end with the same results. -/
theorem algebraic : @Cert.algebraic_MixOutKIdeal_MixOutRIdeal Cert.MixOutKIdeal.Gen.facts Cert.MixOutRIdeal.Gen.facts := by
  intro m g m' g' p hag
  rw [procs_eq]
  exact Cert.ConvOut.algebraic m g m' g' p hag

end Cert.MixOut
end
-- ==== Proof.AGate.lean ====
module

public import proofs.«01_k».proof.Proof.Blocks
public import proofs.«01_k».proof.Proof.Gen.AGateKIdeal.Frame
public import proofs.«01_k».proof.Proof.Gen.AGateRIdeal.Run
public import proofs.«01_k».proof.Proof.Gen.AGateRIdeal.Read

@[expose] public section

/-! The attention's output product and the gated sum of the two branches, 256 columns at each grid point. -/

set_option maxRecDepth 16384

noncomputable section

open Idealize.ShloMosaic Idealize.ShloMosaic.TcCoe Idealize.SL.Sem
open Cert.Blocks

namespace Cert.AGate

open Cert.AGateKIdeal

/-- The attention branch: row `i 0` of the attention's output against column `i 1` of the weight. -/
def branch (o : Vec Ideal S2176x1024 .bf16) (w : Vec Ideal S1024x1024 .bf16) : S2176x1024.Idx → EReal := fun i =>
  ∑ k : Fin 1024, o (ix2 (i 0) k) * w (ix2 k (i 1))

/-- Column `j` of the projection, in the stretch of gate logits starting at column `5120 + 1024 h`. -/
abbrev pcol (h : Fin 2) (j : Fin 1024) : Fin 7168 := ⟨5120 + (h.val * 1024 + j.val), by have := j.isLt; have := h.isLt; omega⟩

/-- Entry `j` of the bias of gate `h`. -/
abbrev bcol (h : Fin 2) (j : Fin 1024) : Fin 2048 := ⟨h.val * 1024 + j.val, by have := j.isLt; have := h.isLt; omega⟩

/-- The gated sum at one element: two logits with their biases, the convolution's value and the attention's. -/
def mixed (x1 b1 x2 b2 yc ya : EReal) : EReal := Ideal.logistic (x1 + b1) * yc + Ideal.logistic (x2 + b2) * ya

/-- The gated sum of the branches. -/
def mix (o : Vec Ideal S2176x1024 .bf16) (w : Vec Ideal S1024x1024 .bf16) (p : Vec Ideal S2176x7168 .f32) (y : Vec Ideal S2176x1024 .f32) (b : Vec Ideal S1x2048 .f32) : S2176x1024.Idx → EReal := fun i =>
  mixed (p (ix2 (i 0) (pcol 0 (i 1)))) (b (ix2 0 (bcol 0 (i 1)))) (p (ix2 (i 0) (pcol 1 (i 1)))) (b (ix2 0 (bcol 1 (i 1))))
    (y (ix2 (i 0) (i 1))) (branch o w (ix2 (i 0) (i 1)))

/-- The product that the call forms of two loaded blocks. -/
theorem pay1_apply (v0 : Vec Ideal S2176x1024 .bf16) (v1 : Vec Ideal S1024x256 .bf16) (r : Fin 2176) (j : Fin 256) : Gen.k0_pay1 v0 v1 (ix2 r j) = ∑ k : Fin 1024, v0 (ix2 r k) * v1 (ix2 k j) := by
  pointwise [Gen.k0_pay1]

/-- The gated sum of the loaded blocks. -/
theorem pay2_apply (v0 : Vec Ideal S2176x1024 .bf16) (v1 : Vec Ideal S1024x256 .bf16) (v4 v5 : Vec Ideal S1x256 .f32) (v7 v8 v9 : Vec Ideal S2176x256 .f32) (r : Fin 2176) (j : Fin 256) :
    Gen.k0_pay2 v0 v1 v4 v5 v7 v8 v9 (ix2 r j)
      = mixed (v7 (ix2 r j)) (v4 (ix2 0 j)) (v8 (ix2 r j)) (v5 (ix2 0 j)) (v9 (ix2 r j)) (∑ k : Fin 1024, v0 (ix2 r k) * v1 (ix2 k j)) := by
  pointwise [Gen.k0_pay2, Gen.k0_pay1, mixed]

section Kernel

variable (m : (ℓ : Loc nD τ sig) → Buf (Elt Ideal) ℓ) (ρ : Dev nD → PrngReg)

open Gen

/-- Where each window's block lies. -/
theorem index_facts : ∀ t : Fin grid0.N,
    (win0_0.index t 0 = 0 ∧ win0_0.index t 1 = 0)
    ∧ (win0_1.index t 0 = 0 ∧ win0_1.index t 1 = t.val)
    ∧ (win0_2.index t 0 = 0 ∧ win0_2.index t 1 = 20 + t.val)
    ∧ (win0_3.index t 0 = 0 ∧ win0_3.index t 1 = 24 + t.val)
    ∧ (win0_4.index t 0 = 0 ∧ win0_4.index t 1 = t.val)
    ∧ (win0_5.index t 0 = 0 ∧ win0_5.index t 1 = t.val)
    ∧ (win0_6.index t 0 = 0 ∧ win0_6.index t 1 = 4 + t.val)
    ∧ (win0_7.index t 0 = 0 ∧ win0_7.index t 1 = t.val)
    ∧ (win0_8.index t 0 = 0 ∧ win0_8.index t 1 = t.val) := by decide +kernel

/-- Column `j` of the columns that point `t` works on. -/
abbrev col (t : Fin cfg0.N) (j : Fin 256) : Fin 1024 :=
  ⟨t.val * 256 + j.val, by have := j.isLt; have := t.isLt; have hN : cfg0.N = 4 := N_0; omega⟩

/-- Input window 0's block at a point. -/
theorem iblk0_apply (c : Dev nD) (t : Fin cfg0.N) (r : Fin 2176) (k : Fin 1024) :
    (iblk m c 0 t : Vec Ideal S2176x1024 .bf16) (ix2 r k) = m (c.tc.loc main_arg0) (ix2 r k) := by
  obtain ⟨⟨h0, h1⟩, -⟩ := index_facts t
  exact (View.read_apply _ _).trans (congrArg (m (c.tc.loc main_arg0)) (eq_ix2 (show win0_0.index t 0 * 2176 + 1 * r.val = r.val by rw [h0]; omega) (show win0_0.index t 1 * 1024 + 1 * k.val = k.val by rw [h1]; omega)))

/-- Input window 1's block at a point. -/
theorem iblk1_apply (c : Dev nD) (t : Fin cfg0.N) (k : Fin 1024) (j : Fin 256) :
    (iblk m c 1 t : Vec Ideal S1024x256 .bf16) (ix2 k j) = m (c.tc.loc main_arg1) (ix2 k (col t j)) := by
  obtain ⟨-, ⟨h0, h1⟩, -⟩ := index_facts t
  exact (View.read_apply _ _).trans (congrArg (m (c.tc.loc main_arg1)) (eq_ix2 (show win0_1.index t 0 * 1024 + 1 * k.val = k.val by rw [h0]; omega) (show win0_1.index t 1 * 256 + 1 * j.val = t.val * 256 + j.val by rw [h1]; omega)))

/-- Input window 2's block at a point. -/
theorem iblk2_apply (c : Dev nD) (t : Fin cfg0.N) (r : Fin 2176) (j : Fin 256) :
    (iblk m c 2 t : Vec Ideal S2176x256 .f32) (ix2 r j) = m (c.tc.loc main_arg2) (ix2 r (pcol 0 (col t j))) := by
  obtain ⟨-, -, ⟨h0, h1⟩, -⟩ := index_facts t
  exact (View.read_apply _ _).trans (congrArg (m (c.tc.loc main_arg2)) (eq_ix2 (show win0_2.index t 0 * 2176 + 1 * r.val = r.val by rw [h0]; omega) (show win0_2.index t 1 * 256 + 1 * j.val = 5120 + (0 * 1024 + (t.val * 256 + j.val)) by rw [h1]; omega)))

/-- Input window 3's block at a point. -/
theorem iblk3_apply (c : Dev nD) (t : Fin cfg0.N) (r : Fin 2176) (j : Fin 256) :
    (iblk m c 3 t : Vec Ideal S2176x256 .f32) (ix2 r j) = m (c.tc.loc main_arg2) (ix2 r (pcol 1 (col t j))) := by
  obtain ⟨-, -, -, ⟨h0, h1⟩, -⟩ := index_facts t
  exact (View.read_apply _ _).trans (congrArg (m (c.tc.loc main_arg2)) (eq_ix2 (show win0_3.index t 0 * 2176 + 1 * r.val = r.val by rw [h0]; omega) (show win0_3.index t 1 * 256 + 1 * j.val = 5120 + (1 * 1024 + (t.val * 256 + j.val)) by rw [h1]; omega)))

/-- Input window 4's block at a point. -/
theorem iblk4_apply (c : Dev nD) (t : Fin cfg0.N) (r : Fin 2176) (j : Fin 256) :
    (iblk m c 4 t : Vec Ideal S2176x256 .f32) (ix2 r j) = m (c.tc.loc main_arg3) (ix2 r (col t j)) := by
  obtain ⟨-, -, -, -, ⟨h0, h1⟩, -⟩ := index_facts t
  exact (View.read_apply _ _).trans (congrArg (m (c.tc.loc main_arg3)) (eq_ix2 (show win0_4.index t 0 * 2176 + 1 * r.val = r.val by rw [h0]; omega) (show win0_4.index t 1 * 256 + 1 * j.val = t.val * 256 + j.val by rw [h1]; omega)))

/-- Input window 5's block at a point. -/
theorem iblk5_apply (c : Dev nD) (t : Fin cfg0.N) (j : Fin 256) :
    (iblk m c 5 t : Vec Ideal S1x256 .f32) (ix2 0 j) = m (c.tc.loc main_arg4) (ix2 0 (bcol 0 (col t j))) := by
  obtain ⟨-, -, -, -, -, ⟨h0, h1⟩, -⟩ := index_facts t
  exact (View.read_apply _ _).trans (congrArg (m (c.tc.loc main_arg4)) (eq_ix2 (show win0_5.index t 0 * 1 + 1 * 0 = 0 by omega) (show win0_5.index t 1 * 256 + 1 * j.val = 0 * 1024 + (t.val * 256 + j.val) by rw [h1]; omega)))

/-- Input window 6's block at a point. -/
theorem iblk6_apply (c : Dev nD) (t : Fin cfg0.N) (j : Fin 256) :
    (iblk m c 6 t : Vec Ideal S1x256 .f32) (ix2 0 j) = m (c.tc.loc main_arg4) (ix2 0 (bcol 1 (col t j))) := by
  obtain ⟨-, -, -, -, -, -, ⟨h0, h1⟩, -⟩ := index_facts t
  exact (View.read_apply _ _).trans (congrArg (m (c.tc.loc main_arg4)) (eq_ix2 (show win0_6.index t 0 * 1 + 1 * 0 = 0 by omega) (show win0_6.index t 1 * 256 + 1 * j.val = 1 * 1024 + (t.val * 256 + j.val) by rw [h1]; omega)))

/-- Window 7's array after the run. -/
abbrev res7 (c : Dev nD) : Buf (Elt Ideal) ((c : Thread nD τ).loc main_v0_0) :=
  branch (m (c.tc.loc main_arg0)) (m (c.tc.loc main_arg1))

/-- Window 8's array after the run. -/
abbrev res8 (c : Dev nD) : Buf (Elt Ideal) ((c : Thread nD τ).loc main_v0_1) :=
  mix (m (c.tc.loc main_arg0)) (m (c.tc.loc main_arg1)) (m (c.tc.loc main_arg2)) (m (c.tc.loc main_arg3)) (m (c.tc.loc main_arg4))

theorem ld0 {e} (X : Vec Ideal S2176x1024 e) : View.ld X r0_0 = X := View.ld_unit_zero zero2 _ X
theorem canon0 {e} (X : Vec Ideal S2176x1024 e) : View.canon (Val := Elt Ideal) [⟨r0_0, X⟩] = X := View.canon_unit_zero zero2 _ X
theorem ld1 {e} (X : Vec Ideal S1024x256 e) : View.ld X r0_1 = X := View.ld_unit_zero zero2 _ X
theorem canon1 {e} (X : Vec Ideal S1024x256 e) : View.canon (Val := Elt Ideal) [⟨r0_1, X⟩] = X := View.canon_unit_zero zero2 _ X
theorem ld2 {e} (X : Vec Ideal S2176x256 e) : View.ld X r0_2 = X := View.ld_unit_zero zero2 _ X
theorem canon2 {e} (X : Vec Ideal S2176x256 e) : View.canon (Val := Elt Ideal) [⟨r0_2, X⟩] = X := View.canon_unit_zero zero2 _ X
theorem ld3 {e} (X : Vec Ideal S1x256 e) : View.ld X r0_3 = X := View.ld_unit_zero zero2 _ X
theorem canon3 {e} (X : Vec Ideal S1x256 e) : View.canon (Val := Elt Ideal) [⟨r0_3, X⟩] = X := View.canon_unit_zero zero2 _ X

/-- What a grid point leaves in window 7's buffer. -/
theorem out_apply7 (c : Dev nD) (t : Fin cfg0.N) (y : S2176x256.Idx) :
    out0_7 (iblk m c 0 t) (iblk m c 1 t) (iblk m c 2 t) (iblk m c 3 t) (iblk m c 4 t) (iblk m c 5 t) (iblk m c 6 t) y = res7 m c (ix2 (y 0) (col t (y 1))) := by
  obtain ⟨r, j, rfl⟩ := idx2 (R := 2176) (C := 256) y
  unfold out0_7
  simp only [ld0, ld1, ld2, ld3, canon0, canon1, canon2, canon3]
  refine (pay1_apply ..).trans ?_
  simp only [iblk0_apply, iblk1_apply, iblk2_apply, iblk3_apply, iblk4_apply, iblk5_apply, iblk6_apply]
  rfl

/-- What a point writes back through window 7. -/
theorem flushed7_eq (c : Dev nD) (t : Fin cfg0.N) :
    (dats m 0 c).flushed 7 t = ((cfg0.win 7).blk t).view.read (Elt Ideal) (res7 m c) := by
  obtain ⟨-, -, -, -, -, -, -, ⟨h0, h1⟩, -⟩ := index_facts t
  show (cfg0.win 7).cut (grid0.coords t) ((dats m 0 c).after 7 t) = _
  rw [after0_7]
  funext y
  rw [View.read_apply]
  refine (out_apply7 m c t y).trans (congrArg (res7 m c) ?_)
  exact Eq.symm (eq_ix2 (show win0_7.index t 0 * 2176 + 1 * (y 0).val = (y 0).val by rw [h0]; omega) (show win0_7.index t 1 * 256 + 1 * (y 1).val = t.val * 256 + (y 1).val by rw [h1]; omega))

/-- The blocks cover result 7. -/
theorem cover7 (i : S2176x1024.Idx) : ∃ t : Fin cfg0.N, (cfg0.win 7).flush t = true ∧ i ∈ ((cfg0.win 7).blk t).view.set := by
  have i0 : (i 0).val < 2176 := (i 0).isLt
  have i1 : (i 1).val < 1024 := (i 1).isLt
  have hN : cfg0.N = 4 := N_0
  obtain ⟨t, ht⟩ : ∃ t : Fin cfg0.N, t.val = (i 1).val / 256 := ⟨⟨_, by omega⟩, rfl⟩
  obtain ⟨-, -, -, -, -, -, -, ⟨h0, h1⟩, -⟩ := index_facts t
  refine ⟨t, flush0_7 t, ?_⟩
  show i ∈ ((View.whole main_v0_0).slice (win0_7.rect t)).set
  rw [View.set_slice_whole, Rect.mem_set_unit]
  exact in_block2 (p := 2176) (q := 256) h0 h1 (by omega) (by omega)

/-- Result 7 after the run. -/
theorem final7 (c : Dev nD) : (dats m 0 c).arrAt 7 cfg0.N = res7 m c :=
  (dats m 0 c).arrAt_eq_of_cover 7 (res7 m c) (fun t _ => flushed7_eq m c t) cover7

/-- What a grid point leaves in window 8's buffer. -/
theorem out_apply8 (c : Dev nD) (t : Fin cfg0.N) (y : S2176x256.Idx) :
    out0_8 (iblk m c 0 t) (iblk m c 1 t) (iblk m c 2 t) (iblk m c 3 t) (iblk m c 4 t) (iblk m c 5 t) (iblk m c 6 t) y = res8 m c (ix2 (y 0) (col t (y 1))) := by
  obtain ⟨r, j, rfl⟩ := idx2 (R := 2176) (C := 256) y
  unfold out0_8
  simp only [ld0, ld1, ld2, ld3, canon0, canon1, canon2, canon3]
  refine (pay2_apply ..).trans ?_
  simp only [iblk0_apply, iblk1_apply, iblk2_apply, iblk3_apply, iblk4_apply, iblk5_apply, iblk6_apply]
  rfl

/-- What a point writes back through window 8. -/
theorem flushed8_eq (c : Dev nD) (t : Fin cfg0.N) :
    (dats m 0 c).flushed 8 t = ((cfg0.win 8).blk t).view.read (Elt Ideal) (res8 m c) := by
  obtain ⟨-, -, -, -, -, -, -, -, ⟨h0, h1⟩⟩ := index_facts t
  show (cfg0.win 8).cut (grid0.coords t) ((dats m 0 c).after 8 t) = _
  rw [after0_8]
  funext y
  rw [View.read_apply]
  refine (out_apply8 m c t y).trans (congrArg (res8 m c) ?_)
  exact Eq.symm (eq_ix2 (show win0_8.index t 0 * 2176 + 1 * (y 0).val = (y 0).val by rw [h0]; omega) (show win0_8.index t 1 * 256 + 1 * (y 1).val = t.val * 256 + (y 1).val by rw [h1]; omega))

/-- The blocks cover result 8. -/
theorem cover8 (i : S2176x1024.Idx) : ∃ t : Fin cfg0.N, (cfg0.win 8).flush t = true ∧ i ∈ ((cfg0.win 8).blk t).view.set := by
  have i0 : (i 0).val < 2176 := (i 0).isLt
  have i1 : (i 1).val < 1024 := (i 1).isLt
  have hN : cfg0.N = 4 := N_0
  obtain ⟨t, ht⟩ : ∃ t : Fin cfg0.N, t.val = (i 1).val / 256 := ⟨⟨_, by omega⟩, rfl⟩
  obtain ⟨-, -, -, -, -, -, -, -, ⟨h0, h1⟩⟩ := index_facts t
  refine ⟨t, flush0_8 t, ?_⟩
  show i ∈ ((View.whole main_v0_1).slice (win0_8.rect t)).set
  rw [View.set_slice_whole, Rect.mem_set_unit]
  exact in_block2 (p := 2176) (q := 256) h0 h1 (by omega) (by omega)

/-- Result 8 after the run. -/
theorem final8 (c : Dev nD) : (dats m 0 c).arrAt 8 cfg0.N = res8 m c :=
  (dats m 0 c).arrAt_eq_of_cover 8 (res8 m c) (fun t _ => flushed8_eq m c t) cover8

/-- The run: both results are the stated functions of the launch contents, and the arguments are kept. -/
theorem run : θ_run defs (onTc (τ := τ) (main (F := Ideal))) ⟨m, fun _ => 0, ρ⟩ fun r => ∀ c : Dev nD,
      r.2.mem (c.tc.loc main_v0_0) = (dats m 0 c).arrAt 7 cfg0.N
      ∧ r.2.mem (c.tc.loc main_v0_1) = (dats m 0 c).arrAt 8 cfg0.N
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4) :=
  (θ_run _ _ _).mono (fun r h c => ⟨(h c).1 7, (h c).1 8,
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 4).trans (((dats m 0 c).arrAt_in 4 rfl _).trans ((A_eq m c 4).trans (V_main_arg3 m c))),
    ((h c).1 5).trans (((dats m 0 c).arrAt_in 5 rfl _).trans ((A_eq m c 5).trans (V_main_arg4 m c)))⟩)
    (run_main m ρ)

end Kernel

open Cert.AGateRIdeal.Read in
/-- The reference's result 0 is the same function. -/
theorem ref_apply7 (o : Vec Ideal S2176x1024 .bf16) (w : Vec Ideal S1024x1024 .bf16) (r : Fin 2176) (j : Fin 1024) :
    val_main_v2 (F := Ideal) o w (ix2 r j) = branch o w (ix2 r j) := by
  pointwise [val_main_v2, val_main_v1, val_main_v0, branch, mixed, branch, Ideal.logistic]

open Cert.AGateRIdeal.Read in
/-- The reference's result 1 is the same function. -/
theorem ref_apply8 (o : Vec Ideal S2176x1024 .bf16) (w : Vec Ideal S1024x1024 .bf16) (p : Vec Ideal S2176x7168 .f32) (y : Vec Ideal S2176x1024 .f32) (b : Vec Ideal S1x2048 .f32) (r : Fin 2176) (j : Fin 1024) :
    val_main_v17 (F := Ideal) o w p y b (ix2 r j) = mix o w p y b (ix2 r j) := by
  have e0 : ∀ h, (⟨5120 + j.val, h⟩ : Fin 7168) = pcol 0 j := fun _ => Fin.ext (by simp)
  have e1 : ∀ h, (⟨5120 + (1024 + j.val), h⟩ : Fin 7168) = pcol 1 j := fun _ => Fin.ext (by simp)
  have e2 : ∀ h, (⟨j.val, h⟩ : Fin 2048) = bcol 0 j := fun _ => Fin.ext (by simp)
  have e3 : ∀ h, (⟨1024 + j.val, h⟩ : Fin 2048) = bcol 1 j := fun _ => Fin.ext (by simp)
  pointwise [val_main_v17, val_main_v16, val_main_v15, val_main_v14, val_main_v13, val_main_v12, val_main_v11, val_main_v10, val_main_cst_0, val_main_v9, val_main_v8, val_main_cst, val_main_v7, val_main_v6, val_main_v5, val_main_v4, val_main_v3, val_main_v2, val_main_v1, val_main_v0, mix, mixed, branch, Ideal.logistic]
  simp only [e0, e1, e2, e3]

/-- At the extended reals both end with the same results. -/
theorem algebraic : Cert.algebraic_AGateKIdeal_AGateRIdeal := by
  intro m g m' g' _ hag
  refine ⟨fun c => res7 m c, fun c => res8 m c, ?_, ?_⟩
  · exact (θ_run _ _ _).mono (fun r h c => ⟨(h c).1.trans (final7 m c), (h c).2.1.trans (final8 m c), (h c).2.2⟩) (run m g)
  · refine (θ_run _ _ _).mono (fun r h c => ⟨(h c).1.trans ?_, (h c).2.1.trans ?_, (h c).2.2⟩) (AGateRIdeal.Value.run (F := Ideal) m' g')
    all_goals obtain ⟨a0, a1, a2, a3, a4⟩ := hag c
    all_goals simp only [a0, a1, a2, a3, a4]
    · refine (AGateRIdeal.Read.val_main_v2_eq (F := Ideal) _ _).trans ?_
      funext i
      obtain ⟨a, b, rfl⟩ := idx2 (R := 2176) (C := 1024) i
      exact ref_apply7 _ _ a b
    · refine (AGateRIdeal.Read.val_main_v17_eq (F := Ideal) _ _ _ _ _).trans ?_
      funext i
      obtain ⟨a, b, rfl⟩ := idx2 (R := 2176) (C := 1024) i
      exact ref_apply8 _ _ _ _ _ a b

end Cert.AGate

end
-- ==== Proof.NormRows.lean ====
module

public import proofs.«01_k».proof.Proof.Blocks

@[expose] public section

/-! The row arithmetic of the normalisation and of its gradient, and what a buffer written in stretches of rows reads. -/

set_option maxRecDepth 16384

noncomputable section

open Idealize.ShloMosaic Idealize.ShloMosaic.TcCoe
open Cert.Blocks

namespace Cert.NormRows

/-- The loops take four trips. -/
theorem trips4 : Scf.trips (0#32) (Scalar.addi 0#32 4#32) 1#32 = 4 := by decide

/-- Rows of 1024 numbers. -/
abbrev Rows (R : ℕ) : Type := (⟨2, ![R, 1024]⟩ : Shape).Idx → EReal

/-- Row `r` of an array of rows. -/
abbrev row {R : ℕ} (x : Rows R) (r : Fin R) : Fin 1024 → EReal := fun k => x (ix2 r k)

/-- The mean of a row's squares, and the small constant. -/
def meanSq (x : Fin 1024 → EReal) : EReal :=
  Ideal.div (∑ k, x k * x k) (Ideal.ofBits FTy.f32 0x44800000#32) + Ideal.ofBits FTy.f32 0x358637BD#32

/-- The reciprocal root of that. -/
def invRms (x : Fin 1024 → EReal) : EReal := Ideal.rsqrt (meanSq x)

/-- The part of a row's gradient that comes through the mean, per element of the row. -/
def meanGrad (x q : Fin 1024 → EReal) : EReal :=
  Ideal.div ((∑ k, x k * q k) * (Ideal.ofBits FTy.f32 0xBF000000#32 * Ideal.div (invRms x) (meanSq x)))
    (Ideal.ofBits FTy.f32 0x44800000#32)

/-- The gradient of a row under the normalisation, from the cotangent times the gain. -/
def normGrad (x q : Fin 1024 → EReal) (j : Fin 1024) : EReal := (q j * invRms x + x j * meanGrad x q) + meanGrad x q * x j

/-- Row `n`'s part of the gain's gradient: nothing past the last row. -/
def gainPart {R : ℕ} (x d : Rows R) (j : Fin 1024) (n : ℕ) : EReal :=
  if h : n < R then x (ix2 ⟨n, h⟩ j) * invRms (row x ⟨n, h⟩) * d (ix2 ⟨n, h⟩ j) else 0

/-- A further stretch of `b` terms after `a` of them. -/
theorem sum_stretch (f : ℕ → EReal) (a b : ℕ) (g : Fin b → EReal) (h : ∀ r : Fin b, g r = f (a + r.val)) :
    (∑ n ∈ Finset.range a, f n) + ∑ r, g r = ∑ n ∈ Finset.range (a + b), f n := by
  rw [Finset.sum_range_add, Finset.sum_range (fun n => f (a + n))]
  exact congrArg _ (Finset.sum_congr rfl fun r _ => h r)

/-- The sum over the rows of the parts is the sum over the rows. -/
theorem gain_sum {R : ℕ} (x d : Rows R) (j : Fin 1024) :
    ∑ n ∈ Finset.range R, gainPart x d j n = ∑ r : Fin R, x (ix2 r j) * invRms (row x r) * d (ix2 r j) := by
  rw [Finset.sum_range]
  exact Finset.sum_congr rfl fun r _ => by unfold gainPart; rw [dif_pos r.isLt]

/-- Where an element of a stretch of rows lies in the array. -/
theorem emb_rows {R n : ℕ} {off : Fin 2 → ℕ} (inb : ∀ a, off a + (![n, 1024] : Fin 2 → ℕ) a ≤ (![R, 1024] : Fin 2 → ℕ) a)
    (o : ℕ) (ho : off = ![o, 0]) (r : Fin n) (k : Fin 1024) (h : o + r.val < R) :
    (Rect.unit (s := (⟨2, ![R, 1024]⟩ : Shape)) off ![n, 1024] inb).emb (ix2 r k) = ix2 ⟨o + r.val, h⟩ k := by
  subst ho
  exact eq_ix2 (show o + 1 * r.val = o + r.val by omega) (show 0 + 1 * k.val = k.val by omega)

/-- A load of a stretch of rows. -/
theorem ld_rows {R n : ℕ} {off : Fin 2 → ℕ} (inb : ∀ a, off a + (![n, 1024] : Fin 2 → ℕ) a ≤ (![R, 1024] : Fin 2 → ℕ) a)
    (x : Rows R) (o : ℕ) (ho : off = ![o, 0]) (r : Fin n) (k : Fin 1024) (h : o + r.val < R) :
    (View.ld (Val := Elt Ideal) (e' := .f32) x (Rect.unit (s := (⟨2, ![R, 1024]⟩ : Shape)) off ![n, 1024] inb) : Rows n) (ix2 r k) = x (ix2 ⟨o + r.val, h⟩ k) :=
  congrArg x (emb_rows inb o ho r k h)

/-- If every piece is its part of `G`, an index that some piece holds reads `G`. -/
theorem read_agree {sig : RefSig} {κ : Kind} {sp : Space} {s : Shape} {e : EltTy} (v : View sig κ sp s e) (f : v.ty.Contents (Elt Ideal)) (G : s.Idx → Elt Ideal e) (y : s.Idx) :
    ∀ L : List (View.Piece (Elt Ideal) s e), (∀ p ∈ L, ∀ x, p.2 x = G (p.1.emb x)) → (∃ p ∈ L, y ∈ p.1.set) →
      v.read (Elt Ideal) (v.writes (Elt Ideal) f L) y = G y
  | [], _, h => by obtain ⟨p, hp, _⟩ := h; exact absurd hp (List.not_mem_nil)
  | p :: L, hG, h => by
    by_cases hy : ∃ x, p.1.emb x = y
    · obtain ⟨x, rfl⟩ := hy
      exact (View.read_writes_cons_emb v f p.1 p.2 L x).trans (hG p (List.mem_cons_self) x)
    · have hn : y ∉ (Finset.univ.map p.1.emb) := fun hm => by
        obtain ⟨x, _, hx⟩ := Finset.mem_map.mp hm
        exact hy ⟨x, hx⟩
      refine (View.read_slice_write_of_not_mem p.1 _ _ _ hn).trans ?_
      refine read_agree v f G y L (fun q hq => hG q (List.mem_cons_of_mem _ hq)) ?_
      obtain ⟨q, hq, hx⟩ := h
      rcases List.mem_cons.mp hq with hqp | hq'
      · subst hqp
        refine absurd ?_ hy
        choose w hw hv using q.1.mem_set.mp hx
        exact ⟨fun a => ⟨w a, hw a⟩, funext fun a => Fin.ext (hv a).symm⟩
      · exact ⟨q, hq', hx⟩

end Cert.NormRows
end
-- ==== Proof.PreDx.lean ====
module

public import proofs.«01_k».proof.Proof.Blocks
public import proofs.«01_k».proof.Proof.NormRows
public import proofs.«01_k».proof.Proof.Gen.PreDxKIdeal.Value
public import proofs.«01_k».proof.Proof.Gen.PreDxRIdeal.Run
public import proofs.«01_k».proof.Proof.Gen.PreDxRIdeal.Read

@[expose] public section

/-! The first normalisation's backward call: the gradient of each row, and the gain's gradient added up over the rows. -/

set_option maxRecDepth 16384

noncomputable section

open Idealize.ShloMosaic Idealize.ShloMosaic.TcCoe Idealize.SL.Sem
open Cert.Blocks

namespace Cert.PreDx

open Cert.PreDxKIdeal Cert.NormRows

/-- The rows' gradient: the cotangent that passes by, and the normalisation's gradient. -/
def rowsGrad {R : ℕ} (x d e : Rows R) (g : Rows 1) : Rows R := fun i =>
  e (ix2 (i 0) (i 1)) + normGrad (row x (i 0)) (fun k => d (ix2 (i 0) k) * g (ix2 0 k)) (i 1)

theorem rowsGrad_apply {R : ℕ} (x d e : Rows R) (g : Rows 1) (r : Fin R) (j : Fin 1024) :
    rowsGrad x d e g (ix2 r j) = e (ix2 r j) + normGrad (row x r) (fun k => d (ix2 r k) * g (ix2 0 k)) j := rfl

/-- The gain's gradient. -/
def gainGrad {R : ℕ} (x d : Rows R) : Rows 1 := fun i => ∑ r, x (ix2 r (i 1)) * invRms (row x r) * d (ix2 r (i 1))

/-! ## What the body computes on a stretch of rows -/

theorem pay4_apply (x : Vec Ideal S128x1024 .f32) (r : Fin 128) : Gen.k0_pay4 x (ix2 r 0) = meanSq (row x r) := by
  pointwise [Gen.k0_pay4, meanSq]

theorem pay5_apply (x : Vec Ideal S128x1024 .f32) (r : Fin 128) : Gen.k0_pay5 x (ix2 r 0) = invRms (row x r) := by
  pointwise [Gen.k0_pay5]
  rw [pay4_apply]; rfl

/-- A stretch of 128 rows of the gradient. -/
theorem pay6_apply (g : Vec Ideal S1x1024 .f32) (x d e : Vec Ideal S128x1024 .f32) (r : Fin 128) (j : Fin 1024) :
    Gen.k0_pay6 g x d e (ix2 r j) = rowsGrad x d e g (ix2 r j) := by
  pointwise [Gen.k0_pay6]
  simp only [Finset.univ_unique, Finset.sum_singleton, Fin.default_eq_zero, pay5_apply, pay4_apply]
  rfl

/-- A stretch of 128 rows' part of the gain's gradient, added to what is there. -/
theorem pay7_apply (a : FVec Ideal S1x1024 .f32) (x d : Vec Ideal S128x1024 .f32) (j : Fin 1024) :
    Gen.k0_pay7 a x d (ix2 0 j) = a (ix2 0 j) + ∑ r, x (ix2 r j) * invRms (row x r) * d (ix2 r j) := by
  pointwise [Gen.k0_pay7]
  simp only [pay5_apply]

theorem pay9_apply (x : Vec Ideal S32x1024 .f32) (r : Fin 32) : Gen.k0_pay9 x (ix2 r 0) = meanSq (row x r) := by
  pointwise [Gen.k0_pay9, meanSq]

theorem pay10_apply (x : Vec Ideal S32x1024 .f32) (r : Fin 32) : Gen.k0_pay10 x (ix2 r 0) = invRms (row x r) := by
  pointwise [Gen.k0_pay10]
  rw [pay9_apply]; rfl

/-- The last 32 rows' part of the gain's gradient. -/
theorem pay11_apply (x d : Vec Ideal S32x1024 .f32) (j : Fin 1024) :
    Gen.k0_pay11 x d (ix2 0 j) = ∑ r, x (ix2 r j) * invRms (row x r) * d (ix2 r j) := by
  pointwise [Gen.k0_pay11]
  simp only [pay10_apply]

theorem pay12_apply (g : Vec Ideal S1x1024 .f32) (d : Vec Ideal S32x1024 .f32) (r : Fin 32) (j : Fin 1024) :
    Gen.k0_pay12 g d (ix2 r j) = d (ix2 r j) * g (ix2 0 j) := by
  pointwise [Gen.k0_pay12]

theorem pay13_apply (g : Vec Ideal S1x1024 .f32) (x d : Vec Ideal S32x1024 .f32) (r : Fin 32) (j : Fin 1024) :
    Gen.k0_pay13 g x d (ix2 r j) = meanGrad (row x r) (fun k => d (ix2 r k) * g (ix2 0 k)) := by
  pointwise [Gen.k0_pay13]
  simp only [Finset.univ_unique, Finset.sum_singleton, Fin.default_eq_zero, pay10_apply, pay9_apply, pay12_apply]
  rfl

/-- The last 32 rows of the gradient. -/
theorem pay1_apply (g : Vec Ideal S1x1024 .f32) (x d e : Vec Ideal S32x1024 .f32) (r : Fin 32) (j : Fin 1024) :
    Gen.k0_pay1 x e (Gen.k0_pay13 g x d) (Gen.k0_pay14 g x d) (ix2 r j) = rowsGrad x d e g (ix2 r j) := by
  pointwise [Gen.k0_pay1, Gen.k0_pay14]
  simp only [pay10_apply, pay12_apply, pay13_apply]
  rfl

theorem pay2_apply (j : Fin 1024) : Gen.k0_pay2 (F := Ideal) (ix2 0 j) = 0 := by pointwise [Gen.k0_pay2]

theorem pay8_apply (j : Fin 1024) : Gen.k0_pay8 (F := Ideal) (ix2 0 j) = 0 := by pointwise [Gen.k0_pay8]

theorem pay3_apply (a b x : Vec Ideal S1x1024 .f32) (j : Fin 1024) :
    Gen.k0_pay3 a b x (ix2 0 j) = x (ix2 0 j) + (a (ix2 0 j) + b (ix2 0 j)) := by
  pointwise [Gen.k0_pay3]

/-! ## The loop over the stretches of 128 rows -/

section Loop

open Gen

variable (c : Dev nD) (i : grid0.Coords) (b1 : Memref sig .tc .vmem S544x1024 .f32) (k1 : b1.IsWhole) (b2 : Memref sig .tc .vmem S544x1024 .f32) (k2 : b2.IsWhole) (b3 : Memref sig .tc .vmem S544x1024 .f32) (k3 : b3.IsWhole) (b4 : Memref sig .tc .vmem S1x1024 .f32) (k4 : b4.IsWhole) (b5 : Memref sig .tc .vmem S544x1024 .f32) (k5 : b5.IsWhole) (b6 : Memref sig .tc .vmem S1x1024 .f32) (k6 : b6.IsWhole)
  (g : Vec Ideal S1x1024 .f32) (x0 x1 x2 : Vec Ideal S544x1024 .f32)

/-- The stretch of a buffer's rows that trip `k` loads. -/
def stretch (x : Vec Ideal S544x1024 .f32) (k : Fin k0_t1_loop.trips) : Vec Ideal S128x1024 .f32 :=
  View.ld x (Rect.unit (s := S544x1024) (k0_off1 k) S128x1024.size (k0_off1_inb k))

/-- What trip `k` carries on. -/
theorem carried_eq (k : Fin k0_t1_loop.trips) (a : FVec Ideal S1x1024 .f32) :
    tripR_k0_t1 (F := Ideal) Variants.none c none i b1 k1 b2 k2 b3 k3 b4 k4 b5 k5 b6 k6 g (k1.unread x0) (k2.unread x1) (k3.unread x2) k a
      = k0_pay7 a (stretch x0 k) (stretch x1 k) := by
  unfold tripR_k0_t1 trip_k0_t1
  simp only [View.readAt_eq_ld, k1.read_unread, k2.read_unread, stretch]

/-- What trip `k` stores. -/
theorem stored_eq (k : Fin k0_t1_loop.trips) (a : FVec Ideal S1x1024 .f32) :
    tripL_k0_t1 (F := Ideal) Variants.none c none i b1 k1 b2 k2 b3 k3 b4 k4 b5 k5 b6 k6 g (k1.unread x0) (k2.unread x1) (k3.unread x2) k a
      = [⟨Rect.unit (k0_off1 k) S128x1024.size (k0_off1_inb k), k0_pay6 g (stretch x0 k) (stretch x1 k) (stretch x2 k)⟩] := by
  unfold tripL_k0_t1 trip_k0_t1
  simp only [View.readAt_eq_ld, k1.read_unread, k2.read_unread, k3.read_unread, stretch]

/-- After `k` trips: the parts of the first `128 k` rows are added up, and every stored piece is its part of the rows'
gradient. -/
theorem loop_state : ∀ k ≤ 4,
    (∀ j, (st_k0_t1 (F := Ideal) Variants.none c none i b1 k1 b2 k2 b3 k3 b4 k4 b5 k5 b6 k6 g (k1.unread x0) (k2.unread x1) (k3.unread x2) k0_pay8 k).1 (ix2 0 j)
      = ∑ n ∈ Finset.range (128 * k), gainPart x0 x1 j n)
    ∧ (∀ p ∈ (st_k0_t1 (F := Ideal) Variants.none c none i b1 k1 b2 k2 b3 k3 b4 k4 b5 k5 b6 k6 g (k1.unread x0) (k2.unread x1) (k3.unread x2) k0_pay8 k).2, ∀ x, p.2 x = rowsGrad x0 x1 x2 g (p.1.emb x))
  | 0, _ => ⟨fun j => by rw [st_k0_t1_zero, pay8_apply]; rfl, fun p hp => absurd hp List.not_mem_nil⟩
  | k + 1, hk => by
    obtain ⟨ih1, ih2⟩ := loop_state k (by omega)
    have hk' : k < k0_t1_loop.trips := hk
    have hs := st_k0_t1_succ (F := Ideal) Variants.none c none i b1 k1 b2 k2 b3 k3 b4 k4 b5 k5 b6 k6 g (k1.unread x0) (k2.unread x1) (k3.unread x2) k0_pay8 ⟨k, hk'⟩
    rw [carried_eq, stored_eq] at hs
    have hoff : k0_off1 ⟨k, hk'⟩ = ![128 * k, 0] := k0_off1_eq ⟨k, hk'⟩
    have hl : ∀ (x : Vec Ideal S544x1024 .f32) (r : Fin 128) (j : Fin 1024), stretch x ⟨k, hk'⟩ (ix2 r j) = x (ix2 ⟨128 * k + r.val, by omega⟩ j) :=
      fun x r j => ld_rows (R := 544) (n := 128) (k0_off1_inb ⟨k, hk'⟩) x (128 * k) hoff r j _
    have hr : ∀ (x : Vec Ideal S544x1024 .f32) (r : Fin 128), row (R := 128) (stretch x ⟨k, hk'⟩) r = row (R := 544) x ⟨128 * k + r.val, by omega⟩ :=
      fun x r => funext fun j => hl x r j
    rw [hs]
    refine ⟨fun j => ?_, fun p hp y => ?_⟩
    · refine (pay7_apply _ _ _ j).trans ?_
      dsimp only
      rw [ih1 j, show 128 * (k + 1) = 128 * k + 128 by omega]
      refine sum_stretch _ _ _ _ fun r => ?_
      unfold gainPart
      rw [dif_pos (show 128 * k + r.val < 544 by omega)]
      simp only [hr, hl]
    · rcases List.mem_append.mp hp with hp | hp
      · obtain rfl := List.mem_singleton.mp hp
        obtain ⟨r, j, rfl⟩ := idx2 (R := 128) (C := 1024) y
        dsimp only
        rw [emb_rows (R := 544) (n := 128) (k0_off1_inb ⟨k, hk'⟩) (128 * k) hoff r j (by omega)]
        refine (pay6_apply _ _ _ _ r j).trans ?_
        rw [rowsGrad_apply, rowsGrad_apply]
        simp only [hr, hl]
      · exact ih2 p hp y

/-- The last 32 rows of a buffer. -/
def last32 (x : Vec Ideal S544x1024 .f32) : Vec Ideal S32x1024 .f32 :=
  View.ld x (Rect.unit (s := S544x1024) ![512, 0] S32x1024.size inb_S544x1024_S32x1024_512_0)

theorem last32_apply (x : Vec Ideal S544x1024 .f32) (r : Fin 32) (j : Fin 1024) : last32 x (ix2 r j) = x (ix2 ⟨512 + r.val, by omega⟩ j) :=
  ld_rows (R := 544) (n := 32) inb_S544x1024_S32x1024_512_0 x 512 rfl r j _

theorem last32_row (x : Vec Ideal S544x1024 .f32) (r : Fin 32) : row (R := 32) (last32 x) r = row (R := 544) x ⟨512 + r.val, by omega⟩ :=
  funext fun j => last32_apply x r j

/-- The pieces of the rows' gradient that the body stores. -/
theorem pieces_agree : ∀ p ∈ (⟨Rect.unit (s := S544x1024) ![512, 0] S32x1024.size inb_S544x1024_S32x1024_512_0, k0_pay1 (last32 x0) (last32 x2) (k0_pay13 g (last32 x0) (last32 x1)) (k0_pay14 g (last32 x0) (last32 x1))⟩ : View.Piece (Elt Ideal) S544x1024 .f32) ::
      (st_k0_t1 (F := Ideal) Variants.none c none i b1 k1 b2 k2 b3 k3 b4 k4 b5 k5 b6 k6 g (k1.unread x0) (k2.unread x1) (k3.unread x2) k0_pay8 4).2,
    ∀ x, p.2 x = rowsGrad x0 x1 x2 g (p.1.emb x) := by
  intro p hp y
  rcases List.mem_cons.mp hp with rfl | hp
  · obtain ⟨r, j, rfl⟩ := idx2 (R := 32) (C := 1024) y
    dsimp only
    rw [emb_rows (R := 544) (n := 32) inb_S544x1024_S32x1024_512_0 512 rfl r j (by omega)]
    refine (pay1_apply _ _ _ _ r j).trans ?_
    rw [rowsGrad_apply, rowsGrad_apply]
    simp only [last32_row, last32_apply]
  · exact (loop_state c i b1 k1 b2 k2 b3 k3 b4 k4 b5 k5 b6 k6 g x0 x1 x2 4 (le_refl _)).2 p hp y

/-- The parts of a block's 544 rows, as the body adds them up. -/
theorem block_sum (a : EReal) (j : Fin 1024) :
    a + ((st_k0_t1 (F := Ideal) Variants.none c none i b1 k1 b2 k2 b3 k3 b4 k4 b5 k5 b6 k6 g (k1.unread x0) (k2.unread x1) (k3.unread x2) k0_pay8 4).1 (ix2 0 j)
        + k0_pay11 (last32 x0) (last32 x1) (ix2 0 j)) = a + ∑ n ∈ Finset.range 544, gainPart x0 x1 j n := by
  rw [(loop_state c i b1 k1 b2 k2 b3 k3 b4 k4 b5 k5 b6 k6 g x0 x1 x2 4 (le_refl _)).1 j, pay11_apply]
  refine congrArg (a + ·) (sum_stretch _ 512 32 _ fun r => ?_)
  unfold gainPart
  rw [dif_pos (show 512 + r.val < 544 by omega)]
  simp only [last32_row, last32_apply]

end Loop

section Body

open Gen

variable (c : Dev nD) (i : grid0.Coords) (b1 : Memref sig .tc .vmem S544x1024 .f32) (k1 : b1.IsWhole) (b2 : Memref sig .tc .vmem S544x1024 .f32) (k2 : b2.IsWhole) (b3 : Memref sig .tc .vmem S544x1024 .f32) (k3 : b3.IsWhole) (b4 : Memref sig .tc .vmem S1x1024 .f32) (k4 : b4.IsWhole) (b5 : Memref sig .tc .vmem S544x1024 .f32) (k5 : b5.IsWhole) (b6 : Memref sig .tc .vmem S1x1024 .f32) (k6 : b6.IsWhole)
  (x0 x1 x2 : Vec Ideal S544x1024 .f32) (x3 : Vec Ideal S1x1024 .f32)

open kernelRun0_A in
/-- The rows' gradient at the first point. -/
theorem first_rows (p : cond0_0 i) (y : S544x1024.Idx) :
    out0_A_4 c i b1 k1 b2 k2 b3 k3 b4 k4 b5 k5 b6 k6 p x0 x1 x2 x3 y = rowsGrad x0 x1 x2 x3 y := by
  unfold out0_A_4
  refine read_agree _ _ _ y _ ?_ (cover0_A_4 ..)
  have h := pieces_agree c i b1 k1 b2 k2 b3 k3 b4 k4 b5 k5 b6 k6 x3 x0 x1 x2
  unfold kernelRun0_A
  dsimp only
  simp only [trips4, last32, sl.r, sl.r_1, sl.r_2, sl.r_3, sl.r_4, sl.r_5, View.readAt_eq_ld, k1.read_unread, k2.read_unread, k3.read_unread, k4.read_unread, View.ld_unit_zero (S := S1x1024) zero2] at h ⊢
  exact h

open kernelRun0_B in
/-- The rows' gradient at a later point. -/
theorem later_rows (p : ¬cond0_0 i) (a : Vec Ideal S1x1024 .f32) (y : S544x1024.Idx) :
    out0_B_4 c i b1 k1 b2 k2 b3 k3 b4 k4 b5 k5 b6 k6 p x0 x1 x2 x3 a y = rowsGrad x0 x1 x2 x3 y := by
  unfold out0_B_4
  refine read_agree _ _ _ y _ ?_ (cover0_B_4 ..)
  have h := pieces_agree c i b1 k1 b2 k2 b3 k3 b4 k4 b5 k5 b6 k6 x3 x0 x1 x2
  unfold kernelRun0_B
  dsimp only
  simp only [trips4, last32, sl.r, sl.r_1, sl.r_2, sl.r_3, sl.r_4, sl.r_5, View.readAt_eq_ld, k1.read_unread, k2.read_unread, k3.read_unread, k4.read_unread, View.ld_unit_zero (S := S1x1024) zero2] at h ⊢
  exact h

open kernelRun0_A in
/-- The gain's gradient after the first point. -/
theorem first_gain (p : cond0_0 i) (j : Fin 1024) :
    out0_A_5 c i b1 k1 b2 k2 b3 k3 b4 k4 b5 k5 b6 k6 p x0 x1 x2 x3 (ix2 0 j) = ∑ n ∈ Finset.range 544, gainPart x0 x1 j n := by
  have h := block_sum c i b1 k1 b2 k2 b3 k3 b4 k4 b5 k5 b6 k6 x3 x0 x1 x2 0 j
  unfold out0_A_5
  rw [View.read_writes_eq_canon _ _ _ (cover0_A_5 c i b1 k1 b2 k2 b3 k3 b4 k4 b5 k5 b6 k6 p x0 x1 x2 x3)]
  unfold kernelRun0_A
  dsimp only
  rw [View.canon_cons_unit_zero zero2]
  simp only [trips4, last32, sl.r, sl.r_1, sl.r_2, sl.r_3, sl.r_4, sl.r_5, View.readAt_eq_ld, k1.read_unread, k2.read_unread, k3.read_unread, k4.read_unread, View.ld_unit_zero (S := S1x1024) zero2] at h ⊢
  refine (pay3_apply _ _ _ j).trans ?_
  have hz : sl.v46 (F := Ideal) c b6 (ix2 0 j) = 0 := by
    unfold sl.v46 sl.H5_1
    exact (congrFun (View.readCov_unit_zero (S := S1x1024) b6.view (off := ![0, 0]) zero2 _ _) _).trans (pay2_apply j)
  rw [hz, h, zero_add]

open kernelRun0_B in
/-- The gain's gradient after a later point. -/
theorem later_gain (p : ¬cond0_0 i) (a : Vec Ideal S1x1024 .f32) (j : Fin 1024) :
    out0_B_5 c i b1 k1 b2 k2 b3 k3 b4 k4 b5 k5 b6 k6 p x0 x1 x2 x3 a (ix2 0 j) = a (ix2 0 j) + ∑ n ∈ Finset.range 544, gainPart x0 x1 j n := by
  have h := block_sum c i b1 k1 b2 k2 b3 k3 b4 k4 b5 k5 b6 k6 x3 x0 x1 x2 (a (ix2 0 j)) j
  unfold out0_B_5
  rw [View.read_writes_eq_canon _ _ _ (cover0_B_5 c i b1 k1 b2 k2 b3 k3 b4 k4 b5 k5 b6 k6 p x0 x1 x2 x3 a)]
  unfold kernelRun0_B
  dsimp only
  rw [View.canon_unit_zero zero2]
  simp only [trips4, last32, sl.r, sl.r_1, sl.r_2, sl.r_3, sl.r_4, sl.r_5, View.readAt_eq_ld, k1.read_unread, k2.read_unread, k3.read_unread, k6.read_unread, k4.read_unread, View.ld_unit_zero (S := S1x1024) zero2] at h ⊢
  exact (pay3_apply _ _ _ j).trans h

end Body

section Kernel

variable (m : (ℓ : Loc nD τ sig) → Buf (Elt Ideal) ℓ) (ρ : Dev nD → PrngReg)

open Gen

/-- Where each window's block lies. -/
theorem index_facts : ∀ t : Fin grid0.N,
    (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = 0 ∧ win0_3.index t 1 = 0)
    ∧ (win0_4.index t 0 = t.val ∧ win0_4.index t 1 = 0) ∧ (win0_5.index t 0 = 0 ∧ win0_5.index t 1 = 0) := by decide +kernel

/-- The array's row that row `r` of point `t` is. -/
abbrev at_ (t : Fin cfg0.N) (r : Fin 544) : Fin 2176 := ⟨544 * t.val + r.val, by have := t.isLt.trans_eq N_0; omega⟩

theorem iblk0_apply (c : Dev nD) (t : Fin cfg0.N) (r : Fin 544) (k : Fin 1024) :
    (iblk m c 0 t : Vec Ideal S544x1024 .f32) (ix2 r k) = m (c.tc.loc main_arg0) (ix2 (at_ t r) k) := by
  obtain ⟨⟨h0, h1⟩, -⟩ := index_facts t
  exact (View.read_apply _ _).trans (congrArg (m (c.tc.loc main_arg0)) (eq_ix2 (show win0_0.index t 0 * 544 + 1 * r.val = 544 * t.val + r.val by omega) (show win0_0.index t 1 * 1024 + 1 * k.val = k.val by rw [h1]; omega)))

theorem iblk1_apply (c : Dev nD) (t : Fin cfg0.N) (r : Fin 544) (k : Fin 1024) :
    (iblk m c 1 t : Vec Ideal S544x1024 .f32) (ix2 r k) = m (c.tc.loc main_arg1) (ix2 (at_ t r) k) := by
  obtain ⟨-, ⟨h0, h1⟩, -⟩ := index_facts t
  exact (View.read_apply _ _).trans (congrArg (m (c.tc.loc main_arg1)) (eq_ix2 (show win0_1.index t 0 * 544 + 1 * r.val = 544 * t.val + r.val by omega) (show win0_1.index t 1 * 1024 + 1 * k.val = k.val by rw [h1]; omega)))

theorem iblk2_apply (c : Dev nD) (t : Fin cfg0.N) (r : Fin 544) (k : Fin 1024) :
    (iblk m c 2 t : Vec Ideal S544x1024 .f32) (ix2 r k) = m (c.tc.loc main_arg2) (ix2 (at_ t r) k) := by
  obtain ⟨-, -, ⟨h0, h1⟩, -⟩ := index_facts t
  exact (View.read_apply _ _).trans (congrArg (m (c.tc.loc main_arg2)) (eq_ix2 (show win0_2.index t 0 * 544 + 1 * r.val = 544 * t.val + r.val by omega) (show win0_2.index t 1 * 1024 + 1 * k.val = k.val by rw [h1]; omega)))

theorem iblk3_apply (c : Dev nD) (t : Fin cfg0.N) (k : Fin 1024) :
    (iblk m c 3 t : Vec Ideal S1x1024 .f32) (ix2 0 k) = m (c.tc.loc main_arg3) (ix2 0 k) := by
  obtain ⟨-, -, -, ⟨h0, h1⟩, -⟩ := index_facts t
  exact (View.read_apply _ _).trans (congrArg (m (c.tc.loc main_arg3)) (eq_ix2 (show win0_3.index t 0 * 1 + 1 * 0 = 0 by rw [h0]) (show win0_3.index t 1 * 1024 + 1 * k.val = k.val by rw [h1]; omega)))

/-- Window 4's array after the run. -/
abbrev res4 (c : Dev nD) : Buf (Elt Ideal) ((c : Thread nD τ).loc main_v0_0) :=
  rowsGrad (R := 2176) (m (c.tc.loc main_arg0)) (m (c.tc.loc main_arg1)) (m (c.tc.loc main_arg2)) (m (c.tc.loc main_arg3))

/-- Window 5's array after the run. -/
abbrev res5 (c : Dev nD) : Buf (Elt Ideal) ((c : Thread nD τ).loc main_v0_1) :=
  gainGrad (R := 2176) (m (c.tc.loc main_arg0)) (m (c.tc.loc main_arg1))

/-- What every point leaves of the rows' gradient. -/
theorem rows_apply (c : Dev nD) (t : Fin cfg0.N) (r : Fin 544) (j : Fin 1024) :
    (outsAt0 m c t.val t.isLt).1 (ix2 r j) = res4 m c (ix2 (at_ t r) j) := by
  have hr : (outsAt0 m c t.val t.isLt).1 (ix2 r j)
      = rowsGrad (R := 544) (iblk m c 0 t) (iblk m c 1 t) (iblk m c 2 t) (iblk m c 3 t) (ix2 r j) := by
    by_cases h0 : t.val % 4 = 0
    · rw [outsAt0_A m c t h0]; dsimp only; exact first_rows ..
    · rw [outsAt0_B m c t h0]; dsimp only; exact later_rows ..
  have h0 : row (R := 544) (iblk m c 0 t) r = row (R := 2176) (m (c.tc.loc main_arg0)) (at_ t r) :=
    funext fun k => iblk0_apply m c t r k
  rw [hr, rowsGrad_apply]
  unfold res4
  rw [rowsGrad_apply, h0]
  simp only [iblk1_apply, iblk2_apply, iblk3_apply]

/-- A block's parts of the gain's gradient are the array's. -/
theorem part_apply (c : Dev nD) (t : Fin cfg0.N) (j : Fin 1024) (r : Fin 544) :
    gainPart (R := 544) (iblk m c 0 t) (iblk m c 1 t) j r.val
      = gainPart (R := 2176) (m (c.tc.loc main_arg0)) (m (c.tc.loc main_arg1)) j (544 * t.val + r.val) := by
  have h0 : row (R := 544) (iblk m c 0 t) r = row (R := 2176) (m (c.tc.loc main_arg0)) (at_ t r) :=
    funext fun k => iblk0_apply m c t r k
  unfold gainPart
  rw [dif_pos r.isLt, dif_pos (at_ t r).isLt]
  exact congrArg₂ (· * ·) (congrArg₂ (· * ·) (iblk0_apply m c t r j) (congrArg invRms h0)) (iblk1_apply m c t r j)

/-- After point `l` the parts of the rows up to its last are added up. -/
theorem gain_apply (c : Dev nD) (j : Fin 1024) : ∀ (l : ℕ) (h : l < cfg0.N),
    (outsAt0 m c l h).2 (ix2 0 j)
      = ∑ n ∈ Finset.range (544 * l + 544), gainPart (R := 2176) (m (c.tc.loc main_arg0)) (m (c.tc.loc main_arg1)) j n
  | 0, h => by
    rw [outsAt0_A m c ⟨0, h⟩ rfl]
    dsimp only
    refine (first_gain ..).trans ?_
    rw [Finset.sum_range]
    refine (Finset.sum_congr rfl fun r _ => part_apply m c ⟨0, h⟩ j r).trans ?_
    rw [← sum_stretch _ 0 544 _ (fun r => rfl)]
    exact (zero_add _).symm
  | l + 1, h => by
    have hN : l + 1 < 4 := h.trans_eq N_0
    rw [outsAt0_B m c ⟨l + 1, h⟩ (by dsimp only; omega)]
    dsimp only
    refine (later_gain ..).trans ?_
    rw [Finset.sum_range (n := 544)]
    refine (congrArg₂ (· + ·) (gain_apply c j l _) (Finset.sum_congr rfl fun r _ => part_apply m c ⟨l + 1, h⟩ j r)).trans ?_
    exact sum_stretch _ (544 * l + 544) 544 _ fun r => congrArg _ (by show 544 * (l + 1) + r.val = _; omega)

/-- What a point writes back of the rows' gradient is its block of the whole. -/
theorem flushed4_eq (c : Dev nD) (t : Fin cfg0.N) (_ : (cfg0.win 4).flush t = true) :
    (dats m 0 c).flushed 4 t = ((cfg0.win 4).blk t).view.read (Elt Ideal) (res4 m c) := by
  obtain ⟨-, -, -, -, ⟨h0, h1⟩, -⟩ := index_facts t
  rw [Value.flushed4 m c t]
  funext y
  rw [View.read_apply]
  obtain ⟨r, j, rfl⟩ := idx2 (R := 544) (C := 1024) y
  refine (rows_apply m c t r j).trans (congrArg (res4 m c) ?_)
  exact Eq.symm (eq_ix2 (show win0_4.index t 0 * 544 + 1 * r.val = 544 * t.val + r.val by rw [h0]; omega) (show win0_4.index t 1 * 1024 + 1 * j.val = j.val by rw [h1]; omega))

/-- What the last point writes back of the gain's gradient is the whole. -/
theorem flushed5_eq (c : Dev nD) (t : Fin cfg0.N) (hf : (cfg0.win 5).flush t = true) :
    (dats m 0 c).flushed 5 t = ((cfg0.win 5).blk t).view.read (Elt Ideal) (res5 m c) := by
  have ht : t.val = 3 := by have := (flush0_5 t).mp hf; have := t.isLt.trans_eq N_0; omega
  obtain ⟨-, -, -, -, -, ⟨h0, h1⟩⟩ := index_facts t
  rw [Value.flushed5 m c t]
  funext y
  rw [View.read_apply]
  obtain ⟨r, j, rfl⟩ := idx2 (R := 1) (C := 1024) y
  obtain rfl : r = 0 := Subsingleton.elim _ _
  refine (gain_apply m c j t.val t.isLt).trans ?_
  rw [ht]
  refine (gain_sum (R := 2176) _ _ j).trans (congrArg (res5 m c) (a₁ := ix2 0 j) ?_)
  exact Eq.symm (eq_ix2 (show win0_5.index t 0 * 1 + 1 * 0 = 0 by rw [h0]) (show win0_5.index t 1 * 1024 + 1 * j.val = j.val by rw [h1]; omega))

/-- The points' blocks cover the rows. -/
theorem cover4 (i : S2176x1024.Idx) : ∃ t : Fin cfg0.N, (cfg0.win 4).flush t = true ∧ i ∈ ((cfg0.win 4).blk t).view.set := by
  have i0 : (i 0).val < 2176 := (i 0).isLt
  have i1 : (i 1).val < 1024 := (i 1).isLt
  obtain ⟨t, ht⟩ : ∃ t : Fin cfg0.N, t.val = (i 0).val / 544 := ⟨⟨(i 0).val / 544, (show (i 0).val / 544 < 4 by omega).trans_eq N_0.symm⟩, rfl⟩
  obtain ⟨-, -, -, -, ⟨h0, h1⟩, -⟩ := index_facts t
  refine ⟨t, flush0_4 t, ?_⟩
  show i ∈ ((View.whole main_v0_0).slice (win0_4.rect t)).set
  rw [View.set_slice_whole, Rect.mem_set_unit]
  exact in_block2 (p := 544) (q := 1024) h0 h1 (by omega) (by omega)

/-- The last point's block covers the gain's gradient. -/
theorem cover5 (i : S1x1024.Idx) : ∃ t : Fin cfg0.N, (cfg0.win 5).flush t = true ∧ i ∈ ((cfg0.win 5).blk t).view.set := by
  have i0 : (i 0).val < 1 := (i 0).isLt
  have i1 : (i 1).val < 1024 := (i 1).isLt
  obtain ⟨t, ht⟩ : ∃ t : Fin cfg0.N, t.val = 3 := ⟨⟨3, (show 3 < 4 by decide).trans_eq N_0.symm⟩, rfl⟩
  obtain ⟨-, -, -, -, -, ⟨h0, h1⟩⟩ := index_facts t
  refine ⟨t, (flush0_5 t).mpr (by rw [ht]), ?_⟩
  show i ∈ ((View.whole main_v0_1).slice (win0_5.rect t)).set
  rw [View.set_slice_whole, Rect.mem_set_unit]
  exact in_block2 (p := 1) (q := 1024) h0 h1 (by omega) (by omega)

theorem final4 (c : Dev nD) : (dats m 0 c).arrAt 4 cfg0.N = res4 m c :=
  (dats m 0 c).arrAt_eq_of_cover 4 (res4 m c) (flushed4_eq m c) cover4

theorem final5 (c : Dev nD) : (dats m 0 c).arrAt 5 cfg0.N = res5 m c :=
  (dats m 0 c).arrAt_eq_of_cover 5 (res5 m c) (flushed5_eq m c) cover5

end Kernel

section Reference

open Cert.PreDxRIdeal.Read

theorem ref_meanSq (x : Vec Ideal S2176x1024 .f32) (r : Fin 2176) : val_main_v6 (F := Ideal) x (ix2 r 0) = meanSq (row x r) := by
  pointwise [val_main_v6, val_main_v5, val_main_v4, val_main_v3, val_main_v2, val_main_v1, val_main_v0, val_main_cst_0, val_main_cst_1, val_main_cst, meanSq]

theorem ref_invRms (x : Vec Ideal S2176x1024 .f32) (r : Fin 2176) : val_main_v7 (F := Ideal) x (ix2 r 0) = invRms (row x r) := by
  pointwise [val_main_v7]
  rw [ref_meanSq]; rfl

/-- The reference's gain's gradient is the same sum. -/
theorem ref_gain (x d : Vec Ideal S2176x1024 .f32) (j : Fin 1024) : val_main_v17 (F := Ideal) x d (ix2 0 j) = gainGrad x d (ix2 0 j) := by
  pointwise [val_main_v17, val_main_v16, val_main_v15, val_main_v12, val_main_v11, val_main_cst_3]
  simp only [ref_invRms]
  rfl

theorem ref_meanGrad (x d : Vec Ideal S2176x1024 .f32) (g : Vec Ideal S1x1024 .f32) (r : Fin 2176) (j : Fin 1024) :
    val_main_v30 (F := Ideal) x d g (ix2 r j) = meanGrad (row x r) (fun k => d (ix2 r k) * g (ix2 0 k)) := by
  pointwise [val_main_v30, val_main_v29, val_main_v28, val_main_v27, val_main_v26, val_main_v22, val_main_v21, val_main_v20, val_main_v19, val_main_v18, val_main_v10, val_main_v9, val_main_v8, val_main_cst_6, val_main_cst_5, val_main_cst_4, val_main_cst_2]
  simp only [Finset.univ_unique, Finset.sum_singleton, Fin.default_eq_zero, ref_invRms, ref_meanSq]
  rfl

/-- The reference's rows' gradient is the same: its terms are added in another order. -/
theorem ref_rows (x d e : Vec Ideal S2176x1024 .f32) (g : Vec Ideal S1x1024 .f32) (r : Fin 2176) (j : Fin 1024) :
    val_main_v34 (F := Ideal) x d e g (ix2 r j) = rowsGrad x d e g (ix2 r j) := by
  pointwise [val_main_v34, val_main_v33, val_main_v32, val_main_v31, val_main_v25, val_main_v24, val_main_v23, val_main_v19, val_main_v18]
  simp only [ref_invRms, ref_meanGrad]
  rw [rowsGrad_apply]
  unfold normGrad
  rw [add_assoc, add_assoc, add_assoc]

end Reference

/-- At the extended reals both end with the same results. -/
theorem algebraic : Cert.algebraic_PreDxKIdeal_PreDxRIdeal := by
  intro m g m' g' _ hag
  refine ⟨fun c => res4 m c, fun c => res5 m c, ?_, ?_⟩
  · exact (θ_run _ _ _).mono (fun r h c => ⟨(h c).1.trans (final4 m c), (h c).2.1.trans (final5 m c), (h c).2.2⟩) (PreDxKIdeal.Value.run_blocks m g)
  · refine (θ_run _ _ _).mono (fun r h c => ⟨(h c).1.trans ?_, (h c).2.1.trans ?_, (h c).2.2⟩) (PreDxRIdeal.Value.run (F := Ideal) m' g')
    all_goals obtain ⟨a0, a1, a2, a3⟩ := hag c
    all_goals rw [a0, a1]
    · rw [a2, a3]
      refine (PreDxRIdeal.Read.val_main_v34_eq (F := Ideal) _ _ _ _).trans ?_
      funext i
      obtain ⟨a, b, rfl⟩ := idx2 (R := 2176) (C := 1024) i
      exact ref_rows _ _ _ _ a b
    · refine (PreDxRIdeal.Read.val_main_v17_eq (F := Ideal) _ _).trans ?_
      funext i
      obtain ⟨a, b, rfl⟩ := idx2 (R := 1) (C := 1024) i
      obtain rfl : a = 0 := Subsingleton.elim _ _
      exact ref_gain _ _ b

end Cert.PreDx

end
-- ==== Proof.CNormDx.lean ====
module

public import proofs.«01_k».proof.Proof.Blocks
public import proofs.«01_k».proof.Proof.NormRows
public import proofs.«01_k».proof.Proof.Gen.CNormDxKIdeal.Value
public import proofs.«01_k».proof.Proof.Gen.CNormDxRIdeal.Run
public import proofs.«01_k».proof.Proof.Gen.CNormDxRIdeal.Read

@[expose] public section

/-! The backward call of the layer normalisation and its activation: the gradient of each row, and the gain's and the
bias's gradients added up over the rows. -/

set_option maxRecDepth 16384

noncomputable section

open Idealize.ShloMosaic Idealize.ShloMosaic.TcCoe Idealize.SL.Sem
open Cert.Blocks

namespace Cert.CNormDx

open Cert.CNormDxKIdeal Cert.NormRows

/-! ## The arithmetic of one row -/

/-- The row less its mean. -/
def dev (x : Fin 1024 → EReal) (k : Fin 1024) : EReal := x k - Ideal.div (∑ k, x k) (Ideal.ofBits FTy.f32 0x44800000#32)

/-- The row's variance, and the small constant. -/
def varEps (x : Fin 1024 → EReal) : EReal :=
  Ideal.div (∑ k, dev x k * dev x k) (Ideal.ofBits FTy.f32 0x44800000#32) + Ideal.ofBits FTy.f32 0x3727C5AC#32

/-- The reciprocal root of that. -/
def invStd (x : Fin 1024 → EReal) : EReal := Ideal.rsqrt (varEps x)

/-- The normalised row. -/
def unit (x : Fin 1024 → EReal) (j : Fin 1024) : EReal := dev x j * invStd x

/-- The row before the activation. -/
def pre (x g b : Fin 1024 → EReal) (j : Fin 1024) : EReal := unit x j * g j + b j

/-- The activation's gate. -/
def gate (x g b : Fin 1024 → EReal) (j : Fin 1024) : EReal := Ideal.logistic (pre x g b j)

/-- The cotangent before the activation. -/
def cot (x d g b : Fin 1024 → EReal) (j : Fin 1024) : EReal :=
  d j * gate x g b j + pre x g b j * d j * (gate x g b j * (1 - gate x g b j))

/-- The part of the gradient that comes through the variance, per element of the row. -/
def varGrad (x q : Fin 1024 → EReal) : EReal :=
  Ideal.div ((∑ k, dev x k * q k) * (Ideal.ofBits FTy.f32 0xBF000000#32 * Ideal.div (invStd x) (varEps x)))
    (Ideal.ofBits FTy.f32 0x44800000#32)

/-- The gradient of the row less its mean, from the cotangent times the gain. -/
def devGrad (x q : Fin 1024 → EReal) (j : Fin 1024) : EReal := (q j * invStd x + dev x j * varGrad x q) + varGrad x q * dev x j

/-- The gradient of the row. -/
def layerGrad (x q : Fin 1024 → EReal) (j : Fin 1024) : EReal :=
  devGrad x q j + Ideal.div (∑ k, -devGrad x q k) (Ideal.ofBits FTy.f32 0x44800000#32)

/-! ## The arithmetic of the rows -/

/-- The rows' gradient. -/
def rowsGrad {R : ℕ} (x d : Rows R) (g b : Rows 1) : Rows R := fun i =>
  layerGrad (row x (i 0)) (fun k => cot (row x (i 0)) (row d (i 0)) (row g 0) (row b 0) k * row g 0 k) (i 1)

theorem rowsGrad_apply {R : ℕ} (x d : Rows R) (g b : Rows 1) (r : Fin R) (j : Fin 1024) : rowsGrad x d g b (ix2 r j)
    = layerGrad (row x r) (fun k => cot (row x r) (row d r) (row g 0) (row b 0) k * row g 0 k) j := rfl

/-- Row `r`'s part of the gain's gradient. -/
def gainTerm {R : ℕ} (x d : Rows R) (g b : Rows 1) (j : Fin 1024) (r : Fin R) : EReal :=
  unit (row x r) j * cot (row x r) (row d r) (row g 0) (row b 0) j

/-- Row `r`'s part of the bias's gradient. -/
def biasTerm {R : ℕ} (x d : Rows R) (g b : Rows 1) (j : Fin 1024) (r : Fin R) : EReal :=
  cot (row x r) (row d r) (row g 0) (row b 0) j

/-- The gain's gradient. -/
def gainGrad {R : ℕ} (x d : Rows R) (g b : Rows 1) : Rows 1 := fun i => ∑ r, gainTerm x d g b (i 1) r

/-- The bias's gradient. -/
def biasGrad {R : ℕ} (x d : Rows R) (g b : Rows 1) : Rows 1 := fun i => ∑ r, biasTerm x d g b (i 1) r

/-- A family over the rows as one over the naturals: nothing past the last row. -/
def cut {R : ℕ} (f : Fin R → EReal) (n : ℕ) : EReal := if h : n < R then f ⟨n, h⟩ else 0

theorem cut_sum {R : ℕ} (f : Fin R → EReal) : ∑ n ∈ Finset.range R, cut f n = ∑ r, f r := by
  rw [Finset.sum_range]
  exact Finset.sum_congr rfl fun r _ => by unfold cut; rw [dif_pos r.isLt]

/-! ## What the body computes on a stretch of rows -/

theorem pay2_apply (x : Vec Ideal S128x1024 .f32) (r : Fin 128) (k : Fin 1024) : Gen.k0_pay2 x (ix2 r k) = dev (row x r) k := by
  pointwise [Gen.k0_pay2]
  rfl

theorem pay3_apply (x : Vec Ideal S128x1024 .f32) (r : Fin 128) : Gen.k0_pay3 x (ix2 r 0) = varEps (row x r) := by
  pointwise [Gen.k0_pay3]
  simp only [pay2_apply]
  rfl

theorem pay4_apply (x : Vec Ideal S128x1024 .f32) (r : Fin 128) : Gen.k0_pay4 x (ix2 r 0) = invStd (row x r) := by
  pointwise [Gen.k0_pay4]
  rw [pay3_apply]; rfl

theorem pay5_apply (x : Vec Ideal S128x1024 .f32) (r : Fin 128) :
    Gen.k0_pay5 x (ix2 r 0) = Ideal.ofBits FTy.f32 0xBF000000#32 * Ideal.div (invStd (row x r)) (varEps (row x r)) := by
  pointwise [Gen.k0_pay5]
  rw [pay3_apply, pay4_apply]

theorem pay6_apply (x : Vec Ideal S128x1024 .f32) (r : Fin 128) (k : Fin 1024) : Gen.k0_pay6 x (ix2 r k) = unit (row x r) k := by
  pointwise [Gen.k0_pay6]
  simp only [pay4_apply, pay2_apply]
  rfl

/-- The cotangent before the activation, on a stretch of 128 rows. -/
theorem pay7_apply (g b : Vec Ideal S1x1024 .f32) (x d : Vec Ideal S128x1024 .f32) (r : Fin 128) (k : Fin 1024) :
    Gen.k0_pay7 g b x d (ix2 r k) = cot (row x r) (row d r) (row (R := 1) g 0) (row (R := 1) b 0) k := by
  pointwise [Gen.k0_pay7]
  simp only [pay6_apply]
  rfl

theorem pay8_apply (g b : Vec Ideal S1x1024 .f32) (x d : Vec Ideal S128x1024 .f32) (j : Fin 1024) :
    Gen.k0_pay8 g b x d (ix2 0 j) = ∑ r, biasTerm (R := 128) x d g b j r := by
  pointwise [Gen.k0_pay8]
  simp only [pay7_apply]
  rfl

theorem pay9_apply (g b : Vec Ideal S1x1024 .f32) (x d : Vec Ideal S128x1024 .f32) (j : Fin 1024) :
    Gen.k0_pay9 g b x d (ix2 0 j) = ∑ r, gainTerm (R := 128) x d g b j r := by
  pointwise [Gen.k0_pay9]
  simp only [pay7_apply, pay6_apply]
  rfl

theorem pay10_apply (g b : Vec Ideal S1x1024 .f32) (x d : Vec Ideal S128x1024 .f32) (r : Fin 128) (k : Fin 1024) :
    Gen.k0_pay10 g b x d (ix2 r k) = cot (row x r) (row d r) (row (R := 1) g 0) (row (R := 1) b 0) k * row (R := 1) g 0 k := by
  pointwise [Gen.k0_pay10]
  rw [pay7_apply]

/-- A stretch of 128 rows of the gradient. -/
theorem pay14_apply (g b : Vec Ideal S1x1024 .f32) (x d : Vec Ideal S128x1024 .f32) (r : Fin 128) (j : Fin 1024) :
    Gen.k0_pay14 (Gen.k0_pay2 x) (Gen.k0_pay4 x) (Gen.k0_pay5 x) (Gen.k0_pay10 g b x d) (Gen.k0_pay11 g b x d) (ix2 r j) = rowsGrad (R := 128) x d g b (ix2 r j) := by
  pointwise [Gen.k0_pay14, Gen.k0_pay11]
  simp only [Finset.univ_unique, Finset.sum_singleton, Fin.default_eq_zero, pay2_apply, pay4_apply, pay5_apply, pay10_apply]
  simp only [sub_eq_add_neg, zero_add]
  rfl

theorem pay17_apply (x : Vec Ideal S32x1024 .f32) (r : Fin 32) (k : Fin 1024) : Gen.k0_pay17 x (ix2 r k) = dev (row x r) k := by
  pointwise [Gen.k0_pay17]
  rfl

theorem pay18_apply (x : Vec Ideal S32x1024 .f32) (r : Fin 32) : Gen.k0_pay18 x (ix2 r 0) = varEps (row x r) := by
  pointwise [Gen.k0_pay18]
  simp only [pay17_apply]
  rfl

theorem pay19_apply (x : Vec Ideal S32x1024 .f32) (r : Fin 32) : Gen.k0_pay19 x (ix2 r 0) = invStd (row x r) := by
  pointwise [Gen.k0_pay19]
  rw [pay18_apply]; rfl

theorem pay20_apply (x : Vec Ideal S32x1024 .f32) (r : Fin 32) :
    Gen.k0_pay20 x (ix2 r 0) = Ideal.ofBits FTy.f32 0xBF000000#32 * Ideal.div (invStd (row x r)) (varEps (row x r)) := by
  pointwise [Gen.k0_pay20]
  rw [pay18_apply, pay19_apply]

theorem pay21_apply (x : Vec Ideal S32x1024 .f32) (r : Fin 32) (k : Fin 1024) : Gen.k0_pay21 x (ix2 r k) = unit (row x r) k := by
  pointwise [Gen.k0_pay21]
  simp only [pay19_apply, pay17_apply]
  rfl

theorem pay22_apply (g b : Vec Ideal S1x1024 .f32) (x : Vec Ideal S32x1024 .f32) (r : Fin 32) (k : Fin 1024) :
    Gen.k0_pay22 g b x (ix2 r k) = pre (row x r) (row (R := 1) g 0) (row (R := 1) b 0) k := by
  pointwise [Gen.k0_pay22]
  simp only [pay21_apply]
  rfl

/-- The cotangent before the activation, on the last 32 rows. -/
theorem pay26_apply (g b : Vec Ideal S1x1024 .f32) (x d : Vec Ideal S32x1024 .f32) (r : Fin 32) (k : Fin 1024) :
    Gen.k0_pay26 (Gen.k0_pay24 g b x d) (Gen.k0_pay25 g b x d) (ix2 r k) = cot (row x r) (row d r) (row (R := 1) g 0) (row (R := 1) b 0) k := by
  pointwise [Gen.k0_pay26, Gen.k0_pay24, Gen.k0_pay25, Gen.k0_pay23]
  simp only [pay22_apply]
  rfl

/-- The last 32 rows of the gradient. -/
theorem pay27_apply (g b : Vec Ideal S1x1024 .f32) (x d : Vec Ideal S32x1024 .f32) (r : Fin 32) (j : Fin 1024) :
    Gen.k0_pay27 g (Gen.k0_pay17 x) (Gen.k0_pay19 x) (Gen.k0_pay20 x) (Gen.k0_pay24 g b x d) (Gen.k0_pay25 g b x d) (ix2 r j) = rowsGrad (R := 32) x d g b (ix2 r j) := by
  pointwise [Gen.k0_pay27]
  simp only [Finset.univ_unique, Finset.sum_singleton, Fin.default_eq_zero, pay17_apply, pay19_apply, pay20_apply, pay26_apply]
  simp only [sub_eq_add_neg, zero_add]
  rfl

theorem pay28_apply (a : FVec Ideal S1x1024 .f32) (g b : Vec Ideal S1x1024 .f32) (x d : Vec Ideal S32x1024 .f32) (j : Fin 1024) :
    Gen.k0_pay28 a (Gen.k0_pay24 g b x d) (Gen.k0_pay25 g b x d) (ix2 0 j) = a (ix2 0 j) + ∑ r, biasTerm (R := 32) x d g b j r := by
  pointwise [Gen.k0_pay28]
  simp only [pay26_apply]
  rfl

theorem pay31_apply (a : FVec Ideal S1x1024 .f32) (g b s : Vec Ideal S1x1024 .f32) (x d : Vec Ideal S32x1024 .f32) (j : Fin 1024) :
    Gen.k0_pay31 a (Gen.k0_pay21 x) (Gen.k0_pay24 g b x d) (Gen.k0_pay25 g b x d) s (ix2 0 j)
      = s (ix2 0 j) + (a (ix2 0 j) + ∑ r, gainTerm (R := 32) x d g b j r) := by
  pointwise [Gen.k0_pay31]
  simp only [pay26_apply, pay21_apply]
  rfl

theorem pay1_apply (a s : Vec Ideal S1x1024 .f32) (j : Fin 1024) : Gen.k0_pay1 a s (ix2 0 j) = s (ix2 0 j) + a (ix2 0 j) := by
  pointwise [Gen.k0_pay1]

theorem pay15_apply (a s : FVec Ideal S1x1024 .f32) (j : Fin 1024) : Gen.k0_pay15 a s (ix2 0 j) = a (ix2 0 j) + s (ix2 0 j) := by
  pointwise [Gen.k0_pay15]

theorem pay16_apply (a s : FVec Ideal S1x1024 .f32) (j : Fin 1024) : Gen.k0_pay16 a s (ix2 0 j) = a (ix2 0 j) + s (ix2 0 j) := by
  pointwise [Gen.k0_pay16]

theorem pay12_apply (j : Fin 1024) : Gen.k0_pay12 (F := Ideal) (ix2 0 j) = 0 := by pointwise [Gen.k0_pay12]

theorem pay13_apply (j : Fin 1024) : Gen.k0_pay13 (F := Ideal) (ix2 0 j) = 0 := by pointwise [Gen.k0_pay13]

theorem pay29_apply (j : Fin 1024) : Gen.k0_pay29 (F := Ideal) (ix2 0 j) = 0 := by pointwise [Gen.k0_pay29]

theorem pay30_apply (j : Fin 1024) : Gen.k0_pay30 (F := Ideal) (ix2 0 j) = 0 := by pointwise [Gen.k0_pay30]

/-! ## The loop over the stretches of 128 rows -/

section Loop

open Gen

variable (c : Dev nD) (i : grid0.Coords) (b1 : Memref sig .tc .vmem S544x1024 .f32) (k1 : b1.IsWhole) (b2 : Memref sig .tc .vmem S544x1024 .f32) (k2 : b2.IsWhole) (b3 : Memref sig .tc .vmem S1x1024 .f32) (k3 : b3.IsWhole) (b4 : Memref sig .tc .vmem S1x1024 .f32) (k4 : b4.IsWhole) (b5 : Memref sig .tc .vmem S544x1024 .f32) (k5 : b5.IsWhole) (b6 : Memref sig .tc .vmem S1x1024 .f32) (k6 : b6.IsWhole) (b7 : Memref sig .tc .vmem S1x1024 .f32) (k7 : b7.IsWhole)
  (g b : Vec Ideal S1x1024 .f32) (x0 x1 : Vec Ideal S544x1024 .f32)

/-- The stretch of a buffer's rows that trip `k` loads. -/
def stretch (x : Vec Ideal S544x1024 .f32) (k : Fin k0_t1_loop.trips) : Vec Ideal S128x1024 .f32 :=
  View.ld x (Rect.unit (s := S544x1024) (k0_off1 k) S128x1024.size (k0_off1_inb k))

/-- What trip `k` carries on. -/
theorem carried_eq (k : Fin k0_t1_loop.trips) (a : FVec Ideal S1x1024 .f32 × FVec Ideal S1x1024 .f32) :
    tripR_k0_t1 (F := Ideal) Variants.none c none i b1 k1 b2 k2 b3 k3 b4 k4 b5 k5 b6 k6 b7 k7 g b (k1.unread x0) (k2.unread x1) k a
      = (k0_pay15 a.1 (k0_pay9 g b (stretch x0 k) (stretch x1 k)), k0_pay16 a.2 (k0_pay8 g b (stretch x0 k) (stretch x1 k))) := by
  unfold tripR_k0_t1 trip_k0_t1
  simp only [trip_k0_t1.sl.r, trip_k0_t1.sl.r_1, trip_k0_t1.sl.r_2, trip_k0_t1.sl.r_3, trip_k0_t1.sl.r_4, trip_k0_t1.sl.r_5, trip_k0_t1.sl.r_6, View.readAt_eq_ld, k1.read_unread, k2.read_unread, stretch]

/-- What trip `k` stores. -/
theorem stored_eq (k : Fin k0_t1_loop.trips) (a : FVec Ideal S1x1024 .f32 × FVec Ideal S1x1024 .f32) :
    tripL_k0_t1 (F := Ideal) Variants.none c none i b1 k1 b2 k2 b3 k3 b4 k4 b5 k5 b6 k6 b7 k7 g b (k1.unread x0) (k2.unread x1) k a
      = [⟨Rect.unit (k0_off1 k) S128x1024.size (k0_off1_inb k), k0_pay14 (k0_pay2 (stretch x0 k)) (k0_pay4 (stretch x0 k)) (k0_pay5 (stretch x0 k)) (k0_pay10 g b (stretch x0 k) (stretch x1 k)) (k0_pay11 g b (stretch x0 k) (stretch x1 k))⟩] := by
  unfold tripL_k0_t1 trip_k0_t1
  simp only [trip_k0_t1.sl.r, trip_k0_t1.sl.r_1, trip_k0_t1.sl.r_2, trip_k0_t1.sl.r_3, trip_k0_t1.sl.r_4, trip_k0_t1.sl.r_5, trip_k0_t1.sl.r_6, View.readAt_eq_ld, k1.read_unread, k2.read_unread, stretch]

/-- After `k` trips: the parts of the first `128 k` rows are added up, and every stored piece is its part of the rows'
gradient. -/
theorem loop_state : ∀ k ≤ 4,
    ((∀ j, (st_k0_t1 (F := Ideal) Variants.none c none i b1 k1 b2 k2 b3 k3 b4 k4 b5 k5 b6 k6 b7 k7 g b (k1.unread x0) (k2.unread x1) (k0_pay12, k0_pay13) k).1.1 (ix2 0 j) = ∑ n ∈ Finset.range (128 * k), cut (gainTerm (R := 544) x0 x1 g b j) n)
      ∧ ∀ j, (st_k0_t1 (F := Ideal) Variants.none c none i b1 k1 b2 k2 b3 k3 b4 k4 b5 k5 b6 k6 b7 k7 g b (k1.unread x0) (k2.unread x1) (k0_pay12, k0_pay13) k).1.2 (ix2 0 j) = ∑ n ∈ Finset.range (128 * k), cut (biasTerm (R := 544) x0 x1 g b j) n)
    ∧ (∀ p ∈ (st_k0_t1 (F := Ideal) Variants.none c none i b1 k1 b2 k2 b3 k3 b4 k4 b5 k5 b6 k6 b7 k7 g b (k1.unread x0) (k2.unread x1) (k0_pay12, k0_pay13) k).2, ∀ x, p.2 x = rowsGrad (R := 544) x0 x1 g b (p.1.emb x))
  | 0, _ => ⟨⟨fun j => by rw [st_k0_t1_zero]; exact pay12_apply j, fun j => by rw [st_k0_t1_zero]; exact pay13_apply j⟩, fun p hp => absurd hp List.not_mem_nil⟩
  | k + 1, hk => by
    obtain ⟨⟨ih1, ih3⟩, ih2⟩ := loop_state k (by omega)
    have hk' : k < k0_t1_loop.trips := hk
    have hs := st_k0_t1_succ (F := Ideal) Variants.none c none i b1 k1 b2 k2 b3 k3 b4 k4 b5 k5 b6 k6 b7 k7 g b (k1.unread x0) (k2.unread x1) (k0_pay12, k0_pay13) ⟨k, hk'⟩
    rw [carried_eq, stored_eq] at hs
    have hoff : k0_off1 ⟨k, hk'⟩ = ![128 * k, 0] := k0_off1_eq ⟨k, hk'⟩
    have hr : ∀ (x : Vec Ideal S544x1024 .f32) (r : Fin 128), row (R := 128) (stretch x ⟨k, hk'⟩) r = row (R := 544) x ⟨128 * k + r.val, by omega⟩ :=
      fun x r => funext fun j => ld_rows (R := 544) (n := 128) (k0_off1_inb ⟨k, hk'⟩) x (128 * k) hoff r j _
    rw [hs]
    refine ⟨⟨fun j => ?_, fun j => ?_⟩, fun p hp y => ?_⟩
    · refine (pay15_apply _ _ j).trans ?_
      dsimp only
      rw [ih1 j, pay9_apply, show 128 * (k + 1) = 128 * k + 128 by omega]
      refine sum_stretch _ _ _ _ fun r => ?_
      unfold cut
      rw [dif_pos (show 128 * k + r.val < 544 by omega)]
      unfold gainTerm
      rw [hr, hr]
    · refine (pay16_apply _ _ j).trans ?_
      dsimp only
      rw [ih3 j, pay8_apply, show 128 * (k + 1) = 128 * k + 128 by omega]
      refine sum_stretch _ _ _ _ fun r => ?_
      unfold cut
      rw [dif_pos (show 128 * k + r.val < 544 by omega)]
      unfold biasTerm
      rw [hr, hr]
    · rcases List.mem_append.mp hp with hp | hp
      · obtain rfl := List.mem_singleton.mp hp
        obtain ⟨r, j, rfl⟩ := idx2 (R := 128) (C := 1024) y
        dsimp only
        rw [emb_rows (R := 544) (n := 128) (k0_off1_inb ⟨k, hk'⟩) (128 * k) hoff r j (by omega)]
        refine (pay14_apply _ _ _ _ r j).trans ?_
        rw [rowsGrad_apply, rowsGrad_apply, hr, hr]
      · exact ih2 p hp y

/-- The last 32 rows of a buffer. -/
def last32 (x : Vec Ideal S544x1024 .f32) : Vec Ideal S32x1024 .f32 :=
  View.ld x (Rect.unit (s := S544x1024) ![512, 0] S32x1024.size inb_S544x1024_S32x1024_512_0)

theorem last32_row (x : Vec Ideal S544x1024 .f32) (r : Fin 32) : row (R := 32) (last32 x) r = row (R := 544) x ⟨512 + r.val, by omega⟩ :=
  funext fun j => ld_rows (R := 544) (n := 32) inb_S544x1024_S32x1024_512_0 x 512 rfl r j _

/-- The pieces of the rows' gradient that the body stores. -/
theorem pieces_agree : ∀ p ∈ (⟨Rect.unit (s := S544x1024) ![512, 0] S32x1024.size inb_S544x1024_S32x1024_512_0, k0_pay27 g (k0_pay17 (last32 x0)) (k0_pay19 (last32 x0)) (k0_pay20 (last32 x0)) (k0_pay24 g b (last32 x0) (last32 x1)) (k0_pay25 g b (last32 x0) (last32 x1))⟩ : View.Piece (Elt Ideal) S544x1024 .f32) ::
      (st_k0_t1 (F := Ideal) Variants.none c none i b1 k1 b2 k2 b3 k3 b4 k4 b5 k5 b6 k6 b7 k7 g b (k1.unread x0) (k2.unread x1) (k0_pay12, k0_pay13) 4).2,
    ∀ x, p.2 x = rowsGrad (R := 544) x0 x1 g b (p.1.emb x) := by
  intro p hp y
  rcases List.mem_cons.mp hp with rfl | hp
  · obtain ⟨r, j, rfl⟩ := idx2 (R := 32) (C := 1024) y
    dsimp only
    rw [emb_rows (R := 544) (n := 32) inb_S544x1024_S32x1024_512_0 512 rfl r j (by omega)]
    refine (pay27_apply _ _ _ _ r j).trans ?_
    rw [rowsGrad_apply, rowsGrad_apply, last32_row, last32_row]
  · exact (loop_state c i b1 k1 b2 k2 b3 k3 b4 k4 b5 k5 b6 k6 b7 k7 g b x0 x1 4 (le_refl _)).2 p hp y

/-- The parts of a block's 544 rows of the gain's gradient, as the body adds them up. -/
theorem gain_block (j : Fin 1024) :
    (st_k0_t1 (F := Ideal) Variants.none c none i b1 k1 b2 k2 b3 k3 b4 k4 b5 k5 b6 k6 b7 k7 g b (k1.unread x0) (k2.unread x1) (k0_pay12, k0_pay13) 4).1.1 (ix2 0 j) + ∑ r, gainTerm (R := 32) (last32 x0) (last32 x1) g b j r = ∑ n ∈ Finset.range 544, cut (gainTerm (R := 544) x0 x1 g b j) n := by
  rw [(loop_state c i b1 k1 b2 k2 b3 k3 b4 k4 b5 k5 b6 k6 b7 k7 g b x0 x1 4 (le_refl _)).1.1 j]
  refine sum_stretch _ 512 32 _ fun r => ?_
  unfold cut
  rw [dif_pos (show 512 + r.val < 544 by omega)]
  unfold gainTerm
  rw [last32_row, last32_row]

/-- The same of the bias's gradient. -/
theorem bias_block (j : Fin 1024) :
    (st_k0_t1 (F := Ideal) Variants.none c none i b1 k1 b2 k2 b3 k3 b4 k4 b5 k5 b6 k6 b7 k7 g b (k1.unread x0) (k2.unread x1) (k0_pay12, k0_pay13) 4).1.2 (ix2 0 j) + ∑ r, biasTerm (R := 32) (last32 x0) (last32 x1) g b j r = ∑ n ∈ Finset.range 544, cut (biasTerm (R := 544) x0 x1 g b j) n := by
  rw [(loop_state c i b1 k1 b2 k2 b3 k3 b4 k4 b5 k5 b6 k6 b7 k7 g b x0 x1 4 (le_refl _)).1.2 j]
  refine sum_stretch _ 512 32 _ fun r => ?_
  unfold cut
  rw [dif_pos (show 512 + r.val < 544 by omega)]
  unfold biasTerm
  rw [last32_row, last32_row]

end Loop

section Body

open Gen

variable (c : Dev nD) (i : grid0.Coords) (b1 : Memref sig .tc .vmem S544x1024 .f32) (k1 : b1.IsWhole) (b2 : Memref sig .tc .vmem S544x1024 .f32) (k2 : b2.IsWhole) (b3 : Memref sig .tc .vmem S1x1024 .f32) (k3 : b3.IsWhole) (b4 : Memref sig .tc .vmem S1x1024 .f32) (k4 : b4.IsWhole) (b5 : Memref sig .tc .vmem S544x1024 .f32) (k5 : b5.IsWhole) (b6 : Memref sig .tc .vmem S1x1024 .f32) (k6 : b6.IsWhole) (b7 : Memref sig .tc .vmem S1x1024 .f32) (k7 : b7.IsWhole)
  (x0 x1 : Vec Ideal S544x1024 .f32) (x2 x3 : Vec Ideal S1x1024 .f32)

open kernelRun0_A in
/-- What the body leaves at the first point. -/
theorem first (p : cond0_0 i) :
    (∀ y : S544x1024.Idx, out0_A_4 c i b1 k1 b2 k2 b3 k3 b4 k4 b5 k5 b6 k6 b7 k7 p x0 x1 x2 x3 y = rowsGrad (R := 544) x0 x1 x2 x3 y)
      ∧ (∀ j : Fin 1024, out0_A_5 c i b1 k1 b2 k2 b3 k3 b4 k4 b5 k5 b6 k6 b7 k7 p x0 x1 x2 x3 (ix2 0 j) = ∑ n ∈ Finset.range 544, cut (gainTerm (R := 544) x0 x1 x2 x3 j) n)
      ∧ (∀ j : Fin 1024, out0_A_6 c i b1 k1 b2 k2 b3 k3 b4 k4 b5 k5 b6 k6 b7 k7 p x0 x1 x2 x3 (ix2 0 j) = ∑ n ∈ Finset.range 544, cut (biasTerm (R := 544) x0 x1 x2 x3 j) n) := by
  refine ⟨fun y => ?a, fun j => ?b, fun j => ?d⟩
  case' d =>
    have h := bias_block c i b1 k1 b2 k2 b3 k3 b4 k4 b5 k5 b6 k6 b7 k7 x2 x3 x0 x1 j
    unfold out0_A_6
    rw [View.read_writes_eq_canon _ _ _ (cover0_A_6 c i b1 k1 b2 k2 b3 k3 b4 k4 b5 k5 b6 k6 b7 k7 p x0 x1 x2 x3)]
  case' b =>
    have h := gain_block c i b1 k1 b2 k2 b3 k3 b4 k4 b5 k5 b6 k6 b7 k7 x2 x3 x0 x1 j
    unfold out0_A_5
    rw [View.read_writes_eq_canon _ _ _ (cover0_A_5 c i b1 k1 b2 k2 b3 k3 b4 k4 b5 k5 b6 k6 b7 k7 p x0 x1 x2 x3)]
  case' a =>
    have h := pieces_agree c i b1 k1 b2 k2 b3 k3 b4 k4 b5 k5 b6 k6 b7 k7 x2 x3 x0 x1
    unfold out0_A_4
    refine read_agree _ _ _ y _ ?_ (cover0_A_4 ..)
  all_goals
    unfold kernelRun0_A
    dsimp only
    try rw [View.canon_cons_unit_zero zero2]
    simp only [trips4, last32, Prod.mk.eta, sl.r, sl.r_1, sl.r_2, sl.r_3, sl.r_4, sl.r_5, sl.r_6, sl.r_7, sl.r_8, sl.r_9, sl.r_10, View.readAt_eq_ld, k1.read_unread, k2.read_unread, k3.read_unread, k4.read_unread, k6.read_unread, k7.read_unread, View.ld_unit_zero (S := S1x1024) zero2] at h ⊢
  · exact h
  · have hz : sl.v77 (F := Ideal) c b6 (ix2 0 j) = 0 := by
      unfold sl.v77 sl.H5_1
      exact (congrFun (View.readCov_unit_zero (S := S1x1024) b6.view (off := ![0, 0]) zero2 _ _) _).trans (pay29_apply j)
    refine (pay31_apply _ _ _ _ _ _ j).trans ?_
    rw [hz, h, zero_add]
  · have hz : sl.v81 (F := Ideal) c b7 (ix2 0 j) = 0 := by
      unfold sl.v81 sl.H6_1
      exact (congrFun (View.readCov_unit_zero (S := S1x1024) b7.view (off := ![0, 0]) zero2 _ _) _).trans (pay30_apply j)
    refine (pay1_apply _ _ j).trans ?_
    rw [hz, pay28_apply, h, zero_add]

open kernelRun0_B in
/-- What the body leaves at a later point. -/
theorem later (p : ¬cond0_0 i) (s5 s6 : Vec Ideal S1x1024 .f32) :
    (∀ y : S544x1024.Idx, out0_B_4 c i b1 k1 b2 k2 b3 k3 b4 k4 b5 k5 b6 k6 b7 k7 p x0 x1 x2 x3 s5 s6 y = rowsGrad (R := 544) x0 x1 x2 x3 y)
      ∧ (∀ j : Fin 1024, out0_B_5 c i b1 k1 b2 k2 b3 k3 b4 k4 b5 k5 b6 k6 b7 k7 p x0 x1 x2 x3 s5 s6 (ix2 0 j) = s5 (ix2 0 j) + ∑ n ∈ Finset.range 544, cut (gainTerm (R := 544) x0 x1 x2 x3 j) n)
      ∧ (∀ j : Fin 1024, out0_B_6 c i b1 k1 b2 k2 b3 k3 b4 k4 b5 k5 b6 k6 b7 k7 p x0 x1 x2 x3 s5 s6 (ix2 0 j) = s6 (ix2 0 j) + ∑ n ∈ Finset.range 544, cut (biasTerm (R := 544) x0 x1 x2 x3 j) n) := by
  refine ⟨fun y => ?a, fun j => ?b, fun j => ?d⟩
  case' d =>
    have h := bias_block c i b1 k1 b2 k2 b3 k3 b4 k4 b5 k5 b6 k6 b7 k7 x2 x3 x0 x1 j
    unfold out0_B_6
    rw [View.read_writes_eq_canon _ _ _ (cover0_B_6 c i b1 k1 b2 k2 b3 k3 b4 k4 b5 k5 b6 k6 b7 k7 p x0 x1 x2 x3 s5 s6)]
  case' b =>
    have h := gain_block c i b1 k1 b2 k2 b3 k3 b4 k4 b5 k5 b6 k6 b7 k7 x2 x3 x0 x1 j
    unfold out0_B_5
    rw [View.read_writes_eq_canon _ _ _ (cover0_B_5 c i b1 k1 b2 k2 b3 k3 b4 k4 b5 k5 b6 k6 b7 k7 p x0 x1 x2 x3 s5 s6)]
  case' a =>
    have h := pieces_agree c i b1 k1 b2 k2 b3 k3 b4 k4 b5 k5 b6 k6 b7 k7 x2 x3 x0 x1
    unfold out0_B_4
    refine read_agree _ _ _ y _ ?_ (cover0_B_4 ..)
  all_goals
    unfold kernelRun0_B
    dsimp only
    try rw [View.canon_unit_zero zero2]
    simp only [trips4, last32, Prod.mk.eta, sl.r, sl.r_1, sl.r_2, sl.r_3, sl.r_4, sl.r_5, sl.r_6, sl.r_7, sl.r_8, sl.r_9, sl.r_10, View.readAt_eq_ld, k1.read_unread, k2.read_unread, k3.read_unread, k4.read_unread, k6.read_unread, k7.read_unread, View.ld_unit_zero (S := S1x1024) zero2] at h ⊢
  · exact h
  · refine (pay31_apply _ _ _ _ _ _ j).trans ?_
    rw [h]
  · refine (pay1_apply _ _ j).trans ?_
    rw [pay28_apply, h]

end Body

section Kernel

variable (m : (ℓ : Loc nD τ sig) → Buf (Elt Ideal) ℓ) (ρ : Dev nD → PrngReg)

open Gen

/-- Where each window's block lies. -/
theorem index_facts : ∀ t : Fin grid0.N,
    (win0_0.index t 0 = t.val ∧ win0_0.index t 1 = 0) ∧ (win0_1.index t 0 = t.val ∧ win0_1.index t 1 = 0) ∧ (win0_2.index t 0 = 0 ∧ win0_2.index t 1 = 0) ∧ (win0_3.index t 0 = 0 ∧ win0_3.index t 1 = 0) ∧ (win0_4.index t 0 = t.val ∧ win0_4.index t 1 = 0) ∧ (win0_5.index t 0 = 0 ∧ win0_5.index t 1 = 0) ∧ (win0_6.index t 0 = 0 ∧ win0_6.index t 1 = 0) := by decide +kernel

/-- The array's row that row `r` of point `t` is. -/
abbrev at_ (t : Fin cfg0.N) (r : Fin 544) : Fin 2176 := ⟨544 * t.val + r.val, by have := t.isLt.trans_eq N_0; omega⟩

theorem iblk0_apply (c : Dev nD) (t : Fin cfg0.N) (r : Fin 544) :
    row (R := 544) (iblk m c 0 t) r = row (R := 2176) (m (c.tc.loc main_arg0)) (at_ t r) := by
  obtain ⟨⟨h0, h1⟩, -⟩ := index_facts t
  funext k
  show (iblk m c 0 t : Vec Ideal S544x1024 .f32) (ix2 r k) = m (c.tc.loc main_arg0) (ix2 (at_ t r) k)
  exact (View.read_apply _ _).trans (congrArg (m (c.tc.loc main_arg0)) (eq_ix2 (show win0_0.index t 0 * 544 + 1 * r.val = 544 * t.val + r.val by omega) (show win0_0.index t 1 * 1024 + 1 * k.val = k.val by rw [h1]; omega)))

theorem iblk1_apply (c : Dev nD) (t : Fin cfg0.N) (r : Fin 544) :
    row (R := 544) (iblk m c 1 t) r = row (R := 2176) (m (c.tc.loc main_arg1)) (at_ t r) := by
  obtain ⟨-, ⟨h0, h1⟩, -⟩ := index_facts t
  funext k
  show (iblk m c 1 t : Vec Ideal S544x1024 .f32) (ix2 r k) = m (c.tc.loc main_arg1) (ix2 (at_ t r) k)
  exact (View.read_apply _ _).trans (congrArg (m (c.tc.loc main_arg1)) (eq_ix2 (show win0_1.index t 0 * 544 + 1 * r.val = 544 * t.val + r.val by omega) (show win0_1.index t 1 * 1024 + 1 * k.val = k.val by rw [h1]; omega)))

theorem iblk2_apply (c : Dev nD) (t : Fin cfg0.N) : row (R := 1) (iblk m c 2 t) 0 = row (R := 1) (m (c.tc.loc main_arg2)) 0 := by
  obtain ⟨-, -, ⟨h0, h1⟩, -⟩ := index_facts t
  funext k
  show (iblk m c 2 t : Vec Ideal S1x1024 .f32) (ix2 0 k) = m (c.tc.loc main_arg2) (ix2 0 k)
  exact (View.read_apply _ _).trans (congrArg (m (c.tc.loc main_arg2)) (eq_ix2 (show win0_2.index t 0 * 1 + 1 * 0 = 0 by rw [h0]) (show win0_2.index t 1 * 1024 + 1 * k.val = k.val by rw [h1]; omega)))

theorem iblk3_apply (c : Dev nD) (t : Fin cfg0.N) : row (R := 1) (iblk m c 3 t) 0 = row (R := 1) (m (c.tc.loc main_arg3)) 0 := by
  obtain ⟨-, -, -, ⟨h0, h1⟩, -⟩ := index_facts t
  funext k
  show (iblk m c 3 t : Vec Ideal S1x1024 .f32) (ix2 0 k) = m (c.tc.loc main_arg3) (ix2 0 k)
  exact (View.read_apply _ _).trans (congrArg (m (c.tc.loc main_arg3)) (eq_ix2 (show win0_3.index t 0 * 1 + 1 * 0 = 0 by rw [h0]) (show win0_3.index t 1 * 1024 + 1 * k.val = k.val by rw [h1]; omega)))

/-- Window 4's array after the run. -/
abbrev res4 (c : Dev nD) : Buf (Elt Ideal) ((c : Thread nD τ).loc main_v0_0) :=
  rowsGrad (R := 2176) (m (c.tc.loc main_arg0)) (m (c.tc.loc main_arg1)) (m (c.tc.loc main_arg2)) (m (c.tc.loc main_arg3))

/-- Window 5's array after the run. -/
abbrev res5 (c : Dev nD) : Buf (Elt Ideal) ((c : Thread nD τ).loc main_v0_1) :=
  gainGrad (R := 2176) (m (c.tc.loc main_arg0)) (m (c.tc.loc main_arg1)) (m (c.tc.loc main_arg2)) (m (c.tc.loc main_arg3))

/-- Window 6's array after the run. -/
abbrev res6 (c : Dev nD) : Buf (Elt Ideal) ((c : Thread nD τ).loc main_v0_2) :=
  biasGrad (R := 2176) (m (c.tc.loc main_arg0)) (m (c.tc.loc main_arg1)) (m (c.tc.loc main_arg2)) (m (c.tc.loc main_arg3))

/-- What every point leaves of the rows' gradient. -/
theorem rows_apply (c : Dev nD) (t : Fin cfg0.N) (r : Fin 544) (j : Fin 1024) :
    (outsAt0 m c t.val t.isLt).1 (ix2 r j) = res4 m c (ix2 (at_ t r) j) := by
  have hr : (outsAt0 m c t.val t.isLt).1 (ix2 r j) = rowsGrad (R := 544) (iblk m c 0 t) (iblk m c 1 t) (iblk m c 2 t) (iblk m c 3 t) (ix2 r j) := by
    by_cases h0 : t.val % 4 = 0
    · rw [outsAt0_A m c t h0]; dsimp only; exact (first ..).1 _
    · rw [outsAt0_B m c t h0]; dsimp only; exact (later ..).1 _
  rw [hr, rowsGrad_apply]
  unfold res4
  rw [rowsGrad_apply, iblk0_apply, iblk1_apply, iblk2_apply, iblk3_apply]

/-- A block's parts of the gain's gradient are the array's. -/
theorem gain_part (c : Dev nD) (t : Fin cfg0.N) (j : Fin 1024) (r : Fin 544) :
    cut (gainTerm (R := 544) (iblk m c 0 t) (iblk m c 1 t) (iblk m c 2 t) (iblk m c 3 t) j) r.val = cut (gainTerm (R := 2176) (m (c.tc.loc main_arg0)) (m (c.tc.loc main_arg1)) (m (c.tc.loc main_arg2)) (m (c.tc.loc main_arg3)) j) (544 * t.val + r.val) := by
  unfold cut
  rw [dif_pos r.isLt, dif_pos (at_ t r).isLt]
  unfold gainTerm
  rw [iblk0_apply, iblk1_apply, iblk2_apply, iblk3_apply]

/-- After point `l` the parts of the rows up to its last are added up. -/
theorem gain_apply (c : Dev nD) (j : Fin 1024) : ∀ (l : ℕ) (h : l < cfg0.N),
    (outsAt0 m c l h).2.1 (ix2 0 j) = ∑ n ∈ Finset.range (544 * l + 544), cut (gainTerm (R := 2176) (m (c.tc.loc main_arg0)) (m (c.tc.loc main_arg1)) (m (c.tc.loc main_arg2)) (m (c.tc.loc main_arg3)) j) n
  | 0, h => by
    rw [outsAt0_A m c ⟨0, h⟩ rfl]
    dsimp only
    refine ((first ..).2.1 _).trans ?_
    rw [Finset.sum_range]
    refine (Finset.sum_congr rfl fun r _ => gain_part m c ⟨0, h⟩ j r).trans ?_
    rw [← sum_stretch _ 0 544 _ (fun r => rfl)]
    exact (zero_add _).symm
  | l + 1, h => by
    have hN : l + 1 < 4 := h.trans_eq N_0
    rw [outsAt0_B m c ⟨l + 1, h⟩ (by dsimp only; omega)]
    dsimp only
    refine ((later ..).2.1 _).trans ?_
    rw [Finset.sum_range (n := 544)]
    refine (congrArg₂ (· + ·) (gain_apply c j l _) (Finset.sum_congr rfl fun r _ => gain_part m c ⟨l + 1, h⟩ j r)).trans ?_
    exact sum_stretch _ (544 * l + 544) 544 _ fun r => congrArg _ (by show 544 * (l + 1) + r.val = _; omega)

/-- A block's parts of the bias's gradient are the array's. -/
theorem bias_part (c : Dev nD) (t : Fin cfg0.N) (j : Fin 1024) (r : Fin 544) :
    cut (biasTerm (R := 544) (iblk m c 0 t) (iblk m c 1 t) (iblk m c 2 t) (iblk m c 3 t) j) r.val = cut (biasTerm (R := 2176) (m (c.tc.loc main_arg0)) (m (c.tc.loc main_arg1)) (m (c.tc.loc main_arg2)) (m (c.tc.loc main_arg3)) j) (544 * t.val + r.val) := by
  unfold cut
  rw [dif_pos r.isLt, dif_pos (at_ t r).isLt]
  unfold biasTerm
  rw [iblk0_apply, iblk1_apply, iblk2_apply, iblk3_apply]

/-- After point `l` the parts of the rows up to its last are added up. -/
theorem bias_apply (c : Dev nD) (j : Fin 1024) : ∀ (l : ℕ) (h : l < cfg0.N),
    (outsAt0 m c l h).2.2 (ix2 0 j) = ∑ n ∈ Finset.range (544 * l + 544), cut (biasTerm (R := 2176) (m (c.tc.loc main_arg0)) (m (c.tc.loc main_arg1)) (m (c.tc.loc main_arg2)) (m (c.tc.loc main_arg3)) j) n
  | 0, h => by
    rw [outsAt0_A m c ⟨0, h⟩ rfl]
    dsimp only
    refine ((first ..).2.2 _).trans ?_
    rw [Finset.sum_range]
    refine (Finset.sum_congr rfl fun r _ => bias_part m c ⟨0, h⟩ j r).trans ?_
    rw [← sum_stretch _ 0 544 _ (fun r => rfl)]
    exact (zero_add _).symm
  | l + 1, h => by
    have hN : l + 1 < 4 := h.trans_eq N_0
    rw [outsAt0_B m c ⟨l + 1, h⟩ (by dsimp only; omega)]
    dsimp only
    refine ((later ..).2.2 _).trans ?_
    rw [Finset.sum_range (n := 544)]
    refine (congrArg₂ (· + ·) (bias_apply c j l _) (Finset.sum_congr rfl fun r _ => bias_part m c ⟨l + 1, h⟩ j r)).trans ?_
    exact sum_stretch _ (544 * l + 544) 544 _ fun r => congrArg _ (by show 544 * (l + 1) + r.val = _; omega)

/-- What a point writes back of the rows' gradient is its block of the whole. -/
theorem flushed4_eq (c : Dev nD) (t : Fin cfg0.N) (_ : (cfg0.win 4).flush t = true) :
    (dats m 0 c).flushed 4 t = ((cfg0.win 4).blk t).view.read (Elt Ideal) (res4 m c) := by
  obtain ⟨-, -, -, -, ⟨h0, h1⟩, -⟩ := index_facts t
  rw [Value.flushed4 m c t]
  funext y
  rw [View.read_apply]
  obtain ⟨r, j, rfl⟩ := idx2 (R := 544) (C := 1024) y
  refine (rows_apply m c t r j).trans (congrArg (res4 m c) ?_)
  exact Eq.symm (eq_ix2 (show win0_4.index t 0 * 544 + 1 * r.val = 544 * t.val + r.val by rw [h0]; omega) (show win0_4.index t 1 * 1024 + 1 * j.val = j.val by rw [h1]; omega))

/-- What the last point writes back of the gain's gradient is the whole. -/
theorem flushed5_eq (c : Dev nD) (t : Fin cfg0.N) (hf : (cfg0.win 5).flush t = true) :
    (dats m 0 c).flushed 5 t = ((cfg0.win 5).blk t).view.read (Elt Ideal) (res5 m c) := by
  have ht : t.val = 3 := by have := (flush0_5 t).mp hf; have := t.isLt.trans_eq N_0; omega
  obtain ⟨-, -, -, -, -, ⟨h0, h1⟩, -⟩ := index_facts t
  rw [Value.flushed5 m c t]
  funext y
  rw [View.read_apply]
  obtain ⟨r, j, rfl⟩ := idx2 (R := 1) (C := 1024) y
  obtain rfl : r = 0 := Subsingleton.elim _ _
  refine (gain_apply m c j t.val t.isLt).trans ?_
  rw [ht]
  refine (cut_sum _).trans (congrArg (res5 m c) (a₁ := ix2 0 j) ?_)
  exact Eq.symm (eq_ix2 (show win0_5.index t 0 * 1 + 1 * 0 = 0 by rw [h0]) (show win0_5.index t 1 * 1024 + 1 * j.val = j.val by rw [h1]; omega))

/-- What the last point writes back of the bias's gradient is the whole. -/
theorem flushed6_eq (c : Dev nD) (t : Fin cfg0.N) (hf : (cfg0.win 6).flush t = true) :
    (dats m 0 c).flushed 6 t = ((cfg0.win 6).blk t).view.read (Elt Ideal) (res6 m c) := by
  have ht : t.val = 3 := by have := (flush0_6 t).mp hf; have := t.isLt.trans_eq N_0; omega
  obtain ⟨-, -, -, -, -, -, ⟨h0, h1⟩⟩ := index_facts t
  rw [Value.flushed6 m c t]
  funext y
  rw [View.read_apply]
  obtain ⟨r, j, rfl⟩ := idx2 (R := 1) (C := 1024) y
  obtain rfl : r = 0 := Subsingleton.elim _ _
  refine (bias_apply m c j t.val t.isLt).trans ?_
  rw [ht]
  refine (cut_sum _).trans (congrArg (res6 m c) (a₁ := ix2 0 j) ?_)
  exact Eq.symm (eq_ix2 (show win0_6.index t 0 * 1 + 1 * 0 = 0 by rw [h0]) (show win0_6.index t 1 * 1024 + 1 * j.val = j.val by rw [h1]; omega))

/-- The points' blocks cover the rows. -/
theorem cover4 (i : S2176x1024.Idx) : ∃ t : Fin cfg0.N, (cfg0.win 4).flush t = true ∧ i ∈ ((cfg0.win 4).blk t).view.set := by
  have i0 : (i 0).val < 2176 := (i 0).isLt
  have i1 : (i 1).val < 1024 := (i 1).isLt
  obtain ⟨t, ht⟩ : ∃ t : Fin cfg0.N, t.val = (i 0).val / 544 := ⟨⟨(i 0).val / 544, (show (i 0).val / 544 < 4 by omega).trans_eq N_0.symm⟩, rfl⟩
  obtain ⟨-, -, -, -, ⟨h0, h1⟩, -⟩ := index_facts t
  refine ⟨t, flush0_4 t, ?_⟩
  show i ∈ ((View.whole main_v0_0).slice (win0_4.rect t)).set
  rw [View.set_slice_whole, Rect.mem_set_unit]
  exact in_block2 (p := 544) (q := 1024) h0 h1 (by omega) (by omega)

/-- The last point's block covers the gain's gradient. -/
theorem cover5 (i : S1x1024.Idx) : ∃ t : Fin cfg0.N, (cfg0.win 5).flush t = true ∧ i ∈ ((cfg0.win 5).blk t).view.set := by
  have i0 : (i 0).val < 1 := (i 0).isLt
  have i1 : (i 1).val < 1024 := (i 1).isLt
  obtain ⟨t, ht⟩ : ∃ t : Fin cfg0.N, t.val = 3 := ⟨⟨3, (show 3 < 4 by decide).trans_eq N_0.symm⟩, rfl⟩
  obtain ⟨-, -, -, -, -, ⟨h0, h1⟩, -⟩ := index_facts t
  refine ⟨t, (flush0_5 t).mpr (by rw [ht]), ?_⟩
  show i ∈ ((View.whole main_v0_1).slice (win0_5.rect t)).set
  rw [View.set_slice_whole, Rect.mem_set_unit]
  exact in_block2 (p := 1) (q := 1024) h0 h1 (by omega) (by omega)

/-- The last point's block covers the bias's gradient. -/
theorem cover6 (i : S1x1024.Idx) : ∃ t : Fin cfg0.N, (cfg0.win 6).flush t = true ∧ i ∈ ((cfg0.win 6).blk t).view.set := by
  have i0 : (i 0).val < 1 := (i 0).isLt
  have i1 : (i 1).val < 1024 := (i 1).isLt
  obtain ⟨t, ht⟩ : ∃ t : Fin cfg0.N, t.val = 3 := ⟨⟨3, (show 3 < 4 by decide).trans_eq N_0.symm⟩, rfl⟩
  obtain ⟨-, -, -, -, -, -, ⟨h0, h1⟩⟩ := index_facts t
  refine ⟨t, (flush0_6 t).mpr (by rw [ht]), ?_⟩
  show i ∈ ((View.whole main_v0_2).slice (win0_6.rect t)).set
  rw [View.set_slice_whole, Rect.mem_set_unit]
  exact in_block2 (p := 1) (q := 1024) h0 h1 (by omega) (by omega)

theorem final4 (c : Dev nD) : (dats m 0 c).arrAt 4 cfg0.N = res4 m c :=
  (dats m 0 c).arrAt_eq_of_cover 4 (res4 m c) (flushed4_eq m c) cover4

theorem final5 (c : Dev nD) : (dats m 0 c).arrAt 5 cfg0.N = res5 m c :=
  (dats m 0 c).arrAt_eq_of_cover 5 (res5 m c) (flushed5_eq m c) cover5

theorem final6 (c : Dev nD) : (dats m 0 c).arrAt 6 cfg0.N = res6 m c :=
  (dats m 0 c).arrAt_eq_of_cover 6 (res6 m c) (flushed6_eq m c) cover6

end Kernel

section Reference

open Cert.CNormDxRIdeal.Read

theorem ref_dev (x : Vec Ideal S2176x1024 .f32) (r : Fin 2176) (k : Fin 1024) : val_main_v5 (F := Ideal) x (ix2 r k) = dev (row x r) k := by
  pointwise [val_main_v5, val_main_v4, val_main_v3, val_main_v2, val_main_v1, val_main_v0, val_main_cst_0, val_main_cst]
  rfl

theorem ref_varEps (x : Vec Ideal S2176x1024 .f32) (r : Fin 2176) : val_main_v12 (F := Ideal) x (ix2 r 0) = varEps (row x r) := by
  pointwise [val_main_v12, val_main_v11, val_main_v10, val_main_v9, val_main_v8, val_main_v7, val_main_v6, val_main_cst_3, val_main_cst_2, val_main_cst_1]
  simp only [ref_dev]
  rfl

theorem ref_invStd (x : Vec Ideal S2176x1024 .f32) (r : Fin 2176) : val_main_v13 (F := Ideal) x (ix2 r 0) = invStd (row x r) := by
  pointwise [val_main_v13]
  rw [ref_varEps]; rfl

theorem ref_unit (x : Vec Ideal S2176x1024 .f32) (r : Fin 2176) (k : Fin 1024) : val_main_v18 (F := Ideal) x (ix2 r k) = unit (row x r) k := by
  pointwise [val_main_v18, val_main_v17]
  rw [ref_invStd, ref_dev]; rfl

theorem ref_pre (x : Vec Ideal S2176x1024 .f32) (g b : Vec Ideal S1x1024 .f32) (r : Fin 2176) (k : Fin 1024) :
    val_main_v22 (F := Ideal) x g b (ix2 r k) = pre (row x r) (row (R := 1) g 0) (row (R := 1) b 0) k := by
  pointwise [val_main_v22, val_main_v21, val_main_v20, val_main_v19]
  rw [ref_unit]; rfl

theorem ref_gate (x : Vec Ideal S2176x1024 .f32) (g b : Vec Ideal S1x1024 .f32) (r : Fin 2176) (k : Fin 1024) :
    val_main_v23_2 (F := Ideal) x g b (ix2 r k) = gate (row x r) (row (R := 1) g 0) (row (R := 1) b 0) k := by
  pointwise [val_main_v23_2, val_main_call0_v4, val_main_call0_v3, val_main_call0_v2, val_main_call0_v1, val_main_call0_v0, val_main_call0_cst_0, val_main_call0_cst]
  simp only [ref_pre]
  unfold gate Ideal.logistic
  rfl

/-- The reference's cotangent before the activation is the same. -/
theorem ref_cot (x d : Vec Ideal S2176x1024 .f32) (g b : Vec Ideal S1x1024 .f32) (r : Fin 2176) (k : Fin 1024) :
    val_main_v24 (F := Ideal) x d g b (ix2 r k) = cot (row x r) (row d r) (row (R := 1) g 0) (row (R := 1) b 0) k := by
  pointwise [val_main_v24, val_main_call1_v2, val_main_call1_v1, val_main_call1_v0, val_main_v23_1, val_main_call0_v7, val_main_call0_v6, val_main_call0_cst_1]
  simp only [ref_gate, ref_pre]
  unfold cot
  rfl

/-- The reference's bias's gradient is the same sum. -/
theorem ref_bias (x d : Vec Ideal S2176x1024 .f32) (g b : Vec Ideal S1x1024 .f32) (j : Fin 1024) :
    val_main_v26 (F := Ideal) x d g b (ix2 0 j) = biasGrad x d g b (ix2 0 j) := by
  pointwise [val_main_v26, val_main_v25, val_main_cst_5]
  simp only [ref_cot]
  rfl

/-- The reference's gain's gradient is the same sum. -/
theorem ref_gain (x d : Vec Ideal S2176x1024 .f32) (g b : Vec Ideal S1x1024 .f32) (j : Fin 1024) :
    val_main_v29 (F := Ideal) x d g b (ix2 0 j) = gainGrad x d g b (ix2 0 j) := by
  pointwise [val_main_v29, val_main_v28, val_main_v27, val_main_cst_6]
  simp only [ref_cot, ref_unit]
  rfl

/-- The cotangent times the gain, as the row's gradient takes it. -/
abbrev scaled (x d : Vec Ideal S2176x1024 .f32) (g b : Vec Ideal S1x1024 .f32) (r : Fin 2176) (k : Fin 1024) : EReal :=
  cot (row x r) (row d r) (row (R := 1) g 0) (row (R := 1) b 0) k * row (R := 1) g 0 k

theorem ref_scaled (x d : Vec Ideal S2176x1024 .f32) (g b : Vec Ideal S1x1024 .f32) (r : Fin 2176) (k : Fin 1024) :
    val_main_v31 (F := Ideal) x d g b (ix2 r k) = scaled x d g b r k := by
  pointwise [val_main_v31, val_main_v30]
  rw [ref_cot]

theorem ref_varGrad (x d : Vec Ideal S2176x1024 .f32) (g b : Vec Ideal S1x1024 .f32) (r : Fin 2176) (k : Fin 1024) :
    val_main_v41 (F := Ideal) x d g b (ix2 r k) = varGrad (row x r) (scaled x d g b r) := by
  pointwise [val_main_v41, val_main_v40, val_main_v39, val_main_v38, val_main_v37, val_main_v34, val_main_v33, val_main_v32, val_main_v16, val_main_v15, val_main_v14, val_main_cst_4, val_main_cst_7, val_main_cst_8, val_main_cst_9]
  simp only [Finset.univ_unique, Finset.sum_singleton, Fin.default_eq_zero, ref_scaled, ref_dev, ref_invStd, ref_varEps]
  rfl

theorem ref_devGrad (x d : Vec Ideal S2176x1024 .f32) (g b : Vec Ideal S1x1024 .f32) (r : Fin 2176) (k : Fin 1024) :
    val_main_v45 (F := Ideal) x d g b (ix2 r k) = devGrad (row x r) (scaled x d g b r) k := by
  pointwise [val_main_v45, val_main_v44, val_main_v43, val_main_v42, val_main_v36, val_main_v35]
  rw [ref_varGrad, ref_dev, ref_invStd, ref_scaled]
  rfl

/-- The reference's rows' gradient is the same. -/
theorem ref_rows (x d : Vec Ideal S2176x1024 .f32) (g b : Vec Ideal S1x1024 .f32) (r : Fin 2176) (j : Fin 1024) :
    val_main_v53 (F := Ideal) x d g b (ix2 r j) = rowsGrad x d g b (ix2 r j) := by
  pointwise [val_main_v53, val_main_v52, val_main_v51, val_main_v50, val_main_v49, val_main_v48, val_main_v47, val_main_v46, val_main_cst_10, val_main_cst_11, val_main_cst_12]
  simp only [Finset.univ_unique, Finset.sum_singleton, Fin.default_eq_zero, ref_devGrad]
  rfl

end Reference

/-- At the extended reals both end with the same results. -/
theorem algebraic : Cert.algebraic_CNormDxKIdeal_CNormDxRIdeal := by
  intro m g m' g' _ hag
  refine ⟨fun c => res4 m c, fun c => res5 m c, fun c => res6 m c, ?_, ?_⟩
  · exact (θ_run _ _ _).mono (fun r h c => ⟨(h c).1.trans (final4 m c), (h c).2.1.trans (final5 m c), (h c).2.2.1.trans (final6 m c), (h c).2.2.2⟩) (CNormDxKIdeal.Value.run_blocks m g)
  · refine (θ_run _ _ _).mono (fun r h c => ⟨(h c).1.trans ?_, (h c).2.1.trans ?_, (h c).2.2.1.trans ?_, (h c).2.2.2⟩) (CNormDxRIdeal.Value.run (F := Ideal) m' g')
    all_goals obtain ⟨a0, a1, a2, a3⟩ := hag c
    · rw [CNormDxRIdeal.Read.val_main_v53_eq, a0, a1, a2, a3]
      funext i
      obtain ⟨a, b, rfl⟩ := idx2 (R := 2176) (C := 1024) i
      exact ref_rows _ _ _ _ a b
    · rw [CNormDxRIdeal.Read.val_main_v29_eq, a0, a1, a2, a3]
      funext i
      obtain ⟨a, b, rfl⟩ := idx2 (R := 1) (C := 1024) i
      obtain rfl : a = 0 := Subsingleton.elim _ _
      exact ref_gain _ _ _ _ b
    · rw [CNormDxRIdeal.Read.val_main_v26_eq, a0, a1, a2, a3]
      funext i
      obtain ⟨a, b, rfl⟩ := idx2 (R := 1) (C := 1024) i
      obtain rfl : a = 0 := Subsingleton.elim _ _
      exact ref_bias _ _ _ _ b

end Cert.CNormDx

end
-- ==== Proof.PostDx.lean ====
module

public import proofs.«01_k».proof.Proof.Blocks
public import proofs.«01_k».proof.Proof.NormRows
public import proofs.«01_k».proof.Proof.Gen.PostDxKIdeal.Value
public import proofs.«01_k».proof.Proof.Gen.PostDxRIdeal.Run
public import proofs.«01_k».proof.Proof.Gen.PostDxRIdeal.Read

@[expose] public section

/-! The backward call of the two normalisations around the residual sum: the gradients of the mixer's output and of the
rows that pass by, and the two gains' gradients added up over the rows. -/

set_option maxRecDepth 16384

noncomputable section

open Idealize.ShloMosaic Idealize.ShloMosaic.TcCoe Idealize.SL.Sem
open Cert.Blocks

namespace Cert.PostDx

open Cert.PostDxKIdeal Cert.NormRows

/-! ## The arithmetic of one row -/

/-- The residual sum: the row and the mixer's normalised row times the first gain. -/
def sumRow (x m g1 : Fin 1024 → EReal) (k : Fin 1024) : EReal := x k + m k * invRms m * g1 k

/-- The gradient of the residual sum: the cotangent that passes by, and what comes through the second normalisation. -/
def sumGrad (x m e d g1 g2 : Fin 1024 → EReal) (j : Fin 1024) : EReal :=
  ((e j + d j * g2 j * invRms (sumRow x m g1)) + sumRow x m g1 j * meanGrad (sumRow x m g1) (fun k => d k * g2 k))
    + meanGrad (sumRow x m g1) (fun k => d k * g2 k) * sumRow x m g1 j

/-- The gradient of the mixer's row. -/
def mixGrad (x m e d g1 g2 : Fin 1024 → EReal) (j : Fin 1024) : EReal :=
  normGrad m (fun k => sumGrad x m e d g1 g2 k * g1 k) j

/-- The row's part of the first gain's gradient. -/
def firstPart (x m e d g1 g2 : Fin 1024 → EReal) (j : Fin 1024) : EReal := m j * invRms m * sumGrad x m e d g1 g2 j

/-- The row's part of the second gain's gradient. -/
def secondPart (x m d g1 : Fin 1024 → EReal) (j : Fin 1024) : EReal := sumRow x m g1 j * invRms (sumRow x m g1) * d j

/-! ## The arithmetic of the rows -/

/-- The rows' gradients. -/
def sumRows {R : ℕ} (x0 x1 x2 x3 : Rows R) (g1 g2 : Rows 1) : Rows R := fun i =>
  sumGrad (row x0 (i 0)) (row x1 (i 0)) (row x2 (i 0)) (row x3 (i 0)) (row g1 0) (row g2 0) (i 1)

theorem sumRows_apply {R : ℕ} (x0 x1 x2 x3 : Rows R) (g1 g2 : Rows 1) (r : Fin R) (j : Fin 1024) :
    sumRows x0 x1 x2 x3 g1 g2 (ix2 r j) = sumGrad (row x0 r) (row x1 r) (row x2 r) (row x3 r) (row g1 0) (row g2 0) j := rfl

/-- The mixer's rows' gradients. -/
def mixRows {R : ℕ} (x0 x1 x2 x3 : Rows R) (g1 g2 : Rows 1) : Rows R := fun i =>
  mixGrad (row x0 (i 0)) (row x1 (i 0)) (row x2 (i 0)) (row x3 (i 0)) (row g1 0) (row g2 0) (i 1)

theorem mixRows_apply {R : ℕ} (x0 x1 x2 x3 : Rows R) (g1 g2 : Rows 1) (r : Fin R) (j : Fin 1024) :
    mixRows x0 x1 x2 x3 g1 g2 (ix2 r j) = mixGrad (row x0 r) (row x1 r) (row x2 r) (row x3 r) (row g1 0) (row g2 0) j := rfl

/-- Row `r`'s part of the first gain's gradient. -/
def firstTerm {R : ℕ} (x0 x1 x2 x3 : Rows R) (g1 g2 : Rows 1) (j : Fin 1024) (r : Fin R) : EReal :=
  firstPart (row x0 r) (row x1 r) (row x2 r) (row x3 r) (row g1 0) (row g2 0) j

/-- Row `r`'s part of the second gain's gradient. -/
def secondTerm {R : ℕ} (x0 x1 x2 x3 : Rows R) (g1 g2 : Rows 1) (j : Fin 1024) (r : Fin R) : EReal :=
  secondPart (row x0 r) (row x1 r) (row x3 r) (row g1 0) j

/-- The first gain's gradient. -/
def firstGrad {R : ℕ} (x0 x1 x2 x3 : Rows R) (g1 g2 : Rows 1) : Rows 1 := fun i => ∑ r, firstTerm x0 x1 x2 x3 g1 g2 (i 1) r

/-- The second gain's gradient. -/
def secondGrad {R : ℕ} (x0 x1 x2 x3 : Rows R) (g1 g2 : Rows 1) : Rows 1 := fun i => ∑ r, secondTerm x0 x1 x2 x3 g1 g2 (i 1) r

/-- A family over the rows as one over the naturals: nothing past the last row. -/
def cut {R : ℕ} (f : Fin R → EReal) (n : ℕ) : EReal := if h : n < R then f ⟨n, h⟩ else 0

theorem cut_sum {R : ℕ} (f : Fin R → EReal) : ∑ n ∈ Finset.range R, cut f n = ∑ r, f r := by
  rw [Finset.sum_range]
  exact Finset.sum_congr rfl fun r _ => by unfold cut; rw [dif_pos r.isLt]

/-! ## What the body computes on a stretch of rows -/

theorem pay5_apply (m : Vec Ideal S128x1024 .f32) (r : Fin 128) : Gen.k0_pay5 m (ix2 r 0) = meanSq (row m r) := by
  pointwise [Gen.k0_pay5]
  rfl

theorem pay6_apply (m : Vec Ideal S128x1024 .f32) (r : Fin 128) : Gen.k0_pay6 m (ix2 r 0) = invRms (row m r) := by
  pointwise [Gen.k0_pay6]
  rw [pay5_apply]; rfl

theorem pay7_apply (m : Vec Ideal S128x1024 .f32) (r : Fin 128) :
    Gen.k0_pay7 m (ix2 r 0) = Ideal.ofBits FTy.f32 0xBF000000#32 * Ideal.div (invRms (row m r)) (meanSq (row m r)) := by
  pointwise [Gen.k0_pay7]
  rw [pay5_apply, pay6_apply]

theorem pay8_apply (m : Vec Ideal S128x1024 .f32) (r : Fin 128) (k : Fin 1024) : Gen.k0_pay8 m (ix2 r k) = row m r k * invRms (row m r) := by
  pointwise [Gen.k0_pay8]
  rw [pay6_apply]

theorem pay9_apply (g1 : Vec Ideal S1x1024 .f32) (x m : Vec Ideal S128x1024 .f32) (r : Fin 128) (k : Fin 1024) :
    Gen.k0_pay9 g1 x m (ix2 r k) = sumRow (row x r) (row m r) (row (R := 1) g1 0) k := by
  pointwise [Gen.k0_pay9]
  rw [pay8_apply]; rfl

theorem pay10_apply (g1 : Vec Ideal S1x1024 .f32) (x m : Vec Ideal S128x1024 .f32) (r : Fin 128) :
    Gen.k0_pay10 g1 x m (ix2 r 0) = meanSq (sumRow (row x r) (row m r) (row (R := 1) g1 0)) := by
  pointwise [Gen.k0_pay10]
  simp only [pay9_apply]
  rfl

theorem pay11_apply (g1 : Vec Ideal S1x1024 .f32) (x m : Vec Ideal S128x1024 .f32) (r : Fin 128) :
    Gen.k0_pay11 g1 x m (ix2 r 0) = invRms (sumRow (row x r) (row m r) (row (R := 1) g1 0)) := by
  pointwise [Gen.k0_pay11]
  rw [pay10_apply]; rfl

theorem pay12_apply (g1 : Vec Ideal S1x1024 .f32) (x m : Vec Ideal S128x1024 .f32) (r : Fin 128) :
    Gen.k0_pay12 g1 x m (ix2 r 0) = Ideal.ofBits FTy.f32 0xBF000000#32 * Ideal.div (invRms (sumRow (row x r) (row m r) (row (R := 1) g1 0))) (meanSq (sumRow (row x r) (row m r) (row (R := 1) g1 0))) := by
  pointwise [Gen.k0_pay12]
  rw [pay10_apply, pay11_apply]

theorem pay13_apply (g1 g2 : Vec Ideal S1x1024 .f32) (x0 x1 x2 x3 : Vec Ideal S128x1024 .f32) (j : Fin 1024) :
    Gen.k0_pay13 g1 x0 x1 x3 (ix2 0 j) = ∑ r, secondTerm (R := 128) x0 x1 x2 x3 g1 g2 j r := by
  pointwise [Gen.k0_pay13]
  simp only [pay9_apply, pay11_apply]
  rfl

/-- A stretch of 128 rows of the gradient of the residual sum. -/
theorem pay18_apply (g1 g2 : Vec Ideal S1x1024 .f32) (x0 x1 x2 x3 : Vec Ideal S128x1024 .f32) (r : Fin 128) (j : Fin 1024) :
    Gen.k0_pay18 x2 (Gen.k0_pay9 g1 x0 x1) (Gen.k0_pay11 g1 x0 x1) (Gen.k0_pay12 g1 x0 x1) (Gen.k0_pay14 g2 x3) (Gen.k0_pay15 g1 g2 x0 x1 x3) (ix2 r j) = sumGrad (row x0 r) (row x1 r) (row x2 r) (row x3 r) (row (R := 1) g1 0) (row (R := 1) g2 0) j := by
  pointwise [Gen.k0_pay18, Gen.k0_pay15, Gen.k0_pay14]
  simp only [Finset.univ_unique, Finset.sum_singleton, Fin.default_eq_zero, pay9_apply, pay11_apply, pay12_apply]
  rfl

theorem pay19_apply (g1 g2 : Vec Ideal S1x1024 .f32) (x0 x1 x2 x3 : Vec Ideal S128x1024 .f32) (r : Fin 128) (j : Fin 1024) :
    Gen.k0_pay19 x2 (Gen.k0_pay9 g1 x0 x1) (Gen.k0_pay11 g1 x0 x1) (Gen.k0_pay12 g1 x0 x1) (Gen.k0_pay14 g2 x3) (Gen.k0_pay15 g1 g2 x0 x1 x3) (ix2 r j) = sumGrad (row x0 r) (row x1 r) (row x2 r) (row x3 r) (row (R := 1) g1 0) (row (R := 1) g2 0) j := by
  pointwise [Gen.k0_pay19]
  exact pay18_apply g1 g2 x0 x1 x2 x3 r j

/-- A stretch of 128 rows of the gradient of the mixer's rows. -/
theorem pay20_apply (g1 g2 : Vec Ideal S1x1024 .f32) (x0 x1 x2 x3 : Vec Ideal S128x1024 .f32) (r : Fin 128) (j : Fin 1024) :
    Gen.k0_pay20 g1 x1 x2 (Gen.k0_pay6 x1) (Gen.k0_pay7 x1) (Gen.k0_pay9 g1 x0 x1) (Gen.k0_pay11 g1 x0 x1) (Gen.k0_pay12 g1 x0 x1) (Gen.k0_pay14 g2 x3) (Gen.k0_pay15 g1 g2 x0 x1 x3) (ix2 r j) = mixGrad (row x0 r) (row x1 r) (row x2 r) (row x3 r) (row (R := 1) g1 0) (row (R := 1) g2 0) j := by
  pointwise [Gen.k0_pay20]
  simp only [Finset.univ_unique, Finset.sum_singleton, Fin.default_eq_zero, pay19_apply, pay6_apply, pay7_apply]
  rfl

theorem pay21_apply (a : FVec Ideal S1x1024 .f32) (g1 g2 : Vec Ideal S1x1024 .f32) (x0 x1 x2 x3 : Vec Ideal S128x1024 .f32) (j : Fin 1024) :
    Gen.k0_pay21 a x2 (Gen.k0_pay8 x1) (Gen.k0_pay9 g1 x0 x1) (Gen.k0_pay11 g1 x0 x1) (Gen.k0_pay12 g1 x0 x1) (Gen.k0_pay14 g2 x3) (Gen.k0_pay15 g1 g2 x0 x1 x3) (ix2 0 j) = a (ix2 0 j) + ∑ r, firstTerm (R := 128) x0 x1 x2 x3 g1 g2 j r := by
  pointwise [Gen.k0_pay21]
  simp only [pay19_apply, pay8_apply]
  rfl

theorem pay22_apply (a s : FVec Ideal S1x1024 .f32) (j : Fin 1024) : Gen.k0_pay22 a s (ix2 0 j) = a (ix2 0 j) + s (ix2 0 j) := by
  pointwise [Gen.k0_pay22]

theorem pay23_apply (m : Vec Ideal S32x1024 .f32) (r : Fin 32) : Gen.k0_pay23 m (ix2 r 0) = meanSq (row m r) := by
  pointwise [Gen.k0_pay23]
  rfl

theorem pay24_apply (m : Vec Ideal S32x1024 .f32) (r : Fin 32) : Gen.k0_pay24 m (ix2 r 0) = invRms (row m r) := by
  pointwise [Gen.k0_pay24]
  rw [pay23_apply]; rfl

theorem pay25_apply (m : Vec Ideal S32x1024 .f32) (r : Fin 32) :
    Gen.k0_pay25 m (ix2 r 0) = Ideal.ofBits FTy.f32 0xBF000000#32 * Ideal.div (invRms (row m r)) (meanSq (row m r)) := by
  pointwise [Gen.k0_pay25]
  rw [pay23_apply, pay24_apply]

theorem pay26_apply (m : Vec Ideal S32x1024 .f32) (r : Fin 32) (k : Fin 1024) : Gen.k0_pay26 m (ix2 r k) = row m r k * invRms (row m r) := by
  pointwise [Gen.k0_pay26]
  rw [pay24_apply]

theorem pay27_apply (g1 : Vec Ideal S1x1024 .f32) (x m : Vec Ideal S32x1024 .f32) (r : Fin 32) (k : Fin 1024) :
    Gen.k0_pay27 g1 x m (ix2 r k) = sumRow (row x r) (row m r) (row (R := 1) g1 0) k := by
  pointwise [Gen.k0_pay27]
  rw [pay26_apply]; rfl

theorem pay28_apply (g1 : Vec Ideal S1x1024 .f32) (x m : Vec Ideal S32x1024 .f32) (r : Fin 32) :
    Gen.k0_pay28 g1 x m (ix2 r 0) = meanSq (sumRow (row x r) (row m r) (row (R := 1) g1 0)) := by
  pointwise [Gen.k0_pay28]
  simp only [pay27_apply]
  rfl

theorem pay29_apply (g1 : Vec Ideal S1x1024 .f32) (x m : Vec Ideal S32x1024 .f32) (r : Fin 32) :
    Gen.k0_pay29 g1 x m (ix2 r 0) = invRms (sumRow (row x r) (row m r) (row (R := 1) g1 0)) := by
  pointwise [Gen.k0_pay29]
  rw [pay28_apply]; rfl

theorem pay30_apply (g1 g2 : Vec Ideal S1x1024 .f32) (x0 x1 x2 x3 : Vec Ideal S32x1024 .f32) (j : Fin 1024) :
    Gen.k0_pay30 x3 (Gen.k0_pay27 g1 x0 x1) (Gen.k0_pay29 g1 x0 x1) (ix2 0 j) = ∑ r, secondTerm (R := 32) x0 x1 x2 x3 g1 g2 j r := by
  pointwise [Gen.k0_pay30]
  simp only [pay27_apply, pay29_apply]
  rfl

/-- The last 32 rows of the gradient of the residual sum. -/
theorem pay31_apply (g1 g2 : Vec Ideal S1x1024 .f32) (x0 x1 x2 x3 : Vec Ideal S32x1024 .f32) (r : Fin 32) (j : Fin 1024) :
    Gen.k0_pay31 g2 x2 x3 (Gen.k0_pay27 g1 x0 x1) (Gen.k0_pay28 g1 x0 x1) (Gen.k0_pay29 g1 x0 x1) (ix2 r j) = sumGrad (row x0 r) (row x1 r) (row x2 r) (row x3 r) (row (R := 1) g1 0) (row (R := 1) g2 0) j := by
  pointwise [Gen.k0_pay31]
  simp only [Finset.univ_unique, Finset.sum_singleton, Fin.default_eq_zero, pay27_apply, pay28_apply, pay29_apply]
  rfl

theorem pay32_apply (g1 g2 : Vec Ideal S1x1024 .f32) (x0 x1 x2 x3 : Vec Ideal S32x1024 .f32) (r : Fin 32) (j : Fin 1024) :
    Gen.k0_pay32 g2 x2 x3 (Gen.k0_pay27 g1 x0 x1) (Gen.k0_pay28 g1 x0 x1) (Gen.k0_pay29 g1 x0 x1) (ix2 r j) = sumGrad (row x0 r) (row x1 r) (row x2 r) (row x3 r) (row (R := 1) g1 0) (row (R := 1) g2 0) j := by
  pointwise [Gen.k0_pay32]
  exact pay31_apply g1 g2 x0 x1 x2 x3 r j

theorem pay33_apply (g1 g2 : Vec Ideal S1x1024 .f32) (x0 x1 x2 x3 : Vec Ideal S32x1024 .f32) (j : Fin 1024) :
    Gen.k0_pay33 g2 x2 x3 (Gen.k0_pay26 x1) (Gen.k0_pay27 g1 x0 x1) (Gen.k0_pay28 g1 x0 x1) (Gen.k0_pay29 g1 x0 x1) (ix2 0 j) = ∑ r, firstTerm (R := 32) x0 x1 x2 x3 g1 g2 j r := by
  pointwise [Gen.k0_pay33]
  simp only [pay32_apply, pay26_apply]
  rfl

/-- The last 32 rows of the gradient of the mixer's rows. -/
theorem pay34_apply (g1 g2 : Vec Ideal S1x1024 .f32) (x0 x1 x2 x3 : Vec Ideal S32x1024 .f32) (r : Fin 32) (j : Fin 1024) :
    Gen.k0_pay34 g1 g2 x1 x2 x3 (Gen.k0_pay24 x1) (Gen.k0_pay25 x1) (Gen.k0_pay27 g1 x0 x1) (Gen.k0_pay28 g1 x0 x1) (Gen.k0_pay29 g1 x0 x1) (ix2 r j) = mixGrad (row x0 r) (row x1 r) (row x2 r) (row x3 r) (row (R := 1) g1 0) (row (R := 1) g2 0) j := by
  pointwise [Gen.k0_pay34]
  simp only [Finset.univ_unique, Finset.sum_singleton, Fin.default_eq_zero, pay32_apply, pay24_apply, pay25_apply]
  rfl

theorem pay3_apply (a b s : FVec Ideal S1x1024 .f32) (j : Fin 1024) : Gen.k0_pay3 a b s (ix2 0 j) = s (ix2 0 j) + (a (ix2 0 j) + b (ix2 0 j)) := by
  pointwise [Gen.k0_pay3]

theorem pay4_apply (a b s : FVec Ideal S1x1024 .f32) (j : Fin 1024) : Gen.k0_pay4 a b s (ix2 0 j) = s (ix2 0 j) + (a (ix2 0 j) + b (ix2 0 j)) := by
  pointwise [Gen.k0_pay4]

theorem pay1_apply (j : Fin 1024) : Gen.k0_pay1 (F := Ideal) (ix2 0 j) = 0 := by pointwise [Gen.k0_pay1]

theorem pay2_apply (j : Fin 1024) : Gen.k0_pay2 (F := Ideal) (ix2 0 j) = 0 := by pointwise [Gen.k0_pay2]

theorem pay16_apply (j : Fin 1024) : Gen.k0_pay16 (F := Ideal) (ix2 0 j) = 0 := by pointwise [Gen.k0_pay16]

theorem pay17_apply (j : Fin 1024) : Gen.k0_pay17 (F := Ideal) (ix2 0 j) = 0 := by pointwise [Gen.k0_pay17]

/-! ## The loop over the stretches of 128 rows -/

section Loop

open Gen

variable (c : Dev nD) (i : grid0.Coords) (b1 : Memref sig .tc .vmem S544x1024 .f32) (k1 : b1.IsWhole) (b2 : Memref sig .tc .vmem S544x1024 .f32) (k2 : b2.IsWhole) (b3 : Memref sig .tc .vmem S544x1024 .f32) (k3 : b3.IsWhole) (b4 : Memref sig .tc .vmem S544x1024 .f32) (k4 : b4.IsWhole) (b5 : Memref sig .tc .vmem S1x1024 .f32) (k5 : b5.IsWhole) (b6 : Memref sig .tc .vmem S1x1024 .f32) (k6 : b6.IsWhole) (b7 : Memref sig .tc .vmem S544x1024 .bf16) (k7 : b7.IsWhole) (b8 : Memref sig .tc .vmem S544x1024 .f32) (k8 : b8.IsWhole) (b9 : Memref sig .tc .vmem S1x1024 .f32) (k9 : b9.IsWhole) (b10 : Memref sig .tc .vmem S1x1024 .f32) (k10 : b10.IsWhole)
  (g1 g2 : Vec Ideal S1x1024 .f32) (x0 x1 x2 x3 : Vec Ideal S544x1024 .f32)

/-- The stretch of a buffer's rows that trip `k` loads. -/
def stretch (x : Vec Ideal S544x1024 .f32) (k : Fin k0_t1_loop.trips) : Vec Ideal S128x1024 .f32 :=
  View.ld x (Rect.unit (s := S544x1024) (k0_off1 k) S128x1024.size (k0_off1_inb k))

/-- What trip `k` carries on. -/
theorem carried_eq (k : Fin k0_t1_loop.trips) (a : FVec Ideal S1x1024 .f32 × FVec Ideal S1x1024 .f32) :
    tripR_k0_t1 (F := Ideal) Variants.none c none i b1 k1 b2 k2 b3 k3 b4 k4 b5 k5 b6 k6 b7 k7 b8 k8 b9 k9 b10 k10 g1 g2 (k1.unread x0) (k2.unread x1) (k3.unread x2) (k4.unread x3) k a = (k0_pay21 a.1 (stretch x2 k) (k0_pay8 (stretch x1 k)) (k0_pay9 g1 (stretch x0 k) (stretch x1 k)) (k0_pay11 g1 (stretch x0 k) (stretch x1 k)) (k0_pay12 g1 (stretch x0 k) (stretch x1 k)) (k0_pay14 g2 (stretch x3 k)) (k0_pay15 g1 g2 (stretch x0 k) (stretch x1 k) (stretch x3 k)), k0_pay22 a.2 (k0_pay13 g1 (stretch x0 k) (stretch x1 k) (stretch x3 k))) := by
  unfold tripR_k0_t1 trip_k0_t1
  simp only [trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, View.readAt_eq_ld, k1.read_unread, k2.read_unread, k3.read_unread, k4.read_unread, stretch]

/-- What trip `k` stores. -/
theorem stored_eq (k : Fin k0_t1_loop.trips) (a : FVec Ideal S1x1024 .f32 × FVec Ideal S1x1024 .f32) :
    tripL_k0_t1 (F := Ideal) Variants.none c none i b1 k1 b2 k2 b3 k3 b4 k4 b5 k5 b6 k6 b7 k7 b8 k8 b9 k9 b10 k10 g1 g2 (k1.unread x0) (k2.unread x1) (k3.unread x2) (k4.unread x3) k a
      = ([⟨Rect.unit (k0_off1 k) S128x1024.size (k0_off1_inb k), k0_pay20 g1 (stretch x1 k) (stretch x2 k) (k0_pay6 (stretch x1 k)) (k0_pay7 (stretch x1 k)) (k0_pay9 g1 (stretch x0 k) (stretch x1 k)) (k0_pay11 g1 (stretch x0 k) (stretch x1 k)) (k0_pay12 g1 (stretch x0 k) (stretch x1 k)) (k0_pay14 g2 (stretch x3 k)) (k0_pay15 g1 g2 (stretch x0 k) (stretch x1 k) (stretch x3 k))⟩],
        [⟨Rect.unit (k0_off1 k) S128x1024.size (k0_off1_inb k), k0_pay18 (stretch x2 k) (k0_pay9 g1 (stretch x0 k) (stretch x1 k)) (k0_pay11 g1 (stretch x0 k) (stretch x1 k)) (k0_pay12 g1 (stretch x0 k) (stretch x1 k)) (k0_pay14 g2 (stretch x3 k)) (k0_pay15 g1 g2 (stretch x0 k) (stretch x1 k) (stretch x3 k))⟩]) := by
  unfold tripL_k0_t1 trip_k0_t1
  simp only [trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, View.readAt_eq_ld, k1.read_unread, k2.read_unread, k3.read_unread, k4.read_unread, stretch]

/-- After `k` trips: the parts of the first `128 k` rows are added up, and every stored piece is its part of the rows'
gradients. -/
theorem loop_state : ∀ k ≤ 4,
    ((∀ j, (st_k0_t1 (F := Ideal) Variants.none c none i b1 k1 b2 k2 b3 k3 b4 k4 b5 k5 b6 k6 b7 k7 b8 k8 b9 k9 b10 k10 g1 g2 (k1.unread x0) (k2.unread x1) (k3.unread x2) (k4.unread x3) (k0_pay16, k0_pay17) k).1.1 (ix2 0 j) = ∑ n ∈ Finset.range (128 * k), cut (firstTerm (R := 544) x0 x1 x2 x3 g1 g2 j) n)
      ∧ ∀ j, (st_k0_t1 (F := Ideal) Variants.none c none i b1 k1 b2 k2 b3 k3 b4 k4 b5 k5 b6 k6 b7 k7 b8 k8 b9 k9 b10 k10 g1 g2 (k1.unread x0) (k2.unread x1) (k3.unread x2) (k4.unread x3) (k0_pay16, k0_pay17) k).1.2 (ix2 0 j) = ∑ n ∈ Finset.range (128 * k), cut (secondTerm (R := 544) x0 x1 x2 x3 g1 g2 j) n)
    ∧ (∀ p ∈ (st_k0_t1 (F := Ideal) Variants.none c none i b1 k1 b2 k2 b3 k3 b4 k4 b5 k5 b6 k6 b7 k7 b8 k8 b9 k9 b10 k10 g1 g2 (k1.unread x0) (k2.unread x1) (k3.unread x2) (k4.unread x3) (k0_pay16, k0_pay17) k).2.1, ∀ x, p.2 x = mixRows (R := 544) x0 x1 x2 x3 g1 g2 (p.1.emb x))
    ∧ (∀ p ∈ (st_k0_t1 (F := Ideal) Variants.none c none i b1 k1 b2 k2 b3 k3 b4 k4 b5 k5 b6 k6 b7 k7 b8 k8 b9 k9 b10 k10 g1 g2 (k1.unread x0) (k2.unread x1) (k3.unread x2) (k4.unread x3) (k0_pay16, k0_pay17) k).2.2, ∀ x, p.2 x = sumRows (R := 544) x0 x1 x2 x3 g1 g2 (p.1.emb x))
  | 0, _ => ⟨⟨fun j => by rw [st_k0_t1_zero]; exact pay16_apply j, fun j => by rw [st_k0_t1_zero]; exact pay17_apply j⟩, fun p hp => absurd hp List.not_mem_nil, fun p hp => absurd hp List.not_mem_nil⟩
  | k + 1, hk => by
    obtain ⟨⟨ih1, ih2⟩, ih3, ih4⟩ := loop_state k (by omega)
    have hk' : k < k0_t1_loop.trips := hk
    have hs := st_k0_t1_succ (F := Ideal) Variants.none c none i b1 k1 b2 k2 b3 k3 b4 k4 b5 k5 b6 k6 b7 k7 b8 k8 b9 k9 b10 k10 g1 g2 (k1.unread x0) (k2.unread x1) (k3.unread x2) (k4.unread x3) (k0_pay16, k0_pay17) ⟨k, hk'⟩
    rw [carried_eq, stored_eq] at hs
    have hoff : k0_off1 ⟨k, hk'⟩ = ![128 * k, 0] := k0_off1_eq ⟨k, hk'⟩
    have hr : ∀ (x : Vec Ideal S544x1024 .f32) (r : Fin 128), row (R := 128) (stretch x ⟨k, hk'⟩) r = row (R := 544) x ⟨128 * k + r.val, by omega⟩ :=
      fun x r => funext fun j => ld_rows (R := 544) (n := 128) (k0_off1_inb ⟨k, hk'⟩) x (128 * k) hoff r j _
    rw [hs]
    refine ⟨⟨fun j => ?_, fun j => ?_⟩, fun p hp y => ?_, fun p hp y => ?_⟩
    · refine (pay21_apply _ _ _ _ _ _ _ j).trans ?_
      rw [ih1 j, show 128 * (k + 1) = 128 * k + 128 by omega]
      refine sum_stretch _ _ _ _ fun r => ?_
      unfold cut
      rw [dif_pos (show 128 * k + r.val < 544 by omega)]
      unfold firstTerm
      simp only [hr]
    · refine (pay22_apply _ _ j).trans ?_
      dsimp only
      rw [ih2 j, pay13_apply g1 g2 _ _ (stretch x2 ⟨k, hk'⟩), show 128 * (k + 1) = 128 * k + 128 by omega]
      refine sum_stretch _ _ _ _ fun r => ?_
      unfold cut
      rw [dif_pos (show 128 * k + r.val < 544 by omega)]
      unfold secondTerm
      simp only [hr]
    · rcases List.mem_append.mp hp with hp | hp
      · obtain rfl := List.mem_singleton.mp hp
        obtain ⟨r, j, rfl⟩ := idx2 (R := 128) (C := 1024) y
        dsimp only
        rw [emb_rows (R := 544) (n := 128) (k0_off1_inb ⟨k, hk'⟩) (128 * k) hoff r j (by omega)]
        refine (pay20_apply _ _ _ _ _ _ r j).trans ?_
        rw [mixRows_apply, hr, hr, hr, hr]
      · exact ih3 p hp y
    · rcases List.mem_append.mp hp with hp | hp
      · obtain rfl := List.mem_singleton.mp hp
        obtain ⟨r, j, rfl⟩ := idx2 (R := 128) (C := 1024) y
        dsimp only
        rw [emb_rows (R := 544) (n := 128) (k0_off1_inb ⟨k, hk'⟩) (128 * k) hoff r j (by omega)]
        refine (pay18_apply _ _ _ _ _ _ r j).trans ?_
        rw [sumRows_apply, hr, hr, hr, hr]
      · exact ih4 p hp y

/-- The last 32 rows of a buffer. -/
def last32 (x : Vec Ideal S544x1024 .f32) : Vec Ideal S32x1024 .f32 :=
  View.ld x (Rect.unit (s := S544x1024) ![512, 0] S32x1024.size inb_S544x1024_S32x1024_512_0)

theorem last32_row (x : Vec Ideal S544x1024 .f32) (r : Fin 32) : row (R := 32) (last32 x) r = row (R := 544) x ⟨512 + r.val, by omega⟩ :=
  funext fun j => ld_rows (R := 544) (n := 32) inb_S544x1024_S32x1024_512_0 x 512 rfl r j _

/-- The pieces that the body stores of the mixer's rows' gradients. -/
theorem mix_agree : ∀ p ∈ (⟨Rect.unit (s := S544x1024) ![512, 0] S32x1024.size inb_S544x1024_S32x1024_512_0, k0_pay34 g1 g2 (last32 x1) (last32 x2) (last32 x3) (k0_pay24 (last32 x1)) (k0_pay25 (last32 x1)) (k0_pay27 g1 (last32 x0) (last32 x1)) (k0_pay28 g1 (last32 x0) (last32 x1)) (k0_pay29 g1 (last32 x0) (last32 x1))⟩ : View.Piece (Elt Ideal) S544x1024 .bf16) ::
      (st_k0_t1 (F := Ideal) Variants.none c none i b1 k1 b2 k2 b3 k3 b4 k4 b5 k5 b6 k6 b7 k7 b8 k8 b9 k9 b10 k10 g1 g2 (k1.unread x0) (k2.unread x1) (k3.unread x2) (k4.unread x3) (k0_pay16, k0_pay17) 4).2.1,
    ∀ x, p.2 x = mixRows (R := 544) x0 x1 x2 x3 g1 g2 (p.1.emb x) := by
  intro p hp y
  rcases List.mem_cons.mp hp with rfl | hp
  · obtain ⟨r, j, rfl⟩ := idx2 (R := 32) (C := 1024) y
    dsimp only
    rw [emb_rows (R := 544) (n := 32) inb_S544x1024_S32x1024_512_0 512 rfl r j (by omega)]
    refine (pay34_apply _ _ _ _ _ _ r j).trans ?_
    rw [mixRows_apply, last32_row, last32_row, last32_row, last32_row]
  · exact (loop_state c i b1 k1 b2 k2 b3 k3 b4 k4 b5 k5 b6 k6 b7 k7 b8 k8 b9 k9 b10 k10 g1 g2 x0 x1 x2 x3 4 (le_refl _)).2.1 p hp y

/-- The pieces that the body stores of the gradients of the residual sum. -/
theorem sum_agree : ∀ p ∈ (⟨Rect.unit (s := S544x1024) ![512, 0] S32x1024.size inb_S544x1024_S32x1024_512_0, k0_pay31 g2 (last32 x2) (last32 x3) (k0_pay27 g1 (last32 x0) (last32 x1)) (k0_pay28 g1 (last32 x0) (last32 x1)) (k0_pay29 g1 (last32 x0) (last32 x1))⟩ : View.Piece (Elt Ideal) S544x1024 .f32) ::
      (st_k0_t1 (F := Ideal) Variants.none c none i b1 k1 b2 k2 b3 k3 b4 k4 b5 k5 b6 k6 b7 k7 b8 k8 b9 k9 b10 k10 g1 g2 (k1.unread x0) (k2.unread x1) (k3.unread x2) (k4.unread x3) (k0_pay16, k0_pay17) 4).2.2,
    ∀ x, p.2 x = sumRows (R := 544) x0 x1 x2 x3 g1 g2 (p.1.emb x) := by
  intro p hp y
  rcases List.mem_cons.mp hp with rfl | hp
  · obtain ⟨r, j, rfl⟩ := idx2 (R := 32) (C := 1024) y
    dsimp only
    rw [emb_rows (R := 544) (n := 32) inb_S544x1024_S32x1024_512_0 512 rfl r j (by omega)]
    refine (pay31_apply _ _ _ _ _ _ r j).trans ?_
    rw [sumRows_apply, last32_row, last32_row, last32_row, last32_row]
  · exact (loop_state c i b1 k1 b2 k2 b3 k3 b4 k4 b5 k5 b6 k6 b7 k7 b8 k8 b9 k9 b10 k10 g1 g2 x0 x1 x2 x3 4 (le_refl _)).2.2 p hp y

/-- The parts of a block's 544 rows of the first gain's gradient, as the body adds them up. -/
theorem first_block (j : Fin 1024) :
    (st_k0_t1 (F := Ideal) Variants.none c none i b1 k1 b2 k2 b3 k3 b4 k4 b5 k5 b6 k6 b7 k7 b8 k8 b9 k9 b10 k10 g1 g2 (k1.unread x0) (k2.unread x1) (k3.unread x2) (k4.unread x3) (k0_pay16, k0_pay17) 4).1.1 (ix2 0 j) + ∑ r, firstTerm (R := 32) (last32 x0) (last32 x1) (last32 x2) (last32 x3) g1 g2 j r = ∑ n ∈ Finset.range 544, cut (firstTerm (R := 544) x0 x1 x2 x3 g1 g2 j) n := by
  rw [(loop_state c i b1 k1 b2 k2 b3 k3 b4 k4 b5 k5 b6 k6 b7 k7 b8 k8 b9 k9 b10 k10 g1 g2 x0 x1 x2 x3 4 (le_refl _)).1.1 j]
  refine sum_stretch _ 512 32 _ fun r => ?_
  unfold cut
  rw [dif_pos (show 512 + r.val < 544 by omega)]
  unfold firstTerm
  simp only [last32_row]

/-- The parts of a block's 544 rows of the second gain's gradient, as the body adds them up. -/
theorem second_block (j : Fin 1024) :
    (st_k0_t1 (F := Ideal) Variants.none c none i b1 k1 b2 k2 b3 k3 b4 k4 b5 k5 b6 k6 b7 k7 b8 k8 b9 k9 b10 k10 g1 g2 (k1.unread x0) (k2.unread x1) (k3.unread x2) (k4.unread x3) (k0_pay16, k0_pay17) 4).1.2 (ix2 0 j) + ∑ r, secondTerm (R := 32) (last32 x0) (last32 x1) (last32 x2) (last32 x3) g1 g2 j r = ∑ n ∈ Finset.range 544, cut (secondTerm (R := 544) x0 x1 x2 x3 g1 g2 j) n := by
  rw [(loop_state c i b1 k1 b2 k2 b3 k3 b4 k4 b5 k5 b6 k6 b7 k7 b8 k8 b9 k9 b10 k10 g1 g2 x0 x1 x2 x3 4 (le_refl _)).1.2 j]
  refine sum_stretch _ 512 32 _ fun r => ?_
  unfold cut
  rw [dif_pos (show 512 + r.val < 544 by omega)]
  unfold secondTerm
  simp only [last32_row]

end Loop

section Body

open Gen

variable (c : Dev nD) (i : grid0.Coords) (b1 : Memref sig .tc .vmem S544x1024 .f32) (k1 : b1.IsWhole) (b2 : Memref sig .tc .vmem S544x1024 .f32) (k2 : b2.IsWhole) (b3 : Memref sig .tc .vmem S544x1024 .f32) (k3 : b3.IsWhole) (b4 : Memref sig .tc .vmem S544x1024 .f32) (k4 : b4.IsWhole) (b5 : Memref sig .tc .vmem S1x1024 .f32) (k5 : b5.IsWhole) (b6 : Memref sig .tc .vmem S1x1024 .f32) (k6 : b6.IsWhole) (b7 : Memref sig .tc .vmem S544x1024 .bf16) (k7 : b7.IsWhole) (b8 : Memref sig .tc .vmem S544x1024 .f32) (k8 : b8.IsWhole) (b9 : Memref sig .tc .vmem S1x1024 .f32) (k9 : b9.IsWhole) (b10 : Memref sig .tc .vmem S1x1024 .f32) (k10 : b10.IsWhole)
  (x0 x1 x2 x3 : Vec Ideal S544x1024 .f32) (x4 x5 : Vec Ideal S1x1024 .f32)

open kernelRun0_A in
/-- What the body leaves at the first point. -/
theorem first (p : cond0_0 i) :
    (∀ y : S544x1024.Idx, out0_A_6 c i b1 k1 b2 k2 b3 k3 b4 k4 b5 k5 b6 k6 b7 k7 b8 k8 b9 k9 b10 k10 p x0 x1 x2 x3 x4 x5 y = mixRows (R := 544) x0 x1 x2 x3 x4 x5 y)
      ∧ (∀ y : S544x1024.Idx, out0_A_7 c i b1 k1 b2 k2 b3 k3 b4 k4 b5 k5 b6 k6 b7 k7 b8 k8 b9 k9 b10 k10 p x0 x1 x2 x3 x4 x5 y = sumRows (R := 544) x0 x1 x2 x3 x4 x5 y)
      ∧ (∀ j : Fin 1024, out0_A_8 c i b1 k1 b2 k2 b3 k3 b4 k4 b5 k5 b6 k6 b7 k7 b8 k8 b9 k9 b10 k10 p x0 x1 x2 x3 x4 x5 (ix2 0 j) = ∑ n ∈ Finset.range 544, cut (firstTerm (R := 544) x0 x1 x2 x3 x4 x5 j) n)
      ∧ (∀ j : Fin 1024, out0_A_9 c i b1 k1 b2 k2 b3 k3 b4 k4 b5 k5 b6 k6 b7 k7 b8 k8 b9 k9 b10 k10 p x0 x1 x2 x3 x4 x5 (ix2 0 j) = ∑ n ∈ Finset.range 544, cut (secondTerm (R := 544) x0 x1 x2 x3 x4 x5 j) n) := by
  refine ⟨fun y => ?a, fun y => ?b, fun j => ?d, fun j => ?e⟩
  case' e =>
    have h := second_block c i b1 k1 b2 k2 b3 k3 b4 k4 b5 k5 b6 k6 b7 k7 b8 k8 b9 k9 b10 k10 x4 x5 x0 x1 x2 x3 j
    unfold out0_A_9
    rw [View.read_writes_eq_canon _ _ _ (cover0_A_9 c i b1 k1 b2 k2 b3 k3 b4 k4 b5 k5 b6 k6 b7 k7 b8 k8 b9 k9 b10 k10 p x0 x1 x2 x3 x4 x5)]
  case' d =>
    have h := first_block c i b1 k1 b2 k2 b3 k3 b4 k4 b5 k5 b6 k6 b7 k7 b8 k8 b9 k9 b10 k10 x4 x5 x0 x1 x2 x3 j
    unfold out0_A_8
    rw [View.read_writes_eq_canon _ _ _ (cover0_A_8 c i b1 k1 b2 k2 b3 k3 b4 k4 b5 k5 b6 k6 b7 k7 b8 k8 b9 k9 b10 k10 p x0 x1 x2 x3 x4 x5)]
  case' b =>
    have h := sum_agree c i b1 k1 b2 k2 b3 k3 b4 k4 b5 k5 b6 k6 b7 k7 b8 k8 b9 k9 b10 k10 x4 x5 x0 x1 x2 x3
    unfold out0_A_7
    refine read_agree _ _ _ y _ ?_ (cover0_A_7 ..)
  case' a =>
    have h := mix_agree c i b1 k1 b2 k2 b3 k3 b4 k4 b5 k5 b6 k6 b7 k7 b8 k8 b9 k9 b10 k10 x4 x5 x0 x1 x2 x3
    unfold out0_A_6
    refine read_agree _ _ _ y _ ?_ (cover0_A_6 ..)
  all_goals
    unfold kernelRun0_A
    dsimp only
    try rw [View.canon_cons_unit_zero zero2]
    simp only [trips4, last32, sl.r, sl.r_1, sl.r_2, sl.r_3, sl.r_4, sl.r_5, sl.r_6, sl.r_7, sl.r_8, sl.r_9, sl.r_10, sl.r_11, sl.r_12, sl.r_13, sl.r_14, sl.r_15, sl.r_16, View.readAt_eq_ld, k1.read_unread, k2.read_unread, k3.read_unread, k4.read_unread, k5.read_unread, k6.read_unread, k9.read_unread, k10.read_unread, View.ld_unit_zero (S := S1x1024) zero2] at h ⊢
  · exact h
  · exact h
  · have hz : sl.v89 (F := Ideal) c b9 (ix2 0 j) = 0 := by
      unfold sl.v89 sl.H8_1
      exact (congrFun (View.readCov_unit_zero (S := S1x1024) b9.view (off := ![0, 0]) zero2 _ _) _).trans (pay1_apply j)
    refine (pay3_apply _ _ _ j).trans ?_
    refine (congrArg₂ (· + ·) hz (congrArg₂ (· + ·) rfl (pay33_apply _ _ _ _ _ _ j))).trans ?_
    exact (zero_add _).trans h
  · have hz : sl.v93 (F := Ideal) c b10 (ix2 0 j) = 0 := by
      unfold sl.v93 sl.H9_1
      exact (congrFun (View.readCov_unit_zero (S := S1x1024) b10.view (off := ![0, 0]) zero2 _ _) _).trans (pay2_apply j)
    refine (pay4_apply _ _ _ j).trans ?_
    refine (congrArg₂ (· + ·) hz (congrArg₂ (· + ·) rfl (pay30_apply _ x5 _ _ (View.ld x2 (Rect.unit (s := S544x1024) ![512, 0] S32x1024.size inb_S544x1024_S32x1024_512_0)) _ j))).trans ?_
    exact (zero_add _).trans h

open kernelRun0_B in
/-- What the body leaves at a later point. -/
theorem later (p : ¬cond0_0 i) (s8 s9 : Vec Ideal S1x1024 .f32) :
    (∀ y : S544x1024.Idx, out0_B_6 c i b1 k1 b2 k2 b3 k3 b4 k4 b5 k5 b6 k6 b7 k7 b8 k8 b9 k9 b10 k10 p x0 x1 x2 x3 x4 x5 s8 s9 y = mixRows (R := 544) x0 x1 x2 x3 x4 x5 y)
      ∧ (∀ y : S544x1024.Idx, out0_B_7 c i b1 k1 b2 k2 b3 k3 b4 k4 b5 k5 b6 k6 b7 k7 b8 k8 b9 k9 b10 k10 p x0 x1 x2 x3 x4 x5 s8 s9 y = sumRows (R := 544) x0 x1 x2 x3 x4 x5 y)
      ∧ (∀ j : Fin 1024, out0_B_8 c i b1 k1 b2 k2 b3 k3 b4 k4 b5 k5 b6 k6 b7 k7 b8 k8 b9 k9 b10 k10 p x0 x1 x2 x3 x4 x5 s8 s9 (ix2 0 j) = s8 (ix2 0 j) + ∑ n ∈ Finset.range 544, cut (firstTerm (R := 544) x0 x1 x2 x3 x4 x5 j) n)
      ∧ (∀ j : Fin 1024, out0_B_9 c i b1 k1 b2 k2 b3 k3 b4 k4 b5 k5 b6 k6 b7 k7 b8 k8 b9 k9 b10 k10 p x0 x1 x2 x3 x4 x5 s8 s9 (ix2 0 j) = s9 (ix2 0 j) + ∑ n ∈ Finset.range 544, cut (secondTerm (R := 544) x0 x1 x2 x3 x4 x5 j) n) := by
  refine ⟨fun y => ?a, fun y => ?b, fun j => ?d, fun j => ?e⟩
  case' e =>
    have h := second_block c i b1 k1 b2 k2 b3 k3 b4 k4 b5 k5 b6 k6 b7 k7 b8 k8 b9 k9 b10 k10 x4 x5 x0 x1 x2 x3 j
    unfold out0_B_9
    rw [View.read_writes_eq_canon _ _ _ (cover0_B_9 c i b1 k1 b2 k2 b3 k3 b4 k4 b5 k5 b6 k6 b7 k7 b8 k8 b9 k9 b10 k10 p x0 x1 x2 x3 x4 x5 s8 s9)]
  case' d =>
    have h := first_block c i b1 k1 b2 k2 b3 k3 b4 k4 b5 k5 b6 k6 b7 k7 b8 k8 b9 k9 b10 k10 x4 x5 x0 x1 x2 x3 j
    unfold out0_B_8
    rw [View.read_writes_eq_canon _ _ _ (cover0_B_8 c i b1 k1 b2 k2 b3 k3 b4 k4 b5 k5 b6 k6 b7 k7 b8 k8 b9 k9 b10 k10 p x0 x1 x2 x3 x4 x5 s8 s9)]
  case' b =>
    have h := sum_agree c i b1 k1 b2 k2 b3 k3 b4 k4 b5 k5 b6 k6 b7 k7 b8 k8 b9 k9 b10 k10 x4 x5 x0 x1 x2 x3
    unfold out0_B_7
    refine read_agree _ _ _ y _ ?_ (cover0_B_7 ..)
  case' a =>
    have h := mix_agree c i b1 k1 b2 k2 b3 k3 b4 k4 b5 k5 b6 k6 b7 k7 b8 k8 b9 k9 b10 k10 x4 x5 x0 x1 x2 x3
    unfold out0_B_6
    refine read_agree _ _ _ y _ ?_ (cover0_B_6 ..)
  all_goals
    unfold kernelRun0_B
    dsimp only
    try rw [View.canon_unit_zero zero2]
    simp only [trips4, last32, sl.r, sl.r_1, sl.r_2, sl.r_3, sl.r_4, sl.r_5, sl.r_6, sl.r_7, sl.r_8, sl.r_9, sl.r_10, sl.r_11, sl.r_12, sl.r_13, sl.r_14, sl.r_15, sl.r_16, View.readAt_eq_ld, k1.read_unread, k2.read_unread, k3.read_unread, k4.read_unread, k5.read_unread, k6.read_unread, k9.read_unread, k10.read_unread, View.ld_unit_zero (S := S1x1024) zero2] at h ⊢
  · exact h
  · exact h
  · refine (pay3_apply _ _ _ j).trans ?_
    refine (congrArg₂ (· + ·) rfl (congrArg₂ (· + ·) rfl (pay33_apply _ _ _ _ _ _ j))).trans ?_
    exact congrArg (s8 (ix2 0 j) + ·) h
  · refine (pay4_apply _ _ _ j).trans ?_
    refine (congrArg₂ (· + ·) rfl (congrArg₂ (· + ·) rfl (pay30_apply _ x5 _ _ (View.ld x2 (Rect.unit (s := S544x1024) ![512, 0] S32x1024.size inb_S544x1024_S32x1024_512_0)) _ j))).trans ?_
    exact congrArg (s9 (ix2 0 j) + ·) h

end Body

section Kernel

variable (m : (ℓ : Loc nD τ sig) → Buf (Elt Ideal) ℓ) (ρ : Dev nD → PrngReg)

open Gen

/-- Where each window's block lies. -/
theorem index_facts : ∀ t : Fin grid0.N,
    (win0_0.index t 0 = t.val ∧ win0_0.index t 1 = 0) ∧ (win0_1.index t 0 = t.val ∧ win0_1.index t 1 = 0) ∧ (win0_2.index t 0 = t.val ∧ win0_2.index t 1 = 0) ∧ (win0_3.index t 0 = t.val ∧ win0_3.index t 1 = 0) ∧ (win0_4.index t 0 = 0 ∧ win0_4.index t 1 = 0) ∧ (win0_5.index t 0 = 0 ∧ win0_5.index t 1 = 0) ∧ (win0_6.index t 0 = t.val ∧ win0_6.index t 1 = 0) ∧ (win0_7.index t 0 = t.val ∧ win0_7.index t 1 = 0) ∧ (win0_8.index t 0 = 0 ∧ win0_8.index t 1 = 0) ∧ (win0_9.index t 0 = 0 ∧ win0_9.index t 1 = 0) := by decide +kernel

/-- The array's row that row `r` of point `t` is. -/
abbrev at_ (t : Fin cfg0.N) (r : Fin 544) : Fin 2176 := ⟨544 * t.val + r.val, by have := t.isLt.trans_eq N_0; omega⟩

theorem iblk0_apply (c : Dev nD) (t : Fin cfg0.N) (r : Fin 544) :
    row (R := 544) (iblk m c 0 t) r = row (R := 2176) (m (c.tc.loc main_arg0)) (at_ t r) := by
  obtain ⟨⟨h0, h1⟩, -⟩ := index_facts t
  funext k
  show (iblk m c 0 t : Vec Ideal S544x1024 .f32) (ix2 r k) = m (c.tc.loc main_arg0) (ix2 (at_ t r) k)
  exact (View.read_apply _ _).trans (congrArg (m (c.tc.loc main_arg0)) (eq_ix2 (show win0_0.index t 0 * 544 + 1 * r.val = 544 * t.val + r.val by omega) (show win0_0.index t 1 * 1024 + 1 * k.val = k.val by rw [h1]; omega)))

theorem iblk1_apply (c : Dev nD) (t : Fin cfg0.N) (r : Fin 544) :
    row (R := 544) (iblk m c 1 t) r = row (R := 2176) (m (c.tc.loc main_arg1)) (at_ t r) := by
  obtain ⟨-, ⟨h0, h1⟩, -⟩ := index_facts t
  funext k
  show (iblk m c 1 t : Vec Ideal S544x1024 .f32) (ix2 r k) = m (c.tc.loc main_arg1) (ix2 (at_ t r) k)
  exact (View.read_apply _ _).trans (congrArg (m (c.tc.loc main_arg1)) (eq_ix2 (show win0_1.index t 0 * 544 + 1 * r.val = 544 * t.val + r.val by omega) (show win0_1.index t 1 * 1024 + 1 * k.val = k.val by rw [h1]; omega)))

theorem iblk2_apply (c : Dev nD) (t : Fin cfg0.N) (r : Fin 544) :
    row (R := 544) (iblk m c 2 t) r = row (R := 2176) (m (c.tc.loc main_arg2)) (at_ t r) := by
  obtain ⟨-, -, ⟨h0, h1⟩, -⟩ := index_facts t
  funext k
  show (iblk m c 2 t : Vec Ideal S544x1024 .f32) (ix2 r k) = m (c.tc.loc main_arg2) (ix2 (at_ t r) k)
  exact (View.read_apply _ _).trans (congrArg (m (c.tc.loc main_arg2)) (eq_ix2 (show win0_2.index t 0 * 544 + 1 * r.val = 544 * t.val + r.val by omega) (show win0_2.index t 1 * 1024 + 1 * k.val = k.val by rw [h1]; omega)))

theorem iblk3_apply (c : Dev nD) (t : Fin cfg0.N) (r : Fin 544) :
    row (R := 544) (iblk m c 3 t) r = row (R := 2176) (m (c.tc.loc main_arg3)) (at_ t r) := by
  obtain ⟨-, -, -, ⟨h0, h1⟩, -⟩ := index_facts t
  funext k
  show (iblk m c 3 t : Vec Ideal S544x1024 .f32) (ix2 r k) = m (c.tc.loc main_arg3) (ix2 (at_ t r) k)
  exact (View.read_apply _ _).trans (congrArg (m (c.tc.loc main_arg3)) (eq_ix2 (show win0_3.index t 0 * 544 + 1 * r.val = 544 * t.val + r.val by omega) (show win0_3.index t 1 * 1024 + 1 * k.val = k.val by rw [h1]; omega)))

theorem iblk4_apply (c : Dev nD) (t : Fin cfg0.N) : row (R := 1) (iblk m c 4 t) 0 = row (R := 1) (m (c.tc.loc main_arg4)) 0 := by
  obtain ⟨-, -, -, -, ⟨h0, h1⟩, -⟩ := index_facts t
  funext k
  show (iblk m c 4 t : Vec Ideal S1x1024 .f32) (ix2 0 k) = m (c.tc.loc main_arg4) (ix2 0 k)
  exact (View.read_apply _ _).trans (congrArg (m (c.tc.loc main_arg4)) (eq_ix2 (show win0_4.index t 0 * 1 + 1 * 0 = 0 by rw [h0]) (show win0_4.index t 1 * 1024 + 1 * k.val = k.val by rw [h1]; omega)))

theorem iblk5_apply (c : Dev nD) (t : Fin cfg0.N) : row (R := 1) (iblk m c 5 t) 0 = row (R := 1) (m (c.tc.loc main_arg5)) 0 := by
  obtain ⟨-, -, -, -, -, ⟨h0, h1⟩, -⟩ := index_facts t
  funext k
  show (iblk m c 5 t : Vec Ideal S1x1024 .f32) (ix2 0 k) = m (c.tc.loc main_arg5) (ix2 0 k)
  exact (View.read_apply _ _).trans (congrArg (m (c.tc.loc main_arg5)) (eq_ix2 (show win0_5.index t 0 * 1 + 1 * 0 = 0 by rw [h0]) (show win0_5.index t 1 * 1024 + 1 * k.val = k.val by rw [h1]; omega)))

/-- Window 6's array after the run. -/
abbrev res6 (c : Dev nD) : Buf (Elt Ideal) ((c : Thread nD τ).loc main_v0_0) :=
  mixRows (R := 2176) (m (c.tc.loc main_arg0)) (m (c.tc.loc main_arg1)) (m (c.tc.loc main_arg2)) (m (c.tc.loc main_arg3)) (m (c.tc.loc main_arg4)) (m (c.tc.loc main_arg5))

/-- Window 7's array after the run. -/
abbrev res7 (c : Dev nD) : Buf (Elt Ideal) ((c : Thread nD τ).loc main_v0_1) :=
  sumRows (R := 2176) (m (c.tc.loc main_arg0)) (m (c.tc.loc main_arg1)) (m (c.tc.loc main_arg2)) (m (c.tc.loc main_arg3)) (m (c.tc.loc main_arg4)) (m (c.tc.loc main_arg5))

/-- Window 8's array after the run. -/
abbrev res8 (c : Dev nD) : Buf (Elt Ideal) ((c : Thread nD τ).loc main_v0_2) :=
  firstGrad (R := 2176) (m (c.tc.loc main_arg0)) (m (c.tc.loc main_arg1)) (m (c.tc.loc main_arg2)) (m (c.tc.loc main_arg3)) (m (c.tc.loc main_arg4)) (m (c.tc.loc main_arg5))

/-- Window 9's array after the run. -/
abbrev res9 (c : Dev nD) : Buf (Elt Ideal) ((c : Thread nD τ).loc main_v0_3) :=
  secondGrad (R := 2176) (m (c.tc.loc main_arg0)) (m (c.tc.loc main_arg1)) (m (c.tc.loc main_arg2)) (m (c.tc.loc main_arg3)) (m (c.tc.loc main_arg4)) (m (c.tc.loc main_arg5))

/-- What every point leaves of window 6. -/
theorem mix_apply (c : Dev nD) (t : Fin cfg0.N) (r : Fin 544) (j : Fin 1024) :
    (outsAt0 m c t.val t.isLt).1 (ix2 r j) = res6 m c (ix2 (at_ t r) j) := by
  have hr : (outsAt0 m c t.val t.isLt).1 (ix2 r j) = mixRows (R := 544) (iblk m c 0 t) (iblk m c 1 t) (iblk m c 2 t) (iblk m c 3 t) (iblk m c 4 t) (iblk m c 5 t) (ix2 r j) := by
    by_cases h0 : t.val % 4 = 0
    · rw [outsAt0_A m c t h0]; dsimp only; exact (first ..).1 _
    · rw [outsAt0_B m c t h0]; dsimp only; exact (later ..).1 _
  rw [hr, mixRows_apply]
  unfold res6
  rw [mixRows_apply, iblk0_apply, iblk1_apply, iblk2_apply, iblk3_apply, iblk4_apply, iblk5_apply]

/-- What every point leaves of window 7. -/
theorem sum_apply (c : Dev nD) (t : Fin cfg0.N) (r : Fin 544) (j : Fin 1024) :
    (outsAt0 m c t.val t.isLt).2.1 (ix2 r j) = res7 m c (ix2 (at_ t r) j) := by
  have hr : (outsAt0 m c t.val t.isLt).2.1 (ix2 r j) = sumRows (R := 544) (iblk m c 0 t) (iblk m c 1 t) (iblk m c 2 t) (iblk m c 3 t) (iblk m c 4 t) (iblk m c 5 t) (ix2 r j) := by
    by_cases h0 : t.val % 4 = 0
    · rw [outsAt0_A m c t h0]; dsimp only; exact (first ..).2.1 _
    · rw [outsAt0_B m c t h0]; dsimp only; exact (later ..).2.1 _
  rw [hr, sumRows_apply]
  unfold res7
  rw [sumRows_apply, iblk0_apply, iblk1_apply, iblk2_apply, iblk3_apply, iblk4_apply, iblk5_apply]

/-- A block's parts of the first gain's gradient are the array's. -/
theorem first_part (c : Dev nD) (t : Fin cfg0.N) (j : Fin 1024) (r : Fin 544) :
    cut (firstTerm (R := 544) (iblk m c 0 t) (iblk m c 1 t) (iblk m c 2 t) (iblk m c 3 t) (iblk m c 4 t) (iblk m c 5 t) j) r.val = cut (firstTerm (R := 2176) (m (c.tc.loc main_arg0)) (m (c.tc.loc main_arg1)) (m (c.tc.loc main_arg2)) (m (c.tc.loc main_arg3)) (m (c.tc.loc main_arg4)) (m (c.tc.loc main_arg5)) j) (544 * t.val + r.val) := by
  unfold cut
  rw [dif_pos r.isLt, dif_pos (at_ t r).isLt]
  unfold firstTerm
  simp only [iblk0_apply, iblk1_apply, iblk2_apply, iblk3_apply, iblk4_apply, iblk5_apply]

/-- After point `l` the parts of the rows up to its last are added up. -/
theorem first_apply (c : Dev nD) (j : Fin 1024) : ∀ (l : ℕ) (h : l < cfg0.N),
    (outsAt0 m c l h).2.2.1 (ix2 0 j) = ∑ n ∈ Finset.range (544 * l + 544), cut (firstTerm (R := 2176) (m (c.tc.loc main_arg0)) (m (c.tc.loc main_arg1)) (m (c.tc.loc main_arg2)) (m (c.tc.loc main_arg3)) (m (c.tc.loc main_arg4)) (m (c.tc.loc main_arg5)) j) n
  | 0, h => by
    rw [outsAt0_A m c ⟨0, h⟩ rfl]
    dsimp only
    refine ((first ..).2.2.1 _).trans ?_
    rw [Finset.sum_range]
    refine (Finset.sum_congr rfl fun r _ => first_part m c ⟨0, h⟩ j r).trans ?_
    rw [← sum_stretch _ 0 544 _ (fun r => rfl)]
    exact (zero_add _).symm
  | l + 1, h => by
    have hN : l + 1 < 4 := h.trans_eq N_0
    rw [outsAt0_B m c ⟨l + 1, h⟩ (by dsimp only; omega)]
    dsimp only
    refine ((later ..).2.2.1 _).trans ?_
    rw [Finset.sum_range (n := 544)]
    refine (congrArg₂ (· + ·) (first_apply c j l _) (Finset.sum_congr rfl fun r _ => first_part m c ⟨l + 1, h⟩ j r)).trans ?_
    exact sum_stretch _ (544 * l + 544) 544 _ fun r => congrArg _ (by show 544 * (l + 1) + r.val = _; omega)

/-- A block's parts of the second gain's gradient are the array's. -/
theorem second_part (c : Dev nD) (t : Fin cfg0.N) (j : Fin 1024) (r : Fin 544) :
    cut (secondTerm (R := 544) (iblk m c 0 t) (iblk m c 1 t) (iblk m c 2 t) (iblk m c 3 t) (iblk m c 4 t) (iblk m c 5 t) j) r.val = cut (secondTerm (R := 2176) (m (c.tc.loc main_arg0)) (m (c.tc.loc main_arg1)) (m (c.tc.loc main_arg2)) (m (c.tc.loc main_arg3)) (m (c.tc.loc main_arg4)) (m (c.tc.loc main_arg5)) j) (544 * t.val + r.val) := by
  unfold cut
  rw [dif_pos r.isLt, dif_pos (at_ t r).isLt]
  unfold secondTerm
  simp only [iblk0_apply, iblk1_apply, iblk2_apply, iblk3_apply, iblk4_apply, iblk5_apply]

/-- After point `l` the parts of the rows up to its last are added up. -/
theorem second_apply (c : Dev nD) (j : Fin 1024) : ∀ (l : ℕ) (h : l < cfg0.N),
    (outsAt0 m c l h).2.2.2 (ix2 0 j) = ∑ n ∈ Finset.range (544 * l + 544), cut (secondTerm (R := 2176) (m (c.tc.loc main_arg0)) (m (c.tc.loc main_arg1)) (m (c.tc.loc main_arg2)) (m (c.tc.loc main_arg3)) (m (c.tc.loc main_arg4)) (m (c.tc.loc main_arg5)) j) n
  | 0, h => by
    rw [outsAt0_A m c ⟨0, h⟩ rfl]
    dsimp only
    refine ((first ..).2.2.2 _).trans ?_
    rw [Finset.sum_range]
    refine (Finset.sum_congr rfl fun r _ => second_part m c ⟨0, h⟩ j r).trans ?_
    rw [← sum_stretch _ 0 544 _ (fun r => rfl)]
    exact (zero_add _).symm
  | l + 1, h => by
    have hN : l + 1 < 4 := h.trans_eq N_0
    rw [outsAt0_B m c ⟨l + 1, h⟩ (by dsimp only; omega)]
    dsimp only
    refine ((later ..).2.2.2 _).trans ?_
    rw [Finset.sum_range (n := 544)]
    refine (congrArg₂ (· + ·) (second_apply c j l _) (Finset.sum_congr rfl fun r _ => second_part m c ⟨l + 1, h⟩ j r)).trans ?_
    exact sum_stretch _ (544 * l + 544) 544 _ fun r => congrArg _ (by show 544 * (l + 1) + r.val = _; omega)

/-- What a point writes back of window 6 is its block of the whole. -/
theorem flushed6_eq (c : Dev nD) (t : Fin cfg0.N) (_ : (cfg0.win 6).flush t = true) :
    (dats m 0 c).flushed 6 t = ((cfg0.win 6).blk t).view.read (Elt Ideal) (res6 m c) := by
  obtain ⟨-, -, -, -, -, -, ⟨h0, h1⟩, -⟩ := index_facts t
  rw [Value.flushed6 m c t]
  funext y
  rw [View.read_apply]
  obtain ⟨r, j, rfl⟩ := idx2 (R := 544) (C := 1024) y
  refine (mix_apply m c t r j).trans (congrArg (res6 m c) ?_)
  exact Eq.symm (eq_ix2 (show win0_6.index t 0 * 544 + 1 * r.val = 544 * t.val + r.val by rw [h0]; omega) (show win0_6.index t 1 * 1024 + 1 * j.val = j.val by rw [h1]; omega))

/-- What a point writes back of window 7 is its block of the whole. -/
theorem flushed7_eq (c : Dev nD) (t : Fin cfg0.N) (_ : (cfg0.win 7).flush t = true) :
    (dats m 0 c).flushed 7 t = ((cfg0.win 7).blk t).view.read (Elt Ideal) (res7 m c) := by
  obtain ⟨-, -, -, -, -, -, -, ⟨h0, h1⟩, -⟩ := index_facts t
  rw [Value.flushed7 m c t]
  funext y
  rw [View.read_apply]
  obtain ⟨r, j, rfl⟩ := idx2 (R := 544) (C := 1024) y
  refine (sum_apply m c t r j).trans (congrArg (res7 m c) ?_)
  exact Eq.symm (eq_ix2 (show win0_7.index t 0 * 544 + 1 * r.val = 544 * t.val + r.val by rw [h0]; omega) (show win0_7.index t 1 * 1024 + 1 * j.val = j.val by rw [h1]; omega))

/-- What the last point writes back of the first gain's gradient is the whole. -/
theorem flushed8_eq (c : Dev nD) (t : Fin cfg0.N) (hf : (cfg0.win 8).flush t = true) :
    (dats m 0 c).flushed 8 t = ((cfg0.win 8).blk t).view.read (Elt Ideal) (res8 m c) := by
  have ht : t.val = 3 := by have := (flush0_8 t).mp hf; have := t.isLt.trans_eq N_0; omega
  obtain ⟨-, -, -, -, -, -, -, -, ⟨h0, h1⟩, -⟩ := index_facts t
  rw [Value.flushed8 m c t]
  funext y
  rw [View.read_apply]
  obtain ⟨r, j, rfl⟩ := idx2 (R := 1) (C := 1024) y
  obtain rfl : r = 0 := Subsingleton.elim _ _
  refine (first_apply m c j t.val t.isLt).trans ?_
  rw [ht]
  refine (cut_sum _).trans (congrArg (res8 m c) (a₁ := ix2 0 j) ?_)
  exact Eq.symm (eq_ix2 (show win0_8.index t 0 * 1 + 1 * 0 = 0 by rw [h0]) (show win0_8.index t 1 * 1024 + 1 * j.val = j.val by rw [h1]; omega))

/-- What the last point writes back of the second gain's gradient is the whole. -/
theorem flushed9_eq (c : Dev nD) (t : Fin cfg0.N) (hf : (cfg0.win 9).flush t = true) :
    (dats m 0 c).flushed 9 t = ((cfg0.win 9).blk t).view.read (Elt Ideal) (res9 m c) := by
  have ht : t.val = 3 := by have := (flush0_9 t).mp hf; have := t.isLt.trans_eq N_0; omega
  obtain ⟨-, -, -, -, -, -, -, -, -, ⟨h0, h1⟩⟩ := index_facts t
  rw [Value.flushed9 m c t]
  funext y
  rw [View.read_apply]
  obtain ⟨r, j, rfl⟩ := idx2 (R := 1) (C := 1024) y
  obtain rfl : r = 0 := Subsingleton.elim _ _
  refine (second_apply m c j t.val t.isLt).trans ?_
  rw [ht]
  refine (cut_sum _).trans (congrArg (res9 m c) (a₁ := ix2 0 j) ?_)
  exact Eq.symm (eq_ix2 (show win0_9.index t 0 * 1 + 1 * 0 = 0 by rw [h0]) (show win0_9.index t 1 * 1024 + 1 * j.val = j.val by rw [h1]; omega))

/-- The points' blocks of window 6 cover the rows. -/
theorem cover6 (i : S2176x1024.Idx) : ∃ t : Fin cfg0.N, (cfg0.win 6).flush t = true ∧ i ∈ ((cfg0.win 6).blk t).view.set := by
  have i0 : (i 0).val < 2176 := (i 0).isLt
  have i1 : (i 1).val < 1024 := (i 1).isLt
  obtain ⟨t, ht⟩ : ∃ t : Fin cfg0.N, t.val = (i 0).val / 544 := ⟨⟨(i 0).val / 544, (show (i 0).val / 544 < 4 by omega).trans_eq N_0.symm⟩, rfl⟩
  obtain ⟨-, -, -, -, -, -, ⟨h0, h1⟩, -⟩ := index_facts t
  refine ⟨t, flush0_6 t, ?_⟩
  show i ∈ ((View.whole main_v0_0).slice (win0_6.rect t)).set
  rw [View.set_slice_whole, Rect.mem_set_unit]
  exact in_block2 (p := 544) (q := 1024) h0 h1 (by omega) (by omega)

/-- The points' blocks of window 7 cover the rows. -/
theorem cover7 (i : S2176x1024.Idx) : ∃ t : Fin cfg0.N, (cfg0.win 7).flush t = true ∧ i ∈ ((cfg0.win 7).blk t).view.set := by
  have i0 : (i 0).val < 2176 := (i 0).isLt
  have i1 : (i 1).val < 1024 := (i 1).isLt
  obtain ⟨t, ht⟩ : ∃ t : Fin cfg0.N, t.val = (i 0).val / 544 := ⟨⟨(i 0).val / 544, (show (i 0).val / 544 < 4 by omega).trans_eq N_0.symm⟩, rfl⟩
  obtain ⟨-, -, -, -, -, -, -, ⟨h0, h1⟩, -⟩ := index_facts t
  refine ⟨t, flush0_7 t, ?_⟩
  show i ∈ ((View.whole main_v0_1).slice (win0_7.rect t)).set
  rw [View.set_slice_whole, Rect.mem_set_unit]
  exact in_block2 (p := 544) (q := 1024) h0 h1 (by omega) (by omega)

/-- The last point's block covers the first gain's gradient. -/
theorem cover8 (i : S1x1024.Idx) : ∃ t : Fin cfg0.N, (cfg0.win 8).flush t = true ∧ i ∈ ((cfg0.win 8).blk t).view.set := by
  have i0 : (i 0).val < 1 := (i 0).isLt
  have i1 : (i 1).val < 1024 := (i 1).isLt
  obtain ⟨t, ht⟩ : ∃ t : Fin cfg0.N, t.val = 3 := ⟨⟨3, (show 3 < 4 by decide).trans_eq N_0.symm⟩, rfl⟩
  obtain ⟨-, -, -, -, -, -, -, -, ⟨h0, h1⟩, -⟩ := index_facts t
  refine ⟨t, (flush0_8 t).mpr (by rw [ht]), ?_⟩
  show i ∈ ((View.whole main_v0_2).slice (win0_8.rect t)).set
  rw [View.set_slice_whole, Rect.mem_set_unit]
  exact in_block2 (p := 1) (q := 1024) h0 h1 (by omega) (by omega)

/-- The last point's block covers the second gain's gradient. -/
theorem cover9 (i : S1x1024.Idx) : ∃ t : Fin cfg0.N, (cfg0.win 9).flush t = true ∧ i ∈ ((cfg0.win 9).blk t).view.set := by
  have i0 : (i 0).val < 1 := (i 0).isLt
  have i1 : (i 1).val < 1024 := (i 1).isLt
  obtain ⟨t, ht⟩ : ∃ t : Fin cfg0.N, t.val = 3 := ⟨⟨3, (show 3 < 4 by decide).trans_eq N_0.symm⟩, rfl⟩
  obtain ⟨-, -, -, -, -, -, -, -, -, ⟨h0, h1⟩⟩ := index_facts t
  refine ⟨t, (flush0_9 t).mpr (by rw [ht]), ?_⟩
  show i ∈ ((View.whole main_v0_3).slice (win0_9.rect t)).set
  rw [View.set_slice_whole, Rect.mem_set_unit]
  exact in_block2 (p := 1) (q := 1024) h0 h1 (by omega) (by omega)

theorem final6 (c : Dev nD) : (dats m 0 c).arrAt 6 cfg0.N = res6 m c :=
  (dats m 0 c).arrAt_eq_of_cover 6 (res6 m c) (flushed6_eq m c) cover6

theorem final7 (c : Dev nD) : (dats m 0 c).arrAt 7 cfg0.N = res7 m c :=
  (dats m 0 c).arrAt_eq_of_cover 7 (res7 m c) (flushed7_eq m c) cover7

theorem final8 (c : Dev nD) : (dats m 0 c).arrAt 8 cfg0.N = res8 m c :=
  (dats m 0 c).arrAt_eq_of_cover 8 (res8 m c) (flushed8_eq m c) cover8

theorem final9 (c : Dev nD) : (dats m 0 c).arrAt 9 cfg0.N = res9 m c :=
  (dats m 0 c).arrAt_eq_of_cover 9 (res9 m c) (flushed9_eq m c) cover9

end Kernel

section Reference

open Cert.PostDxRIdeal.Read

theorem ref_meanSq (x1 : Vec Ideal S2176x1024 .f32) (r : Fin 2176) : val_main_v6 (F := Ideal) x1 (ix2 r 0) = meanSq (row x1 r) := by
  pointwise [val_main_v6, val_main_v5, val_main_v4, val_main_v3, val_main_v2, val_main_v1, val_main_v0, val_main_cst, val_main_cst_1, val_main_cst_2]
  rfl

theorem ref_invRms (x1 : Vec Ideal S2176x1024 .f32) (r : Fin 2176) : val_main_v7 (F := Ideal) x1 (ix2 r 0) = invRms (row x1 r) := by
  pointwise [val_main_v7]
  rw [ref_meanSq]; rfl

theorem ref_unit (x1 : Vec Ideal S2176x1024 .f32) (r : Fin 2176) (k : Fin 1024) : val_main_v12 (F := Ideal) x1 (ix2 r k) = row x1 r k * invRms (row x1 r) := by
  pointwise [val_main_v12, val_main_v11]
  rw [ref_invRms]

theorem ref_sum (x0 x1 : Vec Ideal S2176x1024 .f32) (g1 : Vec Ideal S1x1024 .f32) (r : Fin 2176) (k : Fin 1024) :
    val_main_v15 (F := Ideal) x0 x1 g1 (ix2 r k) = sumRow (row x0 r) (row x1 r) (row (R := 1) g1 0) k := by
  pointwise [val_main_v15, val_main_v14, val_main_v13]
  rw [ref_unit]; rfl

theorem ref_meanSq2 (x0 x1 : Vec Ideal S2176x1024 .f32) (g1 : Vec Ideal S1x1024 .f32) (r : Fin 2176) :
    val_main_v22 (F := Ideal) x0 x1 g1 (ix2 r 0) = meanSq (sumRow (row x0 r) (row x1 r) (row (R := 1) g1 0)) := by
  pointwise [val_main_v22, val_main_v21, val_main_v20, val_main_v19, val_main_v18, val_main_v17, val_main_v16, val_main_cst_3, val_main_cst_4, val_main_cst_5]
  simp only [ref_sum]
  rfl

theorem ref_invRms2 (x0 x1 : Vec Ideal S2176x1024 .f32) (g1 : Vec Ideal S1x1024 .f32) (r : Fin 2176) :
    val_main_v23 (F := Ideal) x0 x1 g1 (ix2 r 0) = invRms (sumRow (row x0 r) (row x1 r) (row (R := 1) g1 0)) := by
  pointwise [val_main_v23]
  rw [ref_meanSq2]; rfl

/-- The reference's second gain's gradient is the same sum. -/
theorem ref_second (x0 x1 x2 x3 : Vec Ideal S2176x1024 .f32) (g1 g2 : Vec Ideal S1x1024 .f32) (j : Fin 1024) :
    val_main_v33 (F := Ideal) x0 x1 x3 g1 (ix2 0 j) = secondGrad x0 x1 x2 x3 g1 g2 (ix2 0 j) := by
  pointwise [val_main_v33, val_main_v32, val_main_v31, val_main_v28, val_main_v27, val_main_cst_7]
  simp only [ref_sum, ref_invRms2]
  rfl

theorem ref_meanGrad2 (x0 x1 x3 : Vec Ideal S2176x1024 .f32) (g1 g2 : Vec Ideal S1x1024 .f32) (r : Fin 2176) (k : Fin 1024) :
    val_main_v46 (F := Ideal) x0 x1 x3 g1 g2 (ix2 r k)
      = meanGrad (sumRow (row x0 r) (row x1 r) (row (R := 1) g1 0)) (fun k => row x3 r k * row (R := 1) g2 0 k) := by
  pointwise [val_main_v46, val_main_v45, val_main_v44, val_main_v43, val_main_v42, val_main_v38, val_main_v37, val_main_v36, val_main_v35, val_main_v34, val_main_v26, val_main_v25, val_main_v24, val_main_cst_6, val_main_cst_8, val_main_cst_9, val_main_cst_10]
  simp only [Finset.univ_unique, Finset.sum_singleton, Fin.default_eq_zero, ref_sum, ref_invRms2, ref_meanSq2]
  rfl

/-- The reference's gradient of the residual sum is the same. -/
theorem ref_rows (x0 x1 x2 x3 : Vec Ideal S2176x1024 .f32) (g1 g2 : Vec Ideal S1x1024 .f32) (r : Fin 2176) (j : Fin 1024) :
    val_main_v50 (F := Ideal) x0 x1 x2 x3 g1 g2 (ix2 r j) = sumGrad (row x0 r) (row x1 r) (row x2 r) (row x3 r) (row (R := 1) g1 0) (row (R := 1) g2 0) j := by
  pointwise [val_main_v50, val_main_v49, val_main_v48, val_main_v47, val_main_v41, val_main_v40, val_main_v39, val_main_v35, val_main_v34]
  rw [ref_meanGrad2, ref_sum, ref_invRms2]
  rfl

theorem ref_rows' (x0 x1 x2 x3 : Vec Ideal S2176x1024 .f32) (g1 g2 : Vec Ideal S1x1024 .f32) (r : Fin 2176) (j : Fin 1024) :
    val_main_v51 (F := Ideal) x0 x1 x2 x3 g1 g2 (ix2 r j) = sumGrad (row x0 r) (row x1 r) (row x2 r) (row x3 r) (row (R := 1) g1 0) (row (R := 1) g2 0) j := by
  pointwise [val_main_v51]
  exact ref_rows x0 x1 x2 x3 g1 g2 r j

/-- The reference's first gain's gradient is the same sum. -/
theorem ref_first (x0 x1 x2 x3 : Vec Ideal S2176x1024 .f32) (g1 g2 : Vec Ideal S1x1024 .f32) (j : Fin 1024) :
    val_main_v54 (F := Ideal) x0 x1 x2 x3 g1 g2 (ix2 0 j) = firstGrad x0 x1 x2 x3 g1 g2 (ix2 0 j) := by
  pointwise [val_main_v54, val_main_v53, val_main_v52, val_main_cst_11]
  simp only [ref_rows', ref_unit]
  rfl

theorem ref_scaled (x0 x1 x2 x3 : Vec Ideal S2176x1024 .f32) (g1 g2 : Vec Ideal S1x1024 .f32) (r : Fin 2176) (k : Fin 1024) :
    val_main_v56 (F := Ideal) x0 x1 x2 x3 g1 g2 (ix2 r k) = sumGrad (row x0 r) (row x1 r) (row x2 r) (row x3 r) (row (R := 1) g1 0) (row (R := 1) g2 0) k * row (R := 1) g1 0 k := by
  pointwise [val_main_v56, val_main_v55]
  rw [ref_rows']

theorem ref_meanGrad (x0 x1 x2 x3 : Vec Ideal S2176x1024 .f32) (g1 g2 : Vec Ideal S1x1024 .f32) (r : Fin 2176) (k : Fin 1024) :
    val_main_v66 (F := Ideal) x0 x1 x2 x3 g1 g2 (ix2 r k) = meanGrad (row x1 r) (fun k => sumGrad (row x0 r) (row x1 r) (row x2 r) (row x3 r) (row (R := 1) g1 0) (row (R := 1) g2 0) k * row (R := 1) g1 0 k) := by
  pointwise [val_main_v66, val_main_v65, val_main_v64, val_main_v63, val_main_v62, val_main_v59, val_main_v58, val_main_v57, val_main_v10, val_main_v9, val_main_v8, val_main_cst_2, val_main_cst_12, val_main_cst_13, val_main_cst_14]
  simp only [Finset.univ_unique, Finset.sum_singleton, Fin.default_eq_zero, ref_scaled, ref_invRms, ref_meanSq]
  rfl

/-- The reference's gradient of the mixer's rows is the same. -/
theorem ref_mix (x0 x1 x2 x3 : Vec Ideal S2176x1024 .f32) (g1 g2 : Vec Ideal S1x1024 .f32) (r : Fin 2176) (j : Fin 1024) :
    val_main_v71 (F := Ideal) x0 x1 x2 x3 g1 g2 (ix2 r j) = mixRows x0 x1 x2 x3 g1 g2 (ix2 r j) := by
  pointwise [val_main_v71, val_main_v70, val_main_v69, val_main_v68, val_main_v67, val_main_v61, val_main_v60]
  rw [ref_meanGrad, ref_invRms, ref_scaled]
  rfl

end Reference

/-- At the extended reals both end with the same results. -/
theorem algebraic : Cert.algebraic_PostDxKIdeal_PostDxRIdeal := by
  intro m g m' g' _ hag
  refine ⟨fun c => res6 m c, fun c => res7 m c, fun c => res8 m c, fun c => res9 m c, ?_, ?_⟩
  · exact (θ_run _ _ _).mono (fun r h c => ⟨(h c).1.trans (final6 m c), (h c).2.1.trans (final7 m c), (h c).2.2.1.trans (final8 m c), (h c).2.2.2.1.trans (final9 m c), (h c).2.2.2.2⟩) (PostDxKIdeal.Value.run_blocks m g)
  · refine (θ_run _ _ _).mono (fun r h c => ⟨(h c).1.trans ?_, (h c).2.1.trans ?_, (h c).2.2.1.trans ?_, (h c).2.2.2.1.trans ?_, (h c).2.2.2.2⟩) (PostDxRIdeal.Value.run (F := Ideal) m' g')
    all_goals obtain ⟨a0, a1, a2, a3, a4, a5⟩ := hag c
    · rw [PostDxRIdeal.Read.val_main_v71_eq, a0, a1, a2, a3, a4, a5]
      funext i
      obtain ⟨a, b, rfl⟩ := idx2 (R := 2176) (C := 1024) i
      exact ref_mix _ _ _ _ _ _ a b
    · rw [PostDxRIdeal.Read.val_main_v50_eq, a0, a1, a2, a3, a4, a5]
      funext i
      obtain ⟨a, b, rfl⟩ := idx2 (R := 2176) (C := 1024) i
      exact ref_rows _ _ _ _ _ _ a b
    · rw [PostDxRIdeal.Read.val_main_v54_eq, a0, a1, a2, a3, a4, a5]
      funext i
      obtain ⟨a, b, rfl⟩ := idx2 (R := 1) (C := 1024) i
      obtain rfl : a = 0 := Subsingleton.elim _ _
      exact ref_first _ _ _ _ _ _ b
    · rw [PostDxRIdeal.Read.val_main_v33_eq, a0, a1, a3, a4]
      funext i
      obtain ⟨a, b, rfl⟩ := idx2 (R := 1) (C := 1024) i
      obtain rfl : a = 0 := Subsingleton.elim _ _
      exact ref_second _ _ _ _ _ _ b

end Cert.PostDx

end
-- ==== Proof.Pre.lean ====
module

public import proofs.«01_k».proof.Proof.Blocks
public import proofs.«01_k».proof.Proof.NormRows
public import proofs.«01_k».proof.Proof.Gen.PreKIdeal.Value
public import proofs.«01_k».proof.Proof.Gen.PreRIdeal.Run
public import proofs.«01_k».proof.Proof.Gen.PreRIdeal.Read

@[expose] public section

/-! The forward call of the normalisation of the rows in front of the mixer. -/

set_option maxRecDepth 16384

noncomputable section

open Idealize.ShloMosaic Idealize.ShloMosaic.TcCoe Idealize.SL.Sem
open Cert.Blocks

namespace Cert.Pre

open Cert.PreKIdeal Cert.NormRows

/-! ## The arithmetic of one row -/

/-- The row normalised, times the gain. -/
def normRow (x g : Fin 1024 → EReal) (j : Fin 1024) : EReal := x j * invRms x * g j

/-- The rows so. -/
def normRows {R : ℕ} (x0 : Rows R) (p0 : Rows 1) : Rows R := fun i => normRow (row x0 (i 0)) (row p0 0) (i 1)

theorem normRows_apply {R : ℕ} (x0 : Rows R) (p0 : Rows 1) (r : Fin R) (j : Fin 1024) :
    normRows x0 p0 (ix2 r j) = normRow (row x0 r) (row p0 0) j := rfl

/-! ## What the body computes on a stretch of rows -/

theorem pay1_apply (p0 : Vec Ideal S1x1024 .f32) (x0 : Vec Ideal S128x1024 .f32) (r : Fin 128) (j : Fin 1024) :
    Gen.k0_pay1 p0 x0 (ix2 r j) = normRow (row x0 r) (row (R := 1) p0 0) j := by
  pointwise [Gen.k0_pay1]
  rfl

theorem pay2_apply (p0 : Vec Ideal S1x1024 .f32) (x0 : Vec Ideal S32x1024 .f32) (r : Fin 32) (j : Fin 1024) :
    Gen.k0_pay2 p0 x0 (ix2 r j) = normRow (row x0 r) (row (R := 1) p0 0) j := by
  pointwise [Gen.k0_pay2]
  rfl

section Body

open Gen

variable (c : Dev nD) (i : grid0.Coords) (b1 : Memref sig .tc .vmem S544x1024 .f32) (k1 : b1.IsWhole) (b2 : Memref sig .tc .vmem S1x1024 .f32) (k2 : b2.IsWhole) (b3 : Memref sig .tc .vmem S544x1024 .bf16) (k3 : b3.IsWhole)
  (p0 : Vec Ideal S1x1024 .f32) (x0 : Vec Ideal S544x1024 .f32)

/-- The stretch of a buffer's rows that trip `k` loads. -/
def stretch (x : Vec Ideal S544x1024 .f32) (k : Fin k0_t1_loop.trips) : Vec Ideal S128x1024 .f32 :=
  View.ld x (Rect.unit (s := S544x1024) (k0_off1 k) S128x1024.size (k0_off1_inb k))

/-- The last 32 rows of a buffer. -/
def last32 (x : Vec Ideal S544x1024 .f32) : Vec Ideal S32x1024 .f32 :=
  View.ld x (Rect.unit (s := S544x1024) ![512, 0] S32x1024.size inb_S544x1024_S32x1024_512_0)

theorem last32_row (x : Vec Ideal S544x1024 .f32) (r : Fin 32) : row (R := 32) (last32 x) r = row (R := 544) x ⟨512 + r.val, by omega⟩ :=
  funext fun j => ld_rows (R := 544) (n := 32) inb_S544x1024_S32x1024_512_0 x 512 rfl r j _

/-- What trip `k` stores. -/
theorem stored_eq (k : Fin k0_t1_loop.trips) :
    tripL_k0_t1 (F := Ideal) Variants.none c none i b1 k1 b2 k2 b3 k3 p0 (k1.unread x0) k
      = [⟨Rect.unit (k0_off1 k) S128x1024.size (k0_off1_inb k), k0_pay1 p0 (stretch x0 k)⟩] := by
  unfold tripL_k0_t1 trip_k0_t1
  simp only [View.readAt_eq_ld, k1.read_unread, stretch]

/-- After `k` trips every stored piece is its part of the rows. -/
theorem loop_state : ∀ k ≤ 4, (∀ p ∈ (pb_k0_t1 (F := Ideal) Variants.none c none i b1 k1 b2 k2 b3 k3 p0 (k1.unread x0) k), ∀ x, p.2 x = normRows (R := 544) x0 p0 (p.1.emb x))
  | 0, _ => fun p hp => absurd hp List.not_mem_nil
  | k + 1, hk => by
    have ih := loop_state k (by omega)
    have hk' : k < k0_t1_loop.trips := hk
    have hs := pb_k0_t1_succ (F := Ideal) Variants.none c none i b1 k1 b2 k2 b3 k3 p0 (k1.unread x0) ⟨k, hk'⟩
    rw [stored_eq] at hs
    have hoff : k0_off1 ⟨k, hk'⟩ = ![128 * k, 0] := k0_off1_eq ⟨k, hk'⟩
    have hr : ∀ (x : Vec Ideal S544x1024 .f32) (r : Fin 128), row (R := 128) (stretch x ⟨k, hk'⟩) r = row (R := 544) x ⟨128 * k + r.val, by omega⟩ :=
      fun x r => funext fun j => ld_rows (R := 544) (n := 128) (k0_off1_inb ⟨k, hk'⟩) x (128 * k) hoff r j _
    rw [hs]
    intro p hp y
    rcases List.mem_append.mp hp with hp | hp
    · obtain rfl := List.mem_singleton.mp hp
      obtain ⟨r, j, rfl⟩ := idx2 (R := 128) (C := 1024) y
      dsimp only
      rw [emb_rows (R := 544) (n := 128) (k0_off1_inb ⟨k, hk'⟩) (128 * k) hoff r j (by omega)]
      refine (pay1_apply p0 _ r j).trans ?_
      rw [normRows_apply, hr]
    · exact ih p hp y

/-- The body leaves window 2 holding the rows so. -/
theorem norm_body (y : S544x1024.Idx) : out0_A_2 c i b1 k1 b2 k2 b3 k3 x0 p0 y = normRows (R := 544) x0 p0 y := by
  unfold out0_A_2
  refine read_agree _ _ _ y _ ?_ (cover0_A_2 ..)
  have h := (loop_state c i b1 k1 b2 k2 b3 k3 p0 x0 4 (le_refl _))
  have ht : Scf.trips (0#32) (Scalar.addi 0#32 4#32) 1#32 = 4 := by decide
  have hl : ∀ p ∈ (⟨Rect.unit (s := S544x1024) ![512, 0] S32x1024.size inb_S544x1024_S32x1024_512_0, k0_pay2 p0 (last32 x0)⟩ : View.Piece (Elt Ideal) S544x1024 .bf16) ::
      (pb_k0_t1 (F := Ideal) Variants.none c none i b1 k1 b2 k2 b3 k3 p0 (k1.unread x0) 4), ∀ x, p.2 x = normRows (R := 544) x0 p0 (p.1.emb x) := by
    intro p hp y
    rcases List.mem_cons.mp hp with rfl | hp
    · obtain ⟨r, j, rfl⟩ := idx2 (R := 32) (C := 1024) y
      dsimp only
      rw [emb_rows (R := 544) (n := 32) inb_S544x1024_S32x1024_512_0 512 rfl r j (by omega)]
      refine (pay2_apply p0 _ r j).trans ?_
      rw [normRows_apply, last32_row]
    · exact h p hp y
  unfold kernelRun0_A
  dsimp only
  simp only [ht, last32, View.readAt_eq_ld, k1.read_unread, k2.read_unread, View.ld_unit_zero (S := S1x1024) zero2] at hl ⊢
  exact hl

end Body

section Kernel

variable (m : (ℓ : Loc nD τ sig) → Buf (Elt Ideal) ℓ) (ρ : Dev nD → PrngReg)

open Gen

/-- Where each window's block lies. -/
theorem index_facts : ∀ t : Fin grid0.N,
    (win0_0.index t 0 = t.val ∧ win0_0.index t 1 = 0) ∧ (win0_1.index t 0 = 0 ∧ win0_1.index t 1 = 0) ∧ (win0_2.index t 0 = t.val ∧ win0_2.index t 1 = 0) := by decide +kernel

/-- The array's row that row `r` of point `t` is. -/
abbrev at_ (t : Fin cfg0.N) (r : Fin 544) : Fin 2176 := ⟨544 * t.val + r.val, by have := t.isLt.trans_eq N_0; omega⟩

theorem iblk0_apply (c : Dev nD) (t : Fin cfg0.N) (r : Fin 544) : row (R := 544) (iblk m c 0 t) r = row (R := 2176) (m (c.tc.loc main_arg0)) (at_ t r) := by
  obtain ⟨⟨h0, h1⟩, -⟩ := index_facts t
  funext k
  show (iblk m c 0 t : Vec Ideal S544x1024 .f32) (ix2 r k) = m (c.tc.loc main_arg0) (ix2 (at_ t r) k)
  exact (View.read_apply _ _).trans (congrArg (m (c.tc.loc main_arg0)) (eq_ix2 (show win0_0.index t 0 * 544 + 1 * r.val = 544 * t.val + r.val by omega) (show win0_0.index t 1 * 1024 + 1 * k.val = k.val by rw [h1]; omega)))

theorem iblk1_apply (c : Dev nD) (t : Fin cfg0.N) : row (R := 1) (iblk m c 1 t) 0 = row (R := 1) (m (c.tc.loc main_arg1)) 0 := by
  obtain ⟨-, ⟨h0, h1⟩, -⟩ := index_facts t
  funext k
  show (iblk m c 1 t : Vec Ideal S1x1024 .f32) (ix2 0 k) = m (c.tc.loc main_arg1) (ix2 0 k)
  exact (View.read_apply _ _).trans (congrArg (m (c.tc.loc main_arg1)) (eq_ix2 (show win0_1.index t 0 * 1 + 1 * 0 = 0 by rw [h0]) (show win0_1.index t 1 * 1024 + 1 * k.val = k.val by rw [h1]; omega)))

/-- Window 2's array after the run. -/
abbrev res2 (c : Dev nD) : Buf (Elt Ideal) ((c : Thread nD τ).loc main_v0) := normRows (R := 2176) (m (c.tc.loc main_arg0)) (m (c.tc.loc main_arg1))

/-- What a point writes back of window 2 is its block of the whole. -/
theorem flushed2_eq (c : Dev nD) (t : Fin cfg0.N) (_ : (cfg0.win 2).flush t = true) :
    (dats m 0 c).flushed 2 t = ((cfg0.win 2).blk t).view.read (Elt Ideal) (res2 m c) := by
  obtain ⟨-, -, ⟨h0, h1⟩⟩ := index_facts t
  rw [Value.flushed2_A m c t]
  funext y
  rw [View.read_apply]
  obtain ⟨r, j, rfl⟩ := idx2 (R := 544) (C := 1024) y
  have hr : normRows (R := 544) (iblk m c 0 t) (iblk m c 1 t) (ix2 r j) = res2 m c (ix2 (at_ t r) j) := by
    rw [normRows_apply]
    unfold res2
    rw [normRows_apply, iblk0_apply, iblk1_apply]
  refine ((norm_body _ _ _ _ _ _ _ _ _ _ (ix2 r j)).trans hr).trans (congrArg (res2 m c) ?_)
  exact Eq.symm (eq_ix2 (show win0_2.index t 0 * 544 + 1 * r.val = 544 * t.val + r.val by rw [h0]; omega) (show win0_2.index t 1 * 1024 + 1 * j.val = j.val by rw [h1]; omega))

/-- The points' blocks of window 2 cover the rows. -/
theorem cover2 (i : S2176x1024.Idx) : ∃ t : Fin cfg0.N, (cfg0.win 2).flush t = true ∧ i ∈ ((cfg0.win 2).blk t).view.set := by
  have i0 : (i 0).val < 2176 := (i 0).isLt
  have i1 : (i 1).val < 1024 := (i 1).isLt
  obtain ⟨t, ht⟩ : ∃ t : Fin cfg0.N, t.val = (i 0).val / 544 := ⟨⟨(i 0).val / 544, (show (i 0).val / 544 < 4 by omega).trans_eq N_0.symm⟩, rfl⟩
  obtain ⟨-, -, ⟨h0, h1⟩⟩ := index_facts t
  refine ⟨t, flush0_2 t, ?_⟩
  show i ∈ ((View.whole main_v0).slice (win0_2.rect t)).set
  rw [View.set_slice_whole, Rect.mem_set_unit]
  exact in_block2 (p := 544) (q := 1024) h0 h1 (by omega) (by omega)

theorem final2 (c : Dev nD) : (dats m 0 c).arrAt 2 cfg0.N = res2 m c :=
  (dats m 0 c).arrAt_eq_of_cover 2 (res2 m c) (flushed2_eq m c) cover2

end Kernel

section Reference

open Cert.PreRIdeal.Read

/-- The reference's rows are the same. -/
theorem ref_norm (x0 : Vec Ideal S2176x1024 .f32) (p0 : Vec Ideal S1x1024 .f32) (r : Fin 2176) (j : Fin 1024) :
    val_main_v12 (F := Ideal) x0 p0 (ix2 r j) = normRows (R := 2176) x0 p0 (ix2 r j) := by
  pointwise [val_main_v12, val_main_v11, val_main_v10, val_main_v9, val_main_v8, val_main_v7, val_main_v6, val_main_v5, val_main_v4, val_main_v3, val_main_v2, val_main_v1, val_main_v0, val_main_cst, val_main_cst_1]
  rfl

end Reference

/-- At the extended reals both end with the same results. -/
theorem algebraic : Cert.algebraic_PreKIdeal_PreRIdeal := by
  intro m g m' g' _ hag
  refine ⟨fun c => res2 m c, ?_, ?_⟩
  · exact (θ_run _ _ _).mono (fun r h c => ⟨(h c).1.trans (final2 m c), (h c).2⟩) (PreKIdeal.Value.run_blocks m g)
  · refine (θ_run _ _ _).mono (fun r h c => ⟨(h c).1.trans ?_, (h c).2⟩) (PreRIdeal.Value.run (F := Ideal) m' g')
    all_goals obtain ⟨a0, a1⟩ := hag c
    · rw [PreRIdeal.Read.val_main_v12_eq, a0, a1]
      funext i
      obtain ⟨a, b, rfl⟩ := idx2 (R := 2176) (C := 1024) i
      exact ref_norm _ _ a b

end Cert.Pre

end
-- ==== Proof.CNorm.lean ====
module

public import proofs.«01_k».proof.Proof.Blocks
public import proofs.«01_k».proof.Proof.NormRows
public import proofs.«01_k».proof.Proof.Gen.CNormKIdeal.Value
public import proofs.«01_k».proof.Proof.Gen.CNormRIdeal.Run
public import proofs.«01_k».proof.Proof.Gen.CNormRIdeal.Read

@[expose] public section

/-! The forward call of the normalisation and the activation behind the convolution. -/

set_option maxRecDepth 16384

noncomputable section

open Idealize.ShloMosaic Idealize.ShloMosaic.TcCoe Idealize.SL.Sem
open Cert.Blocks

namespace Cert.CNorm

open Cert.CNormKIdeal Cert.NormRows

/-! ## The arithmetic of one row -/

/-- The row without its mean. -/
def dev (x : Fin 1024 → EReal) (k : Fin 1024) : EReal := x k - Ideal.div (∑ k, x k) (Ideal.ofBits FTy.f32 0x44800000#32)

/-- The mean of the deviations' squares, and the small constant. -/
def varEps (x : Fin 1024 → EReal) : EReal :=
  Ideal.div (∑ k, dev x k * dev x k) (Ideal.ofBits FTy.f32 0x44800000#32) + Ideal.ofBits FTy.f32 0x3727C5AC#32

/-- The normalised row times the gain, and the bias. -/
def pre (x g b : Fin 1024 → EReal) (k : Fin 1024) : EReal := dev x k * Ideal.rsqrt (varEps x) * g k + b k

/-- The activation of that. -/
def normRow (x g b : Fin 1024 → EReal) (j : Fin 1024) : EReal := pre x g b j * Ideal.logistic (pre x g b j)

/-- The rows so. -/
def normRows {R : ℕ} (x0 : Rows R) (p0 p1 : Rows 1) : Rows R := fun i => normRow (row x0 (i 0)) (row p0 0) (row p1 0) (i 1)

theorem normRows_apply {R : ℕ} (x0 : Rows R) (p0 p1 : Rows 1) (r : Fin R) (j : Fin 1024) :
    normRows x0 p0 p1 (ix2 r j) = normRow (row x0 r) (row p0 0) (row p1 0) j := rfl

/-! ## What the body computes on a stretch of rows -/

theorem pay1_apply (p0 p1 : Vec Ideal S1x1024 .f32) (x0 : Vec Ideal S128x1024 .f32) (r : Fin 128) (j : Fin 1024) :
    Gen.k0_pay1 p0 p1 x0 (ix2 r j) = normRow (row x0 r) (row (R := 1) p0 0) (row (R := 1) p1 0) j := by
  pointwise [Gen.k0_pay1]
  rfl

theorem pay2_apply (p0 p1 : Vec Ideal S1x1024 .f32) (x0 : Vec Ideal S32x1024 .f32) (r : Fin 32) (j : Fin 1024) :
    Gen.k0_pay2 p0 p1 x0 (ix2 r j) = normRow (row x0 r) (row (R := 1) p0 0) (row (R := 1) p1 0) j := by
  pointwise [Gen.k0_pay2]
  rfl

section Body

open Gen

variable (c : Dev nD) (i : grid0.Coords) (b1 : Memref sig .tc .vmem S544x1024 .f32) (k1 : b1.IsWhole) (b2 : Memref sig .tc .vmem S1x1024 .f32) (k2 : b2.IsWhole) (b3 : Memref sig .tc .vmem S1x1024 .f32) (k3 : b3.IsWhole) (b4 : Memref sig .tc .vmem S544x1024 .bf16) (k4 : b4.IsWhole)
  (p0 p1 : Vec Ideal S1x1024 .f32) (x0 : Vec Ideal S544x1024 .f32)

/-- The stretch of a buffer's rows that trip `k` loads. -/
def stretch (x : Vec Ideal S544x1024 .f32) (k : Fin k0_t1_loop.trips) : Vec Ideal S128x1024 .f32 :=
  View.ld x (Rect.unit (s := S544x1024) (k0_off1 k) S128x1024.size (k0_off1_inb k))

/-- The last 32 rows of a buffer. -/
def last32 (x : Vec Ideal S544x1024 .f32) : Vec Ideal S32x1024 .f32 :=
  View.ld x (Rect.unit (s := S544x1024) ![512, 0] S32x1024.size inb_S544x1024_S32x1024_512_0)

theorem last32_row (x : Vec Ideal S544x1024 .f32) (r : Fin 32) : row (R := 32) (last32 x) r = row (R := 544) x ⟨512 + r.val, by omega⟩ :=
  funext fun j => ld_rows (R := 544) (n := 32) inb_S544x1024_S32x1024_512_0 x 512 rfl r j _

/-- What trip `k` stores. -/
theorem stored_eq (k : Fin k0_t1_loop.trips) :
    tripL_k0_t1 (F := Ideal) Variants.none c none i b1 k1 b2 k2 b3 k3 b4 k4 p0 p1 (k1.unread x0) k
      = [⟨Rect.unit (k0_off1 k) S128x1024.size (k0_off1_inb k), k0_pay1 p0 p1 (stretch x0 k)⟩] := by
  unfold tripL_k0_t1 trip_k0_t1
  simp only [View.readAt_eq_ld, k1.read_unread, stretch]

/-- After `k` trips every stored piece is its part of the rows. -/
theorem loop_state : ∀ k ≤ 4, (∀ p ∈ (pb_k0_t1 (F := Ideal) Variants.none c none i b1 k1 b2 k2 b3 k3 b4 k4 p0 p1 (k1.unread x0) k), ∀ x, p.2 x = normRows (R := 544) x0 p0 p1 (p.1.emb x))
  | 0, _ => fun p hp => absurd hp List.not_mem_nil
  | k + 1, hk => by
    have ih := loop_state k (by omega)
    have hk' : k < k0_t1_loop.trips := hk
    have hs := pb_k0_t1_succ (F := Ideal) Variants.none c none i b1 k1 b2 k2 b3 k3 b4 k4 p0 p1 (k1.unread x0) ⟨k, hk'⟩
    rw [stored_eq] at hs
    have hoff : k0_off1 ⟨k, hk'⟩ = ![128 * k, 0] := k0_off1_eq ⟨k, hk'⟩
    have hr : ∀ (x : Vec Ideal S544x1024 .f32) (r : Fin 128), row (R := 128) (stretch x ⟨k, hk'⟩) r = row (R := 544) x ⟨128 * k + r.val, by omega⟩ :=
      fun x r => funext fun j => ld_rows (R := 544) (n := 128) (k0_off1_inb ⟨k, hk'⟩) x (128 * k) hoff r j _
    rw [hs]
    intro p hp y
    rcases List.mem_append.mp hp with hp | hp
    · obtain rfl := List.mem_singleton.mp hp
      obtain ⟨r, j, rfl⟩ := idx2 (R := 128) (C := 1024) y
      dsimp only
      rw [emb_rows (R := 544) (n := 128) (k0_off1_inb ⟨k, hk'⟩) (128 * k) hoff r j (by omega)]
      refine (pay1_apply p0 p1 _ r j).trans ?_
      rw [normRows_apply, hr]
    · exact ih p hp y

/-- The body leaves window 3 holding the rows so. -/
theorem norm_body (y : S544x1024.Idx) : out0_A_3 c i b1 k1 b2 k2 b3 k3 b4 k4 x0 p0 p1 y = normRows (R := 544) x0 p0 p1 y := by
  unfold out0_A_3
  refine read_agree _ _ _ y _ ?_ (cover0_A_3 ..)
  have h := (loop_state c i b1 k1 b2 k2 b3 k3 b4 k4 p0 p1 x0 4 (le_refl _))
  have ht : Scf.trips (0#32) (Scalar.addi 0#32 4#32) 1#32 = 4 := by decide
  have hl : ∀ p ∈ (⟨Rect.unit (s := S544x1024) ![512, 0] S32x1024.size inb_S544x1024_S32x1024_512_0, k0_pay2 p0 p1 (last32 x0)⟩ : View.Piece (Elt Ideal) S544x1024 .bf16) ::
      (pb_k0_t1 (F := Ideal) Variants.none c none i b1 k1 b2 k2 b3 k3 b4 k4 p0 p1 (k1.unread x0) 4), ∀ x, p.2 x = normRows (R := 544) x0 p0 p1 (p.1.emb x) := by
    intro p hp y
    rcases List.mem_cons.mp hp with rfl | hp
    · obtain ⟨r, j, rfl⟩ := idx2 (R := 32) (C := 1024) y
      dsimp only
      rw [emb_rows (R := 544) (n := 32) inb_S544x1024_S32x1024_512_0 512 rfl r j (by omega)]
      refine (pay2_apply p0 p1 _ r j).trans ?_
      rw [normRows_apply, last32_row]
    · exact h p hp y
  unfold kernelRun0_A
  dsimp only
  simp only [ht, last32, View.readAt_eq_ld, k1.read_unread, k2.read_unread, k3.read_unread, View.ld_unit_zero (S := S1x1024) zero2] at hl ⊢
  exact hl

end Body

section Kernel

variable (m : (ℓ : Loc nD τ sig) → Buf (Elt Ideal) ℓ) (ρ : Dev nD → PrngReg)

open Gen

/-- Where each window's block lies. -/
theorem index_facts : ∀ t : Fin grid0.N,
    (win0_0.index t 0 = t.val ∧ win0_0.index t 1 = 0) ∧ (win0_1.index t 0 = 0 ∧ win0_1.index t 1 = 0) ∧ (win0_2.index t 0 = 0 ∧ win0_2.index t 1 = 0) ∧ (win0_3.index t 0 = t.val ∧ win0_3.index t 1 = 0) := by decide +kernel

/-- The array's row that row `r` of point `t` is. -/
abbrev at_ (t : Fin cfg0.N) (r : Fin 544) : Fin 2176 := ⟨544 * t.val + r.val, by have := t.isLt.trans_eq N_0; omega⟩

theorem iblk0_apply (c : Dev nD) (t : Fin cfg0.N) (r : Fin 544) : row (R := 544) (iblk m c 0 t) r = row (R := 2176) (m (c.tc.loc main_arg0)) (at_ t r) := by
  obtain ⟨⟨h0, h1⟩, -⟩ := index_facts t
  funext k
  show (iblk m c 0 t : Vec Ideal S544x1024 .f32) (ix2 r k) = m (c.tc.loc main_arg0) (ix2 (at_ t r) k)
  exact (View.read_apply _ _).trans (congrArg (m (c.tc.loc main_arg0)) (eq_ix2 (show win0_0.index t 0 * 544 + 1 * r.val = 544 * t.val + r.val by omega) (show win0_0.index t 1 * 1024 + 1 * k.val = k.val by rw [h1]; omega)))

theorem iblk1_apply (c : Dev nD) (t : Fin cfg0.N) : row (R := 1) (iblk m c 1 t) 0 = row (R := 1) (m (c.tc.loc main_arg1)) 0 := by
  obtain ⟨-, ⟨h0, h1⟩, -⟩ := index_facts t
  funext k
  show (iblk m c 1 t : Vec Ideal S1x1024 .f32) (ix2 0 k) = m (c.tc.loc main_arg1) (ix2 0 k)
  exact (View.read_apply _ _).trans (congrArg (m (c.tc.loc main_arg1)) (eq_ix2 (show win0_1.index t 0 * 1 + 1 * 0 = 0 by rw [h0]) (show win0_1.index t 1 * 1024 + 1 * k.val = k.val by rw [h1]; omega)))

theorem iblk2_apply (c : Dev nD) (t : Fin cfg0.N) : row (R := 1) (iblk m c 2 t) 0 = row (R := 1) (m (c.tc.loc main_arg2)) 0 := by
  obtain ⟨-, -, ⟨h0, h1⟩, -⟩ := index_facts t
  funext k
  show (iblk m c 2 t : Vec Ideal S1x1024 .f32) (ix2 0 k) = m (c.tc.loc main_arg2) (ix2 0 k)
  exact (View.read_apply _ _).trans (congrArg (m (c.tc.loc main_arg2)) (eq_ix2 (show win0_2.index t 0 * 1 + 1 * 0 = 0 by rw [h0]) (show win0_2.index t 1 * 1024 + 1 * k.val = k.val by rw [h1]; omega)))

/-- Window 3's array after the run. -/
abbrev res3 (c : Dev nD) : Buf (Elt Ideal) ((c : Thread nD τ).loc main_v0) := normRows (R := 2176) (m (c.tc.loc main_arg0)) (m (c.tc.loc main_arg1)) (m (c.tc.loc main_arg2))

/-- What a point writes back of window 3 is its block of the whole. -/
theorem flushed3_eq (c : Dev nD) (t : Fin cfg0.N) (_ : (cfg0.win 3).flush t = true) :
    (dats m 0 c).flushed 3 t = ((cfg0.win 3).blk t).view.read (Elt Ideal) (res3 m c) := by
  obtain ⟨-, -, -, ⟨h0, h1⟩⟩ := index_facts t
  rw [Value.flushed3_A m c t]
  funext y
  rw [View.read_apply]
  obtain ⟨r, j, rfl⟩ := idx2 (R := 544) (C := 1024) y
  have hr : normRows (R := 544) (iblk m c 0 t) (iblk m c 1 t) (iblk m c 2 t) (ix2 r j) = res3 m c (ix2 (at_ t r) j) := by
    rw [normRows_apply]
    unfold res3
    rw [normRows_apply, iblk0_apply, iblk1_apply, iblk2_apply]
  refine ((norm_body _ _ _ _ _ _ _ _ _ _ _ _ _ (ix2 r j)).trans hr).trans (congrArg (res3 m c) ?_)
  exact Eq.symm (eq_ix2 (show win0_3.index t 0 * 544 + 1 * r.val = 544 * t.val + r.val by rw [h0]; omega) (show win0_3.index t 1 * 1024 + 1 * j.val = j.val by rw [h1]; omega))

/-- The points' blocks of window 3 cover the rows. -/
theorem cover3 (i : S2176x1024.Idx) : ∃ t : Fin cfg0.N, (cfg0.win 3).flush t = true ∧ i ∈ ((cfg0.win 3).blk t).view.set := by
  have i0 : (i 0).val < 2176 := (i 0).isLt
  have i1 : (i 1).val < 1024 := (i 1).isLt
  obtain ⟨t, ht⟩ : ∃ t : Fin cfg0.N, t.val = (i 0).val / 544 := ⟨⟨(i 0).val / 544, (show (i 0).val / 544 < 4 by omega).trans_eq N_0.symm⟩, rfl⟩
  obtain ⟨-, -, -, ⟨h0, h1⟩⟩ := index_facts t
  refine ⟨t, flush0_3 t, ?_⟩
  show i ∈ ((View.whole main_v0).slice (win0_3.rect t)).set
  rw [View.set_slice_whole, Rect.mem_set_unit]
  exact in_block2 (p := 544) (q := 1024) h0 h1 (by omega) (by omega)

theorem final3 (c : Dev nD) : (dats m 0 c).arrAt 3 cfg0.N = res3 m c :=
  (dats m 0 c).arrAt_eq_of_cover 3 (res3 m c) (flushed3_eq m c) cover3

end Kernel

section Reference

open Cert.CNormRIdeal.Read

theorem ref_dev (x0 : Vec Ideal S2176x1024 .f32) (r : Fin 2176) (k : Fin 1024) : val_main_v5 (F := Ideal) x0 (ix2 r k) = dev (row x0 r) k := by
  pointwise [val_main_v5, val_main_v4, val_main_v3, val_main_v2, val_main_v1, val_main_v0, val_main_cst]
  rfl

theorem ref_pre (x0 : Vec Ideal S2176x1024 .f32) (p0 p1 : Vec Ideal S1x1024 .f32) (r : Fin 2176) (j : Fin 1024) :
    val_main_v19 (F := Ideal) x0 p0 p1 (ix2 r j) = pre (row x0 r) (row (R := 1) p0 0) (row (R := 1) p1 0) j := by
  pointwise [val_main_v19, val_main_v18, val_main_v17, val_main_v16, val_main_v15, val_main_v14, val_main_v13, val_main_v12, val_main_v11, val_main_v10, val_main_v9, val_main_v8, val_main_v7, val_main_v6, val_main_cst_1, val_main_cst_2, val_main_cst_3]
  simp only [ref_dev]
  rfl

/-- The reference's rows are the same. -/
theorem ref_norm (x0 : Vec Ideal S2176x1024 .f32) (p0 p1 : Vec Ideal S1x1024 .f32) (r : Fin 2176) (j : Fin 1024) :
    val_main_v21 (F := Ideal) x0 p0 p1 (ix2 r j) = normRows (R := 2176) x0 p0 p1 (ix2 r j) := by
  pointwise [val_main_v21, val_main_v20, val_main_call0_v5, val_main_call0_v4, val_main_call0_v3, val_main_call0_v2, val_main_call0_v1, val_main_call0_v0, val_main_call0_cst_0, val_main_call0_cst]
  simp only [ref_pre]
  rw [normRows_apply]
  unfold normRow Ideal.logistic
  rfl

end Reference

/-- At the extended reals both end with the same results. -/
theorem algebraic : Cert.algebraic_CNormKIdeal_CNormRIdeal := by
  intro m g m' g' _ hag
  refine ⟨fun c => res3 m c, ?_, ?_⟩
  · exact (θ_run _ _ _).mono (fun r h c => ⟨(h c).1.trans (final3 m c), (h c).2⟩) (CNormKIdeal.Value.run_blocks m g)
  · refine (θ_run _ _ _).mono (fun r h c => ⟨(h c).1.trans ?_, (h c).2⟩) (CNormRIdeal.Value.run (F := Ideal) m' g')
    all_goals obtain ⟨a0, a1, a2⟩ := hag c
    · rw [CNormRIdeal.Read.val_main_v21_eq, a0, a1, a2]
      funext i
      obtain ⟨a, b, rfl⟩ := idx2 (R := 2176) (C := 1024) i
      exact ref_norm _ _ _ a b

end Cert.CNorm

end
-- ==== Proof.Post.lean ====
module

public import proofs.«01_k».proof.Proof.Blocks
public import proofs.«01_k».proof.Proof.NormRows
public import proofs.«01_k».proof.Proof.Gen.PostKIdeal.Value
public import proofs.«01_k».proof.Proof.Gen.PostRIdeal.Run
public import proofs.«01_k».proof.Proof.Gen.PostRIdeal.Read

@[expose] public section

/-! The forward call of the residual sum behind the mixer and its normalisation. -/

set_option maxRecDepth 16384

noncomputable section

open Idealize.ShloMosaic Idealize.ShloMosaic.TcCoe Idealize.SL.Sem
open Cert.Blocks

namespace Cert.Post

open Cert.PostKIdeal Cert.NormRows

/-! ## The arithmetic of one row -/

/-- The residual sum: the row and the mixer's normalised row times the first gain. -/
def sumRow (x m g1 _g2 : Fin 1024 → EReal) (k : Fin 1024) : EReal := x k + m k * invRms m * g1 k

/-- The sum normalised, times the second gain. -/
def normRow (x m g1 g2 : Fin 1024 → EReal) (j : Fin 1024) : EReal := sumRow x m g1 g2 j * invRms (sumRow x m g1 g2) * g2 j

/-- The rows so. -/
def sumRows {R : ℕ} (x0 x1 : Rows R) (p0 p1 : Rows 1) : Rows R := fun i => sumRow (row x0 (i 0)) (row x1 (i 0)) (row p0 0) (row p1 0) (i 1)

theorem sumRows_apply {R : ℕ} (x0 x1 : Rows R) (p0 p1 : Rows 1) (r : Fin R) (j : Fin 1024) :
    sumRows x0 x1 p0 p1 (ix2 r j) = sumRow (row x0 r) (row x1 r) (row p0 0) (row p1 0) j := rfl

/-- The rows so. -/
def normRows {R : ℕ} (x0 x1 : Rows R) (p0 p1 : Rows 1) : Rows R := fun i => normRow (row x0 (i 0)) (row x1 (i 0)) (row p0 0) (row p1 0) (i 1)

theorem normRows_apply {R : ℕ} (x0 x1 : Rows R) (p0 p1 : Rows 1) (r : Fin R) (j : Fin 1024) :
    normRows x0 x1 p0 p1 (ix2 r j) = normRow (row x0 r) (row x1 r) (row p0 0) (row p1 0) j := rfl

/-! ## What the body computes on a stretch of rows -/

theorem pay1_apply (p0 p1 : Vec Ideal S1x1024 .f32) (x0 x1 : Vec Ideal S128x1024 .f32) (r : Fin 128) (j : Fin 1024) :
    Gen.k0_pay1 p0 x0 x1 (ix2 r j) = sumRow (row x0 r) (row x1 r) (row (R := 1) p0 0) (row (R := 1) p1 0) j := by
  pointwise [Gen.k0_pay1]
  rfl

theorem pay2_apply (p0 p1 : Vec Ideal S1x1024 .f32) (x0 x1 : Vec Ideal S128x1024 .f32) (r : Fin 128) (j : Fin 1024) :
    Gen.k0_pay2 p0 p1 x0 x1 (ix2 r j) = normRow (row x0 r) (row x1 r) (row (R := 1) p0 0) (row (R := 1) p1 0) j := by
  pointwise [Gen.k0_pay2]
  simp only [pay1_apply p0 p1]
  rfl

theorem pay3_apply (p0 p1 : Vec Ideal S1x1024 .f32) (x0 x1 : Vec Ideal S32x1024 .f32) (r : Fin 32) (j : Fin 1024) :
    Gen.k0_pay3 p0 x0 x1 (ix2 r j) = sumRow (row x0 r) (row x1 r) (row (R := 1) p0 0) (row (R := 1) p1 0) j := by
  pointwise [Gen.k0_pay3]
  rfl

theorem pay4_apply (p0 p1 : Vec Ideal S1x1024 .f32) (x0 x1 : Vec Ideal S32x1024 .f32) (r : Fin 32) (j : Fin 1024) :
    Gen.k0_pay4 p0 p1 x0 x1 (ix2 r j) = normRow (row x0 r) (row x1 r) (row (R := 1) p0 0) (row (R := 1) p1 0) j := by
  pointwise [Gen.k0_pay4]
  simp only [pay3_apply p0 p1]
  rfl

section Body

open Gen

variable (c : Dev nD) (i : grid0.Coords) (b1 : Memref sig .tc .vmem S544x1024 .f32) (k1 : b1.IsWhole) (b2 : Memref sig .tc .vmem S544x1024 .f32) (k2 : b2.IsWhole) (b3 : Memref sig .tc .vmem S1x1024 .f32) (k3 : b3.IsWhole) (b4 : Memref sig .tc .vmem S1x1024 .f32) (k4 : b4.IsWhole) (b5 : Memref sig .tc .vmem S544x1024 .f32) (k5 : b5.IsWhole) (b6 : Memref sig .tc .vmem S544x1024 .bf16) (k6 : b6.IsWhole)
  (p0 p1 : Vec Ideal S1x1024 .f32) (x0 x1 : Vec Ideal S544x1024 .f32)

/-- The stretch of a buffer's rows that trip `k` loads. -/
def stretch (x : Vec Ideal S544x1024 .f32) (k : Fin k0_t1_loop.trips) : Vec Ideal S128x1024 .f32 :=
  View.ld x (Rect.unit (s := S544x1024) (k0_off1 k) S128x1024.size (k0_off1_inb k))

/-- The last 32 rows of a buffer. -/
def last32 (x : Vec Ideal S544x1024 .f32) : Vec Ideal S32x1024 .f32 :=
  View.ld x (Rect.unit (s := S544x1024) ![512, 0] S32x1024.size inb_S544x1024_S32x1024_512_0)

theorem last32_row (x : Vec Ideal S544x1024 .f32) (r : Fin 32) : row (R := 32) (last32 x) r = row (R := 544) x ⟨512 + r.val, by omega⟩ :=
  funext fun j => ld_rows (R := 544) (n := 32) inb_S544x1024_S32x1024_512_0 x 512 rfl r j _

/-- What trip `k` stores. -/
theorem stored_eq (k : Fin k0_t1_loop.trips) :
    tripL_k0_t1 (F := Ideal) Variants.none c none i b1 k1 b2 k2 b3 k3 b4 k4 b5 k5 b6 k6 p0 p1 (k1.unread x0) (k2.unread x1) k
      = ([⟨Rect.unit (k0_off1 k) S128x1024.size (k0_off1_inb k), k0_pay1 p0 (stretch x0 k) (stretch x1 k)⟩],
        [⟨Rect.unit (k0_off1 k) S128x1024.size (k0_off1_inb k), k0_pay2 p0 p1 (stretch x0 k) (stretch x1 k)⟩]) := by
  unfold tripL_k0_t1 trip_k0_t1
  simp only [View.readAt_eq_ld, k1.read_unread, k2.read_unread, stretch]

/-- After `k` trips every stored piece is its part of the rows. -/
theorem loop_state : ∀ k ≤ 4, (∀ p ∈ (pb_k0_t1 (F := Ideal) Variants.none c none i b1 k1 b2 k2 b3 k3 b4 k4 b5 k5 b6 k6 p0 p1 (k1.unread x0) (k2.unread x1) k).1, ∀ x, p.2 x = sumRows (R := 544) x0 x1 p0 p1 (p.1.emb x)) ∧ (∀ p ∈ (pb_k0_t1 (F := Ideal) Variants.none c none i b1 k1 b2 k2 b3 k3 b4 k4 b5 k5 b6 k6 p0 p1 (k1.unread x0) (k2.unread x1) k).2, ∀ x, p.2 x = normRows (R := 544) x0 x1 p0 p1 (p.1.emb x))
  | 0, _ => ⟨fun p hp => absurd hp List.not_mem_nil, fun p hp => absurd hp List.not_mem_nil⟩
  | k + 1, hk => by
    have ih := loop_state k (by omega)
    have hk' : k < k0_t1_loop.trips := hk
    have hs := pb_k0_t1_succ (F := Ideal) Variants.none c none i b1 k1 b2 k2 b3 k3 b4 k4 b5 k5 b6 k6 p0 p1 (k1.unread x0) (k2.unread x1) ⟨k, hk'⟩
    rw [stored_eq] at hs
    have hoff : k0_off1 ⟨k, hk'⟩ = ![128 * k, 0] := k0_off1_eq ⟨k, hk'⟩
    have hr : ∀ (x : Vec Ideal S544x1024 .f32) (r : Fin 128), row (R := 128) (stretch x ⟨k, hk'⟩) r = row (R := 544) x ⟨128 * k + r.val, by omega⟩ :=
      fun x r => funext fun j => ld_rows (R := 544) (n := 128) (k0_off1_inb ⟨k, hk'⟩) x (128 * k) hoff r j _
    rw [hs]
    refine ⟨fun p hp y => ?_, fun p hp y => ?_⟩
    · rcases List.mem_append.mp hp with hp | hp
      · obtain rfl := List.mem_singleton.mp hp
        obtain ⟨r, j, rfl⟩ := idx2 (R := 128) (C := 1024) y
        dsimp only
        rw [emb_rows (R := 544) (n := 128) (k0_off1_inb ⟨k, hk'⟩) (128 * k) hoff r j (by omega)]
        refine (pay1_apply p0 p1 _ _ r j).trans ?_
        rw [sumRows_apply, hr, hr]
      · exact ih.1 p hp y
    · rcases List.mem_append.mp hp with hp | hp
      · obtain rfl := List.mem_singleton.mp hp
        obtain ⟨r, j, rfl⟩ := idx2 (R := 128) (C := 1024) y
        dsimp only
        rw [emb_rows (R := 544) (n := 128) (k0_off1_inb ⟨k, hk'⟩) (128 * k) hoff r j (by omega)]
        refine (pay2_apply p0 p1 _ _ r j).trans ?_
        rw [normRows_apply, hr, hr]
      · exact ih.2 p hp y

/-- The body leaves window 4 holding the rows so. -/
theorem sum_body (y : S544x1024.Idx) : out0_A_4 c i b1 k1 b2 k2 b3 k3 b4 k4 b5 k5 b6 k6 x0 x1 p0 p1 y = sumRows (R := 544) x0 x1 p0 p1 y := by
  unfold out0_A_4
  refine read_agree _ _ _ y _ ?_ (cover0_A_4 ..)
  have h := (loop_state c i b1 k1 b2 k2 b3 k3 b4 k4 b5 k5 b6 k6 p0 p1 x0 x1 4 (le_refl _)).1
  have ht : Scf.trips (0#32) (Scalar.addi 0#32 4#32) 1#32 = 4 := by decide
  have hl : ∀ p ∈ (⟨Rect.unit (s := S544x1024) ![512, 0] S32x1024.size inb_S544x1024_S32x1024_512_0, k0_pay3 p0 (last32 x0) (last32 x1)⟩ : View.Piece (Elt Ideal) S544x1024 .f32) ::
      (pb_k0_t1 (F := Ideal) Variants.none c none i b1 k1 b2 k2 b3 k3 b4 k4 b5 k5 b6 k6 p0 p1 (k1.unread x0) (k2.unread x1) 4).1, ∀ x, p.2 x = sumRows (R := 544) x0 x1 p0 p1 (p.1.emb x) := by
    intro p hp y
    rcases List.mem_cons.mp hp with rfl | hp
    · obtain ⟨r, j, rfl⟩ := idx2 (R := 32) (C := 1024) y
      dsimp only
      rw [emb_rows (R := 544) (n := 32) inb_S544x1024_S32x1024_512_0 512 rfl r j (by omega)]
      refine (pay3_apply p0 p1 _ _ r j).trans ?_
      rw [sumRows_apply, last32_row, last32_row]
    · exact h p hp y
  unfold kernelRun0_A
  dsimp only
  simp only [ht, last32, View.readAt_eq_ld, k1.read_unread, k2.read_unread, k3.read_unread, k4.read_unread, View.ld_unit_zero (S := S1x1024) zero2] at hl ⊢
  exact hl

/-- The body leaves window 5 holding the rows so. -/
theorem norm_body (y : S544x1024.Idx) : out0_A_5 c i b1 k1 b2 k2 b3 k3 b4 k4 b5 k5 b6 k6 x0 x1 p0 p1 y = normRows (R := 544) x0 x1 p0 p1 y := by
  unfold out0_A_5
  refine read_agree _ _ _ y _ ?_ (cover0_A_5 ..)
  have h := (loop_state c i b1 k1 b2 k2 b3 k3 b4 k4 b5 k5 b6 k6 p0 p1 x0 x1 4 (le_refl _)).2
  have ht : Scf.trips (0#32) (Scalar.addi 0#32 4#32) 1#32 = 4 := by decide
  have hl : ∀ p ∈ (⟨Rect.unit (s := S544x1024) ![512, 0] S32x1024.size inb_S544x1024_S32x1024_512_0, k0_pay4 p0 p1 (last32 x0) (last32 x1)⟩ : View.Piece (Elt Ideal) S544x1024 .bf16) ::
      (pb_k0_t1 (F := Ideal) Variants.none c none i b1 k1 b2 k2 b3 k3 b4 k4 b5 k5 b6 k6 p0 p1 (k1.unread x0) (k2.unread x1) 4).2, ∀ x, p.2 x = normRows (R := 544) x0 x1 p0 p1 (p.1.emb x) := by
    intro p hp y
    rcases List.mem_cons.mp hp with rfl | hp
    · obtain ⟨r, j, rfl⟩ := idx2 (R := 32) (C := 1024) y
      dsimp only
      rw [emb_rows (R := 544) (n := 32) inb_S544x1024_S32x1024_512_0 512 rfl r j (by omega)]
      refine (pay4_apply p0 p1 _ _ r j).trans ?_
      rw [normRows_apply, last32_row, last32_row]
    · exact h p hp y
  unfold kernelRun0_A
  dsimp only
  simp only [ht, last32, View.readAt_eq_ld, k1.read_unread, k2.read_unread, k3.read_unread, k4.read_unread, View.ld_unit_zero (S := S1x1024) zero2] at hl ⊢
  exact hl

end Body

section Kernel

variable (m : (ℓ : Loc nD τ sig) → Buf (Elt Ideal) ℓ) (ρ : Dev nD → PrngReg)

open Gen

/-- Where each window's block lies. -/
theorem index_facts : ∀ t : Fin grid0.N,
    (win0_0.index t 0 = t.val ∧ win0_0.index t 1 = 0) ∧ (win0_1.index t 0 = t.val ∧ win0_1.index t 1 = 0) ∧ (win0_2.index t 0 = 0 ∧ win0_2.index t 1 = 0) ∧ (win0_3.index t 0 = 0 ∧ win0_3.index t 1 = 0) ∧ (win0_4.index t 0 = t.val ∧ win0_4.index t 1 = 0) ∧ (win0_5.index t 0 = t.val ∧ win0_5.index t 1 = 0) := by decide +kernel

/-- The array's row that row `r` of point `t` is. -/
abbrev at_ (t : Fin cfg0.N) (r : Fin 544) : Fin 2176 := ⟨544 * t.val + r.val, by have := t.isLt.trans_eq N_0; omega⟩

theorem iblk0_apply (c : Dev nD) (t : Fin cfg0.N) (r : Fin 544) : row (R := 544) (iblk m c 0 t) r = row (R := 2176) (m (c.tc.loc main_arg0)) (at_ t r) := by
  obtain ⟨⟨h0, h1⟩, -⟩ := index_facts t
  funext k
  show (iblk m c 0 t : Vec Ideal S544x1024 .f32) (ix2 r k) = m (c.tc.loc main_arg0) (ix2 (at_ t r) k)
  exact (View.read_apply _ _).trans (congrArg (m (c.tc.loc main_arg0)) (eq_ix2 (show win0_0.index t 0 * 544 + 1 * r.val = 544 * t.val + r.val by omega) (show win0_0.index t 1 * 1024 + 1 * k.val = k.val by rw [h1]; omega)))

theorem iblk1_apply (c : Dev nD) (t : Fin cfg0.N) (r : Fin 544) : row (R := 544) (iblk m c 1 t) r = row (R := 2176) (m (c.tc.loc main_arg1)) (at_ t r) := by
  obtain ⟨-, ⟨h0, h1⟩, -⟩ := index_facts t
  funext k
  show (iblk m c 1 t : Vec Ideal S544x1024 .f32) (ix2 r k) = m (c.tc.loc main_arg1) (ix2 (at_ t r) k)
  exact (View.read_apply _ _).trans (congrArg (m (c.tc.loc main_arg1)) (eq_ix2 (show win0_1.index t 0 * 544 + 1 * r.val = 544 * t.val + r.val by omega) (show win0_1.index t 1 * 1024 + 1 * k.val = k.val by rw [h1]; omega)))

theorem iblk2_apply (c : Dev nD) (t : Fin cfg0.N) : row (R := 1) (iblk m c 2 t) 0 = row (R := 1) (m (c.tc.loc main_arg2)) 0 := by
  obtain ⟨-, -, ⟨h0, h1⟩, -⟩ := index_facts t
  funext k
  show (iblk m c 2 t : Vec Ideal S1x1024 .f32) (ix2 0 k) = m (c.tc.loc main_arg2) (ix2 0 k)
  exact (View.read_apply _ _).trans (congrArg (m (c.tc.loc main_arg2)) (eq_ix2 (show win0_2.index t 0 * 1 + 1 * 0 = 0 by rw [h0]) (show win0_2.index t 1 * 1024 + 1 * k.val = k.val by rw [h1]; omega)))

theorem iblk3_apply (c : Dev nD) (t : Fin cfg0.N) : row (R := 1) (iblk m c 3 t) 0 = row (R := 1) (m (c.tc.loc main_arg3)) 0 := by
  obtain ⟨-, -, -, ⟨h0, h1⟩, -⟩ := index_facts t
  funext k
  show (iblk m c 3 t : Vec Ideal S1x1024 .f32) (ix2 0 k) = m (c.tc.loc main_arg3) (ix2 0 k)
  exact (View.read_apply _ _).trans (congrArg (m (c.tc.loc main_arg3)) (eq_ix2 (show win0_3.index t 0 * 1 + 1 * 0 = 0 by rw [h0]) (show win0_3.index t 1 * 1024 + 1 * k.val = k.val by rw [h1]; omega)))

/-- Window 4's array after the run. -/
abbrev res4 (c : Dev nD) : Buf (Elt Ideal) ((c : Thread nD τ).loc main_v0_0) := sumRows (R := 2176) (m (c.tc.loc main_arg0)) (m (c.tc.loc main_arg1)) (m (c.tc.loc main_arg2)) (m (c.tc.loc main_arg3))

/-- What a point writes back of window 4 is its block of the whole. -/
theorem flushed4_eq (c : Dev nD) (t : Fin cfg0.N) (_ : (cfg0.win 4).flush t = true) :
    (dats m 0 c).flushed 4 t = ((cfg0.win 4).blk t).view.read (Elt Ideal) (res4 m c) := by
  obtain ⟨-, -, -, -, ⟨h0, h1⟩, -⟩ := index_facts t
  rw [Value.flushed4_A m c t]
  funext y
  rw [View.read_apply]
  obtain ⟨r, j, rfl⟩ := idx2 (R := 544) (C := 1024) y
  have hr : sumRows (R := 544) (iblk m c 0 t) (iblk m c 1 t) (iblk m c 2 t) (iblk m c 3 t) (ix2 r j) = res4 m c (ix2 (at_ t r) j) := by
    rw [sumRows_apply]
    unfold res4
    rw [sumRows_apply, iblk0_apply, iblk1_apply, iblk2_apply, iblk3_apply]
  refine ((sum_body _ _ _ _ _ _ _ _ _ _ _ _ _ _ _ _ _ _ (ix2 r j)).trans hr).trans (congrArg (res4 m c) ?_)
  exact Eq.symm (eq_ix2 (show win0_4.index t 0 * 544 + 1 * r.val = 544 * t.val + r.val by rw [h0]; omega) (show win0_4.index t 1 * 1024 + 1 * j.val = j.val by rw [h1]; omega))

/-- The points' blocks of window 4 cover the rows. -/
theorem cover4 (i : S2176x1024.Idx) : ∃ t : Fin cfg0.N, (cfg0.win 4).flush t = true ∧ i ∈ ((cfg0.win 4).blk t).view.set := by
  have i0 : (i 0).val < 2176 := (i 0).isLt
  have i1 : (i 1).val < 1024 := (i 1).isLt
  obtain ⟨t, ht⟩ : ∃ t : Fin cfg0.N, t.val = (i 0).val / 544 := ⟨⟨(i 0).val / 544, (show (i 0).val / 544 < 4 by omega).trans_eq N_0.symm⟩, rfl⟩
  obtain ⟨-, -, -, -, ⟨h0, h1⟩, -⟩ := index_facts t
  refine ⟨t, flush0_4 t, ?_⟩
  show i ∈ ((View.whole main_v0_0).slice (win0_4.rect t)).set
  rw [View.set_slice_whole, Rect.mem_set_unit]
  exact in_block2 (p := 544) (q := 1024) h0 h1 (by omega) (by omega)

theorem final4 (c : Dev nD) : (dats m 0 c).arrAt 4 cfg0.N = res4 m c :=
  (dats m 0 c).arrAt_eq_of_cover 4 (res4 m c) (flushed4_eq m c) cover4

/-- Window 5's array after the run. -/
abbrev res5 (c : Dev nD) : Buf (Elt Ideal) ((c : Thread nD τ).loc main_v0_1) := normRows (R := 2176) (m (c.tc.loc main_arg0)) (m (c.tc.loc main_arg1)) (m (c.tc.loc main_arg2)) (m (c.tc.loc main_arg3))

/-- What a point writes back of window 5 is its block of the whole. -/
theorem flushed5_eq (c : Dev nD) (t : Fin cfg0.N) (_ : (cfg0.win 5).flush t = true) :
    (dats m 0 c).flushed 5 t = ((cfg0.win 5).blk t).view.read (Elt Ideal) (res5 m c) := by
  obtain ⟨-, -, -, -, -, ⟨h0, h1⟩⟩ := index_facts t
  rw [Value.flushed5_A m c t]
  funext y
  rw [View.read_apply]
  obtain ⟨r, j, rfl⟩ := idx2 (R := 544) (C := 1024) y
  have hr : normRows (R := 544) (iblk m c 0 t) (iblk m c 1 t) (iblk m c 2 t) (iblk m c 3 t) (ix2 r j) = res5 m c (ix2 (at_ t r) j) := by
    rw [normRows_apply]
    unfold res5
    rw [normRows_apply, iblk0_apply, iblk1_apply, iblk2_apply, iblk3_apply]
  refine ((norm_body _ _ _ _ _ _ _ _ _ _ _ _ _ _ _ _ _ _ (ix2 r j)).trans hr).trans (congrArg (res5 m c) ?_)
  exact Eq.symm (eq_ix2 (show win0_5.index t 0 * 544 + 1 * r.val = 544 * t.val + r.val by rw [h0]; omega) (show win0_5.index t 1 * 1024 + 1 * j.val = j.val by rw [h1]; omega))

/-- The points' blocks of window 5 cover the rows. -/
theorem cover5 (i : S2176x1024.Idx) : ∃ t : Fin cfg0.N, (cfg0.win 5).flush t = true ∧ i ∈ ((cfg0.win 5).blk t).view.set := by
  have i0 : (i 0).val < 2176 := (i 0).isLt
  have i1 : (i 1).val < 1024 := (i 1).isLt
  obtain ⟨t, ht⟩ : ∃ t : Fin cfg0.N, t.val = (i 0).val / 544 := ⟨⟨(i 0).val / 544, (show (i 0).val / 544 < 4 by omega).trans_eq N_0.symm⟩, rfl⟩
  obtain ⟨-, -, -, -, -, ⟨h0, h1⟩⟩ := index_facts t
  refine ⟨t, flush0_5 t, ?_⟩
  show i ∈ ((View.whole main_v0_1).slice (win0_5.rect t)).set
  rw [View.set_slice_whole, Rect.mem_set_unit]
  exact in_block2 (p := 544) (q := 1024) h0 h1 (by omega) (by omega)

theorem final5 (c : Dev nD) : (dats m 0 c).arrAt 5 cfg0.N = res5 m c :=
  (dats m 0 c).arrAt_eq_of_cover 5 (res5 m c) (flushed5_eq m c) cover5

end Kernel

section Reference

open Cert.PostRIdeal.Read

/-- The reference's sum is the same. -/
theorem ref_sum (x0 x1 : Vec Ideal S2176x1024 .f32) (p0 p1 : Vec Ideal S1x1024 .f32) (r : Fin 2176) (j : Fin 1024) :
    val_main_v12 (F := Ideal) x0 x1 p0 (ix2 r j) = sumRows (R := 2176) x0 x1 p0 p1 (ix2 r j) := by
  pointwise [val_main_v12, val_main_v11, val_main_v10, val_main_v9, val_main_v8, val_main_v7, val_main_v6, val_main_v5, val_main_v4, val_main_v3, val_main_v2, val_main_v1, val_main_v0, val_main_cst, val_main_cst_1]
  rfl

/-- The reference's normalised rows are the same. -/
theorem ref_norm (x0 x1 : Vec Ideal S2176x1024 .f32) (p0 p1 : Vec Ideal S1x1024 .f32) (r : Fin 2176) (j : Fin 1024) :
    val_main_v25 (F := Ideal) x0 x1 p0 p1 (ix2 r j) = normRows (R := 2176) x0 x1 p0 p1 (ix2 r j) := by
  pointwise [val_main_v25, val_main_v24, val_main_v23, val_main_v22, val_main_v21, val_main_v20, val_main_v19, val_main_v18, val_main_v17, val_main_v16, val_main_v15, val_main_v14, val_main_v13, val_main_cst_2, val_main_cst_3, val_main_cst_4]
  simp only [ref_sum x0 x1 p0 p1, sumRows_apply]
  rfl

end Reference

/-- At the extended reals both end with the same results. -/
theorem algebraic : Cert.algebraic_PostKIdeal_PostRIdeal := by
  intro m g m' g' _ hag
  refine ⟨fun c => res4 m c, fun c => res5 m c, ?_, ?_⟩
  · exact (θ_run _ _ _).mono (fun r h c => ⟨(h c).1.trans (final4 m c), (h c).2.1.trans (final5 m c), (h c).2.2⟩) (PostKIdeal.Value.run_blocks m g)
  · refine (θ_run _ _ _).mono (fun r h c => ⟨(h c).1.trans ?_, (h c).2.1.trans ?_, (h c).2.2⟩) (PostRIdeal.Value.run (F := Ideal) m' g')
    all_goals obtain ⟨a0, a1, a2, a3⟩ := hag c
    · rw [PostRIdeal.Read.val_main_v12_eq, a0, a1, a2]
      funext i
      obtain ⟨a, b, rfl⟩ := idx2 (R := 2176) (C := 1024) i
      exact ref_sum _ _ _ _ a b
    · rw [PostRIdeal.Read.val_main_v25_eq, a0, a1, a2, a3]
      funext i
      obtain ⟨a, b, rfl⟩ := idx2 (R := 2176) (C := 1024) i
      exact ref_norm _ _ _ _ a b

end Cert.Post

end
-- ==== Proof.Opt.lean ====
module

public import proofs.«01_k».proof.Proof.Blocks
public import Idealize.ShloMosaic.Lib.DynamicIndex

@[expose] public section

/-! The optimiser's step on one device's shard of a weight, element by element, and the device's number. -/

set_option maxRecDepth 16384

noncomputable section

open Idealize.ShloMosaic Idealize.ShloMosaic.TcCoe

namespace Cert.OptMath

/-- A matrix, and a stack of matrices, of numbers. -/
abbrev Mat (R C : ℕ) : Type := (⟨2, ![R, C]⟩ : Shape).Idx → EReal
abbrev Stack (n R C : ℕ) : Type := (⟨3, ![n, R, C]⟩ : Shape).Idx → EReal

/-- The first moment after the step. -/
def newM (g m : EReal) : EReal := Ideal.ofBits FTy.f32 0x3F666666#32 * m + Ideal.ofBits FTy.f32 0x3DCCCCCD#32 * g

/-- The second moment after the step. -/
def newV (g v : EReal) : EReal := Ideal.ofBits FTy.f32 0x3F7FBE77#32 * v + Ideal.ofBits FTy.f32 0x3A83126F#32 * (g * g)

/-- The weight's change, with its decay. -/
def delta (w g m v : EReal) : EReal :=
  Ideal.ofBits FTy.f32 0xBA83126F#32 *
    (Ideal.div (Ideal.div (newM g m) (Ideal.ofBits FTy.f32 0x3F26BD02#32))
        (Ideal.sqrt (Ideal.div (newV g v) (Ideal.ofBits FTy.f32 0x3C231ACC#32)) + Ideal.ofBits FTy.f32 0x322BCC77#32)
      + Ideal.ofBits FTy.f32 0x3C23D70A#32 * w)

/-- These of whole matrices. -/
def newMs {R C : ℕ} (g m : Mat R C) : Mat R C := fun i => newM (g i) (m i)
def newVs {R C : ℕ} (g v : Mat R C) : Mat R C := fun i => newV (g i) (v i)
def deltas {R C : ℕ} (w g m v : Mat R C) : Mat R C := fun i => delta (w i) (g i) (m i) (v i)

/-- Slab `k` of a stack and every slab of another, summed. -/
def gSum {n p R C : ℕ} (k : Fin n) (x : Stack n R C) (y : Stack p R C) : Mat R C :=
  fun i => x (ix3 k (i 0) (i 1)) + ∑ s : Fin p, y (ix3 s (i 0) (i 1))

/-- Slab `k` of a stack, the one slab of a second and every slab of a third, summed. -/
def gSum2 {n p R C : ℕ} (k : Fin n) (x : Stack n R C) (z : Stack 1 R C) (y : Stack p R C) : Mat R C :=
  fun i => x (ix3 k (i 0) (i 1)) + z (ix3 0 (i 0) (i 1)) + ∑ s : Fin p, y (ix3 s (i 0) (i 1))

/-- A load of one slab of a stack. -/
theorem ld_slab {n R C : ℕ} {e : EltTy} {off : Fin 3 → ℕ}
    (inb : ∀ a, off a + (![1, R, C] : Fin 3 → ℕ) a ≤ (![n, R, C] : Fin 3 → ℕ) a)
    (x : (⟨3, ![n, R, C]⟩ : Shape).Idx → Elt Ideal e) (s : Fin n) (ho : off = ![s.val, 0, 0]) (r : Fin R) (j : Fin C) :
    View.ld (Val := Elt Ideal) (e' := e) x (Rect.unit (s := (⟨3, ![n, R, C]⟩ : Shape)) off ![1, R, C] inb) (ix3 0 r j) = x (ix3 s r j) := by
  subst ho
  refine congrArg x (funext fun a => Fin.ext ?_)
  match a with
  | ⟨0, _⟩ => show s.val + 1 * 0 = s.val; omega
  | ⟨1, _⟩ => show 0 + 1 * r.val = r.val; omega
  | ⟨2, _⟩ => show 0 + 1 * j.val = j.val; omega

/-- One slab of a stack lies inside it. -/
theorem slab_inb {n R C : ℕ} (s : Fin n) : ∀ a, (![s.val, 0, 0] : Fin 3 → ℕ) a + (![1, R, C] : Fin 3 → ℕ) a ≤ (![n, R, C] : Fin 3 → ℕ) a
  | ⟨0, _⟩ => show s.val + 1 ≤ n by omega
  | ⟨1, _⟩ => show 0 + R ≤ R by omega
  | ⟨2, _⟩ => show 0 + C ≤ C by omega

/-- That slab, loaded. -/
abbrev slab {n R C : ℕ} (x : (⟨3, ![n, R, C]⟩ : Shape).Idx → Elt Ideal .bf16) (s : Fin n) :=
  View.ld (Val := Elt Ideal) (e' := .bf16) x (Rect.unit (s := (⟨3, ![n, R, C]⟩ : Shape)) ![s.val, 0, 0] ![1, R, C] (slab_inb s))

/-- An index of the rectangle that is the whole array is that index. -/
theorem emb_whole {R C : ℕ} {off : Fin 2 → ℕ} (inb : ∀ a, off a + (![R, C] : Fin 2 → ℕ) a ≤ (![R, C] : Fin 2 → ℕ) a)
    (ho : off = ![0, 0]) (y : (⟨2, ![R, C]⟩ : Shape).Idx) :
    (Rect.unit (s := (⟨2, ![R, C]⟩ : Shape)) off ![R, C] inb).emb y = y := by
  subst ho
  funext a
  apply Fin.ext
  match a with
  | ⟨0, _⟩ => show 0 + 1 * (y 0).val = (y 0).val; omega
  | ⟨1, _⟩ => show 0 + 1 * (y 1).val = (y 1).val; omega

/-- An index of a matrix is a row and a column. -/
theorem idx2_eq {R C : ℕ} (y : (⟨2, ![R, C]⟩ : Shape).Idx) : ∃ (r : Fin R) (j : Fin C), y = ix2 r j :=
  ⟨y 0, y 1, by funext a; fin_cases a <;> rfl⟩

/-- A single piece that is the whole of a buffer agrees with what it holds. -/
theorem whole_piece {R C : ℕ} {inb} {g val : Mat R C} (hg : g = val) :
    ∀ p ∈ ([⟨Rect.unit (s := (⟨2, ![R, C]⟩ : Shape)) ![0, 0] ![R, C] inb, g⟩] : List (View.Piece (Elt Ideal) (⟨2, ![R, C]⟩ : Shape) .f32)),
      ∀ y, p.2 y = val (p.1.emb y) := by
  intro p hp y
  obtain rfl := List.mem_singleton.mp hp
  rw [emb_whole (R := R) (C := C) inb rfl y]
  exact congrFun hg y

/-- The index, in a matrix, of a block of rows' element. -/
theorem at2 {R C tr t : ℕ} {b : Fin 2 → ℕ} (hb : b = ![t, 0]) (r : Fin tr) (j : Fin C) (h : tr * t + r.val < R)
    (f : (⟨2, ![R, C]⟩ : Shape).Idx) (f0 : (f 0).val = b 0 * tr + 1 * r.val) (f1 : (f 1).val = b 1 * C + 1 * j.val) :
    f = ix2 ⟨tr * t + r.val, h⟩ j := by
  subst hb
  funext a
  apply Fin.ext
  match a with
  | ⟨0, _⟩ => exact f0.trans (show t * tr + 1 * r.val = tr * t + r.val by rw [Nat.mul_comm]; omega)
  | ⟨1, _⟩ => exact f1.trans (show 0 * C + 1 * j.val = j.val by omega)

/-- The index, in a stack, of a block of slabs' rows' element. -/
theorem at3 {n p R C tr k t : ℕ} {b : Fin 3 → ℕ} (hb : b = ![k, t, 0]) (s : Fin p) (r : Fin tr) (j : Fin C) (hs : k * p + s.val < n) (h : tr * t + r.val < R)
    (f : (⟨3, ![n, R, C]⟩ : Shape).Idx) (f0 : (f 0).val = b 0 * p + 1 * s.val) (f1 : (f 1).val = b 1 * tr + 1 * r.val) (f2 : (f 2).val = b 2 * C + 1 * j.val) :
    f = ix3 ⟨k * p + s.val, hs⟩ ⟨tr * t + r.val, h⟩ j := by
  subst hb
  funext a
  apply Fin.ext
  match a with
  | ⟨0, _⟩ => exact f0.trans (show k * p + 1 * s.val = k * p + s.val by omega)
  | ⟨1, _⟩ => exact f1.trans (show t * tr + 1 * r.val = tr * t + r.val by rw [Nat.mul_comm]; omega)
  | ⟨2, _⟩ => exact f2.trans (show 0 * C + 1 * j.val = j.val by omega)

/-- A row and column lie in the block of rows the row's number falls in. -/
theorem mem2 {R C tr t : ℕ} {b : Fin 2 → ℕ} (hb : b = ![t, 0]) (i : (⟨2, ![R, C]⟩ : Shape).Idx) (h : (i 0).val / tr = t) (h0 : 0 < tr) {inb} :
    i ∈ (Rect.unit (s := (⟨2, ![R, C]⟩ : Shape)) (fun a => b a * (![tr, C] : Fin 2 → ℕ) a) ![tr, C] inb).set := by
  subst hb h
  refine Rect.mem_set_unit.mpr fun a => ?_
  have i1 : (i 1).val < C := (i 1).isLt
  match a with
  | ⟨0, _⟩ =>
    show (i 0).val / tr * tr ≤ (i 0).val ∧ (i 0).val < (i 0).val / tr * tr + tr
    have e := Nat.div_add_mod' (i 0).val tr
    have l := Nat.mod_lt (i 0).val h0
    generalize (i 0).val / tr * tr = q at *
    omega
  | ⟨1, _⟩ => show 0 * C ≤ (i 1).val ∧ (i 1).val < 0 * C + C; omega

theorem zero2 : (![0, 0] : Fin 2 → ℕ) = fun _ => 0 := funext fun a => by fin_cases a <;> rfl
theorem zero3 : (![0, 0, 0] : Fin 3 → ℕ) = fun _ => 0 := funext fun a => by fin_cases a <;> rfl

/-- The device's number. -/
def num (x : (⟨1, ![1]⟩ : Shape).Idx → BitVec 32) : BitVec 32 := x (ix1 0)

theorem idx1_eq (i : (⟨1, ![1]⟩ : Shape).Idx) : i = ix1 0 := by
  funext a
  obtain rfl : a = 0 := Subsingleton.elim _ _
  exact Subsingleton.elim (α := Fin 1) _ _

/-- A word that is at least zero and less than eight, read signed, is one of eight numbers. -/
theorem lt_eight (b : BitVec 32) (h0 : IntOp.cmpi .sge b 0#32 = 1#1) (h8 : IntOp.cmpi .slt b 8#32 = 1#1) : b.toNat < 8 := by
  simp only [IntOp.cmpi, BitVec.sle, BitVec.slt] at h0 h8
  have h0' : (0 : Int) ≤ b.toInt := by by_contra h; simp [h] at h0
  have h8' : b.toInt < 8 := by by_contra h; simp [h] at h8
  rw [BitVec.toInt_eq_toNat_cond] at h0' h8'
  split at h0' <;> omega

/-- So a word made of a small number is that number. -/
theorem ofNat_lt {k n : ℕ} (h : k < n) : (BitVec.ofNat 32 k).toNat < n := by
  rw [BitVec.toNat_ofNat]; exact (Nat.mod_le _ _).trans_lt h

/-- A block of one slab's rows lies inside a stack of eight. -/
theorem block_inb {R C tr P k t : ℕ} {b : Fin 3 → ℕ} (hb : b = ![k, t, 0]) (hk : k < 8) (ht : t < P) (hP : P * tr = R) :
    ∀ a, (b a + 1) * (![1, tr, C] : Fin 3 → ℕ) a ≤ (![8, R, C] : Fin 3 → ℕ) a := by
  subst hb hP
  intro a
  match a with
  | ⟨0, _⟩ => show (k + 1) * 1 ≤ 8; omega
  | ⟨1, _⟩ => exact Nat.mul_le_mul_right tr ht
  | ⟨2, _⟩ => show (0 + 1) * C ≤ C; omega

/-- Summing what is chosen where the position is that number leaves the one element. -/
theorem pick (f : Fin 8 → EReal) (b : BitVec 32) (h : b.toNat < 8) :
    (∑ k : Fin 8, Scalar.select (IntOp.cmpi .eq (BitVec.ofNat 32 k.val) b) (f k) (Ideal.ofBits FTy.f32 0#32)) = f ⟨b.toNat, h⟩ := by
  have e : ∀ k : Fin 8, (BitVec.ofNat 32 k.val = b) ↔ k = ⟨b.toNat, h⟩ := fun k => by
    rw [← BitVec.toNat_inj, Fin.ext_iff, BitVec.toNat_ofNat, Nat.mod_eq_of_lt (by omega)]
  rw [Finset.sum_eq_single (⟨b.toNat, h⟩ : Fin 8)]
  · simp [IntOp.cmpi, Scalar.select]
  · intro k _ hk
    have : ¬ BitVec.ofNat 32 k.val = b := fun hh => hk ((e k).mp hh)
    have hb : (BitVec.ofNat 32 k.val == b) = false := beq_eq_false_iff_ne.mpr this
    simp [IntOp.cmpi, Scalar.select, hb]
  · intro hh; exact absurd (Finset.mem_univ _) hh

end Cert.OptMath
end
-- ==== Proof.OptSq.lean ====
module

public import proofs.«01_k».proof.Proof.Blocks
public import proofs.«01_k».proof.Proof.NormRows
public import proofs.«01_k».proof.Proof.Opt
public import proofs.«01_k».proof.Proof.Gen.OptSqK.Frame
public import proofs.«01_k».proof.Proof.Gen.OptSqKIdeal.Frame
public import proofs.«01_k».proof.Proof.Gen.OptSqRIdeal.Run
public import proofs.«01_k».proof.Proof.Gen.OptSqRIdeal.Read
public import proofs.«01_k».proof.Proof.Gen.Pre_pre30

@[expose] public section

/-! The optimiser's step for the weights of three square projections: one device's shard. -/

set_option maxRecDepth 16384

noncomputable section

open Idealize.ShloMosaic Idealize.ShloMosaic.TcCoe Idealize.SL.Sem

namespace Cert.OptSq

open Cert.OptMath

section
open Cert.OptSqK Cert.OptSqK.Gen

variable (m : (ℓ : Loc nD τ sig) → Buf (Elt Bits) ℓ)

/-- The gradient's block lies at the device's number, and at the grid point. -/
theorem indexK (i : grid0.Coords) : cc0_transform_0 inb_S1_S1_0 numel1_S1 (tbl m) i = ![(num (m ((0 : Dev nD).tc.loc main_arg0))).toNat, (BitVec.ofNat 32 (i 0).val).toNat, 0] := by
  have e : (tbl m).at 0 (Rect.unit (s := S1) ![0] S1.size inb_S1_S1_0) numel1_S1 = num (m ((0 : Dev nD).tc.loc main_arg0)) :=
    congrArg (m ((0 : Dev nD).tc.loc main_arg0)) (idx1_eq _)
  unfold cc0_transform_0
  rw [e]
  rfl

/-- The precondition says that the device's number is below eight, -/
theorem numK (h : Cert.Pre_OptSqK m) : (num (m ((0 : Dev nD).tc.loc main_arg0))).toNat < 8 :=
  lt_eight _ (congrFun (h 0).1 (ix1 0)) (congrFun (h 0).2 (ix1 0))

/-- so that block lies inside the array. -/
theorem okK (h : Cert.Pre_OptSqK m) : Ok m := fun i =>
  ⟨block_inb (tr := 128) (indexK m i) (numK m h) (ofNat_lt (i 0).isLt) (by decide), .inl rfl⟩
end

section
open Cert.OptSqKIdeal Cert.OptSqKIdeal.Gen

variable (m : (ℓ : Loc nD τ sig) → Buf (Elt Ideal) ℓ)

/-- The gradient's block lies at the device's number, and at the grid point. -/
theorem indexKIdeal (i : grid0.Coords) : cc0_transform_0 inb_S1_S1_0 numel1_S1 (tbl m) i = ![(num (m ((0 : Dev nD).tc.loc main_arg0))).toNat, (BitVec.ofNat 32 (i 0).val).toNat, 0] := by
  have e : (tbl m).at 0 (Rect.unit (s := S1) ![0] S1.size inb_S1_S1_0) numel1_S1 = num (m ((0 : Dev nD).tc.loc main_arg0)) :=
    congrArg (m ((0 : Dev nD).tc.loc main_arg0)) (idx1_eq _)
  unfold cc0_transform_0
  rw [e]
  rfl

/-- The precondition says that the device's number is below eight, -/
theorem numKIdeal (h : Cert.Pre_OptSqKIdeal m) : (num (m ((0 : Dev nD).tc.loc main_arg0))).toNat < 8 :=
  lt_eight _ (congrFun (h 0).1 (ix1 0)) (congrFun (h 0).2 (ix1 0))

/-- so that block lies inside the array. -/
theorem okKIdeal (h : Cert.Pre_OptSqKIdeal m) : Ok m := fun i =>
  ⟨block_inb (tr := 128) (indexKIdeal m i) (numKIdeal m h) (ofNat_lt (i 0).isLt) (by decide), .inl rfl⟩
end

open Cert.OptSqKIdeal Cert.OptSqKIdeal.Gen Cert.NormRows

/-- The gradient's sum on a block. -/
abbrev gsB (x0 : Vec Ideal S1x128x1024 .f32) (x1 : Vec Ideal S7x128x1024 .bf16) : Mat 128 1024 := gSum (n := 1) (R := 128) (C := 1024) 0 x0 x1

theorem grad_eq (x0 : Vec Ideal S1x128x1024 .f32) (x1 : Vec Ideal S7x128x1024 .bf16) (v : Fin 7 → Vec Ideal S1x128x1024 .bf16)
    (hv : ∀ s r j, v s (ix3 0 r j) = x1 (ix3 s r j)) : k0_pay4 x0 (v 0) (v 1) (v 2) (v 3) (v 4) (v 5) (v 6) = gsB x0 x1 := by
  funext y
  obtain ⟨r, j, rfl⟩ := idx2_eq (R := 128) (C := 1024) y
  pointwise [k0_pay4]
  simp only [hv]
  show _ = (x0 (ix3 0 r j) + ∑ s : Fin 7, x1 (ix3 s r j) : EReal)
  rw [Fin.sum_univ_seven]
  simp only [add_assoc]

theorem payM_apply (g : FVec Ideal S128x1024 .f32) (m : Vec Ideal S128x1024 .f32) : k0_pay1 g m = newMs (R := 128) (C := 1024) g m := by
  funext y
  obtain ⟨r, j, rfl⟩ := idx2_eq (R := 128) (C := 1024) y
  pointwise [k0_pay1]
  rfl

theorem payV_apply (g : FVec Ideal S128x1024 .f32) (v : Vec Ideal S128x1024 .f32) : k0_pay2 g v = newVs (R := 128) (C := 1024) g v := by
  funext y
  obtain ⟨r, j, rfl⟩ := idx2_eq (R := 128) (C := 1024) y
  pointwise [k0_pay2]
  rfl

theorem payD_apply (g : FVec Ideal S128x1024 .f32) (w m v : Vec Ideal S128x1024 .f32) : k0_pay3 g w m v = deltas (R := 128) (C := 1024) w g m v := by
  funext y
  obtain ⟨r, j, rfl⟩ := idx2_eq (R := 128) (C := 1024) y
  pointwise [k0_pay3]
  simp only [payM_apply, payV_apply]
  rfl

/-- What the body leaves in the four outputs: the gradient's sum, the weight's change and the two moments. -/
theorem body (c : Dev nD) (i : grid0.Coords) (b0 : Memref sig .tc .vmem S1x128x1024 .f32) (b1 : Memref sig .tc .vmem S7x128x1024 .bf16) (b2 b3 b4 b5 b6 b7 b8 : Memref sig .tc .vmem S128x1024 .f32) (h0 : b0.IsWhole) (h1 : b1.IsWhole) (h2 : b2.IsWhole) (h3 : b3.IsWhole) (h4 : b4.IsWhole) (h5 : b5.IsWhole) (h6 : b6.IsWhole) (h7 : b7.IsWhole) (h8 : b8.IsWhole)
    (x0 : Vec Ideal S1x128x1024 .f32) (x1 : Vec Ideal S7x128x1024 .bf16) (x2 x3 x4 : Vec Ideal S128x1024 .f32) (xt : TbBuf0 (F := Ideal) c tbM0_0) :
    out0_A_5 c i b0 h0 b1 h1 b2 h2 b3 h3 b4 h4 b5 h5 b6 h6 b7 h7 b8 h8 x0 x1 x2 x3 x4 xt = gsB x0 x1 ∧ out0_A_6 c i b0 h0 b1 h1 b2 h2 b3 h3 b4 h4 b5 h5 b6 h6 b7 h7 b8 h8 x0 x1 x2 x3 x4 xt = deltas (R := 128) (C := 1024) x2 (gsB x0 x1) x3 x4
      ∧ out0_A_7 c i b0 h0 b1 h1 b2 h2 b3 h3 b4 h4 b5 h5 b6 h6 b7 h7 b8 h8 x0 x1 x2 x3 x4 xt = newMs (R := 128) (C := 1024) (gsB x0 x1) x3 ∧ out0_A_8 c i b0 h0 b1 h1 b2 h2 b3 h3 b4 h4 b5 h5 b6 h6 b7 h7 b8 h8 x0 x1 x2 x3 x4 xt = newVs (R := 128) (C := 1024) (gsB x0 x1) x4 := by
  have hG := grad_eq x0 x1 (fun s : Fin 7 => slab (n := 7) (R := 128) (C := 1024) x1 s) fun s r j => ld_slab (slab_inb s) x1 s rfl r j
  refine ⟨funext fun y => read_agree _ _ _ y _ ?_ (cover0_A_5 ..), funext fun y => read_agree _ _ _ y _ ?_ (cover0_A_6 ..),
    funext fun y => read_agree _ _ _ y _ ?_ (cover0_A_7 ..), funext fun y => read_agree _ _ _ y _ ?_ (cover0_A_8 ..)⟩
  all_goals
    unfold kernelRun0_A
    dsimp only
    simp only [kernelRun0_A.sl.r, kernelRun0_A.sl.r_1, View.readAt_eq_ld, h0.read_unread, h1.read_unread, h2.read_unread, h3.read_unread, h4.read_unread, View.ld_unit_zero (S := S1x128x1024) zero3, View.ld_unit_zero (S := S128x1024) zero2]
  · exact whole_piece (R := 128) (C := 1024) hG
  · exact whole_piece (R := 128) (C := 1024) ((payD_apply _ x2 x3 x4).trans (congrArg (fun g => deltas x2 g x3 x4) hG))
  · exact whole_piece (R := 128) (C := 1024) ((payM_apply _ x3).trans (congrArg (fun g => newMs g x3) hG))
  · exact whole_piece (R := 128) (C := 1024) ((payV_apply _ x4).trans (congrArg (fun g => newVs g x4) hG))

section Kernel

variable (m : (ℓ : Loc nD τ sig) → Buf (Elt Ideal) ℓ) (O : Ok m) (h : Cert.Pre_OptSqKIdeal m)

/-- Where the blocks lie at each grid point: the matrices' all at the same rows. -/
theorem index_facts : ∀ t : Fin grid0.N, cc0_transform_2 (grid0.coords t) = ![t.val, 0] ∧ cc0_transform_1 (grid0.coords t) = ![0, t.val, 0]
    ∧ (BitVec.ofNat 32 (grid0.coords t 0).val).toNat = t.val := by decide +kernel

/-- The array's row that row `r` of point `t` is. -/
theorem row_lt (t : Fin grid0.N) (r : Fin 128) : 128 * t.val + r.val < 128 := by have := t.isLt.trans_eq N_0; omega
abbrev at_ (t : Fin grid0.N) (r : Fin 128) : Fin 128 := ⟨128 * t.val + r.val, row_lt t r⟩

theorem at_emb (t : Fin grid0.N) (r : Fin 128) (j : Fin 1024) (f : S128x1024.Idx) (f0 : (f 0).val = cc0_transform_2 (grid0.coords t) 0 * 128 + 1 * r.val)
    (f1 : (f 1).val = cc0_transform_2 (grid0.coords t) 1 * 1024 + 1 * j.val) : f = ix2 (at_ t r) j :=
  at2 (R := 128) (C := 1024) (tr := 128) (index_facts t).1 r j (row_lt t r) f f0 f1

/-- The device's number, one of eight. -/
abbrev me : Fin 8 := ⟨(num (m ((0 : Dev nD).tc.loc main_arg0))).toNat, numKIdeal m h⟩

/-- The blocks of the stacks and of the matrices, element by element. -/
theorem iblk0_apply (c : Dev nD) (t : Fin grid0.N) (r : Fin 128) (j : Fin 1024) : (iblk m O c 0 t) (ix3 0 r j : S1x128x1024.Idx) = (m (c.tc.loc main_arg1)) (ix3 (me m h) (at_ t r) j) := by
  refine (View.read_apply _ _).trans (Eq.trans (congrArg (m (c.tc.loc main_arg1)) (at3 (n := 8) (p := 1) (R := 128) (C := 1024) (tr := 128) ((indexKIdeal m (grid0.coords t)).trans (by rw [(index_facts t).2.2])) 0 r j (by have := numKIdeal m h; show _ * 1 + 0 < 8; omega) (row_lt t r) _ rfl rfl rfl)) (congrArg (m (c.tc.loc main_arg1)) (congrArg (fun k : Fin 8 => (ix3 k (at_ t r) j : S8x128x1024.Idx)) (Fin.ext ?_))))
  exact Nat.mul_one _

theorem iblk1_apply (c : Dev nD) (t : Fin grid0.N) (s : Fin 7) (r : Fin 128) (j : Fin 1024) : (iblk m O c 1 t) (ix3 s r j : S7x128x1024.Idx) = (m (c.tc.loc main_arg2)) (ix3 s (at_ t r) j) := by
  refine (View.read_apply _ _).trans (Eq.trans (congrArg (m (c.tc.loc main_arg2)) (at3 (n := 7) (p := 7) (R := 128) (C := 1024) (tr := 128) (index_facts t).2.1 s r j (by omega) (row_lt t r) _ rfl rfl rfl)) (congrArg (m (c.tc.loc main_arg2)) (congrArg (fun k : Fin 7 => (ix3 k (at_ t r) j : S7x128x1024.Idx)) (Fin.ext ?_))))
  show 0 * 7 + s.val = _
  omega

theorem iblks_apply (c : Dev nD) (t : Fin grid0.N) (r : Fin 128) (j : Fin 1024) :
    (iblk m O c 2 t) (ix2 r j : S128x1024.Idx) = (m (c.tc.loc main_arg3)) (ix2 (at_ t r) j) ∧ (iblk m O c 3 t) (ix2 r j : S128x1024.Idx) = (m (c.tc.loc main_arg4)) (ix2 (at_ t r) j) ∧ (iblk m O c 4 t) (ix2 r j : S128x1024.Idx) = (m (c.tc.loc main_arg5)) (ix2 (at_ t r) j) :=
  ⟨(View.read_apply _ _).trans (congrArg (m (c.tc.loc main_arg3)) (at_emb t r j _ rfl rfl)), (View.read_apply _ _).trans (congrArg (m (c.tc.loc main_arg4)) (at_emb t r j _ rfl rfl)), (View.read_apply _ _).trans (congrArg (m (c.tc.loc main_arg5)) (at_emb t r j _ rfl rfl))⟩

/-- The results: the device's own slab of the gradient and the slabs received, summed; the weight's change; the moments. -/
abbrev resG (c : Dev nD) : Buf (Elt Ideal) ((c : Thread nD τ).loc main_v0_0) := gSum (n := 8) (R := 128) (C := 1024) (me m h) (m (c.tc.loc main_arg1)) (m (c.tc.loc main_arg2))
abbrev resD (c : Dev nD) : Buf (Elt Ideal) ((c : Thread nD τ).loc main_v0_1) := deltas (R := 128) (C := 1024) (m (c.tc.loc main_arg3)) (resG m h c) (m (c.tc.loc main_arg4)) (m (c.tc.loc main_arg5))
abbrev resM (c : Dev nD) : Buf (Elt Ideal) ((c : Thread nD τ).loc main_v0_2) := newMs (R := 128) (C := 1024) (resG m h c) (m (c.tc.loc main_arg4))
abbrev resV (c : Dev nD) : Buf (Elt Ideal) ((c : Thread nD τ).loc main_v0_3) := newVs (R := 128) (C := 1024) (resG m h c) (m (c.tc.loc main_arg5))

/-- The sum of a point's blocks is the block of the sum. -/
theorem sum_block (c : Dev nD) (t : Fin grid0.N) (r : Fin 128) (j : Fin 1024) : gsB (iblk m O c 0 t) (iblk m O c 1 t) (ix2 r j) = resG m h c (ix2 (at_ t r) j) :=
  congrArg₂ (α := EReal) (β := EReal) (· + ·) (iblk0_apply m O h c t r j) (Finset.sum_congr rfl fun s _ => iblk1_apply m O c t s r j)

/-- The grid point whose blocks hold a row. -/
theorem point (i : S128x1024.Idx) : ∃ t : Fin grid0.N, (i 0).val / 128 = t.val := by
  have i0 : (i 0).val < 128 := (i 0).isLt
  exact ⟨⟨(i 0).val / 128, (show (i 0).val / 128 < 1 by omega).trans_eq N_0.symm⟩, rfl⟩

theorem cut5 (t : Fin grid0.N) (x : Vec Ideal S128x1024 .f32) (y : S128x1024.Idx) : ((cfgM m O).win 5).cut (grid0.coords t) x y = x y := rfl

/-- Output 5 after the run. -/
theorem final5 (c : Dev nD) : (dats m O 0 c).arrAt 5 (cfgM m O).N = resG m h c := by
  refine (dats m O 0 c).arrAt_eq_of_cover 5 (resG m h c) (fun t _ => ?_) fun (i : S128x1024.Idx) => ?_
  · show ((cfgM m O).win 5).cut (grid0.coords t) ((dats m O 0 c).after 5 t) = _
    rw [after0_5]
    funext y
    obtain ⟨r, j, rfl⟩ := idx2_eq (R := 128) (C := 1024) y
    refine Eq.trans ?_ (View.read_apply _ _).symm
    refine Eq.trans (b := resG m h c (ix2 (at_ t r) j)) ((cut5 m O t _ _).trans ?_) ?_
    rotate_left
    · exact (congrArg (resG m h c) (at_emb t r j _ rfl rfl)).symm
    obtain ⟨hw, hm, hv⟩ := iblks_apply m O c t r j
    unfold outsAt0
    dsimp only
    rw [(body (x0 := iblk m O c 0 t) (x1 := iblk m O c 1 t) (x2 := iblk m O c 2 t) (x3 := iblk m O c 3 t) (x4 := iblk m O c 4 t) (xt := tbl m 0) ..).1]
    exact sum_block m O h c t r j
  · obtain ⟨t, ht⟩ := point i
    exact ⟨t, flush0_5 (adm m O) t, Eq.mpr (congrArg (i ∈ ·) (View.set_slice_whole main_v0_0 (((cfgM m O).win 5).rect t)))
      (mem2 (R := 128) (C := 1024) (tr := 128) (index_facts t).1 i ht (by decide))⟩

theorem cut6 (t : Fin grid0.N) (x : Vec Ideal S128x1024 .f32) (y : S128x1024.Idx) : ((cfgM m O).win 6).cut (grid0.coords t) x y = x y := rfl

/-- Output 6 after the run. -/
theorem final6 (c : Dev nD) : (dats m O 0 c).arrAt 6 (cfgM m O).N = resD m h c := by
  refine (dats m O 0 c).arrAt_eq_of_cover 6 (resD m h c) (fun t _ => ?_) fun (i : S128x1024.Idx) => ?_
  · show ((cfgM m O).win 6).cut (grid0.coords t) ((dats m O 0 c).after 6 t) = _
    rw [after0_6]
    funext y
    obtain ⟨r, j, rfl⟩ := idx2_eq (R := 128) (C := 1024) y
    refine Eq.trans ?_ (View.read_apply _ _).symm
    refine Eq.trans (b := resD m h c (ix2 (at_ t r) j)) ((cut6 m O t _ _).trans ?_) ?_
    rotate_left
    · exact (congrArg (resD m h c) (at_emb t r j _ rfl rfl)).symm
    obtain ⟨hw, hm, hv⟩ := iblks_apply m O c t r j
    unfold outsAt0
    dsimp only
    rw [(body (x0 := iblk m O c 0 t) (x1 := iblk m O c 1 t) (x2 := iblk m O c 2 t) (x3 := iblk m O c 3 t) (x4 := iblk m O c 4 t) (xt := tbl m 0) ..).2.1]
    unfold deltas; rw [sum_block m O h c t r j, hw, hm, hv]; rfl
  · obtain ⟨t, ht⟩ := point i
    exact ⟨t, flush0_6 (adm m O) t, Eq.mpr (congrArg (i ∈ ·) (View.set_slice_whole main_v0_1 (((cfgM m O).win 6).rect t)))
      (mem2 (R := 128) (C := 1024) (tr := 128) (index_facts t).1 i ht (by decide))⟩

theorem cut7 (t : Fin grid0.N) (x : Vec Ideal S128x1024 .f32) (y : S128x1024.Idx) : ((cfgM m O).win 7).cut (grid0.coords t) x y = x y := rfl

/-- Output 7 after the run. -/
theorem final7 (c : Dev nD) : (dats m O 0 c).arrAt 7 (cfgM m O).N = resM m h c := by
  refine (dats m O 0 c).arrAt_eq_of_cover 7 (resM m h c) (fun t _ => ?_) fun (i : S128x1024.Idx) => ?_
  · show ((cfgM m O).win 7).cut (grid0.coords t) ((dats m O 0 c).after 7 t) = _
    rw [after0_7]
    funext y
    obtain ⟨r, j, rfl⟩ := idx2_eq (R := 128) (C := 1024) y
    refine Eq.trans ?_ (View.read_apply _ _).symm
    refine Eq.trans (b := resM m h c (ix2 (at_ t r) j)) ((cut7 m O t _ _).trans ?_) ?_
    rotate_left
    · exact (congrArg (resM m h c) (at_emb t r j _ rfl rfl)).symm
    obtain ⟨hw, hm, hv⟩ := iblks_apply m O c t r j
    unfold outsAt0
    dsimp only
    rw [(body (x0 := iblk m O c 0 t) (x1 := iblk m O c 1 t) (x2 := iblk m O c 2 t) (x3 := iblk m O c 3 t) (x4 := iblk m O c 4 t) (xt := tbl m 0) ..).2.2.1]
    unfold newMs; rw [sum_block m O h c t r j, hm]; rfl
  · obtain ⟨t, ht⟩ := point i
    exact ⟨t, flush0_7 (adm m O) t, Eq.mpr (congrArg (i ∈ ·) (View.set_slice_whole main_v0_2 (((cfgM m O).win 7).rect t)))
      (mem2 (R := 128) (C := 1024) (tr := 128) (index_facts t).1 i ht (by decide))⟩

theorem cut8 (t : Fin grid0.N) (x : Vec Ideal S128x1024 .f32) (y : S128x1024.Idx) : ((cfgM m O).win 8).cut (grid0.coords t) x y = x y := rfl

/-- Output 8 after the run. -/
theorem final8 (c : Dev nD) : (dats m O 0 c).arrAt 8 (cfgM m O).N = resV m h c := by
  refine (dats m O 0 c).arrAt_eq_of_cover 8 (resV m h c) (fun t _ => ?_) fun (i : S128x1024.Idx) => ?_
  · show ((cfgM m O).win 8).cut (grid0.coords t) ((dats m O 0 c).after 8 t) = _
    rw [after0_8]
    funext y
    obtain ⟨r, j, rfl⟩ := idx2_eq (R := 128) (C := 1024) y
    refine Eq.trans ?_ (View.read_apply _ _).symm
    refine Eq.trans (b := resV m h c (ix2 (at_ t r) j)) ((cut8 m O t _ _).trans ?_) ?_
    rotate_left
    · exact (congrArg (resV m h c) (at_emb t r j _ rfl rfl)).symm
    obtain ⟨hw, hm, hv⟩ := iblks_apply m O c t r j
    unfold outsAt0
    dsimp only
    rw [(body (x0 := iblk m O c 0 t) (x1 := iblk m O c 1 t) (x2 := iblk m O c 2 t) (x3 := iblk m O c 3 t) (x4 := iblk m O c 4 t) (xt := tbl m 0) ..).2.2.2]
    unfold newVs; rw [sum_block m O h c t r j, hv]; rfl
  · obtain ⟨t, ht⟩ := point i
    exact ⟨t, flush0_8 (adm m O) t, Eq.mpr (congrArg (i ∈ ·) (View.set_slice_whole main_v0_3 (((cfgM m O).win 8).rect t)))
      (mem2 (R := 128) (C := 1024) (tr := 128) (index_facts t).1 i ht (by decide))⟩

end Kernel

section Reference

open Cert.OptSqRIdeal.Read

variable (x0 : Vec Ideal S1 .i32) (x1 : Vec Ideal S8x128x1024 .f32) (x2 : Vec Ideal S7x128x1024 .bf16) (x3 : Vec Ideal S128x1024 .f32) (x4 : Vec Ideal S128x1024 .f32) (x5 : Vec Ideal S128x1024 .f32) (h : (num x0).toNat < 8)

/-- The slab the reference chooses among the eight is the device's. -/
theorem ref_own (r : Fin 128) (j : Fin 1024) : val_main_v6 (F := Ideal) x0 x1 (ix2 r j) = x1 (ix3 ⟨(num x0).toNat, h⟩ r j) := by
  pointwise [val_main_v6, val_main_v5, val_main_v4, val_main_v3, val_main_v2, val_main_v1, val_main_v0, val_main_call0_v2, val_main_call0_v1, val_main_call0_v0, val_main_cst_0, val_main_cst]
  exact pick (fun k => x1 (ix3 k r j)) (num x0) h

/-- The reference's results are the same functions. -/
theorem ref_G : val_main_v9 (F := Ideal) x0 x1 x2 = gSum (n := 8) (R := 128) (C := 1024) ⟨(num x0).toNat, h⟩ x1 x2 := by
  funext i
  obtain ⟨r, j, rfl⟩ := idx2_eq (R := 128) (C := 1024) i
  pointwise [val_main_v9, val_main_v8, val_main_v7, val_main_cst_1]
  rw [ref_own x0 x1 h]
  rfl

theorem ref_M : val_main_v14 (F := Ideal) x0 x1 x2 x4 = newMs (val_main_v9 (F := Ideal) x0 x1 x2) x4 := by
  funext i
  obtain ⟨r, j, rfl⟩ := idx2_eq (R := 128) (C := 1024) i
  pointwise [val_main_v14, val_main_v13, val_main_v12, val_main_v11, val_main_v10, val_main_cst_2, val_main_cst_3]
  rfl

theorem ref_V : val_main_v20 (F := Ideal) x0 x1 x2 x5 = newVs (val_main_v9 (F := Ideal) x0 x1 x2) x5 := by
  funext i
  obtain ⟨r, j, rfl⟩ := idx2_eq (R := 128) (C := 1024) i
  pointwise [val_main_v20, val_main_v19, val_main_v18, val_main_v17, val_main_v16, val_main_v15, val_main_cst_4, val_main_cst_5]
  rfl

theorem ref_D : val_main_v33 (F := Ideal) x0 x1 x2 x3 x4 x5 = deltas x3 (val_main_v9 (F := Ideal) x0 x1 x2) x4 x5 := by
  funext i
  obtain ⟨r, j, rfl⟩ := idx2_eq (R := 128) (C := 1024) i
  pointwise [val_main_v33, val_main_v32, val_main_v31, val_main_v30, val_main_v29, val_main_v28, val_main_v27, val_main_v26, val_main_v25, val_main_v24, val_main_v23, val_main_v22, val_main_v21, val_main_cst_6, val_main_cst_7, val_main_cst_8, val_main_cst_9, val_main_cst_10]
  rw [ref_M, ref_V]
  rfl

end Reference

/-- At the extended reals both end with the same results. -/
theorem algebraic : Cert.algebraic_OptSqKIdeal_OptSqRIdeal := by
  intro m g m' g' hp hag
  refine ⟨fun c => resG m hp c, fun c => resD m hp c, fun c => resM m hp c, fun c => resV m hp c, ?_, ?_⟩
  · exact (θ_run _ _ _).mono (fun r h c => ⟨((h.2 c).1 5).trans (final5 m (okKIdeal m hp) hp c), ((h.2 c).1 6).trans (final6 m (okKIdeal m hp) hp c), ((h.2 c).1 7).trans (final7 m (okKIdeal m hp) hp c), ((h.2 c).1 8).trans (final8 m (okKIdeal m hp) hp c), h.1 c⟩)
      (θ_run_and (Gen.unchanged m g (okKIdeal m hp)) (Gen.run_main m g (okKIdeal m hp)))
  · refine (θ_run _ _ _).mono (fun r h c => ⟨(h c).1.trans ?_, (h c).2.1.trans ?_, (h c).2.2.1.trans ?_, (h c).2.2.2.1.trans ?_, (h c).2.2.2.2⟩) (OptSqRIdeal.Value.run (F := Ideal) m' g')
    all_goals obtain ⟨a0, a1, a2, a3, a4, a5⟩ := hag c
    all_goals obtain rfl : c = 0 := Subsingleton.elim _ _
    · rw [OptSqRIdeal.Read.val_main_v9_eq, a0, a1, a2]
      exact ref_G _ _ _ (numKIdeal m hp)
    · rw [OptSqRIdeal.Read.val_main_v33_eq, a0, a1, a2, a3, a4, a5, ref_D, ref_G _ _ _ (numKIdeal m hp)]
    · rw [OptSqRIdeal.Read.val_main_v14_eq, a0, a1, a2, a4, ref_M, ref_G _ _ _ (numKIdeal m hp)]
    · rw [OptSqRIdeal.Read.val_main_v20_eq, a0, a1, a2, a5, ref_V, ref_G _ _ _ (numKIdeal m hp)]

end Cert.OptSq

end
-- ==== Proof.OptFout.lean ====
module

public import proofs.«01_k».proof.Proof.Blocks
public import proofs.«01_k».proof.Proof.NormRows
public import proofs.«01_k».proof.Proof.Opt
public import proofs.«01_k».proof.Proof.Gen.OptFoutK.Frame
public import proofs.«01_k».proof.Proof.Gen.OptFoutKIdeal.Frame
public import proofs.«01_k».proof.Proof.Gen.OptFoutRIdeal.Run
public import proofs.«01_k».proof.Proof.Gen.OptFoutRIdeal.Read
public import proofs.«01_k».proof.Proof.Gen.Pre_pre31

@[expose] public section

/-! The optimiser's step for the feed-forward's output weight: one device's shard. -/

set_option maxRecDepth 16384

noncomputable section

open Idealize.ShloMosaic Idealize.ShloMosaic.TcCoe Idealize.SL.Sem

namespace Cert.OptFout

open Cert.OptMath

section
open Cert.OptFoutK Cert.OptFoutK.Gen

variable (m : (ℓ : Loc nD τ sig) → Buf (Elt Bits) ℓ)

/-- The gradient's block lies at the device's number, and at the grid point. -/
theorem indexK (i : grid0.Coords) : cc0_transform_0 inb_S1_S1_0 numel1_S1 (tbl m) i = ![(num (m ((0 : Dev nD).tc.loc main_arg0))).toNat, (BitVec.ofNat 32 (i 0).val).toNat, 0] := by
  have e : (tbl m).at 0 (Rect.unit (s := S1) ![0] S1.size inb_S1_S1_0) numel1_S1 = num (m ((0 : Dev nD).tc.loc main_arg0)) :=
    congrArg (m ((0 : Dev nD).tc.loc main_arg0)) (idx1_eq _)
  unfold cc0_transform_0
  rw [e]
  rfl

/-- The precondition says that the device's number is below eight, -/
theorem numK (h : Cert.Pre_OptFoutK m) : (num (m ((0 : Dev nD).tc.loc main_arg0))).toNat < 8 :=
  lt_eight _ (congrFun (h 0).1 (ix1 0)) (congrFun (h 0).2 (ix1 0))

/-- so that block lies inside the array. -/
theorem okK (h : Cert.Pre_OptFoutK m) : Ok m := fun i =>
  ⟨block_inb (tr := 352) (indexK m i) (numK m h) (ofNat_lt (i 0).isLt) (by decide), .inl rfl⟩
end

section
open Cert.OptFoutKIdeal Cert.OptFoutKIdeal.Gen

variable (m : (ℓ : Loc nD τ sig) → Buf (Elt Ideal) ℓ)

/-- The gradient's block lies at the device's number, and at the grid point. -/
theorem indexKIdeal (i : grid0.Coords) : cc0_transform_0 inb_S1_S1_0 numel1_S1 (tbl m) i = ![(num (m ((0 : Dev nD).tc.loc main_arg0))).toNat, (BitVec.ofNat 32 (i 0).val).toNat, 0] := by
  have e : (tbl m).at 0 (Rect.unit (s := S1) ![0] S1.size inb_S1_S1_0) numel1_S1 = num (m ((0 : Dev nD).tc.loc main_arg0)) :=
    congrArg (m ((0 : Dev nD).tc.loc main_arg0)) (idx1_eq _)
  unfold cc0_transform_0
  rw [e]
  rfl

/-- The precondition says that the device's number is below eight, -/
theorem numKIdeal (h : Cert.Pre_OptFoutKIdeal m) : (num (m ((0 : Dev nD).tc.loc main_arg0))).toNat < 8 :=
  lt_eight _ (congrFun (h 0).1 (ix1 0)) (congrFun (h 0).2 (ix1 0))

/-- so that block lies inside the array. -/
theorem okKIdeal (h : Cert.Pre_OptFoutKIdeal m) : Ok m := fun i =>
  ⟨block_inb (tr := 352) (indexKIdeal m i) (numKIdeal m h) (ofNat_lt (i 0).isLt) (by decide), .inl rfl⟩
end

open Cert.OptFoutKIdeal Cert.OptFoutKIdeal.Gen Cert.NormRows

/-- The gradient's sum on a block. -/
abbrev gsB (x0 : Vec Ideal S1x352x1024 .f32) (x1 : Vec Ideal S7x352x1024 .bf16) : Mat 352 1024 := gSum (n := 1) (R := 352) (C := 1024) 0 x0 x1

theorem grad_eq (x0 : Vec Ideal S1x352x1024 .f32) (x1 : Vec Ideal S7x352x1024 .bf16) (v : Fin 7 → Vec Ideal S1x352x1024 .bf16)
    (hv : ∀ s r j, v s (ix3 0 r j) = x1 (ix3 s r j)) : k0_pay4 x0 (v 0) (v 1) (v 2) (v 3) (v 4) (v 5) (v 6) = gsB x0 x1 := by
  funext y
  obtain ⟨r, j, rfl⟩ := idx2_eq (R := 352) (C := 1024) y
  pointwise [k0_pay4]
  simp only [hv]
  show _ = (x0 (ix3 0 r j) + ∑ s : Fin 7, x1 (ix3 s r j) : EReal)
  rw [Fin.sum_univ_seven]
  simp only [add_assoc]

theorem payM_apply (g : FVec Ideal S352x1024 .f32) (m : Vec Ideal S352x1024 .f32) : k0_pay1 g m = newMs (R := 352) (C := 1024) g m := by
  funext y
  obtain ⟨r, j, rfl⟩ := idx2_eq (R := 352) (C := 1024) y
  pointwise [k0_pay1]
  rfl

theorem payV_apply (g : FVec Ideal S352x1024 .f32) (v : Vec Ideal S352x1024 .f32) : k0_pay2 g v = newVs (R := 352) (C := 1024) g v := by
  funext y
  obtain ⟨r, j, rfl⟩ := idx2_eq (R := 352) (C := 1024) y
  pointwise [k0_pay2]
  rfl

theorem payD_apply (g : FVec Ideal S352x1024 .f32) (w m v : Vec Ideal S352x1024 .f32) : k0_pay3 g w m v = deltas (R := 352) (C := 1024) w g m v := by
  funext y
  obtain ⟨r, j, rfl⟩ := idx2_eq (R := 352) (C := 1024) y
  pointwise [k0_pay3]
  simp only [payM_apply, payV_apply]
  rfl

/-- What the body leaves in the four outputs: the gradient's sum, the weight's change and the two moments. -/
theorem body (c : Dev nD) (i : grid0.Coords) (b0 : Memref sig .tc .vmem S1x352x1024 .f32) (b1 : Memref sig .tc .vmem S7x352x1024 .bf16) (b2 b3 b4 b5 b6 b7 b8 : Memref sig .tc .vmem S352x1024 .f32) (h0 : b0.IsWhole) (h1 : b1.IsWhole) (h2 : b2.IsWhole) (h3 : b3.IsWhole) (h4 : b4.IsWhole) (h5 : b5.IsWhole) (h6 : b6.IsWhole) (h7 : b7.IsWhole) (h8 : b8.IsWhole)
    (x0 : Vec Ideal S1x352x1024 .f32) (x1 : Vec Ideal S7x352x1024 .bf16) (x2 x3 x4 : Vec Ideal S352x1024 .f32) (xt : TbBuf0 (F := Ideal) c tbM0_0) :
    out0_A_5 c i b0 h0 b1 h1 b2 h2 b3 h3 b4 h4 b5 h5 b6 h6 b7 h7 b8 h8 x0 x1 x2 x3 x4 xt = gsB x0 x1 ∧ out0_A_6 c i b0 h0 b1 h1 b2 h2 b3 h3 b4 h4 b5 h5 b6 h6 b7 h7 b8 h8 x0 x1 x2 x3 x4 xt = deltas (R := 352) (C := 1024) x2 (gsB x0 x1) x3 x4
      ∧ out0_A_7 c i b0 h0 b1 h1 b2 h2 b3 h3 b4 h4 b5 h5 b6 h6 b7 h7 b8 h8 x0 x1 x2 x3 x4 xt = newMs (R := 352) (C := 1024) (gsB x0 x1) x3 ∧ out0_A_8 c i b0 h0 b1 h1 b2 h2 b3 h3 b4 h4 b5 h5 b6 h6 b7 h7 b8 h8 x0 x1 x2 x3 x4 xt = newVs (R := 352) (C := 1024) (gsB x0 x1) x4 := by
  have hG := grad_eq x0 x1 (fun s : Fin 7 => slab (n := 7) (R := 352) (C := 1024) x1 s) fun s r j => ld_slab (slab_inb s) x1 s rfl r j
  refine ⟨funext fun y => read_agree _ _ _ y _ ?_ (cover0_A_5 ..), funext fun y => read_agree _ _ _ y _ ?_ (cover0_A_6 ..),
    funext fun y => read_agree _ _ _ y _ ?_ (cover0_A_7 ..), funext fun y => read_agree _ _ _ y _ ?_ (cover0_A_8 ..)⟩
  all_goals
    unfold kernelRun0_A
    dsimp only
    simp only [kernelRun0_A.sl.r, kernelRun0_A.sl.r_1, View.readAt_eq_ld, h0.read_unread, h1.read_unread, h2.read_unread, h3.read_unread, h4.read_unread, View.ld_unit_zero (S := S1x352x1024) zero3, View.ld_unit_zero (S := S352x1024) zero2]
  · exact whole_piece (R := 352) (C := 1024) hG
  · exact whole_piece (R := 352) (C := 1024) ((payD_apply _ x2 x3 x4).trans (congrArg (fun g => deltas x2 g x3 x4) hG))
  · exact whole_piece (R := 352) (C := 1024) ((payM_apply _ x3).trans (congrArg (fun g => newMs g x3) hG))
  · exact whole_piece (R := 352) (C := 1024) ((payV_apply _ x4).trans (congrArg (fun g => newVs g x4) hG))

section Kernel

variable (m : (ℓ : Loc nD τ sig) → Buf (Elt Ideal) ℓ) (O : Ok m) (h : Cert.Pre_OptFoutKIdeal m)

/-- Where the blocks lie at each grid point: the matrices' all at the same rows. -/
theorem index_facts : ∀ t : Fin grid0.N, cc0_transform_2 (grid0.coords t) = ![t.val, 0] ∧ cc0_transform_1 (grid0.coords t) = ![0, t.val, 0]
    ∧ (BitVec.ofNat 32 (grid0.coords t 0).val).toNat = t.val := by decide +kernel

/-- The array's row that row `r` of point `t` is. -/
theorem row_lt (t : Fin grid0.N) (r : Fin 352) : 352 * t.val + r.val < 352 := by have := t.isLt.trans_eq N_0; omega
abbrev at_ (t : Fin grid0.N) (r : Fin 352) : Fin 352 := ⟨352 * t.val + r.val, row_lt t r⟩

theorem at_emb (t : Fin grid0.N) (r : Fin 352) (j : Fin 1024) (f : S352x1024.Idx) (f0 : (f 0).val = cc0_transform_2 (grid0.coords t) 0 * 352 + 1 * r.val)
    (f1 : (f 1).val = cc0_transform_2 (grid0.coords t) 1 * 1024 + 1 * j.val) : f = ix2 (at_ t r) j :=
  at2 (R := 352) (C := 1024) (tr := 352) (index_facts t).1 r j (row_lt t r) f f0 f1

/-- The device's number, one of eight. -/
abbrev me : Fin 8 := ⟨(num (m ((0 : Dev nD).tc.loc main_arg0))).toNat, numKIdeal m h⟩

/-- The blocks of the stacks and of the matrices, element by element. -/
theorem iblk0_apply (c : Dev nD) (t : Fin grid0.N) (r : Fin 352) (j : Fin 1024) : (iblk m O c 0 t) (ix3 0 r j : S1x352x1024.Idx) = (m (c.tc.loc main_arg1)) (ix3 (me m h) (at_ t r) j) := by
  refine (View.read_apply _ _).trans (Eq.trans (congrArg (m (c.tc.loc main_arg1)) (at3 (n := 8) (p := 1) (R := 352) (C := 1024) (tr := 352) ((indexKIdeal m (grid0.coords t)).trans (by rw [(index_facts t).2.2])) 0 r j (by have := numKIdeal m h; show _ * 1 + 0 < 8; omega) (row_lt t r) _ rfl rfl rfl)) (congrArg (m (c.tc.loc main_arg1)) (congrArg (fun k : Fin 8 => (ix3 k (at_ t r) j : S8x352x1024.Idx)) (Fin.ext ?_))))
  exact Nat.mul_one _

theorem iblk1_apply (c : Dev nD) (t : Fin grid0.N) (s : Fin 7) (r : Fin 352) (j : Fin 1024) : (iblk m O c 1 t) (ix3 s r j : S7x352x1024.Idx) = (m (c.tc.loc main_arg2)) (ix3 s (at_ t r) j) := by
  refine (View.read_apply _ _).trans (Eq.trans (congrArg (m (c.tc.loc main_arg2)) (at3 (n := 7) (p := 7) (R := 352) (C := 1024) (tr := 352) (index_facts t).2.1 s r j (by omega) (row_lt t r) _ rfl rfl rfl)) (congrArg (m (c.tc.loc main_arg2)) (congrArg (fun k : Fin 7 => (ix3 k (at_ t r) j : S7x352x1024.Idx)) (Fin.ext ?_))))
  show 0 * 7 + s.val = _
  omega

theorem iblks_apply (c : Dev nD) (t : Fin grid0.N) (r : Fin 352) (j : Fin 1024) :
    (iblk m O c 2 t) (ix2 r j : S352x1024.Idx) = (m (c.tc.loc main_arg3)) (ix2 (at_ t r) j) ∧ (iblk m O c 3 t) (ix2 r j : S352x1024.Idx) = (m (c.tc.loc main_arg4)) (ix2 (at_ t r) j) ∧ (iblk m O c 4 t) (ix2 r j : S352x1024.Idx) = (m (c.tc.loc main_arg5)) (ix2 (at_ t r) j) :=
  ⟨(View.read_apply _ _).trans (congrArg (m (c.tc.loc main_arg3)) (at_emb t r j _ rfl rfl)), (View.read_apply _ _).trans (congrArg (m (c.tc.loc main_arg4)) (at_emb t r j _ rfl rfl)), (View.read_apply _ _).trans (congrArg (m (c.tc.loc main_arg5)) (at_emb t r j _ rfl rfl))⟩

/-- The results: the device's own slab of the gradient and the slabs received, summed; the weight's change; the moments. -/
abbrev resG (c : Dev nD) : Buf (Elt Ideal) ((c : Thread nD τ).loc main_v0_0) := gSum (n := 8) (R := 352) (C := 1024) (me m h) (m (c.tc.loc main_arg1)) (m (c.tc.loc main_arg2))
abbrev resD (c : Dev nD) : Buf (Elt Ideal) ((c : Thread nD τ).loc main_v0_1) := deltas (R := 352) (C := 1024) (m (c.tc.loc main_arg3)) (resG m h c) (m (c.tc.loc main_arg4)) (m (c.tc.loc main_arg5))
abbrev resM (c : Dev nD) : Buf (Elt Ideal) ((c : Thread nD τ).loc main_v0_2) := newMs (R := 352) (C := 1024) (resG m h c) (m (c.tc.loc main_arg4))
abbrev resV (c : Dev nD) : Buf (Elt Ideal) ((c : Thread nD τ).loc main_v0_3) := newVs (R := 352) (C := 1024) (resG m h c) (m (c.tc.loc main_arg5))

/-- The sum of a point's blocks is the block of the sum. -/
theorem sum_block (c : Dev nD) (t : Fin grid0.N) (r : Fin 352) (j : Fin 1024) : gsB (iblk m O c 0 t) (iblk m O c 1 t) (ix2 r j) = resG m h c (ix2 (at_ t r) j) :=
  congrArg₂ (α := EReal) (β := EReal) (· + ·) (iblk0_apply m O h c t r j) (Finset.sum_congr rfl fun s _ => iblk1_apply m O c t s r j)

/-- The grid point whose blocks hold a row. -/
theorem point (i : S352x1024.Idx) : ∃ t : Fin grid0.N, (i 0).val / 352 = t.val := by
  have i0 : (i 0).val < 352 := (i 0).isLt
  exact ⟨⟨(i 0).val / 352, (show (i 0).val / 352 < 1 by omega).trans_eq N_0.symm⟩, rfl⟩

theorem cut5 (t : Fin grid0.N) (x : Vec Ideal S352x1024 .f32) (y : S352x1024.Idx) : ((cfgM m O).win 5).cut (grid0.coords t) x y = x y := rfl

/-- Output 5 after the run. -/
theorem final5 (c : Dev nD) : (dats m O 0 c).arrAt 5 (cfgM m O).N = resG m h c := by
  refine (dats m O 0 c).arrAt_eq_of_cover 5 (resG m h c) (fun t _ => ?_) fun (i : S352x1024.Idx) => ?_
  · show ((cfgM m O).win 5).cut (grid0.coords t) ((dats m O 0 c).after 5 t) = _
    rw [after0_5]
    funext y
    obtain ⟨r, j, rfl⟩ := idx2_eq (R := 352) (C := 1024) y
    refine Eq.trans ?_ (View.read_apply _ _).symm
    refine Eq.trans (b := resG m h c (ix2 (at_ t r) j)) ((cut5 m O t _ _).trans ?_) ?_
    rotate_left
    · exact (congrArg (resG m h c) (at_emb t r j _ rfl rfl)).symm
    obtain ⟨hw, hm, hv⟩ := iblks_apply m O c t r j
    unfold outsAt0
    dsimp only
    rw [(body (x0 := iblk m O c 0 t) (x1 := iblk m O c 1 t) (x2 := iblk m O c 2 t) (x3 := iblk m O c 3 t) (x4 := iblk m O c 4 t) (xt := tbl m 0) ..).1]
    exact sum_block m O h c t r j
  · obtain ⟨t, ht⟩ := point i
    exact ⟨t, flush0_5 (adm m O) t, Eq.mpr (congrArg (i ∈ ·) (View.set_slice_whole main_v0_0 (((cfgM m O).win 5).rect t)))
      (mem2 (R := 352) (C := 1024) (tr := 352) (index_facts t).1 i ht (by decide))⟩

theorem cut6 (t : Fin grid0.N) (x : Vec Ideal S352x1024 .f32) (y : S352x1024.Idx) : ((cfgM m O).win 6).cut (grid0.coords t) x y = x y := rfl

/-- Output 6 after the run. -/
theorem final6 (c : Dev nD) : (dats m O 0 c).arrAt 6 (cfgM m O).N = resD m h c := by
  refine (dats m O 0 c).arrAt_eq_of_cover 6 (resD m h c) (fun t _ => ?_) fun (i : S352x1024.Idx) => ?_
  · show ((cfgM m O).win 6).cut (grid0.coords t) ((dats m O 0 c).after 6 t) = _
    rw [after0_6]
    funext y
    obtain ⟨r, j, rfl⟩ := idx2_eq (R := 352) (C := 1024) y
    refine Eq.trans ?_ (View.read_apply _ _).symm
    refine Eq.trans (b := resD m h c (ix2 (at_ t r) j)) ((cut6 m O t _ _).trans ?_) ?_
    rotate_left
    · exact (congrArg (resD m h c) (at_emb t r j _ rfl rfl)).symm
    obtain ⟨hw, hm, hv⟩ := iblks_apply m O c t r j
    unfold outsAt0
    dsimp only
    rw [(body (x0 := iblk m O c 0 t) (x1 := iblk m O c 1 t) (x2 := iblk m O c 2 t) (x3 := iblk m O c 3 t) (x4 := iblk m O c 4 t) (xt := tbl m 0) ..).2.1]
    unfold deltas; rw [sum_block m O h c t r j, hw, hm, hv]; rfl
  · obtain ⟨t, ht⟩ := point i
    exact ⟨t, flush0_6 (adm m O) t, Eq.mpr (congrArg (i ∈ ·) (View.set_slice_whole main_v0_1 (((cfgM m O).win 6).rect t)))
      (mem2 (R := 352) (C := 1024) (tr := 352) (index_facts t).1 i ht (by decide))⟩

theorem cut7 (t : Fin grid0.N) (x : Vec Ideal S352x1024 .f32) (y : S352x1024.Idx) : ((cfgM m O).win 7).cut (grid0.coords t) x y = x y := rfl

/-- Output 7 after the run. -/
theorem final7 (c : Dev nD) : (dats m O 0 c).arrAt 7 (cfgM m O).N = resM m h c := by
  refine (dats m O 0 c).arrAt_eq_of_cover 7 (resM m h c) (fun t _ => ?_) fun (i : S352x1024.Idx) => ?_
  · show ((cfgM m O).win 7).cut (grid0.coords t) ((dats m O 0 c).after 7 t) = _
    rw [after0_7]
    funext y
    obtain ⟨r, j, rfl⟩ := idx2_eq (R := 352) (C := 1024) y
    refine Eq.trans ?_ (View.read_apply _ _).symm
    refine Eq.trans (b := resM m h c (ix2 (at_ t r) j)) ((cut7 m O t _ _).trans ?_) ?_
    rotate_left
    · exact (congrArg (resM m h c) (at_emb t r j _ rfl rfl)).symm
    obtain ⟨hw, hm, hv⟩ := iblks_apply m O c t r j
    unfold outsAt0
    dsimp only
    rw [(body (x0 := iblk m O c 0 t) (x1 := iblk m O c 1 t) (x2 := iblk m O c 2 t) (x3 := iblk m O c 3 t) (x4 := iblk m O c 4 t) (xt := tbl m 0) ..).2.2.1]
    unfold newMs; rw [sum_block m O h c t r j, hm]; rfl
  · obtain ⟨t, ht⟩ := point i
    exact ⟨t, flush0_7 (adm m O) t, Eq.mpr (congrArg (i ∈ ·) (View.set_slice_whole main_v0_2 (((cfgM m O).win 7).rect t)))
      (mem2 (R := 352) (C := 1024) (tr := 352) (index_facts t).1 i ht (by decide))⟩

theorem cut8 (t : Fin grid0.N) (x : Vec Ideal S352x1024 .f32) (y : S352x1024.Idx) : ((cfgM m O).win 8).cut (grid0.coords t) x y = x y := rfl

/-- Output 8 after the run. -/
theorem final8 (c : Dev nD) : (dats m O 0 c).arrAt 8 (cfgM m O).N = resV m h c := by
  refine (dats m O 0 c).arrAt_eq_of_cover 8 (resV m h c) (fun t _ => ?_) fun (i : S352x1024.Idx) => ?_
  · show ((cfgM m O).win 8).cut (grid0.coords t) ((dats m O 0 c).after 8 t) = _
    rw [after0_8]
    funext y
    obtain ⟨r, j, rfl⟩ := idx2_eq (R := 352) (C := 1024) y
    refine Eq.trans ?_ (View.read_apply _ _).symm
    refine Eq.trans (b := resV m h c (ix2 (at_ t r) j)) ((cut8 m O t _ _).trans ?_) ?_
    rotate_left
    · exact (congrArg (resV m h c) (at_emb t r j _ rfl rfl)).symm
    obtain ⟨hw, hm, hv⟩ := iblks_apply m O c t r j
    unfold outsAt0
    dsimp only
    rw [(body (x0 := iblk m O c 0 t) (x1 := iblk m O c 1 t) (x2 := iblk m O c 2 t) (x3 := iblk m O c 3 t) (x4 := iblk m O c 4 t) (xt := tbl m 0) ..).2.2.2]
    unfold newVs; rw [sum_block m O h c t r j, hv]; rfl
  · obtain ⟨t, ht⟩ := point i
    exact ⟨t, flush0_8 (adm m O) t, Eq.mpr (congrArg (i ∈ ·) (View.set_slice_whole main_v0_3 (((cfgM m O).win 8).rect t)))
      (mem2 (R := 352) (C := 1024) (tr := 352) (index_facts t).1 i ht (by decide))⟩

end Kernel

section Reference

open Cert.OptFoutRIdeal.Read

variable (x0 : Vec Ideal S1 .i32) (x1 : Vec Ideal S8x352x1024 .f32) (x2 : Vec Ideal S7x352x1024 .bf16) (x3 : Vec Ideal S352x1024 .f32) (x4 : Vec Ideal S352x1024 .f32) (x5 : Vec Ideal S352x1024 .f32) (h : (num x0).toNat < 8)

/-- The slab the reference chooses among the eight is the device's. -/
theorem ref_own (r : Fin 352) (j : Fin 1024) : val_main_v6 (F := Ideal) x0 x1 (ix2 r j) = x1 (ix3 ⟨(num x0).toNat, h⟩ r j) := by
  pointwise [val_main_v6, val_main_v5, val_main_v4, val_main_v3, val_main_v2, val_main_v1, val_main_v0, val_main_call0_v2, val_main_call0_v1, val_main_call0_v0, val_main_cst_0, val_main_cst]
  exact pick (fun k => x1 (ix3 k r j)) (num x0) h

/-- The reference's results are the same functions. -/
theorem ref_G : val_main_v9 (F := Ideal) x0 x1 x2 = gSum (n := 8) (R := 352) (C := 1024) ⟨(num x0).toNat, h⟩ x1 x2 := by
  funext i
  obtain ⟨r, j, rfl⟩ := idx2_eq (R := 352) (C := 1024) i
  pointwise [val_main_v9, val_main_v8, val_main_v7, val_main_cst_1]
  rw [ref_own x0 x1 h]
  rfl

theorem ref_M : val_main_v14 (F := Ideal) x0 x1 x2 x4 = newMs (val_main_v9 (F := Ideal) x0 x1 x2) x4 := by
  funext i
  obtain ⟨r, j, rfl⟩ := idx2_eq (R := 352) (C := 1024) i
  pointwise [val_main_v14, val_main_v13, val_main_v12, val_main_v11, val_main_v10, val_main_cst_2, val_main_cst_3]
  rfl

theorem ref_V : val_main_v20 (F := Ideal) x0 x1 x2 x5 = newVs (val_main_v9 (F := Ideal) x0 x1 x2) x5 := by
  funext i
  obtain ⟨r, j, rfl⟩ := idx2_eq (R := 352) (C := 1024) i
  pointwise [val_main_v20, val_main_v19, val_main_v18, val_main_v17, val_main_v16, val_main_v15, val_main_cst_4, val_main_cst_5]
  rfl

theorem ref_D : val_main_v33 (F := Ideal) x0 x1 x2 x3 x4 x5 = deltas x3 (val_main_v9 (F := Ideal) x0 x1 x2) x4 x5 := by
  funext i
  obtain ⟨r, j, rfl⟩ := idx2_eq (R := 352) (C := 1024) i
  pointwise [val_main_v33, val_main_v32, val_main_v31, val_main_v30, val_main_v29, val_main_v28, val_main_v27, val_main_v26, val_main_v25, val_main_v24, val_main_v23, val_main_v22, val_main_v21, val_main_cst_6, val_main_cst_7, val_main_cst_8, val_main_cst_9, val_main_cst_10]
  rw [ref_M, ref_V]
  rfl

end Reference

/-- At the extended reals both end with the same results. -/
theorem algebraic : Cert.algebraic_OptFoutKIdeal_OptFoutRIdeal := by
  intro m g m' g' hp hag
  refine ⟨fun c => resG m hp c, fun c => resD m hp c, fun c => resM m hp c, fun c => resV m hp c, ?_, ?_⟩
  · exact (θ_run _ _ _).mono (fun r h c => ⟨((h.2 c).1 5).trans (final5 m (okKIdeal m hp) hp c), ((h.2 c).1 6).trans (final6 m (okKIdeal m hp) hp c), ((h.2 c).1 7).trans (final7 m (okKIdeal m hp) hp c), ((h.2 c).1 8).trans (final8 m (okKIdeal m hp) hp c), h.1 c⟩)
      (θ_run_and (Gen.unchanged m g (okKIdeal m hp)) (Gen.run_main m g (okKIdeal m hp)))
  · refine (θ_run _ _ _).mono (fun r h c => ⟨(h c).1.trans ?_, (h c).2.1.trans ?_, (h c).2.2.1.trans ?_, (h c).2.2.2.1.trans ?_, (h c).2.2.2.2⟩) (OptFoutRIdeal.Value.run (F := Ideal) m' g')
    all_goals obtain ⟨a0, a1, a2, a3, a4, a5⟩ := hag c
    all_goals obtain rfl : c = 0 := Subsingleton.elim _ _
    · rw [OptFoutRIdeal.Read.val_main_v9_eq, a0, a1, a2]
      exact ref_G _ _ _ (numKIdeal m hp)
    · rw [OptFoutRIdeal.Read.val_main_v33_eq, a0, a1, a2, a3, a4, a5, ref_D, ref_G _ _ _ (numKIdeal m hp)]
    · rw [OptFoutRIdeal.Read.val_main_v14_eq, a0, a1, a2, a4, ref_M, ref_G _ _ _ (numKIdeal m hp)]
    · rw [OptFoutRIdeal.Read.val_main_v20_eq, a0, a1, a2, a5, ref_V, ref_G _ _ _ (numKIdeal m hp)]

end Cert.OptFout

end
-- ==== Proof.OptFin.lean ====
module

public import proofs.«01_k».proof.Proof.Blocks
public import proofs.«01_k».proof.Proof.NormRows
public import proofs.«01_k».proof.Proof.Opt
public import proofs.«01_k».proof.Proof.Gen.OptFinK.Frame
public import proofs.«01_k».proof.Proof.Gen.OptFinKIdeal.Frame
public import proofs.«01_k».proof.Proof.Gen.OptFinRIdeal.Run
public import proofs.«01_k».proof.Proof.Gen.OptFinRIdeal.Read
public import proofs.«01_k».proof.Proof.Gen.Pre_pre32

@[expose] public section

/-! The optimiser's step for the feed-forward's input weight, kept transposed: one device's shard. -/

set_option maxRecDepth 16384

noncomputable section

open Idealize.ShloMosaic Idealize.ShloMosaic.TcCoe Idealize.SL.Sem

namespace Cert.OptFin

open Cert.OptMath

section
open Cert.OptFinK Cert.OptFinK.Gen

variable (m : (ℓ : Loc nD τ sig) → Buf (Elt Bits) ℓ)

/-- The gradient's block lies at the device's number, and at the grid point. -/
theorem indexK (i : grid0.Coords) : cc0_transform_0 inb_S1_S1_0 numel1_S1 (tbl m) i = ![(num (m ((0 : Dev nD).tc.loc main_arg0))).toNat, (BitVec.ofNat 32 (i 0).val).toNat, 0] := by
  have e : (tbl m).at 0 (Rect.unit (s := S1) ![0] S1.size inb_S1_S1_0) numel1_S1 = num (m ((0 : Dev nD).tc.loc main_arg0)) :=
    congrArg (m ((0 : Dev nD).tc.loc main_arg0)) (idx1_eq _)
  unfold cc0_transform_0
  rw [e]
  rfl

/-- The precondition says that the device's number is below eight, -/
theorem numK (h : Cert.Pre_OptFinK m) : (num (m ((0 : Dev nD).tc.loc main_arg0))).toNat < 8 :=
  lt_eight _ (congrFun (h 0).1 (ix1 0)) (congrFun (h 0).2 (ix1 0))

/-- so that block lies inside the array. -/
theorem okK (h : Cert.Pre_OptFinK m) : Ok m := fun i =>
  ⟨block_inb (tr := 352) (indexK m i) (numK m h) (ofNat_lt (i 0).isLt) (by decide), .inl rfl⟩
end

section
open Cert.OptFinKIdeal Cert.OptFinKIdeal.Gen

variable (m : (ℓ : Loc nD τ sig) → Buf (Elt Ideal) ℓ)

/-- The gradient's block lies at the device's number, and at the grid point. -/
theorem indexKIdeal (i : grid0.Coords) : cc0_transform_0 inb_S1_S1_0 numel1_S1 (tbl m) i = ![(num (m ((0 : Dev nD).tc.loc main_arg0))).toNat, (BitVec.ofNat 32 (i 0).val).toNat, 0] := by
  have e : (tbl m).at 0 (Rect.unit (s := S1) ![0] S1.size inb_S1_S1_0) numel1_S1 = num (m ((0 : Dev nD).tc.loc main_arg0)) :=
    congrArg (m ((0 : Dev nD).tc.loc main_arg0)) (idx1_eq _)
  unfold cc0_transform_0
  rw [e]
  rfl

/-- The precondition says that the device's number is below eight, -/
theorem numKIdeal (h : Cert.Pre_OptFinKIdeal m) : (num (m ((0 : Dev nD).tc.loc main_arg0))).toNat < 8 :=
  lt_eight _ (congrFun (h 0).1 (ix1 0)) (congrFun (h 0).2 (ix1 0))

/-- so that block lies inside the array. -/
theorem okKIdeal (h : Cert.Pre_OptFinKIdeal m) : Ok m := fun i =>
  ⟨block_inb (tr := 352) (indexKIdeal m i) (numKIdeal m h) (ofNat_lt (i 0).isLt) (by decide), .inl rfl⟩
end

open Cert.OptFinKIdeal Cert.OptFinKIdeal.Gen Cert.NormRows

/-- The gradient's sum on a block. -/
abbrev gsB (x0 : Vec Ideal S1x352x1024 .f32) (x1 : Vec Ideal S7x352x1024 .bf16) : Mat 352 1024 := gSum (n := 1) (R := 352) (C := 1024) 0 x0 x1

theorem grad_eq (x0 : Vec Ideal S1x352x1024 .f32) (x1 : Vec Ideal S7x352x1024 .bf16) (v : Fin 7 → Vec Ideal S1x352x1024 .bf16)
    (hv : ∀ s r j, v s (ix3 0 r j) = x1 (ix3 s r j)) : k0_pay4 x0 (v 0) (v 1) (v 2) (v 3) (v 4) (v 5) (v 6) = gsB x0 x1 := by
  funext y
  obtain ⟨r, j, rfl⟩ := idx2_eq (R := 352) (C := 1024) y
  pointwise [k0_pay4]
  simp only [hv]
  show _ = (x0 (ix3 0 r j) + ∑ s : Fin 7, x1 (ix3 s r j) : EReal)
  rw [Fin.sum_univ_seven]
  simp only [add_assoc]

theorem payM_apply (g : FVec Ideal S352x1024 .f32) (m : Vec Ideal S352x1024 .f32) : k0_pay1 g m = newMs (R := 352) (C := 1024) g m := by
  funext y
  obtain ⟨r, j, rfl⟩ := idx2_eq (R := 352) (C := 1024) y
  pointwise [k0_pay1]
  rfl

theorem payV_apply (g : FVec Ideal S352x1024 .f32) (v : Vec Ideal S352x1024 .f32) : k0_pay2 g v = newVs (R := 352) (C := 1024) g v := by
  funext y
  obtain ⟨r, j, rfl⟩ := idx2_eq (R := 352) (C := 1024) y
  pointwise [k0_pay2]
  rfl

theorem payD_apply (g : FVec Ideal S352x1024 .f32) (w m v : Vec Ideal S352x1024 .f32) : k0_pay3 g w m v = deltas (R := 352) (C := 1024) w g m v := by
  funext y
  obtain ⟨r, j, rfl⟩ := idx2_eq (R := 352) (C := 1024) y
  pointwise [k0_pay3]
  simp only [payM_apply, payV_apply]
  rfl

/-- What the body leaves in the four outputs: the gradient's sum, the weight's change and the two moments. -/
theorem body (c : Dev nD) (i : grid0.Coords) (b0 : Memref sig .tc .vmem S1x352x1024 .f32) (b1 : Memref sig .tc .vmem S7x352x1024 .bf16) (b2 b3 b4 b5 b6 b7 b8 : Memref sig .tc .vmem S352x1024 .f32) (h0 : b0.IsWhole) (h1 : b1.IsWhole) (h2 : b2.IsWhole) (h3 : b3.IsWhole) (h4 : b4.IsWhole) (h5 : b5.IsWhole) (h6 : b6.IsWhole) (h7 : b7.IsWhole) (h8 : b8.IsWhole)
    (x0 : Vec Ideal S1x352x1024 .f32) (x1 : Vec Ideal S7x352x1024 .bf16) (x2 x3 x4 : Vec Ideal S352x1024 .f32) (xt : TbBuf0 (F := Ideal) c tbM0_0) :
    out0_A_5 c i b0 h0 b1 h1 b2 h2 b3 h3 b4 h4 b5 h5 b6 h6 b7 h7 b8 h8 x0 x1 x2 x3 x4 xt = gsB x0 x1 ∧ out0_A_6 c i b0 h0 b1 h1 b2 h2 b3 h3 b4 h4 b5 h5 b6 h6 b7 h7 b8 h8 x0 x1 x2 x3 x4 xt = deltas (R := 352) (C := 1024) x2 (gsB x0 x1) x3 x4
      ∧ out0_A_7 c i b0 h0 b1 h1 b2 h2 b3 h3 b4 h4 b5 h5 b6 h6 b7 h7 b8 h8 x0 x1 x2 x3 x4 xt = newMs (R := 352) (C := 1024) (gsB x0 x1) x3 ∧ out0_A_8 c i b0 h0 b1 h1 b2 h2 b3 h3 b4 h4 b5 h5 b6 h6 b7 h7 b8 h8 x0 x1 x2 x3 x4 xt = newVs (R := 352) (C := 1024) (gsB x0 x1) x4 := by
  have hG := grad_eq x0 x1 (fun s : Fin 7 => slab (n := 7) (R := 352) (C := 1024) x1 s) fun s r j => ld_slab (slab_inb s) x1 s rfl r j
  refine ⟨funext fun y => read_agree _ _ _ y _ ?_ (cover0_A_5 ..), funext fun y => read_agree _ _ _ y _ ?_ (cover0_A_6 ..),
    funext fun y => read_agree _ _ _ y _ ?_ (cover0_A_7 ..), funext fun y => read_agree _ _ _ y _ ?_ (cover0_A_8 ..)⟩
  all_goals
    unfold kernelRun0_A
    dsimp only
    simp only [kernelRun0_A.sl.r, kernelRun0_A.sl.r_1, View.readAt_eq_ld, h0.read_unread, h1.read_unread, h2.read_unread, h3.read_unread, h4.read_unread, View.ld_unit_zero (S := S1x352x1024) zero3, View.ld_unit_zero (S := S352x1024) zero2]
  · exact whole_piece (R := 352) (C := 1024) hG
  · exact whole_piece (R := 352) (C := 1024) ((payD_apply _ x2 x3 x4).trans (congrArg (fun g => deltas x2 g x3 x4) hG))
  · exact whole_piece (R := 352) (C := 1024) ((payM_apply _ x3).trans (congrArg (fun g => newMs g x3) hG))
  · exact whole_piece (R := 352) (C := 1024) ((payV_apply _ x4).trans (congrArg (fun g => newVs g x4) hG))

section Kernel

variable (m : (ℓ : Loc nD τ sig) → Buf (Elt Ideal) ℓ) (O : Ok m) (h : Cert.Pre_OptFinKIdeal m)

/-- Where the blocks lie at each grid point: the matrices' all at the same rows. -/
theorem index_facts : ∀ t : Fin grid0.N, cc0_transform_2 (grid0.coords t) = ![t.val, 0] ∧ cc0_transform_1 (grid0.coords t) = ![0, t.val, 0]
    ∧ (BitVec.ofNat 32 (grid0.coords t 0).val).toNat = t.val := by decide +kernel

/-- The array's row that row `r` of point `t` is. -/
theorem row_lt (t : Fin grid0.N) (r : Fin 352) : 352 * t.val + r.val < 704 := by have := t.isLt.trans_eq N_0; omega
abbrev at_ (t : Fin grid0.N) (r : Fin 352) : Fin 704 := ⟨352 * t.val + r.val, row_lt t r⟩

theorem at_emb (t : Fin grid0.N) (r : Fin 352) (j : Fin 1024) (f : S704x1024.Idx) (f0 : (f 0).val = cc0_transform_2 (grid0.coords t) 0 * 352 + 1 * r.val)
    (f1 : (f 1).val = cc0_transform_2 (grid0.coords t) 1 * 1024 + 1 * j.val) : f = ix2 (at_ t r) j :=
  at2 (R := 704) (C := 1024) (tr := 352) (index_facts t).1 r j (row_lt t r) f f0 f1

/-- The device's number, one of eight. -/
abbrev me : Fin 8 := ⟨(num (m ((0 : Dev nD).tc.loc main_arg0))).toNat, numKIdeal m h⟩

/-- The blocks of the stacks and of the matrices, element by element. -/
theorem iblk0_apply (c : Dev nD) (t : Fin grid0.N) (r : Fin 352) (j : Fin 1024) : (iblk m O c 0 t) (ix3 0 r j : S1x352x1024.Idx) = (m (c.tc.loc main_arg1)) (ix3 (me m h) (at_ t r) j) := by
  refine (View.read_apply _ _).trans (Eq.trans (congrArg (m (c.tc.loc main_arg1)) (at3 (n := 8) (p := 1) (R := 704) (C := 1024) (tr := 352) ((indexKIdeal m (grid0.coords t)).trans (by rw [(index_facts t).2.2])) 0 r j (by have := numKIdeal m h; show _ * 1 + 0 < 8; omega) (row_lt t r) _ rfl rfl rfl)) (congrArg (m (c.tc.loc main_arg1)) (congrArg (fun k : Fin 8 => (ix3 k (at_ t r) j : S8x704x1024.Idx)) (Fin.ext ?_))))
  exact Nat.mul_one _

theorem iblk1_apply (c : Dev nD) (t : Fin grid0.N) (s : Fin 7) (r : Fin 352) (j : Fin 1024) : (iblk m O c 1 t) (ix3 s r j : S7x352x1024.Idx) = (m (c.tc.loc main_arg2)) (ix3 s (at_ t r) j) := by
  refine (View.read_apply _ _).trans (Eq.trans (congrArg (m (c.tc.loc main_arg2)) (at3 (n := 7) (p := 7) (R := 704) (C := 1024) (tr := 352) (index_facts t).2.1 s r j (by omega) (row_lt t r) _ rfl rfl rfl)) (congrArg (m (c.tc.loc main_arg2)) (congrArg (fun k : Fin 7 => (ix3 k (at_ t r) j : S7x704x1024.Idx)) (Fin.ext ?_))))
  show 0 * 7 + s.val = _
  omega

theorem iblks_apply (c : Dev nD) (t : Fin grid0.N) (r : Fin 352) (j : Fin 1024) :
    (iblk m O c 2 t) (ix2 r j : S352x1024.Idx) = (m (c.tc.loc main_arg3)) (ix2 (at_ t r) j) ∧ (iblk m O c 3 t) (ix2 r j : S352x1024.Idx) = (m (c.tc.loc main_arg4)) (ix2 (at_ t r) j) ∧ (iblk m O c 4 t) (ix2 r j : S352x1024.Idx) = (m (c.tc.loc main_arg5)) (ix2 (at_ t r) j) :=
  ⟨(View.read_apply _ _).trans (congrArg (m (c.tc.loc main_arg3)) (at_emb t r j _ rfl rfl)), (View.read_apply _ _).trans (congrArg (m (c.tc.loc main_arg4)) (at_emb t r j _ rfl rfl)), (View.read_apply _ _).trans (congrArg (m (c.tc.loc main_arg5)) (at_emb t r j _ rfl rfl))⟩

/-- The results: the device's own slab of the gradient and the slabs received, summed; the weight's change; the moments. -/
abbrev resG (c : Dev nD) : Buf (Elt Ideal) ((c : Thread nD τ).loc main_v0_0) := gSum (n := 8) (R := 704) (C := 1024) (me m h) (m (c.tc.loc main_arg1)) (m (c.tc.loc main_arg2))
abbrev resD (c : Dev nD) : Buf (Elt Ideal) ((c : Thread nD τ).loc main_v0_1) := deltas (R := 704) (C := 1024) (m (c.tc.loc main_arg3)) (resG m h c) (m (c.tc.loc main_arg4)) (m (c.tc.loc main_arg5))
abbrev resM (c : Dev nD) : Buf (Elt Ideal) ((c : Thread nD τ).loc main_v0_2) := newMs (R := 704) (C := 1024) (resG m h c) (m (c.tc.loc main_arg4))
abbrev resV (c : Dev nD) : Buf (Elt Ideal) ((c : Thread nD τ).loc main_v0_3) := newVs (R := 704) (C := 1024) (resG m h c) (m (c.tc.loc main_arg5))

/-- The sum of a point's blocks is the block of the sum. -/
theorem sum_block (c : Dev nD) (t : Fin grid0.N) (r : Fin 352) (j : Fin 1024) : gsB (iblk m O c 0 t) (iblk m O c 1 t) (ix2 r j) = resG m h c (ix2 (at_ t r) j) :=
  congrArg₂ (α := EReal) (β := EReal) (· + ·) (iblk0_apply m O h c t r j) (Finset.sum_congr rfl fun s _ => iblk1_apply m O c t s r j)

/-- The grid point whose blocks hold a row. -/
theorem point (i : S704x1024.Idx) : ∃ t : Fin grid0.N, (i 0).val / 352 = t.val := by
  have i0 : (i 0).val < 704 := (i 0).isLt
  exact ⟨⟨(i 0).val / 352, (show (i 0).val / 352 < 2 by omega).trans_eq N_0.symm⟩, rfl⟩

theorem cut5 (t : Fin grid0.N) (x : Vec Ideal S352x1024 .f32) (y : S352x1024.Idx) : ((cfgM m O).win 5).cut (grid0.coords t) x y = x y := rfl

/-- Output 5 after the run. -/
theorem final5 (c : Dev nD) : (dats m O 0 c).arrAt 5 (cfgM m O).N = resG m h c := by
  refine (dats m O 0 c).arrAt_eq_of_cover 5 (resG m h c) (fun t _ => ?_) fun (i : S704x1024.Idx) => ?_
  · show ((cfgM m O).win 5).cut (grid0.coords t) ((dats m O 0 c).after 5 t) = _
    rw [after0_5]
    funext y
    obtain ⟨r, j, rfl⟩ := idx2_eq (R := 352) (C := 1024) y
    refine Eq.trans ?_ (View.read_apply _ _).symm
    refine Eq.trans (b := resG m h c (ix2 (at_ t r) j)) ((cut5 m O t _ _).trans ?_) ?_
    rotate_left
    · exact (congrArg (resG m h c) (at_emb t r j _ rfl rfl)).symm
    obtain ⟨hw, hm, hv⟩ := iblks_apply m O c t r j
    unfold outsAt0
    dsimp only
    rw [(body (x0 := iblk m O c 0 t) (x1 := iblk m O c 1 t) (x2 := iblk m O c 2 t) (x3 := iblk m O c 3 t) (x4 := iblk m O c 4 t) (xt := tbl m 0) ..).1]
    exact sum_block m O h c t r j
  · obtain ⟨t, ht⟩ := point i
    exact ⟨t, flush0_5 (adm m O) t, Eq.mpr (congrArg (i ∈ ·) (View.set_slice_whole main_v0_0 (((cfgM m O).win 5).rect t)))
      (mem2 (R := 704) (C := 1024) (tr := 352) (index_facts t).1 i ht (by decide))⟩

theorem cut6 (t : Fin grid0.N) (x : Vec Ideal S352x1024 .f32) (y : S352x1024.Idx) : ((cfgM m O).win 6).cut (grid0.coords t) x y = x y := rfl

/-- Output 6 after the run. -/
theorem final6 (c : Dev nD) : (dats m O 0 c).arrAt 6 (cfgM m O).N = resD m h c := by
  refine (dats m O 0 c).arrAt_eq_of_cover 6 (resD m h c) (fun t _ => ?_) fun (i : S704x1024.Idx) => ?_
  · show ((cfgM m O).win 6).cut (grid0.coords t) ((dats m O 0 c).after 6 t) = _
    rw [after0_6]
    funext y
    obtain ⟨r, j, rfl⟩ := idx2_eq (R := 352) (C := 1024) y
    refine Eq.trans ?_ (View.read_apply _ _).symm
    refine Eq.trans (b := resD m h c (ix2 (at_ t r) j)) ((cut6 m O t _ _).trans ?_) ?_
    rotate_left
    · exact (congrArg (resD m h c) (at_emb t r j _ rfl rfl)).symm
    obtain ⟨hw, hm, hv⟩ := iblks_apply m O c t r j
    unfold outsAt0
    dsimp only
    rw [(body (x0 := iblk m O c 0 t) (x1 := iblk m O c 1 t) (x2 := iblk m O c 2 t) (x3 := iblk m O c 3 t) (x4 := iblk m O c 4 t) (xt := tbl m 0) ..).2.1]
    unfold deltas; rw [sum_block m O h c t r j, hw, hm, hv]; rfl
  · obtain ⟨t, ht⟩ := point i
    exact ⟨t, flush0_6 (adm m O) t, Eq.mpr (congrArg (i ∈ ·) (View.set_slice_whole main_v0_1 (((cfgM m O).win 6).rect t)))
      (mem2 (R := 704) (C := 1024) (tr := 352) (index_facts t).1 i ht (by decide))⟩

theorem cut7 (t : Fin grid0.N) (x : Vec Ideal S352x1024 .f32) (y : S352x1024.Idx) : ((cfgM m O).win 7).cut (grid0.coords t) x y = x y := rfl

/-- Output 7 after the run. -/
theorem final7 (c : Dev nD) : (dats m O 0 c).arrAt 7 (cfgM m O).N = resM m h c := by
  refine (dats m O 0 c).arrAt_eq_of_cover 7 (resM m h c) (fun t _ => ?_) fun (i : S704x1024.Idx) => ?_
  · show ((cfgM m O).win 7).cut (grid0.coords t) ((dats m O 0 c).after 7 t) = _
    rw [after0_7]
    funext y
    obtain ⟨r, j, rfl⟩ := idx2_eq (R := 352) (C := 1024) y
    refine Eq.trans ?_ (View.read_apply _ _).symm
    refine Eq.trans (b := resM m h c (ix2 (at_ t r) j)) ((cut7 m O t _ _).trans ?_) ?_
    rotate_left
    · exact (congrArg (resM m h c) (at_emb t r j _ rfl rfl)).symm
    obtain ⟨hw, hm, hv⟩ := iblks_apply m O c t r j
    unfold outsAt0
    dsimp only
    rw [(body (x0 := iblk m O c 0 t) (x1 := iblk m O c 1 t) (x2 := iblk m O c 2 t) (x3 := iblk m O c 3 t) (x4 := iblk m O c 4 t) (xt := tbl m 0) ..).2.2.1]
    unfold newMs; rw [sum_block m O h c t r j, hm]; rfl
  · obtain ⟨t, ht⟩ := point i
    exact ⟨t, flush0_7 (adm m O) t, Eq.mpr (congrArg (i ∈ ·) (View.set_slice_whole main_v0_2 (((cfgM m O).win 7).rect t)))
      (mem2 (R := 704) (C := 1024) (tr := 352) (index_facts t).1 i ht (by decide))⟩

theorem cut8 (t : Fin grid0.N) (x : Vec Ideal S352x1024 .f32) (y : S352x1024.Idx) : ((cfgM m O).win 8).cut (grid0.coords t) x y = x y := rfl

/-- Output 8 after the run. -/
theorem final8 (c : Dev nD) : (dats m O 0 c).arrAt 8 (cfgM m O).N = resV m h c := by
  refine (dats m O 0 c).arrAt_eq_of_cover 8 (resV m h c) (fun t _ => ?_) fun (i : S704x1024.Idx) => ?_
  · show ((cfgM m O).win 8).cut (grid0.coords t) ((dats m O 0 c).after 8 t) = _
    rw [after0_8]
    funext y
    obtain ⟨r, j, rfl⟩ := idx2_eq (R := 352) (C := 1024) y
    refine Eq.trans ?_ (View.read_apply _ _).symm
    refine Eq.trans (b := resV m h c (ix2 (at_ t r) j)) ((cut8 m O t _ _).trans ?_) ?_
    rotate_left
    · exact (congrArg (resV m h c) (at_emb t r j _ rfl rfl)).symm
    obtain ⟨hw, hm, hv⟩ := iblks_apply m O c t r j
    unfold outsAt0
    dsimp only
    rw [(body (x0 := iblk m O c 0 t) (x1 := iblk m O c 1 t) (x2 := iblk m O c 2 t) (x3 := iblk m O c 3 t) (x4 := iblk m O c 4 t) (xt := tbl m 0) ..).2.2.2]
    unfold newVs; rw [sum_block m O h c t r j, hv]; rfl
  · obtain ⟨t, ht⟩ := point i
    exact ⟨t, flush0_8 (adm m O) t, Eq.mpr (congrArg (i ∈ ·) (View.set_slice_whole main_v0_3 (((cfgM m O).win 8).rect t)))
      (mem2 (R := 704) (C := 1024) (tr := 352) (index_facts t).1 i ht (by decide))⟩

end Kernel

section Reference

open Cert.OptFinRIdeal.Read

variable (x0 : Vec Ideal S1 .i32) (x1 : Vec Ideal S8x704x1024 .f32) (x2 : Vec Ideal S7x704x1024 .bf16) (x3 : Vec Ideal S704x1024 .f32) (x4 : Vec Ideal S704x1024 .f32) (x5 : Vec Ideal S704x1024 .f32) (h : (num x0).toNat < 8)

/-- The slab the reference chooses among the eight is the device's. -/
theorem ref_own (r : Fin 704) (j : Fin 1024) : val_main_v6 (F := Ideal) x0 x1 (ix2 r j) = x1 (ix3 ⟨(num x0).toNat, h⟩ r j) := by
  pointwise [val_main_v6, val_main_v5, val_main_v4, val_main_v3, val_main_v2, val_main_v1, val_main_v0, val_main_call0_v2, val_main_call0_v1, val_main_call0_v0, val_main_cst_0, val_main_cst]
  exact pick (fun k => x1 (ix3 k r j)) (num x0) h

/-- The reference's results are the same functions. -/
theorem ref_G : val_main_v9 (F := Ideal) x0 x1 x2 = gSum (n := 8) (R := 704) (C := 1024) ⟨(num x0).toNat, h⟩ x1 x2 := by
  funext i
  obtain ⟨r, j, rfl⟩ := idx2_eq (R := 704) (C := 1024) i
  pointwise [val_main_v9, val_main_v8, val_main_v7, val_main_cst_1]
  rw [ref_own x0 x1 h]
  rfl

theorem ref_M : val_main_v14 (F := Ideal) x0 x1 x2 x4 = newMs (val_main_v9 (F := Ideal) x0 x1 x2) x4 := by
  funext i
  obtain ⟨r, j, rfl⟩ := idx2_eq (R := 704) (C := 1024) i
  pointwise [val_main_v14, val_main_v13, val_main_v12, val_main_v11, val_main_v10, val_main_cst_2, val_main_cst_3]
  rfl

theorem ref_V : val_main_v20 (F := Ideal) x0 x1 x2 x5 = newVs (val_main_v9 (F := Ideal) x0 x1 x2) x5 := by
  funext i
  obtain ⟨r, j, rfl⟩ := idx2_eq (R := 704) (C := 1024) i
  pointwise [val_main_v20, val_main_v19, val_main_v18, val_main_v17, val_main_v16, val_main_v15, val_main_cst_4, val_main_cst_5]
  rfl

theorem ref_D : val_main_v33 (F := Ideal) x0 x1 x2 x3 x4 x5 = deltas x3 (val_main_v9 (F := Ideal) x0 x1 x2) x4 x5 := by
  funext i
  obtain ⟨r, j, rfl⟩ := idx2_eq (R := 704) (C := 1024) i
  pointwise [val_main_v33, val_main_v32, val_main_v31, val_main_v30, val_main_v29, val_main_v28, val_main_v27, val_main_v26, val_main_v25, val_main_v24, val_main_v23, val_main_v22, val_main_v21, val_main_cst_6, val_main_cst_7, val_main_cst_8, val_main_cst_9, val_main_cst_10]
  rw [ref_M, ref_V]
  rfl

end Reference

/-- At the extended reals both end with the same results. -/
theorem algebraic : Cert.algebraic_OptFinKIdeal_OptFinRIdeal := by
  intro m g m' g' hp hag
  refine ⟨fun c => resG m hp c, fun c => resD m hp c, fun c => resM m hp c, fun c => resV m hp c, ?_, ?_⟩
  · exact (θ_run _ _ _).mono (fun r h c => ⟨((h.2 c).1 5).trans (final5 m (okKIdeal m hp) hp c), ((h.2 c).1 6).trans (final6 m (okKIdeal m hp) hp c), ((h.2 c).1 7).trans (final7 m (okKIdeal m hp) hp c), ((h.2 c).1 8).trans (final8 m (okKIdeal m hp) hp c), h.1 c⟩)
      (θ_run_and (Gen.unchanged m g (okKIdeal m hp)) (Gen.run_main m g (okKIdeal m hp)))
  · refine (θ_run _ _ _).mono (fun r h c => ⟨(h c).1.trans ?_, (h c).2.1.trans ?_, (h c).2.2.1.trans ?_, (h c).2.2.2.1.trans ?_, (h c).2.2.2.2⟩) (OptFinRIdeal.Value.run (F := Ideal) m' g')
    all_goals obtain ⟨a0, a1, a2, a3, a4, a5⟩ := hag c
    all_goals obtain rfl : c = 0 := Subsingleton.elim _ _
    · rw [OptFinRIdeal.Read.val_main_v9_eq, a0, a1, a2]
      exact ref_G _ _ _ (numKIdeal m hp)
    · rw [OptFinRIdeal.Read.val_main_v33_eq, a0, a1, a2, a3, a4, a5, ref_D, ref_G _ _ _ (numKIdeal m hp)]
    · rw [OptFinRIdeal.Read.val_main_v14_eq, a0, a1, a2, a4, ref_M, ref_G _ _ _ (numKIdeal m hp)]
    · rw [OptFinRIdeal.Read.val_main_v20_eq, a0, a1, a2, a5, ref_V, ref_G _ _ _ (numKIdeal m hp)]

end Cert.OptFin

end
-- ==== Proof.OptIn.lean ====
module

public import proofs.«01_k».proof.Proof.Blocks
public import proofs.«01_k».proof.Proof.NormRows
public import proofs.«01_k».proof.Proof.Opt
public import proofs.«01_k».proof.Proof.Gen.OptInK.Frame
public import proofs.«01_k».proof.Proof.Gen.OptInKIdeal.Frame
public import proofs.«01_k».proof.Proof.Gen.OptInRIdeal.Run
public import proofs.«01_k».proof.Proof.Gen.OptInRIdeal.Read
public import proofs.«01_k».proof.Proof.Gen.Pre_pre33

@[expose] public section

/-! The optimiser's step for the input projection's weight: one device's shard. -/

set_option maxRecDepth 16384

noncomputable section

open Idealize.ShloMosaic Idealize.ShloMosaic.TcCoe Idealize.SL.Sem

namespace Cert.OptIn

open Cert.OptMath

section
open Cert.OptInK Cert.OptInK.Gen

variable (m : (ℓ : Loc nD τ sig) → Buf (Elt Bits) ℓ)

/-- The gradient's block lies at the device's number, and at the grid point. -/
theorem indexK (i : grid0.Coords) : cc0_transform_0 inb_S1_S1_0 numel1_S1 (tbl m) i = ![(num (m ((0 : Dev nD).tc.loc main_arg0))).toNat, (BitVec.ofNat 32 (i 0).val).toNat, 0] := by
  have e : (tbl m).at 0 (Rect.unit (s := S1) ![0] S1.size inb_S1_S1_0) numel1_S1 = num (m ((0 : Dev nD).tc.loc main_arg0)) :=
    congrArg (m ((0 : Dev nD).tc.loc main_arg0)) (idx1_eq _)
  unfold cc0_transform_0
  rw [e]
  rfl

/-- The precondition says that the device's number is below eight, -/
theorem numK (h : Cert.Pre_OptInK m) : (num (m ((0 : Dev nD).tc.loc main_arg0))).toNat < 8 :=
  lt_eight _ (congrFun (h 0).1 (ix1 0)) (congrFun (h 0).2 (ix1 0))

/-- so that block lies inside the array. -/
theorem okK (h : Cert.Pre_OptInK m) : Ok m := fun i =>
  ⟨block_inb (tr := 512) (indexK m i) (numK m h) (ofNat_lt (i 0).isLt) (by decide), .inl rfl⟩
end

section
open Cert.OptInKIdeal Cert.OptInKIdeal.Gen

variable (m : (ℓ : Loc nD τ sig) → Buf (Elt Ideal) ℓ)

/-- The gradient's block lies at the device's number, and at the grid point. -/
theorem indexKIdeal (i : grid0.Coords) : cc0_transform_0 inb_S1_S1_0 numel1_S1 (tbl m) i = ![(num (m ((0 : Dev nD).tc.loc main_arg0))).toNat, (BitVec.ofNat 32 (i 0).val).toNat, 0] := by
  have e : (tbl m).at 0 (Rect.unit (s := S1) ![0] S1.size inb_S1_S1_0) numel1_S1 = num (m ((0 : Dev nD).tc.loc main_arg0)) :=
    congrArg (m ((0 : Dev nD).tc.loc main_arg0)) (idx1_eq _)
  unfold cc0_transform_0
  rw [e]
  rfl

/-- The precondition says that the device's number is below eight, -/
theorem numKIdeal (h : Cert.Pre_OptInKIdeal m) : (num (m ((0 : Dev nD).tc.loc main_arg0))).toNat < 8 :=
  lt_eight _ (congrFun (h 0).1 (ix1 0)) (congrFun (h 0).2 (ix1 0))

/-- so that block lies inside the array. -/
theorem okKIdeal (h : Cert.Pre_OptInKIdeal m) : Ok m := fun i =>
  ⟨block_inb (tr := 512) (indexKIdeal m i) (numKIdeal m h) (ofNat_lt (i 0).isLt) (by decide), .inl rfl⟩
end

open Cert.OptInKIdeal Cert.OptInKIdeal.Gen Cert.NormRows

/-- The gradient's sum on a block. -/
abbrev gsB (x0 : Vec Ideal S1x512x896 .f32) (x1 : Vec Ideal S1x512x896 .bf16) (x2 : Vec Ideal S3x512x896 .bf16) : Mat 512 896 := gSum2 (n := 1) (R := 512) (C := 896) 0 x0 x1 x2

theorem grad_eq (x0 : Vec Ideal S1x512x896 .f32) (x1 : Vec Ideal S1x512x896 .bf16) (x2 : Vec Ideal S3x512x896 .bf16) (v : Fin 3 → Vec Ideal S1x512x896 .bf16)
    (hv : ∀ s r j, v s (ix3 0 r j) = x2 (ix3 s r j)) : k0_pay2 x0 x1 (v 0) (v 1) (v 2) = gsB x0 x1 x2 := by
  funext y
  obtain ⟨r, j, rfl⟩ := idx2_eq (R := 512) (C := 896) y
  pointwise [k0_pay2]
  simp only [hv]
  show _ = (x0 (ix3 0 r j) + x1 (ix3 0 r j) + ∑ s : Fin 3, x2 (ix3 s r j) : EReal)
  rw [Fin.sum_univ_three]
  simp only [add_assoc]

theorem payM_apply (a : Vec Ideal S1x512x896 .f32) (b d e f : Vec Ideal S1x512x896 .bf16) (m : Vec Ideal S512x896 .f32) : k0_pay3 a b d e f m = newMs (R := 512) (C := 896) (k0_pay2 a b d e f) m := by
  funext y
  obtain ⟨r, j, rfl⟩ := idx2_eq (R := 512) (C := 896) y
  pointwise [k0_pay3]
  rfl

theorem payV_apply (a : Vec Ideal S1x512x896 .f32) (b d e f : Vec Ideal S1x512x896 .bf16) (v : Vec Ideal S512x896 .f32) : k0_pay4 a b d e f v = newVs (R := 512) (C := 896) (k0_pay2 a b d e f) v := by
  funext y
  obtain ⟨r, j, rfl⟩ := idx2_eq (R := 512) (C := 896) y
  pointwise [k0_pay4]
  rfl

theorem payD_apply (a : Vec Ideal S1x512x896 .f32) (b d e f : Vec Ideal S1x512x896 .bf16) (w m v : Vec Ideal S512x896 .f32) : k0_pay1 w (k0_pay3 a b d e f m) (k0_pay4 a b d e f v) k0_pay5 = deltas (R := 512) (C := 896) w (k0_pay2 a b d e f) m v := by
  funext y
  obtain ⟨r, j, rfl⟩ := idx2_eq (R := 512) (C := 896) y
  pointwise [k0_pay1, k0_pay5]
  simp only [payM_apply, payV_apply]
  rfl

open kernelRun0_A in
/-- What the body leaves in the four outputs: the gradient's sum, the weight's change and the two moments. -/
theorem body (c : Dev nD) (i : grid0.Coords) (b0 : Memref sig .tc .vmem S1x512x896 .f32) (b1 : Memref sig .tc .vmem S1x512x896 .bf16) (b2 : Memref sig .tc .vmem S3x512x896 .bf16) (b3 b4 b5 b6 b7 b8 b9 : Memref sig .tc .vmem S512x896 .f32) (h0 : b0.IsWhole) (h1 : b1.IsWhole) (h2 : b2.IsWhole) (h3 : b3.IsWhole) (h4 : b4.IsWhole) (h5 : b5.IsWhole) (h6 : b6.IsWhole) (h7 : b7.IsWhole) (h8 : b8.IsWhole) (h9 : b9.IsWhole)
    (x0 : Vec Ideal S1x512x896 .f32) (x1 : Vec Ideal S1x512x896 .bf16) (x2 : Vec Ideal S3x512x896 .bf16) (x3 x4 x5 : Vec Ideal S512x896 .f32) (xt : TbBuf0 (F := Ideal) c tbM0_0) :
    out0_A_6 c i b0 h0 b1 h1 b2 h2 b3 h3 b4 h4 b5 h5 b6 h6 b7 h7 b8 h8 b9 h9 x0 x1 x2 x3 x4 x5 xt = gsB x0 x1 x2 ∧ out0_A_7 c i b0 h0 b1 h1 b2 h2 b3 h3 b4 h4 b5 h5 b6 h6 b7 h7 b8 h8 b9 h9 x0 x1 x2 x3 x4 x5 xt = deltas (R := 512) (C := 896) x3 (gsB x0 x1 x2) x4 x5
      ∧ out0_A_8 c i b0 h0 b1 h1 b2 h2 b3 h3 b4 h4 b5 h5 b6 h6 b7 h7 b8 h8 b9 h9 x0 x1 x2 x3 x4 x5 xt = newMs (R := 512) (C := 896) (gsB x0 x1 x2) x4 ∧ out0_A_9 c i b0 h0 b1 h1 b2 h2 b3 h3 b4 h4 b5 h5 b6 h6 b7 h7 b8 h8 b9 h9 x0 x1 x2 x3 x4 x5 xt = newVs (R := 512) (C := 896) (gsB x0 x1 x2) x5 := by
  have hG := grad_eq x0 x1 x2 (fun s : Fin 3 => slab (n := 3) (R := 512) (C := 896) x2 s) fun s r j => ld_slab (slab_inb s) x2 s rfl r j
  refine ⟨funext fun y => read_agree _ _ _ y _ ?_ (cover0_A_6 ..), funext fun y => read_agree _ _ _ y _ ?_ (cover0_A_7 ..),
    funext fun y => read_agree _ _ _ y _ ?_ (cover0_A_8 ..), funext fun y => read_agree _ _ _ y _ ?_ (cover0_A_9 ..)⟩
  all_goals
    unfold kernelRun0_A
    dsimp only
    simp only [sl.r, sl.r_1, sl.r_2, sl.r_3, View.readAt_eq_ld, h0.read_unread, h1.read_unread, h2.read_unread, h3.read_unread, h4.read_unread, h5.read_unread, View.ld_unit_zero (S := S1x512x896) zero3, View.ld_unit_zero (S := S512x896) zero2]
  · exact whole_piece (R := 512) (C := 896) hG
  · exact whole_piece (R := 512) (C := 896) ((payD_apply _ _ _ _ _ x3 x4 x5).trans (congrArg (fun g => deltas x3 g x4 x5) hG))
  · exact whole_piece (R := 512) (C := 896) ((payM_apply _ _ _ _ _ x4).trans (congrArg (fun g => newMs g x4) hG))
  · exact whole_piece (R := 512) (C := 896) ((payV_apply _ _ _ _ _ x5).trans (congrArg (fun g => newVs g x5) hG))

section Kernel

variable (m : (ℓ : Loc nD τ sig) → Buf (Elt Ideal) ℓ) (O : Ok m) (h : Cert.Pre_OptInKIdeal m)

/-- Where the blocks lie at each grid point: the matrices' all at the same rows. -/
theorem index_facts : ∀ t : Fin grid0.N, cc0_transform_3 (grid0.coords t) = ![t.val, 0] ∧ cc0_transform_1 (grid0.coords t) = ![0, t.val, 0] ∧ cc0_transform_2 (grid0.coords t) = ![0, t.val, 0]
    ∧ (BitVec.ofNat 32 (grid0.coords t 0).val).toNat = t.val := by decide +kernel

/-- The array's row that row `r` of point `t` is. -/
theorem row_lt (t : Fin grid0.N) (r : Fin 512) : 512 * t.val + r.val < 1024 := by have := t.isLt.trans_eq N_0; omega
abbrev at_ (t : Fin grid0.N) (r : Fin 512) : Fin 1024 := ⟨512 * t.val + r.val, row_lt t r⟩

theorem at_emb (t : Fin grid0.N) (r : Fin 512) (j : Fin 896) (f : S1024x896.Idx) (f0 : (f 0).val = cc0_transform_3 (grid0.coords t) 0 * 512 + 1 * r.val)
    (f1 : (f 1).val = cc0_transform_3 (grid0.coords t) 1 * 896 + 1 * j.val) : f = ix2 (at_ t r) j :=
  at2 (R := 1024) (C := 896) (tr := 512) (index_facts t).1 r j (row_lt t r) f f0 f1

/-- The device's number, one of eight. -/
abbrev me : Fin 8 := ⟨(num (m ((0 : Dev nD).tc.loc main_arg0))).toNat, numKIdeal m h⟩

/-- The blocks of the stacks and of the matrices, element by element. -/
theorem iblk0_apply (c : Dev nD) (t : Fin grid0.N) (r : Fin 512) (j : Fin 896) : (iblk m O c 0 t) (ix3 0 r j : S1x512x896.Idx) = (m (c.tc.loc main_arg1)) (ix3 (me m h) (at_ t r) j) := by
  refine (View.read_apply _ _).trans (Eq.trans (congrArg (m (c.tc.loc main_arg1)) (at3 (n := 8) (p := 1) (R := 1024) (C := 896) (tr := 512) ((indexKIdeal m (grid0.coords t)).trans (by rw [(index_facts t).2.2.2])) 0 r j (by have := numKIdeal m h; show _ * 1 + 0 < 8; omega) (row_lt t r) _ rfl rfl rfl)) (congrArg (m (c.tc.loc main_arg1)) (congrArg (fun k : Fin 8 => (ix3 k (at_ t r) j : S8x1024x896.Idx)) (Fin.ext ?_))))
  exact Nat.mul_one _

theorem iblk1_apply (c : Dev nD) (t : Fin grid0.N) (s : Fin 1) (r : Fin 512) (j : Fin 896) : (iblk m O c 1 t) (ix3 s r j : S1x512x896.Idx) = (m (c.tc.loc main_arg2)) (ix3 s (at_ t r) j) := by
  refine (View.read_apply _ _).trans (Eq.trans (congrArg (m (c.tc.loc main_arg2)) (at3 (n := 1) (p := 1) (R := 1024) (C := 896) (tr := 512) (index_facts t).2.1 s r j (by omega) (row_lt t r) _ rfl rfl rfl)) (congrArg (m (c.tc.loc main_arg2)) (congrArg (fun k : Fin 1 => (ix3 k (at_ t r) j : S1x1024x896.Idx)) (Fin.ext ?_))))
  show 0 * 1 + s.val = _
  omega

theorem iblk2_apply (c : Dev nD) (t : Fin grid0.N) (s : Fin 3) (r : Fin 512) (j : Fin 896) : (iblk m O c 2 t) (ix3 s r j : S3x512x896.Idx) = (m (c.tc.loc main_arg3)) (ix3 s (at_ t r) j) := by
  refine (View.read_apply _ _).trans (Eq.trans (congrArg (m (c.tc.loc main_arg3)) (at3 (n := 3) (p := 3) (R := 1024) (C := 896) (tr := 512) (index_facts t).2.2.1 s r j (by omega) (row_lt t r) _ rfl rfl rfl)) (congrArg (m (c.tc.loc main_arg3)) (congrArg (fun k : Fin 3 => (ix3 k (at_ t r) j : S3x1024x896.Idx)) (Fin.ext ?_))))
  show 0 * 3 + s.val = _
  omega

theorem iblks_apply (c : Dev nD) (t : Fin grid0.N) (r : Fin 512) (j : Fin 896) :
    (iblk m O c 3 t) (ix2 r j : S512x896.Idx) = (m (c.tc.loc main_arg4)) (ix2 (at_ t r) j) ∧ (iblk m O c 4 t) (ix2 r j : S512x896.Idx) = (m (c.tc.loc main_arg5)) (ix2 (at_ t r) j) ∧ (iblk m O c 5 t) (ix2 r j : S512x896.Idx) = (m (c.tc.loc main_arg6)) (ix2 (at_ t r) j) :=
  ⟨(View.read_apply _ _).trans (congrArg (m (c.tc.loc main_arg4)) (at_emb t r j _ rfl rfl)), (View.read_apply _ _).trans (congrArg (m (c.tc.loc main_arg5)) (at_emb t r j _ rfl rfl)), (View.read_apply _ _).trans (congrArg (m (c.tc.loc main_arg6)) (at_emb t r j _ rfl rfl))⟩

/-- The results: the device's own slab of the gradient and the slabs received, summed; the weight's change; the moments. -/
abbrev resG (c : Dev nD) : Buf (Elt Ideal) ((c : Thread nD τ).loc main_v0_0) := gSum2 (n := 8) (R := 1024) (C := 896) (me m h) (m (c.tc.loc main_arg1)) (m (c.tc.loc main_arg2)) (m (c.tc.loc main_arg3))
abbrev resD (c : Dev nD) : Buf (Elt Ideal) ((c : Thread nD τ).loc main_v0_1) := deltas (R := 1024) (C := 896) (m (c.tc.loc main_arg4)) (resG m h c) (m (c.tc.loc main_arg5)) (m (c.tc.loc main_arg6))
abbrev resM (c : Dev nD) : Buf (Elt Ideal) ((c : Thread nD τ).loc main_v0_2) := newMs (R := 1024) (C := 896) (resG m h c) (m (c.tc.loc main_arg5))
abbrev resV (c : Dev nD) : Buf (Elt Ideal) ((c : Thread nD τ).loc main_v0_3) := newVs (R := 1024) (C := 896) (resG m h c) (m (c.tc.loc main_arg6))

/-- The sum of a point's blocks is the block of the sum. -/
theorem sum_block (c : Dev nD) (t : Fin grid0.N) (r : Fin 512) (j : Fin 896) : gsB (iblk m O c 0 t) (iblk m O c 1 t) (iblk m O c 2 t) (ix2 r j) = resG m h c (ix2 (at_ t r) j) :=
  congrArg₂ (α := EReal) (β := EReal) (· + ·) (congrArg₂ (α := EReal) (β := EReal) (· + ·) (iblk0_apply m O h c t r j) (iblk1_apply m O c t 0 r j)) (Finset.sum_congr rfl fun s _ => iblk2_apply m O c t s r j)

/-- The grid point whose blocks hold a row. -/
theorem point (i : S1024x896.Idx) : ∃ t : Fin grid0.N, (i 0).val / 512 = t.val := by
  have i0 : (i 0).val < 1024 := (i 0).isLt
  exact ⟨⟨(i 0).val / 512, (show (i 0).val / 512 < 2 by omega).trans_eq N_0.symm⟩, rfl⟩

theorem cut6 (t : Fin grid0.N) (x : Vec Ideal S512x896 .f32) (y : S512x896.Idx) : ((cfgM m O).win 6).cut (grid0.coords t) x y = x y := rfl

/-- Output 6 after the run. -/
theorem final6 (c : Dev nD) : (dats m O 0 c).arrAt 6 (cfgM m O).N = resG m h c := by
  refine (dats m O 0 c).arrAt_eq_of_cover 6 (resG m h c) (fun t _ => ?_) fun (i : S1024x896.Idx) => ?_
  · show ((cfgM m O).win 6).cut (grid0.coords t) ((dats m O 0 c).after 6 t) = _
    rw [after0_6]
    funext y
    obtain ⟨r, j, rfl⟩ := idx2_eq (R := 512) (C := 896) y
    refine Eq.trans ?_ (View.read_apply _ _).symm
    refine Eq.trans (b := resG m h c (ix2 (at_ t r) j)) ((cut6 m O t _ _).trans ?_) ?_
    rotate_left
    · exact (congrArg (resG m h c) (at_emb t r j _ rfl rfl)).symm
    obtain ⟨hw, hm, hv⟩ := iblks_apply m O c t r j
    unfold outsAt0
    dsimp only
    rw [(body (x0 := iblk m O c 0 t) (x1 := iblk m O c 1 t) (x2 := iblk m O c 2 t) (x3 := iblk m O c 3 t) (x4 := iblk m O c 4 t) (x5 := iblk m O c 5 t) (xt := tbl m 0) ..).1]
    exact sum_block m O h c t r j
  · obtain ⟨t, ht⟩ := point i
    exact ⟨t, flush0_6 (adm m O) t, Eq.mpr (congrArg (i ∈ ·) (View.set_slice_whole main_v0_0 (((cfgM m O).win 6).rect t)))
      (mem2 (R := 1024) (C := 896) (tr := 512) (index_facts t).1 i ht (by decide))⟩

theorem cut7 (t : Fin grid0.N) (x : Vec Ideal S512x896 .f32) (y : S512x896.Idx) : ((cfgM m O).win 7).cut (grid0.coords t) x y = x y := rfl

/-- Output 7 after the run. -/
theorem final7 (c : Dev nD) : (dats m O 0 c).arrAt 7 (cfgM m O).N = resD m h c := by
  refine (dats m O 0 c).arrAt_eq_of_cover 7 (resD m h c) (fun t _ => ?_) fun (i : S1024x896.Idx) => ?_
  · show ((cfgM m O).win 7).cut (grid0.coords t) ((dats m O 0 c).after 7 t) = _
    rw [after0_7]
    funext y
    obtain ⟨r, j, rfl⟩ := idx2_eq (R := 512) (C := 896) y
    refine Eq.trans ?_ (View.read_apply _ _).symm
    refine Eq.trans (b := resD m h c (ix2 (at_ t r) j)) ((cut7 m O t _ _).trans ?_) ?_
    rotate_left
    · exact (congrArg (resD m h c) (at_emb t r j _ rfl rfl)).symm
    obtain ⟨hw, hm, hv⟩ := iblks_apply m O c t r j
    unfold outsAt0
    dsimp only
    rw [(body (x0 := iblk m O c 0 t) (x1 := iblk m O c 1 t) (x2 := iblk m O c 2 t) (x3 := iblk m O c 3 t) (x4 := iblk m O c 4 t) (x5 := iblk m O c 5 t) (xt := tbl m 0) ..).2.1]
    unfold deltas; rw [sum_block m O h c t r j, hw, hm, hv]; rfl
  · obtain ⟨t, ht⟩ := point i
    exact ⟨t, flush0_7 (adm m O) t, Eq.mpr (congrArg (i ∈ ·) (View.set_slice_whole main_v0_1 (((cfgM m O).win 7).rect t)))
      (mem2 (R := 1024) (C := 896) (tr := 512) (index_facts t).1 i ht (by decide))⟩

theorem cut8 (t : Fin grid0.N) (x : Vec Ideal S512x896 .f32) (y : S512x896.Idx) : ((cfgM m O).win 8).cut (grid0.coords t) x y = x y := rfl

/-- Output 8 after the run. -/
theorem final8 (c : Dev nD) : (dats m O 0 c).arrAt 8 (cfgM m O).N = resM m h c := by
  refine (dats m O 0 c).arrAt_eq_of_cover 8 (resM m h c) (fun t _ => ?_) fun (i : S1024x896.Idx) => ?_
  · show ((cfgM m O).win 8).cut (grid0.coords t) ((dats m O 0 c).after 8 t) = _
    rw [after0_8]
    funext y
    obtain ⟨r, j, rfl⟩ := idx2_eq (R := 512) (C := 896) y
    refine Eq.trans ?_ (View.read_apply _ _).symm
    refine Eq.trans (b := resM m h c (ix2 (at_ t r) j)) ((cut8 m O t _ _).trans ?_) ?_
    rotate_left
    · exact (congrArg (resM m h c) (at_emb t r j _ rfl rfl)).symm
    obtain ⟨hw, hm, hv⟩ := iblks_apply m O c t r j
    unfold outsAt0
    dsimp only
    rw [(body (x0 := iblk m O c 0 t) (x1 := iblk m O c 1 t) (x2 := iblk m O c 2 t) (x3 := iblk m O c 3 t) (x4 := iblk m O c 4 t) (x5 := iblk m O c 5 t) (xt := tbl m 0) ..).2.2.1]
    unfold newMs; rw [sum_block m O h c t r j, hm]; rfl
  · obtain ⟨t, ht⟩ := point i
    exact ⟨t, flush0_8 (adm m O) t, Eq.mpr (congrArg (i ∈ ·) (View.set_slice_whole main_v0_2 (((cfgM m O).win 8).rect t)))
      (mem2 (R := 1024) (C := 896) (tr := 512) (index_facts t).1 i ht (by decide))⟩

theorem cut9 (t : Fin grid0.N) (x : Vec Ideal S512x896 .f32) (y : S512x896.Idx) : ((cfgM m O).win 9).cut (grid0.coords t) x y = x y := rfl

/-- Output 9 after the run. -/
theorem final9 (c : Dev nD) : (dats m O 0 c).arrAt 9 (cfgM m O).N = resV m h c := by
  refine (dats m O 0 c).arrAt_eq_of_cover 9 (resV m h c) (fun t _ => ?_) fun (i : S1024x896.Idx) => ?_
  · show ((cfgM m O).win 9).cut (grid0.coords t) ((dats m O 0 c).after 9 t) = _
    rw [after0_9]
    funext y
    obtain ⟨r, j, rfl⟩ := idx2_eq (R := 512) (C := 896) y
    refine Eq.trans ?_ (View.read_apply _ _).symm
    refine Eq.trans (b := resV m h c (ix2 (at_ t r) j)) ((cut9 m O t _ _).trans ?_) ?_
    rotate_left
    · exact (congrArg (resV m h c) (at_emb t r j _ rfl rfl)).symm
    obtain ⟨hw, hm, hv⟩ := iblks_apply m O c t r j
    unfold outsAt0
    dsimp only
    rw [(body (x0 := iblk m O c 0 t) (x1 := iblk m O c 1 t) (x2 := iblk m O c 2 t) (x3 := iblk m O c 3 t) (x4 := iblk m O c 4 t) (x5 := iblk m O c 5 t) (xt := tbl m 0) ..).2.2.2]
    unfold newVs; rw [sum_block m O h c t r j, hv]; rfl
  · obtain ⟨t, ht⟩ := point i
    exact ⟨t, flush0_9 (adm m O) t, Eq.mpr (congrArg (i ∈ ·) (View.set_slice_whole main_v0_3 (((cfgM m O).win 9).rect t)))
      (mem2 (R := 1024) (C := 896) (tr := 512) (index_facts t).1 i ht (by decide))⟩

end Kernel

section Reference

open Cert.OptInRIdeal.Read

variable (x0 : Vec Ideal S1 .i32) (x1 : Vec Ideal S8x1024x896 .f32) (x2 : Vec Ideal S1x1024x896 .bf16) (x3 : Vec Ideal S3x1024x896 .bf16) (x4 : Vec Ideal S1024x896 .f32) (x5 : Vec Ideal S1024x896 .f32) (x6 : Vec Ideal S1024x896 .f32) (h : (num x0).toNat < 8)

/-- The slab the reference chooses among the eight is the device's. -/
theorem ref_own (r : Fin 1024) (j : Fin 896) : val_main_v6 (F := Ideal) x0 x1 (ix2 r j) = x1 (ix3 ⟨(num x0).toNat, h⟩ r j) := by
  pointwise [val_main_v6, val_main_v5, val_main_v4, val_main_v3, val_main_v2, val_main_v1, val_main_v0, val_main_call0_v2, val_main_call0_v1, val_main_call0_v0, val_main_cst_0, val_main_cst]
  exact pick (fun k => x1 (ix3 k r j)) (num x0) h

/-- The reference's results are the same functions. -/
theorem ref_G : val_main_v12 (F := Ideal) x0 x1 x2 x3 = gSum2 (n := 8) (R := 1024) (C := 896) ⟨(num x0).toNat, h⟩ x1 x2 x3 := by
  funext i
  obtain ⟨r, j, rfl⟩ := idx2_eq (R := 1024) (C := 896) i
  pointwise [val_main_v12, val_main_v11, val_main_v10, val_main_v9, val_main_v8, val_main_v7, val_main_cst_1]
  rw [ref_own x0 x1 h]
  rfl

theorem ref_M : val_main_v17 (F := Ideal) x0 x1 x2 x3 x5 = newMs (val_main_v12 (F := Ideal) x0 x1 x2 x3) x5 := by
  funext i
  obtain ⟨r, j, rfl⟩ := idx2_eq (R := 1024) (C := 896) i
  pointwise [val_main_v17, val_main_v16, val_main_v15, val_main_v14, val_main_v13, val_main_cst_2, val_main_cst_3]
  rfl

theorem ref_V : val_main_v23 (F := Ideal) x0 x1 x2 x3 x6 = newVs (val_main_v12 (F := Ideal) x0 x1 x2 x3) x6 := by
  funext i
  obtain ⟨r, j, rfl⟩ := idx2_eq (R := 1024) (C := 896) i
  pointwise [val_main_v23, val_main_v22, val_main_v21, val_main_v20, val_main_v19, val_main_v18, val_main_cst_4, val_main_cst_5]
  rfl

theorem ref_D : val_main_v36 (F := Ideal) x0 x1 x2 x3 x4 x5 x6 = deltas x4 (val_main_v12 (F := Ideal) x0 x1 x2 x3) x5 x6 := by
  funext i
  obtain ⟨r, j, rfl⟩ := idx2_eq (R := 1024) (C := 896) i
  pointwise [val_main_v36, val_main_v35, val_main_v34, val_main_v33, val_main_v32, val_main_v31, val_main_v30, val_main_v29, val_main_v28, val_main_v27, val_main_v26, val_main_v25, val_main_v24, val_main_cst_6, val_main_cst_7, val_main_cst_8, val_main_cst_9, val_main_cst_10]
  rw [ref_M, ref_V]
  rfl

end Reference

/-- At the extended reals both end with the same results. -/
theorem algebraic : Cert.algebraic_OptInKIdeal_OptInRIdeal := by
  intro m g m' g' hp hag
  refine ⟨fun c => resG m hp c, fun c => resD m hp c, fun c => resM m hp c, fun c => resV m hp c, ?_, ?_⟩
  · exact (θ_run _ _ _).mono (fun r h c => ⟨((h.2 c).1 6).trans (final6 m (okKIdeal m hp) hp c), ((h.2 c).1 7).trans (final7 m (okKIdeal m hp) hp c), ((h.2 c).1 8).trans (final8 m (okKIdeal m hp) hp c), ((h.2 c).1 9).trans (final9 m (okKIdeal m hp) hp c), h.1 c⟩)
      (θ_run_and (Gen.unchanged m g (okKIdeal m hp)) (Gen.run_main m g (okKIdeal m hp)))
  · refine (θ_run _ _ _).mono (fun r h c => ⟨(h c).1.trans ?_, (h c).2.1.trans ?_, (h c).2.2.1.trans ?_, (h c).2.2.2.1.trans ?_, (h c).2.2.2.2⟩) (OptInRIdeal.Value.run (F := Ideal) m' g')
    all_goals obtain ⟨a0, a1, a2, a3, a4, a5, a6⟩ := hag c
    all_goals obtain rfl : c = 0 := Subsingleton.elim _ _
    · rw [OptInRIdeal.Read.val_main_v12_eq, a0, a1, a2, a3]
      exact ref_G _ _ _ _ (numKIdeal m hp)
    · rw [OptInRIdeal.Read.val_main_v36_eq, a0, a1, a2, a3, a4, a5, a6, ref_D, ref_G _ _ _ _ (numKIdeal m hp)]
    · rw [OptInRIdeal.Read.val_main_v17_eq, a0, a1, a2, a3, a5, ref_M, ref_G _ _ _ _ (numKIdeal m hp)]
    · rw [OptInRIdeal.Read.val_main_v23_eq, a0, a1, a2, a3, a6, ref_V, ref_G _ _ _ _ (numKIdeal m hp)]

end Cert.OptIn

end
-- ==== Proof.lean ====
module

public import proofs.«01_k».proof.Defs
public import proofs.«01_k».proof.Proof.Gen.ConvK
public import proofs.«01_k».proof.Proof.ConvSame
public import proofs.«01_k».proof.Proof.Gen.GateK.Frame
public import proofs.«01_k».proof.Proof.Gen.FfnK.Frame
public import proofs.«01_k».proof.Proof.ConvClaim
public import proofs.«01_k».proof.Proof.Gate
public import proofs.«01_k».proof.Proof.Ffn
public import proofs.«01_k».proof.Proof.Gen.InDwK.Frame
public import proofs.«01_k».proof.Proof.InDw
public import proofs.«01_k».proof.Proof.Gen.FinDwK.Frame
public import proofs.«01_k».proof.Proof.FinDw
public import proofs.«01_k».proof.Proof.Gen.FinDxK.Frame
public import proofs.«01_k».proof.Proof.FinDx
public import proofs.«01_k».proof.Proof.Gen.FoutDwK.Frame
public import proofs.«01_k».proof.Proof.FoutDw
public import proofs.«01_k».proof.Proof.Gen.MixDwK.Frame
public import proofs.«01_k».proof.Proof.MixDw
public import proofs.«01_k».proof.Proof.Gen.AttnDwK.Frame
public import proofs.«01_k».proof.Proof.AttnDw
public import proofs.«01_k».proof.Proof.Gen.AttnDwKIdeal.Frame
public import proofs.«01_k».proof.Proof.Gen.AttnDwRIdeal.Run
public import proofs.«01_k».proof.Proof.Gen.ConvDwK.Frame
public import proofs.«01_k».proof.Proof.ConvDw
public import proofs.«01_k».proof.Proof.Gen.ConvDwKIdeal.Frame
public import proofs.«01_k».proof.Proof.Gen.ConvDwRIdeal.Run
public import proofs.«01_k».proof.Proof.Gen.AttnDxK.Frame
public import proofs.«01_k».proof.Proof.AttnDx
public import proofs.«01_k».proof.Proof.Gen.ConvDxK.Frame
public import proofs.«01_k».proof.Proof.ConvDx
public import proofs.«01_k».proof.Proof.Gen.FinK.Frame
public import proofs.«01_k».proof.Proof.Fin
public import proofs.«01_k».proof.Proof.Gen.FoutK.Frame
public import proofs.«01_k».proof.Proof.Fout
public import proofs.«01_k».proof.Proof.Gen.ConvOutK.Frame
public import proofs.«01_k».proof.Proof.ConvOut
public import proofs.«01_k».proof.Proof.Gen.MixOutK.Frame
public import proofs.«01_k».proof.Proof.MixOut
public import proofs.«01_k».proof.Proof.Gen.MixOutKIdeal.Frame
public import proofs.«01_k».proof.Proof.Gen.MixOutRIdeal.Run
public import proofs.«01_k».proof.Proof.Gen.AGateK.Frame
public import proofs.«01_k».proof.Proof.AGate
public import proofs.«01_k».proof.Proof.Gen.PreDxK.Frame
public import proofs.«01_k».proof.Proof.PreDx
public import proofs.«01_k».proof.Proof.Gen.CNormDxK.Frame
public import proofs.«01_k».proof.Proof.CNormDx
public import proofs.«01_k».proof.Proof.Gen.PostDxK.Frame
public import proofs.«01_k».proof.Proof.PostDx
public import proofs.«01_k».proof.Proof.Gen.PreK.Frame
public import proofs.«01_k».proof.Proof.Pre
public import proofs.«01_k».proof.Proof.Gen.CNormK.Frame
public import proofs.«01_k».proof.Proof.CNorm
public import proofs.«01_k».proof.Proof.Gen.PostK.Frame
public import proofs.«01_k».proof.Proof.Post
public import proofs.«01_k».proof.Proof.Gen.OptSqK.Frame
public import proofs.«01_k».proof.Proof.OptSq
public import proofs.«01_k».proof.Proof.Gen.OptFoutK.Frame
public import proofs.«01_k».proof.Proof.OptFout
public import proofs.«01_k».proof.Proof.Gen.OptFinK.Frame
public import proofs.«01_k».proof.Proof.OptFin
public import proofs.«01_k».proof.Proof.Gen.OptInK.Frame
public import proofs.«01_k».proof.Proof.OptIn
public import Idealize.ShloMosaic.Lib.Quiescent

@[expose] public section

noncomputable section

namespace Cert.Proof

open Idealize.ShloMosaic Idealize.SL.Sem

/-- The gradient of the gated convolution, as the program computes it, keeps its arguments. -/
theorem frame_conv : quiescent_ConvK (hConvK := ConvK.Gen.facts) := Conv.frame_same

/-- Its reference keeps its arguments. -/
theorem frame_optsq_ref : quiescent_OptSqRIdeal (hOptSqRIdeal := OptSqRIdeal.Gen.facts) := fun m ρ _ =>
  (θ_run _ _ _).mono (fun r h => ⟨fun c => (h c).2.2.2.2, sem_eq_zero_of_no_sems (by decide) r.2⟩) (OptSqRIdeal.Value.run m ρ)

/-- Its reference keeps its arguments. -/
theorem frame_optfout_ref : quiescent_OptFoutRIdeal (hOptFoutRIdeal := OptFoutRIdeal.Gen.facts) := fun m ρ _ =>
  (θ_run _ _ _).mono (fun r h => ⟨fun c => (h c).2.2.2.2, sem_eq_zero_of_no_sems (by decide) r.2⟩) (OptFoutRIdeal.Value.run m ρ)

/-- Its reference keeps its arguments. -/
theorem frame_optfin_ref : quiescent_OptFinRIdeal (hOptFinRIdeal := OptFinRIdeal.Gen.facts) := fun m ρ _ =>
  (θ_run _ _ _).mono (fun r h => ⟨fun c => (h c).2.2.2.2, sem_eq_zero_of_no_sems (by decide) r.2⟩) (OptFinRIdeal.Value.run m ρ)

/-- Its reference keeps its arguments. -/
theorem frame_optin_ref : quiescent_OptInRIdeal (hOptInRIdeal := OptInRIdeal.Gen.facts) := fun m ρ _ =>
  (θ_run _ _ _).mono (fun r h => ⟨fun c => (h c).2.2.2.2, sem_eq_zero_of_no_sems (by decide) r.2⟩) (OptInRIdeal.Value.run m ρ)

/-- All the claims: of every program the facts, the three frames (the kernel's over the bits and over the
    extended reals, and the reference's), the idealization, and the equality of the results. -/
theorem claim : Cert.Claim :=
  ⟨ConvK.Gen.facts, ConvKIdeal.Gen.facts, ConvRIdeal.Gen.facts,
    GateK.Gen.facts, GateKIdeal.Gen.facts, GateRIdeal.Gen.facts,
    FfnK.Gen.facts, FfnKIdeal.Gen.facts, FfnRIdeal.Gen.facts,
    InDwK.Gen.facts, InDwKIdeal.Gen.facts, InDwRIdeal.Gen.facts,
    FinDwK.Gen.facts, FinDwKIdeal.Gen.facts, FinDwRIdeal.Gen.facts,
    FinDxK.Gen.facts, FinDxKIdeal.Gen.facts, FinDxRIdeal.Gen.facts,
    FoutDwK.Gen.facts, FoutDwKIdeal.Gen.facts, FoutDwRIdeal.Gen.facts,
    MixDwK.Gen.facts, MixDwKIdeal.Gen.facts, MixDwRIdeal.Gen.facts,
    AttnDwK.Gen.facts, AttnDwKIdeal.Gen.facts, AttnDwRIdeal.Gen.facts,
    ConvDwK.Gen.facts, ConvDwKIdeal.Gen.facts, ConvDwRIdeal.Gen.facts,
    AttnDxK.Gen.facts, AttnDxKIdeal.Gen.facts, AttnDxRIdeal.Gen.facts,
    ConvDxK.Gen.facts, ConvDxKIdeal.Gen.facts, ConvDxRIdeal.Gen.facts,
    FinK.Gen.facts, FinKIdeal.Gen.facts, FinRIdeal.Gen.facts,
    FoutK.Gen.facts, FoutKIdeal.Gen.facts, FoutRIdeal.Gen.facts,
    ConvOutK.Gen.facts, ConvOutKIdeal.Gen.facts, ConvOutRIdeal.Gen.facts,
    MixOutK.Gen.facts, MixOutKIdeal.Gen.facts, MixOutRIdeal.Gen.facts,
    AGateK.Gen.facts, AGateKIdeal.Gen.facts, AGateRIdeal.Gen.facts,
    PreDxK.Gen.facts, PreDxKIdeal.Gen.facts, PreDxRIdeal.Gen.facts,
    CNormDxK.Gen.facts, CNormDxKIdeal.Gen.facts, CNormDxRIdeal.Gen.facts,
    PostDxK.Gen.facts, PostDxKIdeal.Gen.facts, PostDxRIdeal.Gen.facts,
    PreK.Gen.facts, PreKIdeal.Gen.facts, PreRIdeal.Gen.facts,
    CNormK.Gen.facts, CNormKIdeal.Gen.facts, CNormRIdeal.Gen.facts,
    PostK.Gen.facts, PostKIdeal.Gen.facts, PostRIdeal.Gen.facts,
    OptSqK.Gen.facts, OptSqKIdeal.Gen.facts, OptSqRIdeal.Gen.facts,
    OptFoutK.Gen.facts, OptFoutKIdeal.Gen.facts, OptFoutRIdeal.Gen.facts,
    OptFinK.Gen.facts, OptFinKIdeal.Gen.facts, OptFinRIdeal.Gen.facts,
    OptInK.Gen.facts, OptInKIdeal.Gen.facts, OptInRIdeal.Gen.facts,
    Pre_pre30.Gen.facts,
    Pre_pre31.Gen.facts,
    Pre_pre32.Gen.facts,
    Pre_pre33.Gen.facts,
    frame_conv,
    fun m ρ _ => Conv.frame_all m ρ,
    fun m ρ _ => (θ_run _ _ _).mono (fun r h => ⟨fun c => (h c).2.2.2.2, sem_eq_zero_of_no_sems (by decide) r.2⟩) (ConvRIdeal.Value.run m ρ),
    fun m ρ _ => GateK.Gen.frame m ρ,
    fun m ρ _ => GateKIdeal.Gen.frame m ρ,
    fun m ρ _ => (θ_run _ _ _).mono (fun r h => ⟨fun c => (h c).2.2.2.2.2.2, sem_eq_zero_of_no_sems (by decide) r.2⟩) (GateRIdeal.Value.run m ρ),
    fun m ρ _ => FfnK.Gen.frame m ρ,
    fun m ρ _ => FfnKIdeal.Gen.frame m ρ,
    fun m ρ _ => (θ_run _ _ _).mono (fun r h => ⟨fun c => (h c).2, sem_eq_zero_of_no_sems (by decide) r.2⟩) (FfnRIdeal.Value.run m ρ),
    fun m ρ _ => InDwK.Gen.frame m ρ,
    fun m ρ _ => InDwKIdeal.Gen.frame m ρ,
    fun m ρ _ => (θ_run _ _ _).mono (fun r h => ⟨fun c => (h c).2.2, sem_eq_zero_of_no_sems (by decide) r.2⟩) (InDwRIdeal.Value.run m ρ),
    fun m ρ _ => FinDwK.Gen.frame m ρ,
    fun m ρ _ => FinDwKIdeal.Gen.frame m ρ,
    fun m ρ _ => (θ_run _ _ _).mono (fun r h => ⟨fun c => (h c).2.2, sem_eq_zero_of_no_sems (by decide) r.2⟩) (FinDwRIdeal.Value.run m ρ),
    fun m ρ _ => FinDxK.Gen.frame m ρ,
    fun m ρ _ => FinDxKIdeal.Gen.frame m ρ,
    fun m ρ _ => (θ_run _ _ _).mono (fun r h => ⟨fun c => (h c).2, sem_eq_zero_of_no_sems (by decide) r.2⟩) (FinDxRIdeal.Value.run m ρ),
    fun m ρ _ => FoutDwK.Gen.frame m ρ,
    fun m ρ _ => FoutDwKIdeal.Gen.frame m ρ,
    fun m ρ _ => (θ_run _ _ _).mono (fun r h => ⟨fun c => (h c).2.2, sem_eq_zero_of_no_sems (by decide) r.2⟩) (FoutDwRIdeal.Value.run m ρ),
    fun m ρ _ => MixDwK.Gen.frame m ρ,
    fun m ρ _ => MixDwKIdeal.Gen.frame m ρ,
    fun m ρ _ => (θ_run _ _ _).mono (fun r h => ⟨fun c => (h c).2.2, sem_eq_zero_of_no_sems (by decide) r.2⟩) (MixDwRIdeal.Value.run m ρ),
    fun m ρ _ => AttnDwK.Gen.frame m ρ,
    fun m ρ _ => AttnDwKIdeal.Gen.frame m ρ,
    fun m ρ _ => (θ_run _ _ _).mono (fun r h => ⟨fun c => (h c).2.2, sem_eq_zero_of_no_sems (by decide) r.2⟩) (AttnDwRIdeal.Value.run m ρ),
    fun m ρ _ => ConvDwK.Gen.frame m ρ,
    fun m ρ _ => ConvDwKIdeal.Gen.frame m ρ,
    fun m ρ _ => (θ_run _ _ _).mono (fun r h => ⟨fun c => (h c).2.2, sem_eq_zero_of_no_sems (by decide) r.2⟩) (ConvDwRIdeal.Value.run m ρ),
    fun m ρ _ => AttnDxK.Gen.frame m ρ,
    fun m ρ _ => AttnDxKIdeal.Gen.frame m ρ,
    fun m ρ _ => (θ_run _ _ _).mono (fun r h => ⟨fun c => (h c).2, sem_eq_zero_of_no_sems (by decide) r.2⟩) (AttnDxRIdeal.Value.run m ρ),
    fun m ρ _ => ConvDxK.Gen.frame m ρ,
    fun m ρ _ => ConvDxKIdeal.Gen.frame m ρ,
    fun m ρ _ => (θ_run _ _ _).mono (fun r h => ⟨fun c => (h c).2, sem_eq_zero_of_no_sems (by decide) r.2⟩) (ConvDxRIdeal.Value.run m ρ),
    fun m ρ _ => FinK.Gen.frame m ρ,
    fun m ρ _ => FinKIdeal.Gen.frame m ρ,
    fun m ρ _ => (θ_run _ _ _).mono (fun r h => ⟨fun c => (h c).2.2.2, sem_eq_zero_of_no_sems (by decide) r.2⟩) (FinRIdeal.Value.run m ρ),
    fun m ρ _ => FoutK.Gen.frame m ρ,
    fun m ρ _ => FoutKIdeal.Gen.frame m ρ,
    fun m ρ _ => (θ_run _ _ _).mono (fun r h => ⟨fun c => (h c).2, sem_eq_zero_of_no_sems (by decide) r.2⟩) (FoutRIdeal.Value.run m ρ),
    fun m ρ _ => ConvOutK.Gen.frame m ρ,
    fun m ρ _ => ConvOutKIdeal.Gen.frame m ρ,
    fun m ρ _ => (θ_run _ _ _).mono (fun r h => ⟨fun c => (h c).2, sem_eq_zero_of_no_sems (by decide) r.2⟩) (ConvOutRIdeal.Value.run m ρ),
    fun m ρ _ => MixOutK.Gen.frame m ρ,
    fun m ρ _ => MixOutKIdeal.Gen.frame m ρ,
    fun m ρ _ => (θ_run _ _ _).mono (fun r h => ⟨fun c => (h c).2, sem_eq_zero_of_no_sems (by decide) r.2⟩) (MixOutRIdeal.Value.run m ρ),
    fun m ρ _ => AGateK.Gen.frame m ρ,
    fun m ρ _ => AGateKIdeal.Gen.frame m ρ,
    fun m ρ _ => (θ_run _ _ _).mono (fun r h => ⟨fun c => (h c).2.2, sem_eq_zero_of_no_sems (by decide) r.2⟩) (AGateRIdeal.Value.run m ρ),
    fun m ρ _ => PreDxK.Gen.frame m ρ,
    fun m ρ _ => PreDxKIdeal.Gen.frame m ρ,
    fun m ρ _ => (θ_run _ _ _).mono (fun r h => ⟨fun c => (h c).2.2, sem_eq_zero_of_no_sems (by decide) r.2⟩) (PreDxRIdeal.Value.run m ρ),
    fun m ρ _ => CNormDxK.Gen.frame m ρ,
    fun m ρ _ => CNormDxKIdeal.Gen.frame m ρ,
    fun m ρ _ => (θ_run _ _ _).mono (fun r h => ⟨fun c => (h c).2.2.2, sem_eq_zero_of_no_sems (by decide) r.2⟩) (CNormDxRIdeal.Value.run m ρ),
    fun m ρ _ => PostDxK.Gen.frame m ρ,
    fun m ρ _ => PostDxKIdeal.Gen.frame m ρ,
    fun m ρ _ => (θ_run _ _ _).mono (fun r h => ⟨fun c => (h c).2.2.2.2, sem_eq_zero_of_no_sems (by decide) r.2⟩) (PostDxRIdeal.Value.run m ρ),
    fun m ρ _ => PreK.Gen.frame m ρ,
    fun m ρ _ => PreKIdeal.Gen.frame m ρ,
    fun m ρ _ => (θ_run _ _ _).mono (fun r h => ⟨fun c => (h c).2, sem_eq_zero_of_no_sems (by decide) r.2⟩) (PreRIdeal.Value.run m ρ),
    fun m ρ _ => CNormK.Gen.frame m ρ,
    fun m ρ _ => CNormKIdeal.Gen.frame m ρ,
    fun m ρ _ => (θ_run _ _ _).mono (fun r h => ⟨fun c => (h c).2, sem_eq_zero_of_no_sems (by decide) r.2⟩) (CNormRIdeal.Value.run m ρ),
    fun m ρ _ => PostK.Gen.frame m ρ,
    fun m ρ _ => PostKIdeal.Gen.frame m ρ,
    fun m ρ _ => (θ_run _ _ _).mono (fun r h => ⟨fun c => (h c).2.2, sem_eq_zero_of_no_sems (by decide) r.2⟩) (PostRIdeal.Value.run m ρ),
    fun m ρ h => OptSqK.Gen.frame m ρ (OptSq.okK m h),
    fun m ρ h => OptSqKIdeal.Gen.frame m ρ (OptSq.okKIdeal m h), frame_optsq_ref, fun m ρ _ => frame_optsq_ref m ρ trivial,
    fun m ρ h => OptFoutK.Gen.frame m ρ (OptFout.okK m h),
    fun m ρ h => OptFoutKIdeal.Gen.frame m ρ (OptFout.okKIdeal m h), frame_optfout_ref, fun m ρ _ => frame_optfout_ref m ρ trivial,
    fun m ρ h => OptFinK.Gen.frame m ρ (OptFin.okK m h),
    fun m ρ h => OptFinKIdeal.Gen.frame m ρ (OptFin.okKIdeal m h), frame_optfin_ref, fun m ρ _ => frame_optfin_ref m ρ trivial,
    fun m ρ h => OptInK.Gen.frame m ρ (OptIn.okK m h),
    fun m ρ h => OptInKIdeal.Gen.frame m ρ (OptIn.okKIdeal m h), frame_optin_ref, fun m ρ _ => frame_optin_ref m ρ trivial,
    trivial, Conv.algebraic,
    trivial, Gate.algebraic,
    trivial, Ffn.algebraic,
    trivial, InDw.algebraic,
    trivial, FinDw.algebraic,
    trivial, FinDx.algebraic,
    trivial, FoutDw.algebraic,
    trivial, MixDw.algebraic,
    trivial, AttnDw.algebraic,
    trivial, ConvDw.algebraic,
    trivial, AttnDx.algebraic,
    trivial, ConvDx.algebraic,
    trivial, Fin.algebraic,
    trivial, Fout.algebraic,
    trivial, ConvOut.algebraic,
    trivial, MixOut.algebraic,
    trivial, AGate.algebraic,
    trivial, PreDx.algebraic,
    trivial, CNormDx.algebraic,
    trivial, PostDx.algebraic,
    trivial, Pre.algebraic,
    trivial, CNorm.algebraic,
    trivial, Post.algebraic,
    trivial, OptSq.algebraic,
    trivial, OptFout.algebraic,
    trivial, OptFin.algebraic,
    trivial, OptIn.algebraic⟩

end Cert.Proof

end
